-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDxn (m : (ℓ : Loc Cert.KernelDxn.nD Cert.KernelDxn.τ Cert.KernelDxn.sig) → Buf (Elt Bits) ℓ) : Prop :=
  True

def Pre_KernelDxnIdeal (m : (ℓ : Loc Cert.KernelDxnIdeal.nD Cert.KernelDxnIdeal.τ Cert.KernelDxnIdeal.sig) → Buf (Elt Ideal) ℓ) : Prop :=
  True

def Pre_ReferenceDxnIdeal (m : (ℓ : Loc Cert.ReferenceDxnIdeal.nD Cert.ReferenceDxnIdeal.τ Cert.ReferenceDxnIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQkvDx (m : (ℓ : Loc Cert.KernelQkvDx.nD Cert.KernelQkvDx.τ Cert.KernelQkvDx.sig) → Buf (Elt Bits) ℓ) : Prop :=
  True

def Pre_KernelQkvDxIdeal (m : (ℓ : Loc Cert.KernelQkvDxIdeal.nD Cert.KernelQkvDxIdeal.τ Cert.KernelQkvDxIdeal.sig) → Buf (Elt Ideal) ℓ) : Prop :=
  True

def Pre_ReferenceQkvDxIdeal (m : (ℓ : Loc Cert.ReferenceQkvDxIdeal.nD Cert.ReferenceQkvDxIdeal.τ Cert.ReferenceQkvDxIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelQkvDw (m : (ℓ : Loc Cert.KernelQkvDw.nD Cert.KernelQkvDw.τ Cert.KernelQkvDw.sig) → Buf (Elt Bits) ℓ) : Prop :=
  True

def Pre_KernelQkvDwIdeal (m : (ℓ : Loc Cert.KernelQkvDwIdeal.nD Cert.KernelQkvDwIdeal.τ Cert.KernelQkvDwIdeal.sig) → Buf (Elt Ideal) ℓ) : Prop :=
  True

def Pre_ReferenceQkvDwIdeal (m : (ℓ : Loc Cert.ReferenceQkvDwIdeal.nD Cert.ReferenceQkvDwIdeal.τ Cert.ReferenceQkvDwIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelGluDx (m : (ℓ : Loc Cert.KernelGluDx.nD Cert.KernelGluDx.τ Cert.KernelGluDx.sig) → Buf (Elt Bits) ℓ) : Prop :=
  True

def Pre_KernelGluDxIdeal (m : (ℓ : Loc Cert.KernelGluDxIdeal.nD Cert.KernelGluDxIdeal.τ Cert.KernelGluDxIdeal.sig) → Buf (Elt Ideal) ℓ) : Prop :=
  True

def Pre_ReferenceGluDxIdeal (m : (ℓ : Loc Cert.ReferenceGluDxIdeal.nD Cert.ReferenceGluDxIdeal.τ Cert.ReferenceGluDxIdeal.sig) → Buf (Elt Ideal) ℓ) : Prop :=
  True

def Pre_KernelGluDw (m : (ℓ : Loc Cert.KernelGluDw.nD Cert.KernelGluDw.τ Cert.KernelGluDw.sig) → Buf (Elt Bits) ℓ) : Prop :=
  True

def Pre_KernelGluDwIdeal (m : (ℓ : Loc Cert.KernelGluDwIdeal.nD Cert.KernelGluDwIdeal.τ Cert.KernelGluDwIdeal.sig) → Buf (Elt Ideal) ℓ) : Prop :=
  True

def Pre_ReferenceGluDwIdeal (m : (ℓ : Loc Cert.ReferenceGluDwIdeal.nD Cert.ReferenceGluDwIdeal.τ Cert.ReferenceGluDwIdeal.sig) → Buf (Elt Ideal) ℓ) : Prop :=
  True

def Pre_KernelAct0 (m : (ℓ : Loc Cert.KernelAct0.nD Cert.KernelAct0.τ Cert.KernelAct0.sig) → Buf (Elt Bits) ℓ) : Prop :=
  True

def Pre_KernelAct0Ideal (m : (ℓ : Loc Cert.KernelAct0Ideal.nD Cert.KernelAct0Ideal.τ Cert.KernelAct0Ideal.sig) → Buf (Elt Ideal) ℓ) : Prop :=
  True

def Pre_ReferenceAct0Ideal (m : (ℓ : Loc Cert.ReferenceAct0Ideal.nD Cert.ReferenceAct0Ideal.τ Cert.ReferenceAct0Ideal.sig) → Buf (Elt Ideal) ℓ) : Prop :=
  True

def Pre_KernelAct1 (m : (ℓ : Loc Cert.KernelAct1.nD Cert.KernelAct1.τ Cert.KernelAct1.sig) → Buf (Elt Bits) ℓ) : Prop :=
  True

def Pre_KernelAct1Ideal (m : (ℓ : Loc Cert.KernelAct1Ideal.nD Cert.KernelAct1Ideal.τ Cert.KernelAct1Ideal.sig) → Buf (Elt Ideal) ℓ) : Prop :=
  True

def Pre_ReferenceAct1Ideal (m : (ℓ : Loc Cert.ReferenceAct1Ideal.nD Cert.ReferenceAct1Ideal.τ Cert.ReferenceAct1Ideal.sig) → Buf (Elt Ideal) ℓ) : Prop :=
  True

def Pre_KernelAct2 (m : (ℓ : Loc Cert.KernelAct2.nD Cert.KernelAct2.τ Cert.KernelAct2.sig) → Buf (Elt Bits) ℓ) : Prop :=
  True

def Pre_KernelAct2Ideal (m : (ℓ : Loc Cert.KernelAct2Ideal.nD Cert.KernelAct2Ideal.τ Cert.KernelAct2Ideal.sig) → Buf (Elt Ideal) ℓ) : Prop :=
  True

def Pre_ReferenceAct2Ideal (m : (ℓ : Loc Cert.ReferenceAct2Ideal.nD Cert.ReferenceAct2Ideal.τ Cert.ReferenceAct2Ideal.sig) → Buf (Elt Ideal) ℓ) : Prop :=
  True

def Pre_KernelDxn0 (m : (ℓ : Loc Cert.KernelDxn0.nD Cert.KernelDxn0.τ Cert.KernelDxn0.sig) → Buf (Elt Bits) ℓ) : Prop :=
  True

def Pre_KernelDxn0Ideal (m : (ℓ : Loc Cert.KernelDxn0Ideal.nD Cert.KernelDxn0Ideal.τ Cert.KernelDxn0Ideal.sig) → Buf (Elt Ideal) ℓ) : Prop :=
  True

def Pre_ReferenceDxn0Ideal (m : (ℓ : Loc Cert.ReferenceDxn0Ideal.nD Cert.ReferenceDxn0Ideal.τ Cert.ReferenceDxn0Ideal.sig) → Buf (Elt Ideal) ℓ) : Prop :=
  True

def Pre_KernelDxn1 (m : (ℓ : Loc Cert.KernelDxn1.nD Cert.KernelDxn1.τ Cert.KernelDxn1.sig) → Buf (Elt Bits) ℓ) : Prop :=
  True

def Pre_KernelDxn1Ideal (m : (ℓ : Loc Cert.KernelDxn1Ideal.nD Cert.KernelDxn1Ideal.τ Cert.KernelDxn1Ideal.sig) → Buf (Elt Ideal) ℓ) : Prop :=
  True

def Pre_ReferenceDxn1Ideal (m : (ℓ : Loc Cert.ReferenceDxn1Ideal.nD Cert.ReferenceDxn1Ideal.τ Cert.ReferenceDxn1Ideal.sig) → Buf (Elt Ideal) ℓ) : Prop :=
  True

def Pre_KernelDxn2 (m : (ℓ : Loc Cert.KernelDxn2.nD Cert.KernelDxn2.τ Cert.KernelDxn2.sig) → Buf (Elt Bits) ℓ) : Prop :=
  True

def Pre_KernelDxn2Ideal (m : (ℓ : Loc Cert.KernelDxn2Ideal.nD Cert.KernelDxn2Ideal.τ Cert.KernelDxn2Ideal.sig) → Buf (Elt Ideal) ℓ) : Prop :=
  True

def Pre_ReferenceDxn2Ideal (m : (ℓ : Loc Cert.ReferenceDxn2Ideal.nD Cert.ReferenceDxn2Ideal.τ Cert.ReferenceDxn2Ideal.sig) → Buf (Elt Ideal) ℓ) : Prop :=
  True

def Pre_KernelQkv0 (m : (ℓ : Loc Cert.KernelQkv0.nD Cert.KernelQkv0.τ Cert.KernelQkv0.sig) → Buf (Elt Bits) ℓ) : Prop :=
  True

def Pre_KernelQkv0Ideal (m : (ℓ : Loc Cert.KernelQkv0Ideal.nD Cert.KernelQkv0Ideal.τ Cert.KernelQkv0Ideal.sig) → Buf (Elt Ideal) ℓ) : Prop :=
  True

def Pre_ReferenceQkv0Ideal (m : (ℓ : Loc Cert.ReferenceQkv0Ideal.nD Cert.ReferenceQkv0Ideal.τ Cert.ReferenceQkv0Ideal.sig) → Buf (Elt Ideal) ℓ) : Prop :=
  True

def Pre_KernelOut0 (m : (ℓ : Loc Cert.KernelOut0.nD Cert.KernelOut0.τ Cert.KernelOut0.sig) → Buf (Elt Bits) ℓ) : Prop :=
  True

def Pre_KernelOut0Ideal (m : (ℓ : Loc Cert.KernelOut0Ideal.nD Cert.KernelOut0Ideal.τ Cert.KernelOut0Ideal.sig) → Buf (Elt Ideal) ℓ) : Prop :=
  True

def Pre_ReferenceOut0Ideal (m : (ℓ : Loc Cert.ReferenceOut0Ideal.nD Cert.ReferenceOut0Ideal.τ Cert.ReferenceOut0Ideal.sig) → Buf (Elt Ideal) ℓ) : Prop :=
  True

def Pre_KernelQkvDx0 (m : (ℓ : Loc Cert.KernelQkvDx0.nD Cert.KernelQkvDx0.τ Cert.KernelQkvDx0.sig) → Buf (Elt Bits) ℓ) : Prop :=
  True

def Pre_KernelQkvDx0Ideal (m : (ℓ : Loc Cert.KernelQkvDx0Ideal.nD Cert.KernelQkvDx0Ideal.τ Cert.KernelQkvDx0Ideal.sig) → Buf (Elt Ideal) ℓ) : Prop :=
  True

def Pre_ReferenceQkvDx0Ideal (m : (ℓ : Loc Cert.ReferenceQkvDx0Ideal.nD Cert.ReferenceQkvDx0Ideal.τ Cert.ReferenceQkvDx0Ideal.sig) → Buf (Elt Ideal) ℓ) : Prop :=
  True

def Pre_KernelInDx0 (m : (ℓ : Loc Cert.KernelInDx0.nD Cert.KernelInDx0.τ Cert.KernelInDx0.sig) → Buf (Elt Bits) ℓ) : Prop :=
  True

def Pre_KernelInDx0Ideal (m : (ℓ : Loc Cert.KernelInDx0Ideal.nD Cert.KernelInDx0Ideal.τ Cert.KernelInDx0Ideal.sig) → Buf (Elt Ideal) ℓ) : Prop :=
  True

def Pre_ReferenceInDx0Ideal (m : (ℓ : Loc Cert.ReferenceInDx0Ideal.nD Cert.ReferenceInDx0Ideal.τ Cert.ReferenceInDx0Ideal.sig) → Buf (Elt Ideal) ℓ) : Prop :=
  True

def Pre_KernelOutDx0 (m : (ℓ : Loc Cert.KernelOutDx0.nD Cert.KernelOutDx0.τ Cert.KernelOutDx0.sig) → Buf (Elt Bits) ℓ) : Prop :=
  True

def Pre_KernelOutDx0Ideal (m : (ℓ : Loc Cert.KernelOutDx0Ideal.nD Cert.KernelOutDx0Ideal.τ Cert.KernelOutDx0Ideal.sig) → Buf (Elt Ideal) ℓ) : Prop :=
  True

def Pre_ReferenceOutDx0Ideal (m : (ℓ : Loc Cert.ReferenceOutDx0Ideal.nD Cert.ReferenceOutDx0Ideal.τ Cert.ReferenceOutDx0Ideal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamGlu (m : (ℓ : Loc Cert.KernelAdamGlu.nD Cert.KernelAdamGlu.τ Cert.KernelAdamGlu.sig) → Buf (Elt Bits) ℓ) : Prop :=
  True

def Pre_KernelAdamGluIdeal (m : (ℓ : Loc Cert.KernelAdamGluIdeal.nD Cert.KernelAdamGluIdeal.τ Cert.KernelAdamGluIdeal.sig) → Buf (Elt Ideal) ℓ) : Prop :=
  True

def Pre_ReferenceAdamGluIdeal (m : (ℓ : Loc Cert.ReferenceAdamGluIdeal.nD Cert.ReferenceAdamGluIdeal.τ Cert.ReferenceAdamGluIdeal.sig) → Buf (Elt Ideal) ℓ) : Prop :=
  True

def Pre_KernelAdamQkv (m : (ℓ : Loc Cert.KernelAdamQkv.nD Cert.KernelAdamQkv.τ Cert.KernelAdamQkv.sig) → Buf (Elt Bits) ℓ) : Prop :=
  True

def Pre_KernelAdamQkvIdeal (m : (ℓ : Loc Cert.KernelAdamQkvIdeal.nD Cert.KernelAdamQkvIdeal.τ Cert.KernelAdamQkvIdeal.sig) → Buf (Elt Ideal) ℓ) : Prop :=
  True

def Pre_ReferenceAdamQkvIdeal (m : (ℓ : Loc Cert.ReferenceAdamQkvIdeal.nD Cert.ReferenceAdamQkvIdeal.τ Cert.ReferenceAdamQkvIdeal.sig) → Buf (Elt Ideal) ℓ) : Prop :=
  True

def Pre_KernelAdamMlp (m : (ℓ : Loc Cert.KernelAdamMlp.nD Cert.KernelAdamMlp.τ Cert.KernelAdamMlp.sig) → Buf (Elt Bits) ℓ) : Prop :=
  True

def Pre_KernelAdamMlpIdeal (m : (ℓ : Loc Cert.KernelAdamMlpIdeal.nD Cert.KernelAdamMlpIdeal.τ Cert.KernelAdamMlpIdeal.sig) → Buf (Elt Ideal) ℓ) : Prop :=
  True

def Pre_ReferenceAdamMlpIdeal (m : (ℓ : Loc Cert.ReferenceAdamMlpIdeal.nD Cert.ReferenceAdamMlpIdeal.τ Cert.ReferenceAdamMlpIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1)
      ∧ r.2.mem ((c.tc : Thread Cert.KernelDw2.nD Cert.KernelDw2.τ).loc Cert.KernelDw2.main_arg2) = m ((c.tc : Thread Cert.KernelDw2.nD Cert.KernelDw2.τ).loc Cert.KernelDw2.main_arg2))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1)
      ∧ r.2.mem ((c.tc : Thread Cert.KernelDw2Ideal.nD Cert.KernelDw2Ideal.τ).loc Cert.KernelDw2Ideal.main_arg2) = m ((c.tc : Thread Cert.KernelDw2Ideal.nD Cert.KernelDw2Ideal.τ).loc Cert.KernelDw2Ideal.main_arg2))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1)
      ∧ r.2.mem ((c.tc : Thread Cert.ReferenceDw2Ideal.nD Cert.ReferenceDw2Ideal.τ).loc Cert.ReferenceDw2Ideal.main_arg2) = m ((c.tc : Thread Cert.ReferenceDw2Ideal.nD Cert.ReferenceDw2Ideal.τ).loc Cert.ReferenceDw2Ideal.main_arg2))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1))
      ∧ r.2.sem = fun _ => 0)

def quiescent_KernelDxn [hKernelDxn : Cert.KernelDxn.Facts] : Prop :=
  ∀ (m : (ℓ : Loc Cert.KernelDxn.nD Cert.KernelDxn.τ Cert.KernelDxn.sig) → Buf (Elt Bits) ℓ) (g : Dev Cert.KernelDxn.nD → PrngReg), Pre_KernelDxn m →
    θ_run (Cert.KernelDxn.defs (F := Bits)) (onTc (τ := Cert.KernelDxn.τ) (Cert.KernelDxn.main (F := Bits))) ⟨m, fun _ => 0, g⟩ (fun r => (∀ c : Dev Cert.KernelDxn.nD,
      r.2.mem ((c.tc : Thread Cert.KernelDxn.nD Cert.KernelDxn.τ).loc Cert.KernelDxn.main_arg0) = m ((c.tc : Thread Cert.KernelDxn.nD Cert.KernelDxn.τ).loc Cert.KernelDxn.main_arg0)
      ∧ r.2.mem ((c.tc : Thread Cert.KernelDxn.nD Cert.KernelDxn.τ).loc Cert.KernelDxn.main_arg1) = m ((c.tc : Thread Cert.KernelDxn.nD Cert.KernelDxn.τ).loc Cert.KernelDxn.main_arg1))
      ∧ r.2.sem = fun _ => 0)

def quiescent_KernelDxnIdeal [hKernelDxnIdeal : Cert.KernelDxnIdeal.Facts] : Prop :=
  ∀ (m : (ℓ : Loc Cert.KernelDxnIdeal.nD Cert.KernelDxnIdeal.τ Cert.KernelDxnIdeal.sig) → Buf (Elt Ideal) ℓ) (g : Dev Cert.KernelDxnIdeal.nD → PrngReg), Pre_KernelDxnIdeal m →
    θ_run (Cert.KernelDxnIdeal.defs (F := Ideal)) (onTc (τ := Cert.KernelDxnIdeal.τ) (Cert.KernelDxnIdeal.main (F := Ideal))) ⟨m, fun _ => 0, g⟩ (fun r => (∀ c : Dev Cert.KernelDxnIdeal.nD,
      r.2.mem ((c.tc : Thread Cert.KernelDxnIdeal.nD Cert.KernelDxnIdeal.τ).loc Cert.KernelDxnIdeal.main_arg0) = m ((c.tc : Thread Cert.KernelDxnIdeal.nD Cert.KernelDxnIdeal.τ).loc Cert.KernelDxnIdeal.main_arg0)
      ∧ r.2.mem ((c.tc : Thread Cert.KernelDxnIdeal.nD Cert.KernelDxnIdeal.τ).loc Cert.KernelDxnIdeal.main_arg1) = m ((c.tc : Thread Cert.KernelDxnIdeal.nD Cert.KernelDxnIdeal.τ).loc Cert.KernelDxnIdeal.main_arg1))
      ∧ r.2.sem = fun _ => 0)

def quiescent_ReferenceDxnIdeal [hReferenceDxnIdeal : Cert.ReferenceDxnIdeal.Facts] : Prop :=
  ∀ (m : (ℓ : Loc Cert.ReferenceDxnIdeal.nD Cert.ReferenceDxnIdeal.τ Cert.ReferenceDxnIdeal.sig) → Buf (Elt Ideal) ℓ) (g : Dev Cert.ReferenceDxnIdeal.nD → PrngReg), Pre_ReferenceDxnIdeal m →
    θ_run (Cert.ReferenceDxnIdeal.defs (F := Ideal)) (onTc (τ := Cert.ReferenceDxnIdeal.τ) (Cert.ReferenceDxnIdeal.main (F := Ideal))) ⟨m, fun _ => 0, g⟩ (fun r => (∀ c : Dev Cert.ReferenceDxnIdeal.nD,
      r.2.mem ((c.tc : Thread Cert.ReferenceDxnIdeal.nD Cert.ReferenceDxnIdeal.τ).loc Cert.ReferenceDxnIdeal.main_arg0) = m ((c.tc : Thread Cert.ReferenceDxnIdeal.nD Cert.ReferenceDxnIdeal.τ).loc Cert.ReferenceDxnIdeal.main_arg0)
      ∧ r.2.mem ((c.tc : Thread Cert.ReferenceDxnIdeal.nD Cert.ReferenceDxnIdeal.τ).loc Cert.ReferenceDxnIdeal.main_arg1) = m ((c.tc : Thread Cert.ReferenceDxnIdeal.nD Cert.ReferenceDxnIdeal.τ).loc Cert.ReferenceDxnIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelQkvDx [hKernelQkvDx : Cert.KernelQkvDx.Facts] : Prop :=
  ∀ (m : (ℓ : Loc Cert.KernelQkvDx.nD Cert.KernelQkvDx.τ Cert.KernelQkvDx.sig) → Buf (Elt Bits) ℓ) (g : Dev Cert.KernelQkvDx.nD → PrngReg), Pre_KernelQkvDx m →
    θ_run (Cert.KernelQkvDx.defs (F := Bits)) (onTc (τ := Cert.KernelQkvDx.τ) (Cert.KernelQkvDx.main (F := Bits))) ⟨m, fun _ => 0, g⟩ (fun r => (∀ c : Dev Cert.KernelQkvDx.nD,
      r.2.mem ((c.tc : Thread Cert.KernelQkvDx.nD Cert.KernelQkvDx.τ).loc Cert.KernelQkvDx.main_arg0) = m ((c.tc : Thread Cert.KernelQkvDx.nD Cert.KernelQkvDx.τ).loc Cert.KernelQkvDx.main_arg0)
      ∧ r.2.mem ((c.tc : Thread Cert.KernelQkvDx.nD Cert.KernelQkvDx.τ).loc Cert.KernelQkvDx.main_arg1) = m ((c.tc : Thread Cert.KernelQkvDx.nD Cert.KernelQkvDx.τ).loc Cert.KernelQkvDx.main_arg1))
      ∧ r.2.sem = fun _ => 0)

def quiescent_KernelQkvDxIdeal [hKernelQkvDxIdeal : Cert.KernelQkvDxIdeal.Facts] : Prop :=
  ∀ (m : (ℓ : Loc Cert.KernelQkvDxIdeal.nD Cert.KernelQkvDxIdeal.τ Cert.KernelQkvDxIdeal.sig) → Buf (Elt Ideal) ℓ) (g : Dev Cert.KernelQkvDxIdeal.nD → PrngReg), Pre_KernelQkvDxIdeal m →
    θ_run (Cert.KernelQkvDxIdeal.defs (F := Ideal)) (onTc (τ := Cert.KernelQkvDxIdeal.τ) (Cert.KernelQkvDxIdeal.main (F := Ideal))) ⟨m, fun _ => 0, g⟩ (fun r => (∀ c : Dev Cert.KernelQkvDxIdeal.nD,
      r.2.mem ((c.tc : Thread Cert.KernelQkvDxIdeal.nD Cert.KernelQkvDxIdeal.τ).loc Cert.KernelQkvDxIdeal.main_arg0) = m ((c.tc : Thread Cert.KernelQkvDxIdeal.nD Cert.KernelQkvDxIdeal.τ).loc Cert.KernelQkvDxIdeal.main_arg0)
      ∧ r.2.mem ((c.tc : Thread Cert.KernelQkvDxIdeal.nD Cert.KernelQkvDxIdeal.τ).loc Cert.KernelQkvDxIdeal.main_arg1) = m ((c.tc : Thread Cert.KernelQkvDxIdeal.nD Cert.KernelQkvDxIdeal.τ).loc Cert.KernelQkvDxIdeal.main_arg1))
      ∧ r.2.sem = fun _ => 0)

def quiescent_ReferenceQkvDxIdeal [hReferenceQkvDxIdeal : Cert.ReferenceQkvDxIdeal.Facts] : Prop :=
  ∀ (m : (ℓ : Loc Cert.ReferenceQkvDxIdeal.nD Cert.ReferenceQkvDxIdeal.τ Cert.ReferenceQkvDxIdeal.sig) → Buf (Elt Ideal) ℓ) (g : Dev Cert.ReferenceQkvDxIdeal.nD → PrngReg), Pre_ReferenceQkvDxIdeal m →
    θ_run (Cert.ReferenceQkvDxIdeal.defs (F := Ideal)) (onTc (τ := Cert.ReferenceQkvDxIdeal.τ) (Cert.ReferenceQkvDxIdeal.main (F := Ideal))) ⟨m, fun _ => 0, g⟩ (fun r => (∀ c : Dev Cert.ReferenceQkvDxIdeal.nD,
      r.2.mem ((c.tc : Thread Cert.ReferenceQkvDxIdeal.nD Cert.ReferenceQkvDxIdeal.τ).loc Cert.ReferenceQkvDxIdeal.main_arg0) = m ((c.tc : Thread Cert.ReferenceQkvDxIdeal.nD Cert.ReferenceQkvDxIdeal.τ).loc Cert.ReferenceQkvDxIdeal.main_arg0)
      ∧ r.2.mem ((c.tc : Thread Cert.ReferenceQkvDxIdeal.nD Cert.ReferenceQkvDxIdeal.τ).loc Cert.ReferenceQkvDxIdeal.main_arg1) = m ((c.tc : Thread Cert.ReferenceQkvDxIdeal.nD Cert.ReferenceQkvDxIdeal.τ).loc Cert.ReferenceQkvDxIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelQkvDw [hKernelQkvDw : Cert.KernelQkvDw.Facts] : Prop :=
  ∀ (m : (ℓ : Loc Cert.KernelQkvDw.nD Cert.KernelQkvDw.τ Cert.KernelQkvDw.sig) → Buf (Elt Bits) ℓ) (g : Dev Cert.KernelQkvDw.nD → PrngReg), Pre_KernelQkvDw m →
    θ_run (Cert.KernelQkvDw.defs (F := Bits)) (onTc (τ := Cert.KernelQkvDw.τ) (Cert.KernelQkvDw.main (F := Bits))) ⟨m, fun _ => 0, g⟩ (fun r => (∀ c : Dev Cert.KernelQkvDw.nD,
      r.2.mem ((c.tc : Thread Cert.KernelQkvDw.nD Cert.KernelQkvDw.τ).loc Cert.KernelQkvDw.main_arg0) = m ((c.tc : Thread Cert.KernelQkvDw.nD Cert.KernelQkvDw.τ).loc Cert.KernelQkvDw.main_arg0)
      ∧ r.2.mem ((c.tc : Thread Cert.KernelQkvDw.nD Cert.KernelQkvDw.τ).loc Cert.KernelQkvDw.main_arg1) = m ((c.tc : Thread Cert.KernelQkvDw.nD Cert.KernelQkvDw.τ).loc Cert.KernelQkvDw.main_arg1))
      ∧ r.2.sem = fun _ => 0)

def quiescent_KernelQkvDwIdeal [hKernelQkvDwIdeal : Cert.KernelQkvDwIdeal.Facts] : Prop :=
  ∀ (m : (ℓ : Loc Cert.KernelQkvDwIdeal.nD Cert.KernelQkvDwIdeal.τ Cert.KernelQkvDwIdeal.sig) → Buf (Elt Ideal) ℓ) (g : Dev Cert.KernelQkvDwIdeal.nD → PrngReg), Pre_KernelQkvDwIdeal m →
    θ_run (Cert.KernelQkvDwIdeal.defs (F := Ideal)) (onTc (τ := Cert.KernelQkvDwIdeal.τ) (Cert.KernelQkvDwIdeal.main (F := Ideal))) ⟨m, fun _ => 0, g⟩ (fun r => (∀ c : Dev Cert.KernelQkvDwIdeal.nD,
      r.2.mem ((c.tc : Thread Cert.KernelQkvDwIdeal.nD Cert.KernelQkvDwIdeal.τ).loc Cert.KernelQkvDwIdeal.main_arg0) = m ((c.tc : Thread Cert.KernelQkvDwIdeal.nD Cert.KernelQkvDwIdeal.τ).loc Cert.KernelQkvDwIdeal.main_arg0)
      ∧ r.2.mem ((c.tc : Thread Cert.KernelQkvDwIdeal.nD Cert.KernelQkvDwIdeal.τ).loc Cert.KernelQkvDwIdeal.main_arg1) = m ((c.tc : Thread Cert.KernelQkvDwIdeal.nD Cert.KernelQkvDwIdeal.τ).loc Cert.KernelQkvDwIdeal.main_arg1))
      ∧ r.2.sem = fun _ => 0)

def quiescent_ReferenceQkvDwIdeal [hReferenceQkvDwIdeal : Cert.ReferenceQkvDwIdeal.Facts] : Prop :=
  ∀ (m : (ℓ : Loc Cert.ReferenceQkvDwIdeal.nD Cert.ReferenceQkvDwIdeal.τ Cert.ReferenceQkvDwIdeal.sig) → Buf (Elt Ideal) ℓ) (g : Dev Cert.ReferenceQkvDwIdeal.nD → PrngReg), Pre_ReferenceQkvDwIdeal m →
    θ_run (Cert.ReferenceQkvDwIdeal.defs (F := Ideal)) (onTc (τ := Cert.ReferenceQkvDwIdeal.τ) (Cert.ReferenceQkvDwIdeal.main (F := Ideal))) ⟨m, fun _ => 0, g⟩ (fun r => (∀ c : Dev Cert.ReferenceQkvDwIdeal.nD,
      r.2.mem ((c.tc : Thread Cert.ReferenceQkvDwIdeal.nD Cert.ReferenceQkvDwIdeal.τ).loc Cert.ReferenceQkvDwIdeal.main_arg0) = m ((c.tc : Thread Cert.ReferenceQkvDwIdeal.nD Cert.ReferenceQkvDwIdeal.τ).loc Cert.ReferenceQkvDwIdeal.main_arg0)
      ∧ r.2.mem ((c.tc : Thread Cert.ReferenceQkvDwIdeal.nD Cert.ReferenceQkvDwIdeal.τ).loc Cert.ReferenceQkvDwIdeal.main_arg1) = m ((c.tc : Thread Cert.ReferenceQkvDwIdeal.nD Cert.ReferenceQkvDwIdeal.τ).loc Cert.ReferenceQkvDwIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelGluDx [hKernelGluDx : Cert.KernelGluDx.Facts] : Prop :=
  ∀ (m : (ℓ : Loc Cert.KernelGluDx.nD Cert.KernelGluDx.τ Cert.KernelGluDx.sig) → Buf (Elt Bits) ℓ) (g : Dev Cert.KernelGluDx.nD → PrngReg), Pre_KernelGluDx m →
    θ_run (Cert.KernelGluDx.defs (F := Bits)) (onTc (τ := Cert.KernelGluDx.τ) (Cert.KernelGluDx.main (F := Bits))) ⟨m, fun _ => 0, g⟩ (fun r => (∀ c : Dev Cert.KernelGluDx.nD,
      r.2.mem ((c.tc : Thread Cert.KernelGluDx.nD Cert.KernelGluDx.τ).loc Cert.KernelGluDx.main_arg0) = m ((c.tc : Thread Cert.KernelGluDx.nD Cert.KernelGluDx.τ).loc Cert.KernelGluDx.main_arg0)
      ∧ r.2.mem ((c.tc : Thread Cert.KernelGluDx.nD Cert.KernelGluDx.τ).loc Cert.KernelGluDx.main_arg1) = m ((c.tc : Thread Cert.KernelGluDx.nD Cert.KernelGluDx.τ).loc Cert.KernelGluDx.main_arg1))
      ∧ r.2.sem = fun _ => 0)

def quiescent_KernelGluDxIdeal [hKernelGluDxIdeal : Cert.KernelGluDxIdeal.Facts] : Prop :=
  ∀ (m : (ℓ : Loc Cert.KernelGluDxIdeal.nD Cert.KernelGluDxIdeal.τ Cert.KernelGluDxIdeal.sig) → Buf (Elt Ideal) ℓ) (g : Dev Cert.KernelGluDxIdeal.nD → PrngReg), Pre_KernelGluDxIdeal m →
    θ_run (Cert.KernelGluDxIdeal.defs (F := Ideal)) (onTc (τ := Cert.KernelGluDxIdeal.τ) (Cert.KernelGluDxIdeal.main (F := Ideal))) ⟨m, fun _ => 0, g⟩ (fun r => (∀ c : Dev Cert.KernelGluDxIdeal.nD,
      r.2.mem ((c.tc : Thread Cert.KernelGluDxIdeal.nD Cert.KernelGluDxIdeal.τ).loc Cert.KernelGluDxIdeal.main_arg0) = m ((c.tc : Thread Cert.KernelGluDxIdeal.nD Cert.KernelGluDxIdeal.τ).loc Cert.KernelGluDxIdeal.main_arg0)
      ∧ r.2.mem ((c.tc : Thread Cert.KernelGluDxIdeal.nD Cert.KernelGluDxIdeal.τ).loc Cert.KernelGluDxIdeal.main_arg1) = m ((c.tc : Thread Cert.KernelGluDxIdeal.nD Cert.KernelGluDxIdeal.τ).loc Cert.KernelGluDxIdeal.main_arg1))
      ∧ r.2.sem = fun _ => 0)

def quiescent_ReferenceGluDxIdeal [hReferenceGluDxIdeal : Cert.ReferenceGluDxIdeal.Facts] : Prop :=
  ∀ (m : (ℓ : Loc Cert.ReferenceGluDxIdeal.nD Cert.ReferenceGluDxIdeal.τ Cert.ReferenceGluDxIdeal.sig) → Buf (Elt Ideal) ℓ) (g : Dev Cert.ReferenceGluDxIdeal.nD → PrngReg), Pre_ReferenceGluDxIdeal m →
    θ_run (Cert.ReferenceGluDxIdeal.defs (F := Ideal)) (onTc (τ := Cert.ReferenceGluDxIdeal.τ) (Cert.ReferenceGluDxIdeal.main (F := Ideal))) ⟨m, fun _ => 0, g⟩ (fun r => (∀ c : Dev Cert.ReferenceGluDxIdeal.nD,
      r.2.mem ((c.tc : Thread Cert.ReferenceGluDxIdeal.nD Cert.ReferenceGluDxIdeal.τ).loc Cert.ReferenceGluDxIdeal.main_arg0) = m ((c.tc : Thread Cert.ReferenceGluDxIdeal.nD Cert.ReferenceGluDxIdeal.τ).loc Cert.ReferenceGluDxIdeal.main_arg0)
      ∧ r.2.mem ((c.tc : Thread Cert.ReferenceGluDxIdeal.nD Cert.ReferenceGluDxIdeal.τ).loc Cert.ReferenceGluDxIdeal.main_arg1) = m ((c.tc : Thread Cert.ReferenceGluDxIdeal.nD Cert.ReferenceGluDxIdeal.τ).loc Cert.ReferenceGluDxIdeal.main_arg1))
      ∧ r.2.sem = fun _ => 0)

def quiescent_KernelGluDw [hKernelGluDw : Cert.KernelGluDw.Facts] : Prop :=
  ∀ (m : (ℓ : Loc Cert.KernelGluDw.nD Cert.KernelGluDw.τ Cert.KernelGluDw.sig) → Buf (Elt Bits) ℓ) (g : Dev Cert.KernelGluDw.nD → PrngReg), Pre_KernelGluDw m →
    θ_run (Cert.KernelGluDw.defs (F := Bits)) (onTc (τ := Cert.KernelGluDw.τ) (Cert.KernelGluDw.main (F := Bits))) ⟨m, fun _ => 0, g⟩ (fun r => (∀ c : Dev Cert.KernelGluDw.nD,
      r.2.mem ((c.tc : Thread Cert.KernelGluDw.nD Cert.KernelGluDw.τ).loc Cert.KernelGluDw.main_arg0) = m ((c.tc : Thread Cert.KernelGluDw.nD Cert.KernelGluDw.τ).loc Cert.KernelGluDw.main_arg0)
      ∧ r.2.mem ((c.tc : Thread Cert.KernelGluDw.nD Cert.KernelGluDw.τ).loc Cert.KernelGluDw.main_arg1) = m ((c.tc : Thread Cert.KernelGluDw.nD Cert.KernelGluDw.τ).loc Cert.KernelGluDw.main_arg1))
      ∧ r.2.sem = fun _ => 0)

def quiescent_KernelGluDwIdeal [hKernelGluDwIdeal : Cert.KernelGluDwIdeal.Facts] : Prop :=
  ∀ (m : (ℓ : Loc Cert.KernelGluDwIdeal.nD Cert.KernelGluDwIdeal.τ Cert.KernelGluDwIdeal.sig) → Buf (Elt Ideal) ℓ) (g : Dev Cert.KernelGluDwIdeal.nD → PrngReg), Pre_KernelGluDwIdeal m →
    θ_run (Cert.KernelGluDwIdeal.defs (F := Ideal)) (onTc (τ := Cert.KernelGluDwIdeal.τ) (Cert.KernelGluDwIdeal.main (F := Ideal))) ⟨m, fun _ => 0, g⟩ (fun r => (∀ c : Dev Cert.KernelGluDwIdeal.nD,
      r.2.mem ((c.tc : Thread Cert.KernelGluDwIdeal.nD Cert.KernelGluDwIdeal.τ).loc Cert.KernelGluDwIdeal.main_arg0) = m ((c.tc : Thread Cert.KernelGluDwIdeal.nD Cert.KernelGluDwIdeal.τ).loc Cert.KernelGluDwIdeal.main_arg0)
      ∧ r.2.mem ((c.tc : Thread Cert.KernelGluDwIdeal.nD Cert.KernelGluDwIdeal.τ).loc Cert.KernelGluDwIdeal.main_arg1) = m ((c.tc : Thread Cert.KernelGluDwIdeal.nD Cert.KernelGluDwIdeal.τ).loc Cert.KernelGluDwIdeal.main_arg1))
      ∧ r.2.sem = fun _ => 0)

def quiescent_ReferenceGluDwIdeal [hReferenceGluDwIdeal : Cert.ReferenceGluDwIdeal.Facts] : Prop :=
  ∀ (m : (ℓ : Loc Cert.ReferenceGluDwIdeal.nD Cert.ReferenceGluDwIdeal.τ Cert.ReferenceGluDwIdeal.sig) → Buf (Elt Ideal) ℓ) (g : Dev Cert.ReferenceGluDwIdeal.nD → PrngReg), Pre_ReferenceGluDwIdeal m →
    θ_run (Cert.ReferenceGluDwIdeal.defs (F := Ideal)) (onTc (τ := Cert.ReferenceGluDwIdeal.τ) (Cert.ReferenceGluDwIdeal.main (F := Ideal))) ⟨m, fun _ => 0, g⟩ (fun r => (∀ c : Dev Cert.ReferenceGluDwIdeal.nD,
      r.2.mem ((c.tc : Thread Cert.ReferenceGluDwIdeal.nD Cert.ReferenceGluDwIdeal.τ).loc Cert.ReferenceGluDwIdeal.main_arg0) = m ((c.tc : Thread Cert.ReferenceGluDwIdeal.nD Cert.ReferenceGluDwIdeal.τ).loc Cert.ReferenceGluDwIdeal.main_arg0)
      ∧ r.2.mem ((c.tc : Thread Cert.ReferenceGluDwIdeal.nD Cert.ReferenceGluDwIdeal.τ).loc Cert.ReferenceGluDwIdeal.main_arg1) = m ((c.tc : Thread Cert.ReferenceGluDwIdeal.nD Cert.ReferenceGluDwIdeal.τ).loc Cert.ReferenceGluDwIdeal.main_arg1))
      ∧ r.2.sem = fun _ => 0)

def quiescent_KernelAct0 [hKernelAct0 : Cert.KernelAct0.Facts] : Prop :=
  ∀ (m : (ℓ : Loc Cert.KernelAct0.nD Cert.KernelAct0.τ Cert.KernelAct0.sig) → Buf (Elt Bits) ℓ) (g : Dev Cert.KernelAct0.nD → PrngReg), Pre_KernelAct0 m →
    θ_run (Cert.KernelAct0.defs (F := Bits)) (onTc (τ := Cert.KernelAct0.τ) (Cert.KernelAct0.main (F := Bits))) ⟨m, fun _ => 0, g⟩ (fun r => (∀ c : Dev Cert.KernelAct0.nD,
      r.2.mem ((c.tc : Thread Cert.KernelAct0.nD Cert.KernelAct0.τ).loc Cert.KernelAct0.main_arg0) = m ((c.tc : Thread Cert.KernelAct0.nD Cert.KernelAct0.τ).loc Cert.KernelAct0.main_arg0)
      ∧ r.2.mem ((c.tc : Thread Cert.KernelAct0.nD Cert.KernelAct0.τ).loc Cert.KernelAct0.main_arg1) = m ((c.tc : Thread Cert.KernelAct0.nD Cert.KernelAct0.τ).loc Cert.KernelAct0.main_arg1)
      ∧ r.2.mem ((c.tc : Thread Cert.KernelAct0.nD Cert.KernelAct0.τ).loc Cert.KernelAct0.main_arg2) = m ((c.tc : Thread Cert.KernelAct0.nD Cert.KernelAct0.τ).loc Cert.KernelAct0.main_arg2)
      ∧ r.2.mem ((c.tc : Thread Cert.KernelAct0.nD Cert.KernelAct0.τ).loc Cert.KernelAct0.main_arg3) = m ((c.tc : Thread Cert.KernelAct0.nD Cert.KernelAct0.τ).loc Cert.KernelAct0.main_arg3))
      ∧ r.2.sem = fun _ => 0)

def quiescent_KernelAct0Ideal [hKernelAct0Ideal : Cert.KernelAct0Ideal.Facts] : Prop :=
  ∀ (m : (ℓ : Loc Cert.KernelAct0Ideal.nD Cert.KernelAct0Ideal.τ Cert.KernelAct0Ideal.sig) → Buf (Elt Ideal) ℓ) (g : Dev Cert.KernelAct0Ideal.nD → PrngReg), Pre_KernelAct0Ideal m →
    θ_run (Cert.KernelAct0Ideal.defs (F := Ideal)) (onTc (τ := Cert.KernelAct0Ideal.τ) (Cert.KernelAct0Ideal.main (F := Ideal))) ⟨m, fun _ => 0, g⟩ (fun r => (∀ c : Dev Cert.KernelAct0Ideal.nD,
      r.2.mem ((c.tc : Thread Cert.KernelAct0Ideal.nD Cert.KernelAct0Ideal.τ).loc Cert.KernelAct0Ideal.main_arg0) = m ((c.tc : Thread Cert.KernelAct0Ideal.nD Cert.KernelAct0Ideal.τ).loc Cert.KernelAct0Ideal.main_arg0)
      ∧ r.2.mem ((c.tc : Thread Cert.KernelAct0Ideal.nD Cert.KernelAct0Ideal.τ).loc Cert.KernelAct0Ideal.main_arg1) = m ((c.tc : Thread Cert.KernelAct0Ideal.nD Cert.KernelAct0Ideal.τ).loc Cert.KernelAct0Ideal.main_arg1)
      ∧ r.2.mem ((c.tc : Thread Cert.KernelAct0Ideal.nD Cert.KernelAct0Ideal.τ).loc Cert.KernelAct0Ideal.main_arg2) = m ((c.tc : Thread Cert.KernelAct0Ideal.nD Cert.KernelAct0Ideal.τ).loc Cert.KernelAct0Ideal.main_arg2)
      ∧ r.2.mem ((c.tc : Thread Cert.KernelAct0Ideal.nD Cert.KernelAct0Ideal.τ).loc Cert.KernelAct0Ideal.main_arg3) = m ((c.tc : Thread Cert.KernelAct0Ideal.nD Cert.KernelAct0Ideal.τ).loc Cert.KernelAct0Ideal.main_arg3))
      ∧ r.2.sem = fun _ => 0)

def quiescent_ReferenceAct0Ideal [hReferenceAct0Ideal : Cert.ReferenceAct0Ideal.Facts] : Prop :=
  ∀ (m : (ℓ : Loc Cert.ReferenceAct0Ideal.nD Cert.ReferenceAct0Ideal.τ Cert.ReferenceAct0Ideal.sig) → Buf (Elt Ideal) ℓ) (g : Dev Cert.ReferenceAct0Ideal.nD → PrngReg), Pre_ReferenceAct0Ideal m →
    θ_run (Cert.ReferenceAct0Ideal.defs (F := Ideal)) (onTc (τ := Cert.ReferenceAct0Ideal.τ) (Cert.ReferenceAct0Ideal.main (F := Ideal))) ⟨m, fun _ => 0, g⟩ (fun r => (∀ c : Dev Cert.ReferenceAct0Ideal.nD,
      r.2.mem ((c.tc : Thread Cert.ReferenceAct0Ideal.nD Cert.ReferenceAct0Ideal.τ).loc Cert.ReferenceAct0Ideal.main_arg0) = m ((c.tc : Thread Cert.ReferenceAct0Ideal.nD Cert.ReferenceAct0Ideal.τ).loc Cert.ReferenceAct0Ideal.main_arg0)
      ∧ r.2.mem ((c.tc : Thread Cert.ReferenceAct0Ideal.nD Cert.ReferenceAct0Ideal.τ).loc Cert.ReferenceAct0Ideal.main_arg1) = m ((c.tc : Thread Cert.ReferenceAct0Ideal.nD Cert.ReferenceAct0Ideal.τ).loc Cert.ReferenceAct0Ideal.main_arg1)
      ∧ r.2.mem ((c.tc : Thread Cert.ReferenceAct0Ideal.nD Cert.ReferenceAct0Ideal.τ).loc Cert.ReferenceAct0Ideal.main_arg2) = m ((c.tc : Thread Cert.ReferenceAct0Ideal.nD Cert.ReferenceAct0Ideal.τ).loc Cert.ReferenceAct0Ideal.main_arg2)
      ∧ r.2.mem ((c.tc : Thread Cert.ReferenceAct0Ideal.nD Cert.ReferenceAct0Ideal.τ).loc Cert.ReferenceAct0Ideal.main_arg3) = m ((c.tc : Thread Cert.ReferenceAct0Ideal.nD Cert.ReferenceAct0Ideal.τ).loc Cert.ReferenceAct0Ideal.main_arg3))
      ∧ r.2.sem = fun _ => 0)

def quiescent_KernelAct1 [hKernelAct1 : Cert.KernelAct1.Facts] : Prop :=
  ∀ (m : (ℓ : Loc Cert.KernelAct1.nD Cert.KernelAct1.τ Cert.KernelAct1.sig) → Buf (Elt Bits) ℓ) (g : Dev Cert.KernelAct1.nD → PrngReg), Pre_KernelAct1 m →
    θ_run (Cert.KernelAct1.defs (F := Bits)) (onTc (τ := Cert.KernelAct1.τ) (Cert.KernelAct1.main (F := Bits))) ⟨m, fun _ => 0, g⟩ (fun r => (∀ c : Dev Cert.KernelAct1.nD,
      r.2.mem ((c.tc : Thread Cert.KernelAct1.nD Cert.KernelAct1.τ).loc Cert.KernelAct1.main_arg0) = m ((c.tc : Thread Cert.KernelAct1.nD Cert.KernelAct1.τ).loc Cert.KernelAct1.main_arg0)
      ∧ r.2.mem ((c.tc : Thread Cert.KernelAct1.nD Cert.KernelAct1.τ).loc Cert.KernelAct1.main_arg1) = m ((c.tc : Thread Cert.KernelAct1.nD Cert.KernelAct1.τ).loc Cert.KernelAct1.main_arg1)
      ∧ r.2.mem ((c.tc : Thread Cert.KernelAct1.nD Cert.KernelAct1.τ).loc Cert.KernelAct1.main_arg2) = m ((c.tc : Thread Cert.KernelAct1.nD Cert.KernelAct1.τ).loc Cert.KernelAct1.main_arg2)
      ∧ r.2.mem ((c.tc : Thread Cert.KernelAct1.nD Cert.KernelAct1.τ).loc Cert.KernelAct1.main_arg3) = m ((c.tc : Thread Cert.KernelAct1.nD Cert.KernelAct1.τ).loc Cert.KernelAct1.main_arg3))
      ∧ r.2.sem = fun _ => 0)

def quiescent_KernelAct1Ideal [hKernelAct1Ideal : Cert.KernelAct1Ideal.Facts] : Prop :=
  ∀ (m : (ℓ : Loc Cert.KernelAct1Ideal.nD Cert.KernelAct1Ideal.τ Cert.KernelAct1Ideal.sig) → Buf (Elt Ideal) ℓ) (g : Dev Cert.KernelAct1Ideal.nD → PrngReg), Pre_KernelAct1Ideal m →
    θ_run (Cert.KernelAct1Ideal.defs (F := Ideal)) (onTc (τ := Cert.KernelAct1Ideal.τ) (Cert.KernelAct1Ideal.main (F := Ideal))) ⟨m, fun _ => 0, g⟩ (fun r => (∀ c : Dev Cert.KernelAct1Ideal.nD,
      r.2.mem ((c.tc : Thread Cert.KernelAct1Ideal.nD Cert.KernelAct1Ideal.τ).loc Cert.KernelAct1Ideal.main_arg0) = m ((c.tc : Thread Cert.KernelAct1Ideal.nD Cert.KernelAct1Ideal.τ).loc Cert.KernelAct1Ideal.main_arg0)
      ∧ r.2.mem ((c.tc : Thread Cert.KernelAct1Ideal.nD Cert.KernelAct1Ideal.τ).loc Cert.KernelAct1Ideal.main_arg1) = m ((c.tc : Thread Cert.KernelAct1Ideal.nD Cert.KernelAct1Ideal.τ).loc Cert.KernelAct1Ideal.main_arg1)
      ∧ r.2.mem ((c.tc : Thread Cert.KernelAct1Ideal.nD Cert.KernelAct1Ideal.τ).loc Cert.KernelAct1Ideal.main_arg2) = m ((c.tc : Thread Cert.KernelAct1Ideal.nD Cert.KernelAct1Ideal.τ).loc Cert.KernelAct1Ideal.main_arg2)
      ∧ r.2.mem ((c.tc : Thread Cert.KernelAct1Ideal.nD Cert.KernelAct1Ideal.τ).loc Cert.KernelAct1Ideal.main_arg3) = m ((c.tc : Thread Cert.KernelAct1Ideal.nD Cert.KernelAct1Ideal.τ).loc Cert.KernelAct1Ideal.main_arg3))
      ∧ r.2.sem = fun _ => 0)

def quiescent_ReferenceAct1Ideal [hReferenceAct1Ideal : Cert.ReferenceAct1Ideal.Facts] : Prop :=
  ∀ (m : (ℓ : Loc Cert.ReferenceAct1Ideal.nD Cert.ReferenceAct1Ideal.τ Cert.ReferenceAct1Ideal.sig) → Buf (Elt Ideal) ℓ) (g : Dev Cert.ReferenceAct1Ideal.nD → PrngReg), Pre_ReferenceAct1Ideal m →
    θ_run (Cert.ReferenceAct1Ideal.defs (F := Ideal)) (onTc (τ := Cert.ReferenceAct1Ideal.τ) (Cert.ReferenceAct1Ideal.main (F := Ideal))) ⟨m, fun _ => 0, g⟩ (fun r => (∀ c : Dev Cert.ReferenceAct1Ideal.nD,
      r.2.mem ((c.tc : Thread Cert.ReferenceAct1Ideal.nD Cert.ReferenceAct1Ideal.τ).loc Cert.ReferenceAct1Ideal.main_arg0) = m ((c.tc : Thread Cert.ReferenceAct1Ideal.nD Cert.ReferenceAct1Ideal.τ).loc Cert.ReferenceAct1Ideal.main_arg0)
      ∧ r.2.mem ((c.tc : Thread Cert.ReferenceAct1Ideal.nD Cert.ReferenceAct1Ideal.τ).loc Cert.ReferenceAct1Ideal.main_arg1) = m ((c.tc : Thread Cert.ReferenceAct1Ideal.nD Cert.ReferenceAct1Ideal.τ).loc Cert.ReferenceAct1Ideal.main_arg1)
      ∧ r.2.mem ((c.tc : Thread Cert.ReferenceAct1Ideal.nD Cert.ReferenceAct1Ideal.τ).loc Cert.ReferenceAct1Ideal.main_arg2) = m ((c.tc : Thread Cert.ReferenceAct1Ideal.nD Cert.ReferenceAct1Ideal.τ).loc Cert.ReferenceAct1Ideal.main_arg2)
      ∧ r.2.mem ((c.tc : Thread Cert.ReferenceAct1Ideal.nD Cert.ReferenceAct1Ideal.τ).loc Cert.ReferenceAct1Ideal.main_arg3) = m ((c.tc : Thread Cert.ReferenceAct1Ideal.nD Cert.ReferenceAct1Ideal.τ).loc Cert.ReferenceAct1Ideal.main_arg3))
      ∧ r.2.sem = fun _ => 0)

def quiescent_KernelAct2 [hKernelAct2 : Cert.KernelAct2.Facts] : Prop :=
  ∀ (m : (ℓ : Loc Cert.KernelAct2.nD Cert.KernelAct2.τ Cert.KernelAct2.sig) → Buf (Elt Bits) ℓ) (g : Dev Cert.KernelAct2.nD → PrngReg), Pre_KernelAct2 m →
    θ_run (Cert.KernelAct2.defs (F := Bits)) (onTc (τ := Cert.KernelAct2.τ) (Cert.KernelAct2.main (F := Bits))) ⟨m, fun _ => 0, g⟩ (fun r => (∀ c : Dev Cert.KernelAct2.nD,
      r.2.mem ((c.tc : Thread Cert.KernelAct2.nD Cert.KernelAct2.τ).loc Cert.KernelAct2.main_arg0) = m ((c.tc : Thread Cert.KernelAct2.nD Cert.KernelAct2.τ).loc Cert.KernelAct2.main_arg0)
      ∧ r.2.mem ((c.tc : Thread Cert.KernelAct2.nD Cert.KernelAct2.τ).loc Cert.KernelAct2.main_arg1) = m ((c.tc : Thread Cert.KernelAct2.nD Cert.KernelAct2.τ).loc Cert.KernelAct2.main_arg1)
      ∧ r.2.mem ((c.tc : Thread Cert.KernelAct2.nD Cert.KernelAct2.τ).loc Cert.KernelAct2.main_arg2) = m ((c.tc : Thread Cert.KernelAct2.nD Cert.KernelAct2.τ).loc Cert.KernelAct2.main_arg2)
      ∧ r.2.mem ((c.tc : Thread Cert.KernelAct2.nD Cert.KernelAct2.τ).loc Cert.KernelAct2.main_arg3) = m ((c.tc : Thread Cert.KernelAct2.nD Cert.KernelAct2.τ).loc Cert.KernelAct2.main_arg3))
      ∧ r.2.sem = fun _ => 0)

def quiescent_KernelAct2Ideal [hKernelAct2Ideal : Cert.KernelAct2Ideal.Facts] : Prop :=
  ∀ (m : (ℓ : Loc Cert.KernelAct2Ideal.nD Cert.KernelAct2Ideal.τ Cert.KernelAct2Ideal.sig) → Buf (Elt Ideal) ℓ) (g : Dev Cert.KernelAct2Ideal.nD → PrngReg), Pre_KernelAct2Ideal m →
    θ_run (Cert.KernelAct2Ideal.defs (F := Ideal)) (onTc (τ := Cert.KernelAct2Ideal.τ) (Cert.KernelAct2Ideal.main (F := Ideal))) ⟨m, fun _ => 0, g⟩ (fun r => (∀ c : Dev Cert.KernelAct2Ideal.nD,
      r.2.mem ((c.tc : Thread Cert.KernelAct2Ideal.nD Cert.KernelAct2Ideal.τ).loc Cert.KernelAct2Ideal.main_arg0) = m ((c.tc : Thread Cert.KernelAct2Ideal.nD Cert.KernelAct2Ideal.τ).loc Cert.KernelAct2Ideal.main_arg0)
      ∧ r.2.mem ((c.tc : Thread Cert.KernelAct2Ideal.nD Cert.KernelAct2Ideal.τ).loc Cert.KernelAct2Ideal.main_arg1) = m ((c.tc : Thread Cert.KernelAct2Ideal.nD Cert.KernelAct2Ideal.τ).loc Cert.KernelAct2Ideal.main_arg1)
      ∧ r.2.mem ((c.tc : Thread Cert.KernelAct2Ideal.nD Cert.KernelAct2Ideal.τ).loc Cert.KernelAct2Ideal.main_arg2) = m ((c.tc : Thread Cert.KernelAct2Ideal.nD Cert.KernelAct2Ideal.τ).loc Cert.KernelAct2Ideal.main_arg2)
      ∧ r.2.mem ((c.tc : Thread Cert.KernelAct2Ideal.nD Cert.KernelAct2Ideal.τ).loc Cert.KernelAct2Ideal.main_arg3) = m ((c.tc : Thread Cert.KernelAct2Ideal.nD Cert.KernelAct2Ideal.τ).loc Cert.KernelAct2Ideal.main_arg3))
      ∧ r.2.sem = fun _ => 0)

def quiescent_ReferenceAct2Ideal [hReferenceAct2Ideal : Cert.ReferenceAct2Ideal.Facts] : Prop :=
  ∀ (m : (ℓ : Loc Cert.ReferenceAct2Ideal.nD Cert.ReferenceAct2Ideal.τ Cert.ReferenceAct2Ideal.sig) → Buf (Elt Ideal) ℓ) (g : Dev Cert.ReferenceAct2Ideal.nD → PrngReg), Pre_ReferenceAct2Ideal m →
    θ_run (Cert.ReferenceAct2Ideal.defs (F := Ideal)) (onTc (τ := Cert.ReferenceAct2Ideal.τ) (Cert.ReferenceAct2Ideal.main (F := Ideal))) ⟨m, fun _ => 0, g⟩ (fun r => (∀ c : Dev Cert.ReferenceAct2Ideal.nD,
      r.2.mem ((c.tc : Thread Cert.ReferenceAct2Ideal.nD Cert.ReferenceAct2Ideal.τ).loc Cert.ReferenceAct2Ideal.main_arg0) = m ((c.tc : Thread Cert.ReferenceAct2Ideal.nD Cert.ReferenceAct2Ideal.τ).loc Cert.ReferenceAct2Ideal.main_arg0)
      ∧ r.2.mem ((c.tc : Thread Cert.ReferenceAct2Ideal.nD Cert.ReferenceAct2Ideal.τ).loc Cert.ReferenceAct2Ideal.main_arg1) = m ((c.tc : Thread Cert.ReferenceAct2Ideal.nD Cert.ReferenceAct2Ideal.τ).loc Cert.ReferenceAct2Ideal.main_arg1)
      ∧ r.2.mem ((c.tc : Thread Cert.ReferenceAct2Ideal.nD Cert.ReferenceAct2Ideal.τ).loc Cert.ReferenceAct2Ideal.main_arg2) = m ((c.tc : Thread Cert.ReferenceAct2Ideal.nD Cert.ReferenceAct2Ideal.τ).loc Cert.ReferenceAct2Ideal.main_arg2)
      ∧ r.2.mem ((c.tc : Thread Cert.ReferenceAct2Ideal.nD Cert.ReferenceAct2Ideal.τ).loc Cert.ReferenceAct2Ideal.main_arg3) = m ((c.tc : Thread Cert.ReferenceAct2Ideal.nD Cert.ReferenceAct2Ideal.τ).loc Cert.ReferenceAct2Ideal.main_arg3))
      ∧ r.2.sem = fun _ => 0)

def quiescent_KernelDxn0 [hKernelDxn0 : Cert.KernelDxn0.Facts] : Prop :=
  ∀ (m : (ℓ : Loc Cert.KernelDxn0.nD Cert.KernelDxn0.τ Cert.KernelDxn0.sig) → Buf (Elt Bits) ℓ) (g : Dev Cert.KernelDxn0.nD → PrngReg), Pre_KernelDxn0 m →
    θ_run (Cert.KernelDxn0.defs (F := Bits)) (onTc (τ := Cert.KernelDxn0.τ) (Cert.KernelDxn0.main (F := Bits))) ⟨m, fun _ => 0, g⟩ (fun r => (∀ c : Dev Cert.KernelDxn0.nD,
      r.2.mem ((c.tc : Thread Cert.KernelDxn0.nD Cert.KernelDxn0.τ).loc Cert.KernelDxn0.main_arg0) = m ((c.tc : Thread Cert.KernelDxn0.nD Cert.KernelDxn0.τ).loc Cert.KernelDxn0.main_arg0)
      ∧ r.2.mem ((c.tc : Thread Cert.KernelDxn0.nD Cert.KernelDxn0.τ).loc Cert.KernelDxn0.main_arg1) = m ((c.tc : Thread Cert.KernelDxn0.nD Cert.KernelDxn0.τ).loc Cert.KernelDxn0.main_arg1))
      ∧ r.2.sem = fun _ => 0)

def quiescent_KernelDxn0Ideal [hKernelDxn0Ideal : Cert.KernelDxn0Ideal.Facts] : Prop :=
  ∀ (m : (ℓ : Loc Cert.KernelDxn0Ideal.nD Cert.KernelDxn0Ideal.τ Cert.KernelDxn0Ideal.sig) → Buf (Elt Ideal) ℓ) (g : Dev Cert.KernelDxn0Ideal.nD → PrngReg), Pre_KernelDxn0Ideal m →
    θ_run (Cert.KernelDxn0Ideal.defs (F := Ideal)) (onTc (τ := Cert.KernelDxn0Ideal.τ) (Cert.KernelDxn0Ideal.main (F := Ideal))) ⟨m, fun _ => 0, g⟩ (fun r => (∀ c : Dev Cert.KernelDxn0Ideal.nD,
      r.2.mem ((c.tc : Thread Cert.KernelDxn0Ideal.nD Cert.KernelDxn0Ideal.τ).loc Cert.KernelDxn0Ideal.main_arg0) = m ((c.tc : Thread Cert.KernelDxn0Ideal.nD Cert.KernelDxn0Ideal.τ).loc Cert.KernelDxn0Ideal.main_arg0)
      ∧ r.2.mem ((c.tc : Thread Cert.KernelDxn0Ideal.nD Cert.KernelDxn0Ideal.τ).loc Cert.KernelDxn0Ideal.main_arg1) = m ((c.tc : Thread Cert.KernelDxn0Ideal.nD Cert.KernelDxn0Ideal.τ).loc Cert.KernelDxn0Ideal.main_arg1))
      ∧ r.2.sem = fun _ => 0)

def quiescent_ReferenceDxn0Ideal [hReferenceDxn0Ideal : Cert.ReferenceDxn0Ideal.Facts] : Prop :=
  ∀ (m : (ℓ : Loc Cert.ReferenceDxn0Ideal.nD Cert.ReferenceDxn0Ideal.τ Cert.ReferenceDxn0Ideal.sig) → Buf (Elt Ideal) ℓ) (g : Dev Cert.ReferenceDxn0Ideal.nD → PrngReg), Pre_ReferenceDxn0Ideal m →
    θ_run (Cert.ReferenceDxn0Ideal.defs (F := Ideal)) (onTc (τ := Cert.ReferenceDxn0Ideal.τ) (Cert.ReferenceDxn0Ideal.main (F := Ideal))) ⟨m, fun _ => 0, g⟩ (fun r => (∀ c : Dev Cert.ReferenceDxn0Ideal.nD,
      r.2.mem ((c.tc : Thread Cert.ReferenceDxn0Ideal.nD Cert.ReferenceDxn0Ideal.τ).loc Cert.ReferenceDxn0Ideal.main_arg0) = m ((c.tc : Thread Cert.ReferenceDxn0Ideal.nD Cert.ReferenceDxn0Ideal.τ).loc Cert.ReferenceDxn0Ideal.main_arg0)
      ∧ r.2.mem ((c.tc : Thread Cert.ReferenceDxn0Ideal.nD Cert.ReferenceDxn0Ideal.τ).loc Cert.ReferenceDxn0Ideal.main_arg1) = m ((c.tc : Thread Cert.ReferenceDxn0Ideal.nD Cert.ReferenceDxn0Ideal.τ).loc Cert.ReferenceDxn0Ideal.main_arg1))
      ∧ r.2.sem = fun _ => 0)

def quiescent_KernelDxn1 [hKernelDxn1 : Cert.KernelDxn1.Facts] : Prop :=
  ∀ (m : (ℓ : Loc Cert.KernelDxn1.nD Cert.KernelDxn1.τ Cert.KernelDxn1.sig) → Buf (Elt Bits) ℓ) (g : Dev Cert.KernelDxn1.nD → PrngReg), Pre_KernelDxn1 m →
    θ_run (Cert.KernelDxn1.defs (F := Bits)) (onTc (τ := Cert.KernelDxn1.τ) (Cert.KernelDxn1.main (F := Bits))) ⟨m, fun _ => 0, g⟩ (fun r => (∀ c : Dev Cert.KernelDxn1.nD,
      r.2.mem ((c.tc : Thread Cert.KernelDxn1.nD Cert.KernelDxn1.τ).loc Cert.KernelDxn1.main_arg0) = m ((c.tc : Thread Cert.KernelDxn1.nD Cert.KernelDxn1.τ).loc Cert.KernelDxn1.main_arg0)
      ∧ r.2.mem ((c.tc : Thread Cert.KernelDxn1.nD Cert.KernelDxn1.τ).loc Cert.KernelDxn1.main_arg1) = m ((c.tc : Thread Cert.KernelDxn1.nD Cert.KernelDxn1.τ).loc Cert.KernelDxn1.main_arg1))
      ∧ r.2.sem = fun _ => 0)

def quiescent_KernelDxn1Ideal [hKernelDxn1Ideal : Cert.KernelDxn1Ideal.Facts] : Prop :=
  ∀ (m : (ℓ : Loc Cert.KernelDxn1Ideal.nD Cert.KernelDxn1Ideal.τ Cert.KernelDxn1Ideal.sig) → Buf (Elt Ideal) ℓ) (g : Dev Cert.KernelDxn1Ideal.nD → PrngReg), Pre_KernelDxn1Ideal m →
    θ_run (Cert.KernelDxn1Ideal.defs (F := Ideal)) (onTc (τ := Cert.KernelDxn1Ideal.τ) (Cert.KernelDxn1Ideal.main (F := Ideal))) ⟨m, fun _ => 0, g⟩ (fun r => (∀ c : Dev Cert.KernelDxn1Ideal.nD,
      r.2.mem ((c.tc : Thread Cert.KernelDxn1Ideal.nD Cert.KernelDxn1Ideal.τ).loc Cert.KernelDxn1Ideal.main_arg0) = m ((c.tc : Thread Cert.KernelDxn1Ideal.nD Cert.KernelDxn1Ideal.τ).loc Cert.KernelDxn1Ideal.main_arg0)
      ∧ r.2.mem ((c.tc : Thread Cert.KernelDxn1Ideal.nD Cert.KernelDxn1Ideal.τ).loc Cert.KernelDxn1Ideal.main_arg1) = m ((c.tc : Thread Cert.KernelDxn1Ideal.nD Cert.KernelDxn1Ideal.τ).loc Cert.KernelDxn1Ideal.main_arg1))
      ∧ r.2.sem = fun _ => 0)

def quiescent_ReferenceDxn1Ideal [hReferenceDxn1Ideal : Cert.ReferenceDxn1Ideal.Facts] : Prop :=
  ∀ (m : (ℓ : Loc Cert.ReferenceDxn1Ideal.nD Cert.ReferenceDxn1Ideal.τ Cert.ReferenceDxn1Ideal.sig) → Buf (Elt Ideal) ℓ) (g : Dev Cert.ReferenceDxn1Ideal.nD → PrngReg), Pre_ReferenceDxn1Ideal m →
    θ_run (Cert.ReferenceDxn1Ideal.defs (F := Ideal)) (onTc (τ := Cert.ReferenceDxn1Ideal.τ) (Cert.ReferenceDxn1Ideal.main (F := Ideal))) ⟨m, fun _ => 0, g⟩ (fun r => (∀ c : Dev Cert.ReferenceDxn1Ideal.nD,
      r.2.mem ((c.tc : Thread Cert.ReferenceDxn1Ideal.nD Cert.ReferenceDxn1Ideal.τ).loc Cert.ReferenceDxn1Ideal.main_arg0) = m ((c.tc : Thread Cert.ReferenceDxn1Ideal.nD Cert.ReferenceDxn1Ideal.τ).loc Cert.ReferenceDxn1Ideal.main_arg0)
      ∧ r.2.mem ((c.tc : Thread Cert.ReferenceDxn1Ideal.nD Cert.ReferenceDxn1Ideal.τ).loc Cert.ReferenceDxn1Ideal.main_arg1) = m ((c.tc : Thread Cert.ReferenceDxn1Ideal.nD Cert.ReferenceDxn1Ideal.τ).loc Cert.ReferenceDxn1Ideal.main_arg1))
      ∧ r.2.sem = fun _ => 0)

def quiescent_KernelDxn2 [hKernelDxn2 : Cert.KernelDxn2.Facts] : Prop :=
  ∀ (m : (ℓ : Loc Cert.KernelDxn2.nD Cert.KernelDxn2.τ Cert.KernelDxn2.sig) → Buf (Elt Bits) ℓ) (g : Dev Cert.KernelDxn2.nD → PrngReg), Pre_KernelDxn2 m →
    θ_run (Cert.KernelDxn2.defs (F := Bits)) (onTc (τ := Cert.KernelDxn2.τ) (Cert.KernelDxn2.main (F := Bits))) ⟨m, fun _ => 0, g⟩ (fun r => (∀ c : Dev Cert.KernelDxn2.nD,
      r.2.mem ((c.tc : Thread Cert.KernelDxn2.nD Cert.KernelDxn2.τ).loc Cert.KernelDxn2.main_arg0) = m ((c.tc : Thread Cert.KernelDxn2.nD Cert.KernelDxn2.τ).loc Cert.KernelDxn2.main_arg0)
      ∧ r.2.mem ((c.tc : Thread Cert.KernelDxn2.nD Cert.KernelDxn2.τ).loc Cert.KernelDxn2.main_arg1) = m ((c.tc : Thread Cert.KernelDxn2.nD Cert.KernelDxn2.τ).loc Cert.KernelDxn2.main_arg1))
      ∧ r.2.sem = fun _ => 0)

def quiescent_KernelDxn2Ideal [hKernelDxn2Ideal : Cert.KernelDxn2Ideal.Facts] : Prop :=
  ∀ (m : (ℓ : Loc Cert.KernelDxn2Ideal.nD Cert.KernelDxn2Ideal.τ Cert.KernelDxn2Ideal.sig) → Buf (Elt Ideal) ℓ) (g : Dev Cert.KernelDxn2Ideal.nD → PrngReg), Pre_KernelDxn2Ideal m →
    θ_run (Cert.KernelDxn2Ideal.defs (F := Ideal)) (onTc (τ := Cert.KernelDxn2Ideal.τ) (Cert.KernelDxn2Ideal.main (F := Ideal))) ⟨m, fun _ => 0, g⟩ (fun r => (∀ c : Dev Cert.KernelDxn2Ideal.nD,
      r.2.mem ((c.tc : Thread Cert.KernelDxn2Ideal.nD Cert.KernelDxn2Ideal.τ).loc Cert.KernelDxn2Ideal.main_arg0) = m ((c.tc : Thread Cert.KernelDxn2Ideal.nD Cert.KernelDxn2Ideal.τ).loc Cert.KernelDxn2Ideal.main_arg0)
      ∧ r.2.mem ((c.tc : Thread Cert.KernelDxn2Ideal.nD Cert.KernelDxn2Ideal.τ).loc Cert.KernelDxn2Ideal.main_arg1) = m ((c.tc : Thread Cert.KernelDxn2Ideal.nD Cert.KernelDxn2Ideal.τ).loc Cert.KernelDxn2Ideal.main_arg1))
      ∧ r.2.sem = fun _ => 0)

def quiescent_ReferenceDxn2Ideal [hReferenceDxn2Ideal : Cert.ReferenceDxn2Ideal.Facts] : Prop :=
  ∀ (m : (ℓ : Loc Cert.ReferenceDxn2Ideal.nD Cert.ReferenceDxn2Ideal.τ Cert.ReferenceDxn2Ideal.sig) → Buf (Elt Ideal) ℓ) (g : Dev Cert.ReferenceDxn2Ideal.nD → PrngReg), Pre_ReferenceDxn2Ideal m →
    θ_run (Cert.ReferenceDxn2Ideal.defs (F := Ideal)) (onTc (τ := Cert.ReferenceDxn2Ideal.τ) (Cert.ReferenceDxn2Ideal.main (F := Ideal))) ⟨m, fun _ => 0, g⟩ (fun r => (∀ c : Dev Cert.ReferenceDxn2Ideal.nD,
      r.2.mem ((c.tc : Thread Cert.ReferenceDxn2Ideal.nD Cert.ReferenceDxn2Ideal.τ).loc Cert.ReferenceDxn2Ideal.main_arg0) = m ((c.tc : Thread Cert.ReferenceDxn2Ideal.nD Cert.ReferenceDxn2Ideal.τ).loc Cert.ReferenceDxn2Ideal.main_arg0)
      ∧ r.2.mem ((c.tc : Thread Cert.ReferenceDxn2Ideal.nD Cert.ReferenceDxn2Ideal.τ).loc Cert.ReferenceDxn2Ideal.main_arg1) = m ((c.tc : Thread Cert.ReferenceDxn2Ideal.nD Cert.ReferenceDxn2Ideal.τ).loc Cert.ReferenceDxn2Ideal.main_arg1))
      ∧ r.2.sem = fun _ => 0)

def quiescent_KernelQkv0 [hKernelQkv0 : Cert.KernelQkv0.Facts] : Prop :=
  ∀ (m : (ℓ : Loc Cert.KernelQkv0.nD Cert.KernelQkv0.τ Cert.KernelQkv0.sig) → Buf (Elt Bits) ℓ) (g : Dev Cert.KernelQkv0.nD → PrngReg), Pre_KernelQkv0 m →
    θ_run (Cert.KernelQkv0.defs (F := Bits)) (onTc (τ := Cert.KernelQkv0.τ) (Cert.KernelQkv0.main (F := Bits))) ⟨m, fun _ => 0, g⟩ (fun r => (∀ c : Dev Cert.KernelQkv0.nD,
      r.2.mem ((c.tc : Thread Cert.KernelQkv0.nD Cert.KernelQkv0.τ).loc Cert.KernelQkv0.main_arg0) = m ((c.tc : Thread Cert.KernelQkv0.nD Cert.KernelQkv0.τ).loc Cert.KernelQkv0.main_arg0)
      ∧ r.2.mem ((c.tc : Thread Cert.KernelQkv0.nD Cert.KernelQkv0.τ).loc Cert.KernelQkv0.main_arg1) = m ((c.tc : Thread Cert.KernelQkv0.nD Cert.KernelQkv0.τ).loc Cert.KernelQkv0.main_arg1))
      ∧ r.2.sem = fun _ => 0)

def quiescent_KernelQkv0Ideal [hKernelQkv0Ideal : Cert.KernelQkv0Ideal.Facts] : Prop :=
  ∀ (m : (ℓ : Loc Cert.KernelQkv0Ideal.nD Cert.KernelQkv0Ideal.τ Cert.KernelQkv0Ideal.sig) → Buf (Elt Ideal) ℓ) (g : Dev Cert.KernelQkv0Ideal.nD → PrngReg), Pre_KernelQkv0Ideal m →
    θ_run (Cert.KernelQkv0Ideal.defs (F := Ideal)) (onTc (τ := Cert.KernelQkv0Ideal.τ) (Cert.KernelQkv0Ideal.main (F := Ideal))) ⟨m, fun _ => 0, g⟩ (fun r => (∀ c : Dev Cert.KernelQkv0Ideal.nD,
      r.2.mem ((c.tc : Thread Cert.KernelQkv0Ideal.nD Cert.KernelQkv0Ideal.τ).loc Cert.KernelQkv0Ideal.main_arg0) = m ((c.tc : Thread Cert.KernelQkv0Ideal.nD Cert.KernelQkv0Ideal.τ).loc Cert.KernelQkv0Ideal.main_arg0)
      ∧ r.2.mem ((c.tc : Thread Cert.KernelQkv0Ideal.nD Cert.KernelQkv0Ideal.τ).loc Cert.KernelQkv0Ideal.main_arg1) = m ((c.tc : Thread Cert.KernelQkv0Ideal.nD Cert.KernelQkv0Ideal.τ).loc Cert.KernelQkv0Ideal.main_arg1))
      ∧ r.2.sem = fun _ => 0)

def quiescent_ReferenceQkv0Ideal [hReferenceQkv0Ideal : Cert.ReferenceQkv0Ideal.Facts] : Prop :=
  ∀ (m : (ℓ : Loc Cert.ReferenceQkv0Ideal.nD Cert.ReferenceQkv0Ideal.τ Cert.ReferenceQkv0Ideal.sig) → Buf (Elt Ideal) ℓ) (g : Dev Cert.ReferenceQkv0Ideal.nD → PrngReg), Pre_ReferenceQkv0Ideal m →
    θ_run (Cert.ReferenceQkv0Ideal.defs (F := Ideal)) (onTc (τ := Cert.ReferenceQkv0Ideal.τ) (Cert.ReferenceQkv0Ideal.main (F := Ideal))) ⟨m, fun _ => 0, g⟩ (fun r => (∀ c : Dev Cert.ReferenceQkv0Ideal.nD,
      r.2.mem ((c.tc : Thread Cert.ReferenceQkv0Ideal.nD Cert.ReferenceQkv0Ideal.τ).loc Cert.ReferenceQkv0Ideal.main_arg0) = m ((c.tc : Thread Cert.ReferenceQkv0Ideal.nD Cert.ReferenceQkv0Ideal.τ).loc Cert.ReferenceQkv0Ideal.main_arg0)
      ∧ r.2.mem ((c.tc : Thread Cert.ReferenceQkv0Ideal.nD Cert.ReferenceQkv0Ideal.τ).loc Cert.ReferenceQkv0Ideal.main_arg1) = m ((c.tc : Thread Cert.ReferenceQkv0Ideal.nD Cert.ReferenceQkv0Ideal.τ).loc Cert.ReferenceQkv0Ideal.main_arg1))
      ∧ r.2.sem = fun _ => 0)

def quiescent_KernelOut0 [hKernelOut0 : Cert.KernelOut0.Facts] : Prop :=
  ∀ (m : (ℓ : Loc Cert.KernelOut0.nD Cert.KernelOut0.τ Cert.KernelOut0.sig) → Buf (Elt Bits) ℓ) (g : Dev Cert.KernelOut0.nD → PrngReg), Pre_KernelOut0 m →
    θ_run (Cert.KernelOut0.defs (F := Bits)) (onTc (τ := Cert.KernelOut0.τ) (Cert.KernelOut0.main (F := Bits))) ⟨m, fun _ => 0, g⟩ (fun r => (∀ c : Dev Cert.KernelOut0.nD,
      r.2.mem ((c.tc : Thread Cert.KernelOut0.nD Cert.KernelOut0.τ).loc Cert.KernelOut0.main_arg0) = m ((c.tc : Thread Cert.KernelOut0.nD Cert.KernelOut0.τ).loc Cert.KernelOut0.main_arg0)
      ∧ r.2.mem ((c.tc : Thread Cert.KernelOut0.nD Cert.KernelOut0.τ).loc Cert.KernelOut0.main_arg1) = m ((c.tc : Thread Cert.KernelOut0.nD Cert.KernelOut0.τ).loc Cert.KernelOut0.main_arg1)
      ∧ r.2.mem ((c.tc : Thread Cert.KernelOut0.nD Cert.KernelOut0.τ).loc Cert.KernelOut0.main_arg2) = m ((c.tc : Thread Cert.KernelOut0.nD Cert.KernelOut0.τ).loc Cert.KernelOut0.main_arg2))
      ∧ r.2.sem = fun _ => 0)

def quiescent_KernelOut0Ideal [hKernelOut0Ideal : Cert.KernelOut0Ideal.Facts] : Prop :=
  ∀ (m : (ℓ : Loc Cert.KernelOut0Ideal.nD Cert.KernelOut0Ideal.τ Cert.KernelOut0Ideal.sig) → Buf (Elt Ideal) ℓ) (g : Dev Cert.KernelOut0Ideal.nD → PrngReg), Pre_KernelOut0Ideal m →
    θ_run (Cert.KernelOut0Ideal.defs (F := Ideal)) (onTc (τ := Cert.KernelOut0Ideal.τ) (Cert.KernelOut0Ideal.main (F := Ideal))) ⟨m, fun _ => 0, g⟩ (fun r => (∀ c : Dev Cert.KernelOut0Ideal.nD,
      r.2.mem ((c.tc : Thread Cert.KernelOut0Ideal.nD Cert.KernelOut0Ideal.τ).loc Cert.KernelOut0Ideal.main_arg0) = m ((c.tc : Thread Cert.KernelOut0Ideal.nD Cert.KernelOut0Ideal.τ).loc Cert.KernelOut0Ideal.main_arg0)
      ∧ r.2.mem ((c.tc : Thread Cert.KernelOut0Ideal.nD Cert.KernelOut0Ideal.τ).loc Cert.KernelOut0Ideal.main_arg1) = m ((c.tc : Thread Cert.KernelOut0Ideal.nD Cert.KernelOut0Ideal.τ).loc Cert.KernelOut0Ideal.main_arg1)
      ∧ r.2.mem ((c.tc : Thread Cert.KernelOut0Ideal.nD Cert.KernelOut0Ideal.τ).loc Cert.KernelOut0Ideal.main_arg2) = m ((c.tc : Thread Cert.KernelOut0Ideal.nD Cert.KernelOut0Ideal.τ).loc Cert.KernelOut0Ideal.main_arg2))
      ∧ r.2.sem = fun _ => 0)

def quiescent_ReferenceOut0Ideal [hReferenceOut0Ideal : Cert.ReferenceOut0Ideal.Facts] : Prop :=
  ∀ (m : (ℓ : Loc Cert.ReferenceOut0Ideal.nD Cert.ReferenceOut0Ideal.τ Cert.ReferenceOut0Ideal.sig) → Buf (Elt Ideal) ℓ) (g : Dev Cert.ReferenceOut0Ideal.nD → PrngReg), Pre_ReferenceOut0Ideal m →
    θ_run (Cert.ReferenceOut0Ideal.defs (F := Ideal)) (onTc (τ := Cert.ReferenceOut0Ideal.τ) (Cert.ReferenceOut0Ideal.main (F := Ideal))) ⟨m, fun _ => 0, g⟩ (fun r => (∀ c : Dev Cert.ReferenceOut0Ideal.nD,
      r.2.mem ((c.tc : Thread Cert.ReferenceOut0Ideal.nD Cert.ReferenceOut0Ideal.τ).loc Cert.ReferenceOut0Ideal.main_arg0) = m ((c.tc : Thread Cert.ReferenceOut0Ideal.nD Cert.ReferenceOut0Ideal.τ).loc Cert.ReferenceOut0Ideal.main_arg0)
      ∧ r.2.mem ((c.tc : Thread Cert.ReferenceOut0Ideal.nD Cert.ReferenceOut0Ideal.τ).loc Cert.ReferenceOut0Ideal.main_arg1) = m ((c.tc : Thread Cert.ReferenceOut0Ideal.nD Cert.ReferenceOut0Ideal.τ).loc Cert.ReferenceOut0Ideal.main_arg1)
      ∧ r.2.mem ((c.tc : Thread Cert.ReferenceOut0Ideal.nD Cert.ReferenceOut0Ideal.τ).loc Cert.ReferenceOut0Ideal.main_arg2) = m ((c.tc : Thread Cert.ReferenceOut0Ideal.nD Cert.ReferenceOut0Ideal.τ).loc Cert.ReferenceOut0Ideal.main_arg2))
      ∧ r.2.sem = fun _ => 0)

def quiescent_KernelQkvDx0 [hKernelQkvDx0 : Cert.KernelQkvDx0.Facts] : Prop :=
  ∀ (m : (ℓ : Loc Cert.KernelQkvDx0.nD Cert.KernelQkvDx0.τ Cert.KernelQkvDx0.sig) → Buf (Elt Bits) ℓ) (g : Dev Cert.KernelQkvDx0.nD → PrngReg), Pre_KernelQkvDx0 m →
    θ_run (Cert.KernelQkvDx0.defs (F := Bits)) (onTc (τ := Cert.KernelQkvDx0.τ) (Cert.KernelQkvDx0.main (F := Bits))) ⟨m, fun _ => 0, g⟩ (fun r => (∀ c : Dev Cert.KernelQkvDx0.nD,
      r.2.mem ((c.tc : Thread Cert.KernelQkvDx0.nD Cert.KernelQkvDx0.τ).loc Cert.KernelQkvDx0.main_arg0) = m ((c.tc : Thread Cert.KernelQkvDx0.nD Cert.KernelQkvDx0.τ).loc Cert.KernelQkvDx0.main_arg0)
      ∧ r.2.mem ((c.tc : Thread Cert.KernelQkvDx0.nD Cert.KernelQkvDx0.τ).loc Cert.KernelQkvDx0.main_arg1) = m ((c.tc : Thread Cert.KernelQkvDx0.nD Cert.KernelQkvDx0.τ).loc Cert.KernelQkvDx0.main_arg1))
      ∧ r.2.sem = fun _ => 0)

def quiescent_KernelQkvDx0Ideal [hKernelQkvDx0Ideal : Cert.KernelQkvDx0Ideal.Facts] : Prop :=
  ∀ (m : (ℓ : Loc Cert.KernelQkvDx0Ideal.nD Cert.KernelQkvDx0Ideal.τ Cert.KernelQkvDx0Ideal.sig) → Buf (Elt Ideal) ℓ) (g : Dev Cert.KernelQkvDx0Ideal.nD → PrngReg), Pre_KernelQkvDx0Ideal m →
    θ_run (Cert.KernelQkvDx0Ideal.defs (F := Ideal)) (onTc (τ := Cert.KernelQkvDx0Ideal.τ) (Cert.KernelQkvDx0Ideal.main (F := Ideal))) ⟨m, fun _ => 0, g⟩ (fun r => (∀ c : Dev Cert.KernelQkvDx0Ideal.nD,
      r.2.mem ((c.tc : Thread Cert.KernelQkvDx0Ideal.nD Cert.KernelQkvDx0Ideal.τ).loc Cert.KernelQkvDx0Ideal.main_arg0) = m ((c.tc : Thread Cert.KernelQkvDx0Ideal.nD Cert.KernelQkvDx0Ideal.τ).loc Cert.KernelQkvDx0Ideal.main_arg0)
      ∧ r.2.mem ((c.tc : Thread Cert.KernelQkvDx0Ideal.nD Cert.KernelQkvDx0Ideal.τ).loc Cert.KernelQkvDx0Ideal.main_arg1) = m ((c.tc : Thread Cert.KernelQkvDx0Ideal.nD Cert.KernelQkvDx0Ideal.τ).loc Cert.KernelQkvDx0Ideal.main_arg1))
      ∧ r.2.sem = fun _ => 0)

def quiescent_ReferenceQkvDx0Ideal [hReferenceQkvDx0Ideal : Cert.ReferenceQkvDx0Ideal.Facts] : Prop :=
  ∀ (m : (ℓ : Loc Cert.ReferenceQkvDx0Ideal.nD Cert.ReferenceQkvDx0Ideal.τ Cert.ReferenceQkvDx0Ideal.sig) → Buf (Elt Ideal) ℓ) (g : Dev Cert.ReferenceQkvDx0Ideal.nD → PrngReg), Pre_ReferenceQkvDx0Ideal m →
    θ_run (Cert.ReferenceQkvDx0Ideal.defs (F := Ideal)) (onTc (τ := Cert.ReferenceQkvDx0Ideal.τ) (Cert.ReferenceQkvDx0Ideal.main (F := Ideal))) ⟨m, fun _ => 0, g⟩ (fun r => (∀ c : Dev Cert.ReferenceQkvDx0Ideal.nD,
      r.2.mem ((c.tc : Thread Cert.ReferenceQkvDx0Ideal.nD Cert.ReferenceQkvDx0Ideal.τ).loc Cert.ReferenceQkvDx0Ideal.main_arg0) = m ((c.tc : Thread Cert.ReferenceQkvDx0Ideal.nD Cert.ReferenceQkvDx0Ideal.τ).loc Cert.ReferenceQkvDx0Ideal.main_arg0)
      ∧ r.2.mem ((c.tc : Thread Cert.ReferenceQkvDx0Ideal.nD Cert.ReferenceQkvDx0Ideal.τ).loc Cert.ReferenceQkvDx0Ideal.main_arg1) = m ((c.tc : Thread Cert.ReferenceQkvDx0Ideal.nD Cert.ReferenceQkvDx0Ideal.τ).loc Cert.ReferenceQkvDx0Ideal.main_arg1))
      ∧ r.2.sem = fun _ => 0)

def quiescent_KernelInDx0 [hKernelInDx0 : Cert.KernelInDx0.Facts] : Prop :=
  ∀ (m : (ℓ : Loc Cert.KernelInDx0.nD Cert.KernelInDx0.τ Cert.KernelInDx0.sig) → Buf (Elt Bits) ℓ) (g : Dev Cert.KernelInDx0.nD → PrngReg), Pre_KernelInDx0 m →
    θ_run (Cert.KernelInDx0.defs (F := Bits)) (onTc (τ := Cert.KernelInDx0.τ) (Cert.KernelInDx0.main (F := Bits))) ⟨m, fun _ => 0, g⟩ (fun r => (∀ c : Dev Cert.KernelInDx0.nD,
      r.2.mem ((c.tc : Thread Cert.KernelInDx0.nD Cert.KernelInDx0.τ).loc Cert.KernelInDx0.main_arg0) = m ((c.tc : Thread Cert.KernelInDx0.nD Cert.KernelInDx0.τ).loc Cert.KernelInDx0.main_arg0)
      ∧ r.2.mem ((c.tc : Thread Cert.KernelInDx0.nD Cert.KernelInDx0.τ).loc Cert.KernelInDx0.main_arg1) = m ((c.tc : Thread Cert.KernelInDx0.nD Cert.KernelInDx0.τ).loc Cert.KernelInDx0.main_arg1))
      ∧ r.2.sem = fun _ => 0)

def quiescent_KernelInDx0Ideal [hKernelInDx0Ideal : Cert.KernelInDx0Ideal.Facts] : Prop :=
  ∀ (m : (ℓ : Loc Cert.KernelInDx0Ideal.nD Cert.KernelInDx0Ideal.τ Cert.KernelInDx0Ideal.sig) → Buf (Elt Ideal) ℓ) (g : Dev Cert.KernelInDx0Ideal.nD → PrngReg), Pre_KernelInDx0Ideal m →
    θ_run (Cert.KernelInDx0Ideal.defs (F := Ideal)) (onTc (τ := Cert.KernelInDx0Ideal.τ) (Cert.KernelInDx0Ideal.main (F := Ideal))) ⟨m, fun _ => 0, g⟩ (fun r => (∀ c : Dev Cert.KernelInDx0Ideal.nD,
      r.2.mem ((c.tc : Thread Cert.KernelInDx0Ideal.nD Cert.KernelInDx0Ideal.τ).loc Cert.KernelInDx0Ideal.main_arg0) = m ((c.tc : Thread Cert.KernelInDx0Ideal.nD Cert.KernelInDx0Ideal.τ).loc Cert.KernelInDx0Ideal.main_arg0)
      ∧ r.2.mem ((c.tc : Thread Cert.KernelInDx0Ideal.nD Cert.KernelInDx0Ideal.τ).loc Cert.KernelInDx0Ideal.main_arg1) = m ((c.tc : Thread Cert.KernelInDx0Ideal.nD Cert.KernelInDx0Ideal.τ).loc Cert.KernelInDx0Ideal.main_arg1))
      ∧ r.2.sem = fun _ => 0)

def quiescent_ReferenceInDx0Ideal [hReferenceInDx0Ideal : Cert.ReferenceInDx0Ideal.Facts] : Prop :=
  ∀ (m : (ℓ : Loc Cert.ReferenceInDx0Ideal.nD Cert.ReferenceInDx0Ideal.τ Cert.ReferenceInDx0Ideal.sig) → Buf (Elt Ideal) ℓ) (g : Dev Cert.ReferenceInDx0Ideal.nD → PrngReg), Pre_ReferenceInDx0Ideal m →
    θ_run (Cert.ReferenceInDx0Ideal.defs (F := Ideal)) (onTc (τ := Cert.ReferenceInDx0Ideal.τ) (Cert.ReferenceInDx0Ideal.main (F := Ideal))) ⟨m, fun _ => 0, g⟩ (fun r => (∀ c : Dev Cert.ReferenceInDx0Ideal.nD,
      r.2.mem ((c.tc : Thread Cert.ReferenceInDx0Ideal.nD Cert.ReferenceInDx0Ideal.τ).loc Cert.ReferenceInDx0Ideal.main_arg0) = m ((c.tc : Thread Cert.ReferenceInDx0Ideal.nD Cert.ReferenceInDx0Ideal.τ).loc Cert.ReferenceInDx0Ideal.main_arg0)
      ∧ r.2.mem ((c.tc : Thread Cert.ReferenceInDx0Ideal.nD Cert.ReferenceInDx0Ideal.τ).loc Cert.ReferenceInDx0Ideal.main_arg1) = m ((c.tc : Thread Cert.ReferenceInDx0Ideal.nD Cert.ReferenceInDx0Ideal.τ).loc Cert.ReferenceInDx0Ideal.main_arg1))
      ∧ r.2.sem = fun _ => 0)

def quiescent_KernelOutDx0 [hKernelOutDx0 : Cert.KernelOutDx0.Facts] : Prop :=
  ∀ (m : (ℓ : Loc Cert.KernelOutDx0.nD Cert.KernelOutDx0.τ Cert.KernelOutDx0.sig) → Buf (Elt Bits) ℓ) (g : Dev Cert.KernelOutDx0.nD → PrngReg), Pre_KernelOutDx0 m →
    θ_run (Cert.KernelOutDx0.defs (F := Bits)) (onTc (τ := Cert.KernelOutDx0.τ) (Cert.KernelOutDx0.main (F := Bits))) ⟨m, fun _ => 0, g⟩ (fun r => (∀ c : Dev Cert.KernelOutDx0.nD,
      r.2.mem ((c.tc : Thread Cert.KernelOutDx0.nD Cert.KernelOutDx0.τ).loc Cert.KernelOutDx0.main_arg0) = m ((c.tc : Thread Cert.KernelOutDx0.nD Cert.KernelOutDx0.τ).loc Cert.KernelOutDx0.main_arg0)
      ∧ r.2.mem ((c.tc : Thread Cert.KernelOutDx0.nD Cert.KernelOutDx0.τ).loc Cert.KernelOutDx0.main_arg1) = m ((c.tc : Thread Cert.KernelOutDx0.nD Cert.KernelOutDx0.τ).loc Cert.KernelOutDx0.main_arg1))
      ∧ r.2.sem = fun _ => 0)

def quiescent_KernelOutDx0Ideal [hKernelOutDx0Ideal : Cert.KernelOutDx0Ideal.Facts] : Prop :=
  ∀ (m : (ℓ : Loc Cert.KernelOutDx0Ideal.nD Cert.KernelOutDx0Ideal.τ Cert.KernelOutDx0Ideal.sig) → Buf (Elt Ideal) ℓ) (g : Dev Cert.KernelOutDx0Ideal.nD → PrngReg), Pre_KernelOutDx0Ideal m →
    θ_run (Cert.KernelOutDx0Ideal.defs (F := Ideal)) (onTc (τ := Cert.KernelOutDx0Ideal.τ) (Cert.KernelOutDx0Ideal.main (F := Ideal))) ⟨m, fun _ => 0, g⟩ (fun r => (∀ c : Dev Cert.KernelOutDx0Ideal.nD,
      r.2.mem ((c.tc : Thread Cert.KernelOutDx0Ideal.nD Cert.KernelOutDx0Ideal.τ).loc Cert.KernelOutDx0Ideal.main_arg0) = m ((c.tc : Thread Cert.KernelOutDx0Ideal.nD Cert.KernelOutDx0Ideal.τ).loc Cert.KernelOutDx0Ideal.main_arg0)
      ∧ r.2.mem ((c.tc : Thread Cert.KernelOutDx0Ideal.nD Cert.KernelOutDx0Ideal.τ).loc Cert.KernelOutDx0Ideal.main_arg1) = m ((c.tc : Thread Cert.KernelOutDx0Ideal.nD Cert.KernelOutDx0Ideal.τ).loc Cert.KernelOutDx0Ideal.main_arg1))
      ∧ r.2.sem = fun _ => 0)

def quiescent_ReferenceOutDx0Ideal [hReferenceOutDx0Ideal : Cert.ReferenceOutDx0Ideal.Facts] : Prop :=
  ∀ (m : (ℓ : Loc Cert.ReferenceOutDx0Ideal.nD Cert.ReferenceOutDx0Ideal.τ Cert.ReferenceOutDx0Ideal.sig) → Buf (Elt Ideal) ℓ) (g : Dev Cert.ReferenceOutDx0Ideal.nD → PrngReg), Pre_ReferenceOutDx0Ideal m →
    θ_run (Cert.ReferenceOutDx0Ideal.defs (F := Ideal)) (onTc (τ := Cert.ReferenceOutDx0Ideal.τ) (Cert.ReferenceOutDx0Ideal.main (F := Ideal))) ⟨m, fun _ => 0, g⟩ (fun r => (∀ c : Dev Cert.ReferenceOutDx0Ideal.nD,
      r.2.mem ((c.tc : Thread Cert.ReferenceOutDx0Ideal.nD Cert.ReferenceOutDx0Ideal.τ).loc Cert.ReferenceOutDx0Ideal.main_arg0) = m ((c.tc : Thread Cert.ReferenceOutDx0Ideal.nD Cert.ReferenceOutDx0Ideal.τ).loc Cert.ReferenceOutDx0Ideal.main_arg0)
      ∧ r.2.mem ((c.tc : Thread Cert.ReferenceOutDx0Ideal.nD Cert.ReferenceOutDx0Ideal.τ).loc Cert.ReferenceOutDx0Ideal.main_arg1) = m ((c.tc : Thread Cert.ReferenceOutDx0Ideal.nD Cert.ReferenceOutDx0Ideal.τ).loc Cert.ReferenceOutDx0Ideal.main_arg1))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamGlu [hKernelAdamGlu : Cert.KernelAdamGlu.Facts] : Prop :=
  ∀ (m : (ℓ : Loc Cert.KernelAdamGlu.nD Cert.KernelAdamGlu.τ Cert.KernelAdamGlu.sig) → Buf (Elt Bits) ℓ) (g : Dev Cert.KernelAdamGlu.nD → PrngReg), Pre_KernelAdamGlu m →
    θ_run (Cert.KernelAdamGlu.defs (F := Bits)) (onTc (τ := Cert.KernelAdamGlu.τ) (Cert.KernelAdamGlu.main (F := Bits))) ⟨m, fun _ => 0, g⟩ (fun r => (∀ c : Dev Cert.KernelAdamGlu.nD,
      r.2.mem ((c.tc : Thread Cert.KernelAdamGlu.nD Cert.KernelAdamGlu.τ).loc Cert.KernelAdamGlu.main_arg0) = m ((c.tc : Thread Cert.KernelAdamGlu.nD Cert.KernelAdamGlu.τ).loc Cert.KernelAdamGlu.main_arg0)
      ∧ r.2.mem ((c.tc : Thread Cert.KernelAdamGlu.nD Cert.KernelAdamGlu.τ).loc Cert.KernelAdamGlu.main_arg1) = m ((c.tc : Thread Cert.KernelAdamGlu.nD Cert.KernelAdamGlu.τ).loc Cert.KernelAdamGlu.main_arg1)
      ∧ r.2.mem ((c.tc : Thread Cert.KernelAdamGlu.nD Cert.KernelAdamGlu.τ).loc Cert.KernelAdamGlu.main_arg2) = m ((c.tc : Thread Cert.KernelAdamGlu.nD Cert.KernelAdamGlu.τ).loc Cert.KernelAdamGlu.main_arg2)
      ∧ r.2.mem ((c.tc : Thread Cert.KernelAdamGlu.nD Cert.KernelAdamGlu.τ).loc Cert.KernelAdamGlu.main_arg3) = m ((c.tc : Thread Cert.KernelAdamGlu.nD Cert.KernelAdamGlu.τ).loc Cert.KernelAdamGlu.main_arg3))
      ∧ r.2.sem = fun _ => 0)

def quiescent_KernelAdamGluIdeal [hKernelAdamGluIdeal : Cert.KernelAdamGluIdeal.Facts] : Prop :=
  ∀ (m : (ℓ : Loc Cert.KernelAdamGluIdeal.nD Cert.KernelAdamGluIdeal.τ Cert.KernelAdamGluIdeal.sig) → Buf (Elt Ideal) ℓ) (g : Dev Cert.KernelAdamGluIdeal.nD → PrngReg), Pre_KernelAdamGluIdeal m →
    θ_run (Cert.KernelAdamGluIdeal.defs (F := Ideal)) (onTc (τ := Cert.KernelAdamGluIdeal.τ) (Cert.KernelAdamGluIdeal.main (F := Ideal))) ⟨m, fun _ => 0, g⟩ (fun r => (∀ c : Dev Cert.KernelAdamGluIdeal.nD,
      r.2.mem ((c.tc : Thread Cert.KernelAdamGluIdeal.nD Cert.KernelAdamGluIdeal.τ).loc Cert.KernelAdamGluIdeal.main_arg0) = m ((c.tc : Thread Cert.KernelAdamGluIdeal.nD Cert.KernelAdamGluIdeal.τ).loc Cert.KernelAdamGluIdeal.main_arg0)
      ∧ r.2.mem ((c.tc : Thread Cert.KernelAdamGluIdeal.nD Cert.KernelAdamGluIdeal.τ).loc Cert.KernelAdamGluIdeal.main_arg1) = m ((c.tc : Thread Cert.KernelAdamGluIdeal.nD Cert.KernelAdamGluIdeal.τ).loc Cert.KernelAdamGluIdeal.main_arg1)
      ∧ r.2.mem ((c.tc : Thread Cert.KernelAdamGluIdeal.nD Cert.KernelAdamGluIdeal.τ).loc Cert.KernelAdamGluIdeal.main_arg2) = m ((c.tc : Thread Cert.KernelAdamGluIdeal.nD Cert.KernelAdamGluIdeal.τ).loc Cert.KernelAdamGluIdeal.main_arg2)
      ∧ r.2.mem ((c.tc : Thread Cert.KernelAdamGluIdeal.nD Cert.KernelAdamGluIdeal.τ).loc Cert.KernelAdamGluIdeal.main_arg3) = m ((c.tc : Thread Cert.KernelAdamGluIdeal.nD Cert.KernelAdamGluIdeal.τ).loc Cert.KernelAdamGluIdeal.main_arg3))
      ∧ r.2.sem = fun _ => 0)

def quiescent_ReferenceAdamGluIdeal [hReferenceAdamGluIdeal : Cert.ReferenceAdamGluIdeal.Facts] : Prop :=
  ∀ (m : (ℓ : Loc Cert.ReferenceAdamGluIdeal.nD Cert.ReferenceAdamGluIdeal.τ Cert.ReferenceAdamGluIdeal.sig) → Buf (Elt Ideal) ℓ) (g : Dev Cert.ReferenceAdamGluIdeal.nD → PrngReg), Pre_ReferenceAdamGluIdeal m →
    θ_run (Cert.ReferenceAdamGluIdeal.defs (F := Ideal)) (onTc (τ := Cert.ReferenceAdamGluIdeal.τ) (Cert.ReferenceAdamGluIdeal.main (F := Ideal))) ⟨m, fun _ => 0, g⟩ (fun r => (∀ c : Dev Cert.ReferenceAdamGluIdeal.nD,
      r.2.mem ((c.tc : Thread Cert.ReferenceAdamGluIdeal.nD Cert.ReferenceAdamGluIdeal.τ).loc Cert.ReferenceAdamGluIdeal.main_arg0) = m ((c.tc : Thread Cert.ReferenceAdamGluIdeal.nD Cert.ReferenceAdamGluIdeal.τ).loc Cert.ReferenceAdamGluIdeal.main_arg0)
      ∧ r.2.mem ((c.tc : Thread Cert.ReferenceAdamGluIdeal.nD Cert.ReferenceAdamGluIdeal.τ).loc Cert.ReferenceAdamGluIdeal.main_arg1) = m ((c.tc : Thread Cert.ReferenceAdamGluIdeal.nD Cert.ReferenceAdamGluIdeal.τ).loc Cert.ReferenceAdamGluIdeal.main_arg1)
      ∧ r.2.mem ((c.tc : Thread Cert.ReferenceAdamGluIdeal.nD Cert.ReferenceAdamGluIdeal.τ).loc Cert.ReferenceAdamGluIdeal.main_arg2) = m ((c.tc : Thread Cert.ReferenceAdamGluIdeal.nD Cert.ReferenceAdamGluIdeal.τ).loc Cert.ReferenceAdamGluIdeal.main_arg2)
      ∧ r.2.mem ((c.tc : Thread Cert.ReferenceAdamGluIdeal.nD Cert.ReferenceAdamGluIdeal.τ).loc Cert.ReferenceAdamGluIdeal.main_arg3) = m ((c.tc : Thread Cert.ReferenceAdamGluIdeal.nD Cert.ReferenceAdamGluIdeal.τ).loc Cert.ReferenceAdamGluIdeal.main_arg3))
      ∧ r.2.sem = fun _ => 0)

def quiescent_KernelAdamQkv [hKernelAdamQkv : Cert.KernelAdamQkv.Facts] : Prop :=
  ∀ (m : (ℓ : Loc Cert.KernelAdamQkv.nD Cert.KernelAdamQkv.τ Cert.KernelAdamQkv.sig) → Buf (Elt Bits) ℓ) (g : Dev Cert.KernelAdamQkv.nD → PrngReg), Pre_KernelAdamQkv m →
    θ_run (Cert.KernelAdamQkv.defs (F := Bits)) (onTc (τ := Cert.KernelAdamQkv.τ) (Cert.KernelAdamQkv.main (F := Bits))) ⟨m, fun _ => 0, g⟩ (fun r => (∀ c : Dev Cert.KernelAdamQkv.nD,
      r.2.mem ((c.tc : Thread Cert.KernelAdamQkv.nD Cert.KernelAdamQkv.τ).loc Cert.KernelAdamQkv.main_arg0) = m ((c.tc : Thread Cert.KernelAdamQkv.nD Cert.KernelAdamQkv.τ).loc Cert.KernelAdamQkv.main_arg0)
      ∧ r.2.mem ((c.tc : Thread Cert.KernelAdamQkv.nD Cert.KernelAdamQkv.τ).loc Cert.KernelAdamQkv.main_arg1) = m ((c.tc : Thread Cert.KernelAdamQkv.nD Cert.KernelAdamQkv.τ).loc Cert.KernelAdamQkv.main_arg1)
      ∧ r.2.mem ((c.tc : Thread Cert.KernelAdamQkv.nD Cert.KernelAdamQkv.τ).loc Cert.KernelAdamQkv.main_arg2) = m ((c.tc : Thread Cert.KernelAdamQkv.nD Cert.KernelAdamQkv.τ).loc Cert.KernelAdamQkv.main_arg2)
      ∧ r.2.mem ((c.tc : Thread Cert.KernelAdamQkv.nD Cert.KernelAdamQkv.τ).loc Cert.KernelAdamQkv.main_arg3) = m ((c.tc : Thread Cert.KernelAdamQkv.nD Cert.KernelAdamQkv.τ).loc Cert.KernelAdamQkv.main_arg3))
      ∧ r.2.sem = fun _ => 0)

def quiescent_KernelAdamQkvIdeal [hKernelAdamQkvIdeal : Cert.KernelAdamQkvIdeal.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg), Pre_KernelAdamQkvIdeal m →
    θ_run (Cert.KernelAdamQkvIdeal.defs (F := Ideal)) (onTc (τ := Cert.KernelAdamQkvIdeal.τ) (Cert.KernelAdamQkvIdeal.main (F := Ideal))) ⟨m, fun _ => 0, g⟩ (fun r => (∀ c : Dev Cert.KernelAdamQkvIdeal.nD,
      r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
      ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
      ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
      ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3))
      ∧ r.2.sem = fun _ => 0)

def quiescent_ReferenceAdamQkvIdeal [hReferenceAdamQkvIdeal : Cert.ReferenceAdamQkvIdeal.Facts] : Prop :=
  ∀ (m : (ℓ : Loc Cert.ReferenceAdamQkvIdeal.nD Cert.ReferenceAdamQkvIdeal.τ Cert.ReferenceAdamQkvIdeal.sig) → Buf (Elt Ideal) ℓ) (g : Dev Cert.ReferenceAdamQkvIdeal.nD → PrngReg), Pre_ReferenceAdamQkvIdeal m →
    θ_run (Cert.ReferenceAdamQkvIdeal.defs (F := Ideal)) (onTc (τ := Cert.ReferenceAdamQkvIdeal.τ) (Cert.ReferenceAdamQkvIdeal.main (F := Ideal))) ⟨m, fun _ => 0, g⟩ (fun r => (∀ c : Dev Cert.ReferenceAdamQkvIdeal.nD,
      r.2.mem ((c.tc : Thread Cert.ReferenceAdamQkvIdeal.nD Cert.ReferenceAdamQkvIdeal.τ).loc Cert.ReferenceAdamQkvIdeal.main_arg0) = m ((c.tc : Thread Cert.ReferenceAdamQkvIdeal.nD Cert.ReferenceAdamQkvIdeal.τ).loc Cert.ReferenceAdamQkvIdeal.main_arg0)
      ∧ r.2.mem ((c.tc : Thread Cert.ReferenceAdamQkvIdeal.nD Cert.ReferenceAdamQkvIdeal.τ).loc Cert.ReferenceAdamQkvIdeal.main_arg1) = m ((c.tc : Thread Cert.ReferenceAdamQkvIdeal.nD Cert.ReferenceAdamQkvIdeal.τ).loc Cert.ReferenceAdamQkvIdeal.main_arg1)
      ∧ r.2.mem ((c.tc : Thread Cert.ReferenceAdamQkvIdeal.nD Cert.ReferenceAdamQkvIdeal.τ).loc Cert.ReferenceAdamQkvIdeal.main_arg2) = m ((c.tc : Thread Cert.ReferenceAdamQkvIdeal.nD Cert.ReferenceAdamQkvIdeal.τ).loc Cert.ReferenceAdamQkvIdeal.main_arg2)
      ∧ r.2.mem ((c.tc : Thread Cert.ReferenceAdamQkvIdeal.nD Cert.ReferenceAdamQkvIdeal.τ).loc Cert.ReferenceAdamQkvIdeal.main_arg3) = m ((c.tc : Thread Cert.ReferenceAdamQkvIdeal.nD Cert.ReferenceAdamQkvIdeal.τ).loc Cert.ReferenceAdamQkvIdeal.main_arg3))
      ∧ r.2.sem = fun _ => 0)

def quiescent_KernelAdamMlp [hKernelAdamMlp : Cert.KernelAdamMlp.Facts] : Prop :=
  ∀ (m : (ℓ : Loc Cert.KernelAdamMlp.nD Cert.KernelAdamMlp.τ Cert.KernelAdamMlp.sig) → Buf (Elt Bits) ℓ) (g : Dev Cert.KernelAdamMlp.nD → PrngReg), Pre_KernelAdamMlp m →
    θ_run (Cert.KernelAdamMlp.defs (F := Bits)) (onTc (τ := Cert.KernelAdamMlp.τ) (Cert.KernelAdamMlp.main (F := Bits))) ⟨m, fun _ => 0, g⟩ (fun r => (∀ c : Dev Cert.KernelAdamMlp.nD,
      r.2.mem ((c.tc : Thread Cert.KernelAdamMlp.nD Cert.KernelAdamMlp.τ).loc Cert.KernelAdamMlp.main_arg0) = m ((c.tc : Thread Cert.KernelAdamMlp.nD Cert.KernelAdamMlp.τ).loc Cert.KernelAdamMlp.main_arg0)
      ∧ r.2.mem ((c.tc : Thread Cert.KernelAdamMlp.nD Cert.KernelAdamMlp.τ).loc Cert.KernelAdamMlp.main_arg1) = m ((c.tc : Thread Cert.KernelAdamMlp.nD Cert.KernelAdamMlp.τ).loc Cert.KernelAdamMlp.main_arg1)
      ∧ r.2.mem ((c.tc : Thread Cert.KernelAdamMlp.nD Cert.KernelAdamMlp.τ).loc Cert.KernelAdamMlp.main_arg2) = m ((c.tc : Thread Cert.KernelAdamMlp.nD Cert.KernelAdamMlp.τ).loc Cert.KernelAdamMlp.main_arg2)
      ∧ r.2.mem ((c.tc : Thread Cert.KernelAdamMlp.nD Cert.KernelAdamMlp.τ).loc Cert.KernelAdamMlp.main_arg3) = m ((c.tc : Thread Cert.KernelAdamMlp.nD Cert.KernelAdamMlp.τ).loc Cert.KernelAdamMlp.main_arg3))
      ∧ r.2.sem = fun _ => 0)

def quiescent_KernelAdamMlpIdeal [hKernelAdamMlpIdeal : Cert.KernelAdamMlpIdeal.Facts] : Prop :=
  ∀ (m : (ℓ : Loc Cert.KernelAdamMlpIdeal.nD Cert.KernelAdamMlpIdeal.τ Cert.KernelAdamMlpIdeal.sig) → Buf (Elt Ideal) ℓ) (g : Dev Cert.KernelAdamMlpIdeal.nD → PrngReg), Pre_KernelAdamMlpIdeal m →
    θ_run (Cert.KernelAdamMlpIdeal.defs (F := Ideal)) (onTc (τ := Cert.KernelAdamMlpIdeal.τ) (Cert.KernelAdamMlpIdeal.main (F := Ideal))) ⟨m, fun _ => 0, g⟩ (fun r => (∀ c : Dev Cert.KernelAdamMlpIdeal.nD,
      r.2.mem ((c.tc : Thread Cert.KernelAdamMlpIdeal.nD Cert.KernelAdamMlpIdeal.τ).loc Cert.KernelAdamMlpIdeal.main_arg0) = m ((c.tc : Thread Cert.KernelAdamMlpIdeal.nD Cert.KernelAdamMlpIdeal.τ).loc Cert.KernelAdamMlpIdeal.main_arg0)
      ∧ r.2.mem ((c.tc : Thread Cert.KernelAdamMlpIdeal.nD Cert.KernelAdamMlpIdeal.τ).loc Cert.KernelAdamMlpIdeal.main_arg1) = m ((c.tc : Thread Cert.KernelAdamMlpIdeal.nD Cert.KernelAdamMlpIdeal.τ).loc Cert.KernelAdamMlpIdeal.main_arg1)
      ∧ r.2.mem ((c.tc : Thread Cert.KernelAdamMlpIdeal.nD Cert.KernelAdamMlpIdeal.τ).loc Cert.KernelAdamMlpIdeal.main_arg2) = m ((c.tc : Thread Cert.KernelAdamMlpIdeal.nD Cert.KernelAdamMlpIdeal.τ).loc Cert.KernelAdamMlpIdeal.main_arg2)
      ∧ r.2.mem ((c.tc : Thread Cert.KernelAdamMlpIdeal.nD Cert.KernelAdamMlpIdeal.τ).loc Cert.KernelAdamMlpIdeal.main_arg3) = m ((c.tc : Thread Cert.KernelAdamMlpIdeal.nD Cert.KernelAdamMlpIdeal.τ).loc Cert.KernelAdamMlpIdeal.main_arg3))
      ∧ r.2.sem = fun _ => 0)

def quiescent_ReferenceAdamMlpIdeal [hReferenceAdamMlpIdeal : Cert.ReferenceAdamMlpIdeal.Facts] : Prop :=
  ∀ (m : (ℓ : Loc Cert.ReferenceAdamMlpIdeal.nD Cert.ReferenceAdamMlpIdeal.τ Cert.ReferenceAdamMlpIdeal.sig) → Buf (Elt Ideal) ℓ) (g : Dev Cert.ReferenceAdamMlpIdeal.nD → PrngReg), Pre_ReferenceAdamMlpIdeal m →
    θ_run (Cert.ReferenceAdamMlpIdeal.defs (F := Ideal)) (onTc (τ := Cert.ReferenceAdamMlpIdeal.τ) (Cert.ReferenceAdamMlpIdeal.main (F := Ideal))) ⟨m, fun _ => 0, g⟩ (fun r => (∀ c : Dev Cert.ReferenceAdamMlpIdeal.nD,
      r.2.mem ((c.tc : Thread Cert.ReferenceAdamMlpIdeal.nD Cert.ReferenceAdamMlpIdeal.τ).loc Cert.ReferenceAdamMlpIdeal.main_arg0) = m ((c.tc : Thread Cert.ReferenceAdamMlpIdeal.nD Cert.ReferenceAdamMlpIdeal.τ).loc Cert.ReferenceAdamMlpIdeal.main_arg0)
      ∧ r.2.mem ((c.tc : Thread Cert.ReferenceAdamMlpIdeal.nD Cert.ReferenceAdamMlpIdeal.τ).loc Cert.ReferenceAdamMlpIdeal.main_arg1) = m ((c.tc : Thread Cert.ReferenceAdamMlpIdeal.nD Cert.ReferenceAdamMlpIdeal.τ).loc Cert.ReferenceAdamMlpIdeal.main_arg1)
      ∧ r.2.mem ((c.tc : Thread Cert.ReferenceAdamMlpIdeal.nD Cert.ReferenceAdamMlpIdeal.τ).loc Cert.ReferenceAdamMlpIdeal.main_arg2) = m ((c.tc : Thread Cert.ReferenceAdamMlpIdeal.nD Cert.ReferenceAdamMlpIdeal.τ).loc Cert.ReferenceAdamMlpIdeal.main_arg2)
      ∧ r.2.mem ((c.tc : Thread Cert.ReferenceAdamMlpIdeal.nD Cert.ReferenceAdamMlpIdeal.τ).loc Cert.ReferenceAdamMlpIdeal.main_arg3) = m ((c.tc : Thread Cert.ReferenceAdamMlpIdeal.nD Cert.ReferenceAdamMlpIdeal.τ).loc Cert.ReferenceAdamMlpIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v177_0)) (v1 : (c : Dev Cert.KernelIdeal.nD) → Buf (Elt Ideal) ((c.tc : Thread Cert.KernelIdeal.nD Cert.KernelIdeal.τ).loc Cert.KernelIdeal.main_v177_1)) (v2 : (c : Dev Cert.KernelIdeal.nD) → Buf (Elt Ideal) ((c.tc : Thread Cert.KernelIdeal.nD Cert.KernelIdeal.τ).loc Cert.KernelIdeal.main_v177_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177_0) = v0 c
          ∧ r.2.mem ((c.tc : Thread Cert.KernelIdeal.nD Cert.KernelIdeal.τ).loc Cert.KernelIdeal.main_v177_1) = v1 c
          ∧ r.2.mem ((c.tc : Thread Cert.KernelIdeal.nD Cert.KernelIdeal.τ).loc Cert.KernelIdeal.main_v177_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v7)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v7) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v26) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)
      ∧ m' ((c.tc : Thread Cert.ReferenceDw2Ideal.nD Cert.ReferenceDw2Ideal.τ).loc Cert.ReferenceDw2Ideal.main_arg2) = m ((c.tc : Thread Cert.KernelDw2Ideal.nD Cert.KernelDw2Ideal.τ).loc Cert.KernelDw2Ideal.main_arg2)) →
    ∃ (v0 : (c : Dev Cert.KernelDw2Ideal.nD) → Buf (Elt Ideal) ((c.tc : Thread Cert.KernelDw2Ideal.nD Cert.KernelDw2Ideal.τ).loc Cert.KernelDw2Ideal.main_v10)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v10) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1)
          ∧ r.2.mem ((c.tc : Thread Cert.KernelDw2Ideal.nD Cert.KernelDw2Ideal.τ).loc Cert.KernelDw2Ideal.main_arg2) = m ((c.tc : Thread Cert.KernelDw2Ideal.nD Cert.KernelDw2Ideal.τ).loc Cert.KernelDw2Ideal.main_arg2))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v14) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1)
          ∧ r.2.mem ((c.tc : Thread Cert.ReferenceDw2Ideal.nD Cert.ReferenceDw2Ideal.τ).loc Cert.ReferenceDw2Ideal.main_arg2) = m' ((c.tc : Thread Cert.ReferenceDw2Ideal.nD Cert.ReferenceDw2Ideal.τ).loc Cert.ReferenceDw2Ideal.main_arg2))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)) →
    ∃ (v0 : (c : Dev Cert.KernelDw1Ideal.nD) → Buf (Elt Ideal) ((c.tc : Thread Cert.KernelDw1Ideal.nD Cert.KernelDw1Ideal.τ).loc Cert.KernelDw1Ideal.main_v0)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v0) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v7) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1))

def preserves_KernelDxn_KernelDxnIdeal : Prop :=
  True

def algebraic_KernelDxnIdeal_ReferenceDxnIdeal [hKernelDxnIdeal : Cert.KernelDxnIdeal.Facts] [hReferenceDxnIdeal : Cert.ReferenceDxnIdeal.Facts] : Prop :=
  ∀ (m : (ℓ : Loc Cert.KernelDxnIdeal.nD Cert.KernelDxnIdeal.τ Cert.KernelDxnIdeal.sig) → Buf (Elt Ideal) ℓ) (g : Dev Cert.KernelDxnIdeal.nD → PrngReg)
    (m' : (ℓ : Loc Cert.ReferenceDxnIdeal.nD Cert.ReferenceDxnIdeal.τ Cert.ReferenceDxnIdeal.sig) → Buf (Elt Ideal) ℓ) (g' : Dev Cert.ReferenceDxnIdeal.nD → PrngReg), Pre_KernelDxnIdeal m →
    (∀ c : Dev Cert.KernelDxnIdeal.nD,
      m' ((c.tc : Thread Cert.ReferenceDxnIdeal.nD Cert.ReferenceDxnIdeal.τ).loc Cert.ReferenceDxnIdeal.main_arg0) = m ((c.tc : Thread Cert.KernelDxnIdeal.nD Cert.KernelDxnIdeal.τ).loc Cert.KernelDxnIdeal.main_arg0)
      ∧ m' ((c.tc : Thread Cert.ReferenceDxnIdeal.nD Cert.ReferenceDxnIdeal.τ).loc Cert.ReferenceDxnIdeal.main_arg1) = m ((c.tc : Thread Cert.KernelDxnIdeal.nD Cert.KernelDxnIdeal.τ).loc Cert.KernelDxnIdeal.main_arg1)) →
    ∃ (v0 : (c : Dev Cert.KernelDxnIdeal.nD) → Buf (Elt Ideal) ((c.tc : Thread Cert.KernelDxnIdeal.nD Cert.KernelDxnIdeal.τ).loc Cert.KernelDxnIdeal.main_v0)),
      θ_run (Cert.KernelDxnIdeal.defs (F := Ideal)) (onTc (τ := Cert.KernelDxnIdeal.τ) (Cert.KernelDxnIdeal.main (F := Ideal))) ⟨m, fun _ => 0, g⟩ (fun r => ∀ c : Dev Cert.KernelDxnIdeal.nD,
          r.2.mem ((c.tc : Thread Cert.KernelDxnIdeal.nD Cert.KernelDxnIdeal.τ).loc Cert.KernelDxnIdeal.main_v0) = v0 c
          ∧ r.2.mem ((c.tc : Thread Cert.KernelDxnIdeal.nD Cert.KernelDxnIdeal.τ).loc Cert.KernelDxnIdeal.main_arg0) = m ((c.tc : Thread Cert.KernelDxnIdeal.nD Cert.KernelDxnIdeal.τ).loc Cert.KernelDxnIdeal.main_arg0)
          ∧ r.2.mem ((c.tc : Thread Cert.KernelDxnIdeal.nD Cert.KernelDxnIdeal.τ).loc Cert.KernelDxnIdeal.main_arg1) = m ((c.tc : Thread Cert.KernelDxnIdeal.nD Cert.KernelDxnIdeal.τ).loc Cert.KernelDxnIdeal.main_arg1))
      ∧ θ_run (Cert.ReferenceDxnIdeal.defs (F := Ideal)) (onTc (τ := Cert.ReferenceDxnIdeal.τ) (Cert.ReferenceDxnIdeal.main (F := Ideal))) ⟨m', fun _ => 0, g'⟩ (fun r => ∀ c : Dev Cert.ReferenceDxnIdeal.nD,
          r.2.mem ((c.tc : Thread Cert.ReferenceDxnIdeal.nD Cert.ReferenceDxnIdeal.τ).loc Cert.ReferenceDxnIdeal.main_v8) = v0 c
          ∧ r.2.mem ((c.tc : Thread Cert.ReferenceDxnIdeal.nD Cert.ReferenceDxnIdeal.τ).loc Cert.ReferenceDxnIdeal.main_arg0) = m' ((c.tc : Thread Cert.ReferenceDxnIdeal.nD Cert.ReferenceDxnIdeal.τ).loc Cert.ReferenceDxnIdeal.main_arg0)
          ∧ r.2.mem ((c.tc : Thread Cert.ReferenceDxnIdeal.nD Cert.ReferenceDxnIdeal.τ).loc Cert.ReferenceDxnIdeal.main_arg1) = m' ((c.tc : Thread Cert.ReferenceDxnIdeal.nD Cert.ReferenceDxnIdeal.τ).loc Cert.ReferenceDxnIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_v9) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v7) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelQkvDx_KernelQkvDxIdeal : Prop :=
  True

def algebraic_KernelQkvDxIdeal_ReferenceQkvDxIdeal [hKernelQkvDxIdeal : Cert.KernelQkvDxIdeal.Facts] [hReferenceQkvDxIdeal : Cert.ReferenceQkvDxIdeal.Facts] : Prop :=
  ∀ (m : (ℓ : Loc Cert.KernelQkvDxIdeal.nD Cert.KernelQkvDxIdeal.τ Cert.KernelQkvDxIdeal.sig) → Buf (Elt Ideal) ℓ) (g : Dev Cert.KernelQkvDxIdeal.nD → PrngReg)
    (m' : (ℓ : Loc Cert.ReferenceQkvDxIdeal.nD Cert.ReferenceQkvDxIdeal.τ Cert.ReferenceQkvDxIdeal.sig) → Buf (Elt Ideal) ℓ) (g' : Dev Cert.ReferenceQkvDxIdeal.nD → PrngReg), Pre_KernelQkvDxIdeal m →
    (∀ c : Dev Cert.KernelQkvDxIdeal.nD,
      m' ((c.tc : Thread Cert.ReferenceQkvDxIdeal.nD Cert.ReferenceQkvDxIdeal.τ).loc Cert.ReferenceQkvDxIdeal.main_arg0) = m ((c.tc : Thread Cert.KernelQkvDxIdeal.nD Cert.KernelQkvDxIdeal.τ).loc Cert.KernelQkvDxIdeal.main_arg0)
      ∧ m' ((c.tc : Thread Cert.ReferenceQkvDxIdeal.nD Cert.ReferenceQkvDxIdeal.τ).loc Cert.ReferenceQkvDxIdeal.main_arg1) = m ((c.tc : Thread Cert.KernelQkvDxIdeal.nD Cert.KernelQkvDxIdeal.τ).loc Cert.KernelQkvDxIdeal.main_arg1)) →
    ∃ (v0 : (c : Dev Cert.KernelQkvDxIdeal.nD) → Buf (Elt Ideal) ((c.tc : Thread Cert.KernelQkvDxIdeal.nD Cert.KernelQkvDxIdeal.τ).loc Cert.KernelQkvDxIdeal.main_v0)),
      θ_run (Cert.KernelQkvDxIdeal.defs (F := Ideal)) (onTc (τ := Cert.KernelQkvDxIdeal.τ) (Cert.KernelQkvDxIdeal.main (F := Ideal))) ⟨m, fun _ => 0, g⟩ (fun r => ∀ c : Dev Cert.KernelQkvDxIdeal.nD,
          r.2.mem ((c.tc : Thread Cert.KernelQkvDxIdeal.nD Cert.KernelQkvDxIdeal.τ).loc Cert.KernelQkvDxIdeal.main_v0) = v0 c
          ∧ r.2.mem ((c.tc : Thread Cert.KernelQkvDxIdeal.nD Cert.KernelQkvDxIdeal.τ).loc Cert.KernelQkvDxIdeal.main_arg0) = m ((c.tc : Thread Cert.KernelQkvDxIdeal.nD Cert.KernelQkvDxIdeal.τ).loc Cert.KernelQkvDxIdeal.main_arg0)
          ∧ r.2.mem ((c.tc : Thread Cert.KernelQkvDxIdeal.nD Cert.KernelQkvDxIdeal.τ).loc Cert.KernelQkvDxIdeal.main_arg1) = m ((c.tc : Thread Cert.KernelQkvDxIdeal.nD Cert.KernelQkvDxIdeal.τ).loc Cert.KernelQkvDxIdeal.main_arg1))
      ∧ θ_run (Cert.ReferenceQkvDxIdeal.defs (F := Ideal)) (onTc (τ := Cert.ReferenceQkvDxIdeal.τ) (Cert.ReferenceQkvDxIdeal.main (F := Ideal))) ⟨m', fun _ => 0, g'⟩ (fun r => ∀ c : Dev Cert.ReferenceQkvDxIdeal.nD,
          r.2.mem ((c.tc : Thread Cert.ReferenceQkvDxIdeal.nD Cert.ReferenceQkvDxIdeal.τ).loc Cert.ReferenceQkvDxIdeal.main_v8) = v0 c
          ∧ r.2.mem ((c.tc : Thread Cert.ReferenceQkvDxIdeal.nD Cert.ReferenceQkvDxIdeal.τ).loc Cert.ReferenceQkvDxIdeal.main_arg0) = m' ((c.tc : Thread Cert.ReferenceQkvDxIdeal.nD Cert.ReferenceQkvDxIdeal.τ).loc Cert.ReferenceQkvDxIdeal.main_arg0)
          ∧ r.2.mem ((c.tc : Thread Cert.ReferenceQkvDxIdeal.nD Cert.ReferenceQkvDxIdeal.τ).loc Cert.ReferenceQkvDxIdeal.main_arg1) = m' ((c.tc : Thread Cert.ReferenceQkvDxIdeal.nD Cert.ReferenceQkvDxIdeal.τ).loc Cert.ReferenceQkvDxIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v8) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v0)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v7) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelQkvDw_KernelQkvDwIdeal : Prop :=
  True

def algebraic_KernelQkvDwIdeal_ReferenceQkvDwIdeal [hKernelQkvDwIdeal : Cert.KernelQkvDwIdeal.Facts] [hReferenceQkvDwIdeal : Cert.ReferenceQkvDwIdeal.Facts] : Prop :=
  ∀ (m : (ℓ : Loc Cert.KernelQkvDwIdeal.nD Cert.KernelQkvDwIdeal.τ Cert.KernelQkvDwIdeal.sig) → Buf (Elt Ideal) ℓ) (g : Dev Cert.KernelQkvDwIdeal.nD → PrngReg)
    (m' : (ℓ : Loc Cert.ReferenceQkvDwIdeal.nD Cert.ReferenceQkvDwIdeal.τ Cert.ReferenceQkvDwIdeal.sig) → Buf (Elt Ideal) ℓ) (g' : Dev Cert.ReferenceQkvDwIdeal.nD → PrngReg), Pre_KernelQkvDwIdeal m →
    (∀ c : Dev Cert.KernelQkvDwIdeal.nD,
      m' ((c.tc : Thread Cert.ReferenceQkvDwIdeal.nD Cert.ReferenceQkvDwIdeal.τ).loc Cert.ReferenceQkvDwIdeal.main_arg0) = m ((c.tc : Thread Cert.KernelQkvDwIdeal.nD Cert.KernelQkvDwIdeal.τ).loc Cert.KernelQkvDwIdeal.main_arg0)
      ∧ m' ((c.tc : Thread Cert.ReferenceQkvDwIdeal.nD Cert.ReferenceQkvDwIdeal.τ).loc Cert.ReferenceQkvDwIdeal.main_arg1) = m ((c.tc : Thread Cert.KernelQkvDwIdeal.nD Cert.KernelQkvDwIdeal.τ).loc Cert.KernelQkvDwIdeal.main_arg1)) →
    ∃ (v0 : (c : Dev Cert.KernelQkvDwIdeal.nD) → Buf (Elt Ideal) ((c.tc : Thread Cert.KernelQkvDwIdeal.nD Cert.KernelQkvDwIdeal.τ).loc Cert.KernelQkvDwIdeal.main_v0)),
      θ_run (Cert.KernelQkvDwIdeal.defs (F := Ideal)) (onTc (τ := Cert.KernelQkvDwIdeal.τ) (Cert.KernelQkvDwIdeal.main (F := Ideal))) ⟨m, fun _ => 0, g⟩ (fun r => ∀ c : Dev Cert.KernelQkvDwIdeal.nD,
          r.2.mem ((c.tc : Thread Cert.KernelQkvDwIdeal.nD Cert.KernelQkvDwIdeal.τ).loc Cert.KernelQkvDwIdeal.main_v0) = v0 c
          ∧ r.2.mem ((c.tc : Thread Cert.KernelQkvDwIdeal.nD Cert.KernelQkvDwIdeal.τ).loc Cert.KernelQkvDwIdeal.main_arg0) = m ((c.tc : Thread Cert.KernelQkvDwIdeal.nD Cert.KernelQkvDwIdeal.τ).loc Cert.KernelQkvDwIdeal.main_arg0)
          ∧ r.2.mem ((c.tc : Thread Cert.KernelQkvDwIdeal.nD Cert.KernelQkvDwIdeal.τ).loc Cert.KernelQkvDwIdeal.main_arg1) = m ((c.tc : Thread Cert.KernelQkvDwIdeal.nD Cert.KernelQkvDwIdeal.τ).loc Cert.KernelQkvDwIdeal.main_arg1))
      ∧ θ_run (Cert.ReferenceQkvDwIdeal.defs (F := Ideal)) (onTc (τ := Cert.ReferenceQkvDwIdeal.τ) (Cert.ReferenceQkvDwIdeal.main (F := Ideal))) ⟨m', fun _ => 0, g'⟩ (fun r => ∀ c : Dev Cert.ReferenceQkvDwIdeal.nD,
          r.2.mem ((c.tc : Thread Cert.ReferenceQkvDwIdeal.nD Cert.ReferenceQkvDwIdeal.τ).loc Cert.ReferenceQkvDwIdeal.main_v7) = v0 c
          ∧ r.2.mem ((c.tc : Thread Cert.ReferenceQkvDwIdeal.nD Cert.ReferenceQkvDwIdeal.τ).loc Cert.ReferenceQkvDwIdeal.main_arg0) = m' ((c.tc : Thread Cert.ReferenceQkvDwIdeal.nD Cert.ReferenceQkvDwIdeal.τ).loc Cert.ReferenceQkvDwIdeal.main_arg0)
          ∧ r.2.mem ((c.tc : Thread Cert.ReferenceQkvDwIdeal.nD Cert.ReferenceQkvDwIdeal.τ).loc Cert.ReferenceQkvDwIdeal.main_arg1) = m' ((c.tc : Thread Cert.ReferenceQkvDwIdeal.nD Cert.ReferenceQkvDwIdeal.τ).loc Cert.ReferenceQkvDwIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v7) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v6) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v13) = v0 c
          ∧ r.2.mem ((c.tc : Thread Cert.ReferenceGateIdeal.nD Cert.ReferenceGateIdeal.τ).loc Cert.ReferenceGateIdeal.main_v11) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v0)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v4) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelGluDx_KernelGluDxIdeal : Prop :=
  True

def algebraic_KernelGluDxIdeal_ReferenceGluDxIdeal [hKernelGluDxIdeal : Cert.KernelGluDxIdeal.Facts] [hReferenceGluDxIdeal : Cert.ReferenceGluDxIdeal.Facts] : Prop :=
  ∀ (m : (ℓ : Loc Cert.KernelGluDxIdeal.nD Cert.KernelGluDxIdeal.τ Cert.KernelGluDxIdeal.sig) → Buf (Elt Ideal) ℓ) (g : Dev Cert.KernelGluDxIdeal.nD → PrngReg)
    (m' : (ℓ : Loc Cert.ReferenceGluDxIdeal.nD Cert.ReferenceGluDxIdeal.τ Cert.ReferenceGluDxIdeal.sig) → Buf (Elt Ideal) ℓ) (g' : Dev Cert.ReferenceGluDxIdeal.nD → PrngReg), Pre_KernelGluDxIdeal m →
    (∀ c : Dev Cert.KernelGluDxIdeal.nD,
      m' ((c.tc : Thread Cert.ReferenceGluDxIdeal.nD Cert.ReferenceGluDxIdeal.τ).loc Cert.ReferenceGluDxIdeal.main_arg0) = m ((c.tc : Thread Cert.KernelGluDxIdeal.nD Cert.KernelGluDxIdeal.τ).loc Cert.KernelGluDxIdeal.main_arg0)
      ∧ m' ((c.tc : Thread Cert.ReferenceGluDxIdeal.nD Cert.ReferenceGluDxIdeal.τ).loc Cert.ReferenceGluDxIdeal.main_arg1) = m ((c.tc : Thread Cert.KernelGluDxIdeal.nD Cert.KernelGluDxIdeal.τ).loc Cert.KernelGluDxIdeal.main_arg1)) →
    ∃ (v0 : (c : Dev Cert.KernelGluDxIdeal.nD) → Buf (Elt Ideal) ((c.tc : Thread Cert.KernelGluDxIdeal.nD Cert.KernelGluDxIdeal.τ).loc Cert.KernelGluDxIdeal.main_v0)),
      θ_run (Cert.KernelGluDxIdeal.defs (F := Ideal)) (onTc (τ := Cert.KernelGluDxIdeal.τ) (Cert.KernelGluDxIdeal.main (F := Ideal))) ⟨m, fun _ => 0, g⟩ (fun r => ∀ c : Dev Cert.KernelGluDxIdeal.nD,
          r.2.mem ((c.tc : Thread Cert.KernelGluDxIdeal.nD Cert.KernelGluDxIdeal.τ).loc Cert.KernelGluDxIdeal.main_v0) = v0 c
          ∧ r.2.mem ((c.tc : Thread Cert.KernelGluDxIdeal.nD Cert.KernelGluDxIdeal.τ).loc Cert.KernelGluDxIdeal.main_arg0) = m ((c.tc : Thread Cert.KernelGluDxIdeal.nD Cert.KernelGluDxIdeal.τ).loc Cert.KernelGluDxIdeal.main_arg0)
          ∧ r.2.mem ((c.tc : Thread Cert.KernelGluDxIdeal.nD Cert.KernelGluDxIdeal.τ).loc Cert.KernelGluDxIdeal.main_arg1) = m ((c.tc : Thread Cert.KernelGluDxIdeal.nD Cert.KernelGluDxIdeal.τ).loc Cert.KernelGluDxIdeal.main_arg1))
      ∧ θ_run (Cert.ReferenceGluDxIdeal.defs (F := Ideal)) (onTc (τ := Cert.ReferenceGluDxIdeal.τ) (Cert.ReferenceGluDxIdeal.main (F := Ideal))) ⟨m', fun _ => 0, g'⟩ (fun r => ∀ c : Dev Cert.ReferenceGluDxIdeal.nD,
          r.2.mem ((c.tc : Thread Cert.ReferenceGluDxIdeal.nD Cert.ReferenceGluDxIdeal.τ).loc Cert.ReferenceGluDxIdeal.main_v7) = v0 c
          ∧ r.2.mem ((c.tc : Thread Cert.ReferenceGluDxIdeal.nD Cert.ReferenceGluDxIdeal.τ).loc Cert.ReferenceGluDxIdeal.main_arg0) = m' ((c.tc : Thread Cert.ReferenceGluDxIdeal.nD Cert.ReferenceGluDxIdeal.τ).loc Cert.ReferenceGluDxIdeal.main_arg0)
          ∧ r.2.mem ((c.tc : Thread Cert.ReferenceGluDxIdeal.nD Cert.ReferenceGluDxIdeal.τ).loc Cert.ReferenceGluDxIdeal.main_arg1) = m' ((c.tc : Thread Cert.ReferenceGluDxIdeal.nD Cert.ReferenceGluDxIdeal.τ).loc Cert.ReferenceGluDxIdeal.main_arg1))

def preserves_KernelGluDw_KernelGluDwIdeal : Prop :=
  True

def algebraic_KernelGluDwIdeal_ReferenceGluDwIdeal [hKernelGluDwIdeal : Cert.KernelGluDwIdeal.Facts] [hReferenceGluDwIdeal : Cert.ReferenceGluDwIdeal.Facts] : Prop :=
  ∀ (m : (ℓ : Loc Cert.KernelGluDwIdeal.nD Cert.KernelGluDwIdeal.τ Cert.KernelGluDwIdeal.sig) → Buf (Elt Ideal) ℓ) (g : Dev Cert.KernelGluDwIdeal.nD → PrngReg)
    (m' : (ℓ : Loc Cert.ReferenceGluDwIdeal.nD Cert.ReferenceGluDwIdeal.τ Cert.ReferenceGluDwIdeal.sig) → Buf (Elt Ideal) ℓ) (g' : Dev Cert.ReferenceGluDwIdeal.nD → PrngReg), Pre_KernelGluDwIdeal m →
    (∀ c : Dev Cert.KernelGluDwIdeal.nD,
      m' ((c.tc : Thread Cert.ReferenceGluDwIdeal.nD Cert.ReferenceGluDwIdeal.τ).loc Cert.ReferenceGluDwIdeal.main_arg0) = m ((c.tc : Thread Cert.KernelGluDwIdeal.nD Cert.KernelGluDwIdeal.τ).loc Cert.KernelGluDwIdeal.main_arg0)
      ∧ m' ((c.tc : Thread Cert.ReferenceGluDwIdeal.nD Cert.ReferenceGluDwIdeal.τ).loc Cert.ReferenceGluDwIdeal.main_arg1) = m ((c.tc : Thread Cert.KernelGluDwIdeal.nD Cert.KernelGluDwIdeal.τ).loc Cert.KernelGluDwIdeal.main_arg1)) →
    ∃ (v0 : (c : Dev Cert.KernelGluDwIdeal.nD) → Buf (Elt Ideal) ((c.tc : Thread Cert.KernelGluDwIdeal.nD Cert.KernelGluDwIdeal.τ).loc Cert.KernelGluDwIdeal.main_v0)),
      θ_run (Cert.KernelGluDwIdeal.defs (F := Ideal)) (onTc (τ := Cert.KernelGluDwIdeal.τ) (Cert.KernelGluDwIdeal.main (F := Ideal))) ⟨m, fun _ => 0, g⟩ (fun r => ∀ c : Dev Cert.KernelGluDwIdeal.nD,
          r.2.mem ((c.tc : Thread Cert.KernelGluDwIdeal.nD Cert.KernelGluDwIdeal.τ).loc Cert.KernelGluDwIdeal.main_v0) = v0 c
          ∧ r.2.mem ((c.tc : Thread Cert.KernelGluDwIdeal.nD Cert.KernelGluDwIdeal.τ).loc Cert.KernelGluDwIdeal.main_arg0) = m ((c.tc : Thread Cert.KernelGluDwIdeal.nD Cert.KernelGluDwIdeal.τ).loc Cert.KernelGluDwIdeal.main_arg0)
          ∧ r.2.mem ((c.tc : Thread Cert.KernelGluDwIdeal.nD Cert.KernelGluDwIdeal.τ).loc Cert.KernelGluDwIdeal.main_arg1) = m ((c.tc : Thread Cert.KernelGluDwIdeal.nD Cert.KernelGluDwIdeal.τ).loc Cert.KernelGluDwIdeal.main_arg1))
      ∧ θ_run (Cert.ReferenceGluDwIdeal.defs (F := Ideal)) (onTc (τ := Cert.ReferenceGluDwIdeal.τ) (Cert.ReferenceGluDwIdeal.main (F := Ideal))) ⟨m', fun _ => 0, g'⟩ (fun r => ∀ c : Dev Cert.ReferenceGluDwIdeal.nD,
          r.2.mem ((c.tc : Thread Cert.ReferenceGluDwIdeal.nD Cert.ReferenceGluDwIdeal.τ).loc Cert.ReferenceGluDwIdeal.main_v5) = v0 c
          ∧ r.2.mem ((c.tc : Thread Cert.ReferenceGluDwIdeal.nD Cert.ReferenceGluDwIdeal.τ).loc Cert.ReferenceGluDwIdeal.main_arg0) = m' ((c.tc : Thread Cert.ReferenceGluDwIdeal.nD Cert.ReferenceGluDwIdeal.τ).loc Cert.ReferenceGluDwIdeal.main_arg0)
          ∧ r.2.mem ((c.tc : Thread Cert.ReferenceGluDwIdeal.nD Cert.ReferenceGluDwIdeal.τ).loc Cert.ReferenceGluDwIdeal.main_arg1) = m' ((c.tc : Thread Cert.ReferenceGluDwIdeal.nD Cert.ReferenceGluDwIdeal.τ).loc Cert.ReferenceGluDwIdeal.main_arg1))

def preserves_KernelAct0_KernelAct0Ideal : Prop :=
  True

def algebraic_KernelAct0Ideal_ReferenceAct0Ideal [hKernelAct0Ideal : Cert.KernelAct0Ideal.Facts] [hReferenceAct0Ideal : Cert.ReferenceAct0Ideal.Facts] : Prop :=
  ∀ (m : (ℓ : Loc Cert.KernelAct0Ideal.nD Cert.KernelAct0Ideal.τ Cert.KernelAct0Ideal.sig) → Buf (Elt Ideal) ℓ) (g : Dev Cert.KernelAct0Ideal.nD → PrngReg)
    (m' : (ℓ : Loc Cert.ReferenceAct0Ideal.nD Cert.ReferenceAct0Ideal.τ Cert.ReferenceAct0Ideal.sig) → Buf (Elt Ideal) ℓ) (g' : Dev Cert.ReferenceAct0Ideal.nD → PrngReg), Pre_KernelAct0Ideal m →
    (∀ c : Dev Cert.KernelAct0Ideal.nD,
      m' ((c.tc : Thread Cert.ReferenceAct0Ideal.nD Cert.ReferenceAct0Ideal.τ).loc Cert.ReferenceAct0Ideal.main_arg0) = m ((c.tc : Thread Cert.KernelAct0Ideal.nD Cert.KernelAct0Ideal.τ).loc Cert.KernelAct0Ideal.main_arg0)
      ∧ m' ((c.tc : Thread Cert.ReferenceAct0Ideal.nD Cert.ReferenceAct0Ideal.τ).loc Cert.ReferenceAct0Ideal.main_arg1) = m ((c.tc : Thread Cert.KernelAct0Ideal.nD Cert.KernelAct0Ideal.τ).loc Cert.KernelAct0Ideal.main_arg1)
      ∧ m' ((c.tc : Thread Cert.ReferenceAct0Ideal.nD Cert.ReferenceAct0Ideal.τ).loc Cert.ReferenceAct0Ideal.main_arg2) = m ((c.tc : Thread Cert.KernelAct0Ideal.nD Cert.KernelAct0Ideal.τ).loc Cert.KernelAct0Ideal.main_arg2)
      ∧ m' ((c.tc : Thread Cert.ReferenceAct0Ideal.nD Cert.ReferenceAct0Ideal.τ).loc Cert.ReferenceAct0Ideal.main_arg3) = m ((c.tc : Thread Cert.KernelAct0Ideal.nD Cert.KernelAct0Ideal.τ).loc Cert.KernelAct0Ideal.main_arg3)) →
    ∃ (v0 : (c : Dev Cert.KernelAct0Ideal.nD) → Buf (Elt Ideal) ((c.tc : Thread Cert.KernelAct0Ideal.nD Cert.KernelAct0Ideal.τ).loc Cert.KernelAct0Ideal.main_v7)),
      θ_run (Cert.KernelAct0Ideal.defs (F := Ideal)) (onTc (τ := Cert.KernelAct0Ideal.τ) (Cert.KernelAct0Ideal.main (F := Ideal))) ⟨m, fun _ => 0, g⟩ (fun r => ∀ c : Dev Cert.KernelAct0Ideal.nD,
          r.2.mem ((c.tc : Thread Cert.KernelAct0Ideal.nD Cert.KernelAct0Ideal.τ).loc Cert.KernelAct0Ideal.main_v7) = v0 c
          ∧ r.2.mem ((c.tc : Thread Cert.KernelAct0Ideal.nD Cert.KernelAct0Ideal.τ).loc Cert.KernelAct0Ideal.main_arg0) = m ((c.tc : Thread Cert.KernelAct0Ideal.nD Cert.KernelAct0Ideal.τ).loc Cert.KernelAct0Ideal.main_arg0)
          ∧ r.2.mem ((c.tc : Thread Cert.KernelAct0Ideal.nD Cert.KernelAct0Ideal.τ).loc Cert.KernelAct0Ideal.main_arg1) = m ((c.tc : Thread Cert.KernelAct0Ideal.nD Cert.KernelAct0Ideal.τ).loc Cert.KernelAct0Ideal.main_arg1)
          ∧ r.2.mem ((c.tc : Thread Cert.KernelAct0Ideal.nD Cert.KernelAct0Ideal.τ).loc Cert.KernelAct0Ideal.main_arg2) = m ((c.tc : Thread Cert.KernelAct0Ideal.nD Cert.KernelAct0Ideal.τ).loc Cert.KernelAct0Ideal.main_arg2)
          ∧ r.2.mem ((c.tc : Thread Cert.KernelAct0Ideal.nD Cert.KernelAct0Ideal.τ).loc Cert.KernelAct0Ideal.main_arg3) = m ((c.tc : Thread Cert.KernelAct0Ideal.nD Cert.KernelAct0Ideal.τ).loc Cert.KernelAct0Ideal.main_arg3))
      ∧ θ_run (Cert.ReferenceAct0Ideal.defs (F := Ideal)) (onTc (τ := Cert.ReferenceAct0Ideal.τ) (Cert.ReferenceAct0Ideal.main (F := Ideal))) ⟨m', fun _ => 0, g'⟩ (fun r => ∀ c : Dev Cert.ReferenceAct0Ideal.nD,
          r.2.mem ((c.tc : Thread Cert.ReferenceAct0Ideal.nD Cert.ReferenceAct0Ideal.τ).loc Cert.ReferenceAct0Ideal.main_v26) = v0 c
          ∧ r.2.mem ((c.tc : Thread Cert.ReferenceAct0Ideal.nD Cert.ReferenceAct0Ideal.τ).loc Cert.ReferenceAct0Ideal.main_arg0) = m' ((c.tc : Thread Cert.ReferenceAct0Ideal.nD Cert.ReferenceAct0Ideal.τ).loc Cert.ReferenceAct0Ideal.main_arg0)
          ∧ r.2.mem ((c.tc : Thread Cert.ReferenceAct0Ideal.nD Cert.ReferenceAct0Ideal.τ).loc Cert.ReferenceAct0Ideal.main_arg1) = m' ((c.tc : Thread Cert.ReferenceAct0Ideal.nD Cert.ReferenceAct0Ideal.τ).loc Cert.ReferenceAct0Ideal.main_arg1)
          ∧ r.2.mem ((c.tc : Thread Cert.ReferenceAct0Ideal.nD Cert.ReferenceAct0Ideal.τ).loc Cert.ReferenceAct0Ideal.main_arg2) = m' ((c.tc : Thread Cert.ReferenceAct0Ideal.nD Cert.ReferenceAct0Ideal.τ).loc Cert.ReferenceAct0Ideal.main_arg2)
          ∧ r.2.mem ((c.tc : Thread Cert.ReferenceAct0Ideal.nD Cert.ReferenceAct0Ideal.τ).loc Cert.ReferenceAct0Ideal.main_arg3) = m' ((c.tc : Thread Cert.ReferenceAct0Ideal.nD Cert.ReferenceAct0Ideal.τ).loc Cert.ReferenceAct0Ideal.main_arg3))

def preserves_KernelAct1_KernelAct1Ideal : Prop :=
  True

def algebraic_KernelAct1Ideal_ReferenceAct1Ideal [hKernelAct1Ideal : Cert.KernelAct1Ideal.Facts] [hReferenceAct1Ideal : Cert.ReferenceAct1Ideal.Facts] : Prop :=
  ∀ (m : (ℓ : Loc Cert.KernelAct1Ideal.nD Cert.KernelAct1Ideal.τ Cert.KernelAct1Ideal.sig) → Buf (Elt Ideal) ℓ) (g : Dev Cert.KernelAct1Ideal.nD → PrngReg)
    (m' : (ℓ : Loc Cert.ReferenceAct1Ideal.nD Cert.ReferenceAct1Ideal.τ Cert.ReferenceAct1Ideal.sig) → Buf (Elt Ideal) ℓ) (g' : Dev Cert.ReferenceAct1Ideal.nD → PrngReg), Pre_KernelAct1Ideal m →
    (∀ c : Dev Cert.KernelAct1Ideal.nD,
      m' ((c.tc : Thread Cert.ReferenceAct1Ideal.nD Cert.ReferenceAct1Ideal.τ).loc Cert.ReferenceAct1Ideal.main_arg0) = m ((c.tc : Thread Cert.KernelAct1Ideal.nD Cert.KernelAct1Ideal.τ).loc Cert.KernelAct1Ideal.main_arg0)
      ∧ m' ((c.tc : Thread Cert.ReferenceAct1Ideal.nD Cert.ReferenceAct1Ideal.τ).loc Cert.ReferenceAct1Ideal.main_arg1) = m ((c.tc : Thread Cert.KernelAct1Ideal.nD Cert.KernelAct1Ideal.τ).loc Cert.KernelAct1Ideal.main_arg1)
      ∧ m' ((c.tc : Thread Cert.ReferenceAct1Ideal.nD Cert.ReferenceAct1Ideal.τ).loc Cert.ReferenceAct1Ideal.main_arg2) = m ((c.tc : Thread Cert.KernelAct1Ideal.nD Cert.KernelAct1Ideal.τ).loc Cert.KernelAct1Ideal.main_arg2)
      ∧ m' ((c.tc : Thread Cert.ReferenceAct1Ideal.nD Cert.ReferenceAct1Ideal.τ).loc Cert.ReferenceAct1Ideal.main_arg3) = m ((c.tc : Thread Cert.KernelAct1Ideal.nD Cert.KernelAct1Ideal.τ).loc Cert.KernelAct1Ideal.main_arg3)) →
    ∃ (v0 : (c : Dev Cert.KernelAct1Ideal.nD) → Buf (Elt Ideal) ((c.tc : Thread Cert.KernelAct1Ideal.nD Cert.KernelAct1Ideal.τ).loc Cert.KernelAct1Ideal.main_v7)),
      θ_run (Cert.KernelAct1Ideal.defs (F := Ideal)) (onTc (τ := Cert.KernelAct1Ideal.τ) (Cert.KernelAct1Ideal.main (F := Ideal))) ⟨m, fun _ => 0, g⟩ (fun r => ∀ c : Dev Cert.KernelAct1Ideal.nD,
          r.2.mem ((c.tc : Thread Cert.KernelAct1Ideal.nD Cert.KernelAct1Ideal.τ).loc Cert.KernelAct1Ideal.main_v7) = v0 c
          ∧ r.2.mem ((c.tc : Thread Cert.KernelAct1Ideal.nD Cert.KernelAct1Ideal.τ).loc Cert.KernelAct1Ideal.main_arg0) = m ((c.tc : Thread Cert.KernelAct1Ideal.nD Cert.KernelAct1Ideal.τ).loc Cert.KernelAct1Ideal.main_arg0)
          ∧ r.2.mem ((c.tc : Thread Cert.KernelAct1Ideal.nD Cert.KernelAct1Ideal.τ).loc Cert.KernelAct1Ideal.main_arg1) = m ((c.tc : Thread Cert.KernelAct1Ideal.nD Cert.KernelAct1Ideal.τ).loc Cert.KernelAct1Ideal.main_arg1)
          ∧ r.2.mem ((c.tc : Thread Cert.KernelAct1Ideal.nD Cert.KernelAct1Ideal.τ).loc Cert.KernelAct1Ideal.main_arg2) = m ((c.tc : Thread Cert.KernelAct1Ideal.nD Cert.KernelAct1Ideal.τ).loc Cert.KernelAct1Ideal.main_arg2)
          ∧ r.2.mem ((c.tc : Thread Cert.KernelAct1Ideal.nD Cert.KernelAct1Ideal.τ).loc Cert.KernelAct1Ideal.main_arg3) = m ((c.tc : Thread Cert.KernelAct1Ideal.nD Cert.KernelAct1Ideal.τ).loc Cert.KernelAct1Ideal.main_arg3))
      ∧ θ_run (Cert.ReferenceAct1Ideal.defs (F := Ideal)) (onTc (τ := Cert.ReferenceAct1Ideal.τ) (Cert.ReferenceAct1Ideal.main (F := Ideal))) ⟨m', fun _ => 0, g'⟩ (fun r => ∀ c : Dev Cert.ReferenceAct1Ideal.nD,
          r.2.mem ((c.tc : Thread Cert.ReferenceAct1Ideal.nD Cert.ReferenceAct1Ideal.τ).loc Cert.ReferenceAct1Ideal.main_v26) = v0 c
          ∧ r.2.mem ((c.tc : Thread Cert.ReferenceAct1Ideal.nD Cert.ReferenceAct1Ideal.τ).loc Cert.ReferenceAct1Ideal.main_arg0) = m' ((c.tc : Thread Cert.ReferenceAct1Ideal.nD Cert.ReferenceAct1Ideal.τ).loc Cert.ReferenceAct1Ideal.main_arg0)
          ∧ r.2.mem ((c.tc : Thread Cert.ReferenceAct1Ideal.nD Cert.ReferenceAct1Ideal.τ).loc Cert.ReferenceAct1Ideal.main_arg1) = m' ((c.tc : Thread Cert.ReferenceAct1Ideal.nD Cert.ReferenceAct1Ideal.τ).loc Cert.ReferenceAct1Ideal.main_arg1)
          ∧ r.2.mem ((c.tc : Thread Cert.ReferenceAct1Ideal.nD Cert.ReferenceAct1Ideal.τ).loc Cert.ReferenceAct1Ideal.main_arg2) = m' ((c.tc : Thread Cert.ReferenceAct1Ideal.nD Cert.ReferenceAct1Ideal.τ).loc Cert.ReferenceAct1Ideal.main_arg2)
          ∧ r.2.mem ((c.tc : Thread Cert.ReferenceAct1Ideal.nD Cert.ReferenceAct1Ideal.τ).loc Cert.ReferenceAct1Ideal.main_arg3) = m' ((c.tc : Thread Cert.ReferenceAct1Ideal.nD Cert.ReferenceAct1Ideal.τ).loc Cert.ReferenceAct1Ideal.main_arg3))

def preserves_KernelAct2_KernelAct2Ideal : Prop :=
  True

def algebraic_KernelAct2Ideal_ReferenceAct2Ideal [hKernelAct2Ideal : Cert.KernelAct2Ideal.Facts] [hReferenceAct2Ideal : Cert.ReferenceAct2Ideal.Facts] : Prop :=
  ∀ (m : (ℓ : Loc Cert.KernelAct2Ideal.nD Cert.KernelAct2Ideal.τ Cert.KernelAct2Ideal.sig) → Buf (Elt Ideal) ℓ) (g : Dev Cert.KernelAct2Ideal.nD → PrngReg)
    (m' : (ℓ : Loc Cert.ReferenceAct2Ideal.nD Cert.ReferenceAct2Ideal.τ Cert.ReferenceAct2Ideal.sig) → Buf (Elt Ideal) ℓ) (g' : Dev Cert.ReferenceAct2Ideal.nD → PrngReg), Pre_KernelAct2Ideal m →
    (∀ c : Dev Cert.KernelAct2Ideal.nD,
      m' ((c.tc : Thread Cert.ReferenceAct2Ideal.nD Cert.ReferenceAct2Ideal.τ).loc Cert.ReferenceAct2Ideal.main_arg0) = m ((c.tc : Thread Cert.KernelAct2Ideal.nD Cert.KernelAct2Ideal.τ).loc Cert.KernelAct2Ideal.main_arg0)
      ∧ m' ((c.tc : Thread Cert.ReferenceAct2Ideal.nD Cert.ReferenceAct2Ideal.τ).loc Cert.ReferenceAct2Ideal.main_arg1) = m ((c.tc : Thread Cert.KernelAct2Ideal.nD Cert.KernelAct2Ideal.τ).loc Cert.KernelAct2Ideal.main_arg1)
      ∧ m' ((c.tc : Thread Cert.ReferenceAct2Ideal.nD Cert.ReferenceAct2Ideal.τ).loc Cert.ReferenceAct2Ideal.main_arg2) = m ((c.tc : Thread Cert.KernelAct2Ideal.nD Cert.KernelAct2Ideal.τ).loc Cert.KernelAct2Ideal.main_arg2)
      ∧ m' ((c.tc : Thread Cert.ReferenceAct2Ideal.nD Cert.ReferenceAct2Ideal.τ).loc Cert.ReferenceAct2Ideal.main_arg3) = m ((c.tc : Thread Cert.KernelAct2Ideal.nD Cert.KernelAct2Ideal.τ).loc Cert.KernelAct2Ideal.main_arg3)) →
    ∃ (v0 : (c : Dev Cert.KernelAct2Ideal.nD) → Buf (Elt Ideal) ((c.tc : Thread Cert.KernelAct2Ideal.nD Cert.KernelAct2Ideal.τ).loc Cert.KernelAct2Ideal.main_v7)),
      θ_run (Cert.KernelAct2Ideal.defs (F := Ideal)) (onTc (τ := Cert.KernelAct2Ideal.τ) (Cert.KernelAct2Ideal.main (F := Ideal))) ⟨m, fun _ => 0, g⟩ (fun r => ∀ c : Dev Cert.KernelAct2Ideal.nD,
          r.2.mem ((c.tc : Thread Cert.KernelAct2Ideal.nD Cert.KernelAct2Ideal.τ).loc Cert.KernelAct2Ideal.main_v7) = v0 c
          ∧ r.2.mem ((c.tc : Thread Cert.KernelAct2Ideal.nD Cert.KernelAct2Ideal.τ).loc Cert.KernelAct2Ideal.main_arg0) = m ((c.tc : Thread Cert.KernelAct2Ideal.nD Cert.KernelAct2Ideal.τ).loc Cert.KernelAct2Ideal.main_arg0)
          ∧ r.2.mem ((c.tc : Thread Cert.KernelAct2Ideal.nD Cert.KernelAct2Ideal.τ).loc Cert.KernelAct2Ideal.main_arg1) = m ((c.tc : Thread Cert.KernelAct2Ideal.nD Cert.KernelAct2Ideal.τ).loc Cert.KernelAct2Ideal.main_arg1)
          ∧ r.2.mem ((c.tc : Thread Cert.KernelAct2Ideal.nD Cert.KernelAct2Ideal.τ).loc Cert.KernelAct2Ideal.main_arg2) = m ((c.tc : Thread Cert.KernelAct2Ideal.nD Cert.KernelAct2Ideal.τ).loc Cert.KernelAct2Ideal.main_arg2)
          ∧ r.2.mem ((c.tc : Thread Cert.KernelAct2Ideal.nD Cert.KernelAct2Ideal.τ).loc Cert.KernelAct2Ideal.main_arg3) = m ((c.tc : Thread Cert.KernelAct2Ideal.nD Cert.KernelAct2Ideal.τ).loc Cert.KernelAct2Ideal.main_arg3))
      ∧ θ_run (Cert.ReferenceAct2Ideal.defs (F := Ideal)) (onTc (τ := Cert.ReferenceAct2Ideal.τ) (Cert.ReferenceAct2Ideal.main (F := Ideal))) ⟨m', fun _ => 0, g'⟩ (fun r => ∀ c : Dev Cert.ReferenceAct2Ideal.nD,
          r.2.mem ((c.tc : Thread Cert.ReferenceAct2Ideal.nD Cert.ReferenceAct2Ideal.τ).loc Cert.ReferenceAct2Ideal.main_v26) = v0 c
          ∧ r.2.mem ((c.tc : Thread Cert.ReferenceAct2Ideal.nD Cert.ReferenceAct2Ideal.τ).loc Cert.ReferenceAct2Ideal.main_arg0) = m' ((c.tc : Thread Cert.ReferenceAct2Ideal.nD Cert.ReferenceAct2Ideal.τ).loc Cert.ReferenceAct2Ideal.main_arg0)
          ∧ r.2.mem ((c.tc : Thread Cert.ReferenceAct2Ideal.nD Cert.ReferenceAct2Ideal.τ).loc Cert.ReferenceAct2Ideal.main_arg1) = m' ((c.tc : Thread Cert.ReferenceAct2Ideal.nD Cert.ReferenceAct2Ideal.τ).loc Cert.ReferenceAct2Ideal.main_arg1)
          ∧ r.2.mem ((c.tc : Thread Cert.ReferenceAct2Ideal.nD Cert.ReferenceAct2Ideal.τ).loc Cert.ReferenceAct2Ideal.main_arg2) = m' ((c.tc : Thread Cert.ReferenceAct2Ideal.nD Cert.ReferenceAct2Ideal.τ).loc Cert.ReferenceAct2Ideal.main_arg2)
          ∧ r.2.mem ((c.tc : Thread Cert.ReferenceAct2Ideal.nD Cert.ReferenceAct2Ideal.τ).loc Cert.ReferenceAct2Ideal.main_arg3) = m' ((c.tc : Thread Cert.ReferenceAct2Ideal.nD Cert.ReferenceAct2Ideal.τ).loc Cert.ReferenceAct2Ideal.main_arg3))

def preserves_KernelDxn0_KernelDxn0Ideal : Prop :=
  True

def algebraic_KernelDxn0Ideal_ReferenceDxn0Ideal [hKernelDxn0Ideal : Cert.KernelDxn0Ideal.Facts] [hReferenceDxn0Ideal : Cert.ReferenceDxn0Ideal.Facts] : Prop :=
  ∀ (m : (ℓ : Loc Cert.KernelDxn0Ideal.nD Cert.KernelDxn0Ideal.τ Cert.KernelDxn0Ideal.sig) → Buf (Elt Ideal) ℓ) (g : Dev Cert.KernelDxn0Ideal.nD → PrngReg)
    (m' : (ℓ : Loc Cert.ReferenceDxn0Ideal.nD Cert.ReferenceDxn0Ideal.τ Cert.ReferenceDxn0Ideal.sig) → Buf (Elt Ideal) ℓ) (g' : Dev Cert.ReferenceDxn0Ideal.nD → PrngReg), Pre_KernelDxn0Ideal m →
    (∀ c : Dev Cert.KernelDxn0Ideal.nD,
      m' ((c.tc : Thread Cert.ReferenceDxn0Ideal.nD Cert.ReferenceDxn0Ideal.τ).loc Cert.ReferenceDxn0Ideal.main_arg0) = m ((c.tc : Thread Cert.KernelDxn0Ideal.nD Cert.KernelDxn0Ideal.τ).loc Cert.KernelDxn0Ideal.main_arg0)
      ∧ m' ((c.tc : Thread Cert.ReferenceDxn0Ideal.nD Cert.ReferenceDxn0Ideal.τ).loc Cert.ReferenceDxn0Ideal.main_arg1) = m ((c.tc : Thread Cert.KernelDxn0Ideal.nD Cert.KernelDxn0Ideal.τ).loc Cert.KernelDxn0Ideal.main_arg1)) →
    ∃ (v0 : (c : Dev Cert.KernelDxn0Ideal.nD) → Buf (Elt Ideal) ((c.tc : Thread Cert.KernelDxn0Ideal.nD Cert.KernelDxn0Ideal.τ).loc Cert.KernelDxn0Ideal.main_v0)),
      θ_run (Cert.KernelDxn0Ideal.defs (F := Ideal)) (onTc (τ := Cert.KernelDxn0Ideal.τ) (Cert.KernelDxn0Ideal.main (F := Ideal))) ⟨m, fun _ => 0, g⟩ (fun r => ∀ c : Dev Cert.KernelDxn0Ideal.nD,
          r.2.mem ((c.tc : Thread Cert.KernelDxn0Ideal.nD Cert.KernelDxn0Ideal.τ).loc Cert.KernelDxn0Ideal.main_v0) = v0 c
          ∧ r.2.mem ((c.tc : Thread Cert.KernelDxn0Ideal.nD Cert.KernelDxn0Ideal.τ).loc Cert.KernelDxn0Ideal.main_arg0) = m ((c.tc : Thread Cert.KernelDxn0Ideal.nD Cert.KernelDxn0Ideal.τ).loc Cert.KernelDxn0Ideal.main_arg0)
          ∧ r.2.mem ((c.tc : Thread Cert.KernelDxn0Ideal.nD Cert.KernelDxn0Ideal.τ).loc Cert.KernelDxn0Ideal.main_arg1) = m ((c.tc : Thread Cert.KernelDxn0Ideal.nD Cert.KernelDxn0Ideal.τ).loc Cert.KernelDxn0Ideal.main_arg1))
      ∧ θ_run (Cert.ReferenceDxn0Ideal.defs (F := Ideal)) (onTc (τ := Cert.ReferenceDxn0Ideal.τ) (Cert.ReferenceDxn0Ideal.main (F := Ideal))) ⟨m', fun _ => 0, g'⟩ (fun r => ∀ c : Dev Cert.ReferenceDxn0Ideal.nD,
          r.2.mem ((c.tc : Thread Cert.ReferenceDxn0Ideal.nD Cert.ReferenceDxn0Ideal.τ).loc Cert.ReferenceDxn0Ideal.main_v8) = v0 c
          ∧ r.2.mem ((c.tc : Thread Cert.ReferenceDxn0Ideal.nD Cert.ReferenceDxn0Ideal.τ).loc Cert.ReferenceDxn0Ideal.main_arg0) = m' ((c.tc : Thread Cert.ReferenceDxn0Ideal.nD Cert.ReferenceDxn0Ideal.τ).loc Cert.ReferenceDxn0Ideal.main_arg0)
          ∧ r.2.mem ((c.tc : Thread Cert.ReferenceDxn0Ideal.nD Cert.ReferenceDxn0Ideal.τ).loc Cert.ReferenceDxn0Ideal.main_arg1) = m' ((c.tc : Thread Cert.ReferenceDxn0Ideal.nD Cert.ReferenceDxn0Ideal.τ).loc Cert.ReferenceDxn0Ideal.main_arg1))

def preserves_KernelDxn1_KernelDxn1Ideal : Prop :=
  True

def algebraic_KernelDxn1Ideal_ReferenceDxn1Ideal [hKernelDxn1Ideal : Cert.KernelDxn1Ideal.Facts] [hReferenceDxn1Ideal : Cert.ReferenceDxn1Ideal.Facts] : Prop :=
  ∀ (m : (ℓ : Loc Cert.KernelDxn1Ideal.nD Cert.KernelDxn1Ideal.τ Cert.KernelDxn1Ideal.sig) → Buf (Elt Ideal) ℓ) (g : Dev Cert.KernelDxn1Ideal.nD → PrngReg)
    (m' : (ℓ : Loc Cert.ReferenceDxn1Ideal.nD Cert.ReferenceDxn1Ideal.τ Cert.ReferenceDxn1Ideal.sig) → Buf (Elt Ideal) ℓ) (g' : Dev Cert.ReferenceDxn1Ideal.nD → PrngReg), Pre_KernelDxn1Ideal m →
    (∀ c : Dev Cert.KernelDxn1Ideal.nD,
      m' ((c.tc : Thread Cert.ReferenceDxn1Ideal.nD Cert.ReferenceDxn1Ideal.τ).loc Cert.ReferenceDxn1Ideal.main_arg0) = m ((c.tc : Thread Cert.KernelDxn1Ideal.nD Cert.KernelDxn1Ideal.τ).loc Cert.KernelDxn1Ideal.main_arg0)
      ∧ m' ((c.tc : Thread Cert.ReferenceDxn1Ideal.nD Cert.ReferenceDxn1Ideal.τ).loc Cert.ReferenceDxn1Ideal.main_arg1) = m ((c.tc : Thread Cert.KernelDxn1Ideal.nD Cert.KernelDxn1Ideal.τ).loc Cert.KernelDxn1Ideal.main_arg1)) →
    ∃ (v0 : (c : Dev Cert.KernelDxn1Ideal.nD) → Buf (Elt Ideal) ((c.tc : Thread Cert.KernelDxn1Ideal.nD Cert.KernelDxn1Ideal.τ).loc Cert.KernelDxn1Ideal.main_v0)),
      θ_run (Cert.KernelDxn1Ideal.defs (F := Ideal)) (onTc (τ := Cert.KernelDxn1Ideal.τ) (Cert.KernelDxn1Ideal.main (F := Ideal))) ⟨m, fun _ => 0, g⟩ (fun r => ∀ c : Dev Cert.KernelDxn1Ideal.nD,
          r.2.mem ((c.tc : Thread Cert.KernelDxn1Ideal.nD Cert.KernelDxn1Ideal.τ).loc Cert.KernelDxn1Ideal.main_v0) = v0 c
          ∧ r.2.mem ((c.tc : Thread Cert.KernelDxn1Ideal.nD Cert.KernelDxn1Ideal.τ).loc Cert.KernelDxn1Ideal.main_arg0) = m ((c.tc : Thread Cert.KernelDxn1Ideal.nD Cert.KernelDxn1Ideal.τ).loc Cert.KernelDxn1Ideal.main_arg0)
          ∧ r.2.mem ((c.tc : Thread Cert.KernelDxn1Ideal.nD Cert.KernelDxn1Ideal.τ).loc Cert.KernelDxn1Ideal.main_arg1) = m ((c.tc : Thread Cert.KernelDxn1Ideal.nD Cert.KernelDxn1Ideal.τ).loc Cert.KernelDxn1Ideal.main_arg1))
      ∧ θ_run (Cert.ReferenceDxn1Ideal.defs (F := Ideal)) (onTc (τ := Cert.ReferenceDxn1Ideal.τ) (Cert.ReferenceDxn1Ideal.main (F := Ideal))) ⟨m', fun _ => 0, g'⟩ (fun r => ∀ c : Dev Cert.ReferenceDxn1Ideal.nD,
          r.2.mem ((c.tc : Thread Cert.ReferenceDxn1Ideal.nD Cert.ReferenceDxn1Ideal.τ).loc Cert.ReferenceDxn1Ideal.main_v8) = v0 c
          ∧ r.2.mem ((c.tc : Thread Cert.ReferenceDxn1Ideal.nD Cert.ReferenceDxn1Ideal.τ).loc Cert.ReferenceDxn1Ideal.main_arg0) = m' ((c.tc : Thread Cert.ReferenceDxn1Ideal.nD Cert.ReferenceDxn1Ideal.τ).loc Cert.ReferenceDxn1Ideal.main_arg0)
          ∧ r.2.mem ((c.tc : Thread Cert.ReferenceDxn1Ideal.nD Cert.ReferenceDxn1Ideal.τ).loc Cert.ReferenceDxn1Ideal.main_arg1) = m' ((c.tc : Thread Cert.ReferenceDxn1Ideal.nD Cert.ReferenceDxn1Ideal.τ).loc Cert.ReferenceDxn1Ideal.main_arg1))

def preserves_KernelDxn2_KernelDxn2Ideal : Prop :=
  True

def algebraic_KernelDxn2Ideal_ReferenceDxn2Ideal [hKernelDxn2Ideal : Cert.KernelDxn2Ideal.Facts] [hReferenceDxn2Ideal : Cert.ReferenceDxn2Ideal.Facts] : Prop :=
  ∀ (m : (ℓ : Loc Cert.KernelDxn2Ideal.nD Cert.KernelDxn2Ideal.τ Cert.KernelDxn2Ideal.sig) → Buf (Elt Ideal) ℓ) (g : Dev Cert.KernelDxn2Ideal.nD → PrngReg)
    (m' : (ℓ : Loc Cert.ReferenceDxn2Ideal.nD Cert.ReferenceDxn2Ideal.τ Cert.ReferenceDxn2Ideal.sig) → Buf (Elt Ideal) ℓ) (g' : Dev Cert.ReferenceDxn2Ideal.nD → PrngReg), Pre_KernelDxn2Ideal m →
    (∀ c : Dev Cert.KernelDxn2Ideal.nD,
      m' ((c.tc : Thread Cert.ReferenceDxn2Ideal.nD Cert.ReferenceDxn2Ideal.τ).loc Cert.ReferenceDxn2Ideal.main_arg0) = m ((c.tc : Thread Cert.KernelDxn2Ideal.nD Cert.KernelDxn2Ideal.τ).loc Cert.KernelDxn2Ideal.main_arg0)
      ∧ m' ((c.tc : Thread Cert.ReferenceDxn2Ideal.nD Cert.ReferenceDxn2Ideal.τ).loc Cert.ReferenceDxn2Ideal.main_arg1) = m ((c.tc : Thread Cert.KernelDxn2Ideal.nD Cert.KernelDxn2Ideal.τ).loc Cert.KernelDxn2Ideal.main_arg1)) →
    ∃ (v0 : (c : Dev Cert.KernelDxn2Ideal.nD) → Buf (Elt Ideal) ((c.tc : Thread Cert.KernelDxn2Ideal.nD Cert.KernelDxn2Ideal.τ).loc Cert.KernelDxn2Ideal.main_v0)),
      θ_run (Cert.KernelDxn2Ideal.defs (F := Ideal)) (onTc (τ := Cert.KernelDxn2Ideal.τ) (Cert.KernelDxn2Ideal.main (F := Ideal))) ⟨m, fun _ => 0, g⟩ (fun r => ∀ c : Dev Cert.KernelDxn2Ideal.nD,
          r.2.mem ((c.tc : Thread Cert.KernelDxn2Ideal.nD Cert.KernelDxn2Ideal.τ).loc Cert.KernelDxn2Ideal.main_v0) = v0 c
          ∧ r.2.mem ((c.tc : Thread Cert.KernelDxn2Ideal.nD Cert.KernelDxn2Ideal.τ).loc Cert.KernelDxn2Ideal.main_arg0) = m ((c.tc : Thread Cert.KernelDxn2Ideal.nD Cert.KernelDxn2Ideal.τ).loc Cert.KernelDxn2Ideal.main_arg0)
          ∧ r.2.mem ((c.tc : Thread Cert.KernelDxn2Ideal.nD Cert.KernelDxn2Ideal.τ).loc Cert.KernelDxn2Ideal.main_arg1) = m ((c.tc : Thread Cert.KernelDxn2Ideal.nD Cert.KernelDxn2Ideal.τ).loc Cert.KernelDxn2Ideal.main_arg1))
      ∧ θ_run (Cert.ReferenceDxn2Ideal.defs (F := Ideal)) (onTc (τ := Cert.ReferenceDxn2Ideal.τ) (Cert.ReferenceDxn2Ideal.main (F := Ideal))) ⟨m', fun _ => 0, g'⟩ (fun r => ∀ c : Dev Cert.ReferenceDxn2Ideal.nD,
          r.2.mem ((c.tc : Thread Cert.ReferenceDxn2Ideal.nD Cert.ReferenceDxn2Ideal.τ).loc Cert.ReferenceDxn2Ideal.main_v8) = v0 c
          ∧ r.2.mem ((c.tc : Thread Cert.ReferenceDxn2Ideal.nD Cert.ReferenceDxn2Ideal.τ).loc Cert.ReferenceDxn2Ideal.main_arg0) = m' ((c.tc : Thread Cert.ReferenceDxn2Ideal.nD Cert.ReferenceDxn2Ideal.τ).loc Cert.ReferenceDxn2Ideal.main_arg0)
          ∧ r.2.mem ((c.tc : Thread Cert.ReferenceDxn2Ideal.nD Cert.ReferenceDxn2Ideal.τ).loc Cert.ReferenceDxn2Ideal.main_arg1) = m' ((c.tc : Thread Cert.ReferenceDxn2Ideal.nD Cert.ReferenceDxn2Ideal.τ).loc Cert.ReferenceDxn2Ideal.main_arg1))

def preserves_KernelQkv0_KernelQkv0Ideal : Prop :=
  True

def algebraic_KernelQkv0Ideal_ReferenceQkv0Ideal [hKernelQkv0Ideal : Cert.KernelQkv0Ideal.Facts] [hReferenceQkv0Ideal : Cert.ReferenceQkv0Ideal.Facts] : Prop :=
  ∀ (m : (ℓ : Loc Cert.KernelQkv0Ideal.nD Cert.KernelQkv0Ideal.τ Cert.KernelQkv0Ideal.sig) → Buf (Elt Ideal) ℓ) (g : Dev Cert.KernelQkv0Ideal.nD → PrngReg)
    (m' : (ℓ : Loc Cert.ReferenceQkv0Ideal.nD Cert.ReferenceQkv0Ideal.τ Cert.ReferenceQkv0Ideal.sig) → Buf (Elt Ideal) ℓ) (g' : Dev Cert.ReferenceQkv0Ideal.nD → PrngReg), Pre_KernelQkv0Ideal m →
    (∀ c : Dev Cert.KernelQkv0Ideal.nD,
      m' ((c.tc : Thread Cert.ReferenceQkv0Ideal.nD Cert.ReferenceQkv0Ideal.τ).loc Cert.ReferenceQkv0Ideal.main_arg0) = m ((c.tc : Thread Cert.KernelQkv0Ideal.nD Cert.KernelQkv0Ideal.τ).loc Cert.KernelQkv0Ideal.main_arg0)
      ∧ m' ((c.tc : Thread Cert.ReferenceQkv0Ideal.nD Cert.ReferenceQkv0Ideal.τ).loc Cert.ReferenceQkv0Ideal.main_arg1) = m ((c.tc : Thread Cert.KernelQkv0Ideal.nD Cert.KernelQkv0Ideal.τ).loc Cert.KernelQkv0Ideal.main_arg1)) →
    ∃ (v0 : (c : Dev Cert.KernelQkv0Ideal.nD) → Buf (Elt Ideal) ((c.tc : Thread Cert.KernelQkv0Ideal.nD Cert.KernelQkv0Ideal.τ).loc Cert.KernelQkv0Ideal.main_v0)),
      θ_run (Cert.KernelQkv0Ideal.defs (F := Ideal)) (onTc (τ := Cert.KernelQkv0Ideal.τ) (Cert.KernelQkv0Ideal.main (F := Ideal))) ⟨m, fun _ => 0, g⟩ (fun r => ∀ c : Dev Cert.KernelQkv0Ideal.nD,
          r.2.mem ((c.tc : Thread Cert.KernelQkv0Ideal.nD Cert.KernelQkv0Ideal.τ).loc Cert.KernelQkv0Ideal.main_v0) = v0 c
          ∧ r.2.mem ((c.tc : Thread Cert.KernelQkv0Ideal.nD Cert.KernelQkv0Ideal.τ).loc Cert.KernelQkv0Ideal.main_arg0) = m ((c.tc : Thread Cert.KernelQkv0Ideal.nD Cert.KernelQkv0Ideal.τ).loc Cert.KernelQkv0Ideal.main_arg0)
          ∧ r.2.mem ((c.tc : Thread Cert.KernelQkv0Ideal.nD Cert.KernelQkv0Ideal.τ).loc Cert.KernelQkv0Ideal.main_arg1) = m ((c.tc : Thread Cert.KernelQkv0Ideal.nD Cert.KernelQkv0Ideal.τ).loc Cert.KernelQkv0Ideal.main_arg1))
      ∧ θ_run (Cert.ReferenceQkv0Ideal.defs (F := Ideal)) (onTc (τ := Cert.ReferenceQkv0Ideal.τ) (Cert.ReferenceQkv0Ideal.main (F := Ideal))) ⟨m', fun _ => 0, g'⟩ (fun r => ∀ c : Dev Cert.ReferenceQkv0Ideal.nD,
          r.2.mem ((c.tc : Thread Cert.ReferenceQkv0Ideal.nD Cert.ReferenceQkv0Ideal.τ).loc Cert.ReferenceQkv0Ideal.main_v7) = v0 c
          ∧ r.2.mem ((c.tc : Thread Cert.ReferenceQkv0Ideal.nD Cert.ReferenceQkv0Ideal.τ).loc Cert.ReferenceQkv0Ideal.main_arg0) = m' ((c.tc : Thread Cert.ReferenceQkv0Ideal.nD Cert.ReferenceQkv0Ideal.τ).loc Cert.ReferenceQkv0Ideal.main_arg0)
          ∧ r.2.mem ((c.tc : Thread Cert.ReferenceQkv0Ideal.nD Cert.ReferenceQkv0Ideal.τ).loc Cert.ReferenceQkv0Ideal.main_arg1) = m' ((c.tc : Thread Cert.ReferenceQkv0Ideal.nD Cert.ReferenceQkv0Ideal.τ).loc Cert.ReferenceQkv0Ideal.main_arg1))

def preserves_KernelOut0_KernelOut0Ideal : Prop :=
  True

def algebraic_KernelOut0Ideal_ReferenceOut0Ideal [hKernelOut0Ideal : Cert.KernelOut0Ideal.Facts] [hReferenceOut0Ideal : Cert.ReferenceOut0Ideal.Facts] : Prop :=
  ∀ (m : (ℓ : Loc Cert.KernelOut0Ideal.nD Cert.KernelOut0Ideal.τ Cert.KernelOut0Ideal.sig) → Buf (Elt Ideal) ℓ) (g : Dev Cert.KernelOut0Ideal.nD → PrngReg)
    (m' : (ℓ : Loc Cert.ReferenceOut0Ideal.nD Cert.ReferenceOut0Ideal.τ Cert.ReferenceOut0Ideal.sig) → Buf (Elt Ideal) ℓ) (g' : Dev Cert.ReferenceOut0Ideal.nD → PrngReg), Pre_KernelOut0Ideal m →
    (∀ c : Dev Cert.KernelOut0Ideal.nD,
      m' ((c.tc : Thread Cert.ReferenceOut0Ideal.nD Cert.ReferenceOut0Ideal.τ).loc Cert.ReferenceOut0Ideal.main_arg0) = m ((c.tc : Thread Cert.KernelOut0Ideal.nD Cert.KernelOut0Ideal.τ).loc Cert.KernelOut0Ideal.main_arg0)
      ∧ m' ((c.tc : Thread Cert.ReferenceOut0Ideal.nD Cert.ReferenceOut0Ideal.τ).loc Cert.ReferenceOut0Ideal.main_arg1) = m ((c.tc : Thread Cert.KernelOut0Ideal.nD Cert.KernelOut0Ideal.τ).loc Cert.KernelOut0Ideal.main_arg1)
      ∧ m' ((c.tc : Thread Cert.ReferenceOut0Ideal.nD Cert.ReferenceOut0Ideal.τ).loc Cert.ReferenceOut0Ideal.main_arg2) = m ((c.tc : Thread Cert.KernelOut0Ideal.nD Cert.KernelOut0Ideal.τ).loc Cert.KernelOut0Ideal.main_arg2)) →
    ∃ (v0 : (c : Dev Cert.KernelOut0Ideal.nD) → Buf (Elt Ideal) ((c.tc : Thread Cert.KernelOut0Ideal.nD Cert.KernelOut0Ideal.τ).loc Cert.KernelOut0Ideal.main_v0)),
      θ_run (Cert.KernelOut0Ideal.defs (F := Ideal)) (onTc (τ := Cert.KernelOut0Ideal.τ) (Cert.KernelOut0Ideal.main (F := Ideal))) ⟨m, fun _ => 0, g⟩ (fun r => ∀ c : Dev Cert.KernelOut0Ideal.nD,
          r.2.mem ((c.tc : Thread Cert.KernelOut0Ideal.nD Cert.KernelOut0Ideal.τ).loc Cert.KernelOut0Ideal.main_v0) = v0 c
          ∧ r.2.mem ((c.tc : Thread Cert.KernelOut0Ideal.nD Cert.KernelOut0Ideal.τ).loc Cert.KernelOut0Ideal.main_arg0) = m ((c.tc : Thread Cert.KernelOut0Ideal.nD Cert.KernelOut0Ideal.τ).loc Cert.KernelOut0Ideal.main_arg0)
          ∧ r.2.mem ((c.tc : Thread Cert.KernelOut0Ideal.nD Cert.KernelOut0Ideal.τ).loc Cert.KernelOut0Ideal.main_arg1) = m ((c.tc : Thread Cert.KernelOut0Ideal.nD Cert.KernelOut0Ideal.τ).loc Cert.KernelOut0Ideal.main_arg1)
          ∧ r.2.mem ((c.tc : Thread Cert.KernelOut0Ideal.nD Cert.KernelOut0Ideal.τ).loc Cert.KernelOut0Ideal.main_arg2) = m ((c.tc : Thread Cert.KernelOut0Ideal.nD Cert.KernelOut0Ideal.τ).loc Cert.KernelOut0Ideal.main_arg2))
      ∧ θ_run (Cert.ReferenceOut0Ideal.defs (F := Ideal)) (onTc (τ := Cert.ReferenceOut0Ideal.τ) (Cert.ReferenceOut0Ideal.main (F := Ideal))) ⟨m', fun _ => 0, g'⟩ (fun r => ∀ c : Dev Cert.ReferenceOut0Ideal.nD,
          r.2.mem ((c.tc : Thread Cert.ReferenceOut0Ideal.nD Cert.ReferenceOut0Ideal.τ).loc Cert.ReferenceOut0Ideal.main_v6) = v0 c
          ∧ r.2.mem ((c.tc : Thread Cert.ReferenceOut0Ideal.nD Cert.ReferenceOut0Ideal.τ).loc Cert.ReferenceOut0Ideal.main_arg0) = m' ((c.tc : Thread Cert.ReferenceOut0Ideal.nD Cert.ReferenceOut0Ideal.τ).loc Cert.ReferenceOut0Ideal.main_arg0)
          ∧ r.2.mem ((c.tc : Thread Cert.ReferenceOut0Ideal.nD Cert.ReferenceOut0Ideal.τ).loc Cert.ReferenceOut0Ideal.main_arg1) = m' ((c.tc : Thread Cert.ReferenceOut0Ideal.nD Cert.ReferenceOut0Ideal.τ).loc Cert.ReferenceOut0Ideal.main_arg1)
          ∧ r.2.mem ((c.tc : Thread Cert.ReferenceOut0Ideal.nD Cert.ReferenceOut0Ideal.τ).loc Cert.ReferenceOut0Ideal.main_arg2) = m' ((c.tc : Thread Cert.ReferenceOut0Ideal.nD Cert.ReferenceOut0Ideal.τ).loc Cert.ReferenceOut0Ideal.main_arg2))

def preserves_KernelQkvDx0_KernelQkvDx0Ideal : Prop :=
  True

def algebraic_KernelQkvDx0Ideal_ReferenceQkvDx0Ideal [hKernelQkvDx0Ideal : Cert.KernelQkvDx0Ideal.Facts] [hReferenceQkvDx0Ideal : Cert.ReferenceQkvDx0Ideal.Facts] : Prop :=
  ∀ (m : (ℓ : Loc Cert.KernelQkvDx0Ideal.nD Cert.KernelQkvDx0Ideal.τ Cert.KernelQkvDx0Ideal.sig) → Buf (Elt Ideal) ℓ) (g : Dev Cert.KernelQkvDx0Ideal.nD → PrngReg)
    (m' : (ℓ : Loc Cert.ReferenceQkvDx0Ideal.nD Cert.ReferenceQkvDx0Ideal.τ Cert.ReferenceQkvDx0Ideal.sig) → Buf (Elt Ideal) ℓ) (g' : Dev Cert.ReferenceQkvDx0Ideal.nD → PrngReg), Pre_KernelQkvDx0Ideal m →
    (∀ c : Dev Cert.KernelQkvDx0Ideal.nD,
      m' ((c.tc : Thread Cert.ReferenceQkvDx0Ideal.nD Cert.ReferenceQkvDx0Ideal.τ).loc Cert.ReferenceQkvDx0Ideal.main_arg0) = m ((c.tc : Thread Cert.KernelQkvDx0Ideal.nD Cert.KernelQkvDx0Ideal.τ).loc Cert.KernelQkvDx0Ideal.main_arg0)
      ∧ m' ((c.tc : Thread Cert.ReferenceQkvDx0Ideal.nD Cert.ReferenceQkvDx0Ideal.τ).loc Cert.ReferenceQkvDx0Ideal.main_arg1) = m ((c.tc : Thread Cert.KernelQkvDx0Ideal.nD Cert.KernelQkvDx0Ideal.τ).loc Cert.KernelQkvDx0Ideal.main_arg1)) →
    ∃ (v0 : (c : Dev Cert.KernelQkvDx0Ideal.nD) → Buf (Elt Ideal) ((c.tc : Thread Cert.KernelQkvDx0Ideal.nD Cert.KernelQkvDx0Ideal.τ).loc Cert.KernelQkvDx0Ideal.main_v0)),
      θ_run (Cert.KernelQkvDx0Ideal.defs (F := Ideal)) (onTc (τ := Cert.KernelQkvDx0Ideal.τ) (Cert.KernelQkvDx0Ideal.main (F := Ideal))) ⟨m, fun _ => 0, g⟩ (fun r => ∀ c : Dev Cert.KernelQkvDx0Ideal.nD,
          r.2.mem ((c.tc : Thread Cert.KernelQkvDx0Ideal.nD Cert.KernelQkvDx0Ideal.τ).loc Cert.KernelQkvDx0Ideal.main_v0) = v0 c
          ∧ r.2.mem ((c.tc : Thread Cert.KernelQkvDx0Ideal.nD Cert.KernelQkvDx0Ideal.τ).loc Cert.KernelQkvDx0Ideal.main_arg0) = m ((c.tc : Thread Cert.KernelQkvDx0Ideal.nD Cert.KernelQkvDx0Ideal.τ).loc Cert.KernelQkvDx0Ideal.main_arg0)
          ∧ r.2.mem ((c.tc : Thread Cert.KernelQkvDx0Ideal.nD Cert.KernelQkvDx0Ideal.τ).loc Cert.KernelQkvDx0Ideal.main_arg1) = m ((c.tc : Thread Cert.KernelQkvDx0Ideal.nD Cert.KernelQkvDx0Ideal.τ).loc Cert.KernelQkvDx0Ideal.main_arg1))
      ∧ θ_run (Cert.ReferenceQkvDx0Ideal.defs (F := Ideal)) (onTc (τ := Cert.ReferenceQkvDx0Ideal.τ) (Cert.ReferenceQkvDx0Ideal.main (F := Ideal))) ⟨m', fun _ => 0, g'⟩ (fun r => ∀ c : Dev Cert.ReferenceQkvDx0Ideal.nD,
          r.2.mem ((c.tc : Thread Cert.ReferenceQkvDx0Ideal.nD Cert.ReferenceQkvDx0Ideal.τ).loc Cert.ReferenceQkvDx0Ideal.main_v8) = v0 c
          ∧ r.2.mem ((c.tc : Thread Cert.ReferenceQkvDx0Ideal.nD Cert.ReferenceQkvDx0Ideal.τ).loc Cert.ReferenceQkvDx0Ideal.main_arg0) = m' ((c.tc : Thread Cert.ReferenceQkvDx0Ideal.nD Cert.ReferenceQkvDx0Ideal.τ).loc Cert.ReferenceQkvDx0Ideal.main_arg0)
          ∧ r.2.mem ((c.tc : Thread Cert.ReferenceQkvDx0Ideal.nD Cert.ReferenceQkvDx0Ideal.τ).loc Cert.ReferenceQkvDx0Ideal.main_arg1) = m' ((c.tc : Thread Cert.ReferenceQkvDx0Ideal.nD Cert.ReferenceQkvDx0Ideal.τ).loc Cert.ReferenceQkvDx0Ideal.main_arg1))

def preserves_KernelInDx0_KernelInDx0Ideal : Prop :=
  True

def algebraic_KernelInDx0Ideal_ReferenceInDx0Ideal [hKernelInDx0Ideal : Cert.KernelInDx0Ideal.Facts] [hReferenceInDx0Ideal : Cert.ReferenceInDx0Ideal.Facts] : Prop :=
  ∀ (m : (ℓ : Loc Cert.KernelInDx0Ideal.nD Cert.KernelInDx0Ideal.τ Cert.KernelInDx0Ideal.sig) → Buf (Elt Ideal) ℓ) (g : Dev Cert.KernelInDx0Ideal.nD → PrngReg)
    (m' : (ℓ : Loc Cert.ReferenceInDx0Ideal.nD Cert.ReferenceInDx0Ideal.τ Cert.ReferenceInDx0Ideal.sig) → Buf (Elt Ideal) ℓ) (g' : Dev Cert.ReferenceInDx0Ideal.nD → PrngReg), Pre_KernelInDx0Ideal m →
    (∀ c : Dev Cert.KernelInDx0Ideal.nD,
      m' ((c.tc : Thread Cert.ReferenceInDx0Ideal.nD Cert.ReferenceInDx0Ideal.τ).loc Cert.ReferenceInDx0Ideal.main_arg0) = m ((c.tc : Thread Cert.KernelInDx0Ideal.nD Cert.KernelInDx0Ideal.τ).loc Cert.KernelInDx0Ideal.main_arg0)
      ∧ m' ((c.tc : Thread Cert.ReferenceInDx0Ideal.nD Cert.ReferenceInDx0Ideal.τ).loc Cert.ReferenceInDx0Ideal.main_arg1) = m ((c.tc : Thread Cert.KernelInDx0Ideal.nD Cert.KernelInDx0Ideal.τ).loc Cert.KernelInDx0Ideal.main_arg1)) →
    ∃ (v0 : (c : Dev Cert.KernelInDx0Ideal.nD) → Buf (Elt Ideal) ((c.tc : Thread Cert.KernelInDx0Ideal.nD Cert.KernelInDx0Ideal.τ).loc Cert.KernelInDx0Ideal.main_v0)),
      θ_run (Cert.KernelInDx0Ideal.defs (F := Ideal)) (onTc (τ := Cert.KernelInDx0Ideal.τ) (Cert.KernelInDx0Ideal.main (F := Ideal))) ⟨m, fun _ => 0, g⟩ (fun r => ∀ c : Dev Cert.KernelInDx0Ideal.nD,
          r.2.mem ((c.tc : Thread Cert.KernelInDx0Ideal.nD Cert.KernelInDx0Ideal.τ).loc Cert.KernelInDx0Ideal.main_v0) = v0 c
          ∧ r.2.mem ((c.tc : Thread Cert.KernelInDx0Ideal.nD Cert.KernelInDx0Ideal.τ).loc Cert.KernelInDx0Ideal.main_arg0) = m ((c.tc : Thread Cert.KernelInDx0Ideal.nD Cert.KernelInDx0Ideal.τ).loc Cert.KernelInDx0Ideal.main_arg0)
          ∧ r.2.mem ((c.tc : Thread Cert.KernelInDx0Ideal.nD Cert.KernelInDx0Ideal.τ).loc Cert.KernelInDx0Ideal.main_arg1) = m ((c.tc : Thread Cert.KernelInDx0Ideal.nD Cert.KernelInDx0Ideal.τ).loc Cert.KernelInDx0Ideal.main_arg1))
      ∧ θ_run (Cert.ReferenceInDx0Ideal.defs (F := Ideal)) (onTc (τ := Cert.ReferenceInDx0Ideal.τ) (Cert.ReferenceInDx0Ideal.main (F := Ideal))) ⟨m', fun _ => 0, g'⟩ (fun r => ∀ c : Dev Cert.ReferenceInDx0Ideal.nD,
          r.2.mem ((c.tc : Thread Cert.ReferenceInDx0Ideal.nD Cert.ReferenceInDx0Ideal.τ).loc Cert.ReferenceInDx0Ideal.main_v8) = v0 c
          ∧ r.2.mem ((c.tc : Thread Cert.ReferenceInDx0Ideal.nD Cert.ReferenceInDx0Ideal.τ).loc Cert.ReferenceInDx0Ideal.main_arg0) = m' ((c.tc : Thread Cert.ReferenceInDx0Ideal.nD Cert.ReferenceInDx0Ideal.τ).loc Cert.ReferenceInDx0Ideal.main_arg0)
          ∧ r.2.mem ((c.tc : Thread Cert.ReferenceInDx0Ideal.nD Cert.ReferenceInDx0Ideal.τ).loc Cert.ReferenceInDx0Ideal.main_arg1) = m' ((c.tc : Thread Cert.ReferenceInDx0Ideal.nD Cert.ReferenceInDx0Ideal.τ).loc Cert.ReferenceInDx0Ideal.main_arg1))

def preserves_KernelOutDx0_KernelOutDx0Ideal : Prop :=
  True

def algebraic_KernelOutDx0Ideal_ReferenceOutDx0Ideal [hKernelOutDx0Ideal : Cert.KernelOutDx0Ideal.Facts] [hReferenceOutDx0Ideal : Cert.ReferenceOutDx0Ideal.Facts] : Prop :=
  ∀ (m : (ℓ : Loc Cert.KernelOutDx0Ideal.nD Cert.KernelOutDx0Ideal.τ Cert.KernelOutDx0Ideal.sig) → Buf (Elt Ideal) ℓ) (g : Dev Cert.KernelOutDx0Ideal.nD → PrngReg)
    (m' : (ℓ : Loc Cert.ReferenceOutDx0Ideal.nD Cert.ReferenceOutDx0Ideal.τ Cert.ReferenceOutDx0Ideal.sig) → Buf (Elt Ideal) ℓ) (g' : Dev Cert.ReferenceOutDx0Ideal.nD → PrngReg), Pre_KernelOutDx0Ideal m →
    (∀ c : Dev Cert.KernelOutDx0Ideal.nD,
      m' ((c.tc : Thread Cert.ReferenceOutDx0Ideal.nD Cert.ReferenceOutDx0Ideal.τ).loc Cert.ReferenceOutDx0Ideal.main_arg0) = m ((c.tc : Thread Cert.KernelOutDx0Ideal.nD Cert.KernelOutDx0Ideal.τ).loc Cert.KernelOutDx0Ideal.main_arg0)
      ∧ m' ((c.tc : Thread Cert.ReferenceOutDx0Ideal.nD Cert.ReferenceOutDx0Ideal.τ).loc Cert.ReferenceOutDx0Ideal.main_arg1) = m ((c.tc : Thread Cert.KernelOutDx0Ideal.nD Cert.KernelOutDx0Ideal.τ).loc Cert.KernelOutDx0Ideal.main_arg1)) →
    ∃ (v0 : (c : Dev Cert.KernelOutDx0Ideal.nD) → Buf (Elt Ideal) ((c.tc : Thread Cert.KernelOutDx0Ideal.nD Cert.KernelOutDx0Ideal.τ).loc Cert.KernelOutDx0Ideal.main_v0)),
      θ_run (Cert.KernelOutDx0Ideal.defs (F := Ideal)) (onTc (τ := Cert.KernelOutDx0Ideal.τ) (Cert.KernelOutDx0Ideal.main (F := Ideal))) ⟨m, fun _ => 0, g⟩ (fun r => ∀ c : Dev Cert.KernelOutDx0Ideal.nD,
          r.2.mem ((c.tc : Thread Cert.KernelOutDx0Ideal.nD Cert.KernelOutDx0Ideal.τ).loc Cert.KernelOutDx0Ideal.main_v0) = v0 c
          ∧ r.2.mem ((c.tc : Thread Cert.KernelOutDx0Ideal.nD Cert.KernelOutDx0Ideal.τ).loc Cert.KernelOutDx0Ideal.main_arg0) = m ((c.tc : Thread Cert.KernelOutDx0Ideal.nD Cert.KernelOutDx0Ideal.τ).loc Cert.KernelOutDx0Ideal.main_arg0)
          ∧ r.2.mem ((c.tc : Thread Cert.KernelOutDx0Ideal.nD Cert.KernelOutDx0Ideal.τ).loc Cert.KernelOutDx0Ideal.main_arg1) = m ((c.tc : Thread Cert.KernelOutDx0Ideal.nD Cert.KernelOutDx0Ideal.τ).loc Cert.KernelOutDx0Ideal.main_arg1))
      ∧ θ_run (Cert.ReferenceOutDx0Ideal.defs (F := Ideal)) (onTc (τ := Cert.ReferenceOutDx0Ideal.τ) (Cert.ReferenceOutDx0Ideal.main (F := Ideal))) ⟨m', fun _ => 0, g'⟩ (fun r => ∀ c : Dev Cert.ReferenceOutDx0Ideal.nD,
          r.2.mem ((c.tc : Thread Cert.ReferenceOutDx0Ideal.nD Cert.ReferenceOutDx0Ideal.τ).loc Cert.ReferenceOutDx0Ideal.main_v7) = v0 c
          ∧ r.2.mem ((c.tc : Thread Cert.ReferenceOutDx0Ideal.nD Cert.ReferenceOutDx0Ideal.τ).loc Cert.ReferenceOutDx0Ideal.main_arg0) = m' ((c.tc : Thread Cert.ReferenceOutDx0Ideal.nD Cert.ReferenceOutDx0Ideal.τ).loc Cert.ReferenceOutDx0Ideal.main_arg0)
          ∧ r.2.mem ((c.tc : Thread Cert.ReferenceOutDx0Ideal.nD Cert.ReferenceOutDx0Ideal.τ).loc Cert.ReferenceOutDx0Ideal.main_arg1) = m' ((c.tc : Thread Cert.ReferenceOutDx0Ideal.nD Cert.ReferenceOutDx0Ideal.τ).loc Cert.ReferenceOutDx0Ideal.main_arg1))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamGlu_KernelAdamGluIdeal : Prop :=
  True

def algebraic_KernelAdamGluIdeal_ReferenceAdamGluIdeal [hKernelAdamGluIdeal : Cert.KernelAdamGluIdeal.Facts] [hReferenceAdamGluIdeal : Cert.ReferenceAdamGluIdeal.Facts] : Prop :=
  ∀ (m : (ℓ : Loc Cert.KernelAdamGluIdeal.nD Cert.KernelAdamGluIdeal.τ Cert.KernelAdamGluIdeal.sig) → Buf (Elt Ideal) ℓ) (g : Dev Cert.KernelAdamGluIdeal.nD → PrngReg)
    (m' : (ℓ : Loc Cert.ReferenceAdamGluIdeal.nD Cert.ReferenceAdamGluIdeal.τ Cert.ReferenceAdamGluIdeal.sig) → Buf (Elt Ideal) ℓ) (g' : Dev Cert.ReferenceAdamGluIdeal.nD → PrngReg), Pre_KernelAdamGluIdeal m →
    (∀ c : Dev Cert.KernelAdamGluIdeal.nD,
      m' ((c.tc : Thread Cert.ReferenceAdamGluIdeal.nD Cert.ReferenceAdamGluIdeal.τ).loc Cert.ReferenceAdamGluIdeal.main_arg0) = m ((c.tc : Thread Cert.KernelAdamGluIdeal.nD Cert.KernelAdamGluIdeal.τ).loc Cert.KernelAdamGluIdeal.main_arg0)
      ∧ m' ((c.tc : Thread Cert.ReferenceAdamGluIdeal.nD Cert.ReferenceAdamGluIdeal.τ).loc Cert.ReferenceAdamGluIdeal.main_arg1) = m ((c.tc : Thread Cert.KernelAdamGluIdeal.nD Cert.KernelAdamGluIdeal.τ).loc Cert.KernelAdamGluIdeal.main_arg1)
      ∧ m' ((c.tc : Thread Cert.ReferenceAdamGluIdeal.nD Cert.ReferenceAdamGluIdeal.τ).loc Cert.ReferenceAdamGluIdeal.main_arg2) = m ((c.tc : Thread Cert.KernelAdamGluIdeal.nD Cert.KernelAdamGluIdeal.τ).loc Cert.KernelAdamGluIdeal.main_arg2)
      ∧ m' ((c.tc : Thread Cert.ReferenceAdamGluIdeal.nD Cert.ReferenceAdamGluIdeal.τ).loc Cert.ReferenceAdamGluIdeal.main_arg3) = m ((c.tc : Thread Cert.KernelAdamGluIdeal.nD Cert.KernelAdamGluIdeal.τ).loc Cert.KernelAdamGluIdeal.main_arg3)) →
    ∃ (v0 : (c : Dev Cert.KernelAdamGluIdeal.nD) → Buf (Elt Ideal) ((c.tc : Thread Cert.KernelAdamGluIdeal.nD Cert.KernelAdamGluIdeal.τ).loc Cert.KernelAdamGluIdeal.main_v0_0)) (v1 : (c : Dev Cert.KernelAdamGluIdeal.nD) → Buf (Elt Ideal) ((c.tc : Thread Cert.KernelAdamGluIdeal.nD Cert.KernelAdamGluIdeal.τ).loc Cert.KernelAdamGluIdeal.main_v0_1)) (v2 : (c : Dev Cert.KernelAdamGluIdeal.nD) → Buf (Elt Ideal) ((c.tc : Thread Cert.KernelAdamGluIdeal.nD Cert.KernelAdamGluIdeal.τ).loc Cert.KernelAdamGluIdeal.main_v0_2)),
      θ_run (Cert.KernelAdamGluIdeal.defs (F := Ideal)) (onTc (τ := Cert.KernelAdamGluIdeal.τ) (Cert.KernelAdamGluIdeal.main (F := Ideal))) ⟨m, fun _ => 0, g⟩ (fun r => ∀ c : Dev Cert.KernelAdamGluIdeal.nD,
          r.2.mem ((c.tc : Thread Cert.KernelAdamGluIdeal.nD Cert.KernelAdamGluIdeal.τ).loc Cert.KernelAdamGluIdeal.main_v0_0) = v0 c
          ∧ r.2.mem ((c.tc : Thread Cert.KernelAdamGluIdeal.nD Cert.KernelAdamGluIdeal.τ).loc Cert.KernelAdamGluIdeal.main_v0_1) = v1 c
          ∧ r.2.mem ((c.tc : Thread Cert.KernelAdamGluIdeal.nD Cert.KernelAdamGluIdeal.τ).loc Cert.KernelAdamGluIdeal.main_v0_2) = v2 c
          ∧ r.2.mem ((c.tc : Thread Cert.KernelAdamGluIdeal.nD Cert.KernelAdamGluIdeal.τ).loc Cert.KernelAdamGluIdeal.main_arg0) = m ((c.tc : Thread Cert.KernelAdamGluIdeal.nD Cert.KernelAdamGluIdeal.τ).loc Cert.KernelAdamGluIdeal.main_arg0)
          ∧ r.2.mem ((c.tc : Thread Cert.KernelAdamGluIdeal.nD Cert.KernelAdamGluIdeal.τ).loc Cert.KernelAdamGluIdeal.main_arg1) = m ((c.tc : Thread Cert.KernelAdamGluIdeal.nD Cert.KernelAdamGluIdeal.τ).loc Cert.KernelAdamGluIdeal.main_arg1)
          ∧ r.2.mem ((c.tc : Thread Cert.KernelAdamGluIdeal.nD Cert.KernelAdamGluIdeal.τ).loc Cert.KernelAdamGluIdeal.main_arg2) = m ((c.tc : Thread Cert.KernelAdamGluIdeal.nD Cert.KernelAdamGluIdeal.τ).loc Cert.KernelAdamGluIdeal.main_arg2)
          ∧ r.2.mem ((c.tc : Thread Cert.KernelAdamGluIdeal.nD Cert.KernelAdamGluIdeal.τ).loc Cert.KernelAdamGluIdeal.main_arg3) = m ((c.tc : Thread Cert.KernelAdamGluIdeal.nD Cert.KernelAdamGluIdeal.τ).loc Cert.KernelAdamGluIdeal.main_arg3))
      ∧ θ_run (Cert.ReferenceAdamGluIdeal.defs (F := Ideal)) (onTc (τ := Cert.ReferenceAdamGluIdeal.τ) (Cert.ReferenceAdamGluIdeal.main (F := Ideal))) ⟨m', fun _ => 0, g'⟩ (fun r => ∀ c : Dev Cert.ReferenceAdamGluIdeal.nD,
          r.2.mem ((c.tc : Thread Cert.ReferenceAdamGluIdeal.nD Cert.ReferenceAdamGluIdeal.τ).loc Cert.ReferenceAdamGluIdeal.main_v23) = v0 c
          ∧ r.2.mem ((c.tc : Thread Cert.ReferenceAdamGluIdeal.nD Cert.ReferenceAdamGluIdeal.τ).loc Cert.ReferenceAdamGluIdeal.main_v4) = v1 c
          ∧ r.2.mem ((c.tc : Thread Cert.ReferenceAdamGluIdeal.nD Cert.ReferenceAdamGluIdeal.τ).loc Cert.ReferenceAdamGluIdeal.main_v10) = v2 c
          ∧ r.2.mem ((c.tc : Thread Cert.ReferenceAdamGluIdeal.nD Cert.ReferenceAdamGluIdeal.τ).loc Cert.ReferenceAdamGluIdeal.main_arg0) = m' ((c.tc : Thread Cert.ReferenceAdamGluIdeal.nD Cert.ReferenceAdamGluIdeal.τ).loc Cert.ReferenceAdamGluIdeal.main_arg0)
          ∧ r.2.mem ((c.tc : Thread Cert.ReferenceAdamGluIdeal.nD Cert.ReferenceAdamGluIdeal.τ).loc Cert.ReferenceAdamGluIdeal.main_arg1) = m' ((c.tc : Thread Cert.ReferenceAdamGluIdeal.nD Cert.ReferenceAdamGluIdeal.τ).loc Cert.ReferenceAdamGluIdeal.main_arg1)
          ∧ r.2.mem ((c.tc : Thread Cert.ReferenceAdamGluIdeal.nD Cert.ReferenceAdamGluIdeal.τ).loc Cert.ReferenceAdamGluIdeal.main_arg2) = m' ((c.tc : Thread Cert.ReferenceAdamGluIdeal.nD Cert.ReferenceAdamGluIdeal.τ).loc Cert.ReferenceAdamGluIdeal.main_arg2)
          ∧ r.2.mem ((c.tc : Thread Cert.ReferenceAdamGluIdeal.nD Cert.ReferenceAdamGluIdeal.τ).loc Cert.ReferenceAdamGluIdeal.main_arg3) = m' ((c.tc : Thread Cert.ReferenceAdamGluIdeal.nD Cert.ReferenceAdamGluIdeal.τ).loc Cert.ReferenceAdamGluIdeal.main_arg3))

def preserves_KernelAdamQkv_KernelAdamQkvIdeal : Prop :=
  True

def algebraic_KernelAdamQkvIdeal_ReferenceAdamQkvIdeal [hKernelAdamQkvIdeal : Cert.KernelAdamQkvIdeal.Facts] [hReferenceAdamQkvIdeal : Cert.ReferenceAdamQkvIdeal.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg)
    (m' : (ℓ : Loc Cert.ReferenceAdamQkvIdeal.nD Cert.ReferenceAdamQkvIdeal.τ Cert.ReferenceAdamQkvIdeal.sig) → Buf (Elt Ideal) ℓ) (g' : Dev Cert.ReferenceAdamQkvIdeal.nD → PrngReg), Pre_KernelAdamQkvIdeal m →
    (∀ c : Dev Cert.KernelAdamQkvIdeal.nD,
      m' ((c.tc : Thread Cert.ReferenceAdamQkvIdeal.nD Cert.ReferenceAdamQkvIdeal.τ).loc Cert.ReferenceAdamQkvIdeal.main_arg0) = m ((c.tc : Thread Cert.KernelAdamQkvIdeal.nD Cert.KernelAdamQkvIdeal.τ).loc Cert.KernelAdamQkvIdeal.main_arg0)
      ∧ m' ((c.tc : Thread Cert.ReferenceAdamQkvIdeal.nD Cert.ReferenceAdamQkvIdeal.τ).loc Cert.ReferenceAdamQkvIdeal.main_arg1) = m ((c.tc : Thread Cert.KernelAdamQkvIdeal.nD Cert.KernelAdamQkvIdeal.τ).loc Cert.KernelAdamQkvIdeal.main_arg1)
      ∧ m' ((c.tc : Thread Cert.ReferenceAdamQkvIdeal.nD Cert.ReferenceAdamQkvIdeal.τ).loc Cert.ReferenceAdamQkvIdeal.main_arg2) = m ((c.tc : Thread Cert.KernelAdamQkvIdeal.nD Cert.KernelAdamQkvIdeal.τ).loc Cert.KernelAdamQkvIdeal.main_arg2)
      ∧ m' ((c.tc : Thread Cert.ReferenceAdamQkvIdeal.nD Cert.ReferenceAdamQkvIdeal.τ).loc Cert.ReferenceAdamQkvIdeal.main_arg3) = m ((c.tc : Thread Cert.KernelAdamQkvIdeal.nD Cert.KernelAdamQkvIdeal.τ).loc Cert.KernelAdamQkvIdeal.main_arg3)) →
    ∃ (v0 : (c : Dev Cert.KernelAdamQkvIdeal.nD) → Buf (Elt Ideal) ((c.tc : Thread Cert.KernelAdamQkvIdeal.nD Cert.KernelAdamQkvIdeal.τ).loc Cert.KernelAdamQkvIdeal.main_v0_0)) (v1 : (c : Dev Cert.KernelAdamQkvIdeal.nD) → Buf (Elt Ideal) ((c.tc : Thread Cert.KernelAdamQkvIdeal.nD Cert.KernelAdamQkvIdeal.τ).loc Cert.KernelAdamQkvIdeal.main_v0_1)) (v2 : (c : Dev Cert.KernelAdamQkvIdeal.nD) → Buf (Elt Ideal) ((c.tc : Thread Cert.KernelAdamQkvIdeal.nD Cert.KernelAdamQkvIdeal.τ).loc Cert.KernelAdamQkvIdeal.main_v0_2)),
      θ_run (Cert.KernelAdamQkvIdeal.defs (F := Ideal)) (onTc (τ := Cert.KernelAdamQkvIdeal.τ) (Cert.KernelAdamQkvIdeal.main (F := Ideal))) ⟨m, fun _ => 0, g⟩ (fun r => ∀ c : Dev Cert.KernelAdamQkvIdeal.nD,
          r.2.mem ((c.tc : Thread Cert.KernelAdamQkvIdeal.nD Cert.KernelAdamQkvIdeal.τ).loc Cert.KernelAdamQkvIdeal.main_v0_0) = v0 c
          ∧ r.2.mem ((c.tc : Thread Cert.KernelAdamQkvIdeal.nD Cert.KernelAdamQkvIdeal.τ).loc Cert.KernelAdamQkvIdeal.main_v0_1) = v1 c
          ∧ r.2.mem ((c.tc : Thread Cert.KernelAdamQkvIdeal.nD Cert.KernelAdamQkvIdeal.τ).loc Cert.KernelAdamQkvIdeal.main_v0_2) = v2 c
          ∧ r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
          ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
          ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
          ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3))
      ∧ θ_run (Cert.ReferenceAdamQkvIdeal.defs (F := Ideal)) (onTc (τ := Cert.ReferenceAdamQkvIdeal.τ) (Cert.ReferenceAdamQkvIdeal.main (F := Ideal))) ⟨m', fun _ => 0, g'⟩ (fun r => ∀ c : Dev Cert.ReferenceAdamQkvIdeal.nD,
          r.2.mem ((c.tc : Thread Cert.ReferenceAdamQkvIdeal.nD Cert.ReferenceAdamQkvIdeal.τ).loc Cert.ReferenceAdamQkvIdeal.main_v23) = v0 c
          ∧ r.2.mem ((c.tc : Thread Cert.ReferenceAdamQkvIdeal.nD Cert.ReferenceAdamQkvIdeal.τ).loc Cert.ReferenceAdamQkvIdeal.main_v4) = v1 c
          ∧ r.2.mem ((c.tc : Thread Cert.ReferenceAdamQkvIdeal.nD Cert.ReferenceAdamQkvIdeal.τ).loc Cert.ReferenceAdamQkvIdeal.main_v10) = v2 c
          ∧ r.2.mem ((c.tc : Thread Cert.ReferenceAdamQkvIdeal.nD Cert.ReferenceAdamQkvIdeal.τ).loc Cert.ReferenceAdamQkvIdeal.main_arg0) = m' ((c.tc : Thread Cert.ReferenceAdamQkvIdeal.nD Cert.ReferenceAdamQkvIdeal.τ).loc Cert.ReferenceAdamQkvIdeal.main_arg0)
          ∧ r.2.mem ((c.tc : Thread Cert.ReferenceAdamQkvIdeal.nD Cert.ReferenceAdamQkvIdeal.τ).loc Cert.ReferenceAdamQkvIdeal.main_arg1) = m' ((c.tc : Thread Cert.ReferenceAdamQkvIdeal.nD Cert.ReferenceAdamQkvIdeal.τ).loc Cert.ReferenceAdamQkvIdeal.main_arg1)
          ∧ r.2.mem ((c.tc : Thread Cert.ReferenceAdamQkvIdeal.nD Cert.ReferenceAdamQkvIdeal.τ).loc Cert.ReferenceAdamQkvIdeal.main_arg2) = m' ((c.tc : Thread Cert.ReferenceAdamQkvIdeal.nD Cert.ReferenceAdamQkvIdeal.τ).loc Cert.ReferenceAdamQkvIdeal.main_arg2)
          ∧ r.2.mem ((c.tc : Thread Cert.ReferenceAdamQkvIdeal.nD Cert.ReferenceAdamQkvIdeal.τ).loc Cert.ReferenceAdamQkvIdeal.main_arg3) = m' ((c.tc : Thread Cert.ReferenceAdamQkvIdeal.nD Cert.ReferenceAdamQkvIdeal.τ).loc Cert.ReferenceAdamQkvIdeal.main_arg3))

def preserves_KernelAdamMlp_KernelAdamMlpIdeal : Prop :=
  True

def algebraic_KernelAdamMlpIdeal_ReferenceAdamMlpIdeal [hKernelAdamMlpIdeal : Cert.KernelAdamMlpIdeal.Facts] [hReferenceAdamMlpIdeal : Cert.ReferenceAdamMlpIdeal.Facts] : Prop :=
  ∀ (m : (ℓ : Loc Cert.KernelAdamMlpIdeal.nD Cert.KernelAdamMlpIdeal.τ Cert.KernelAdamMlpIdeal.sig) → Buf (Elt Ideal) ℓ) (g : Dev Cert.KernelAdamMlpIdeal.nD → PrngReg)
    (m' : (ℓ : Loc Cert.ReferenceAdamMlpIdeal.nD Cert.ReferenceAdamMlpIdeal.τ Cert.ReferenceAdamMlpIdeal.sig) → Buf (Elt Ideal) ℓ) (g' : Dev Cert.ReferenceAdamMlpIdeal.nD → PrngReg), Pre_KernelAdamMlpIdeal m →
    (∀ c : Dev Cert.KernelAdamMlpIdeal.nD,
      m' ((c.tc : Thread Cert.ReferenceAdamMlpIdeal.nD Cert.ReferenceAdamMlpIdeal.τ).loc Cert.ReferenceAdamMlpIdeal.main_arg0) = m ((c.tc : Thread Cert.KernelAdamMlpIdeal.nD Cert.KernelAdamMlpIdeal.τ).loc Cert.KernelAdamMlpIdeal.main_arg0)
      ∧ m' ((c.tc : Thread Cert.ReferenceAdamMlpIdeal.nD Cert.ReferenceAdamMlpIdeal.τ).loc Cert.ReferenceAdamMlpIdeal.main_arg1) = m ((c.tc : Thread Cert.KernelAdamMlpIdeal.nD Cert.KernelAdamMlpIdeal.τ).loc Cert.KernelAdamMlpIdeal.main_arg1)
      ∧ m' ((c.tc : Thread Cert.ReferenceAdamMlpIdeal.nD Cert.ReferenceAdamMlpIdeal.τ).loc Cert.ReferenceAdamMlpIdeal.main_arg2) = m ((c.tc : Thread Cert.KernelAdamMlpIdeal.nD Cert.KernelAdamMlpIdeal.τ).loc Cert.KernelAdamMlpIdeal.main_arg2)
      ∧ m' ((c.tc : Thread Cert.ReferenceAdamMlpIdeal.nD Cert.ReferenceAdamMlpIdeal.τ).loc Cert.ReferenceAdamMlpIdeal.main_arg3) = m ((c.tc : Thread Cert.KernelAdamMlpIdeal.nD Cert.KernelAdamMlpIdeal.τ).loc Cert.KernelAdamMlpIdeal.main_arg3)) →
    ∃ (v0 : (c : Dev Cert.KernelAdamMlpIdeal.nD) → Buf (Elt Ideal) ((c.tc : Thread Cert.KernelAdamMlpIdeal.nD Cert.KernelAdamMlpIdeal.τ).loc Cert.KernelAdamMlpIdeal.main_v0_0)) (v1 : (c : Dev Cert.KernelAdamMlpIdeal.nD) → Buf (Elt Ideal) ((c.tc : Thread Cert.KernelAdamMlpIdeal.nD Cert.KernelAdamMlpIdeal.τ).loc Cert.KernelAdamMlpIdeal.main_v0_1)) (v2 : (c : Dev Cert.KernelAdamMlpIdeal.nD) → Buf (Elt Ideal) ((c.tc : Thread Cert.KernelAdamMlpIdeal.nD Cert.KernelAdamMlpIdeal.τ).loc Cert.KernelAdamMlpIdeal.main_v0_2)),
      θ_run (Cert.KernelAdamMlpIdeal.defs (F := Ideal)) (onTc (τ := Cert.KernelAdamMlpIdeal.τ) (Cert.KernelAdamMlpIdeal.main (F := Ideal))) ⟨m, fun _ => 0, g⟩ (fun r => ∀ c : Dev Cert.KernelAdamMlpIdeal.nD,
          r.2.mem ((c.tc : Thread Cert.KernelAdamMlpIdeal.nD Cert.KernelAdamMlpIdeal.τ).loc Cert.KernelAdamMlpIdeal.main_v0_0) = v0 c
          ∧ r.2.mem ((c.tc : Thread Cert.KernelAdamMlpIdeal.nD Cert.KernelAdamMlpIdeal.τ).loc Cert.KernelAdamMlpIdeal.main_v0_1) = v1 c
          ∧ r.2.mem ((c.tc : Thread Cert.KernelAdamMlpIdeal.nD Cert.KernelAdamMlpIdeal.τ).loc Cert.KernelAdamMlpIdeal.main_v0_2) = v2 c
          ∧ r.2.mem ((c.tc : Thread Cert.KernelAdamMlpIdeal.nD Cert.KernelAdamMlpIdeal.τ).loc Cert.KernelAdamMlpIdeal.main_arg0) = m ((c.tc : Thread Cert.KernelAdamMlpIdeal.nD Cert.KernelAdamMlpIdeal.τ).loc Cert.KernelAdamMlpIdeal.main_arg0)
          ∧ r.2.mem ((c.tc : Thread Cert.KernelAdamMlpIdeal.nD Cert.KernelAdamMlpIdeal.τ).loc Cert.KernelAdamMlpIdeal.main_arg1) = m ((c.tc : Thread Cert.KernelAdamMlpIdeal.nD Cert.KernelAdamMlpIdeal.τ).loc Cert.KernelAdamMlpIdeal.main_arg1)
          ∧ r.2.mem ((c.tc : Thread Cert.KernelAdamMlpIdeal.nD Cert.KernelAdamMlpIdeal.τ).loc Cert.KernelAdamMlpIdeal.main_arg2) = m ((c.tc : Thread Cert.KernelAdamMlpIdeal.nD Cert.KernelAdamMlpIdeal.τ).loc Cert.KernelAdamMlpIdeal.main_arg2)
          ∧ r.2.mem ((c.tc : Thread Cert.KernelAdamMlpIdeal.nD Cert.KernelAdamMlpIdeal.τ).loc Cert.KernelAdamMlpIdeal.main_arg3) = m ((c.tc : Thread Cert.KernelAdamMlpIdeal.nD Cert.KernelAdamMlpIdeal.τ).loc Cert.KernelAdamMlpIdeal.main_arg3))
      ∧ θ_run (Cert.ReferenceAdamMlpIdeal.defs (F := Ideal)) (onTc (τ := Cert.ReferenceAdamMlpIdeal.τ) (Cert.ReferenceAdamMlpIdeal.main (F := Ideal))) ⟨m', fun _ => 0, g'⟩ (fun r => ∀ c : Dev Cert.ReferenceAdamMlpIdeal.nD,
          r.2.mem ((c.tc : Thread Cert.ReferenceAdamMlpIdeal.nD Cert.ReferenceAdamMlpIdeal.τ).loc Cert.ReferenceAdamMlpIdeal.main_v23) = v0 c
          ∧ r.2.mem ((c.tc : Thread Cert.ReferenceAdamMlpIdeal.nD Cert.ReferenceAdamMlpIdeal.τ).loc Cert.ReferenceAdamMlpIdeal.main_v4) = v1 c
          ∧ r.2.mem ((c.tc : Thread Cert.ReferenceAdamMlpIdeal.nD Cert.ReferenceAdamMlpIdeal.τ).loc Cert.ReferenceAdamMlpIdeal.main_v10) = v2 c
          ∧ r.2.mem ((c.tc : Thread Cert.ReferenceAdamMlpIdeal.nD Cert.ReferenceAdamMlpIdeal.τ).loc Cert.ReferenceAdamMlpIdeal.main_arg0) = m' ((c.tc : Thread Cert.ReferenceAdamMlpIdeal.nD Cert.ReferenceAdamMlpIdeal.τ).loc Cert.ReferenceAdamMlpIdeal.main_arg0)
          ∧ r.2.mem ((c.tc : Thread Cert.ReferenceAdamMlpIdeal.nD Cert.ReferenceAdamMlpIdeal.τ).loc Cert.ReferenceAdamMlpIdeal.main_arg1) = m' ((c.tc : Thread Cert.ReferenceAdamMlpIdeal.nD Cert.ReferenceAdamMlpIdeal.τ).loc Cert.ReferenceAdamMlpIdeal.main_arg1)
          ∧ r.2.mem ((c.tc : Thread Cert.ReferenceAdamMlpIdeal.nD Cert.ReferenceAdamMlpIdeal.τ).loc Cert.ReferenceAdamMlpIdeal.main_arg2) = m' ((c.tc : Thread Cert.ReferenceAdamMlpIdeal.nD Cert.ReferenceAdamMlpIdeal.τ).loc Cert.ReferenceAdamMlpIdeal.main_arg2)
          ∧ r.2.mem ((c.tc : Thread Cert.ReferenceAdamMlpIdeal.nD Cert.ReferenceAdamMlpIdeal.τ).loc Cert.ReferenceAdamMlpIdeal.main_arg3) = m' ((c.tc : Thread Cert.ReferenceAdamMlpIdeal.nD Cert.ReferenceAdamMlpIdeal.τ).loc Cert.ReferenceAdamMlpIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelDw2 : Cert.KernelDw2.Facts) (hKernelDw2Ideal : Cert.KernelDw2Ideal.Facts) (hReferenceDw2Ideal : Cert.ReferenceDw2Ideal.Facts) (hKernelDw1 : Cert.KernelDw1.Facts) (hKernelDw1Ideal : Cert.KernelDw1Ideal.Facts) (hReferenceDw1Ideal : Cert.ReferenceDw1Ideal.Facts) (hKernelDxn : Cert.KernelDxn.Facts) (hKernelDxnIdeal : Cert.KernelDxnIdeal.Facts) (hReferenceDxnIdeal : Cert.ReferenceDxnIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelQkv : Cert.KernelQkv.Facts) (hKernelQkvIdeal : Cert.KernelQkvIdeal.Facts) (hReferenceQkvIdeal : Cert.ReferenceQkvIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelQkvDx : Cert.KernelQkvDx.Facts) (hKernelQkvDxIdeal : Cert.KernelQkvDxIdeal.Facts) (hReferenceQkvDxIdeal : Cert.ReferenceQkvDxIdeal.Facts) (hKernelInDx : Cert.KernelInDx.Facts) (hKernelInDxIdeal : Cert.KernelInDxIdeal.Facts) (hReferenceInDxIdeal : Cert.ReferenceInDxIdeal.Facts) (hKernelOutDx : Cert.KernelOutDx.Facts) (hKernelOutDxIdeal : Cert.KernelOutDxIdeal.Facts) (hReferenceOutDxIdeal : Cert.ReferenceOutDxIdeal.Facts) (hKernelQkvDw : Cert.KernelQkvDw.Facts) (hKernelQkvDwIdeal : Cert.KernelQkvDwIdeal.Facts) (hReferenceQkvDwIdeal : Cert.ReferenceQkvDwIdeal.Facts) (hKernelInDw : Cert.KernelInDw.Facts) (hKernelInDwIdeal : Cert.KernelInDwIdeal.Facts) (hReferenceInDwIdeal : Cert.ReferenceInDwIdeal.Facts) (hKernelOutDw : Cert.KernelOutDw.Facts) (hKernelOutDwIdeal : Cert.KernelOutDwIdeal.Facts) (hReferenceOutDwIdeal : Cert.ReferenceOutDwIdeal.Facts) (hKernelGate : Cert.KernelGate.Facts) (hKernelGateIdeal : Cert.KernelGateIdeal.Facts) (hReferenceGateIdeal : Cert.ReferenceGateIdeal.Facts) (hKernelGlu : Cert.KernelGlu.Facts) (hKernelGluIdeal : Cert.KernelGluIdeal.Facts) (hReferenceGluIdeal : Cert.ReferenceGluIdeal.Facts) (hKernelGluDx : Cert.KernelGluDx.Facts) (hKernelGluDxIdeal : Cert.KernelGluDxIdeal.Facts) (hReferenceGluDxIdeal : Cert.ReferenceGluDxIdeal.Facts) (hKernelGluDw : Cert.KernelGluDw.Facts) (hKernelGluDwIdeal : Cert.KernelGluDwIdeal.Facts) (hReferenceGluDwIdeal : Cert.ReferenceGluDwIdeal.Facts) (hKernelAct0 : Cert.KernelAct0.Facts) (hKernelAct0Ideal : Cert.KernelAct0Ideal.Facts) (hReferenceAct0Ideal : Cert.ReferenceAct0Ideal.Facts) (hKernelAct1 : Cert.KernelAct1.Facts) (hKernelAct1Ideal : Cert.KernelAct1Ideal.Facts) (hReferenceAct1Ideal : Cert.ReferenceAct1Ideal.Facts) (hKernelAct2 : Cert.KernelAct2.Facts) (hKernelAct2Ideal : Cert.KernelAct2Ideal.Facts) (hReferenceAct2Ideal : Cert.ReferenceAct2Ideal.Facts) (hKernelDxn0 : Cert.KernelDxn0.Facts) (hKernelDxn0Ideal : Cert.KernelDxn0Ideal.Facts) (hReferenceDxn0Ideal : Cert.ReferenceDxn0Ideal.Facts) (hKernelDxn1 : Cert.KernelDxn1.Facts) (hKernelDxn1Ideal : Cert.KernelDxn1Ideal.Facts) (hReferenceDxn1Ideal : Cert.ReferenceDxn1Ideal.Facts) (hKernelDxn2 : Cert.KernelDxn2.Facts) (hKernelDxn2Ideal : Cert.KernelDxn2Ideal.Facts) (hReferenceDxn2Ideal : Cert.ReferenceDxn2Ideal.Facts) (hKernelQkv0 : Cert.KernelQkv0.Facts) (hKernelQkv0Ideal : Cert.KernelQkv0Ideal.Facts) (hReferenceQkv0Ideal : Cert.ReferenceQkv0Ideal.Facts) (hKernelOut0 : Cert.KernelOut0.Facts) (hKernelOut0Ideal : Cert.KernelOut0Ideal.Facts) (hReferenceOut0Ideal : Cert.ReferenceOut0Ideal.Facts) (hKernelQkvDx0 : Cert.KernelQkvDx0.Facts) (hKernelQkvDx0Ideal : Cert.KernelQkvDx0Ideal.Facts) (hReferenceQkvDx0Ideal : Cert.ReferenceQkvDx0Ideal.Facts) (hKernelInDx0 : Cert.KernelInDx0.Facts) (hKernelInDx0Ideal : Cert.KernelInDx0Ideal.Facts) (hReferenceInDx0Ideal : Cert.ReferenceInDx0Ideal.Facts) (hKernelOutDx0 : Cert.KernelOutDx0.Facts) (hKernelOutDx0Ideal : Cert.KernelOutDx0Ideal.Facts) (hReferenceOutDx0Ideal : Cert.ReferenceOutDx0Ideal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamGlu : Cert.KernelAdamGlu.Facts) (hKernelAdamGluIdeal : Cert.KernelAdamGluIdeal.Facts) (hReferenceAdamGluIdeal : Cert.ReferenceAdamGluIdeal.Facts) (hKernelAdamQkv : Cert.KernelAdamQkv.Facts) (hKernelAdamQkvIdeal : Cert.KernelAdamQkvIdeal.Facts) (hReferenceAdamQkvIdeal : Cert.ReferenceAdamQkvIdeal.Facts) (hKernelAdamMlp : Cert.KernelAdamMlp.Facts) (hKernelAdamMlpIdeal : Cert.KernelAdamMlpIdeal.Facts) (hReferenceAdamMlpIdeal : Cert.ReferenceAdamMlpIdeal.Facts) (hKernelAdamSmall : Cert.KernelAdamSmall.Facts) (hKernelAdamSmallIdeal : Cert.KernelAdamSmallIdeal.Facts) (hReferenceAdamSmallIdeal : Cert.ReferenceAdamSmallIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDxn (hKernelDxn := hKernelDxn)
    ∧ quiescent_KernelDxnIdeal (hKernelDxnIdeal := hKernelDxnIdeal)
    ∧ quiescent_ReferenceDxnIdeal (hReferenceDxnIdeal := hReferenceDxnIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQkvDx (hKernelQkvDx := hKernelQkvDx)
    ∧ quiescent_KernelQkvDxIdeal (hKernelQkvDxIdeal := hKernelQkvDxIdeal)
    ∧ quiescent_ReferenceQkvDxIdeal (hReferenceQkvDxIdeal := hReferenceQkvDxIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelQkvDw (hKernelQkvDw := hKernelQkvDw)
    ∧ quiescent_KernelQkvDwIdeal (hKernelQkvDwIdeal := hKernelQkvDwIdeal)
    ∧ quiescent_ReferenceQkvDwIdeal (hReferenceQkvDwIdeal := hReferenceQkvDwIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelGluDx (hKernelGluDx := hKernelGluDx)
    ∧ quiescent_KernelGluDxIdeal (hKernelGluDxIdeal := hKernelGluDxIdeal)
    ∧ quiescent_ReferenceGluDxIdeal (hReferenceGluDxIdeal := hReferenceGluDxIdeal)
    ∧ quiescent_KernelGluDw (hKernelGluDw := hKernelGluDw)
    ∧ quiescent_KernelGluDwIdeal (hKernelGluDwIdeal := hKernelGluDwIdeal)
    ∧ quiescent_ReferenceGluDwIdeal (hReferenceGluDwIdeal := hReferenceGluDwIdeal)
    ∧ quiescent_KernelAct0 (hKernelAct0 := hKernelAct0)
    ∧ quiescent_KernelAct0Ideal (hKernelAct0Ideal := hKernelAct0Ideal)
    ∧ quiescent_ReferenceAct0Ideal (hReferenceAct0Ideal := hReferenceAct0Ideal)
    ∧ quiescent_KernelAct1 (hKernelAct1 := hKernelAct1)
    ∧ quiescent_KernelAct1Ideal (hKernelAct1Ideal := hKernelAct1Ideal)
    ∧ quiescent_ReferenceAct1Ideal (hReferenceAct1Ideal := hReferenceAct1Ideal)
    ∧ quiescent_KernelAct2 (hKernelAct2 := hKernelAct2)
    ∧ quiescent_KernelAct2Ideal (hKernelAct2Ideal := hKernelAct2Ideal)
    ∧ quiescent_ReferenceAct2Ideal (hReferenceAct2Ideal := hReferenceAct2Ideal)
    ∧ quiescent_KernelDxn0 (hKernelDxn0 := hKernelDxn0)
    ∧ quiescent_KernelDxn0Ideal (hKernelDxn0Ideal := hKernelDxn0Ideal)
    ∧ quiescent_ReferenceDxn0Ideal (hReferenceDxn0Ideal := hReferenceDxn0Ideal)
    ∧ quiescent_KernelDxn1 (hKernelDxn1 := hKernelDxn1)
    ∧ quiescent_KernelDxn1Ideal (hKernelDxn1Ideal := hKernelDxn1Ideal)
    ∧ quiescent_ReferenceDxn1Ideal (hReferenceDxn1Ideal := hReferenceDxn1Ideal)
    ∧ quiescent_KernelDxn2 (hKernelDxn2 := hKernelDxn2)
    ∧ quiescent_KernelDxn2Ideal (hKernelDxn2Ideal := hKernelDxn2Ideal)
    ∧ quiescent_ReferenceDxn2Ideal (hReferenceDxn2Ideal := hReferenceDxn2Ideal)
    ∧ quiescent_KernelQkv0 (hKernelQkv0 := hKernelQkv0)
    ∧ quiescent_KernelQkv0Ideal (hKernelQkv0Ideal := hKernelQkv0Ideal)
    ∧ quiescent_ReferenceQkv0Ideal (hReferenceQkv0Ideal := hReferenceQkv0Ideal)
    ∧ quiescent_KernelOut0 (hKernelOut0 := hKernelOut0)
    ∧ quiescent_KernelOut0Ideal (hKernelOut0Ideal := hKernelOut0Ideal)
    ∧ quiescent_ReferenceOut0Ideal (hReferenceOut0Ideal := hReferenceOut0Ideal)
    ∧ quiescent_KernelQkvDx0 (hKernelQkvDx0 := hKernelQkvDx0)
    ∧ quiescent_KernelQkvDx0Ideal (hKernelQkvDx0Ideal := hKernelQkvDx0Ideal)
    ∧ quiescent_ReferenceQkvDx0Ideal (hReferenceQkvDx0Ideal := hReferenceQkvDx0Ideal)
    ∧ quiescent_KernelInDx0 (hKernelInDx0 := hKernelInDx0)
    ∧ quiescent_KernelInDx0Ideal (hKernelInDx0Ideal := hKernelInDx0Ideal)
    ∧ quiescent_ReferenceInDx0Ideal (hReferenceInDx0Ideal := hReferenceInDx0Ideal)
    ∧ quiescent_KernelOutDx0 (hKernelOutDx0 := hKernelOutDx0)
    ∧ quiescent_KernelOutDx0Ideal (hKernelOutDx0Ideal := hKernelOutDx0Ideal)
    ∧ quiescent_ReferenceOutDx0Ideal (hReferenceOutDx0Ideal := hReferenceOutDx0Ideal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamGlu (hKernelAdamGlu := hKernelAdamGlu)
    ∧ quiescent_KernelAdamGluIdeal (hKernelAdamGluIdeal := hKernelAdamGluIdeal)
    ∧ quiescent_ReferenceAdamGluIdeal (hReferenceAdamGluIdeal := hReferenceAdamGluIdeal)
    ∧ quiescent_KernelAdamQkv (hKernelAdamQkv := hKernelAdamQkv)
    ∧ quiescent_KernelAdamQkvIdeal (hKernelAdamQkvIdeal := hKernelAdamQkvIdeal)
    ∧ quiescent_ReferenceAdamQkvIdeal (hReferenceAdamQkvIdeal := hReferenceAdamQkvIdeal)
    ∧ quiescent_KernelAdamMlp (hKernelAdamMlp := hKernelAdamMlp)
    ∧ quiescent_KernelAdamMlpIdeal (hKernelAdamMlpIdeal := hKernelAdamMlpIdeal)
    ∧ quiescent_ReferenceAdamMlpIdeal (hReferenceAdamMlpIdeal := hReferenceAdamMlpIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelAct_KernelActIdeal
    ∧ algebraic_KernelActIdeal_ReferenceActIdeal (hKernelActIdeal := hKernelActIdeal) (hReferenceActIdeal := hReferenceActIdeal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDxn_KernelDxnIdeal
    ∧ algebraic_KernelDxnIdeal_ReferenceDxnIdeal (hKernelDxnIdeal := hKernelDxnIdeal) (hReferenceDxnIdeal := hReferenceDxnIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelQkvDx_KernelQkvDxIdeal
    ∧ algebraic_KernelQkvDxIdeal_ReferenceQkvDxIdeal (hKernelQkvDxIdeal := hKernelQkvDxIdeal) (hReferenceQkvDxIdeal := hReferenceQkvDxIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelQkvDw_KernelQkvDwIdeal
    ∧ algebraic_KernelQkvDwIdeal_ReferenceQkvDwIdeal (hKernelQkvDwIdeal := hKernelQkvDwIdeal) (hReferenceQkvDwIdeal := hReferenceQkvDwIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelGate_KernelGateIdeal
    ∧ algebraic_KernelGateIdeal_ReferenceGateIdeal (hKernelGateIdeal := hKernelGateIdeal) (hReferenceGateIdeal := hReferenceGateIdeal)
    ∧ preserves_KernelGlu_KernelGluIdeal
    ∧ algebraic_KernelGluIdeal_ReferenceGluIdeal (hKernelGluIdeal := hKernelGluIdeal) (hReferenceGluIdeal := hReferenceGluIdeal)
    ∧ preserves_KernelGluDx_KernelGluDxIdeal
    ∧ algebraic_KernelGluDxIdeal_ReferenceGluDxIdeal (hKernelGluDxIdeal := hKernelGluDxIdeal) (hReferenceGluDxIdeal := hReferenceGluDxIdeal)
    ∧ preserves_KernelGluDw_KernelGluDwIdeal
    ∧ algebraic_KernelGluDwIdeal_ReferenceGluDwIdeal (hKernelGluDwIdeal := hKernelGluDwIdeal) (hReferenceGluDwIdeal := hReferenceGluDwIdeal)
    ∧ preserves_KernelAct0_KernelAct0Ideal
    ∧ algebraic_KernelAct0Ideal_ReferenceAct0Ideal (hKernelAct0Ideal := hKernelAct0Ideal) (hReferenceAct0Ideal := hReferenceAct0Ideal)
    ∧ preserves_KernelAct1_KernelAct1Ideal
    ∧ algebraic_KernelAct1Ideal_ReferenceAct1Ideal (hKernelAct1Ideal := hKernelAct1Ideal) (hReferenceAct1Ideal := hReferenceAct1Ideal)
    ∧ preserves_KernelAct2_KernelAct2Ideal
    ∧ algebraic_KernelAct2Ideal_ReferenceAct2Ideal (hKernelAct2Ideal := hKernelAct2Ideal) (hReferenceAct2Ideal := hReferenceAct2Ideal)
    ∧ preserves_KernelDxn0_KernelDxn0Ideal
    ∧ algebraic_KernelDxn0Ideal_ReferenceDxn0Ideal (hKernelDxn0Ideal := hKernelDxn0Ideal) (hReferenceDxn0Ideal := hReferenceDxn0Ideal)
    ∧ preserves_KernelDxn1_KernelDxn1Ideal
    ∧ algebraic_KernelDxn1Ideal_ReferenceDxn1Ideal (hKernelDxn1Ideal := hKernelDxn1Ideal) (hReferenceDxn1Ideal := hReferenceDxn1Ideal)
    ∧ preserves_KernelDxn2_KernelDxn2Ideal
    ∧ algebraic_KernelDxn2Ideal_ReferenceDxn2Ideal (hKernelDxn2Ideal := hKernelDxn2Ideal) (hReferenceDxn2Ideal := hReferenceDxn2Ideal)
    ∧ preserves_KernelQkv0_KernelQkv0Ideal
    ∧ algebraic_KernelQkv0Ideal_ReferenceQkv0Ideal (hKernelQkv0Ideal := hKernelQkv0Ideal) (hReferenceQkv0Ideal := hReferenceQkv0Ideal)
    ∧ preserves_KernelOut0_KernelOut0Ideal
    ∧ algebraic_KernelOut0Ideal_ReferenceOut0Ideal (hKernelOut0Ideal := hKernelOut0Ideal) (hReferenceOut0Ideal := hReferenceOut0Ideal)
    ∧ preserves_KernelQkvDx0_KernelQkvDx0Ideal
    ∧ algebraic_KernelQkvDx0Ideal_ReferenceQkvDx0Ideal (hKernelQkvDx0Ideal := hKernelQkvDx0Ideal) (hReferenceQkvDx0Ideal := hReferenceQkvDx0Ideal)
    ∧ preserves_KernelInDx0_KernelInDx0Ideal
    ∧ algebraic_KernelInDx0Ideal_ReferenceInDx0Ideal (hKernelInDx0Ideal := hKernelInDx0Ideal) (hReferenceInDx0Ideal := hReferenceInDx0Ideal)
    ∧ preserves_KernelOutDx0_KernelOutDx0Ideal
    ∧ algebraic_KernelOutDx0Ideal_ReferenceOutDx0Ideal (hKernelOutDx0Ideal := hKernelOutDx0Ideal) (hReferenceOutDx0Ideal := hReferenceOutDx0Ideal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamGlu_KernelAdamGluIdeal
    ∧ algebraic_KernelAdamGluIdeal_ReferenceAdamGluIdeal (hKernelAdamGluIdeal := hKernelAdamGluIdeal) (hReferenceAdamGluIdeal := hReferenceAdamGluIdeal)
    ∧ preserves_KernelAdamQkv_KernelAdamQkvIdeal
    ∧ algebraic_KernelAdamQkvIdeal_ReferenceAdamQkvIdeal (hKernelAdamQkvIdeal := hKernelAdamQkvIdeal) (hReferenceAdamQkvIdeal := hReferenceAdamQkvIdeal)
    ∧ preserves_KernelAdamMlp_KernelAdamMlpIdeal
    ∧ algebraic_KernelAdamMlpIdeal_ReferenceAdamMlpIdeal (hKernelAdamMlpIdeal := hKernelAdamMlpIdeal) (hReferenceAdamMlpIdeal := hReferenceAdamMlpIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== Pre_finite.lean ====
abbrev S8192x6144 : Shape := ⟨2, ![8192, 6144]⟩
abbrev S16x15x31 : Shape := ⟨3, ![16, 15, 31]⟩
abbrev S8192x2048 : Shape := ⟨2, ![8192, 2048]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x6144 .bf16) (main_arg1 : FVec F S16x15x31 .f32) (main_arg2 : FVec F S8192x2048 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  let main_c_1 : IVec S_ 1 := constantI S_ 1 1#1
  let main_v8 : IVec S_ 1 := (fun x v => Host.reduce IntOp.andi x v reducesTo_S16x15x31_S_d0_1_2 h_S_) main_v7 main_c_1
  let main_v9 : IVec S_ 1 := andi main_v4 main_v8
  let main_v10 : FVec F S8192x2048 .f32 := Host.absf main_arg2
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_c_3 : IVec S_ 1 := constantI S_ 1 1#1
  let main_v13 : IVec S_ 1 := (fun x v => Host.reduce IntOp.andi x v reducesTo_S8192x2048_S_d0_1 h_S_) main_v12 main_c_3
  let main_v14 : IVec S_ 1 := andi main_v9 main_v13
  main_v14
-- ==== Kernel.lean ====
abbrev S8192x6144 : Shape := ⟨2, ![8192, 6144]⟩
abbrev S16x15x31 : Shape := ⟨3, ![16, 15, 31]⟩
abbrev S8192x2048 : Shape := ⟨2, ![8192, 2048]⟩
abbrev S1x8192x16x128 : Shape := ⟨4, ![1, 8192, 16, 128]⟩
abbrev S1x16x8192x128 : Shape := ⟨4, ![1, 16, 8192, 128]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S1x16x128x64x128 : Shape := ⟨5, ![1, 16, 128, 64, 128]⟩
abbrev S128x8x1 : Shape := ⟨3, ![128, 8, 1]⟩
abbrev S1x16x128x8x64x128 : Shape := ⟨6, ![1, 16, 128, 8, 64, 128]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S16x128x64x8x64 : Shape := ⟨5, ![16, 128, 64, 8, 64]⟩
abbrev S1x16x128x64x8x64 : Shape := ⟨6, ![1, 16, 128, 64, 8, 64]⟩
abbrev S64x1x64 : Shape := ⟨3, ![64, 1, 64]⟩
abbrev S1x16x128x64 : Shape := ⟨4, ![1, 16, 128, 64]⟩
abbrev S1x16x128x64x1x1 : Shape := ⟨6, ![1, 16, 128, 64, 1, 1]⟩
abbrev S1x16x8192x1 : Shape := ⟨4, ![1, 16, 8192, 1]⟩
abbrev S8x1 : Shape := ⟨2, ![8, 1]⟩
abbrev S8x8 : Shape := ⟨2, ![8, 8]⟩
abbrev S8x1x8x1 : Shape := ⟨4, ![8, 1, 8, 1]⟩
abbrev S8x64x8x64 : Shape := ⟨4, ![8, 64, 8, 64]⟩
abbrev S8x64x8x64x1 : Shape := ⟨5, ![8, 64, 8, 64, 1]⟩
abbrev S8x64x8x64x2 : Shape := ⟨5, ![8, 64, 8, 64, 2]⟩
abbrev S16x8x64x8x64 : Shape := ⟨5, ![16, 8, 64, 8, 64]⟩
abbrev S1x1x64x1x64 : Shape := ⟨5, ![1, 1, 64, 1, 64]⟩
abbrev S16x8x64x512 : Shape := ⟨4, ![16, 8, 64, 512]⟩
abbrev S512x128 : Shape := ⟨2, ![512, 128]⟩
abbrev S8192x128 : Shape := ⟨2, ![8192, 128]⟩
abbrev S1x8x64x512 : Shape := ⟨4, ![1, 8, 64, 512]⟩
abbrev S8x64x512 : Shape := ⟨3, ![8, 64, 512]⟩
abbrev S64x128 : Shape := ⟨2, ![64, 128]⟩
abbrev S1x1x64x512 : Shape := ⟨4, ![1, 1, 64, 512]⟩
abbrev S64x512 : Shape := ⟨2, ![64, 512]⟩

abbrev nBuf : Space → Nat
  | .hbm => 255
  | .vmem => 22
  | .smem => 0
  | _ => 0

abbrev hbmTy0_0 (i : Nat) : BufTy := match i % 128 with
  | 0 => ⟨S8192x6144, .bf16⟩
  | 1 => ⟨S16x15x31, .f32⟩
  | 2 => ⟨S8192x2048, .f32⟩
  | 3 => ⟨S8192x2048, .bf16⟩
  | 4 => ⟨S8192x2048, .bf16⟩
  | 5 => ⟨S8192x2048, .bf16⟩
  | 6 => ⟨S8192x2048, .f32⟩
  | 7 => ⟨S1x8192x16x128, .f32⟩
  | 8 => ⟨S1x16x8192x128, .f32⟩
  | 9 => ⟨S8192x2048, .f32⟩
  | 10 => ⟨S1x8192x16x128, .f32⟩
  | 11 => ⟨S1x16x8192x128, .f32⟩
  | 12 => ⟨S8192x2048, .f32⟩
  | 13 => ⟨S1x8192x16x128, .f32⟩
  | 14 => ⟨S1x16x8192x128, .f32⟩
  | 15 => ⟨S128, .i32⟩
  | 16 => ⟨S64, .i32⟩
  | 17 => ⟨S_, .i32⟩
  | 18 => ⟨S128, .i32⟩
  | 19 => ⟨S128, .i32⟩
  | 20 => ⟨S_, .i32⟩
  | 21 => ⟨S_, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128x1, .i32⟩
  | 29 => ⟨S8, .i32⟩
  | 30 => ⟨S1x8, .i32⟩
  | 31 => ⟨S128x8, .i32⟩
  | 32 => ⟨S128x8, .i32⟩
  | 33 => ⟨S128x8, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S1x64, .i32⟩
  | 46 => ⟨S64x1, .i32⟩
  | 47 => ⟨S64x64, .i32⟩
  | 48 => ⟨S64x64, .i32⟩
  | 49 => ⟨S64x64, .i1⟩
  | 50 => ⟨S1x64, .i32⟩
  | 51 => ⟨S64x1, .i32⟩
  | 52 => ⟨S_, .i32⟩
  | 53 => ⟨S64x1, .i32⟩
  | 54 => ⟨S64x1, .i32⟩
  | 55 => ⟨S64x64, .i32⟩
  | 56 => ⟨S64x64, .i32⟩
  | 57 => ⟨S64x64, .i1⟩
  | 58 => ⟨S64x64, .i1⟩
  | 59 => ⟨S1x64, .i32⟩
  | 60 => ⟨S64x1, .i32⟩
  | 61 => ⟨S64x64, .i32⟩
  | 62 => ⟨S64x64, .i32⟩
  | 63 => ⟨S64x64, .i32⟩
  | 64 => ⟨S128x1, .i32⟩
  | 65 => ⟨S128x8, .i32⟩
  | 66 => ⟨S128x8, .i32⟩
  | 67 => ⟨S1x16x128x64x128, .f32⟩
  | 68 => ⟨S1x16x128x64x128, .f32⟩
  | 69 => ⟨S_, .i32⟩
  | 70 => ⟨S128x8, .i32⟩
  | 71 => ⟨S128x8, .i1⟩
  | 72 => ⟨S_, .i32⟩
  | 73 => ⟨S128x8, .i32⟩
  | 74 => ⟨S128x8, .i32⟩
  | 75 => ⟨S128x8, .i32⟩
  | 76 => ⟨S128x8x1, .i32⟩
  | 77 => ⟨S1x16x128x8x64x128, .f32⟩
  | 78 => ⟨S_, .i32⟩
  | 79 => ⟨S128x8, .i32⟩
  | 80 => ⟨S128x8, .i32⟩
  | 81 => ⟨S_, .i32⟩
  | 82 => ⟨S128x8, .i32⟩
  | 83 => ⟨S128x8, .i32⟩
  | 84 => ⟨S128x1x8x1, .i32⟩
  | 85 => ⟨S_, .i32⟩
  | 86 => ⟨S64x64, .i32⟩
  | 87 => ⟨S64x64, .i32⟩
  | 88 => ⟨S_, .i32⟩
  | 89 => ⟨S64x64, .i32⟩
  | 90 => ⟨S64x64, .i32⟩
  | 91 => ⟨S_, .i32⟩
  | 92 => ⟨S_, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S1x64x1x64, .i32⟩
  | 100 => ⟨S_, .i32⟩
  | 101 => ⟨S128x1x8x1, .i32⟩
  | 102 => ⟨S128x1x8x1, .i1⟩
  | 103 => ⟨S_, .i32⟩
  | 104 => ⟨S128x1x8x1, .i32⟩
  | 105 => ⟨S128x1x8x1, .i32⟩
  | 106 => ⟨S128x1x8x1, .i32⟩
  | 107 => ⟨S_, .i32⟩
  | 108 => ⟨S1x64x1x64, .i32⟩
  | 109 => ⟨S1x64x1x64, .i1⟩
  | 110 => ⟨S_, .i32⟩
  | 111 => ⟨S1x64x1x64, .i32⟩
  | 112 => ⟨S1x64x1x64, .i32⟩
  | 113 => ⟨S1x64x1x64, .i32⟩
  | 114 => ⟨S128x64x8x64, .i32⟩
  | 115 => ⟨S128x64x8x64, .i32⟩
  | 116 => ⟨S128x64x8x64x1, .i32⟩
  | 117 => ⟨S128x64x8x64x1, .i32⟩
  | 118 => ⟨S128x64x8x64x2, .i32⟩
  | 119 => ⟨S16x128x64x8x64, .f32⟩
  | 120 => ⟨S1x16x128x64x8x64, .f32⟩
  | 121 => ⟨S_, .f32⟩
  | 122 => ⟨S1x16x128x64x8x64, .f32⟩
  | 123 => ⟨S1x16x128x64x8x64, .f32⟩
  | 124 => ⟨S1x16x128x64x8x64, .f32⟩
  | 125 => ⟨S1x16x128x64x8x64, .f32⟩
  | 126 => ⟨S64x1x64, .i1⟩
  | 127 => ⟨S_, .f32⟩
  | _ => ⟨S8192x6144, .bf16⟩

abbrev hbmTy0_1 (i : Nat) : BufTy := match i % 128 with
  | 0 => ⟨S_, .f32⟩
  | 1 => ⟨S1x16x128x64x8x64, .i1⟩
  | 2 => ⟨S1x16x128x64x8x64, .f32⟩
  | 3 => ⟨S1x16x128x64x8x64, .f32⟩
  | 4 => ⟨S_, .f32⟩
  | 5 => ⟨S1x16x128x64, .f32⟩
  | 6 => ⟨S1x16x128x64x1x1, .f32⟩
  | 7 => ⟨S1x16x128x64x8x64, .f32⟩
  | 8 => ⟨S1x16x128x64x8x64, .f32⟩
  | 9 => ⟨S1x16x128x64x8x64, .f32⟩
  | 10 => ⟨S_, .f32⟩
  | 11 => ⟨S1x16x128x64, .f32⟩
  | 12 => ⟨S1x16x128x64x1x1, .f32⟩
  | 13 => ⟨S1x16x128x64x128, .f32⟩
  | 14 => ⟨S_, .i32⟩
  | 15 => ⟨S128x8, .i32⟩
  | 16 => ⟨S128x8, .i1⟩
  | 17 => ⟨S_, .i32⟩
  | 18 => ⟨S128x8, .i32⟩
  | 19 => ⟨S128x8, .i32⟩
  | 20 => ⟨S128x8, .i32⟩
  | 21 => ⟨S128x8x1, .i32⟩
  | 22 => ⟨S1x16x128x8x64x128, .f32⟩
  | 23 => ⟨S1x16x128x64x8x64, .f32⟩
  | 24 => ⟨S1x16x128x64x8x64, .f32⟩
  | 25 => ⟨S1x16x128x64x128, .f32⟩
  | 26 => ⟨S1x16x8192x128, .f32⟩
  | 27 => ⟨S1x16x128x64x1x1, .f32⟩
  | 28 => ⟨S1x16x128x64x1x1, .f32⟩
  | 29 => ⟨S1x16x8192x1, .f32⟩
  | 30 => ⟨S1x16x8192x128, .f32⟩
  | 31 => ⟨S1x8192x16x128, .f32⟩
  | 32 => ⟨S8192x2048, .f32⟩
  | 33 => ⟨S8192x2048, .bf16⟩
  | 34 => ⟨S1x8192x16x128, .f32⟩
  | 35 => ⟨S8192x2048, .f32⟩
  | 36 => ⟨S8, .i32⟩
  | 37 => ⟨S1x8, .i32⟩
  | 38 => ⟨S8, .i32⟩
  | 39 => ⟨S8x1, .i32⟩
  | 40 => ⟨S8x8, .i32⟩
  | 41 => ⟨S8x8, .i32⟩
  | 42 => ⟨S8x8, .i32⟩
  | 43 => ⟨S_, .i32⟩
  | 44 => ⟨S8x8, .i32⟩
  | 45 => ⟨S8x8, .i32⟩
  | 46 => ⟨S_, .i32⟩
  | 47 => ⟨S8x8, .i32⟩
  | 48 => ⟨S8x8, .i32⟩
  | 49 => ⟨S64, .i32⟩
  | 50 => ⟨S_, .i32⟩
  | 51 => ⟨S64, .i32⟩
  | 52 => ⟨S64, .i32⟩
  | 53 => ⟨S_, .i32⟩
  | 54 => ⟨S_, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S1x64, .i32⟩
  | 62 => ⟨S64x1, .i32⟩
  | 63 => ⟨S64x64, .i32⟩
  | 64 => ⟨S64x64, .i32⟩
  | 65 => ⟨S64x64, .i1⟩
  | 66 => ⟨S1x64, .i32⟩
  | 67 => ⟨S64x1, .i32⟩
  | 68 => ⟨S_, .i32⟩
  | 69 => ⟨S64x1, .i32⟩
  | 70 => ⟨S64x1, .i32⟩
  | 71 => ⟨S64x64, .i32⟩
  | 72 => ⟨S64x64, .i32⟩
  | 73 => ⟨S64x64, .i1⟩
  | 74 => ⟨S64x64, .i1⟩
  | 75 => ⟨S1x64, .i32⟩
  | 76 => ⟨S64x1, .i32⟩
  | 77 => ⟨S64x64, .i32⟩
  | 78 => ⟨S64x64, .i32⟩
  | 79 => ⟨S64x64, .i32⟩
  | 80 => ⟨S_, .i32⟩
  | 81 => ⟨S64x64, .i32⟩
  | 82 => ⟨S64x64, .i32⟩
  | 83 => ⟨S_, .i32⟩
  | 84 => ⟨S64x64, .i32⟩
  | 85 => ⟨S64x64, .i32⟩
  | 86 => ⟨S_, .i32⟩
  | 87 => ⟨S_, .i32⟩
  | 88 => ⟨S_, .i32⟩
  | 89 => ⟨S64x64, .i32⟩
  | 90 => ⟨S64x64, .i32⟩
  | 91 => ⟨S_, .i32⟩
  | 92 => ⟨S64x64, .i32⟩
  | 93 => ⟨S64x64, .i32⟩
  | 94 => ⟨S8x1x8x1, .i32⟩
  | 95 => ⟨S1x64x1x64, .i32⟩
  | 96 => ⟨S_, .i32⟩
  | 97 => ⟨S8x1x8x1, .i32⟩
  | 98 => ⟨S8x1x8x1, .i1⟩
  | 99 => ⟨S_, .i32⟩
  | 100 => ⟨S8x1x8x1, .i32⟩
  | 101 => ⟨S8x1x8x1, .i32⟩
  | 102 => ⟨S8x1x8x1, .i32⟩
  | 103 => ⟨S_, .i32⟩
  | 104 => ⟨S1x64x1x64, .i32⟩
  | 105 => ⟨S1x64x1x64, .i1⟩
  | 106 => ⟨S_, .i32⟩
  | 107 => ⟨S1x64x1x64, .i32⟩
  | 108 => ⟨S1x64x1x64, .i32⟩
  | 109 => ⟨S1x64x1x64, .i32⟩
  | 110 => ⟨S8x64x8x64, .i32⟩
  | 111 => ⟨S8x64x8x64, .i32⟩
  | 112 => ⟨S8x64x8x64x1, .i32⟩
  | 113 => ⟨S8x64x8x64x1, .i32⟩
  | 114 => ⟨S8x64x8x64x2, .i32⟩
  | 115 => ⟨S16x8x64x8x64, .f32⟩
  | 116 => ⟨S1x1x64x1x64, .i1⟩
  | 117 => ⟨S_, .f32⟩
  | 118 => ⟨S_, .f32⟩
  | 119 => ⟨S16x8x64x8x64, .i1⟩
  | 120 => ⟨S16x8x64x8x64, .f32⟩
  | 121 => ⟨S16x8x64x8x64, .f32⟩
  | 122 => ⟨S16x8x64x512, .f32⟩
  | 123 => ⟨S8192x2048, .bf16⟩
  | 124 => ⟨S8192x2048, .f32⟩
  | 125 => ⟨S8192x2048, .f32⟩
  | 126 => ⟨S16x8x64x512, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S1x8x64x512, .f32⟩
  | .local _ .vmem, ⟨13, _⟩ => ⟨S1x8x64x512, .f32⟩
  | .local _ .vmem, ⟨14, _⟩ => ⟨S512x128, .bf16⟩
  | .local _ .vmem, ⟨15, _⟩ => ⟨S512x128, .bf16⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S1x8x64x512, .f32⟩
  | .local _ .vmem, ⟨21, _⟩ => ⟨S1x8x64x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_c_13 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_21 : Ref sig .tc := ⟨.hbm, 142, rfl⟩
abbrev main_v98 : Ref sig .tc := ⟨.hbm, 143, rfl⟩
abbrev main_v99 : Ref sig .tc := ⟨.hbm, 144, rfl⟩
abbrev main_c_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_23 : Ref sig .tc := ⟨.hbm, 171, rfl⟩
abbrev main_v125 : Ref sig .tc := ⟨.hbm, 172, rfl⟩
abbrev main_v126 : Ref sig .tc := ⟨.hbm, 173, rfl⟩
abbrev main_c_24 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_25 : Ref sig .tc := ⟨.hbm, 178, rfl⟩
abbrev main_v130 : Ref sig .tc := ⟨.hbm, 179, rfl⟩
abbrev main_v131 : Ref sig .tc := ⟨.hbm, 180, rfl⟩
abbrev main_c_26 : Ref sig .tc := ⟨.hbm, 181, rfl⟩
abbrev main_c_27 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_28 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_c_29 : Ref sig .tc := ⟨.hbm, 208, rfl⟩
abbrev main_v151 : Ref sig .tc := ⟨.hbm, 209, rfl⟩
abbrev main_v152 : Ref sig .tc := ⟨.hbm, 210, rfl⟩
abbrev main_c_30 : Ref sig .tc := ⟨.hbm, 211, rfl⟩
abbrev main_v153 : Ref sig .tc := ⟨.hbm, 212, rfl⟩
abbrev main_v154 : Ref sig .tc := ⟨.hbm, 213, rfl⟩
abbrev main_c_31 : Ref sig .tc := ⟨.hbm, 214, rfl⟩
abbrev main_c_32 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_c_33 : Ref sig .tc := ⟨.hbm, 224, rfl⟩
abbrev main_v158 : Ref sig .tc := ⟨.hbm, 225, rfl⟩
abbrev main_v159 : Ref sig .tc := ⟨.hbm, 226, rfl⟩
abbrev main_c_34 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_35 : Ref sig .tc := ⟨.hbm, 231, rfl⟩
abbrev main_v163 : Ref sig .tc := ⟨.hbm, 232, rfl⟩
abbrev main_v164 : Ref sig .tc := ⟨.hbm, 233, rfl⟩
abbrev main_c_36 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_37 : Ref sig .tc := ⟨.hbm, 245, rfl⟩
abbrev main_call6_v0 : Ref sig .tc := ⟨.hbm, 246, rfl⟩
abbrev main_call6_v1 : Ref sig .tc := ⟨.hbm, 247, rfl⟩
abbrev main_call6_v2 : Ref sig .tc := ⟨.hbm, 248, rfl⟩
abbrev main_v175 : Ref sig .tc := ⟨.hbm, 249, rfl⟩
abbrev main_v176 : Ref sig .tc := ⟨.hbm, 250, rfl⟩
abbrev main_v177_0 : Ref sig .tc := ⟨.hbm, 251, rfl⟩
abbrev main_v177_1 : Ref sig .tc := ⟨.hbm, 252, rfl⟩
abbrev main_v177_2 : Ref sig .tc := ⟨.hbm, 253, rfl⟩
abbrev main_v177_3 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c120_i32 : BitVec 32 := 120#32
  let c0_i32_10 : BitVec 32 := 0#32
  let arg1 : BitVec 32 := BitVec.ofNat 32 (i 1).val
  let c8_i32 : BitVec 32 := 8#32
  let v18 : BitVec 32 := Scalar.muli arg1 c8_i32
  let c0_i32_9 : BitVec 32 := 0#32
  let v19 : BitVec 32 := Scalar.addi v18 c0_i32_9
  let c4_i32 : BitVec 32 := 4#32
  let v20 : BitVec 32 := Scalar.subi v19 c4_i32
  let v21 : BitVec 32 := Scalar.maxsi c0_i32_10 v20
  let v22 : BitVec 32 := Scalar.minsi c120_i32 v21
  let c64_i32 : BitVec 32 := 64#32
  let v23 : BitVec 32 := Scalar.muli v22 c64_i32
  v23
def k0_mult2 (i : grid0.Coords) : BitVec 32 :=
  let c120_i32_15 : BitVec 32 := 120#32
  let c0_i32_14 : BitVec 32 := 0#32
  let arg1 : BitVec 32 := BitVec.ofNat 32 (i 1).val
  let c8_i32_11 : BitVec 32 := 8#32
  let v26 : BitVec 32 := Scalar.muli arg1 c8_i32_11
  let c1_i32_12 : BitVec 32 := 1#32
  let v27 : BitVec 32 := Scalar.addi v26 c1_i32_12
  let c4_i32_13 : BitVec 32 := 4#32
  let v28 : BitVec 32 := Scalar.subi v27 c4_i32_13
  let v29 : BitVec 32 := Scalar.maxsi c0_i32_14 v28
  let v30 : BitVec 32 := Scalar.minsi c120_i32_15 v29
  let c64_i32_16 : BitVec 32 := 64#32
  let v31 : BitVec 32 := Scalar.muli v30 c64_i32_16
  v31
def k0_mult3 (i : grid0.Coords) : BitVec 32 :=
  let c120_i32_20 : BitVec 32 := 120#32
  let c0_i32_19 : BitVec 32 := 0#32
  let arg1 : BitVec 32 := BitVec.ofNat 32 (i 1).val
  let c8_i32_17 : BitVec 32 := 8#32
  let v34 : BitVec 32 := Scalar.muli arg1 c8_i32_17
  let c2_i32 : BitVec 32 := 2#32
  let v35 : BitVec 32 := Scalar.addi v34 c2_i32
  let c4_i32_18 : BitVec 32 := 4#32
  let v36 : BitVec 32 := Scalar.subi v35 c4_i32_18
  let v37 : BitVec 32 := Scalar.maxsi c0_i32_19 v36
  let v38 : BitVec 32 := Scalar.minsi c120_i32_20 v37
  let c64_i32_21 : BitVec 32 := 64#32
  let v39 : BitVec 32 := Scalar.muli v38 c64_i32_21
  v39
def k0_mult4 (i : grid0.Coords) : BitVec 32 :=
  let c120_i32_25 : BitVec 32 := 120#32
  let c0_i32_24 : BitVec 32 := 0#32
  let arg1 : BitVec 32 := BitVec.ofNat 32 (i 1).val
  let c8_i32_22 : BitVec 32 := 8#32
  let v42 : BitVec 32 := Scalar.muli arg1 c8_i32_22
  let c3_i32 : BitVec 32 := 3#32
  let v43 : BitVec 32 := Scalar.addi v42 c3_i32
  let c4_i32_23 : BitVec 32 := 4#32
  let v44 : BitVec 32 := Scalar.subi v43 c4_i32_23
  let v45 : BitVec 32 := Scalar.maxsi c0_i32_24 v44
  let v46 : BitVec 32 := Scalar.minsi c120_i32_25 v45
  let c64_i32_26 : BitVec 32 := 64#32
  let v47 : BitVec 32 := Scalar.muli v46 c64_i32_26
  v47
def k0_mult5 (i : grid0.Coords) : BitVec 32 :=
  let c120_i32_31 : BitVec 32 := 120#32
  let c0_i32_30 : BitVec 32 := 0#32
  let arg1 : BitVec 32 := BitVec.ofNat 32 (i 1).val
  let c8_i32_27 : BitVec 32 := 8#32
  let v50 : BitVec 32 := Scalar.muli arg1 c8_i32_27
  let c4_i32_28 : BitVec 32 := 4#32
  let v51 : BitVec 32 := Scalar.addi v50 c4_i32_28
  let c4_i32_29 : BitVec 32 := 4#32
  let v52 : BitVec 32 := Scalar.subi v51 c4_i32_29
  let v53 : BitVec 32 := Scalar.maxsi c0_i32_30 v52
  let v54 : BitVec 32 := Scalar.minsi c120_i32_31 v53
  let c64_i32_32 : BitVec 32 := 64#32
  let v55 : BitVec 32 := Scalar.muli v54 c64_i32_32
  v55
def k0_mult6 (i : grid0.Coords) : BitVec 32 :=
  let c120_i32_36 : BitVec 32 := 120#32
  let c0_i32_35 : BitVec 32 := 0#32
  let arg1 : BitVec 32 := BitVec.ofNat 32 (i 1).val
  let c8_i32_33 : BitVec 32 := 8#32
  let v58 : BitVec 32 := Scalar.muli arg1 c8_i32_33
  let c5_i32 : BitVec 32 := 5#32
  let v59 : BitVec 32 := Scalar.addi v58 c5_i32
  let c4_i32_34 : BitVec 32 := 4#32
  let v60 : BitVec 32 := Scalar.subi v59 c4_i32_34
  let v61 : BitVec 32 := Scalar.maxsi c0_i32_35 v60
  let v62 : BitVec 32 := Scalar.minsi c120_i32_36 v61
  let c64_i32_37 : BitVec 32 := 64#32
  let v63 : BitVec 32 := Scalar.muli v62 c64_i32_37
  v63
def k0_mult7 (i : grid0.Coords) : BitVec 32 :=
  let c120_i32_41 : BitVec 32 := 120#32
  let c0_i32_40 : BitVec 32 := 0#32
  let arg1 : BitVec 32 := BitVec.ofNat 32 (i 1).val
  let c8_i32_38 : BitVec 32 := 8#32
  let v66 : BitVec 32 := Scalar.muli arg1 c8_i32_38
  let c6_i32 : BitVec 32 := 6#32
  let v67 : BitVec 32 := Scalar.addi v66 c6_i32
  let c4_i32_39 : BitVec 32 := 4#32
  let v68 : BitVec 32 := Scalar.subi v67 c4_i32_39
  let v69 : BitVec 32 := Scalar.maxsi c0_i32_40 v68
  let v70 : BitVec 32 := Scalar.minsi c120_i32_41 v69
  let c64_i32_42 : BitVec 32 := 64#32
  let v71 : BitVec 32 := Scalar.muli v70 c64_i32_42
  v71
def k0_mult8 (i : grid0.Coords) : BitVec 32 :=
  let c120_i32_46 : BitVec 32 := 120#32
  let c0_i32_45 : BitVec 32 := 0#32
  let arg1 : BitVec 32 := BitVec.ofNat 32 (i 1).val
  let c8_i32_43 : BitVec 32 := 8#32
  let v74 : BitVec 32 := Scalar.muli arg1 c8_i32_43
  let c7_i32 : BitVec 32 := 7#32
  let v75 : BitVec 32 := Scalar.addi v74 c7_i32
  let c4_i32_44 : BitVec 32 := 4#32
  let v76 : BitVec 32 := Scalar.subi v75 c4_i32_44
  let v77 : BitVec 32 := Scalar.maxsi c0_i32_45 v76
  let v78 : BitVec 32 := Scalar.minsi c120_i32_46 v77
  let c64_i32_47 : BitVec 32 := 64#32
  let v79 : BitVec 32 := Scalar.muli v78 c64_i32_47
  v79
def k0_off1 (i : grid0.Coords) (c0_i32_9 : BitVec 32) : Fin 2 → Nat :=
  let c120_i32 : BitVec 32 := 120#32
  let c0_i32_10 : BitVec 32 := 0#32
  let arg1 : BitVec 32 := BitVec.ofNat 32 (i 1).val
  let c8_i32 : BitVec 32 := 8#32
  let v18 : BitVec 32 := Scalar.muli arg1 c8_i32
  let v19 : BitVec 32 := Scalar.addi v18 c0_i32_9
  let c4_i32 : BitVec 32 := 4#32
  let v20 : BitVec 32 := Scalar.subi v19 c4_i32
  let v21 : BitVec 32 := Scalar.maxsi c0_i32_10 v20
  let v22 : BitVec 32 := Scalar.minsi c120_i32 v21
  let c64_i32 : BitVec 32 := 64#32
  let v23 : BitVec 32 := Scalar.muli v22 c64_i32
  let v24 : BitVec 32 := v23
  let v83 : Index := Scalar.indexCast v24
  let c0_49 : Index := 0#32
  ![v83.toNat, 0]
def k0_off2 (i : grid0.Coords) (c0_i32_9 : BitVec 32) : Fin 4 → Nat :=
  let c0_50 : Index := 0#32
  let arg1 : BitVec 32 := BitVec.ofNat 32 (i 1).val
  let c8_i32 : BitVec 32 := 8#32
  let v18 : BitVec 32 := Scalar.muli arg1 c8_i32
  let v19 : BitVec 32 := Scalar.addi v18 c0_i32_9
  let c120_i32 : BitVec 32 := 120#32
  let c0_i32_10 : BitVec 32 := 0#32
  let c4_i32 : BitVec 32 := 4#32
  let v20 : BitVec 32 := Scalar.subi v19 c4_i32
  let v21 : BitVec 32 := Scalar.maxsi c0_i32_10 v20
  let v22 : BitVec 32 := Scalar.minsi c120_i32 v21
  let v25 : BitVec 32 := Scalar.subi v19 v22
  let v85 : Index := Scalar.indexCast v25
  let c0_51 : Index := 0#32
  let c0_52 : Index := 0#32
  ![0, v85.toNat, 0, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  ![arg1.toNat, v29.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  ![arg1.toNat, v29.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  ![arg1.toNat, v29.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  ![arg1.toNat, v29.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c16_i32_4 : BitVec 32 := 16#32
  let v11 : BitVec 32 := Scalar.addi c16_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  let c0_i32_13 : BitVec 32 := 0#32
  ![c0_i32_12.toNat, v29.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c32_i32 : BitVec 32 := 32#32
  let v11 : BitVec 32 := Scalar.addi c32_i32 v10
  let c1_i32_4 : BitVec 32 := 1#32
  let v12 : BitVec 32 := Scalar.divsi arg0 c1_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c1_i32_4 c0_i32_7
  let v19 : BitVec 32 := Scalar.extui v18
  let c0_i32_8 : BitVec 32 := 0#32
  let v20 : BitVec 1 := Scalar.cmpi .slt c1_i32_4 c0_i32_8
  let v21 : BitVec 32 := Scalar.extui v20
  let v22 : BitVec 32 := Scalar.subi v19 v21
  let v23 : BitVec 1 := Scalar.cmpi .ne v17 v22
  let v24 : BitVec 32 := Scalar.remsi arg0 c1_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c0_i32_11 : BitVec 32 := 0#32
  let c0_i32_12 : BitVec 32 := 0#32
  ![c0_i32_11.toNat, v29.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  ![arg1.toNat, v29.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  let c0_i32_13 : BitVec 32 := 0#32
  ![c0_i32_12.toNat, v29.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c0_i32_4 : BitVec 32 := 0#32
  let v11 : BitVec 32 := Scalar.addi c0_i32_4 v10
  let c1_i32_5 : BitVec 32 := 1#32
  let v12 : BitVec 32 := Scalar.divsi arg0 c1_i32_5
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c0_i32_8 : BitVec 32 := 0#32
  let v18 : BitVec 1 := Scalar.cmpi .sgt c1_i32_5 c0_i32_8
  let v19 : BitVec 32 := Scalar.extui v18
  let c0_i32_9 : BitVec 32 := 0#32
  let v20 : BitVec 1 := Scalar.cmpi .slt c1_i32_5 c0_i32_9
  let v21 : BitVec 32 := Scalar.extui v20
  let v22 : BitVec 32 := Scalar.subi v19 v21
  let v23 : BitVec 1 := Scalar.cmpi .ne v17 v22
  let v24 : BitVec 32 := Scalar.remsi arg0 c1_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let v29 : BitVec 32 := Scalar.addi v11 v28
  let c0_i32_12 : BitVec 32 := 0#32
  let c0_i32_13 : BitVec 32 := 0#32
  ![c0_i32_12.toNat, v29.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x6144 : Shape := ⟨2, ![8192, 6144]⟩
abbrev S16x15x31 : Shape := ⟨3, ![16, 15, 31]⟩
abbrev S8192x2048 : Shape := ⟨2, ![8192, 2048]⟩
abbrev S1x8192x16x128 : Shape := ⟨4, ![1, 8192, 16, 128]⟩
abbrev S1x16x8192x128 : Shape := ⟨4, ![1, 16, 8192, 128]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S1x16x128x64x128 : Shape := ⟨5, ![1, 16, 128, 64, 128]⟩
abbrev S128x8x1 : Shape := ⟨3, ![128, 8, 1]⟩
abbrev S1x16x128x8x64x128 : Shape := ⟨6, ![1, 16, 128, 8, 64, 128]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S16x128x64x8x64 : Shape := ⟨5, ![16, 128, 64, 8, 64]⟩
abbrev S1x16x128x64x8x64 : Shape := ⟨6, ![1, 16, 128, 64, 8, 64]⟩
abbrev S64x1x64 : Shape := ⟨3, ![64, 1, 64]⟩
abbrev S1x16x128x64x512 : Shape := ⟨5, ![1, 16, 128, 64, 512]⟩
abbrev S1x16x128x64 : Shape := ⟨4, ![1, 16, 128, 64]⟩
abbrev S1x16x128x64x1 : Shape := ⟨5, ![1, 16, 128, 64, 1]⟩
abbrev S1x16x128x128x8x64 : Shape := ⟨6, ![1, 16, 128, 128, 8, 64]⟩
abbrev S16x128x64 : Shape := ⟨3, ![16, 128, 64]⟩

abbrev nBuf : Space → Nat
  | .hbm => 233
  | .vmem => 0
  | .smem => 0
  | _ => 0

abbrev hbmTy0_0 (i : Nat) : BufTy := match i % 128 with
  | 0 => ⟨S8192x6144, .bf16⟩
  | 1 => ⟨S16x15x31, .f32⟩
  | 2 => ⟨S8192x2048, .f32⟩
  | 3 => ⟨S8192x6144, .f32⟩
  | 4 => ⟨S8192x2048, .f32⟩
  | 5 => ⟨S8192x2048, .f32⟩
  | 6 => ⟨S8192x2048, .f32⟩
  | 7 => ⟨S1x8192x16x128, .f32⟩
  | 8 => ⟨S1x16x8192x128, .f32⟩
  | 9 => ⟨S1x8192x16x128, .f32⟩
  | 10 => ⟨S1x16x8192x128, .f32⟩
  | 11 => ⟨S1x8192x16x128, .f32⟩
  | 12 => ⟨S1x16x8192x128, .f32⟩
  | 13 => ⟨S128, .i32⟩
  | 14 => ⟨S64, .i32⟩
  | 15 => ⟨S_, .i32⟩
  | 16 => ⟨S128, .i32⟩
  | 17 => ⟨S128, .i32⟩
  | 18 => ⟨S_, .i32⟩
  | 19 => ⟨S_, .i32⟩
  | 20 => ⟨S_, .i32⟩
  | 21 => ⟨S128, .i32⟩
  | 22 => ⟨S128, .i32⟩
  | 23 => ⟨S_, .i32⟩
  | 24 => ⟨S128, .i32⟩
  | 25 => ⟨S128, .i32⟩
  | 26 => ⟨S128x1, .i32⟩
  | 27 => ⟨S8, .i32⟩
  | 28 => ⟨S1x8, .i32⟩
  | 29 => ⟨S128x8, .i32⟩
  | 30 => ⟨S128x8, .i32⟩
  | 31 => ⟨S128x8, .i32⟩
  | 32 => ⟨S_, .i32⟩
  | 33 => ⟨S64, .i32⟩
  | 34 => ⟨S64, .i32⟩
  | 35 => ⟨S_, .i32⟩
  | 36 => ⟨S_, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S1x64, .i32⟩
  | 44 => ⟨S64x1, .i32⟩
  | 45 => ⟨S64x64, .i32⟩
  | 46 => ⟨S64x64, .i32⟩
  | 47 => ⟨S64x64, .i1⟩
  | 48 => ⟨S1x64, .i32⟩
  | 49 => ⟨S64x1, .i32⟩
  | 50 => ⟨S_, .i32⟩
  | 51 => ⟨S64x1, .i32⟩
  | 52 => ⟨S64x1, .i32⟩
  | 53 => ⟨S64x64, .i32⟩
  | 54 => ⟨S64x64, .i32⟩
  | 55 => ⟨S64x64, .i1⟩
  | 56 => ⟨S64x64, .i1⟩
  | 57 => ⟨S1x64, .i32⟩
  | 58 => ⟨S64x1, .i32⟩
  | 59 => ⟨S64x64, .i32⟩
  | 60 => ⟨S64x64, .i32⟩
  | 61 => ⟨S64x64, .i32⟩
  | 62 => ⟨S128x1, .i32⟩
  | 63 => ⟨S128x8, .i32⟩
  | 64 => ⟨S128x8, .i32⟩
  | 65 => ⟨S1x16x128x64x128, .f32⟩
  | 66 => ⟨S1x16x128x64x128, .f32⟩
  | 67 => ⟨S_, .i32⟩
  | 68 => ⟨S128x8, .i32⟩
  | 69 => ⟨S128x8, .i1⟩
  | 70 => ⟨S_, .i32⟩
  | 71 => ⟨S128x8, .i32⟩
  | 72 => ⟨S128x8, .i32⟩
  | 73 => ⟨S128x8, .i32⟩
  | 74 => ⟨S128x8x1, .i32⟩
  | 75 => ⟨S1x16x128x8x64x128, .f32⟩
  | 76 => ⟨S_, .i32⟩
  | 77 => ⟨S128x8, .i32⟩
  | 78 => ⟨S128x8, .i32⟩
  | 79 => ⟨S_, .i32⟩
  | 80 => ⟨S128x8, .i32⟩
  | 81 => ⟨S128x8, .i32⟩
  | 82 => ⟨S128x1x8x1, .i32⟩
  | 83 => ⟨S_, .i32⟩
  | 84 => ⟨S64x64, .i32⟩
  | 85 => ⟨S64x64, .i32⟩
  | 86 => ⟨S_, .i32⟩
  | 87 => ⟨S64x64, .i32⟩
  | 88 => ⟨S64x64, .i32⟩
  | 89 => ⟨S_, .i32⟩
  | 90 => ⟨S_, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S1x64x1x64, .i32⟩
  | 98 => ⟨S_, .i32⟩
  | 99 => ⟨S128x1x8x1, .i32⟩
  | 100 => ⟨S128x1x8x1, .i1⟩
  | 101 => ⟨S_, .i32⟩
  | 102 => ⟨S128x1x8x1, .i32⟩
  | 103 => ⟨S128x1x8x1, .i32⟩
  | 104 => ⟨S128x1x8x1, .i32⟩
  | 105 => ⟨S_, .i32⟩
  | 106 => ⟨S1x64x1x64, .i32⟩
  | 107 => ⟨S1x64x1x64, .i1⟩
  | 108 => ⟨S_, .i32⟩
  | 109 => ⟨S1x64x1x64, .i32⟩
  | 110 => ⟨S1x64x1x64, .i32⟩
  | 111 => ⟨S1x64x1x64, .i32⟩
  | 112 => ⟨S128x64x8x64, .i32⟩
  | 113 => ⟨S128x64x8x64, .i32⟩
  | 114 => ⟨S128x64x8x64x1, .i32⟩
  | 115 => ⟨S128x64x8x64x1, .i32⟩
  | 116 => ⟨S128x64x8x64x2, .i32⟩
  | 117 => ⟨S16x128x64x8x64, .f32⟩
  | 118 => ⟨S1x16x128x64x8x64, .f32⟩
  | 119 => ⟨S_, .f32⟩
  | 120 => ⟨S1x16x128x64x8x64, .f32⟩
  | 121 => ⟨S1x16x128x64x8x64, .f32⟩
  | 122 => ⟨S1x16x128x64x8x64, .f32⟩
  | 123 => ⟨S1x16x128x64x8x64, .f32⟩
  | 124 => ⟨S64x1x64, .i1⟩
  | 125 => ⟨S_, .f32⟩
  | 126 => ⟨S_, .f32⟩
  | 127 => ⟨S1x16x128x64x8x64, .i1⟩
  | _ => ⟨S8192x6144, .bf16⟩

abbrev hbmTy0_1 (i : Nat) : BufTy := match i % 128 with
  | 0 => ⟨S1x16x128x64x8x64, .f32⟩
  | 1 => ⟨S1x16x128x64x8x64, .f32⟩
  | 2 => ⟨S_, .f32⟩
  | 3 => ⟨S1x16x128x64x8x64, .f32⟩
  | 4 => ⟨S1x16x128x64x128, .f32⟩
  | 5 => ⟨S_, .i32⟩
  | 6 => ⟨S128x8, .i32⟩
  | 7 => ⟨S128x8, .i1⟩
  | 8 => ⟨S_, .i32⟩
  | 9 => ⟨S128x8, .i32⟩
  | 10 => ⟨S128x8, .i32⟩
  | 11 => ⟨S128x8, .i32⟩
  | 12 => ⟨S128x8x1, .i32⟩
  | 13 => ⟨S1x16x128x8x64x128, .f32⟩
  | 14 => ⟨S1x16x128x64x512, .f32⟩
  | 15 => ⟨S_, .f32⟩
  | 16 => ⟨S1x16x128x64, .f32⟩
  | 17 => ⟨S1x16x128x64x1, .f32⟩
  | 18 => ⟨S1x16x128x64x512, .f32⟩
  | 19 => ⟨S1x16x128x64x512, .i1⟩
  | 20 => ⟨S1x16x128x64x512, .f32⟩
  | 21 => ⟨S_, .f32⟩
  | 22 => ⟨S1x16x128x64, .f32⟩
  | 23 => ⟨S_, .f32⟩
  | 24 => ⟨S1x16x128x64, .f32⟩
  | 25 => ⟨S1x16x128x64, .f32⟩
  | 26 => ⟨S_, .f32⟩
  | 27 => ⟨S1x16x128x64, .f32⟩
  | 28 => ⟨S1x16x128x64, .i1⟩
  | 29 => ⟨S_, .f32⟩
  | 30 => ⟨S1x16x128x64, .f32⟩
  | 31 => ⟨S1x16x128x64, .i1⟩
  | 32 => ⟨S_, .f32⟩
  | 33 => ⟨S1x16x128x64, .f32⟩
  | 34 => ⟨S_, .f32⟩
  | 35 => ⟨S1x16x128x64, .f32⟩
  | 36 => ⟨S_, .f32⟩
  | 37 => ⟨S1x16x128x64, .f32⟩
  | 38 => ⟨S1x16x128x64, .f32⟩
  | 39 => ⟨S1x16x128x64, .f32⟩
  | 40 => ⟨S1x16x128x64x1, .f32⟩
  | 41 => ⟨S1x16x128x64x512, .f32⟩
  | 42 => ⟨S1x16x128x64x512, .f32⟩
  | 43 => ⟨S1x16x128x64x512, .f32⟩
  | 44 => ⟨S_, .f32⟩
  | 45 => ⟨S1x16x128x64, .f32⟩
  | 46 => ⟨S1x16x128x64x1, .f32⟩
  | 47 => ⟨S1x16x128x64x512, .f32⟩
  | 48 => ⟨S1x16x128x64x512, .f32⟩
  | 49 => ⟨S1x16x128x64x1, .f32⟩
  | 50 => ⟨S_, .f32⟩
  | 51 => ⟨S1x16x128x64x1, .f32⟩
  | 52 => ⟨S1x16x128x64x1, .f32⟩
  | 53 => ⟨S1x16x128x64x8x64, .f32⟩
  | 54 => ⟨S1x16x128x64x128, .f32⟩
  | 55 => ⟨S1x16x8192x128, .f32⟩
  | 56 => ⟨S1x8192x16x128, .f32⟩
  | 57 => ⟨S8192x2048, .f32⟩
  | 58 => ⟨S1x8192x16x128, .f32⟩
  | 59 => ⟨S1x16x8192x128, .f32⟩
  | 60 => ⟨S1x16x128x64x128, .f32⟩
  | 61 => ⟨S1x16x128x128x8x64, .f32⟩
  | 62 => ⟨S1x16x128x8x64x128, .f32⟩
  | 63 => ⟨S1x16x128x64x8x64, .f32⟩
  | 64 => ⟨S1x16x128x64x512, .f32⟩
  | 65 => ⟨S1x16x128x64x512, .f32⟩
  | 66 => ⟨S1x16x128x64x512, .f32⟩
  | 67 => ⟨S1x16x128x64x512, .f32⟩
  | 68 => ⟨S_, .f32⟩
  | 69 => ⟨S1x16x128x64, .f32⟩
  | 70 => ⟨S1x16x128x64x1, .f32⟩
  | 71 => ⟨S1x16x128x64x1, .f32⟩
  | 72 => ⟨S1x16x128x64x512, .f32⟩
  | 73 => ⟨S1x16x128x64x512, .f32⟩
  | 74 => ⟨S_, .f32⟩
  | 75 => ⟨S16x128x64, .f32⟩
  | 76 => ⟨S1x16x128x64, .f32⟩
  | 77 => ⟨S1x16x128x64x512, .f32⟩
  | 78 => ⟨S1x16x128x64x512, .f32⟩
  | 79 => ⟨S1x16x128x64x512, .f32⟩
  | 80 => ⟨S1x16x128x64x8x64, .f32⟩
  | 81 => ⟨S_, .f32⟩
  | 82 => ⟨S1x16x128x64x128, .f32⟩
  | 83 => ⟨S1x16x128x64x128, .f32⟩
  | 84 => ⟨S1x16x8192x128, .f32⟩
  | 85 => ⟨S_, .f32⟩
  | 86 => ⟨S1x16x128x64x8x64, .f32⟩
  | 87 => ⟨S1x16x128x64x8x64, .f32⟩
  | 88 => ⟨S_, .f32⟩
  | 89 => ⟨S1x16x128x64x8x64, .f32⟩
  | 90 => ⟨S1x16x128x64x8x64, .f32⟩
  | 91 => ⟨S1x16x128x8x64x128, .f32⟩
  | 92 => ⟨S1x16x128x64x128, .f32⟩
  | 93 => ⟨S_, .f32⟩
  | 94 => ⟨S1x16x128x64x128, .f32⟩
  | 95 => ⟨S1x16x128x64x128, .f32⟩
  | 96 => ⟨S1x16x8192x128, .f32⟩
  | 97 => ⟨S1x16x8192x128, .f32⟩
  | 98 => ⟨S1x8192x16x128, .f32⟩
  | 99 => ⟨S8192x2048, .f32⟩
  | 100 => ⟨S1x8192x16x128, .f32⟩
  | 101 => ⟨S8192x2048, .f32⟩
  | 102 => ⟨S1x8192x16x128, .f32⟩
  | 103 => ⟨S8192x2048, .f32⟩
  | 104 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_c_13 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_call3_v0 : Ref sig .tc := ⟨.hbm, 126, rfl⟩
abbrev main_v87_1 : Ref sig .tc := ⟨.hbm, 127, rfl⟩
abbrev main_call3_v2 : Ref sig .tc := ⟨.hbm, 128, rfl⟩
abbrev main_v87_0 : Ref sig .tc := ⟨.hbm, 129, rfl⟩
abbrev main_call3_cst : Ref sig .tc := ⟨.hbm, 130, rfl⟩
abbrev main_v87_2 : Ref sig .tc := ⟨.hbm, 131, rfl⟩
abbrev main_v88 : Ref sig .tc := ⟨.hbm, 132, rfl⟩
abbrev main_c_19 : Ref sig .tc := ⟨.hbm, 133, rfl⟩
abbrev main_v89 : Ref sig .tc := ⟨.hbm, 134, rfl⟩
abbrev main_v90 : Ref sig .tc := ⟨.hbm, 135, rfl⟩
abbrev main_c_20 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_22 : Ref sig .tc := ⟨.hbm, 149, rfl⟩
abbrev main_v102 : Ref sig .tc := ⟨.hbm, 150, rfl⟩
abbrev main_cst_23 : Ref sig .tc := ⟨.hbm, 151, rfl⟩
abbrev main_v103 : Ref sig .tc := ⟨.hbm, 152, rfl⟩
abbrev main_v104 : Ref sig .tc := ⟨.hbm, 153, rfl⟩
abbrev main_cst_24 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_v108 : Ref sig .tc := ⟨.hbm, 159, rfl⟩
abbrev main_cst_26 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_cst_28 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_29 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_30 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_31 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_32 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_33 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_call4_cst : Ref sig .tc := ⟨.hbm, 213, rfl⟩
abbrev main_call4_v0 : Ref sig .tc := ⟨.hbm, 214, rfl⟩
abbrev main_v154 : Ref sig .tc := ⟨.hbm, 215, rfl⟩
abbrev main_cst_34 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_35 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩

abbrev nD : Nat := 1
abbrev τ : Topo := Topo.v7x

variable {F : FTy → Type} [FloatOps F]
-- ==== KernelAct.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceActIdeal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S4x1x2048x2048, .bf16⟩
  | .hbm, ⟨12, _⟩ => ⟨S4x2048x2048, .bf16⟩
  | .hbm, ⟨13, _⟩ => ⟨S4x2048x2048, .f32⟩
  | .hbm, ⟨14, _⟩ => ⟨S8192x2048, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S2048x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelDw2.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x2048, .bf16⟩
  | .hbm, ⟨3, _⟩ => ⟨S8192x2048, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .bf16⟩
  | .hbm, ⟨15, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDw2Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x2048, .bf16⟩
  | .hbm, ⟨3, _⟩ => ⟨S8192x2048, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S8192x8192, .f32⟩
  | .hbm, ⟨10, _⟩ => ⟨S_, .f32⟩
  | .hbm, ⟨11, _⟩ => ⟨S8192x2048, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S2048x8192, .f32⟩
  | .hbm, ⟨19, _⟩ => ⟨S8192x2048, .f32⟩
  | .hbm, ⟨20, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelDw1.lean ====
abbrev S8192x2048 : Shape := ⟨2, ![8192, 2048]⟩
abbrev S8192x8192 : Shape := ⟨2, ![8192, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDw1Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDxn.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxnIdeal.lean ====
abbrev S4x4x2048x2048 : Shape := ⟨4, ![4, 4, 2048, 2048]⟩
abbrev S8192x8192 : Shape := ⟨2, ![8192, 8192]⟩
abbrev S_ : Shape := ⟨0, ![]⟩
abbrev S8192x2048 : Shape := ⟨2, ![8192, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S_, .f32⟩
  | .hbm, ⟨3, _⟩ => ⟨S8192x2048, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S8192x2048, .f32⟩
  | _, _ => ⟨S4x4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelUp.lean ====
abbrev S8192x2048 : Shape := ⟨2, ![8192, 2048]⟩
abbrev S4x4x2048x2048 : Shape := ⟨4, ![4, 4, 2048, 2048]⟩
abbrev S8192x8192 : Shape := ⟨2, ![8192, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  ![v16.toNat, c3_i32.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S8192x2048, .f32⟩
  | .hbm, ⟨3, _⟩ => ⟨S4x1x2048x2048, .bf16⟩
  | .hbm, ⟨4, _⟩ => ⟨S4x2048x2048, .bf16⟩
  | .hbm, ⟨5, _⟩ => ⟨S4x2048x2048, .f32⟩
  | .hbm, ⟨6, _⟩ => ⟨S2048x4x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelDown.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x4x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  ![v16.toNat, c3_i32.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x8192 : Shape := ⟨2, ![8192, 8192]⟩
abbrev S4x4x2048x2048 : Shape := ⟨4, ![4, 4, 2048, 2048]⟩
abbrev S8192x2048 : Shape := ⟨2, ![8192, 2048]⟩
abbrev S4x1x2048x2048 : Shape := ⟨4, ![4, 1, 2048, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x4x2048x2048, .bf16⟩
  | .hbm, ⟨2, _⟩ => ⟨S8192x2048, .f32⟩
  | .hbm, ⟨3, _⟩ => ⟨S8192x8192, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelQkv.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvIdeal.lean ====
abbrev S8192x2048 : Shape := ⟨2, ![8192, 2048]⟩
abbrev S4x2x2048x1536 : Shape := ⟨4, ![4, 2, 2048, 1536]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x2048, .f32⟩
  | .hbm, ⟨3, _⟩ => ⟨S4x1x2048x1536, .bf16⟩
  | .hbm, ⟨4, _⟩ => ⟨S4x2048x1536, .bf16⟩
  | .hbm, ⟨5, _⟩ => ⟨S4x2048x1536, .f32⟩
  | .hbm, ⟨6, _⟩ => ⟨S2048x4x1536, .f32⟩
  | .hbm, ⟨7, _⟩ => ⟨S2048x6144, .f32⟩
  | .hbm, ⟨8, _⟩ => ⟨S8192x6144, .f32⟩
  | .hbm, ⟨9, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelIn.lean ====
abbrev S8192x2048 : Shape := ⟨2, ![8192, 2048]⟩
abbrev S4x2x2048x1024 : Shape := ⟨4, ![4, 2, 2048, 1024]⟩
abbrev S8192x4096 : Shape := ⟨2, ![8192, 4096]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1024, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S8192x2048 : Shape := ⟨2, ![8192, 2048]⟩
abbrev S4x2x2048x1024 : Shape := ⟨4, ![4, 2, 2048, 1024]⟩
abbrev S4x1x2048x1024 : Shape := ⟨4, ![4, 1, 2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1024, .bf16⟩
  | .hbm, ⟨2, _⟩ => ⟨S8192x2048, .f32⟩
  | .hbm, ⟨3, _⟩ => ⟨S4x1x2048x1024, .bf16⟩
  | .hbm, ⟨4, _⟩ => ⟨S4x2048x1024, .bf16⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelOut.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x2048 : Shape := ⟨2, ![8192, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S8192x2048, .f32⟩
  | .hbm, ⟨4, _⟩ => ⟨S4x1x512x2048, .bf16⟩
  | .hbm, ⟨5, _⟩ => ⟨S4x512x2048, .bf16⟩
  | .hbm, ⟨6, _⟩ => ⟨S4x512x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelQkvDx.lean ====
abbrev S4x2x2048x1536 : Shape := ⟨4, ![4, 2, 2048, 1536]⟩
abbrev S8192x6144 : Shape := ⟨2, ![8192, 6144]⟩
abbrev S8192x2048 : Shape := ⟨2, ![8192, 2048]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x2048x1536, .bf16⟩
  | .hbm, ⟨1, _⟩ => ⟨S8192x6144, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvDxIdeal.lean ====
abbrev S4x2x2048x1536 : Shape := ⟨4, ![4, 2, 2048, 1536]⟩
abbrev S8192x6144 : Shape := ⟨2, ![8192, 6144]⟩
abbrev S_ : Shape := ⟨0, ![]⟩
abbrev S8192x2048 : Shape := ⟨2, ![8192, 2048]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4x2x2048x1536, .bf16⟩
  | .hbm, ⟨1, _⟩ => ⟨S8192x6144, .bf16⟩
  | .hbm, ⟨2, _⟩ => ⟨S_, .f32⟩
  | .hbm, ⟨3, _⟩ => ⟨S8192x2048, .f32⟩
  | .hbm, ⟨4, _⟩ => ⟨S4x1x2048x1536, .bf16⟩
  | .hbm, ⟨5, _⟩ => ⟨S4x2048x1536, .bf16⟩
  | .hbm, ⟨6, _⟩ => ⟨S4x2048x1536, .f32⟩
  | .hbm, ⟨7, _⟩ => ⟨S2048x4x1536, .f32⟩
  | .hbm, ⟨8, _⟩ => ⟨S2048x6144, .f32⟩
  | .hbm, ⟨9, _⟩ => ⟨S8192x6144, .f32⟩
  | .hbm, ⟨10, _⟩ => ⟨S8192x6144, .f32⟩
  | .hbm, ⟨11, _⟩ => ⟨S8192x2048, .f32⟩
  | _, _ => ⟨S4x2x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelInDx.lean ====
abbrev S4x2x2048x1024 : Shape := ⟨4, ![4, 2, 2048, 1024]⟩
abbrev S8192x4096 : Shape := ⟨2, ![8192, 4096]⟩
abbrev S8192x2048 : Shape := ⟨2, ![8192, 2048]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x2048x1024, .bf16⟩
  | .hbm, ⟨1, _⟩ => ⟨S8192x4096, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S4x2x2048x1024 : Shape := ⟨4, ![4, 2, 2048, 1024]⟩
abbrev S8192x4096 : Shape := ⟨2, ![8192, 4096]⟩
abbrev S_ : Shape := ⟨0, ![]⟩
abbrev S8192x2048 : Shape := ⟨2, ![8192, 2048]⟩
abbrev S4x1x2048x1024 : Shape := ⟨4, ![4, 1, 2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2x2048x1024, .bf16⟩
  | .hbm, ⟨1, _⟩ => ⟨S8192x4096, .bf16⟩
  | .hbm, ⟨2, _⟩ => ⟨S_, .f32⟩
  | .hbm, ⟨3, _⟩ => ⟨S8192x2048, .f32⟩
  | .hbm, ⟨4, _⟩ => ⟨S4x1x2048x1024, .bf16⟩
  | .hbm, ⟨5, _⟩ => ⟨S4x2048x1024, .bf16⟩
  | .hbm, ⟨6, _⟩ => ⟨S4x2048x1024, .f32⟩
  | .hbm, ⟨7, _⟩ => ⟨S2048x4x1024, .f32⟩
  | .hbm, ⟨8, _⟩ => ⟨S2048x4096, .f32⟩
  | .hbm, ⟨9, _⟩ => ⟨S8192x4096, .f32⟩
  | .hbm, ⟨10, _⟩ => ⟨S8192x4096, .f32⟩
  | .hbm, ⟨11, _⟩ => ⟨S8192x2048, .f32⟩
  | _, _ => ⟨S4x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelOutDx.lean ====
abbrev S4x2x512x2048 : Shape := ⟨4, ![4, 2, 512, 2048]⟩
abbrev S8192x2048 : Shape := ⟨2, ![8192, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x2x512x2048, .bf16⟩
  | .hbm, ⟨1, _⟩ => ⟨S8192x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S4x2x512x2048 : Shape := ⟨4, ![4, 2, 512, 2048]⟩
abbrev S8192x2048 : Shape := ⟨2, ![8192, 2048]⟩
abbrev S_ : Shape := ⟨0, ![]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2x512x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S4x1x512x2048, .bf16⟩
  | .hbm, ⟨5, _⟩ => ⟨S4x512x2048, .bf16⟩
  | .hbm, ⟨6, _⟩ => ⟨S4x512x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S4x2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelQkvDw.lean ====
abbrev S8192x2048 : Shape := ⟨2, ![8192, 2048]⟩
abbrev S8192x6144 : Shape := ⟨2, ![8192, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S4x2048x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvDwIdeal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x4x1536, .f32⟩
  | .hbm, ⟨10, _⟩ => ⟨S4x2048x1536, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelInDw.lean ====
abbrev S8192x2048 : Shape := ⟨2, ![8192, 2048]⟩
abbrev S8192x4096 : Shape := ⟨2, ![8192, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelOutDw.lean ====
abbrev S8192x2048 : Shape := ⟨2, ![8192, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S8192x2048 : Shape := ⟨2, ![8192, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S4x512x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGate.lean ====
abbrev S8192x1024 : Shape := ⟨2, ![8192, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGateIdeal.lean ====
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelGlu.lean ====
abbrev S8192x1024 : Shape := ⟨2, ![8192, 1024]⟩
abbrev S4x2x256x1024 : Shape := ⟨4, ![4, 2, 256, 1024]⟩
abbrev S1024x256 : Shape := ⟨2, ![1024, 256]⟩
abbrev S1x1x256x1024 : Shape := ⟨4, ![1, 1, 256, 1024]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x2x256x1024, .bf16⟩
  | .hbm, ⟨2, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S1x1x256x1024, .bf16⟩
  | .local _ .vmem, ⟨3, _⟩ => ⟨S1x1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluIdeal.lean ====
abbrev S8192x1024 : Shape := ⟨2, ![8192, 1024]⟩
abbrev S4x2x256x1024 : Shape := ⟨4, ![4, 2, 256, 1024]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x256x1024, .bf16⟩
  | .hbm, ⟨2, _⟩ => ⟨S4x1x256x1024, .bf16⟩
  | .hbm, ⟨3, _⟩ => ⟨S4x256x1024, .bf16⟩
  | .hbm, ⟨4, _⟩ => ⟨S4x256x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGluDx.lean ====
abbrev S4x2x256x1024 : Shape := ⟨4, ![4, 2, 256, 1024]⟩
abbrev S8192x1024 : Shape := ⟨2, ![8192, 1024]⟩
abbrev S1024x1024 : Shape := ⟨2, ![1024, 1024]⟩
abbrev S1x1x256x1024 : Shape := ⟨4, ![1, 1, 256, 1024]⟩
abbrev S1024x256 : Shape := ⟨2, ![1024, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x256x1024, .bf16⟩
  | .hbm, ⟨1, _⟩ => ⟨S8192x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluDxIdeal.lean ====
abbrev S4x2x256x1024 : Shape := ⟨4, ![4, 2, 256, 1024]⟩
abbrev S8192x1024 : Shape := ⟨2, ![8192, 1024]⟩
abbrev S_ : Shape := ⟨0, ![]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x2x256x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S4x1x256x1024, .bf16⟩
  | .hbm, ⟨5, _⟩ => ⟨S4x256x1024, .bf16⟩
  | .hbm, ⟨6, _⟩ => ⟨S4x256x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S4x2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGluDw.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluDwIdeal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAct0.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelAct0Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAct0Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S4x1x2048x2048, .bf16⟩
  | .hbm, ⟨12, _⟩ => ⟨S4x2048x2048, .bf16⟩
  | .hbm, ⟨13, _⟩ => ⟨S4x2048x2048, .f32⟩
  | .hbm, ⟨14, _⟩ => ⟨S8192x2048, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S2048x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelAct1.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelAct1Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAct1Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S4x1x2048x2048, .bf16⟩
  | .hbm, ⟨12, _⟩ => ⟨S4x2048x2048, .bf16⟩
  | .hbm, ⟨13, _⟩ => ⟨S4x2048x2048, .f32⟩
  | .hbm, ⟨14, _⟩ => ⟨S8192x2048, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S2048x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelAct2.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelAct2Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAct2Ideal.lean ====
abbrev S8192x2048 : Shape := ⟨2, ![8192, 2048]⟩
abbrev S4x4x2048x2048 : Shape := ⟨4, ![4, 4, 2048, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x4x2048x2048, .bf16⟩
  | .hbm, ⟨2, _⟩ => ⟨S4x4x2048x2048, .bf16⟩
  | .hbm, ⟨3, _⟩ => ⟨S8192x2048, .bf16⟩
  | .hbm, ⟨4, _⟩ => ⟨S8192x2048, .f32⟩
  | .hbm, ⟨5, _⟩ => ⟨S4x1x2048x2048, .bf16⟩
  | .hbm, ⟨6, _⟩ => ⟨S4x2048x2048, .bf16⟩
  | .hbm, ⟨7, _⟩ => ⟨S4x2048x2048, .f32⟩
  | .hbm, ⟨8, _⟩ => ⟨S2048x4x2048, .f32⟩
  | .hbm, ⟨9, _⟩ => ⟨S2048x8192, .f32⟩
  | .hbm, ⟨10, _⟩ => ⟨S8192x8192, .f32⟩
  | .hbm, ⟨11, _⟩ => ⟨S4x1x2048x2048, .bf16⟩
  | .hbm, ⟨12, _⟩ => ⟨S4x2048x2048, .bf16⟩
  | .hbm, ⟨13, _⟩ => ⟨S4x2048x2048, .f32⟩
  | .hbm, ⟨14, _⟩ => ⟨S8192x2048, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S2048x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelDxn0.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDxn0Ideal.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxn0Ideal.lean ====
abbrev S4x4x2048x2048 : Shape := ⟨4, ![4, 4, 2048, 2048]⟩
abbrev S8192x8192 : Shape := ⟨2, ![8192, 8192]⟩
abbrev S_ : Shape := ⟨0, ![]⟩
abbrev S8192x2048 : Shape := ⟨2, ![8192, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S_, .f32⟩
  | .hbm, ⟨3, _⟩ => ⟨S8192x2048, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S8192x2048, .f32⟩
  | _, _ => ⟨S4x4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDxn1.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDxn1Ideal.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxn1Ideal.lean ====
abbrev S4x4x2048x2048 : Shape := ⟨4, ![4, 4, 2048, 2048]⟩
abbrev S8192x8192 : Shape := ⟨2, ![8192, 8192]⟩
abbrev S_ : Shape := ⟨0, ![]⟩
abbrev S8192x2048 : Shape := ⟨2, ![8192, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S_, .f32⟩
  | .hbm, ⟨3, _⟩ => ⟨S8192x2048, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S8192x2048, .f32⟩
  | _, _ => ⟨S4x4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDxn2.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  ![v16.toNat, c2_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDxn2Ideal.lean ====
abbrev S4x4x2048x2048 : Shape := ⟨4, ![4, 4, 2048, 2048]⟩
abbrev S8192x8192 : Shape := ⟨2, ![8192, 8192]⟩
abbrev S8192x2048 : Shape := ⟨2, ![8192, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_11 : BitVec 32 := 0#32
  ![v16.toNat, c2_i32.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxn2Ideal.lean ====
abbrev S4x4x2048x2048 : Shape := ⟨4, ![4, 4, 2048, 2048]⟩
abbrev S8192x8192 : Shape := ⟨2, ![8192, 8192]⟩
abbrev S_ : Shape := ⟨0, ![]⟩
abbrev S8192x2048 : Shape := ⟨2, ![8192, 2048]⟩
abbrev S4x1x2048x2048 : Shape := ⟨4, ![4, 1, 2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4x4x2048x2048, .bf16⟩
  | .hbm, ⟨1, _⟩ => ⟨S8192x8192, .bf16⟩
  | .hbm, ⟨2, _⟩ => ⟨S_, .f32⟩
  | .hbm, ⟨3, _⟩ => ⟨S8192x2048, .f32⟩
  | .hbm, ⟨4, _⟩ => ⟨S4x1x2048x2048, .bf16⟩
  | .hbm, ⟨5, _⟩ => ⟨S4x2048x2048, .bf16⟩
  | .hbm, ⟨6, _⟩ => ⟨S4x2048x2048, .f32⟩
  | .hbm, ⟨7, _⟩ => ⟨S2048x4x2048, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S8192x2048, .f32⟩
  | _, _ => ⟨S4x4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelQkv0.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelQkv0Ideal.lean ====
abbrev S8192x2048 : Shape := ⟨2, ![8192, 2048]⟩
abbrev S4x2x2048x1536 : Shape := ⟨4, ![4, 2, 2048, 1536]⟩
abbrev S8192x6144 : Shape := ⟨2, ![8192, 6144]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkv0Ideal.lean ====
abbrev S8192x2048 : Shape := ⟨2, ![8192, 2048]⟩
abbrev S4x2x2048x1536 : Shape := ⟨4, ![4, 2, 2048, 1536]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1536, .bf16⟩
  | .hbm, ⟨2, _⟩ => ⟨S8192x2048, .f32⟩
  | .hbm, ⟨3, _⟩ => ⟨S4x1x2048x1536, .bf16⟩
  | .hbm, ⟨4, _⟩ => ⟨S4x2048x1536, .bf16⟩
  | .hbm, ⟨5, _⟩ => ⟨S4x2048x1536, .f32⟩
  | .hbm, ⟨6, _⟩ => ⟨S2048x4x1536, .f32⟩
  | .hbm, ⟨7, _⟩ => ⟨S2048x6144, .f32⟩
  | .hbm, ⟨8, _⟩ => ⟨S8192x6144, .f32⟩
  | .hbm, ⟨9, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelOut0.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelOut0Ideal.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOut0Ideal.lean ====
abbrev S8192x2048 : Shape := ⟨2, ![8192, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S8192x2048, .f32⟩
  | .hbm, ⟨4, _⟩ => ⟨S4x1x512x2048, .bf16⟩
  | .hbm, ⟨5, _⟩ => ⟨S4x512x2048, .bf16⟩
  | .hbm, ⟨6, _⟩ => ⟨S4x512x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelQkvDx0.lean ====
abbrev S4x2x2048x1536 : Shape := ⟨4, ![4, 2, 2048, 1536]⟩
abbrev S8192x6144 : Shape := ⟨2, ![8192, 6144]⟩
abbrev S8192x2048 : Shape := ⟨2, ![8192, 2048]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x2048x1536, .bf16⟩
  | .hbm, ⟨1, _⟩ => ⟨S8192x6144, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelQkvDx0Ideal.lean ====
abbrev S4x2x2048x1536 : Shape := ⟨4, ![4, 2, 2048, 1536]⟩
abbrev S8192x6144 : Shape := ⟨2, ![8192, 6144]⟩
abbrev S8192x2048 : Shape := ⟨2, ![8192, 2048]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x2048x1536, .bf16⟩
  | .hbm, ⟨1, _⟩ => ⟨S8192x6144, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvDx0Ideal.lean ====
abbrev S4x2x2048x1536 : Shape := ⟨4, ![4, 2, 2048, 1536]⟩
abbrev S8192x6144 : Shape := ⟨2, ![8192, 6144]⟩
abbrev S_ : Shape := ⟨0, ![]⟩
abbrev S8192x2048 : Shape := ⟨2, ![8192, 2048]⟩
abbrev S4x1x2048x1536 : Shape := ⟨4, ![4, 1, 2048, 1536]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4x2x2048x1536, .bf16⟩
  | .hbm, ⟨1, _⟩ => ⟨S8192x6144, .bf16⟩
  | .hbm, ⟨2, _⟩ => ⟨S_, .f32⟩
  | .hbm, ⟨3, _⟩ => ⟨S8192x2048, .f32⟩
  | .hbm, ⟨4, _⟩ => ⟨S4x1x2048x1536, .bf16⟩
  | .hbm, ⟨5, _⟩ => ⟨S4x2048x1536, .bf16⟩
  | .hbm, ⟨6, _⟩ => ⟨S4x2048x1536, .f32⟩
  | .hbm, ⟨7, _⟩ => ⟨S2048x4x1536, .f32⟩
  | .hbm, ⟨8, _⟩ => ⟨S2048x6144, .f32⟩
  | .hbm, ⟨9, _⟩ => ⟨S8192x6144, .f32⟩
  | .hbm, ⟨10, _⟩ => ⟨S8192x6144, .f32⟩
  | .hbm, ⟨11, _⟩ => ⟨S8192x2048, .f32⟩
  | _, _ => ⟨S4x2x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelInDx0.lean ====
abbrev S4x2x2048x1024 : Shape := ⟨4, ![4, 2, 2048, 1024]⟩
abbrev S8192x4096 : Shape := ⟨2, ![8192, 4096]⟩
abbrev S8192x2048 : Shape := ⟨2, ![8192, 2048]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x2048x1024, .bf16⟩
  | .hbm, ⟨1, _⟩ => ⟨S8192x4096, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelInDx0Ideal.lean ====
abbrev S4x2x2048x1024 : Shape := ⟨4, ![4, 2, 2048, 1024]⟩
abbrev S8192x4096 : Shape := ⟨2, ![8192, 4096]⟩
abbrev S8192x2048 : Shape := ⟨2, ![8192, 2048]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2x2048x1024, .bf16⟩
  | .hbm, ⟨1, _⟩ => ⟨S8192x4096, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDx0Ideal.lean ====
abbrev S4x2x2048x1024 : Shape := ⟨4, ![4, 2, 2048, 1024]⟩
abbrev S8192x4096 : Shape := ⟨2, ![8192, 4096]⟩
abbrev S_ : Shape := ⟨0, ![]⟩
abbrev S8192x2048 : Shape := ⟨2, ![8192, 2048]⟩
abbrev S4x1x2048x1024 : Shape := ⟨4, ![4, 1, 2048, 1024]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2x2048x1024, .bf16⟩
  | .hbm, ⟨1, _⟩ => ⟨S8192x4096, .bf16⟩
  | .hbm, ⟨2, _⟩ => ⟨S_, .f32⟩
  | .hbm, ⟨3, _⟩ => ⟨S8192x2048, .f32⟩
  | .hbm, ⟨4, _⟩ => ⟨S4x1x2048x1024, .bf16⟩
  | .hbm, ⟨5, _⟩ => ⟨S4x2048x1024, .bf16⟩
  | .hbm, ⟨6, _⟩ => ⟨S4x2048x1024, .f32⟩
  | .hbm, ⟨7, _⟩ => ⟨S2048x4x1024, .f32⟩
  | .hbm, ⟨8, _⟩ => ⟨S2048x4096, .f32⟩
  | .hbm, ⟨9, _⟩ => ⟨S8192x4096, .f32⟩
  | .hbm, ⟨10, _⟩ => ⟨S8192x4096, .f32⟩
  | .hbm, ⟨11, _⟩ => ⟨S8192x2048, .f32⟩
  | _, _ => ⟨S4x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelOutDx0.lean ====
abbrev S4x2x512x2048 : Shape := ⟨4, ![4, 2, 512, 2048]⟩
abbrev S8192x2048 : Shape := ⟨2, ![8192, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x2x512x2048, .bf16⟩
  | .hbm, ⟨1, _⟩ => ⟨S8192x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDx0Ideal.lean ====
abbrev S4x2x512x2048 : Shape := ⟨4, ![4, 2, 512, 2048]⟩
abbrev S8192x2048 : Shape := ⟨2, ![8192, 2048]⟩
abbrev S_ : Shape := ⟨0, ![]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2x512x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S4x1x512x2048, .bf16⟩
  | .hbm, ⟨5, _⟩ => ⟨S4x512x2048, .bf16⟩
  | .hbm, ⟨6, _⟩ => ⟨S4x512x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S4x2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelAdamIn.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAdamInIdeal.lean ====
abbrev S4096x1024 : Shape := ⟨2, ![4096, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamInIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAdamOutIdeal.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamOutIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamGlu.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAdamGluIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamGluIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamQkv.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAdamQkvIdeal.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamQkvIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamMlp.lean ====
abbrev S8192x2048 : Shape := ⟨2, ![8192, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAdamMlpIdeal.lean ====
abbrev S8192x2048 : Shape := ⟨2, ![8192, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamMlpIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S6688x128 : Shape := ⟨2, ![6688, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S6688x128, .f32⟩
  | .hbm, ⟨1, _⟩ => ⟨S6688x128, .f32⟩
  | .hbm, ⟨2, _⟩ => ⟨S6688x128, .f32⟩
  | .hbm, ⟨3, _⟩ => ⟨S6688x128, .f32⟩
  | .hbm, ⟨4, _⟩ => ⟨S6688x128, .f32⟩
  | .hbm, ⟨5, _⟩ => ⟨S6688x128, .f32⟩
  | .hbm, ⟨6, _⟩ => ⟨S6688x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S6688x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 209], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamSmallIdeal.lean ====
abbrev S6688x128 : Shape := ⟨2, ![6688, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6688x128, .f32⟩
  | .hbm, ⟨1, _⟩ => ⟨S6688x128, .f32⟩
  | .hbm, ⟨2, _⟩ => ⟨S6688x128, .f32⟩
  | .hbm, ⟨3, _⟩ => ⟨S6688x128, .f32⟩
  | .hbm, ⟨4, _⟩ => ⟨S_, .f32⟩
  | .hbm, ⟨5, _⟩ => ⟨S6688x128, .f32⟩
  | .hbm, ⟨6, _⟩ => ⟨S6688x128, .f32⟩
  | .hbm, ⟨7, _⟩ => ⟨S_, .f32⟩
  | .hbm, ⟨8, _⟩ => ⟨S6688x128, .f32⟩
  | .hbm, ⟨9, _⟩ => ⟨S6688x128, .f32⟩
  | .hbm, ⟨10, _⟩ => ⟨S6688x128, .f32⟩
  | .hbm, ⟨11, _⟩ => ⟨S_, .f32⟩
  | .hbm, ⟨12, _⟩ => ⟨S6688x128, .f32⟩
  | .hbm, ⟨13, _⟩ => ⟨S6688x128, .f32⟩
  | .hbm, ⟨14, _⟩ => ⟨S6688x128, .f32⟩
  | .hbm, ⟨15, _⟩ => ⟨S_, .f32⟩
  | .hbm, ⟨16, _⟩ => ⟨S6688x128, .f32⟩
  | .hbm, ⟨17, _⟩ => ⟨S6688x128, .f32⟩
  | .hbm, ⟨18, _⟩ => ⟨S6688x128, .f32⟩
  | .hbm, ⟨19, _⟩ => ⟨S_, .f32⟩
  | .hbm, ⟨20, _⟩ => ⟨S6688x128, .f32⟩
  | .hbm, ⟨21, _⟩ => ⟨S6688x128, .f32⟩
  | .hbm, ⟨22, _⟩ => ⟨S_, .f32⟩
  | .hbm, ⟨23, _⟩ => ⟨S6688x128, .f32⟩
  | .hbm, ⟨24, _⟩ => ⟨S6688x128, .f32⟩
  | .hbm, ⟨25, _⟩ => ⟨S6688x128, .f32⟩
  | .hbm, ⟨26, _⟩ => ⟨S_, .f32⟩
  | .hbm, ⟨27, _⟩ => ⟨S6688x128, .f32⟩
  | .hbm, ⟨28, _⟩ => ⟨S6688x128, .f32⟩
  | .hbm, ⟨29, _⟩ => ⟨S6688x128, .f32⟩
  | .hbm, ⟨30, _⟩ => ⟨S_, .f32⟩
  | .hbm, ⟨31, _⟩ => ⟨S6688x128, .f32⟩
  | .hbm, ⟨32, _⟩ => ⟨S6688x128, .f32⟩
  | .hbm, ⟨33, _⟩ => ⟨S6688x128, .f32⟩
  | .hbm, ⟨34, _⟩ => ⟨S_, .f32⟩
  | .hbm, ⟨35, _⟩ => ⟨S6688x128, .f32⟩
  | .hbm, ⟨36, _⟩ => ⟨S6688x128, .f32⟩
  | _, _ => ⟨S6688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ActValue.lean ====
module

public import proofs.«01_k».proof.Proof.Gen.KernelActIdeal.Value
public import proofs.«01_k».proof.Proof.Gen.ReferenceActIdeal.Run
public import Idealize.ShloMosaic.Lib.Pipeline.ValueKit

@[expose] public section

set_option maxRecDepth 16384

noncomputable section

namespace Cert.KernelActIdeal.Product

open Cert.KernelActIdeal Cert.KernelActIdeal.Gen
open Idealize.ShloMosaic Idealize.ShloMosaic.TcCoe Idealize.SL.Sem
open Idealize.ShloMosaic.Pipeline (Dat)

variable (m : (ℓ : Loc nD τ sig) → Buf (Elt Ideal) ℓ)

/-- The MLP's first product, over the layer's whole first weight. -/
abbrev PRE (X : FVec Ideal Cert.ReferenceActIdeal.S8192x2048 .bf16) (W : FVec Ideal Cert.ReferenceActIdeal.S4x4x2048x2048 .bf16) : FVec Ideal Cert.ReferenceActIdeal.S8192x8192 .f32 :=
  Host.dotGeneral Cert.ReferenceActIdeal.dot_S8192x2048_S2048x8192_S8192x8192_1_0_0_1_n_n none (extf .f32 X Cert.ReferenceActIdeal.Gen.bitsLt_bf16_f32)
    (shapeCast Cert.ReferenceActIdeal.S2048x8192 (transpose Cert.ReferenceActIdeal.S2048x4x2048 [1, 0, 2] (extf .f32 (shapeCast Cert.ReferenceActIdeal.S4x2048x2048
      (extractStridedSlice Cert.ReferenceActIdeal.S4x1x2048x2048 ![0, 3, 0, 0] W Cert.ReferenceActIdeal.Gen.slices_S4x4x2048x2048_S4x1x2048x2048_0_3_0_0)
      Cert.ReferenceActIdeal.Gen.shapeCasts_S4x1x2048x2048_S4x2048x2048) Cert.ReferenceActIdeal.Gen.bitsLt_bf16_f32)
      Cert.ReferenceActIdeal.Gen.transposes_S4x2048x2048_S2048x4x2048_1_0_2) Cert.ReferenceActIdeal.Gen.shapeCasts_S2048x4x2048_S2048x8192)

/-- The gradient of the activation's argument as the reference composes it. -/
abbrev REF (A : FVec Ideal Cert.ReferenceActIdeal.S8192x8192 .f32) (W : FVec Ideal Cert.ReferenceActIdeal.S4x4x2048x2048 .bf16) (D : FVec Ideal Cert.ReferenceActIdeal.S8192x2048 .bf16) :
    FVec Ideal Cert.ReferenceActIdeal.S8192x8192 .bf16 :=
  truncf .bf16 (select (cmpf .ogt A (broadcastInDim Cert.ReferenceActIdeal.S8192x8192 ![] Cert.ReferenceActIdeal.Gen.bcast_S_S8192x8192 (constant Cert.ReferenceActIdeal.S_ .f32 0x00000000#32)))
    (mulf (Host.dotGeneral Cert.ReferenceActIdeal.dot_S8192x2048_S8192x2048_S8192x8192_1_1_0_0_n_n none (extf .f32 D Cert.ReferenceActIdeal.Gen.bitsLt_bf16_f32)
        (shapeCast Cert.ReferenceActIdeal.S8192x2048 (extf .f32 (shapeCast Cert.ReferenceActIdeal.S4x2048x2048
          (extractStridedSlice Cert.ReferenceActIdeal.S4x1x2048x2048 ![0, 3, 0, 0] W Cert.ReferenceActIdeal.Gen.slices_S4x4x2048x2048_S4x1x2048x2048_0_3_0_0)
          Cert.ReferenceActIdeal.Gen.shapeCasts_S4x1x2048x2048_S4x2048x2048) Cert.ReferenceActIdeal.Gen.bitsLt_bf16_f32) Cert.ReferenceActIdeal.Gen.shapeCasts_S4x2048x2048_S8192x2048))
      (mulf (broadcastInDim Cert.ReferenceActIdeal.S8192x8192 ![] Cert.ReferenceActIdeal.Gen.bcast_S_S8192x8192 (constant Cert.ReferenceActIdeal.S_ .f32 0x40000000#32)) (maximumf A (broadcastInDim Cert.ReferenceActIdeal.S8192x8192 ![] Cert.ReferenceActIdeal.Gen.bcast_S_S8192x8192 (constant Cert.ReferenceActIdeal.S_ .f32 0x00000000#32)))))
    (broadcastInDim Cert.ReferenceActIdeal.S8192x8192 ![] Cert.ReferenceActIdeal.Gen.bcast_S_S8192x8192 (constant Cert.ReferenceActIdeal.S_ .f32 0x00000000#32))) Cert.ReferenceActIdeal.Gen.bitsLt_bf16_f32

/-- The body's result: the product with the weight's rows, times twice the positive part. -/
theorem body (x0 : FVec Ideal S1024x2048 .bf16) (x1 : FVec Ideal S1x1x1024x2048 .bf16) (a : FVec Ideal S1024x1024 .f32) (j : S1024x1024.Idx) :
    k0_pay1 (F := Ideal) x0 x1 a j = (∑ k : Fin 2048, x0 (ix2 (j 0) k) * x1 (ix4 (0 : Fin 1) (0 : Fin 1) (j 1) k)) * (Ideal.ofBits .f32 0x40000000#32 * max (a j) 0) := by
  pointwise [k0_pay1]

/-- The reference at an index. -/
theorem ref_apply (A : FVec Ideal S8192x8192 .f32) (W : FVec Ideal S4x4x2048x2048 .bf16) (D : FVec Ideal S8192x2048 .bf16) (j : S8192x8192.Idx) :
    REF A W D j = (∑ k : Fin 2048, D (ix2 (j 0) k) * W (ix4 (⟨(j 1).val / 2048, by have h : (j 1).val < 8192 := (j 1).isLt; omega⟩ : Fin 4) (3 : Fin 4) (⟨(j 1).val % 2048, by omega⟩ : Fin 2048) k)) * (Ideal.ofBits .f32 0x40000000#32 * max (A j) 0) := by
  pointwise [REF]
  by_cases h : 0 < A j
  · rw [if_pos h]
  · rw [if_neg h, max_eq_right (not_lt.mp h), mul_zero, mul_zero]

/-- The array of products that the region reads. -/
theorem host (c : Dev nD) : V m c main_v6 = PRE (m ((c : Thread nD τ).loc main_arg0)) (m ((c : Thread nD τ).loc main_arg1)) := by
  entry_read
  rfl

theorem idx : ∀ t : Fin cfg0.N, win0_0.index t = ![t.val / 8, 0] ∧ win0_1.index t = ![t.val % 8 / 2, 3, t.val % 8 % 2, 0]
    ∧ win0_2.index t = ![t.val / 8, t.val % 8] ∧ win0_3.index t = ![t.val / 8, t.val % 8] :=
  (by decide +kernel : ∀ t : Fin grid0.N, _)

theorem final (c : Dev nD) : (dats m 0 c).arrAt 3 cfg0.N
    = REF (PRE (m ((c : Thread nD τ).loc main_arg0)) (m ((c : Thread nD τ).loc main_arg1))) (m ((c : Thread nD τ).loc main_arg2)) (m ((c : Thread nD τ).loc main_arg3)) := by
  rw [← host]
  refine (dats m 0 c).arrAt_eq_of_covers 3 _ (by decide +kernel) fun t hf y => ?_
  blk_simp
  rw [after0_3]; unfold outsAt0; frame_out
  rw [body, ref_apply]
  blk_point [iblk, V_main_arg2, V_main_arg3, idx t]

end Cert.KernelActIdeal.Product

end
-- ==== Proof.UpValue.lean ====
/- The MLP's first product and its squared positive part. -/
module

public import proofs.«01_k».proof.Proof.Gen.KernelUpIdeal.Value
public import proofs.«01_k».proof.Proof.Gen.ReferenceUpIdeal.Run
public import Idealize.ShloMosaic.Lib.Pipeline.ValueKit

@[expose] public section

set_option maxRecDepth 16384

noncomputable section

namespace Cert.ReferenceUpIdeal.Product

open Cert.ReferenceUpIdeal Cert.ReferenceUpIdeal.Gen
open Idealize.ShloMosaic Idealize.ShloMosaic.TcCoe

/-- The product as the reference composes it: the weight's column slices set side by side. -/
abbrev REF (X : FVec Ideal S8192x2048 .bf16) (W : FVec Ideal S4x4x2048x2048 .bf16) : FVec Ideal S8192x8192 .f32 :=
  Host.dotGeneral dot_S8192x2048_S2048x8192_S8192x8192_1_0_0_1_n_n none (extf .f32 X bitsLt_bf16_f32) (shapeCast _ (transpose S2048x4x2048 [1, 0, 2] (extf .f32 (shapeCast _ (extractStridedSlice S4x1x2048x2048 ![0, 3, 0, 0] W slices_S4x4x2048x2048_S4x1x2048x2048_0_3_0_0) shapeCasts_S4x1x2048x2048_S4x2048x2048) bitsLt_bf16_f32) transposes_S4x2048x2048_S2048x4x2048_1_0_2) shapeCasts_S2048x4x2048_S2048x8192)

theorem ref_apply (X : FVec Ideal S8192x2048 .bf16) (W : FVec Ideal S4x4x2048x2048 .bf16) (j : S8192x8192.Idx) :
    REF X W j = ∑ k : Fin 2048, X (ix2 (j 0) k) * W (ix4 (⟨(j 1).val / 2048, by have h1 : (j 1).val < 8192 := (j 1).isLt; omega⟩ : Fin 4) (3 : Fin 4) k (⟨(j 1).val % 2048, by omega⟩ : Fin 2048)) := by
  pointwise [REF]

/-- The hidden layer from the product. -/
abbrev HID (A : FVec Ideal S8192x8192 .f32) : FVec Ideal S8192x8192 .bf16 :=
  truncf .bf16 (mulf (maximumf A (broadcastInDim S8192x8192 ![] bcast_S_S8192x8192 (constant S_ .f32 0x00000000#32))) (maximumf A (broadcastInDim S8192x8192 ![] bcast_S_S8192x8192 (constant S_ .f32 0x00000000#32)))) bitsLt_bf16_f32

theorem hid_apply (A : FVec Ideal S8192x8192 .f32) (j : S8192x8192.Idx) : HID A j = max (A j) 0 * max (A j) 0 := by
  pointwise [HID]

end Cert.ReferenceUpIdeal.Product

namespace Cert.KernelUpIdeal.Product

open Cert.KernelUpIdeal Cert.KernelUpIdeal.Gen
open Cert.ReferenceUpIdeal.Product (REF ref_apply HID hid_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x2048 .bf16) (x1 : FVec Ideal S1x1x2048x1024 .bf16) (j : S1024x1024.Idx) :
    k0_pay1 (F := Ideal) x0 x1 j = ∑ k : Fin 2048, x0 (ix2 (j 0) k) * x1 (ix4 (0 : Fin 1) (0 : Fin 1) k (j 1)) := by
  pointwise [k0_pay1]

theorem body_hid (x0 : FVec Ideal S1024x2048 .bf16) (x1 : FVec Ideal S1x1x2048x1024 .bf16) (j : S1024x1024.Idx) :
    k0_pay2 (F := Ideal) x0 x1 j = max (k0_pay1 (F := Ideal) x0 x1 j) 0 * max (k0_pay1 (F := Ideal) x0 x1 j) 0 := by
  pointwise [k0_pay2]

/-- The blocks of the factors and of the result at every point. -/
theorem idx : ∀ t : Fin cfg0.N, win0_0.index t = ![t.val / 8, 0]
    ∧ win0_1.index t = ![t.val % 8 / 2, 3, 0, t.val % 8 % 2]
    ∧ win0_2.index t = ![t.val / 8, t.val % 8]
    ∧ win0_3.index t = ![t.val / 8, t.val % 8] :=
  (by decide +kernel : ∀ t : Fin grid0.N, _)

/-- After the run the result array is the reference's product. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

/-- And the second one its hidden layer. -/
theorem final_hid (c : Dev nD) : (dats m 0 c).arrAt 3 cfg0.N = HID (REF (m ((c : Thread nD τ).loc main_arg0)) (m ((c : Thread nD τ).loc main_arg1))) := by
  refine (dats m 0 c).arrAt_eq_of_covers 3 _ (by decide +kernel) fun t hf y => ?_
  blk_simp
  rw [after0_3]; unfold outsAt0; frame_out
  rw [body_hid, hid_apply]
  have h : ∀ a b : EReal, a = b → max a 0 * max a 0 = max b 0 * max b 0 := fun a b e => by rw [e]
  refine h _ _ ?_
  rw [body, ref_apply]
  blk_point [iblk, V, idx t]

end Cert.KernelUpIdeal.Product

end

end
-- ==== Proof.DownValue.lean ====
/- The MLP's second product, added to the residual. -/
module

public import proofs.«01_k».proof.Proof.Gen.KernelDownIdeal.Value
public import proofs.«01_k».proof.Proof.Gen.ReferenceDownIdeal.Run
public import Idealize.ShloMosaic.Lib.Pipeline.ValueKit

@[expose] public section

set_option maxRecDepth 16384

noncomputable section

namespace Cert.ReferenceDownIdeal.Product

open Cert.ReferenceDownIdeal Cert.ReferenceDownIdeal.Gen
open Idealize.ShloMosaic Idealize.ShloMosaic.TcCoe

/-- The residual and the product as the reference composes them: the weight's row slices one below the other. -/
abbrev REF (H : FVec Ideal S8192x8192 .bf16) (W : FVec Ideal S4x4x2048x2048 .bf16) (X : FVec Ideal S8192x2048 .f32) : FVec Ideal S8192x2048 .f32 :=
  addf X (Host.dotGeneral dot_S8192x8192_S8192x2048_S8192x2048_1_0_0_1_n_n none (extf .f32 H bitsLt_bf16_f32) (shapeCast _ (extf .f32 (shapeCast _ (extractStridedSlice S4x1x2048x2048 ![0, 3, 0, 0] W slices_S4x4x2048x2048_S4x1x2048x2048_0_3_0_0) shapeCasts_S4x1x2048x2048_S4x2048x2048) bitsLt_bf16_f32) shapeCasts_S4x2048x2048_S8192x2048))

theorem ref_apply (H : FVec Ideal S8192x8192 .bf16) (W : FVec Ideal S4x4x2048x2048 .bf16) (X : FVec Ideal S8192x2048 .f32) (j : S8192x2048.Idx) :
    REF H W X j = X j + ∑ k : Fin 8192, H (ix2 (j 0) k) * W (ix4 (⟨k.val / 2048, by omega⟩ : Fin 4) (3 : Fin 4) (⟨k.val % 2048, by omega⟩ : Fin 2048) (j 1)) := by
  pointwise [REF]

end Cert.ReferenceDownIdeal.Product

namespace Cert.KernelDownIdeal.Product

open Cert.KernelDownIdeal Cert.KernelDownIdeal.Gen
open Cert.ReferenceDownIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x2048 .bf16) (x1 : FVec Ideal S1x1x2048x1024 .bf16) (j : S1024x1024.Idx) :
    k0_pay2 (F := Ideal) x0 x1 j = ∑ k : Fin 2048, x0 (ix2 (j 0) k) * x1 (ix4 (0 : Fin 1) (0 : Fin 1) k (j 1)) := by
  pointwise [k0_pay2, k0_pay1]

/-- which a later step adds to the accumulator. -/
theorem next (x0 : FVec Ideal S1024x2048 .bf16) (x1 : FVec Ideal S1x1x2048x1024 .bf16) (acc : FVec Ideal S1024x1024 .f32) (j : S1024x1024.Idx) :
    k0_pay3 (F := Ideal) x0 x1 acc j = acc j + ∑ k : Fin 2048, x0 (ix2 (j 0) k) * x1 (ix4 (0 : Fin 1) (0 : Fin 1) k (j 1)) := by
  pointwise [k0_pay3, k0_pay1]

/-- The last step adds the residual. -/
theorem last (acc x : FVec Ideal S1024x1024 .f32) (j : S1024x1024.Idx) : k0_pay4 (F := Ideal) acc x j = x j + acc j := by
  pointwise [k0_pay4]

/-- The blocks of the factors and of the result at every point. -/
theorem idx : ∀ t : Fin cfg0.N, win0_0.index t = ![t.val / 8, t.val % 4]
    ∧ win0_1.index t = ![t.val % 4, 3, 0, t.val / 4 % 2]
    ∧ win0_2.index t = ![t.val / 8, t.val / 4 % 2]
    ∧ win0_3.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S1024x2048 .bf16 from iblk m c 0 ⟨4 * (t.val / 4) + s.val, Pipeline.run_point_lt_of_flush t hf s⟩) (ix2 (j 0) k) * (show FVec Ideal S1x1x2048x1024 .bf16 from iblk m c 1 ⟨4 * (t.val / 4) + s.val, Pipeline.run_point_lt_of_flush t hf s⟩) (ix4 (0 : Fin 1) (0 : Fin 1) k (j 1)) := by
  rw [Pipeline.eq_sum_fin_of_reset_step_apply_of_flush (fun n h => (outsAt0 m c n h).2) 4 (fun _ => (0 : EReal))
    (fun p j => ∑ k : Fin 2048, (show FVec Ideal S1024x2048 .bf16 from iblk m c 0 p) (ix2 (j 0) k) * (show FVec Ideal S1x1x2048x1024 .bf16 from iblk m c 1 p) (ix4 (0 : Fin 1) (0 : Fin 1) k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores the residual and what the accumulator then holds. -/
theorem stored (c : Dev nD) (t : Fin cfg0.N) (hf : t.val % 4 = 3) (j : S1024x1024.Idx) :
    (outsAt0 m c t.val t.isLt).1 j = (show FVec Ideal S1024x1024 .f32 from iblk m c 2 t) j + (outsAt0 m c t.val t.isLt).2 j := by
  rw [outsAt0_C m c t (by omega) (by omega) hf]; frame_out; rw [last]

/-- After the run the result array is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hf' := (flush0_3 t).mp hf
  blk_simp
  rw [after0_3, stored m c t hf', held m c t hf', ref_apply]
  refine congrArg₂ (fun a b : EReal => a + b) ?_ (Fin.sum_mul_add_congr fun s k hl => ?_)
  · blk_point [iblk, V, idx t]
  · blk_point [iblk, V, idx t, idx ⟨_, Pipeline.run_point_lt_of_flush t hf' s⟩]

end Cert.KernelDownIdeal.Product

end

end
-- ==== Proof.QkvValue.lean ====
/- The projection to the neighbourhood attention's queries, keys and values. -/
module

public import proofs.«01_k».proof.Proof.Gen.KernelQkvIdeal.Value
public import proofs.«01_k».proof.Proof.Gen.ReferenceQkvIdeal.Run
public import Idealize.ShloMosaic.Lib.Pipeline.ValueKit

@[expose] public section

set_option maxRecDepth 16384

noncomputable section

namespace Cert.ReferenceQkvIdeal.Product

open Cert.ReferenceQkvIdeal Cert.ReferenceQkvIdeal.Gen
open Idealize.ShloMosaic Idealize.ShloMosaic.TcCoe

/-- The product as the reference composes it: the weight's column slices set side by side. -/
abbrev REF (X : FVec Ideal S8192x2048 .bf16) (W : FVec Ideal S4x2x2048x1536 .bf16) : FVec Ideal S8192x6144 .bf16 :=
  truncf .bf16 (Host.dotGeneral dot_S8192x2048_S2048x6144_S8192x6144_1_0_0_1_n_n none (extf .f32 X bitsLt_bf16_f32) (shapeCast _ (transpose S2048x4x1536 [1, 0, 2] (extf .f32 (shapeCast _ (extractStridedSlice S4x1x2048x1536 ![0, 1, 0, 0] W slices_S4x2x2048x1536_S4x1x2048x1536_0_1_0_0) shapeCasts_S4x1x2048x1536_S4x2048x1536) bitsLt_bf16_f32) transposes_S4x2048x1536_S2048x4x1536_1_0_2) shapeCasts_S2048x4x1536_S2048x6144)) bitsLt_bf16_f32

theorem ref_apply (X : FVec Ideal S8192x2048 .bf16) (W : FVec Ideal S4x2x2048x1536 .bf16) (j : S8192x6144.Idx) :
    REF X W j = ∑ k : Fin 2048, X (ix2 (j 0) k) * W (ix4 (⟨(j 1).val / 1536, by have h1 : (j 1).val < 6144 := (j 1).isLt; omega⟩ : Fin 4) (1 : Fin 2) k (⟨(j 1).val % 1536, by omega⟩ : Fin 1536)) := by
  pointwise [REF]

end Cert.ReferenceQkvIdeal.Product

namespace Cert.KernelQkvIdeal.Product

open Cert.KernelQkvIdeal Cert.KernelQkvIdeal.Gen
open Cert.ReferenceQkvIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x2048 .bf16) (x1 : FVec Ideal S1x1x2048x768 .bf16) (j : S1024x768.Idx) :
    k0_pay1 (F := Ideal) x0 x1 j = ∑ k : Fin 2048, x0 (ix2 (j 0) k) * x1 (ix4 (0 : Fin 1) (0 : Fin 1) k (j 1)) := by
  pointwise [k0_pay1]

/-- The blocks of the factors and of the result at every point. -/
theorem idx : ∀ t : Fin cfg0.N, win0_0.index t = ![t.val / 8, 0]
    ∧ win0_1.index t = ![t.val % 8 / 2, 1, 0, t.val % 8 % 2]
    ∧ win0_2.index t = ![t.val / 8, t.val % 8] :=
  (by decide +kernel : ∀ t : Fin grid0.N, _)

/-- After the run the result array is the reference's product. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

end Cert.KernelQkvIdeal.Product

end

end
-- ==== Proof.InValue.lean ====
/- The projection into the even layers' mixer. -/
module

public import proofs.«01_k».proof.Proof.Gen.KernelInIdeal.Value
public import proofs.«01_k».proof.Proof.Gen.ReferenceInIdeal.Run
public import Idealize.ShloMosaic.Lib.Pipeline.ValueKit

@[expose] public section

set_option maxRecDepth 16384

noncomputable section

namespace Cert.ReferenceInIdeal.Product

open Cert.ReferenceInIdeal Cert.ReferenceInIdeal.Gen
open Idealize.ShloMosaic Idealize.ShloMosaic.TcCoe

/-- The product as the reference composes it: the weight's column slices set side by side. -/
abbrev REF (X : FVec Ideal S8192x2048 .bf16) (W : FVec Ideal S4x2x2048x1024 .bf16) : FVec Ideal S8192x4096 .f32 :=
  Host.dotGeneral dot_S8192x2048_S2048x4096_S8192x4096_1_0_0_1_n_n none (extf .f32 X bitsLt_bf16_f32) (shapeCast _ (transpose S2048x4x1024 [1, 0, 2] (extf .f32 (shapeCast _ (extractStridedSlice S4x1x2048x1024 ![0, 1, 0, 0] W slices_S4x2x2048x1024_S4x1x2048x1024_0_1_0_0) shapeCasts_S4x1x2048x1024_S4x2048x1024) bitsLt_bf16_f32) transposes_S4x2048x1024_S2048x4x1024_1_0_2) shapeCasts_S2048x4x1024_S2048x4096)

theorem ref_apply (X : FVec Ideal S8192x2048 .bf16) (W : FVec Ideal S4x2x2048x1024 .bf16) (j : S8192x4096.Idx) :
    REF X W j = ∑ k : Fin 2048, X (ix2 (j 0) k) * W (ix4 (⟨(j 1).val / 1024, by have h1 : (j 1).val < 4096 := (j 1).isLt; omega⟩ : Fin 4) (1 : Fin 2) k (⟨(j 1).val % 1024, by omega⟩ : Fin 1024)) := by
  pointwise [REF]

end Cert.ReferenceInIdeal.Product

namespace Cert.KernelInIdeal.Product

open Cert.KernelInIdeal Cert.KernelInIdeal.Gen
open Cert.ReferenceInIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x2048 .bf16) (x1 : FVec Ideal S1x1x2048x1024 .bf16) (j : S1024x1024.Idx) :
    k0_pay1 (F := Ideal) x0 x1 j = ∑ k : Fin 2048, x0 (ix2 (j 0) k) * x1 (ix4 (0 : Fin 1) (0 : Fin 1) k (j 1)) := by
  pointwise [k0_pay1]

/-- The blocks of the factors and of the result at every point. -/
theorem idx : ∀ t : Fin cfg0.N, win0_0.index t = ![t.val / 4, 0]
    ∧ win0_1.index t = ![t.val % 4, 1, 0, 0]
    ∧ win0_2.index t = ![t.val / 4, t.val % 4] :=
  (by decide +kernel : ∀ t : Fin grid0.N, _)

/-- After the run the result array is the reference's product. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

end Cert.KernelInIdeal.Product

end

end
-- ==== Proof.OutValue.lean ====
/- The projection out of a mixer, added to the residual. -/
module

public import proofs.«01_k».proof.Proof.Gen.KernelOutIdeal.Value
public import proofs.«01_k».proof.Proof.Gen.ReferenceOutIdeal.Run
public import Idealize.ShloMosaic.Lib.Pipeline.ValueKit

@[expose] public section

set_option maxRecDepth 16384

noncomputable section

namespace Cert.ReferenceOutIdeal.Product

open Cert.ReferenceOutIdeal Cert.ReferenceOutIdeal.Gen
open Idealize.ShloMosaic Idealize.ShloMosaic.TcCoe

/-- The residual and the product as the reference composes them: the weight's row slices one below the other. -/
abbrev REF (H : FVec Ideal S8192x2048 .bf16) (W : FVec Ideal S4x2x512x2048 .bf16) (X : FVec Ideal S8192x2048 .f32) : FVec Ideal S8192x2048 .f32 :=
  addf X (Host.dotGeneral dot_S8192x2048_S2048x2048_S8192x2048_1_0_0_1_n_n none (extf .f32 H bitsLt_bf16_f32) (shapeCast _ (extf .f32 (shapeCast _ (extractStridedSlice S4x1x512x2048 ![0, 1, 0, 0] W slices_S4x2x512x2048_S4x1x512x2048_0_1_0_0) shapeCasts_S4x1x512x2048_S4x512x2048) bitsLt_bf16_f32) shapeCasts_S4x512x2048_S2048x2048))

theorem ref_apply (H : FVec Ideal S8192x2048 .bf16) (W : FVec Ideal S4x2x512x2048 .bf16) (X : FVec Ideal S8192x2048 .f32) (j : S8192x2048.Idx) :
    REF H W X j = X j + ∑ k : Fin 2048, H (ix2 (j 0) k) * W (ix4 (⟨k.val / 512, by omega⟩ : Fin 4) (1 : Fin 2) (⟨k.val % 512, by omega⟩ : Fin 512) (j 1)) := by
  pointwise [REF]

end Cert.ReferenceOutIdeal.Product

namespace Cert.KernelOutIdeal.Product

open Cert.KernelOutIdeal Cert.KernelOutIdeal.Gen
open Cert.ReferenceOutIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x512 .bf16) (x1 : FVec Ideal S1x1x512x1024 .bf16) (j : S1024x1024.Idx) :
    k0_pay2 (F := Ideal) x0 x1 j = ∑ k : Fin 512, x0 (ix2 (j 0) k) * x1 (ix4 (0 : Fin 1) (0 : Fin 1) k (j 1)) := by
  pointwise [k0_pay2, k0_pay1]

/-- which a later step adds to the accumulator. -/
theorem next (x0 : FVec Ideal S1024x512 .bf16) (x1 : FVec Ideal S1x1x512x1024 .bf16) (acc : FVec Ideal S1024x1024 .f32) (j : S1024x1024.Idx) :
    k0_pay3 (F := Ideal) x0 x1 acc j = acc j + ∑ k : Fin 512, x0 (ix2 (j 0) k) * x1 (ix4 (0 : Fin 1) (0 : Fin 1) k (j 1)) := by
  pointwise [k0_pay3, k0_pay1]

/-- The last step adds the residual. -/
theorem last (acc x : FVec Ideal S1024x1024 .f32) (j : S1024x1024.Idx) : k0_pay4 (F := Ideal) acc x j = x j + acc j := by
  pointwise [k0_pay4]

/-- The blocks of the factors and of the result at every point. -/
theorem idx : ∀ t : Fin cfg0.N, win0_0.index t = ![t.val / 8, t.val % 4]
    ∧ win0_1.index t = ![t.val % 4, 1, 0, t.val / 4 % 2]
    ∧ win0_2.index t = ![t.val / 8, t.val / 4 % 2]
    ∧ win0_3.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 512,
      (show FVec Ideal S1024x512 .bf16 from iblk m c 0 ⟨4 * (t.val / 4) + s.val, Pipeline.run_point_lt_of_flush t hf s⟩) (ix2 (j 0) k) * (show FVec Ideal S1x1x512x1024 .bf16 from iblk m c 1 ⟨4 * (t.val / 4) + s.val, Pipeline.run_point_lt_of_flush t hf s⟩) (ix4 (0 : Fin 1) (0 : Fin 1) k (j 1)) := by
  rw [Pipeline.eq_sum_fin_of_reset_step_apply_of_flush (fun n h => (outsAt0 m c n h).2) 4 (fun _ => (0 : EReal))
    (fun p j => ∑ k : Fin 512, (show FVec Ideal S1024x512 .bf16 from iblk m c 0 p) (ix2 (j 0) k) * (show FVec Ideal S1x1x512x1024 .bf16 from iblk m c 1 p) (ix4 (0 : Fin 1) (0 : Fin 1) k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores the residual and what the accumulator then holds. -/
theorem stored (c : Dev nD) (t : Fin cfg0.N) (hf : t.val % 4 = 3) (j : S1024x1024.Idx) :
    (outsAt0 m c t.val t.isLt).1 j = (show FVec Ideal S1024x1024 .f32 from iblk m c 2 t) j + (outsAt0 m c t.val t.isLt).2 j := by
  rw [outsAt0_C m c t (by omega) (by omega) hf]; frame_out; rw [last]

/-- After the run the result array is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hf' := (flush0_3 t).mp hf
  blk_simp
  rw [after0_3, stored m c t hf', held m c t hf', ref_apply]
  refine congrArg₂ (fun a b : EReal => a + b) ?_ (Fin.sum_mul_add_congr fun s k hl => ?_)
  · blk_point [iblk, V, idx t]
  · blk_point [iblk, V, idx t, idx ⟨_, Pipeline.run_point_lt_of_flush t hf' s⟩]

end Cert.KernelOutIdeal.Product

end

end
-- ==== Proof.QkvDxValue.lean ====
/- The gradient of the input of the projection to queries, keys and values. -/
module

public import proofs.«01_k».proof.Proof.Gen.KernelQkvDxIdeal.Value
public import proofs.«01_k».proof.Proof.Gen.ReferenceQkvDxIdeal.Run
public import Idealize.ShloMosaic.Lib.Pipeline.ValueKit

@[expose] public section

set_option maxRecDepth 16384

noncomputable section

namespace Cert.ReferenceQkvDxIdeal.Product

open Cert.ReferenceQkvDxIdeal Cert.ReferenceQkvDxIdeal.Gen
open Idealize.ShloMosaic Idealize.ShloMosaic.TcCoe

/-- The gradient as the reference composes it: the weight's column slices set side by side. -/
abbrev REF (W : FVec Ideal S4x2x2048x1536 .bf16) (D : FVec Ideal S8192x6144 .bf16) : FVec Ideal S8192x2048 .f32 :=
  Host.dotGeneral dot_S8192x6144_S2048x6144_S8192x2048_1_1_0_0_n_n none (extf .f32 D bitsLt_bf16_f32) (shapeCast _ (transpose S2048x4x1536 [1, 0, 2] (extf .f32 (shapeCast _ (extractStridedSlice S4x1x2048x1536 ![0, 1, 0, 0] W slices_S4x2x2048x1536_S4x1x2048x1536_0_1_0_0) shapeCasts_S4x1x2048x1536_S4x2048x1536) bitsLt_bf16_f32) transposes_S4x2048x1536_S2048x4x1536_1_0_2) shapeCasts_S2048x4x1536_S2048x6144)

theorem ref_apply (W : FVec Ideal S4x2x2048x1536 .bf16) (D : FVec Ideal S8192x6144 .bf16) (j : S8192x2048.Idx) :
    REF W D j = ∑ k : Fin 6144, D (ix2 (j 0) k) * W (ix4 (⟨k.val / 1536, by omega⟩ : Fin 4) (1 : Fin 2) (j 1) (⟨k.val % 1536, by omega⟩ : Fin 1536)) := by
  pointwise [REF]

end Cert.ReferenceQkvDxIdeal.Product

namespace Cert.KernelQkvDxIdeal.Product

open Cert.KernelQkvDxIdeal Cert.KernelQkvDxIdeal.Gen
open Cert.ReferenceQkvDxIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x1536 .bf16) (x1 : FVec Ideal S1x1x1024x1536 .bf16) (j : S1024x1024.Idx) :
    k0_pay2 (F := Ideal) x0 x1 j = ∑ k : Fin 1536, x0 (ix2 (j 0) k) * x1 (ix4 (0 : Fin 1) (0 : Fin 1) (j 1) k) := by
  pointwise [k0_pay2, k0_pay1]

/-- which a later step adds to the accumulator. -/
theorem next (x0 : FVec Ideal S1024x1536 .bf16) (x1 : FVec Ideal S1x1x1024x1536 .bf16) (acc : FVec Ideal S1024x1024 .f32) (j : S1024x1024.Idx) :
    k0_pay3 (F := Ideal) x0 x1 acc j = acc j + ∑ k : Fin 1536, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 1, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 1536,
      (show FVec Ideal S1024x1536 .bf16 from iblk m c 0 ⟨4 * (t.val / 4) + s.val, Pipeline.run_point_lt_of_flush t hf s⟩) (ix2 (j 0) k) * (show FVec Ideal S1x1x1024x1536 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 1536, (show FVec Ideal S1024x1536 .bf16 from iblk m c 0 p) (ix2 (j 0) k) * (show FVec Ideal S1x1x1024x1536 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelQkvDxIdeal.Product

end

end
-- ==== Proof.InDxValue.lean ====
/- The gradient of the input of the projection into the even layers' mixer. -/
module

public import proofs.«01_k».proof.Proof.Gen.KernelInDxIdeal.Value
public import proofs.«01_k».proof.Proof.Gen.ReferenceInDxIdeal.Run
public import Idealize.ShloMosaic.Lib.Pipeline.ValueKit

@[expose] public section

set_option maxRecDepth 16384

noncomputable section

namespace Cert.ReferenceInDxIdeal.Product

open Cert.ReferenceInDxIdeal Cert.ReferenceInDxIdeal.Gen
open Idealize.ShloMosaic Idealize.ShloMosaic.TcCoe

/-- The gradient as the reference composes it: the weight's column slices set side by side. -/
abbrev REF (W : FVec Ideal S4x2x2048x1024 .bf16) (D : FVec Ideal S8192x4096 .bf16) : FVec Ideal S8192x2048 .f32 :=
  Host.dotGeneral dot_S8192x4096_S2048x4096_S8192x2048_1_1_0_0_n_n none (extf .f32 D bitsLt_bf16_f32) (shapeCast _ (transpose S2048x4x1024 [1, 0, 2] (extf .f32 (shapeCast _ (extractStridedSlice S4x1x2048x1024 ![0, 1, 0, 0] W slices_S4x2x2048x1024_S4x1x2048x1024_0_1_0_0) shapeCasts_S4x1x2048x1024_S4x2048x1024) bitsLt_bf16_f32) transposes_S4x2048x1024_S2048x4x1024_1_0_2) shapeCasts_S2048x4x1024_S2048x4096)

theorem ref_apply (W : FVec Ideal S4x2x2048x1024 .bf16) (D : FVec Ideal S8192x4096 .bf16) (j : S8192x2048.Idx) :
    REF W D j = ∑ k : Fin 4096, D (ix2 (j 0) k) * W (ix4 (⟨k.val / 1024, by omega⟩ : Fin 4) (1 : Fin 2) (j 1) (⟨k.val % 1024, by omega⟩ : Fin 1024)) := by
  pointwise [REF]

end Cert.ReferenceInDxIdeal.Product

namespace Cert.KernelInDxIdeal.Product

open Cert.KernelInDxIdeal Cert.KernelInDxIdeal.Gen
open Cert.ReferenceInDxIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x1024 .bf16) (x1 : FVec Ideal S1x1x1024x1024 .bf16) (j : S1024x1024.Idx) :
    k0_pay2 (F := Ideal) x0 x1 j = ∑ k : Fin 1024, x0 (ix2 (j 0) k) * x1 (ix4 (0 : Fin 1) (0 : Fin 1) (j 1) k) := by
  pointwise [k0_pay2, k0_pay1]

/-- which a later step adds to the accumulator. -/
theorem next (x0 : FVec Ideal S1024x1024 .bf16) (x1 : FVec Ideal S1x1x1024x1024 .bf16) (acc : FVec Ideal S1024x1024 .f32) (j : S1024x1024.Idx) :
    k0_pay3 (F := Ideal) x0 x1 acc j = acc j + ∑ k : Fin 1024, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 1, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 1024,
      (show FVec Ideal S1024x1024 .bf16 from iblk m c 0 ⟨4 * (t.val / 4) + s.val, Pipeline.run_point_lt_of_flush t hf s⟩) (ix2 (j 0) k) * (show FVec Ideal S1x1x1024x1024 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 1024, (show FVec Ideal S1024x1024 .bf16 from iblk m c 0 p) (ix2 (j 0) k) * (show FVec Ideal S1x1x1024x1024 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelInDxIdeal.Product

end

end
-- ==== Proof.OutDxValue.lean ====
/- The gradient of the input of the projection out of a mixer. -/
module

public import proofs.«01_k».proof.Proof.Gen.KernelOutDxIdeal.Value
public import proofs.«01_k».proof.Proof.Gen.ReferenceOutDxIdeal.Run
public import Idealize.ShloMosaic.Lib.Pipeline.ValueKit

@[expose] public section

set_option maxRecDepth 16384

noncomputable section

namespace Cert.ReferenceOutDxIdeal.Product

open Cert.ReferenceOutDxIdeal Cert.ReferenceOutDxIdeal.Gen
open Idealize.ShloMosaic Idealize.ShloMosaic.TcCoe

/-- The gradient as the reference composes it: the weight's row slices one below the other. -/
abbrev REF (W : FVec Ideal S4x2x512x2048 .bf16) (D : FVec Ideal S8192x2048 .bf16) : FVec Ideal S8192x2048 .f32 :=
  Host.dotGeneral dot_S8192x2048_S2048x2048_S8192x2048_1_1_0_0_n_n none (extf .f32 D bitsLt_bf16_f32) (shapeCast _ (extf .f32 (shapeCast _ (extractStridedSlice S4x1x512x2048 ![0, 1, 0, 0] W slices_S4x2x512x2048_S4x1x512x2048_0_1_0_0) shapeCasts_S4x1x512x2048_S4x512x2048) bitsLt_bf16_f32) shapeCasts_S4x512x2048_S2048x2048)

theorem ref_apply (W : FVec Ideal S4x2x512x2048 .bf16) (D : FVec Ideal S8192x2048 .bf16) (j : S8192x2048.Idx) :
    REF W D j = ∑ k : Fin 2048, D (ix2 (j 0) k) * W (ix4 (⟨(j 1).val / 512, by have h1 : (j 1).val < 2048 := (j 1).isLt; omega⟩ : Fin 4) (1 : Fin 2) (⟨(j 1).val % 512, by omega⟩ : Fin 512) k) := by
  pointwise [REF]

end Cert.ReferenceOutDxIdeal.Product

namespace Cert.KernelOutDxIdeal.Product

open Cert.KernelOutDxIdeal Cert.KernelOutDxIdeal.Gen
open Cert.ReferenceOutDxIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x2048 .bf16) (x1 : FVec Ideal S1x1x512x2048 .bf16) (j : S1024x512.Idx) :
    k0_pay1 (F := Ideal) x0 x1 j = ∑ k : Fin 2048, x0 (ix2 (j 0) k) * x1 (ix4 (0 : Fin 1) (0 : Fin 1) (j 1) k) := by
  pointwise [k0_pay1]

/-- The blocks of the factors and of the result at every point. -/
theorem idx : ∀ t : Fin cfg0.N, win0_0.index t = ![t.val / 4, 0]
    ∧ win0_1.index t = ![t.val % 4, 1, 0, 0]
    ∧ win0_2.index t = ![t.val / 4, t.val % 4] :=
  (by decide +kernel : ∀ t : Fin grid0.N, _)

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

end Cert.KernelOutDxIdeal.Product

end

end
-- ==== Proof.QkvDwValue.lean ====
/- The gradient of the weight of the projection to queries, keys and values. -/
module

public import proofs.«01_k».proof.Proof.Gen.KernelQkvDwIdeal.Value
public import proofs.«01_k».proof.Proof.Gen.ReferenceQkvDwIdeal.Run
public import Idealize.ShloMosaic.Lib.Pipeline.ValueKit

@[expose] public section

set_option maxRecDepth 16384

noncomputable section

namespace Cert.ReferenceQkvDwIdeal.Product

open Cert.ReferenceQkvDwIdeal Cert.ReferenceQkvDwIdeal.Gen
open Idealize.ShloMosaic Idealize.ShloMosaic.TcCoe

/-- The weight's gradient as the reference composes it, cut over the chips. -/
abbrev REF (X : FVec Ideal S8192x2048 .bf16) (D : FVec Ideal S8192x6144 .bf16) : FVec Ideal S4x2048x1536 .f32 :=
  transpose S4x2048x1536 [1, 0, 2] (shapeCast _ (transpose S2048x6144 [1, 0] (Host.dotGeneral dot_S8192x6144_S8192x2048_S6144x2048_0_0_1_1_n_n none (extf .f32 D bitsLt_bf16_f32) (extf .f32 X bitsLt_bf16_f32)) transposes_S6144x2048_S2048x6144_1_0) shapeCasts_S2048x6144_S2048x4x1536) transposes_S2048x4x1536_S4x2048x1536_1_0_2

theorem ref_apply (X : FVec Ideal S8192x2048 .bf16) (D : FVec Ideal S8192x6144 .bf16) (j : S4x2048x1536.Idx) :
    REF X D j = ∑ k : Fin 8192, X (ix2 k (j 1)) * D (ix2 k (⟨(j 0).val * 1536 + (j 2).val, by have h0 : (j 0).val < 4 := (j 0).isLt; have h2 : (j 2).val < 1536 := (j 2).isLt; omega⟩ : Fin 6144)) := by
  pointwise [REF]
  exact Finset.sum_congr rfl fun _ _ => mul_comm _ _

end Cert.ReferenceQkvDwIdeal.Product

namespace Cert.KernelQkvDwIdeal.Product

open Cert.KernelQkvDwIdeal Cert.KernelQkvDwIdeal.Gen
open Cert.ReferenceQkvDwIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S2048x1024 .bf16) (x1 : FVec Ideal S2048x768 .bf16) (j : S1024x768.Idx) :
    k0_pay2 (F := Ideal) x0 x1 j = ∑ k : Fin 2048, x0 (ix2 k (j 0)) * x1 (ix2 k (j 1)) := by
  pointwise [k0_pay2, k0_pay1]

/-- which a later step adds to the accumulator. -/
theorem next (x0 : FVec Ideal S2048x1024 .bf16) (x1 : FVec Ideal S2048x768 .bf16) (acc : FVec Ideal S1024x768 .f32) (j : S1024x768.Idx) :
    k0_pay3 (F := Ideal) x0 x1 acc j = acc j + ∑ k : Fin 2048, x0 (ix2 k (j 0)) * x1 (ix2 k (j 1)) := by
  pointwise [k0_pay3, k0_pay1]

theorem last (acc : FVec Ideal S1024x768 .f32) (j : S1x1024x768.Idx) : k0_pay4 (F := Ideal) acc j = acc (ix2 (j 1) (j 2)) := by
  pointwise [k0_pay4]

/-- The blocks of the factors and of the result at every point. -/
theorem idx : ∀ t : Fin cfg0.N, win0_0.index t = ![t.val % 4, t.val / 32]
    ∧ win0_1.index t = ![t.val % 4, t.val / 4 % 8]
    ∧ win0_2.index t = ![t.val / 4 % 8 / 2, t.val / 32, t.val / 4 % 8 % 2] :=
  (by decide +kernel : ∀ t : Fin grid0.N, _)

/-- What the accumulator holds when a block is complete: the sum of its four parts. -/
theorem held (c : Dev nD) (t : Fin cfg0.N) (hf : t.val % 4 = 3) (j : S1024x768.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t hf s⟩) (ix2 k (j 0)) * (show FVec Ideal S2048x768 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => (0 : EReal))
    (fun p j => ∑ k : Fin 2048, (show FVec Ideal S2048x1024 .bf16 from iblk m c 0 p) (ix2 k (j 0)) * (show FVec Ideal S2048x768 .bf16 from iblk m c 1 p) (ix2 k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) (j : S1x1024x768.Idx) :
    (outsAt0 m c t.val t.isLt).1 j = (outsAt0 m c t.val t.isLt).2 (ix2 (j 1) (j 2)) := by
  rw [outsAt0_C m c t (by omega) (by omega) hf]; frame_out; rw [last]

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelQkvDwIdeal.Product

end

end
-- ==== Proof.InDwValue.lean ====
/- The gradient of the weight of the projection into the even layers' mixer. -/
module

public import proofs.«01_k».proof.Proof.Gen.KernelInDwIdeal.Value
public import proofs.«01_k».proof.Proof.Gen.ReferenceInDwIdeal.Run
public import Idealize.ShloMosaic.Lib.Pipeline.ValueKit

@[expose] public section

set_option maxRecDepth 16384

noncomputable section

namespace Cert.ReferenceInDwIdeal.Product

open Cert.ReferenceInDwIdeal Cert.ReferenceInDwIdeal.Gen
open Idealize.ShloMosaic Idealize.ShloMosaic.TcCoe

/-- The weight's gradient as the reference composes it, cut over the chips. -/
abbrev REF (X : FVec Ideal S8192x2048 .bf16) (D : FVec Ideal S8192x4096 .bf16) : FVec Ideal S4x2048x1024 .f32 :=
  transpose S4x2048x1024 [1, 0, 2] (shapeCast _ (transpose S2048x4096 [1, 0] (Host.dotGeneral dot_S8192x4096_S8192x2048_S4096x2048_0_0_1_1_n_n none (extf .f32 D bitsLt_bf16_f32) (extf .f32 X bitsLt_bf16_f32)) transposes_S4096x2048_S2048x4096_1_0) shapeCasts_S2048x4096_S2048x4x1024) transposes_S2048x4x1024_S4x2048x1024_1_0_2

theorem ref_apply (X : FVec Ideal S8192x2048 .bf16) (D : FVec Ideal S8192x4096 .bf16) (j : S4x2048x1024.Idx) :
    REF X D j = ∑ k : Fin 8192, X (ix2 k (j 1)) * D (ix2 k (⟨(j 0).val * 1024 + (j 2).val, by have h0 : (j 0).val < 4 := (j 0).isLt; have h2 : (j 2).val < 1024 := (j 2).isLt; omega⟩ : Fin 4096)) := by
  pointwise [REF]
  exact Finset.sum_congr rfl fun _ _ => mul_comm _ _

end Cert.ReferenceInDwIdeal.Product

namespace Cert.KernelInDwIdeal.Product

open Cert.KernelInDwIdeal Cert.KernelInDwIdeal.Gen
open Cert.ReferenceInDwIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S2048x1024 .bf16) (x1 : FVec Ideal S2048x1024 .bf16) (j : S1024x1024.Idx) :
    k0_pay2 (F := Ideal) x0 x1 j = ∑ k : Fin 2048, x0 (ix2 k (j 0)) * x1 (ix2 k (j 1)) := by
  pointwise [k0_pay2, k0_pay1]

/-- which a later step adds to the accumulator. -/
theorem next (x0 : FVec Ideal S2048x1024 .bf16) (x1 : FVec Ideal S2048x1024 .bf16) (acc : FVec Ideal S1024x1024 .f32) (j : S1024x1024.Idx) :
    k0_pay3 (F := Ideal) x0 x1 acc j = acc j + ∑ k : Fin 2048, x0 (ix2 k (j 0)) * x1 (ix2 k (j 1)) := by
  pointwise [k0_pay3, k0_pay1]

theorem last (acc : FVec Ideal S1024x1024 .f32) (j : S1x1024x1024.Idx) : k0_pay4 (F := Ideal) acc j = acc (ix2 (j 1) (j 2)) := by
  pointwise [k0_pay4]

/-- The blocks of the factors and of the result at every point. -/
theorem idx : ∀ t : Fin cfg0.N, win0_0.index t = ![t.val % 4, t.val / 16]
    ∧ win0_1.index t = ![t.val % 4, t.val / 4 % 4]
    ∧ win0_2.index t = ![t.val / 4 % 4, t.val / 16, 0] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t hf s⟩) (ix2 k (j 0)) * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => (0 : EReal))
    (fun p j => ∑ k : Fin 2048, (show FVec Ideal S2048x1024 .bf16 from iblk m c 0 p) (ix2 k (j 0)) * (show FVec Ideal S2048x1024 .bf16 from iblk m c 1 p) (ix2 k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) (j : S1x1024x1024.Idx) :
    (outsAt0 m c t.val t.isLt).1 j = (outsAt0 m c t.val t.isLt).2 (ix2 (j 1) (j 2)) := by
  rw [outsAt0_C m c t (by omega) (by omega) hf]; frame_out; rw [last]

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelInDwIdeal.Product

end

end
-- ==== Proof.OutDwValue.lean ====
/- The gradient of the weight of the projection out of a mixer. -/
module

public import proofs.«01_k».proof.Proof.Gen.KernelOutDwIdeal.Value
public import proofs.«01_k».proof.Proof.Gen.ReferenceOutDwIdeal.Run
public import Idealize.ShloMosaic.Lib.Pipeline.ValueKit

@[expose] public section

set_option maxRecDepth 16384

noncomputable section

namespace Cert.ReferenceOutDwIdeal.Product

open Cert.ReferenceOutDwIdeal Cert.ReferenceOutDwIdeal.Gen
open Idealize.ShloMosaic Idealize.ShloMosaic.TcCoe

/-- The weight's gradient as the reference composes it, cut over the chips. -/
abbrev REF (X : FVec Ideal S8192x2048 .bf16) (D : FVec Ideal S8192x2048 .bf16) : FVec Ideal S4x512x2048 .f32 :=
  shapeCast _ (transpose S2048x2048 [1, 0] (Host.dotGeneral dot_S8192x2048_S8192x2048_S2048x2048_0_0_1_1_n_n none (extf .f32 D bitsLt_bf16_f32) (extf .f32 X bitsLt_bf16_f32)) transposes_S2048x2048_S2048x2048_1_0) shapeCasts_S2048x2048_S4x512x2048

theorem ref_apply (X : FVec Ideal S8192x2048 .bf16) (D : FVec Ideal S8192x2048 .bf16) (j : S4x512x2048.Idx) :
    REF X D j = ∑ k : Fin 8192, X (ix2 k (⟨(j 0).val * 512 + (j 1).val, by have h0 : (j 0).val < 4 := (j 0).isLt; have h1 : (j 1).val < 512 := (j 1).isLt; omega⟩ : Fin 2048)) * D (ix2 k (j 2)) := by
  pointwise [REF]
  exact Finset.sum_congr rfl fun _ _ => mul_comm _ _

end Cert.ReferenceOutDwIdeal.Product

namespace Cert.KernelOutDwIdeal.Product

open Cert.KernelOutDwIdeal Cert.KernelOutDwIdeal.Gen
open Cert.ReferenceOutDwIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S2048x512 .bf16) (x1 : FVec Ideal S2048x1024 .bf16) (j : S512x1024.Idx) :
    k0_pay2 (F := Ideal) x0 x1 j = ∑ k : Fin 2048, x0 (ix2 k (j 0)) * x1 (ix2 k (j 1)) := by
  pointwise [k0_pay2, k0_pay1]

/-- which a later step adds to the accumulator. -/
theorem next (x0 : FVec Ideal S2048x512 .bf16) (x1 : FVec Ideal S2048x1024 .bf16) (acc : FVec Ideal S512x1024 .f32) (j : S512x1024.Idx) :
    k0_pay3 (F := Ideal) x0 x1 acc j = acc j + ∑ k : Fin 2048, x0 (ix2 k (j 0)) * x1 (ix2 k (j 1)) := by
  pointwise [k0_pay3, k0_pay1]

theorem last (acc : FVec Ideal S512x1024 .f32) (j : S1x512x1024.Idx) : k0_pay4 (F := Ideal) acc j = acc (ix2 (j 1) (j 2)) := by
  pointwise [k0_pay4]

/-- The blocks of the factors and of the result at every point. -/
theorem idx : ∀ t : Fin cfg0.N, win0_0.index t = ![t.val % 4, t.val / 8]
    ∧ win0_1.index t = ![t.val % 4, t.val / 4 % 2]
    ∧ win0_2.index t = ![t.val / 8, 0, t.val / 4 % 2] :=
  (by decide +kernel : ∀ t : Fin grid0.N, _)

/-- What the accumulator holds when a block is complete: the sum of its four parts. -/
theorem held (c : Dev nD) (t : Fin cfg0.N) (hf : t.val % 4 = 3) (j : S512x1024.Idx) :
    (outsAt0 m c t.val t.isLt).2 j = ∑ s : Fin 4, ∑ k : Fin 2048,
      (show FVec Ideal S2048x512 .bf16 from iblk m c 0 ⟨4 * (t.val / 4) + s.val, Pipeline.run_point_lt_of_flush t hf s⟩) (ix2 k (j 0)) * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => (0 : EReal))
    (fun p j => ∑ k : Fin 2048, (show FVec Ideal S2048x512 .bf16 from iblk m c 0 p) (ix2 k (j 0)) * (show FVec Ideal S2048x1024 .bf16 from iblk m c 1 p) (ix2 k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) (j : S1x512x1024.Idx) :
    (outsAt0 m c t.val t.isLt).1 j = (outsAt0 m c t.val t.isLt).2 (ix2 (j 1) (j 2)) := by
  rw [outsAt0_C m c t (by omega) (by omega) hf]; frame_out; rw [last]

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelOutDwIdeal.Product

end

end
-- ==== Proof.GateValue.lean ====
/- The gradients of the gate of the even layers' recurrence: of the product and of the gated value. -/
module

public import proofs.«01_k».proof.Proof.Gen.KernelGateIdeal.Value
public import proofs.«01_k».proof.Proof.Gen.ReferenceGateIdeal.Run
public import Idealize.ShloMosaic.Lib.Pipeline.ValueKit

@[expose] public section

set_option maxRecDepth 16384

noncomputable section

namespace Cert.ReferenceGateIdeal.Product

open Cert.ReferenceGateIdeal Cert.ReferenceGateIdeal.Gen
open Idealize.ShloMosaic Idealize.ShloMosaic.TcCoe

/-- The gradient of the product, from the gated value, the product and the gradient of the gate. -/
abbrev REF (Y Z D : FVec Ideal S8192x1024 .f32) : FVec Ideal S8192x1024 .bf16 :=
  truncf .bf16 (mulf (mulf Y D) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf Z)))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf Z))))))) bitsLt_bf16_f32

/-- The gradient of the gated value through the gate. -/
abbrev REFY (Z D : FVec Ideal S8192x1024 .f32) : FVec Ideal S8192x1024 .f32 :=
  mulf D (Host.divf (broadcastInDim S8192x1024 ![] bcast_S_S8192x1024 (constant S_ .f32 0x3F800000#32)) (addf (broadcastInDim S8192x1024 ![] bcast_S_S8192x1024 (constant S_ .f32 0x3F800000#32)) (Host.exp (Host.negf Z))))

theorem ref_apply (Y Z D : FVec Ideal S8192x1024 .f32) (j : S8192x1024.Idx) :
    REF Y Z D j = Y j * D j * (Ideal.div 1 (1 + Ideal.exp (-(Z j))) * (1 - Ideal.div 1 (1 + Ideal.exp (-(Z j))))) := by
  pointwise [REF]

theorem refy_apply (Z D : FVec Ideal S8192x1024 .f32) (j : S8192x1024.Idx) : REFY Z D j = D j * Ideal.div 1 (1 + Ideal.exp (-(Z j))) := by
  pointwise [REFY]

end Cert.ReferenceGateIdeal.Product

namespace Cert.KernelGateIdeal.Product

open Cert.KernelGateIdeal Cert.KernelGateIdeal.Gen
open Cert.ReferenceGateIdeal.Product (REF REFY ref_apply refy_apply)
open Idealize.ShloMosaic Idealize.ShloMosaic.TcCoe Idealize.SL.Sem
open Idealize.ShloMosaic.Pipeline (Dat)

variable (m : (ℓ : Loc nD τ sig) → Buf (Elt Ideal) ℓ)

/-- After the run the first result array is the gradient of the product. -/
theorem final (c : Dev nD) : (dats m 0 c).arrAt 3 cfg0.N = REF (m ((c : Thread nD τ).loc main_arg0)) (m ((c : Thread nD τ).loc main_arg1)) (m ((c : Thread nD τ).loc main_arg2)) := by
  rw [Value.final3]
  funext j
  rw [ref_apply]
  pointwise [Value.G3]
  rw [zero_sub]
  have h : ∀ a b e : EReal, a * b * e = b * a * e := fun a b e => by rw [mul_comm a b]
  exact h _ _ _

/-- And the second one that of the gated value. -/
theorem final_y (c : Dev nD) : (dats m 0 c).arrAt 4 cfg0.N = REFY (m ((c : Thread nD τ).loc main_arg1)) (m ((c : Thread nD τ).loc main_arg2)) := by
  rw [Value.final4]
  funext j
  rw [refy_apply]
  pointwise [Value.G4]
  rw [zero_sub]

end Cert.KernelGateIdeal.Product

end

end
-- ==== Proof.GluValue.lean ====
/- The product of the gate of the even layers' recurrence. -/
module

public import proofs.«01_k».proof.Proof.Gen.KernelGluIdeal.Value
public import proofs.«01_k».proof.Proof.Gen.ReferenceGluIdeal.Run
public import Idealize.ShloMosaic.Lib.Pipeline.ValueKit

@[expose] public section

set_option maxRecDepth 16384

noncomputable section

namespace Cert.ReferenceGluIdeal.Product

open Cert.ReferenceGluIdeal Cert.ReferenceGluIdeal.Gen
open Idealize.ShloMosaic Idealize.ShloMosaic.TcCoe

/-- The product as the reference composes it: the weight's row slices one below the other. -/
abbrev REF (X : FVec Ideal S8192x1024 .f32) (W : FVec Ideal S4x2x256x1024 .bf16) : FVec Ideal S8192x1024 .f32 :=
  Host.dotGeneral dot_S8192x1024_S1024x1024_S8192x1024_1_0_0_1_n_n none X (shapeCast _ (extf .f32 (shapeCast _ (extractStridedSlice S4x1x256x1024 ![0, 1, 0, 0] W slices_S4x2x256x1024_S4x1x256x1024_0_1_0_0) shapeCasts_S4x1x256x1024_S4x256x1024) bitsLt_bf16_f32) shapeCasts_S4x256x1024_S1024x1024)

theorem ref_apply (X : FVec Ideal S8192x1024 .f32) (W : FVec Ideal S4x2x256x1024 .bf16) (j : S8192x1024.Idx) :
    REF X W j = ∑ k : Fin 1024, X (ix2 (j 0) k) * W (ix4 (⟨k.val / 256, by omega⟩ : Fin 4) (1 : Fin 2) (⟨k.val % 256, by omega⟩ : Fin 256) (j 1)) := by
  pointwise [REF]

end Cert.ReferenceGluIdeal.Product

namespace Cert.KernelGluIdeal.Product

open Cert.KernelGluIdeal Cert.KernelGluIdeal.Gen
open Cert.ReferenceGluIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x256 .f32) (x1 : FVec Ideal S1x1x256x1024 .bf16) (j : S1024x1024.Idx) :
    k0_pay2 (F := Ideal) x0 x1 j = ∑ k : Fin 256, x0 (ix2 (j 0) k) * x1 (ix4 (0 : Fin 1) (0 : Fin 1) k (j 1)) := by
  pointwise [k0_pay2, k0_pay1]

/-- which a later step adds to the accumulator. -/
theorem next (x0 : FVec Ideal S1024x256 .f32) (x1 : FVec Ideal S1x1x256x1024 .bf16) (acc : FVec Ideal S1024x1024 .f32) (j : S1024x1024.Idx) :
    k0_pay3 (F := Ideal) x0 x1 acc j = acc j + ∑ k : Fin 256, x0 (ix2 (j 0) k) * x1 (ix4 (0 : Fin 1) (0 : Fin 1) k (j 1)) := by
  pointwise [k0_pay3, k0_pay1]

/-- The blocks of the factors and of the result at every point. -/
theorem idx : ∀ t : Fin cfg0.N, win0_0.index t = ![t.val / 4, t.val % 4]
    ∧ win0_1.index t = ![t.val % 4, 1, 0, 0]
    ∧ win0_2.index t = ![t.val / 4, 0] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 256,
      (show FVec Ideal S1024x256 .f32 from iblk m c 0 ⟨4 * (t.val / 4) + s.val, Pipeline.run_point_lt_of_flush t hf s⟩) (ix2 (j 0) k) * (show FVec Ideal S1x1x256x1024 .bf16 from iblk m c 1 ⟨4 * (t.val / 4) + s.val, Pipeline.run_point_lt_of_flush t hf s⟩) (ix4 (0 : Fin 1) (0 : Fin 1) k (j 1)) := by
  rw [Pipeline.eq_sum_fin_of_reset_step_apply_of_flush (fun n h => (outsAt0 m c n h).2) 4 (fun _ => (0 : EReal))
    (fun p j => ∑ k : Fin 256, (show FVec Ideal S1024x256 .f32 from iblk m c 0 p) (ix2 (j 0) k) * (show FVec Ideal S1x1x256x1024 .bf16 from iblk m c 1 p) (ix4 (0 : Fin 1) (0 : Fin 1) k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's product. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelGluIdeal.Product

end

end
-- ==== Proof.GluDxValue.lean ====
/- The gradient of the input of the gate's product. -/
module

public import proofs.«01_k».proof.Proof.Gen.KernelGluDxIdeal.Value
public import proofs.«01_k».proof.Proof.Gen.ReferenceGluDxIdeal.Run
public import Idealize.ShloMosaic.Lib.Pipeline.ValueKit

@[expose] public section

set_option maxRecDepth 16384

noncomputable section

namespace Cert.ReferenceGluDxIdeal.Product

open Cert.ReferenceGluDxIdeal Cert.ReferenceGluDxIdeal.Gen
open Idealize.ShloMosaic Idealize.ShloMosaic.TcCoe

/-- The gradient as the reference composes it: the weight's row slices one below the other. -/
abbrev REF (W : FVec Ideal S4x2x256x1024 .bf16) (D : FVec Ideal S8192x1024 .bf16) : FVec Ideal S8192x1024 .f32 :=
  Host.dotGeneral dot_S8192x1024_S1024x1024_S8192x1024_1_1_0_0_n_n none (extf .f32 D bitsLt_bf16_f32) (shapeCast _ (extf .f32 (shapeCast _ (extractStridedSlice S4x1x256x1024 ![0, 1, 0, 0] W slices_S4x2x256x1024_S4x1x256x1024_0_1_0_0) shapeCasts_S4x1x256x1024_S4x256x1024) bitsLt_bf16_f32) shapeCasts_S4x256x1024_S1024x1024)

theorem ref_apply (W : FVec Ideal S4x2x256x1024 .bf16) (D : FVec Ideal S8192x1024 .bf16) (j : S8192x1024.Idx) :
    REF W D j = ∑ k : Fin 1024, D (ix2 (j 0) k) * W (ix4 (⟨(j 1).val / 256, by have h1 : (j 1).val < 1024 := (j 1).isLt; omega⟩ : Fin 4) (1 : Fin 2) (⟨(j 1).val % 256, by omega⟩ : Fin 256) k) := by
  pointwise [REF]

end Cert.ReferenceGluDxIdeal.Product

namespace Cert.KernelGluDxIdeal.Product

open Cert.KernelGluDxIdeal Cert.KernelGluDxIdeal.Gen
open Cert.ReferenceGluDxIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x1024 .bf16) (x1 : FVec Ideal S1x1x256x1024 .bf16) (j : S1024x256.Idx) :
    k0_pay1 (F := Ideal) x0 x1 j = ∑ k : Fin 1024, x0 (ix2 (j 0) k) * x1 (ix4 (0 : Fin 1) (0 : Fin 1) (j 1) k) := by
  pointwise [k0_pay1]

/-- The blocks of the factors and of the result at every point. -/
theorem idx : ∀ t : Fin cfg0.N, win0_0.index t = ![t.val / 4, 0]
    ∧ win0_1.index t = ![t.val % 4, 1, 0, 0]
    ∧ win0_2.index t = ![t.val / 4, t.val % 4] :=
  (by decide +kernel : ∀ t : Fin grid0.N, _)

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

end Cert.KernelGluDxIdeal.Product

end

end
-- ==== Proof.GluDwValue.lean ====
/- The gradient of the weight of the gate's product. -/
module

public import proofs.«01_k».proof.Proof.Gen.KernelGluDwIdeal.Value
public import proofs.«01_k».proof.Proof.Gen.ReferenceGluDwIdeal.Run
public import Idealize.ShloMosaic.Lib.Pipeline.ValueKit

@[expose] public section

set_option maxRecDepth 16384

noncomputable section

namespace Cert.ReferenceGluDwIdeal.Product

open Cert.ReferenceGluDwIdeal Cert.ReferenceGluDwIdeal.Gen
open Idealize.ShloMosaic Idealize.ShloMosaic.TcCoe

/-- The weight's gradient as the reference composes it, cut over the chips. -/
abbrev REF (X : FVec Ideal S8192x1024 .f32) (D : FVec Ideal S8192x1024 .bf16) : FVec Ideal S4x256x1024 .f32 :=
  shapeCast _ (transpose S1024x1024 [1, 0] (Host.dotGeneral dot_S8192x1024_S8192x1024_S1024x1024_0_0_1_1_n_n none (extf .f32 D bitsLt_bf16_f32) X) transposes_S1024x1024_S1024x1024_1_0) shapeCasts_S1024x1024_S4x256x1024

theorem ref_apply (X : FVec Ideal S8192x1024 .f32) (D : FVec Ideal S8192x1024 .bf16) (j : S4x256x1024.Idx) :
    REF X D j = ∑ k : Fin 8192, X (ix2 k (⟨(j 0).val * 256 + (j 1).val, by have h0 : (j 0).val < 4 := (j 0).isLt; have h1 : (j 1).val < 256 := (j 1).isLt; omega⟩ : Fin 1024)) * D (ix2 k (j 2)) := by
  pointwise [REF]
  exact Finset.sum_congr rfl fun _ _ => mul_comm _ _

end Cert.ReferenceGluDwIdeal.Product

namespace Cert.KernelGluDwIdeal.Product

open Cert.KernelGluDwIdeal Cert.KernelGluDwIdeal.Gen
open Cert.ReferenceGluDwIdeal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S2048x256 .f32) (x1 : FVec Ideal S2048x1024 .bf16) (j : S256x1024.Idx) :
    k0_pay2 (F := Ideal) x0 x1 j = ∑ k : Fin 2048, x0 (ix2 k (j 0)) * x1 (ix2 k (j 1)) := by
  pointwise [k0_pay2, k0_pay1]

/-- which a later step adds to the accumulator. -/
theorem next (x0 : FVec Ideal S2048x256 .f32) (x1 : FVec Ideal S2048x1024 .bf16) (acc : FVec Ideal S256x1024 .f32) (j : S256x1024.Idx) :
    k0_pay3 (F := Ideal) x0 x1 acc j = acc j + ∑ k : Fin 2048, x0 (ix2 k (j 0)) * x1 (ix2 k (j 1)) := by
  pointwise [k0_pay3, k0_pay1]

theorem last (acc : FVec Ideal S256x1024 .f32) (j : S1x256x1024.Idx) : k0_pay4 (F := Ideal) acc j = acc (ix2 (j 1) (j 2)) := by
  pointwise [k0_pay4]

/-- The blocks of the factors and of the result at every point. -/
theorem idx : ∀ t : Fin cfg0.N, win0_0.index t = ![t.val % 4, t.val / 4]
    ∧ win0_1.index t = ![t.val % 4, 0]
    ∧ win0_2.index t = ![t.val / 4, 0, 0] :=
  (by decide +kernel : ∀ t : Fin grid0.N, _)

/-- What the accumulator holds when a block is complete: the sum of its four parts. -/
theorem held (c : Dev nD) (t : Fin cfg0.N) (hf : t.val % 4 = 3) (j : S256x1024.Idx) :
    (outsAt0 m c t.val t.isLt).2 j = ∑ s : Fin 4, ∑ k : Fin 2048,
      (show FVec Ideal S2048x256 .f32 from iblk m c 0 ⟨4 * (t.val / 4) + s.val, Pipeline.run_point_lt_of_flush t hf s⟩) (ix2 k (j 0)) * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => (0 : EReal))
    (fun p j => ∑ k : Fin 2048, (show FVec Ideal S2048x256 .f32 from iblk m c 0 p) (ix2 k (j 0)) * (show FVec Ideal S2048x1024 .bf16 from iblk m c 1 p) (ix2 k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) (j : S1x256x1024.Idx) :
    (outsAt0 m c t.val t.isLt).1 j = (outsAt0 m c t.val t.isLt).2 (ix2 (j 1) (j 2)) := by
  rw [outsAt0_C m c t (by omega) (by omega) hf]; frame_out; rw [last]

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelGluDwIdeal.Product

end

end
-- ==== Proof.Act0Value.lean ====
/- The gradient of the MLP's activation at layer 0, as at the last one. -/
module

public import proofs.«01_k».proof.Proof.Gen.KernelAct0Ideal.Value
public import proofs.«01_k».proof.Proof.Gen.ReferenceAct0Ideal.Run
public import Idealize.ShloMosaic.Lib.Pipeline.ValueKit

@[expose] public section

set_option maxRecDepth 16384

noncomputable section

namespace Cert.KernelAct0Ideal.Product

open Cert.KernelAct0Ideal Cert.KernelAct0Ideal.Gen
open Idealize.ShloMosaic Idealize.ShloMosaic.TcCoe Idealize.SL.Sem
open Idealize.ShloMosaic.Pipeline (Dat)

variable (m : (ℓ : Loc nD τ sig) → Buf (Elt Ideal) ℓ)

/-- The MLP's first product, over the layer's whole first weight. -/
abbrev PRE (X : FVec Ideal Cert.ReferenceAct0Ideal.S8192x2048 .bf16) (W : FVec Ideal Cert.ReferenceAct0Ideal.S4x4x2048x2048 .bf16) : FVec Ideal Cert.ReferenceAct0Ideal.S8192x8192 .f32 :=
  Host.dotGeneral Cert.ReferenceAct0Ideal.dot_S8192x2048_S2048x8192_S8192x8192_1_0_0_1_n_n none (extf .f32 X Cert.ReferenceAct0Ideal.Gen.bitsLt_bf16_f32)
    (shapeCast Cert.ReferenceAct0Ideal.S2048x8192 (transpose Cert.ReferenceAct0Ideal.S2048x4x2048 [1, 0, 2] (extf .f32 (shapeCast Cert.ReferenceAct0Ideal.S4x2048x2048
      (extractStridedSlice Cert.ReferenceAct0Ideal.S4x1x2048x2048 ![0, 0, 0, 0] W Cert.ReferenceAct0Ideal.Gen.slices_S4x4x2048x2048_S4x1x2048x2048_0_0_0_0)
      Cert.ReferenceAct0Ideal.Gen.shapeCasts_S4x1x2048x2048_S4x2048x2048) Cert.ReferenceAct0Ideal.Gen.bitsLt_bf16_f32)
      Cert.ReferenceAct0Ideal.Gen.transposes_S4x2048x2048_S2048x4x2048_1_0_2) Cert.ReferenceAct0Ideal.Gen.shapeCasts_S2048x4x2048_S2048x8192)

/-- The gradient of the activation's argument as the reference composes it. -/
abbrev REF (A : FVec Ideal Cert.ReferenceAct0Ideal.S8192x8192 .f32) (W : FVec Ideal Cert.ReferenceAct0Ideal.S4x4x2048x2048 .bf16) (D : FVec Ideal Cert.ReferenceAct0Ideal.S8192x2048 .bf16) :
    FVec Ideal Cert.ReferenceAct0Ideal.S8192x8192 .bf16 :=
  truncf .bf16 (select (cmpf .ogt A (broadcastInDim Cert.ReferenceAct0Ideal.S8192x8192 ![] Cert.ReferenceAct0Ideal.Gen.bcast_S_S8192x8192 (constant Cert.ReferenceAct0Ideal.S_ .f32 0x00000000#32)))
    (mulf (Host.dotGeneral Cert.ReferenceAct0Ideal.dot_S8192x2048_S8192x2048_S8192x8192_1_1_0_0_n_n none (extf .f32 D Cert.ReferenceAct0Ideal.Gen.bitsLt_bf16_f32)
        (shapeCast Cert.ReferenceAct0Ideal.S8192x2048 (extf .f32 (shapeCast Cert.ReferenceAct0Ideal.S4x2048x2048
          (extractStridedSlice Cert.ReferenceAct0Ideal.S4x1x2048x2048 ![0, 0, 0, 0] W Cert.ReferenceAct0Ideal.Gen.slices_S4x4x2048x2048_S4x1x2048x2048_0_0_0_0)
          Cert.ReferenceAct0Ideal.Gen.shapeCasts_S4x1x2048x2048_S4x2048x2048) Cert.ReferenceAct0Ideal.Gen.bitsLt_bf16_f32) Cert.ReferenceAct0Ideal.Gen.shapeCasts_S4x2048x2048_S8192x2048))
      (mulf (broadcastInDim Cert.ReferenceAct0Ideal.S8192x8192 ![] Cert.ReferenceAct0Ideal.Gen.bcast_S_S8192x8192 (constant Cert.ReferenceAct0Ideal.S_ .f32 0x40000000#32)) (maximumf A (broadcastInDim Cert.ReferenceAct0Ideal.S8192x8192 ![] Cert.ReferenceAct0Ideal.Gen.bcast_S_S8192x8192 (constant Cert.ReferenceAct0Ideal.S_ .f32 0x00000000#32)))))
    (broadcastInDim Cert.ReferenceAct0Ideal.S8192x8192 ![] Cert.ReferenceAct0Ideal.Gen.bcast_S_S8192x8192 (constant Cert.ReferenceAct0Ideal.S_ .f32 0x00000000#32))) Cert.ReferenceAct0Ideal.Gen.bitsLt_bf16_f32

/-- The body's result: the product with the weight's rows, times twice the positive part. -/
theorem body (x0 : FVec Ideal S1024x2048 .bf16) (x1 : FVec Ideal S1x1x1024x2048 .bf16) (a : FVec Ideal S1024x1024 .f32) (j : S1024x1024.Idx) :
    k0_pay1 (F := Ideal) x0 x1 a j = (∑ k : Fin 2048, x0 (ix2 (j 0) k) * x1 (ix4 (0 : Fin 1) (0 : Fin 1) (j 1) k)) * (Ideal.ofBits .f32 0x40000000#32 * max (a j) 0) := by
  pointwise [k0_pay1]

/-- The reference at an index. -/
theorem ref_apply (A : FVec Ideal S8192x8192 .f32) (W : FVec Ideal S4x4x2048x2048 .bf16) (D : FVec Ideal S8192x2048 .bf16) (j : S8192x8192.Idx) :
    REF A W D j = (∑ k : Fin 2048, D (ix2 (j 0) k) * W (ix4 (⟨(j 1).val / 2048, by have h : (j 1).val < 8192 := (j 1).isLt; omega⟩ : Fin 4) (0 : Fin 4) (⟨(j 1).val % 2048, by omega⟩ : Fin 2048) k)) * (Ideal.ofBits .f32 0x40000000#32 * max (A j) 0) := by
  pointwise [REF]
  by_cases h : 0 < A j
  · rw [if_pos h]
  · rw [if_neg h, max_eq_right (not_lt.mp h), mul_zero, mul_zero]

/-- The array of products that the region reads. -/
theorem host (c : Dev nD) : V m c main_v6 = PRE (m ((c : Thread nD τ).loc main_arg0)) (m ((c : Thread nD τ).loc main_arg1)) := by
  entry_read
  rfl

theorem idx : ∀ t : Fin cfg0.N, win0_0.index t = ![t.val / 8, 0] ∧ win0_1.index t = ![t.val % 8 / 2, 0, t.val % 8 % 2, 0]
    ∧ win0_2.index t = ![t.val / 8, t.val % 8] ∧ win0_3.index t = ![t.val / 8, t.val % 8] :=
  (by decide +kernel : ∀ t : Fin grid0.N, _)

theorem final (c : Dev nD) : (dats m 0 c).arrAt 3 cfg0.N
    = REF (PRE (m ((c : Thread nD τ).loc main_arg0)) (m ((c : Thread nD τ).loc main_arg1))) (m ((c : Thread nD τ).loc main_arg2)) (m ((c : Thread nD τ).loc main_arg3)) := by
  rw [← host]
  refine (dats m 0 c).arrAt_eq_of_covers 3 _ (by decide +kernel) fun t hf y => ?_
  blk_simp
  rw [after0_3]; unfold outsAt0; frame_out
  rw [body, ref_apply]
  blk_point [iblk, V_main_arg2, V_main_arg3, idx t]

end Cert.KernelAct0Ideal.Product

end
-- ==== Proof.Act1Value.lean ====
/- The gradient of the MLP's activation at layer 1, as at the last one. -/
module

public import proofs.«01_k».proof.Proof.Gen.KernelAct1Ideal.Value
public import proofs.«01_k».proof.Proof.Gen.ReferenceAct1Ideal.Run
public import Idealize.ShloMosaic.Lib.Pipeline.ValueKit

@[expose] public section

set_option maxRecDepth 16384

noncomputable section

namespace Cert.KernelAct1Ideal.Product

open Cert.KernelAct1Ideal Cert.KernelAct1Ideal.Gen
open Idealize.ShloMosaic Idealize.ShloMosaic.TcCoe Idealize.SL.Sem
open Idealize.ShloMosaic.Pipeline (Dat)

variable (m : (ℓ : Loc nD τ sig) → Buf (Elt Ideal) ℓ)

/-- The MLP's first product, over the layer's whole first weight. -/
abbrev PRE (X : FVec Ideal Cert.ReferenceAct1Ideal.S8192x2048 .bf16) (W : FVec Ideal Cert.ReferenceAct1Ideal.S4x4x2048x2048 .bf16) : FVec Ideal Cert.ReferenceAct1Ideal.S8192x8192 .f32 :=
  Host.dotGeneral Cert.ReferenceAct1Ideal.dot_S8192x2048_S2048x8192_S8192x8192_1_0_0_1_n_n none (extf .f32 X Cert.ReferenceAct1Ideal.Gen.bitsLt_bf16_f32)
    (shapeCast Cert.ReferenceAct1Ideal.S2048x8192 (transpose Cert.ReferenceAct1Ideal.S2048x4x2048 [1, 0, 2] (extf .f32 (shapeCast Cert.ReferenceAct1Ideal.S4x2048x2048
      (extractStridedSlice Cert.ReferenceAct1Ideal.S4x1x2048x2048 ![0, 1, 0, 0] W Cert.ReferenceAct1Ideal.Gen.slices_S4x4x2048x2048_S4x1x2048x2048_0_1_0_0)
      Cert.ReferenceAct1Ideal.Gen.shapeCasts_S4x1x2048x2048_S4x2048x2048) Cert.ReferenceAct1Ideal.Gen.bitsLt_bf16_f32)
      Cert.ReferenceAct1Ideal.Gen.transposes_S4x2048x2048_S2048x4x2048_1_0_2) Cert.ReferenceAct1Ideal.Gen.shapeCasts_S2048x4x2048_S2048x8192)

/-- The gradient of the activation's argument as the reference composes it. -/
abbrev REF (A : FVec Ideal Cert.ReferenceAct1Ideal.S8192x8192 .f32) (W : FVec Ideal Cert.ReferenceAct1Ideal.S4x4x2048x2048 .bf16) (D : FVec Ideal Cert.ReferenceAct1Ideal.S8192x2048 .bf16) :
    FVec Ideal Cert.ReferenceAct1Ideal.S8192x8192 .bf16 :=
  truncf .bf16 (select (cmpf .ogt A (broadcastInDim Cert.ReferenceAct1Ideal.S8192x8192 ![] Cert.ReferenceAct1Ideal.Gen.bcast_S_S8192x8192 (constant Cert.ReferenceAct1Ideal.S_ .f32 0x00000000#32)))
    (mulf (Host.dotGeneral Cert.ReferenceAct1Ideal.dot_S8192x2048_S8192x2048_S8192x8192_1_1_0_0_n_n none (extf .f32 D Cert.ReferenceAct1Ideal.Gen.bitsLt_bf16_f32)
        (shapeCast Cert.ReferenceAct1Ideal.S8192x2048 (extf .f32 (shapeCast Cert.ReferenceAct1Ideal.S4x2048x2048
          (extractStridedSlice Cert.ReferenceAct1Ideal.S4x1x2048x2048 ![0, 1, 0, 0] W Cert.ReferenceAct1Ideal.Gen.slices_S4x4x2048x2048_S4x1x2048x2048_0_1_0_0)
          Cert.ReferenceAct1Ideal.Gen.shapeCasts_S4x1x2048x2048_S4x2048x2048) Cert.ReferenceAct1Ideal.Gen.bitsLt_bf16_f32) Cert.ReferenceAct1Ideal.Gen.shapeCasts_S4x2048x2048_S8192x2048))
      (mulf (broadcastInDim Cert.ReferenceAct1Ideal.S8192x8192 ![] Cert.ReferenceAct1Ideal.Gen.bcast_S_S8192x8192 (constant Cert.ReferenceAct1Ideal.S_ .f32 0x40000000#32)) (maximumf A (broadcastInDim Cert.ReferenceAct1Ideal.S8192x8192 ![] Cert.ReferenceAct1Ideal.Gen.bcast_S_S8192x8192 (constant Cert.ReferenceAct1Ideal.S_ .f32 0x00000000#32)))))
    (broadcastInDim Cert.ReferenceAct1Ideal.S8192x8192 ![] Cert.ReferenceAct1Ideal.Gen.bcast_S_S8192x8192 (constant Cert.ReferenceAct1Ideal.S_ .f32 0x00000000#32))) Cert.ReferenceAct1Ideal.Gen.bitsLt_bf16_f32

/-- The body's result: the product with the weight's rows, times twice the positive part. -/
theorem body (x0 : FVec Ideal S1024x2048 .bf16) (x1 : FVec Ideal S1x1x1024x2048 .bf16) (a : FVec Ideal S1024x1024 .f32) (j : S1024x1024.Idx) :
    k0_pay1 (F := Ideal) x0 x1 a j = (∑ k : Fin 2048, x0 (ix2 (j 0) k) * x1 (ix4 (0 : Fin 1) (0 : Fin 1) (j 1) k)) * (Ideal.ofBits .f32 0x40000000#32 * max (a j) 0) := by
  pointwise [k0_pay1]

/-- The reference at an index. -/
theorem ref_apply (A : FVec Ideal S8192x8192 .f32) (W : FVec Ideal S4x4x2048x2048 .bf16) (D : FVec Ideal S8192x2048 .bf16) (j : S8192x8192.Idx) :
    REF A W D j = (∑ k : Fin 2048, D (ix2 (j 0) k) * W (ix4 (⟨(j 1).val / 2048, by have h : (j 1).val < 8192 := (j 1).isLt; omega⟩ : Fin 4) (1 : Fin 4) (⟨(j 1).val % 2048, by omega⟩ : Fin 2048) k)) * (Ideal.ofBits .f32 0x40000000#32 * max (A j) 0) := by
  pointwise [REF]
  by_cases h : 0 < A j
  · rw [if_pos h]
  · rw [if_neg h, max_eq_right (not_lt.mp h), mul_zero, mul_zero]

/-- The array of products that the region reads. -/
theorem host (c : Dev nD) : V m c main_v6 = PRE (m ((c : Thread nD τ).loc main_arg0)) (m ((c : Thread nD τ).loc main_arg1)) := by
  entry_read
  rfl

theorem idx : ∀ t : Fin cfg0.N, win0_0.index t = ![t.val / 8, 0] ∧ win0_1.index t = ![t.val % 8 / 2, 1, t.val % 8 % 2, 0]
    ∧ win0_2.index t = ![t.val / 8, t.val % 8] ∧ win0_3.index t = ![t.val / 8, t.val % 8] :=
  (by decide +kernel : ∀ t : Fin grid0.N, _)

theorem final (c : Dev nD) : (dats m 0 c).arrAt 3 cfg0.N
    = REF (PRE (m ((c : Thread nD τ).loc main_arg0)) (m ((c : Thread nD τ).loc main_arg1))) (m ((c : Thread nD τ).loc main_arg2)) (m ((c : Thread nD τ).loc main_arg3)) := by
  rw [← host]
  refine (dats m 0 c).arrAt_eq_of_covers 3 _ (by decide +kernel) fun t hf y => ?_
  blk_simp
  rw [after0_3]; unfold outsAt0; frame_out
  rw [body, ref_apply]
  blk_point [iblk, V_main_arg2, V_main_arg3, idx t]

end Cert.KernelAct1Ideal.Product

end
-- ==== Proof.Act2Value.lean ====
/- The gradient of the MLP's activation at layer 2, as at the last one. -/
module

public import proofs.«01_k».proof.Proof.Gen.KernelAct2Ideal.Value
public import proofs.«01_k».proof.Proof.Gen.ReferenceAct2Ideal.Run
public import Idealize.ShloMosaic.Lib.Pipeline.ValueKit

@[expose] public section

set_option maxRecDepth 16384

noncomputable section

namespace Cert.KernelAct2Ideal.Product

open Cert.KernelAct2Ideal Cert.KernelAct2Ideal.Gen
open Idealize.ShloMosaic Idealize.ShloMosaic.TcCoe Idealize.SL.Sem
open Idealize.ShloMosaic.Pipeline (Dat)

variable (m : (ℓ : Loc nD τ sig) → Buf (Elt Ideal) ℓ)

/-- The MLP's first product, over the layer's whole first weight. -/
abbrev PRE (X : FVec Ideal Cert.ReferenceAct2Ideal.S8192x2048 .bf16) (W : FVec Ideal Cert.ReferenceAct2Ideal.S4x4x2048x2048 .bf16) : FVec Ideal Cert.ReferenceAct2Ideal.S8192x8192 .f32 :=
  Host.dotGeneral Cert.ReferenceAct2Ideal.dot_S8192x2048_S2048x8192_S8192x8192_1_0_0_1_n_n none (extf .f32 X Cert.ReferenceAct2Ideal.Gen.bitsLt_bf16_f32)
    (shapeCast Cert.ReferenceAct2Ideal.S2048x8192 (transpose Cert.ReferenceAct2Ideal.S2048x4x2048 [1, 0, 2] (extf .f32 (shapeCast Cert.ReferenceAct2Ideal.S4x2048x2048
      (extractStridedSlice Cert.ReferenceAct2Ideal.S4x1x2048x2048 ![0, 2, 0, 0] W Cert.ReferenceAct2Ideal.Gen.slices_S4x4x2048x2048_S4x1x2048x2048_0_2_0_0)
      Cert.ReferenceAct2Ideal.Gen.shapeCasts_S4x1x2048x2048_S4x2048x2048) Cert.ReferenceAct2Ideal.Gen.bitsLt_bf16_f32)
      Cert.ReferenceAct2Ideal.Gen.transposes_S4x2048x2048_S2048x4x2048_1_0_2) Cert.ReferenceAct2Ideal.Gen.shapeCasts_S2048x4x2048_S2048x8192)

/-- The gradient of the activation's argument as the reference composes it. -/
abbrev REF (A : FVec Ideal Cert.ReferenceAct2Ideal.S8192x8192 .f32) (W : FVec Ideal Cert.ReferenceAct2Ideal.S4x4x2048x2048 .bf16) (D : FVec Ideal Cert.ReferenceAct2Ideal.S8192x2048 .bf16) :
    FVec Ideal Cert.ReferenceAct2Ideal.S8192x8192 .bf16 :=
  truncf .bf16 (select (cmpf .ogt A (broadcastInDim Cert.ReferenceAct2Ideal.S8192x8192 ![] Cert.ReferenceAct2Ideal.Gen.bcast_S_S8192x8192 (constant Cert.ReferenceAct2Ideal.S_ .f32 0x00000000#32)))
    (mulf (Host.dotGeneral Cert.ReferenceAct2Ideal.dot_S8192x2048_S8192x2048_S8192x8192_1_1_0_0_n_n none (extf .f32 D Cert.ReferenceAct2Ideal.Gen.bitsLt_bf16_f32)
        (shapeCast Cert.ReferenceAct2Ideal.S8192x2048 (extf .f32 (shapeCast Cert.ReferenceAct2Ideal.S4x2048x2048
          (extractStridedSlice Cert.ReferenceAct2Ideal.S4x1x2048x2048 ![0, 2, 0, 0] W Cert.ReferenceAct2Ideal.Gen.slices_S4x4x2048x2048_S4x1x2048x2048_0_2_0_0)
          Cert.ReferenceAct2Ideal.Gen.shapeCasts_S4x1x2048x2048_S4x2048x2048) Cert.ReferenceAct2Ideal.Gen.bitsLt_bf16_f32) Cert.ReferenceAct2Ideal.Gen.shapeCasts_S4x2048x2048_S8192x2048))
      (mulf (broadcastInDim Cert.ReferenceAct2Ideal.S8192x8192 ![] Cert.ReferenceAct2Ideal.Gen.bcast_S_S8192x8192 (constant Cert.ReferenceAct2Ideal.S_ .f32 0x40000000#32)) (maximumf A (broadcastInDim Cert.ReferenceAct2Ideal.S8192x8192 ![] Cert.ReferenceAct2Ideal.Gen.bcast_S_S8192x8192 (constant Cert.ReferenceAct2Ideal.S_ .f32 0x00000000#32)))))
    (broadcastInDim Cert.ReferenceAct2Ideal.S8192x8192 ![] Cert.ReferenceAct2Ideal.Gen.bcast_S_S8192x8192 (constant Cert.ReferenceAct2Ideal.S_ .f32 0x00000000#32))) Cert.ReferenceAct2Ideal.Gen.bitsLt_bf16_f32

/-- The body's result: the product with the weight's rows, times twice the positive part. -/
theorem body (x0 : FVec Ideal S1024x2048 .bf16) (x1 : FVec Ideal S1x1x1024x2048 .bf16) (a : FVec Ideal S1024x1024 .f32) (j : S1024x1024.Idx) :
    k0_pay1 (F := Ideal) x0 x1 a j = (∑ k : Fin 2048, x0 (ix2 (j 0) k) * x1 (ix4 (0 : Fin 1) (0 : Fin 1) (j 1) k)) * (Ideal.ofBits .f32 0x40000000#32 * max (a j) 0) := by
  pointwise [k0_pay1]

/-- The reference at an index. -/
theorem ref_apply (A : FVec Ideal S8192x8192 .f32) (W : FVec Ideal S4x4x2048x2048 .bf16) (D : FVec Ideal S8192x2048 .bf16) (j : S8192x8192.Idx) :
    REF A W D j = (∑ k : Fin 2048, D (ix2 (j 0) k) * W (ix4 (⟨(j 1).val / 2048, by have h : (j 1).val < 8192 := (j 1).isLt; omega⟩ : Fin 4) (2 : Fin 4) (⟨(j 1).val % 2048, by omega⟩ : Fin 2048) k)) * (Ideal.ofBits .f32 0x40000000#32 * max (A j) 0) := by
  pointwise [REF]
  by_cases h : 0 < A j
  · rw [if_pos h]
  · rw [if_neg h, max_eq_right (not_lt.mp h), mul_zero, mul_zero]

/-- The array of products that the region reads. -/
theorem host (c : Dev nD) : V m c main_v6 = PRE (m ((c : Thread nD τ).loc main_arg0)) (m ((c : Thread nD τ).loc main_arg1)) := by
  entry_read
  rfl

theorem idx : ∀ t : Fin cfg0.N, win0_0.index t = ![t.val / 8, 0] ∧ win0_1.index t = ![t.val % 8 / 2, 2, t.val % 8 % 2, 0]
    ∧ win0_2.index t = ![t.val / 8, t.val % 8] ∧ win0_3.index t = ![t.val / 8, t.val % 8] :=
  (by decide +kernel : ∀ t : Fin grid0.N, _)

theorem final (c : Dev nD) : (dats m 0 c).arrAt 3 cfg0.N
    = REF (PRE (m ((c : Thread nD τ).loc main_arg0)) (m ((c : Thread nD τ).loc main_arg1))) (m ((c : Thread nD τ).loc main_arg2)) (m ((c : Thread nD τ).loc main_arg3)) := by
  rw [← host]
  refine (dats m 0 c).arrAt_eq_of_covers 3 _ (by decide +kernel) fun t hf y => ?_
  blk_simp
  rw [after0_3]; unfold outsAt0; frame_out
  rw [body, ref_apply]
  blk_point [iblk, V_main_arg2, V_main_arg3, idx t]

end Cert.KernelAct2Ideal.Product

end
-- ==== Proof.Dxn0Value.lean ====
/- The gradient of the MLP's input at layer 0, as at the last one. -/
module

public import proofs.«01_k».proof.Proof.Gen.KernelDxn0Ideal.Value
public import proofs.«01_k».proof.Proof.Gen.ReferenceDxn0Ideal.Run
public import Idealize.ShloMosaic.Lib.Pipeline.ValueKit

@[expose] public section

set_option maxRecDepth 16384

noncomputable section

namespace Cert.ReferenceDxn0Ideal.Product

open Cert.ReferenceDxn0Ideal Cert.ReferenceDxn0Ideal.Gen
open Idealize.ShloMosaic Idealize.ShloMosaic.TcCoe

/-- The gradient as the reference composes it: the weight's column slices set side by side. -/
abbrev REF (W : FVec Ideal S4x4x2048x2048 .bf16) (D : FVec Ideal S8192x8192 .bf16) : FVec Ideal S8192x2048 .f32 :=
  Host.dotGeneral dot_S8192x8192_S2048x8192_S8192x2048_1_1_0_0_n_n none (extf .f32 D bitsLt_bf16_f32) (shapeCast _ (transpose S2048x4x2048 [1, 0, 2] (extf .f32 (shapeCast _ (extractStridedSlice S4x1x2048x2048 ![0, 0, 0, 0] W slices_S4x4x2048x2048_S4x1x2048x2048_0_0_0_0) shapeCasts_S4x1x2048x2048_S4x2048x2048) bitsLt_bf16_f32) transposes_S4x2048x2048_S2048x4x2048_1_0_2) shapeCasts_S2048x4x2048_S2048x8192)

theorem ref_apply (W : FVec Ideal S4x4x2048x2048 .bf16) (D : FVec Ideal S8192x8192 .bf16) (j : S8192x2048.Idx) :
    REF W D j = ∑ k : Fin 8192, D (ix2 (j 0) k) * W (ix4 (⟨k.val / 2048, by omega⟩ : Fin 4) (0 : Fin 4) (j 1) (⟨k.val % 2048, by omega⟩ : Fin 2048)) := by
  pointwise [REF]

end Cert.ReferenceDxn0Ideal.Product

namespace Cert.KernelDxn0Ideal.Product

open Cert.KernelDxn0Ideal Cert.KernelDxn0Ideal.Gen
open Cert.ReferenceDxn0Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x2048 .bf16) (x1 : FVec Ideal S1x1x1024x2048 .bf16) (j : S1024x1024.Idx) :
    k0_pay2 (F := Ideal) x0 x1 j = ∑ k : Fin 2048, x0 (ix2 (j 0) k) * x1 (ix4 (0 : Fin 1) (0 : Fin 1) (j 1) k) := by
  pointwise [k0_pay2, k0_pay1]

/-- which a later step adds to the accumulator. -/
theorem next (x0 : FVec Ideal S1024x2048 .bf16) (x1 : FVec Ideal S1x1x1024x2048 .bf16) (acc : FVec Ideal S1024x1024 .f32) (j : S1024x1024.Idx) :
    k0_pay3 (F := Ideal) x0 x1 acc j = acc j + ∑ k : Fin 2048, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S1024x2048 .bf16 from iblk m c 0 ⟨4 * (t.val / 4) + s.val, Pipeline.run_point_lt_of_flush t hf s⟩) (ix2 (j 0) k) * (show FVec Ideal S1x1x1024x2048 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 2048, (show FVec Ideal S1024x2048 .bf16 from iblk m c 0 p) (ix2 (j 0) k) * (show FVec Ideal S1x1x1024x2048 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelDxn0Ideal.Product

end

end
-- ==== Proof.Dxn1Value.lean ====
/- The gradient of the MLP's input at layer 1, as at the last one. -/
module

public import proofs.«01_k».proof.Proof.Gen.KernelDxn1Ideal.Value
public import proofs.«01_k».proof.Proof.Gen.ReferenceDxn1Ideal.Run
public import Idealize.ShloMosaic.Lib.Pipeline.ValueKit

@[expose] public section

set_option maxRecDepth 16384

noncomputable section

namespace Cert.ReferenceDxn1Ideal.Product

open Cert.ReferenceDxn1Ideal Cert.ReferenceDxn1Ideal.Gen
open Idealize.ShloMosaic Idealize.ShloMosaic.TcCoe

/-- The gradient as the reference composes it: the weight's column slices set side by side. -/
abbrev REF (W : FVec Ideal S4x4x2048x2048 .bf16) (D : FVec Ideal S8192x8192 .bf16) : FVec Ideal S8192x2048 .f32 :=
  Host.dotGeneral dot_S8192x8192_S2048x8192_S8192x2048_1_1_0_0_n_n none (extf .f32 D bitsLt_bf16_f32) (shapeCast _ (transpose S2048x4x2048 [1, 0, 2] (extf .f32 (shapeCast _ (extractStridedSlice S4x1x2048x2048 ![0, 1, 0, 0] W slices_S4x4x2048x2048_S4x1x2048x2048_0_1_0_0) shapeCasts_S4x1x2048x2048_S4x2048x2048) bitsLt_bf16_f32) transposes_S4x2048x2048_S2048x4x2048_1_0_2) shapeCasts_S2048x4x2048_S2048x8192)

theorem ref_apply (W : FVec Ideal S4x4x2048x2048 .bf16) (D : FVec Ideal S8192x8192 .bf16) (j : S8192x2048.Idx) :
    REF W D j = ∑ k : Fin 8192, D (ix2 (j 0) k) * W (ix4 (⟨k.val / 2048, by omega⟩ : Fin 4) (1 : Fin 4) (j 1) (⟨k.val % 2048, by omega⟩ : Fin 2048)) := by
  pointwise [REF]

end Cert.ReferenceDxn1Ideal.Product

namespace Cert.KernelDxn1Ideal.Product

open Cert.KernelDxn1Ideal Cert.KernelDxn1Ideal.Gen
open Cert.ReferenceDxn1Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x2048 .bf16) (x1 : FVec Ideal S1x1x1024x2048 .bf16) (j : S1024x1024.Idx) :
    k0_pay2 (F := Ideal) x0 x1 j = ∑ k : Fin 2048, x0 (ix2 (j 0) k) * x1 (ix4 (0 : Fin 1) (0 : Fin 1) (j 1) k) := by
  pointwise [k0_pay2, k0_pay1]

/-- which a later step adds to the accumulator. -/
theorem next (x0 : FVec Ideal S1024x2048 .bf16) (x1 : FVec Ideal S1x1x1024x2048 .bf16) (acc : FVec Ideal S1024x1024 .f32) (j : S1024x1024.Idx) :
    k0_pay3 (F := Ideal) x0 x1 acc j = acc j + ∑ k : Fin 2048, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 1, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S1024x2048 .bf16 from iblk m c 0 ⟨4 * (t.val / 4) + s.val, Pipeline.run_point_lt_of_flush t hf s⟩) (ix2 (j 0) k) * (show FVec Ideal S1x1x1024x2048 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 2048, (show FVec Ideal S1024x2048 .bf16 from iblk m c 0 p) (ix2 (j 0) k) * (show FVec Ideal S1x1x1024x2048 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelDxn1Ideal.Product

end

end
-- ==== Proof.Dxn2Value.lean ====
/- The gradient of the MLP's input at layer 2, as at the last one. -/
module

public import proofs.«01_k».proof.Proof.Gen.KernelDxn2Ideal.Value
public import proofs.«01_k».proof.Proof.Gen.ReferenceDxn2Ideal.Run
public import Idealize.ShloMosaic.Lib.Pipeline.ValueKit

@[expose] public section

set_option maxRecDepth 16384

noncomputable section

namespace Cert.ReferenceDxn2Ideal.Product

open Cert.ReferenceDxn2Ideal Cert.ReferenceDxn2Ideal.Gen
open Idealize.ShloMosaic Idealize.ShloMosaic.TcCoe

/-- The gradient as the reference composes it: the weight's column slices set side by side. -/
abbrev REF (W : FVec Ideal S4x4x2048x2048 .bf16) (D : FVec Ideal S8192x8192 .bf16) : FVec Ideal S8192x2048 .f32 :=
  Host.dotGeneral dot_S8192x8192_S2048x8192_S8192x2048_1_1_0_0_n_n none (extf .f32 D bitsLt_bf16_f32) (shapeCast _ (transpose S2048x4x2048 [1, 0, 2] (extf .f32 (shapeCast _ (extractStridedSlice S4x1x2048x2048 ![0, 2, 0, 0] W slices_S4x4x2048x2048_S4x1x2048x2048_0_2_0_0) shapeCasts_S4x1x2048x2048_S4x2048x2048) bitsLt_bf16_f32) transposes_S4x2048x2048_S2048x4x2048_1_0_2) shapeCasts_S2048x4x2048_S2048x8192)

theorem ref_apply (W : FVec Ideal S4x4x2048x2048 .bf16) (D : FVec Ideal S8192x8192 .bf16) (j : S8192x2048.Idx) :
    REF W D j = ∑ k : Fin 8192, D (ix2 (j 0) k) * W (ix4 (⟨k.val / 2048, by omega⟩ : Fin 4) (2 : Fin 4) (j 1) (⟨k.val % 2048, by omega⟩ : Fin 2048)) := by
  pointwise [REF]

end Cert.ReferenceDxn2Ideal.Product

namespace Cert.KernelDxn2Ideal.Product

open Cert.KernelDxn2Ideal Cert.KernelDxn2Ideal.Gen
open Cert.ReferenceDxn2Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x2048 .bf16) (x1 : FVec Ideal S1x1x1024x2048 .bf16) (j : S1024x1024.Idx) :
    k0_pay2 (F := Ideal) x0 x1 j = ∑ k : Fin 2048, x0 (ix2 (j 0) k) * x1 (ix4 (0 : Fin 1) (0 : Fin 1) (j 1) k) := by
  pointwise [k0_pay2, k0_pay1]

/-- which a later step adds to the accumulator. -/
theorem next (x0 : FVec Ideal S1024x2048 .bf16) (x1 : FVec Ideal S1x1x1024x2048 .bf16) (acc : FVec Ideal S1024x1024 .f32) (j : S1024x1024.Idx) :
    k0_pay3 (F := Ideal) x0 x1 acc j = acc j + ∑ k : Fin 2048, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 2, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S1024x2048 .bf16 from iblk m c 0 ⟨4 * (t.val / 4) + s.val, Pipeline.run_point_lt_of_flush t hf s⟩) (ix2 (j 0) k) * (show FVec Ideal S1x1x1024x2048 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 2048, (show FVec Ideal S1024x2048 .bf16 from iblk m c 0 p) (ix2 (j 0) k) * (show FVec Ideal S1x1x1024x2048 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelDxn2Ideal.Product

end

end
-- ==== Proof.Qkv0Value.lean ====
/- The projection to queries, keys and values at the first of its layers. -/
module

public import proofs.«01_k».proof.Proof.Gen.KernelQkv0Ideal.Value
public import proofs.«01_k».proof.Proof.Gen.ReferenceQkv0Ideal.Run
public import Idealize.ShloMosaic.Lib.Pipeline.ValueKit

@[expose] public section

set_option maxRecDepth 16384

noncomputable section

namespace Cert.ReferenceQkv0Ideal.Product

open Cert.ReferenceQkv0Ideal Cert.ReferenceQkv0Ideal.Gen
open Idealize.ShloMosaic Idealize.ShloMosaic.TcCoe

/-- The product as the reference composes it: the weight's column slices set side by side. -/
abbrev REF (X : FVec Ideal S8192x2048 .bf16) (W : FVec Ideal S4x2x2048x1536 .bf16) : FVec Ideal S8192x6144 .bf16 :=
  truncf .bf16 (Host.dotGeneral dot_S8192x2048_S2048x6144_S8192x6144_1_0_0_1_n_n none (extf .f32 X bitsLt_bf16_f32) (shapeCast _ (transpose S2048x4x1536 [1, 0, 2] (extf .f32 (shapeCast _ (extractStridedSlice S4x1x2048x1536 ![0, 0, 0, 0] W slices_S4x2x2048x1536_S4x1x2048x1536_0_0_0_0) shapeCasts_S4x1x2048x1536_S4x2048x1536) bitsLt_bf16_f32) transposes_S4x2048x1536_S2048x4x1536_1_0_2) shapeCasts_S2048x4x1536_S2048x6144)) bitsLt_bf16_f32

theorem ref_apply (X : FVec Ideal S8192x2048 .bf16) (W : FVec Ideal S4x2x2048x1536 .bf16) (j : S8192x6144.Idx) :
    REF X W j = ∑ k : Fin 2048, X (ix2 (j 0) k) * W (ix4 (⟨(j 1).val / 1536, by have h1 : (j 1).val < 6144 := (j 1).isLt; omega⟩ : Fin 4) (0 : Fin 2) k (⟨(j 1).val % 1536, by omega⟩ : Fin 1536)) := by
  pointwise [REF]

end Cert.ReferenceQkv0Ideal.Product

namespace Cert.KernelQkv0Ideal.Product

open Cert.KernelQkv0Ideal Cert.KernelQkv0Ideal.Gen
open Cert.ReferenceQkv0Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x2048 .bf16) (x1 : FVec Ideal S1x1x2048x768 .bf16) (j : S1024x768.Idx) :
    k0_pay1 (F := Ideal) x0 x1 j = ∑ k : Fin 2048, x0 (ix2 (j 0) k) * x1 (ix4 (0 : Fin 1) (0 : Fin 1) k (j 1)) := by
  pointwise [k0_pay1]

/-- The blocks of the factors and of the result at every point. -/
theorem idx : ∀ t : Fin cfg0.N, win0_0.index t = ![t.val / 8, 0]
    ∧ win0_1.index t = ![t.val % 8 / 2, 0, 0, t.val % 8 % 2]
    ∧ win0_2.index t = ![t.val / 8, t.val % 8] :=
  (by decide +kernel : ∀ t : Fin grid0.N, _)

/-- After the run the result array is the reference's product. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

end Cert.KernelQkv0Ideal.Product

end

end
-- ==== Proof.Out0Value.lean ====
/- The projection out of the first layer's neighbourhood attention, added to the residual. -/
module

public import proofs.«01_k».proof.Proof.Gen.KernelOut0Ideal.Value
public import proofs.«01_k».proof.Proof.Gen.ReferenceOut0Ideal.Run
public import Idealize.ShloMosaic.Lib.Pipeline.ValueKit

@[expose] public section

set_option maxRecDepth 16384

noncomputable section

namespace Cert.ReferenceOut0Ideal.Product

open Cert.ReferenceOut0Ideal Cert.ReferenceOut0Ideal.Gen
open Idealize.ShloMosaic Idealize.ShloMosaic.TcCoe

/-- The residual and the product as the reference composes them: the weight's row slices one below the other. -/
abbrev REF (H : FVec Ideal S8192x2048 .bf16) (W : FVec Ideal S4x2x512x2048 .bf16) (X : FVec Ideal S8192x2048 .f32) : FVec Ideal S8192x2048 .f32 :=
  addf X (Host.dotGeneral dot_S8192x2048_S2048x2048_S8192x2048_1_0_0_1_n_n none (extf .f32 H bitsLt_bf16_f32) (shapeCast _ (extf .f32 (shapeCast _ (extractStridedSlice S4x1x512x2048 ![0, 0, 0, 0] W slices_S4x2x512x2048_S4x1x512x2048_0_0_0_0) shapeCasts_S4x1x512x2048_S4x512x2048) bitsLt_bf16_f32) shapeCasts_S4x512x2048_S2048x2048))

theorem ref_apply (H : FVec Ideal S8192x2048 .bf16) (W : FVec Ideal S4x2x512x2048 .bf16) (X : FVec Ideal S8192x2048 .f32) (j : S8192x2048.Idx) :
    REF H W X j = X j + ∑ k : Fin 2048, H (ix2 (j 0) k) * W (ix4 (⟨k.val / 512, by omega⟩ : Fin 4) (0 : Fin 2) (⟨k.val % 512, by omega⟩ : Fin 512) (j 1)) := by
  pointwise [REF]

end Cert.ReferenceOut0Ideal.Product

namespace Cert.KernelOut0Ideal.Product

open Cert.KernelOut0Ideal Cert.KernelOut0Ideal.Gen
open Cert.ReferenceOut0Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x512 .bf16) (x1 : FVec Ideal S1x1x512x1024 .bf16) (j : S1024x1024.Idx) :
    k0_pay2 (F := Ideal) x0 x1 j = ∑ k : Fin 512, x0 (ix2 (j 0) k) * x1 (ix4 (0 : Fin 1) (0 : Fin 1) k (j 1)) := by
  pointwise [k0_pay2, k0_pay1]

/-- which a later step adds to the accumulator. -/
theorem next (x0 : FVec Ideal S1024x512 .bf16) (x1 : FVec Ideal S1x1x512x1024 .bf16) (acc : FVec Ideal S1024x1024 .f32) (j : S1024x1024.Idx) :
    k0_pay3 (F := Ideal) x0 x1 acc j = acc j + ∑ k : Fin 512, x0 (ix2 (j 0) k) * x1 (ix4 (0 : Fin 1) (0 : Fin 1) k (j 1)) := by
  pointwise [k0_pay3, k0_pay1]

/-- The last step adds the residual. -/
theorem last (acc x : FVec Ideal S1024x1024 .f32) (j : S1024x1024.Idx) : k0_pay4 (F := Ideal) acc x j = x j + acc j := by
  pointwise [k0_pay4]

/-- The blocks of the factors and of the result at every point. -/
theorem idx : ∀ t : Fin cfg0.N, win0_0.index t = ![t.val / 8, t.val % 4]
    ∧ win0_1.index t = ![t.val % 4, 0, 0, t.val / 4 % 2]
    ∧ win0_2.index t = ![t.val / 8, t.val / 4 % 2]
    ∧ win0_3.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 512,
      (show FVec Ideal S1024x512 .bf16 from iblk m c 0 ⟨4 * (t.val / 4) + s.val, Pipeline.run_point_lt_of_flush t hf s⟩) (ix2 (j 0) k) * (show FVec Ideal S1x1x512x1024 .bf16 from iblk m c 1 ⟨4 * (t.val / 4) + s.val, Pipeline.run_point_lt_of_flush t hf s⟩) (ix4 (0 : Fin 1) (0 : Fin 1) k (j 1)) := by
  rw [Pipeline.eq_sum_fin_of_reset_step_apply_of_flush (fun n h => (outsAt0 m c n h).2) 4 (fun _ => (0 : EReal))
    (fun p j => ∑ k : Fin 512, (show FVec Ideal S1024x512 .bf16 from iblk m c 0 p) (ix2 (j 0) k) * (show FVec Ideal S1x1x512x1024 .bf16 from iblk m c 1 p) (ix4 (0 : Fin 1) (0 : Fin 1) k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores the residual and what the accumulator then holds. -/
theorem stored (c : Dev nD) (t : Fin cfg0.N) (hf : t.val % 4 = 3) (j : S1024x1024.Idx) :
    (outsAt0 m c t.val t.isLt).1 j = (show FVec Ideal S1024x1024 .f32 from iblk m c 2 t) j + (outsAt0 m c t.val t.isLt).2 j := by
  rw [outsAt0_C m c t (by omega) (by omega) hf]; frame_out; rw [last]

/-- After the run the result array is the reference's. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hf' := (flush0_3 t).mp hf
  blk_simp
  rw [after0_3, stored m c t hf', held m c t hf', ref_apply]
  refine congrArg₂ (fun a b : EReal => a + b) ?_ (Fin.sum_mul_add_congr fun s k hl => ?_)
  · blk_point [iblk, V, idx t]
  · blk_point [iblk, V, idx t, idx ⟨_, Pipeline.run_point_lt_of_flush t hf' s⟩]

end Cert.KernelOut0Ideal.Product

end

end
-- ==== Proof.QkvDx0Value.lean ====
/- The gradient of the input of the first projection to queries, keys and values. -/
module

public import proofs.«01_k».proof.Proof.Gen.KernelQkvDx0Ideal.Value
public import proofs.«01_k».proof.Proof.Gen.ReferenceQkvDx0Ideal.Run
public import Idealize.ShloMosaic.Lib.Pipeline.ValueKit

@[expose] public section

set_option maxRecDepth 16384

noncomputable section

namespace Cert.ReferenceQkvDx0Ideal.Product

open Cert.ReferenceQkvDx0Ideal Cert.ReferenceQkvDx0Ideal.Gen
open Idealize.ShloMosaic Idealize.ShloMosaic.TcCoe

/-- The gradient as the reference composes it: the weight's column slices set side by side. -/
abbrev REF (W : FVec Ideal S4x2x2048x1536 .bf16) (D : FVec Ideal S8192x6144 .bf16) : FVec Ideal S8192x2048 .f32 :=
  Host.dotGeneral dot_S8192x6144_S2048x6144_S8192x2048_1_1_0_0_n_n none (extf .f32 D bitsLt_bf16_f32) (shapeCast _ (transpose S2048x4x1536 [1, 0, 2] (extf .f32 (shapeCast _ (extractStridedSlice S4x1x2048x1536 ![0, 0, 0, 0] W slices_S4x2x2048x1536_S4x1x2048x1536_0_0_0_0) shapeCasts_S4x1x2048x1536_S4x2048x1536) bitsLt_bf16_f32) transposes_S4x2048x1536_S2048x4x1536_1_0_2) shapeCasts_S2048x4x1536_S2048x6144)

theorem ref_apply (W : FVec Ideal S4x2x2048x1536 .bf16) (D : FVec Ideal S8192x6144 .bf16) (j : S8192x2048.Idx) :
    REF W D j = ∑ k : Fin 6144, D (ix2 (j 0) k) * W (ix4 (⟨k.val / 1536, by omega⟩ : Fin 4) (0 : Fin 2) (j 1) (⟨k.val % 1536, by omega⟩ : Fin 1536)) := by
  pointwise [REF]

end Cert.ReferenceQkvDx0Ideal.Product

namespace Cert.KernelQkvDx0Ideal.Product

open Cert.KernelQkvDx0Ideal Cert.KernelQkvDx0Ideal.Gen
open Cert.ReferenceQkvDx0Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x1536 .bf16) (x1 : FVec Ideal S1x1x1024x1536 .bf16) (j : S1024x1024.Idx) :
    k0_pay2 (F := Ideal) x0 x1 j = ∑ k : Fin 1536, x0 (ix2 (j 0) k) * x1 (ix4 (0 : Fin 1) (0 : Fin 1) (j 1) k) := by
  pointwise [k0_pay2, k0_pay1]

/-- which a later step adds to the accumulator. -/
theorem next (x0 : FVec Ideal S1024x1536 .bf16) (x1 : FVec Ideal S1x1x1024x1536 .bf16) (acc : FVec Ideal S1024x1024 .f32) (j : S1024x1024.Idx) :
    k0_pay3 (F := Ideal) x0 x1 acc j = acc j + ∑ k : Fin 1536, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 1536,
      (show FVec Ideal S1024x1536 .bf16 from iblk m c 0 ⟨4 * (t.val / 4) + s.val, Pipeline.run_point_lt_of_flush t hf s⟩) (ix2 (j 0) k) * (show FVec Ideal S1x1x1024x1536 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 1536, (show FVec Ideal S1024x1536 .bf16 from iblk m c 0 p) (ix2 (j 0) k) * (show FVec Ideal S1x1x1024x1536 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelQkvDx0Ideal.Product

end

end
-- ==== Proof.InDx0Value.lean ====
/- The gradient of the input of the first projection into the even layers' mixer. -/
module

public import proofs.«01_k».proof.Proof.Gen.KernelInDx0Ideal.Value
public import proofs.«01_k».proof.Proof.Gen.ReferenceInDx0Ideal.Run
public import Idealize.ShloMosaic.Lib.Pipeline.ValueKit

@[expose] public section

set_option maxRecDepth 16384

noncomputable section

namespace Cert.ReferenceInDx0Ideal.Product

open Cert.ReferenceInDx0Ideal Cert.ReferenceInDx0Ideal.Gen
open Idealize.ShloMosaic Idealize.ShloMosaic.TcCoe

/-- The gradient as the reference composes it: the weight's column slices set side by side. -/
abbrev REF (W : FVec Ideal S4x2x2048x1024 .bf16) (D : FVec Ideal S8192x4096 .bf16) : FVec Ideal S8192x2048 .f32 :=
  Host.dotGeneral dot_S8192x4096_S2048x4096_S8192x2048_1_1_0_0_n_n none (extf .f32 D bitsLt_bf16_f32) (shapeCast _ (transpose S2048x4x1024 [1, 0, 2] (extf .f32 (shapeCast _ (extractStridedSlice S4x1x2048x1024 ![0, 0, 0, 0] W slices_S4x2x2048x1024_S4x1x2048x1024_0_0_0_0) shapeCasts_S4x1x2048x1024_S4x2048x1024) bitsLt_bf16_f32) transposes_S4x2048x1024_S2048x4x1024_1_0_2) shapeCasts_S2048x4x1024_S2048x4096)

theorem ref_apply (W : FVec Ideal S4x2x2048x1024 .bf16) (D : FVec Ideal S8192x4096 .bf16) (j : S8192x2048.Idx) :
    REF W D j = ∑ k : Fin 4096, D (ix2 (j 0) k) * W (ix4 (⟨k.val / 1024, by omega⟩ : Fin 4) (0 : Fin 2) (j 1) (⟨k.val % 1024, by omega⟩ : Fin 1024)) := by
  pointwise [REF]

end Cert.ReferenceInDx0Ideal.Product

namespace Cert.KernelInDx0Ideal.Product

open Cert.KernelInDx0Ideal Cert.KernelInDx0Ideal.Gen
open Cert.ReferenceInDx0Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The first step's product, -/
theorem first (x0 : FVec Ideal S1024x1024 .bf16) (x1 : FVec Ideal S1x1x1024x1024 .bf16) (j : S1024x1024.Idx) :
    k0_pay2 (F := Ideal) x0 x1 j = ∑ k : Fin 1024, x0 (ix2 (j 0) k) * x1 (ix4 (0 : Fin 1) (0 : Fin 1) (j 1) k) := by
  pointwise [k0_pay2, k0_pay1]

/-- which a later step adds to the accumulator. -/
theorem next (x0 : FVec Ideal S1024x1024 .bf16) (x1 : FVec Ideal S1x1x1024x1024 .bf16) (acc : FVec Ideal S1024x1024 .f32) (j : S1024x1024.Idx) :
    k0_pay3 (F := Ideal) x0 x1 acc j = acc j + ∑ k : Fin 1024, x0 (ix2 (j 0) k) * x1 (ix4 (0 : Fin 1) (0 : Fin 1) (j 1) k) := by
  pointwise [k0_pay3, k0_pay1]

/-- The blocks of the factors and of the result at every point. -/
theorem idx : ∀ t : Fin cfg0.N, win0_0.index t = ![t.val / 8, t.val % 4]
    ∧ win0_1.index t = ![t.val % 4, 0, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 1024,
      (show FVec Ideal S1024x1024 .bf16 from iblk m c 0 ⟨4 * (t.val / 4) + s.val, Pipeline.run_point_lt_of_flush t hf s⟩) (ix2 (j 0) k) * (show FVec Ideal S1x1x1024x1024 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 1024, (show FVec Ideal S1024x1024 .bf16 from iblk m c 0 p) (ix2 (j 0) k) * (show FVec Ideal S1x1x1024x1024 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelInDx0Ideal.Product

end

end
-- ==== Proof.OutDx0Value.lean ====
/- The gradient of the input of the first projection out of a mixer. -/
module

public import proofs.«01_k».proof.Proof.Gen.KernelOutDx0Ideal.Value
public import proofs.«01_k».proof.Proof.Gen.ReferenceOutDx0Ideal.Run
public import Idealize.ShloMosaic.Lib.Pipeline.ValueKit

@[expose] public section

set_option maxRecDepth 16384

noncomputable section

namespace Cert.ReferenceOutDx0Ideal.Product

open Cert.ReferenceOutDx0Ideal Cert.ReferenceOutDx0Ideal.Gen
open Idealize.ShloMosaic Idealize.ShloMosaic.TcCoe

/-- The gradient as the reference composes it: the weight's row slices one below the other. -/
abbrev REF (W : FVec Ideal S4x2x512x2048 .bf16) (D : FVec Ideal S8192x2048 .bf16) : FVec Ideal S8192x2048 .f32 :=
  Host.dotGeneral dot_S8192x2048_S2048x2048_S8192x2048_1_1_0_0_n_n none (extf .f32 D bitsLt_bf16_f32) (shapeCast _ (extf .f32 (shapeCast _ (extractStridedSlice S4x1x512x2048 ![0, 0, 0, 0] W slices_S4x2x512x2048_S4x1x512x2048_0_0_0_0) shapeCasts_S4x1x512x2048_S4x512x2048) bitsLt_bf16_f32) shapeCasts_S4x512x2048_S2048x2048)

theorem ref_apply (W : FVec Ideal S4x2x512x2048 .bf16) (D : FVec Ideal S8192x2048 .bf16) (j : S8192x2048.Idx) :
    REF W D j = ∑ k : Fin 2048, D (ix2 (j 0) k) * W (ix4 (⟨(j 1).val / 512, by have h1 : (j 1).val < 2048 := (j 1).isLt; omega⟩ : Fin 4) (0 : Fin 2) (⟨(j 1).val % 512, by omega⟩ : Fin 512) k) := by
  pointwise [REF]

end Cert.ReferenceOutDx0Ideal.Product

namespace Cert.KernelOutDx0Ideal.Product

open Cert.KernelOutDx0Ideal Cert.KernelOutDx0Ideal.Gen
open Cert.ReferenceOutDx0Ideal.Product (REF ref_apply)
open Idealize.ShloMosaic Idealize.ShloMosaic.TcCoe Idealize.SL.Sem
open Idealize.ShloMosaic.Pipeline (Dat)

variable (m : (ℓ : Loc nD τ sig) → Buf (Elt Ideal) ℓ)

/-- The body's product. -/
theorem body (x0 : FVec Ideal S1024x2048 .bf16) (x1 : FVec Ideal S1x1x512x2048 .bf16) (j : S1024x512.Idx) :
    k0_pay1 (F := Ideal) x0 x1 j = ∑ k : Fin 2048, x0 (ix2 (j 0) k) * x1 (ix4 (0 : Fin 1) (0 : Fin 1) (j 1) k) := by
  pointwise [k0_pay1]

/-- The blocks of the factors and of the result at every point. -/
theorem idx : ∀ t : Fin cfg0.N, win0_0.index t = ![t.val / 4, 0]
    ∧ win0_1.index t = ![t.val % 4, 0, 0, 0]
    ∧ win0_2.index t = ![t.val / 4, t.val % 4] :=
  (by decide +kernel : ∀ t : Fin grid0.N, _)

/-- After the run the result array is the reference's gradient. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [body, ref_apply]
  blk_point [iblk, V, idx t]

end Cert.KernelOutDx0Ideal.Product

end

end
-- ==== Proof.Dw2Value.lean ====
module

public import proofs.«01_k».proof.Proof.Gen.KernelDw2Ideal.Value
public import proofs.«01_k».proof.Proof.Gen.ReferenceDw2Ideal.Run
public import Idealize.ShloMosaic.Lib.Pipeline.ValueKit

@[expose] public section

set_option maxRecDepth 16384

noncomputable section

namespace Cert.KernelDw2Ideal.Product

open Cert.KernelDw2Ideal Cert.KernelDw2Ideal.Gen
open Idealize.ShloMosaic Idealize.ShloMosaic.TcCoe Idealize.SL.Sem
open Idealize.ShloMosaic.Pipeline (Dat)

variable (m : (ℓ : Loc nD τ sig) → Buf (Elt Ideal) ℓ)

/-- The MLP's first product, over the layer's whole first weight. -/
abbrev PRE (X : FVec Ideal Cert.ReferenceDw2Ideal.S8192x2048 .bf16) (W : FVec Ideal Cert.ReferenceDw2Ideal.S4x4x2048x2048 .bf16) : FVec Ideal Cert.ReferenceDw2Ideal.S8192x8192 .f32 :=
  Host.dotGeneral Cert.ReferenceDw2Ideal.dot_S8192x2048_S2048x8192_S8192x8192_1_0_0_1_n_n none (extf .f32 X Cert.ReferenceDw2Ideal.Gen.bitsLt_bf16_f32)
    (shapeCast Cert.ReferenceDw2Ideal.S2048x8192 (transpose Cert.ReferenceDw2Ideal.S2048x4x2048 [1, 0, 2] (extf .f32 (shapeCast Cert.ReferenceDw2Ideal.S4x2048x2048
      (extractStridedSlice Cert.ReferenceDw2Ideal.S4x1x2048x2048 ![0, 3, 0, 0] W Cert.ReferenceDw2Ideal.Gen.slices_S4x4x2048x2048_S4x1x2048x2048_0_3_0_0)
      Cert.ReferenceDw2Ideal.Gen.shapeCasts_S4x1x2048x2048_S4x2048x2048) Cert.ReferenceDw2Ideal.Gen.bitsLt_bf16_f32)
      Cert.ReferenceDw2Ideal.Gen.transposes_S4x2048x2048_S2048x4x2048_1_0_2) Cert.ReferenceDw2Ideal.Gen.shapeCasts_S2048x4x2048_S2048x8192)

/-- The activation: the square of the product's positive part. -/
abbrev HID (A : FVec Ideal Cert.ReferenceDw2Ideal.S8192x8192 .f32) : FVec Ideal Cert.ReferenceDw2Ideal.S8192x8192 .f32 :=
  mulf (maximumf A (broadcastInDim Cert.ReferenceDw2Ideal.S8192x8192 ![] Cert.ReferenceDw2Ideal.Gen.bcast_S_S8192x8192 (constant Cert.ReferenceDw2Ideal.S_ .f32 0x00000000#32)))
    (maximumf A (broadcastInDim Cert.ReferenceDw2Ideal.S8192x8192 ![] Cert.ReferenceDw2Ideal.Gen.bcast_S_S8192x8192 (constant Cert.ReferenceDw2Ideal.S_ .f32 0x00000000#32)))

/-- The gradient of the MLP's second weight as the reference composes it, cut by rows over the chips. -/
abbrev REF (A : FVec Ideal Cert.ReferenceDw2Ideal.S8192x8192 .f32) (D : FVec Ideal Cert.ReferenceDw2Ideal.S8192x2048 .bf16) :
    FVec Ideal Cert.ReferenceDw2Ideal.S4x2048x2048 .f32 :=
  shapeCast Cert.ReferenceDw2Ideal.S4x2048x2048 (transpose Cert.ReferenceDw2Ideal.S8192x2048 [1, 0]
    (Host.dotGeneral Cert.ReferenceDw2Ideal.dot_S8192x2048_S8192x8192_S2048x8192_0_0_1_1_n_n none (extf .f32 D Cert.ReferenceDw2Ideal.Gen.bitsLt_bf16_f32) (HID A))
    Cert.ReferenceDw2Ideal.Gen.transposes_S2048x8192_S8192x2048_1_0) Cert.ReferenceDw2Ideal.Gen.shapeCasts_S8192x2048_S4x2048x2048

/-- One step's product of a block of rows. -/
theorem part (x0 x1 : FVec Ideal S2048x1024 .bf16) (j : S1024x1024.Idx) :
    k0_pay1 (F := Ideal) x0 x1 j = ∑ k : Fin 2048, x0 (ix2 k (j 0)) * x1 (ix2 k (j 1)) := by
  pointwise [k0_pay1]

theorem first (x0 x1 : FVec Ideal S2048x1024 .bf16) (j : S1024x1024.Idx) :
    k0_pay2 (F := Ideal) x0 x1 j = ∑ k : Fin 2048, x0 (ix2 k (j 0)) * x1 (ix2 k (j 1)) := by
  pointwise [k0_pay2, k0_pay1]

theorem next (x0 x1 : FVec Ideal S2048x1024 .bf16) (acc : FVec Ideal S1024x1024 .f32) (j : S1024x1024.Idx) :
    k0_pay3 (F := Ideal) x0 x1 acc j = acc j + ∑ k : Fin 2048, x0 (ix2 k (j 0)) * x1 (ix2 k (j 1)) := by
  pointwise [k0_pay3, k0_pay1]

theorem last (acc : FVec Ideal S1024x1024 .f32) (j : S1x1024x1024.Idx) :
    k0_pay4 (F := Ideal) acc j = acc (ix2 (j 1) (j 2)) := by
  pointwise [k0_pay4]

/-- The activation's square at an index. -/
def hid (A : FVec Ideal S8192x8192 .f32) (k j : Fin 8192) : EReal := max (A (ix2 k j)) 0 * max (A (ix2 k j)) 0

theorem ref_apply (A : FVec Ideal S8192x8192 .f32) (D : FVec Ideal S8192x2048 .bf16) (j : S4x2048x2048.Idx) :
    REF A D j = ∑ k : Fin 8192, hid A k (⟨(j 0).val * 2048 + (j 1).val, by have h0 : (j 0).val < 4 := (j 0).isLt; have h2 : (j 1).val < 2048 := (j 1).isLt; omega⟩ : Fin 8192) * D (ix2 k (j 2)) := by
  pointwise [REF, HID, hid]
  exact Finset.sum_congr rfl fun _ _ => mul_comm _ _

/-- The array of activations that the region reads. -/
theorem host (c : Dev nD) : V m c main_v9 = truncf .bf16 (HID (PRE (m ((c : Thread nD τ).loc main_arg0)) (m ((c : Thread nD τ).loc main_arg1)))) Cert.ReferenceDw2Ideal.Gen.bitsLt_bf16_f32 := by
  entry_read
  rfl

/-- The same at an index. -/
theorem host_apply (c : Dev nD) (k j : Fin 8192) : (show FVec Ideal S8192x8192 .bf16 from V m c main_v9) (ix2 k j)
    = hid (PRE (m ((c : Thread nD τ).loc main_arg0)) (m ((c : Thread nD τ).loc main_arg1))) k j := by
  rw [host]
  generalize PRE (m ((c : Thread nD τ).loc main_arg0)) (m ((c : Thread nD τ).loc main_arg1)) = A
  pointwise [HID, hid]

theorem idx : ∀ t : Fin cfg0.N, win0_0.index t = ![t.val % 4, t.val / 8] ∧ win0_1.index t = ![t.val % 4, t.val / 4 % 2]
    ∧ win0_2.index t = ![t.val / 8 / 2, t.val / 8 % 2, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t hf s⟩) (ix2 k (j 0))
        * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => (0 : EReal))
    (fun p j => ∑ k : Fin 2048, (show FVec Ideal S2048x1024 .bf16 from iblk m c 0 p) (ix2 k (j 0)) * (show FVec Ideal S2048x1024 .bf16 from iblk m c 1 p) (ix2 k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) (j : S1x1024x1024.Idx) :
    (outsAt0 m c t.val t.isLt).1 j = (outsAt0 m c t.val t.isLt).2 (ix2 (j 1) (j 2)) := by
  rw [outsAt0_C m c t (by omega) (by omega) hf]; frame_out; rw [last]

theorem final (c : Dev nD) : (dats m 0 c).arrAt 2 cfg0.N
    = REF (PRE (m ((c : Thread nD τ).loc main_arg0)) (m ((c : Thread nD τ).loc main_arg1))) (m ((c : Thread nD τ).loc main_arg2)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  rw [← host_apply]
  blk_point [iblk, V_main_arg2, idx t, idx ⟨_, Pipeline.run_point_lt_of_flush t hf' s⟩]

end Cert.KernelDw2Ideal.Product

end
-- ==== Proof.Dw1Value.lean ====
module

public import proofs.«01_k».proof.Proof.Gen.KernelDw1Ideal.Value
public import proofs.«01_k».proof.Proof.Gen.ReferenceDw1Ideal.Run
public import Idealize.ShloMosaic.Lib.Pipeline.ValueKit

@[expose] public section

set_option maxRecDepth 16384

noncomputable section

namespace Cert.KernelDw1Ideal.Product

open Cert.KernelDw1Ideal Cert.KernelDw1Ideal.Gen
open Idealize.ShloMosaic Idealize.ShloMosaic.TcCoe Idealize.SL.Sem
open Idealize.ShloMosaic.Pipeline (Dat)

variable (m : (ℓ : Loc nD τ sig) → Buf (Elt Ideal) ℓ)

/-- The gradient of the MLP's first weight as the reference composes it, cut by columns over the chips. -/
abbrev REF (X : FVec Ideal Cert.ReferenceDw1Ideal.S8192x2048 .bf16) (D : FVec Ideal Cert.ReferenceDw1Ideal.S8192x8192 .bf16) :
    FVec Ideal Cert.ReferenceDw1Ideal.S4x2048x2048 .f32 :=
  transpose Cert.ReferenceDw1Ideal.S4x2048x2048 [1, 0, 2] (shapeCast Cert.ReferenceDw1Ideal.S2048x4x2048 (transpose Cert.ReferenceDw1Ideal.S2048x8192 [1, 0]
    (Host.dotGeneral Cert.ReferenceDw1Ideal.dot_S8192x8192_S8192x2048_S8192x2048_0_0_1_1_n_n none
      (extf .f32 D Cert.ReferenceDw1Ideal.Gen.bitsLt_bf16_f32) (extf .f32 X Cert.ReferenceDw1Ideal.Gen.bitsLt_bf16_f32))
    Cert.ReferenceDw1Ideal.Gen.transposes_S8192x2048_S2048x8192_1_0) Cert.ReferenceDw1Ideal.Gen.shapeCasts_S2048x8192_S2048x4x2048)
    Cert.ReferenceDw1Ideal.Gen.transposes_S2048x4x2048_S4x2048x2048_1_0_2

/-- One step's product of a block of rows. -/
theorem part (x0 x1 : FVec Ideal S2048x1024 .bf16) (j : S1024x1024.Idx) :
    k0_pay1 (F := Ideal) x0 x1 j = ∑ k : Fin 2048, x0 (ix2 k (j 0)) * x1 (ix2 k (j 1)) := by
  pointwise [k0_pay1]

theorem first (x0 x1 : FVec Ideal S2048x1024 .bf16) (j : S1024x1024.Idx) :
    k0_pay2 (F := Ideal) x0 x1 j = ∑ k : Fin 2048, x0 (ix2 k (j 0)) * x1 (ix2 k (j 1)) := by
  pointwise [k0_pay2, k0_pay1]

theorem next (x0 x1 : FVec Ideal S2048x1024 .bf16) (acc : FVec Ideal S1024x1024 .f32) (j : S1024x1024.Idx) :
    k0_pay3 (F := Ideal) x0 x1 acc j = acc j + ∑ k : Fin 2048, x0 (ix2 k (j 0)) * x1 (ix2 k (j 1)) := by
  pointwise [k0_pay3, k0_pay1]

theorem last (acc : FVec Ideal S1024x1024 .f32) (j : S1x1024x1024.Idx) :
    k0_pay4 (F := Ideal) acc j = acc (ix2 (j 1) (j 2)) := by
  pointwise [k0_pay4]

theorem ref_apply (X : FVec Ideal S8192x2048 .bf16) (D : FVec Ideal S8192x8192 .bf16) (j : S4x2048x2048.Idx) :
    REF X D j = ∑ k : Fin 8192, X (ix2 k (j 1)) * D (ix2 k (⟨(j 0).val * 2048 + (j 2).val, by have h0 : (j 0).val < 4 := (j 0).isLt; have h2 : (j 2).val < 2048 := (j 2).isLt; omega⟩ : Fin 8192)) := by
  pointwise [REF]
  exact Finset.sum_congr rfl fun _ _ => mul_comm _ _

theorem idx : ∀ t : Fin cfg0.N, win0_0.index t = ![t.val % 4, t.val / 32] ∧ win0_1.index t = ![t.val % 4, t.val / 4 % 8]
    ∧ win0_2.index t = ![t.val / 4 % 8 / 2, t.val / 32, t.val / 4 % 8 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t hf s⟩) (ix2 k (j 0))
        * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => (0 : EReal))
    (fun p j => ∑ k : Fin 2048, (show FVec Ideal S2048x1024 .bf16 from iblk m c 0 p) (ix2 k (j 0)) * (show FVec Ideal S2048x1024 .bf16 from iblk m c 1 p) (ix2 k (j 1)))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) (j : S1x1024x1024.Idx) :
    (outsAt0 m c t.val t.isLt).1 j = (outsAt0 m c t.val t.isLt).2 (ix2 (j 1) (j 2)) := by
  rw [outsAt0_C m c t (by omega) (by omega) hf]; frame_out; rw [last]

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelDw1Ideal.Product

end
-- ==== Proof.DxnValue.lean ====
module

public import proofs.«01_k».proof.Proof.Gen.KernelDxnIdeal.Value
public import proofs.«01_k».proof.Proof.Gen.ReferenceDxnIdeal.Run
public import Idealize.ShloMosaic.Lib.Pipeline.ValueKit

@[expose] public section

set_option maxRecDepth 16384

noncomputable section

namespace Cert.KernelDxnIdeal.Product

open Cert.KernelDxnIdeal Cert.KernelDxnIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the MLP's input as the reference composes it: the weight's column slices set side by side. -/
abbrev REF (W : FVec Ideal Cert.ReferenceDxnIdeal.S4x4x2048x2048 .bf16) (D : FVec Ideal Cert.ReferenceDxnIdeal.S8192x8192 .bf16) :
    FVec Ideal Cert.ReferenceDxnIdeal.S8192x2048 .f32 :=
  Host.dotGeneral Cert.ReferenceDxnIdeal.dot_S8192x8192_S2048x8192_S8192x2048_1_1_0_0_n_n none
    (extf .f32 D Cert.ReferenceDxnIdeal.Gen.bitsLt_bf16_f32)
    (shapeCast Cert.ReferenceDxnIdeal.S2048x8192 (transpose Cert.ReferenceDxnIdeal.S2048x4x2048 [1, 0, 2]
      (extf .f32 (shapeCast Cert.ReferenceDxnIdeal.S4x2048x2048
        (extractStridedSlice Cert.ReferenceDxnIdeal.S4x1x2048x2048 ![0, 3, 0, 0] W Cert.ReferenceDxnIdeal.Gen.slices_S4x4x2048x2048_S4x1x2048x2048_0_3_0_0)
        Cert.ReferenceDxnIdeal.Gen.shapeCasts_S4x1x2048x2048_S4x2048x2048) Cert.ReferenceDxnIdeal.Gen.bitsLt_bf16_f32)
      Cert.ReferenceDxnIdeal.Gen.transposes_S4x2048x2048_S2048x4x2048_1_0_2) Cert.ReferenceDxnIdeal.Gen.shapeCasts_S2048x4x2048_S2048x8192)

/-- The first step's product of a block of columns. -/
theorem first (x0 : FVec Ideal S1024x2048 .bf16) (x1 : FVec Ideal S1x1x1024x2048 .bf16) (j : S1024x1024.Idx) :
    k0_pay2 (F := Ideal) x0 x1 j = ∑ k : Fin 2048, x0 (ix2 (j 0) k) * x1 (ix4 (0 : Fin 1) (0 : Fin 1) (j 1) k) := by
  pointwise [k0_pay2, k0_pay1]

/-- A later step adds its product to the accumulator. -/
theorem next (x0 : FVec Ideal S1024x2048 .bf16) (x1 : FVec Ideal S1x1x1024x2048 .bf16) (acc : FVec Ideal S1024x1024 .f32) (j : S1024x1024.Idx) :
    k0_pay3 (F := Ideal) x0 x1 acc j = acc j + ∑ k : Fin 2048, x0 (ix2 (j 0) k) * x1 (ix4 (0 : Fin 1) (0 : Fin 1) (j 1) k) := by
  pointwise [k0_pay3, k0_pay1]

/-- The reference at an index: column `k` of the whole weight is column `k % 2048` of chip `k / 2048`'s slice. -/
theorem ref_apply (W : FVec Ideal S4x4x2048x2048 .bf16) (D : FVec Ideal S8192x8192 .bf16) (j : S8192x2048.Idx) :
    REF W D j = ∑ k : Fin 8192, D (ix2 (j 0) k) * W (ix4 (⟨k.val / 2048, by omega⟩ : Fin 4) (3 : Fin 4) (j 1) (⟨k.val % 2048, by omega⟩ : Fin 2048)) := by
  pointwise [REF]

/-- The blocks of the two factors and of the result at every point. -/
theorem idx : ∀ t : Fin cfg0.N, win0_0.index t = ![t.val / 8, t.val % 4] ∧ win0_1.index t = ![t.val % 4, 3, t.val / 4 % 2, 0]
    ∧ win0_2.index t = ![t.val / 8, t.val / 4 % 2] :=
  (by decide +kernel : ∀ t : Fin grid0.N, _)

/-- What the accumulator holds when a block is complete: the sum of its four parts. -/
theorem held (c : Dev nD) (t : Fin cfg0.N) (hf : t.val % 4 = 3) (j : S1024x1024.Idx) :
    (outsAt0 m c t.val t.isLt).2 j = ∑ s : Fin 4, ∑ k : Fin 2048,
      (show FVec Ideal S1024x2048 .bf16 from iblk m c 0 ⟨4 * (t.val / 4) + s.val, Pipeline.run_point_lt_of_flush t hf s⟩) (ix2 (j 0) k)
        * (show FVec Ideal S1x1x1024x2048 .bf16 from iblk m c 1 ⟨4 * (t.val / 4) + s.val, Pipeline.run_point_lt_of_flush t hf s⟩) (ix4 (0 : Fin 1) (0 : Fin 1) (j 1) k) := by
  rw [Pipeline.eq_sum_fin_of_reset_step_apply_of_flush (fun n h => (outsAt0 m c n h).2) 4 (fun _ => (0 : EReal))
    (fun p j => ∑ k : Fin 2048, (show FVec Ideal S1024x2048 .bf16 from iblk m c 0 p) (ix2 (j 0) k) * (show FVec Ideal S1x1x1024x2048 .bf16 from iblk m c 1 p) (ix4 (0 : Fin 1) (0 : Fin 1) (j 1) k))
    (fun t h j => by
      rw [outsAt0_A m c t h (by omega) (by omega)]; frame_out; rw [first, zero_add])
    (fun t h j => by
      by_cases h3 : t.val % 4 = 3
      · rw [outsAt0_C m c t h (by omega) h3]; frame_out; rw [next, (Memref.isWhole_whole _).read_unread]
      · rw [outsAt0_B m c t h (by omega) h3]; frame_out; rw [next, (Memref.isWhole_whole _).read_unread])
    t hf j, zero_add]

/-- The point that completes a block stores what the accumulator then holds. -/
theorem stored (c : Dev nD) (t : Fin cfg0.N) (hf : t.val % 4 = 3) :
    (outsAt0 m c t.val t.isLt).1 = (outsAt0 m c t.val t.isLt).2 := by
  rw [outsAt0_C m c t (by omega) (by omega) hf]; frame_out

/-- After the run the result array is the reference's gradient. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp
  rw [after0_2, stored m c t hf', held m c t hf', ref_apply]
  refine Fin.sum_mul_add_congr fun s k hl => ?_
  blk_point [iblk, V, idx t, idx ⟨_, Pipeline.run_point_lt_of_flush t hf' s⟩]

end Cert.KernelDxnIdeal.Product

end
-- ==== Proof.MlpClaims.lean ====
/- What is claimed of the four products of the MLP's backward pass, from the runs and the value modules. -/
module

public import proofs.«01_k».proof.Defs
public import proofs.«01_k».proof.Proof.Gen.KernelAct.Frame
public import proofs.«01_k».proof.Proof.Gen.KernelActIdeal.Value
public import proofs.«01_k».proof.Proof.Gen.ReferenceActIdeal.Run
public import proofs.«01_k».proof.Proof.ActValue
public import proofs.«01_k».proof.Proof.Gen.KernelDw2.Frame
public import proofs.«01_k».proof.Proof.Gen.KernelDw2Ideal.Value
public import proofs.«01_k».proof.Proof.Gen.ReferenceDw2Ideal.Run
public import proofs.«01_k».proof.Proof.Dw2Value
public import proofs.«01_k».proof.Proof.Gen.KernelDw1.Frame
public import proofs.«01_k».proof.Proof.Gen.KernelDw1Ideal.Value
public import proofs.«01_k».proof.Proof.Gen.ReferenceDw1Ideal.Run
public import proofs.«01_k».proof.Proof.Dw1Value
public import proofs.«01_k».proof.Proof.Gen.KernelDxn.Frame
public import proofs.«01_k».proof.Proof.Gen.KernelDxnIdeal.Value
public import proofs.«01_k».proof.Proof.Gen.ReferenceDxnIdeal.Run
public import proofs.«01_k».proof.Proof.DxnValue
public import Idealize.ShloMosaic.Lib.Claim

@[expose] public section

set_option maxRecDepth 16384

noncomputable section

namespace Cert.Proof

open Idealize.ShloMosaic Idealize.SL.Sem

/-- The reference for the gradient of the activation leaves its arguments as they were. -/
theorem frame_referenceAct : Cert.quiescent_ReferenceActIdeal (hReferenceActIdeal := Cert.ReferenceActIdeal.Gen.facts) :=
  fun m g _ => (θ_run _ _ _).mono (fun _ h => ⟨fun c => (h c).2, funext fun x => nomatch x⟩) (Cert.ReferenceActIdeal.Value.run m g)

/-- Kernel and reference compute the same array: the gradient of the activation. -/
theorem algebraicAct : Cert.algebraic_KernelActIdeal_ReferenceActIdeal (hKernelActIdeal := Cert.KernelActIdeal.Gen.facts)
    (hReferenceActIdeal := Cert.ReferenceActIdeal.Gen.facts) := by
  pair_intro
  · run_from Cert.KernelActIdeal.Value.run_blocks m g
  · run_from Cert.ReferenceActIdeal.Value.run m' g'
    exact (Cert.KernelActIdeal.Product.final m c).symm

/-- The reference for the gradient of the second matrix leaves its arguments as they were. -/
theorem frame_referenceDw2 : Cert.quiescent_ReferenceDw2Ideal (hReferenceDw2Ideal := Cert.ReferenceDw2Ideal.Gen.facts) :=
  fun m g _ => (θ_run _ _ _).mono (fun _ h => ⟨fun c => (h c).2, funext fun x => nomatch x⟩) (Cert.ReferenceDw2Ideal.Value.run m g)

/-- Kernel and reference compute the same array: the gradient of the second matrix. -/
theorem algebraicDw2 : Cert.algebraic_KernelDw2Ideal_ReferenceDw2Ideal (hKernelDw2Ideal := Cert.KernelDw2Ideal.Gen.facts)
    (hReferenceDw2Ideal := Cert.ReferenceDw2Ideal.Gen.facts) := by
  pair_intro
  · run_from Cert.KernelDw2Ideal.Value.run_blocks m g
  · run_from Cert.ReferenceDw2Ideal.Value.run m' g'
    exact (Cert.KernelDw2Ideal.Product.final m c).symm

/-- The reference for the gradient of the first matrix leaves its arguments as they were. -/
theorem frame_referenceDw1 : Cert.quiescent_ReferenceDw1Ideal (hReferenceDw1Ideal := Cert.ReferenceDw1Ideal.Gen.facts) :=
  fun m g _ => (θ_run _ _ _).mono (fun _ h => ⟨fun c => (h c).2, funext fun x => nomatch x⟩) (Cert.ReferenceDw1Ideal.Value.run m g)

/-- Kernel and reference compute the same array: the gradient of the first matrix. -/
theorem algebraicDw1 : Cert.algebraic_KernelDw1Ideal_ReferenceDw1Ideal (hKernelDw1Ideal := Cert.KernelDw1Ideal.Gen.facts)
    (hReferenceDw1Ideal := Cert.ReferenceDw1Ideal.Gen.facts) := by
  pair_intro
  · run_from Cert.KernelDw1Ideal.Value.run_blocks m g
  · run_from Cert.ReferenceDw1Ideal.Value.run m' g'
    exact (Cert.KernelDw1Ideal.Product.final m c).symm

/-- The reference for the gradient of the normalised input leaves its arguments as they were. -/
theorem frame_referenceDxn : Cert.quiescent_ReferenceDxnIdeal (hReferenceDxnIdeal := Cert.ReferenceDxnIdeal.Gen.facts) :=
  fun m g _ => (θ_run _ _ _).mono (fun _ h => ⟨fun c => (h c).2, funext fun x => nomatch x⟩) (Cert.ReferenceDxnIdeal.Value.run m g)

/-- Kernel and reference compute the same array: the gradient of the normalised input. -/
theorem algebraicDxn : Cert.algebraic_KernelDxnIdeal_ReferenceDxnIdeal (hKernelDxnIdeal := Cert.KernelDxnIdeal.Gen.facts)
    (hReferenceDxnIdeal := Cert.ReferenceDxnIdeal.Gen.facts) := by
  pair_intro
  · run_from Cert.KernelDxnIdeal.Value.run_blocks m g
  · run_from Cert.ReferenceDxnIdeal.Value.run m' g'
    exact (Cert.KernelDxnIdeal.Product.final m c).symm

end Cert.Proof

end
-- ==== Proof.ProductClaims.lean ====
/- What is claimed of the MLP's forward products and of the mixers' projections, from the runs and the value modules. -/
module

public import proofs.«01_k».proof.Defs
public import proofs.«01_k».proof.Proof.Gen.KernelUp.Frame
public import proofs.«01_k».proof.Proof.Gen.KernelUpIdeal.Value
public import proofs.«01_k».proof.Proof.Gen.ReferenceUpIdeal.Run
public import proofs.«01_k».proof.Proof.UpValue
public import proofs.«01_k».proof.Proof.Gen.KernelDown.Frame
public import proofs.«01_k».proof.Proof.Gen.KernelDownIdeal.Value
public import proofs.«01_k».proof.Proof.Gen.ReferenceDownIdeal.Run
public import proofs.«01_k».proof.Proof.DownValue
public import proofs.«01_k».proof.Proof.Gen.KernelQkv.Frame
public import proofs.«01_k».proof.Proof.Gen.KernelQkvIdeal.Value
public import proofs.«01_k».proof.Proof.Gen.ReferenceQkvIdeal.Run
public import proofs.«01_k».proof.Proof.QkvValue
public import proofs.«01_k».proof.Proof.Gen.KernelIn.Frame
public import proofs.«01_k».proof.Proof.Gen.KernelInIdeal.Value
public import proofs.«01_k».proof.Proof.Gen.ReferenceInIdeal.Run
public import proofs.«01_k».proof.Proof.InValue
public import proofs.«01_k».proof.Proof.Gen.KernelOut.Frame
public import proofs.«01_k».proof.Proof.Gen.KernelOutIdeal.Value
public import proofs.«01_k».proof.Proof.Gen.ReferenceOutIdeal.Run
public import proofs.«01_k».proof.Proof.OutValue
public import proofs.«01_k».proof.Proof.Gen.KernelQkvDx.Frame
public import proofs.«01_k».proof.Proof.Gen.KernelQkvDxIdeal.Value
public import proofs.«01_k».proof.Proof.Gen.ReferenceQkvDxIdeal.Run
public import proofs.«01_k».proof.Proof.QkvDxValue
public import proofs.«01_k».proof.Proof.Gen.KernelInDx.Frame
public import proofs.«01_k».proof.Proof.Gen.KernelInDxIdeal.Value
public import proofs.«01_k».proof.Proof.Gen.ReferenceInDxIdeal.Run
public import proofs.«01_k».proof.Proof.InDxValue
public import proofs.«01_k».proof.Proof.Gen.KernelOutDx.Frame
public import proofs.«01_k».proof.Proof.Gen.KernelOutDxIdeal.Value
public import proofs.«01_k».proof.Proof.Gen.ReferenceOutDxIdeal.Run
public import proofs.«01_k».proof.Proof.OutDxValue
public import proofs.«01_k».proof.Proof.Gen.KernelQkvDw.Frame
public import proofs.«01_k».proof.Proof.Gen.KernelQkvDwIdeal.Value
public import proofs.«01_k».proof.Proof.Gen.ReferenceQkvDwIdeal.Run
public import proofs.«01_k».proof.Proof.QkvDwValue
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.InDwValue
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.OutDwValue
public import Idealize.ShloMosaic.Lib.Claim

@[expose] public section

set_option maxRecDepth 16384

noncomputable section

namespace Cert.Proof

open Idealize.ShloMosaic Idealize.SL.Sem

/-- The reference for the MLP's first product and hidden layer leaves its arguments as they were. -/
theorem frame_referenceUp : Cert.quiescent_ReferenceUpIdeal (hReferenceUpIdeal := Cert.ReferenceUpIdeal.Gen.facts) :=
  fun m g _ => (θ_run _ _ _).mono (fun _ h => ⟨fun c => (h c).2.2, funext fun x => nomatch x⟩) (Cert.ReferenceUpIdeal.Value.run m g)

/-- Kernel and reference compute the same: the MLP's first product and hidden layer. -/
theorem algebraicUp : Cert.algebraic_KernelUpIdeal_ReferenceUpIdeal (hKernelUpIdeal := Cert.KernelUpIdeal.Gen.facts)
    (hReferenceUpIdeal := Cert.ReferenceUpIdeal.Gen.facts) := by
  pair_intro
  · run_from Cert.KernelUpIdeal.Value.run_blocks m g
  · run_from Cert.ReferenceUpIdeal.Value.run m' g'
    · exact (Cert.KernelUpIdeal.Product.final m c).symm
    · exact (Cert.KernelUpIdeal.Product.final_hid m c).symm

/-- The reference for the MLP's second product leaves its arguments as they were. -/
theorem frame_referenceDown : Cert.quiescent_ReferenceDownIdeal (hReferenceDownIdeal := Cert.ReferenceDownIdeal.Gen.facts) :=
  fun m g _ => (θ_run _ _ _).mono (fun _ h => ⟨fun c => (h c).2, funext fun x => nomatch x⟩) (Cert.ReferenceDownIdeal.Value.run m g)

/-- Kernel and reference compute the same: the MLP's second product. -/
theorem algebraicDown : Cert.algebraic_KernelDownIdeal_ReferenceDownIdeal (hKernelDownIdeal := Cert.KernelDownIdeal.Gen.facts)
    (hReferenceDownIdeal := Cert.ReferenceDownIdeal.Gen.facts) := by
  pair_intro
  · run_from Cert.KernelDownIdeal.Value.run_blocks m g
  · run_from Cert.ReferenceDownIdeal.Value.run m' g'
    exact (Cert.KernelDownIdeal.Product.final m c).symm

/-- The reference for the projection to queries, keys and values leaves its arguments as they were. -/
theorem frame_referenceQkv : Cert.quiescent_ReferenceQkvIdeal (hReferenceQkvIdeal := Cert.ReferenceQkvIdeal.Gen.facts) :=
  fun m g _ => (θ_run _ _ _).mono (fun _ h => ⟨fun c => (h c).2, funext fun x => nomatch x⟩) (Cert.ReferenceQkvIdeal.Value.run m g)

/-- Kernel and reference compute the same: the projection to queries, keys and values. -/
theorem algebraicQkv : Cert.algebraic_KernelQkvIdeal_ReferenceQkvIdeal (hKernelQkvIdeal := Cert.KernelQkvIdeal.Gen.facts)
    (hReferenceQkvIdeal := Cert.ReferenceQkvIdeal.Gen.facts) := by
  pair_intro
  · run_from Cert.KernelQkvIdeal.Value.run_blocks m g
  · run_from Cert.ReferenceQkvIdeal.Value.run m' g'
    exact (Cert.KernelQkvIdeal.Product.final m c).symm

/-- The reference for the projection into the mixer leaves its arguments as they were. -/
theorem frame_referenceIn : Cert.quiescent_ReferenceInIdeal (hReferenceInIdeal := Cert.ReferenceInIdeal.Gen.facts) :=
  fun m g _ => (θ_run _ _ _).mono (fun _ h => ⟨fun c => (h c).2, funext fun x => nomatch x⟩) (Cert.ReferenceInIdeal.Value.run m g)

/-- Kernel and reference compute the same: the projection into the mixer. -/
theorem algebraicIn : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Value.run_blocks m g
  · run_from Cert.ReferenceInIdeal.Value.run m' g'
    exact (Cert.KernelInIdeal.Product.final m c).symm

/-- The reference for the projection out of a mixer leaves its arguments as they were. -/
theorem frame_referenceOut : Cert.quiescent_ReferenceOutIdeal (hReferenceOutIdeal := Cert.ReferenceOutIdeal.Gen.facts) :=
  fun m g _ => (θ_run _ _ _).mono (fun _ h => ⟨fun c => (h c).2, funext fun x => nomatch x⟩) (Cert.ReferenceOutIdeal.Value.run m g)

/-- Kernel and reference compute the same: the projection out of a mixer. -/
theorem algebraicOut : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Value.run_blocks m g
  · run_from Cert.ReferenceOutIdeal.Value.run m' g'
    exact (Cert.KernelOutIdeal.Product.final m c).symm

/-- The reference for the input gradient of the projection to queries, keys and values leaves its arguments as they were. -/
theorem frame_referenceQkvDx : Cert.quiescent_ReferenceQkvDxIdeal (hReferenceQkvDxIdeal := Cert.ReferenceQkvDxIdeal.Gen.facts) :=
  fun m g _ => (θ_run _ _ _).mono (fun _ h => ⟨fun c => (h c).2, funext fun x => nomatch x⟩) (Cert.ReferenceQkvDxIdeal.Value.run m g)

/-- Kernel and reference compute the same: the input gradient of the projection to queries, keys and values. -/
theorem algebraicQkvDx : Cert.algebraic_KernelQkvDxIdeal_ReferenceQkvDxIdeal (hKernelQkvDxIdeal := Cert.KernelQkvDxIdeal.Gen.facts)
    (hReferenceQkvDxIdeal := Cert.ReferenceQkvDxIdeal.Gen.facts) := by
  pair_intro
  · run_from Cert.KernelQkvDxIdeal.Value.run_blocks m g
  · run_from Cert.ReferenceQkvDxIdeal.Value.run m' g'
    exact (Cert.KernelQkvDxIdeal.Product.final m c).symm

/-- The reference for the input gradient of the projection into the mixer leaves its arguments as they were. -/
theorem frame_referenceInDx : Cert.quiescent_ReferenceInDxIdeal (hReferenceInDxIdeal := Cert.ReferenceInDxIdeal.Gen.facts) :=
  fun m g _ => (θ_run _ _ _).mono (fun _ h => ⟨fun c => (h c).2, funext fun x => nomatch x⟩) (Cert.ReferenceInDxIdeal.Value.run m g)

/-- Kernel and reference compute the same: the input gradient of the projection into the mixer. -/
theorem algebraicInDx : Cert.algebraic_KernelInDxIdeal_ReferenceInDxIdeal (hKernelInDxIdeal := Cert.KernelInDxIdeal.Gen.facts)
    (hReferenceInDxIdeal := Cert.ReferenceInDxIdeal.Gen.facts) := by
  pair_intro
  · run_from Cert.KernelInDxIdeal.Value.run_blocks m g
  · run_from Cert.ReferenceInDxIdeal.Value.run m' g'
    exact (Cert.KernelInDxIdeal.Product.final m c).symm

/-- The reference for the input gradient of the projection out of a mixer leaves its arguments as they were. -/
theorem frame_referenceOutDx : Cert.quiescent_ReferenceOutDxIdeal (hReferenceOutDxIdeal := Cert.ReferenceOutDxIdeal.Gen.facts) :=
  fun m g _ => (θ_run _ _ _).mono (fun _ h => ⟨fun c => (h c).2, funext fun x => nomatch x⟩) (Cert.ReferenceOutDxIdeal.Value.run m g)

/-- Kernel and reference compute the same: the input gradient of the projection out of a mixer. -/
theorem algebraicOutDx : Cert.algebraic_KernelOutDxIdeal_ReferenceOutDxIdeal (hKernelOutDxIdeal := Cert.KernelOutDxIdeal.Gen.facts)
    (hReferenceOutDxIdeal := Cert.ReferenceOutDxIdeal.Gen.facts) := by
  pair_intro
  · run_from Cert.KernelOutDxIdeal.Value.run_blocks m g
  · run_from Cert.ReferenceOutDxIdeal.Value.run m' g'
    exact (Cert.KernelOutDxIdeal.Product.final m c).symm

/-- The reference for the weight gradient of the projection to queries, keys and values leaves its arguments as they were. -/
theorem frame_referenceQkvDw : Cert.quiescent_ReferenceQkvDwIdeal (hReferenceQkvDwIdeal := Cert.ReferenceQkvDwIdeal.Gen.facts) :=
  fun m g _ => (θ_run _ _ _).mono (fun _ h => ⟨fun c => (h c).2, funext fun x => nomatch x⟩) (Cert.ReferenceQkvDwIdeal.Value.run m g)

/-- Kernel and reference compute the same: the weight gradient of the projection to queries, keys and values. -/
theorem algebraicQkvDw : Cert.algebraic_KernelQkvDwIdeal_ReferenceQkvDwIdeal (hKernelQkvDwIdeal := Cert.KernelQkvDwIdeal.Gen.facts)
    (hReferenceQkvDwIdeal := Cert.ReferenceQkvDwIdeal.Gen.facts) := by
  pair_intro
  · run_from Cert.KernelQkvDwIdeal.Value.run_blocks m g
  · run_from Cert.ReferenceQkvDwIdeal.Value.run m' g'
    exact (Cert.KernelQkvDwIdeal.Product.final m c).symm

/-- The reference for the weight gradient of the projection into the mixer leaves its arguments as they were. -/
theorem frame_referenceInDw : Cert.quiescent_ReferenceInDwIdeal (hReferenceInDwIdeal := Cert.ReferenceInDwIdeal.Gen.facts) :=
  fun m g _ => (θ_run _ _ _).mono (fun _ h => ⟨fun c => (h c).2, funext fun x => nomatch x⟩) (Cert.ReferenceInDwIdeal.Value.run m g)

/-- Kernel and reference compute the same: the weight gradient of the projection into the mixer. -/
theorem algebraicInDw : Cert.algebraic_KernelInDwIdeal_ReferenceInDwIdeal (hKernelInDwIdeal := Cert.KernelInDwIdeal.Gen.facts)
    (hReferenceInDwIdeal := Cert.ReferenceInDwIdeal.Gen.facts) := by
  pair_intro
  · run_from Cert.KernelInDwIdeal.Value.run_blocks m g
  · run_from Cert.ReferenceInDwIdeal.Value.run m' g'
    exact (Cert.KernelInDwIdeal.Product.final m c).symm

/-- The reference for the weight gradient of the projection out of a mixer leaves its arguments as they were. -/
theorem frame_referenceOutDw : Cert.quiescent_ReferenceOutDwIdeal (hReferenceOutDwIdeal := Cert.ReferenceOutDwIdeal.Gen.facts) :=
  fun m g _ => (θ_run _ _ _).mono (fun _ h => ⟨fun c => (h c).2, funext fun x => nomatch x⟩) (Cert.ReferenceOutDwIdeal.Value.run m g)

/-- Kernel and reference compute the same: the weight gradient of the projection out of a mixer. -/
theorem algebraicOutDw : Cert.algebraic_KernelOutDwIdeal_ReferenceOutDwIdeal (hKernelOutDwIdeal := Cert.KernelOutDwIdeal.Gen.facts)
    (hReferenceOutDwIdeal := Cert.ReferenceOutDwIdeal.Gen.facts) := by
  pair_intro
  · run_from Cert.KernelOutDwIdeal.Value.run_blocks m g
  · run_from Cert.ReferenceOutDwIdeal.Value.run m' g'
    exact (Cert.KernelOutDwIdeal.Product.final m c).symm

end Cert.Proof

end
-- ==== Proof.GateClaims.lean ====
/- What is claimed of the S5 mixer's gate and of its product, from the runs and the value modules. -/
module

public import proofs.«01_k».proof.Defs
public import proofs.«01_k».proof.Proof.Gen.KernelGate.Frame
public import proofs.«01_k».proof.Proof.Gen.KernelGateIdeal.Value
public import proofs.«01_k».proof.Proof.Gen.ReferenceGateIdeal.Run
public import proofs.«01_k».proof.Proof.GateValue
public import proofs.«01_k».proof.Proof.Gen.KernelGlu.Frame
public import proofs.«01_k».proof.Proof.Gen.KernelGluIdeal.Value
public import proofs.«01_k».proof.Proof.Gen.ReferenceGluIdeal.Run
public import proofs.«01_k».proof.Proof.GluValue
public import proofs.«01_k».proof.Proof.Gen.KernelGluDx.Frame
public import proofs.«01_k».proof.Proof.Gen.KernelGluDxIdeal.Value
public import proofs.«01_k».proof.Proof.Gen.ReferenceGluDxIdeal.Run
public import proofs.«01_k».proof.Proof.GluDxValue
public import proofs.«01_k».proof.Proof.Gen.KernelGluDw.Frame
public import proofs.«01_k».proof.Proof.Gen.KernelGluDwIdeal.Value
public import proofs.«01_k».proof.Proof.Gen.ReferenceGluDwIdeal.Run
public import proofs.«01_k».proof.Proof.GluDwValue
public import Idealize.ShloMosaic.Lib.Claim

@[expose] public section

set_option maxRecDepth 16384

noncomputable section

namespace Cert.Proof

open Idealize.ShloMosaic Idealize.SL.Sem

/-- The reference for the gate's gradients to the product and to the gated value leaves its arguments as they were. -/
theorem frame_referenceGate : Cert.quiescent_ReferenceGateIdeal (hReferenceGateIdeal := Cert.ReferenceGateIdeal.Gen.facts) :=
  fun m g _ => (θ_run _ _ _).mono (fun _ h => ⟨fun c => (h c).2.2, funext fun x => nomatch x⟩) (Cert.ReferenceGateIdeal.Value.run m g)

/-- Kernel and reference compute the same: the gate's gradients to the product and to the gated value. -/
theorem algebraicGate : Cert.algebraic_KernelGateIdeal_ReferenceGateIdeal (hKernelGateIdeal := Cert.KernelGateIdeal.Gen.facts)
    (hReferenceGateIdeal := Cert.ReferenceGateIdeal.Gen.facts) := by
  pair_intro
  · run_from Cert.KernelGateIdeal.Value.run_blocks m g
  · run_from Cert.ReferenceGateIdeal.Value.run m' g'
    · exact (Cert.KernelGateIdeal.Product.final m c).symm
    · exact (Cert.KernelGateIdeal.Product.final_y m c).symm

/-- The reference for the gate's product leaves its arguments as they were. -/
theorem frame_referenceGlu : Cert.quiescent_ReferenceGluIdeal (hReferenceGluIdeal := Cert.ReferenceGluIdeal.Gen.facts) :=
  fun m g _ => (θ_run _ _ _).mono (fun _ h => ⟨fun c => (h c).2, funext fun x => nomatch x⟩) (Cert.ReferenceGluIdeal.Value.run m g)

/-- Kernel and reference compute the same: the gate's product. -/
theorem algebraicGlu : Cert.algebraic_KernelGluIdeal_ReferenceGluIdeal (hKernelGluIdeal := Cert.KernelGluIdeal.Gen.facts)
    (hReferenceGluIdeal := Cert.ReferenceGluIdeal.Gen.facts) := by
  pair_intro
  · run_from Cert.KernelGluIdeal.Value.run_blocks m g
  · run_from Cert.ReferenceGluIdeal.Value.run m' g'
    exact (Cert.KernelGluIdeal.Product.final m c).symm

/-- The reference for the input gradient of the gate's product leaves its arguments as they were. -/
theorem frame_referenceGluDx : Cert.quiescent_ReferenceGluDxIdeal (hReferenceGluDxIdeal := Cert.ReferenceGluDxIdeal.Gen.facts) :=
  fun m g _ => (θ_run _ _ _).mono (fun _ h => ⟨fun c => (h c).2, funext fun x => nomatch x⟩) (Cert.ReferenceGluDxIdeal.Value.run m g)

/-- Kernel and reference compute the same: the input gradient of the gate's product. -/
theorem algebraicGluDx : Cert.algebraic_KernelGluDxIdeal_ReferenceGluDxIdeal (hKernelGluDxIdeal := Cert.KernelGluDxIdeal.Gen.facts)
    (hReferenceGluDxIdeal := Cert.ReferenceGluDxIdeal.Gen.facts) := by
  pair_intro
  · run_from Cert.KernelGluDxIdeal.Value.run_blocks m g
  · run_from Cert.ReferenceGluDxIdeal.Value.run m' g'
    exact (Cert.KernelGluDxIdeal.Product.final m c).symm

/-- The reference for the weight gradient of the gate's product leaves its arguments as they were. -/
theorem frame_referenceGluDw : Cert.quiescent_ReferenceGluDwIdeal (hReferenceGluDwIdeal := Cert.ReferenceGluDwIdeal.Gen.facts) :=
  fun m g _ => (θ_run _ _ _).mono (fun _ h => ⟨fun c => (h c).2, funext fun x => nomatch x⟩) (Cert.ReferenceGluDwIdeal.Value.run m g)

/-- Kernel and reference compute the same: the weight gradient of the gate's product. -/
theorem algebraicGluDw : Cert.algebraic_KernelGluDwIdeal_ReferenceGluDwIdeal (hKernelGluDwIdeal := Cert.KernelGluDwIdeal.Gen.facts)
    (hReferenceGluDwIdeal := Cert.ReferenceGluDwIdeal.Gen.facts) := by
  pair_intro
  · run_from Cert.KernelGluDwIdeal.Value.run_blocks m g
  · run_from Cert.ReferenceGluDwIdeal.Value.run m' g'
    exact (Cert.KernelGluDwIdeal.Product.final m c).symm

end Cert.Proof

end
-- ==== Proof.LayerClaims.lean ====
/- What is claimed of the calls at the other layers, from the runs and the value modules. -/
module

public import proofs.«01_k».proof.Defs
public import proofs.«01_k».proof.Proof.Gen.KernelAct0.Frame
public import proofs.«01_k».proof.Proof.Gen.KernelAct0Ideal.Value
public import proofs.«01_k».proof.Proof.Gen.ReferenceAct0Ideal.Run
public import proofs.«01_k».proof.Proof.Act0Value
public import proofs.«01_k».proof.Proof.Gen.KernelAct1.Frame
public import proofs.«01_k».proof.Proof.Gen.KernelAct1Ideal.Value
public import proofs.«01_k».proof.Proof.Gen.ReferenceAct1Ideal.Run
public import proofs.«01_k».proof.Proof.Act1Value
public import proofs.«01_k».proof.Proof.Gen.KernelAct2.Frame
public import proofs.«01_k».proof.Proof.Gen.KernelAct2Ideal.Value
public import proofs.«01_k».proof.Proof.Gen.ReferenceAct2Ideal.Run
public import proofs.«01_k».proof.Proof.Act2Value
public import proofs.«01_k».proof.Proof.Gen.KernelDxn0.Frame
public import proofs.«01_k».proof.Proof.Gen.KernelDxn0Ideal.Value
public import proofs.«01_k».proof.Proof.Gen.ReferenceDxn0Ideal.Run
public import proofs.«01_k».proof.Proof.Dxn0Value
public import proofs.«01_k».proof.Proof.Gen.KernelDxn1.Frame
public import proofs.«01_k».proof.Proof.Gen.KernelDxn1Ideal.Value
public import proofs.«01_k».proof.Proof.Gen.ReferenceDxn1Ideal.Run
public import proofs.«01_k».proof.Proof.Dxn1Value
public import proofs.«01_k».proof.Proof.Gen.KernelDxn2.Frame
public import proofs.«01_k».proof.Proof.Gen.KernelDxn2Ideal.Value
public import proofs.«01_k».proof.Proof.Gen.ReferenceDxn2Ideal.Run
public import proofs.«01_k».proof.Proof.Dxn2Value
public import proofs.«01_k».proof.Proof.Gen.KernelQkv0.Frame
public import proofs.«01_k».proof.Proof.Gen.KernelQkv0Ideal.Value
public import proofs.«01_k».proof.Proof.Gen.ReferenceQkv0Ideal.Run
public import proofs.«01_k».proof.Proof.Qkv0Value
public import proofs.«01_k».proof.Proof.Gen.KernelOut0.Frame
public import proofs.«01_k».proof.Proof.Gen.KernelOut0Ideal.Value
public import proofs.«01_k».proof.Proof.Gen.ReferenceOut0Ideal.Run
public import proofs.«01_k».proof.Proof.Out0Value
public import proofs.«01_k».proof.Proof.Gen.KernelQkvDx0.Frame
public import proofs.«01_k».proof.Proof.Gen.KernelQkvDx0Ideal.Value
public import proofs.«01_k».proof.Proof.Gen.ReferenceQkvDx0Ideal.Run
public import proofs.«01_k».proof.Proof.QkvDx0Value
public import proofs.«01_k».proof.Proof.Gen.KernelInDx0.Frame
public import proofs.«01_k».proof.Proof.Gen.KernelInDx0Ideal.Value
public import proofs.«01_k».proof.Proof.Gen.ReferenceInDx0Ideal.Run
public import proofs.«01_k».proof.Proof.InDx0Value
public import proofs.«01_k».proof.Proof.Gen.KernelOutDx0.Frame
public import proofs.«01_k».proof.Proof.Gen.KernelOutDx0Ideal.Value
public import proofs.«01_k».proof.Proof.Gen.ReferenceOutDx0Ideal.Run
public import proofs.«01_k».proof.Proof.OutDx0Value
public import Idealize.ShloMosaic.Lib.Claim

@[expose] public section

set_option maxRecDepth 16384

noncomputable section

namespace Cert.Proof

open Idealize.ShloMosaic Idealize.SL.Sem

/-- The reference for the activation gradient of the MLP's first layer leaves its arguments as they were. -/
theorem frame_referenceAct0 : Cert.quiescent_ReferenceAct0Ideal (hReferenceAct0Ideal := Cert.ReferenceAct0Ideal.Gen.facts) :=
  fun m g _ => (θ_run _ _ _).mono (fun _ h => ⟨fun c => (h c).2, funext fun x => nomatch x⟩) (Cert.ReferenceAct0Ideal.Value.run m g)

/-- Kernel and reference compute the same: the activation gradient of the MLP's first layer. -/
theorem algebraicAct0 : Cert.algebraic_KernelAct0Ideal_ReferenceAct0Ideal (hKernelAct0Ideal := Cert.KernelAct0Ideal.Gen.facts)
    (hReferenceAct0Ideal := Cert.ReferenceAct0Ideal.Gen.facts) := by
  pair_intro
  · run_from Cert.KernelAct0Ideal.Value.run_blocks m g
  · run_from Cert.ReferenceAct0Ideal.Value.run m' g'
    exact (Cert.KernelAct0Ideal.Product.final m c).symm

/-- The reference for the activation gradient of the MLP's second layer leaves its arguments as they were. -/
theorem frame_referenceAct1 : Cert.quiescent_ReferenceAct1Ideal (hReferenceAct1Ideal := Cert.ReferenceAct1Ideal.Gen.facts) :=
  fun m g _ => (θ_run _ _ _).mono (fun _ h => ⟨fun c => (h c).2, funext fun x => nomatch x⟩) (Cert.ReferenceAct1Ideal.Value.run m g)

/-- Kernel and reference compute the same: the activation gradient of the MLP's second layer. -/
theorem algebraicAct1 : Cert.algebraic_KernelAct1Ideal_ReferenceAct1Ideal (hKernelAct1Ideal := Cert.KernelAct1Ideal.Gen.facts)
    (hReferenceAct1Ideal := Cert.ReferenceAct1Ideal.Gen.facts) := by
  pair_intro
  · run_from Cert.KernelAct1Ideal.Value.run_blocks m g
  · run_from Cert.ReferenceAct1Ideal.Value.run m' g'
    exact (Cert.KernelAct1Ideal.Product.final m c).symm

/-- The reference for the activation gradient of the MLP's third layer leaves its arguments as they were. -/
theorem frame_referenceAct2 : Cert.quiescent_ReferenceAct2Ideal (hReferenceAct2Ideal := Cert.ReferenceAct2Ideal.Gen.facts) :=
  fun m g _ => (θ_run _ _ _).mono (fun _ h => ⟨fun c => (h c).2, funext fun x => nomatch x⟩) (Cert.ReferenceAct2Ideal.Value.run m g)

/-- Kernel and reference compute the same: the activation gradient of the MLP's third layer. -/
theorem algebraicAct2 : Cert.algebraic_KernelAct2Ideal_ReferenceAct2Ideal (hKernelAct2Ideal := Cert.KernelAct2Ideal.Gen.facts)
    (hReferenceAct2Ideal := Cert.ReferenceAct2Ideal.Gen.facts) := by
  pair_intro
  · run_from Cert.KernelAct2Ideal.Value.run_blocks m g
  · run_from Cert.ReferenceAct2Ideal.Value.run m' g'
    exact (Cert.KernelAct2Ideal.Product.final m c).symm

/-- The reference for the input gradient of the MLP's first layer leaves its arguments as they were. -/
theorem frame_referenceDxn0 : Cert.quiescent_ReferenceDxn0Ideal (hReferenceDxn0Ideal := Cert.ReferenceDxn0Ideal.Gen.facts) :=
  fun m g _ => (θ_run _ _ _).mono (fun _ h => ⟨fun c => (h c).2, funext fun x => nomatch x⟩) (Cert.ReferenceDxn0Ideal.Value.run m g)

/-- Kernel and reference compute the same: the input gradient of the MLP's first layer. -/
theorem algebraicDxn0 : Cert.algebraic_KernelDxn0Ideal_ReferenceDxn0Ideal (hKernelDxn0Ideal := Cert.KernelDxn0Ideal.Gen.facts)
    (hReferenceDxn0Ideal := Cert.ReferenceDxn0Ideal.Gen.facts) := by
  pair_intro
  · run_from Cert.KernelDxn0Ideal.Value.run_blocks m g
  · run_from Cert.ReferenceDxn0Ideal.Value.run m' g'
    exact (Cert.KernelDxn0Ideal.Product.final m c).symm

/-- The reference for the input gradient of the MLP's second layer leaves its arguments as they were. -/
theorem frame_referenceDxn1 : Cert.quiescent_ReferenceDxn1Ideal (hReferenceDxn1Ideal := Cert.ReferenceDxn1Ideal.Gen.facts) :=
  fun m g _ => (θ_run _ _ _).mono (fun _ h => ⟨fun c => (h c).2, funext fun x => nomatch x⟩) (Cert.ReferenceDxn1Ideal.Value.run m g)

/-- Kernel and reference compute the same: the input gradient of the MLP's second layer. -/
theorem algebraicDxn1 : Cert.algebraic_KernelDxn1Ideal_ReferenceDxn1Ideal (hKernelDxn1Ideal := Cert.KernelDxn1Ideal.Gen.facts)
    (hReferenceDxn1Ideal := Cert.ReferenceDxn1Ideal.Gen.facts) := by
  pair_intro
  · run_from Cert.KernelDxn1Ideal.Value.run_blocks m g
  · run_from Cert.ReferenceDxn1Ideal.Value.run m' g'
    exact (Cert.KernelDxn1Ideal.Product.final m c).symm

/-- The reference for the input gradient of the MLP's third layer leaves its arguments as they were. -/
theorem frame_referenceDxn2 : Cert.quiescent_ReferenceDxn2Ideal (hReferenceDxn2Ideal := Cert.ReferenceDxn2Ideal.Gen.facts) :=
  fun m g _ => (θ_run _ _ _).mono (fun _ h => ⟨fun c => (h c).2, funext fun x => nomatch x⟩) (Cert.ReferenceDxn2Ideal.Value.run m g)

/-- Kernel and reference compute the same: the input gradient of the MLP's third layer. -/
theorem algebraicDxn2 : Cert.algebraic_KernelDxn2Ideal_ReferenceDxn2Ideal (hKernelDxn2Ideal := Cert.KernelDxn2Ideal.Gen.facts)
    (hReferenceDxn2Ideal := Cert.ReferenceDxn2Ideal.Gen.facts) := by
  pair_intro
  · run_from Cert.KernelDxn2Ideal.Value.run_blocks m g
  · run_from Cert.ReferenceDxn2Ideal.Value.run m' g'
    exact (Cert.KernelDxn2Ideal.Product.final m c).symm

/-- The reference for the projection to queries, keys and values, at the first layer leaves its arguments as they were. -/
theorem frame_referenceQkv0 : Cert.quiescent_ReferenceQkv0Ideal (hReferenceQkv0Ideal := Cert.ReferenceQkv0Ideal.Gen.facts) :=
  fun m g _ => (θ_run _ _ _).mono (fun _ h => ⟨fun c => (h c).2, funext fun x => nomatch x⟩) (Cert.ReferenceQkv0Ideal.Value.run m g)

/-- Kernel and reference compute the same: the projection to queries, keys and values, at the first layer. -/
theorem algebraicQkv0 : Cert.algebraic_KernelQkv0Ideal_ReferenceQkv0Ideal (hKernelQkv0Ideal := Cert.KernelQkv0Ideal.Gen.facts)
    (hReferenceQkv0Ideal := Cert.ReferenceQkv0Ideal.Gen.facts) := by
  pair_intro
  · run_from Cert.KernelQkv0Ideal.Value.run_blocks m g
  · run_from Cert.ReferenceQkv0Ideal.Value.run m' g'
    exact (Cert.KernelQkv0Ideal.Product.final m c).symm

/-- The reference for the projection out of a mixer, at the first layer leaves its arguments as they were. -/
theorem frame_referenceOut0 : Cert.quiescent_ReferenceOut0Ideal (hReferenceOut0Ideal := Cert.ReferenceOut0Ideal.Gen.facts) :=
  fun m g _ => (θ_run _ _ _).mono (fun _ h => ⟨fun c => (h c).2, funext fun x => nomatch x⟩) (Cert.ReferenceOut0Ideal.Value.run m g)

/-- Kernel and reference compute the same: the projection out of a mixer, at the first layer. -/
theorem algebraicOut0 : Cert.algebraic_KernelOut0Ideal_ReferenceOut0Ideal (hKernelOut0Ideal := Cert.KernelOut0Ideal.Gen.facts)
    (hReferenceOut0Ideal := Cert.ReferenceOut0Ideal.Gen.facts) := by
  pair_intro
  · run_from Cert.KernelOut0Ideal.Value.run_blocks m g
  · run_from Cert.ReferenceOut0Ideal.Value.run m' g'
    exact (Cert.KernelOut0Ideal.Product.final m c).symm

/-- The reference for the input gradient of the projection to queries, keys and values, at the first layer leaves its arguments as they were. -/
theorem frame_referenceQkvDx0 : Cert.quiescent_ReferenceQkvDx0Ideal (hReferenceQkvDx0Ideal := Cert.ReferenceQkvDx0Ideal.Gen.facts) :=
  fun m g _ => (θ_run _ _ _).mono (fun _ h => ⟨fun c => (h c).2, funext fun x => nomatch x⟩) (Cert.ReferenceQkvDx0Ideal.Value.run m g)

/-- Kernel and reference compute the same: the input gradient of the projection to queries, keys and values, at the first layer. -/
theorem algebraicQkvDx0 : Cert.algebraic_KernelQkvDx0Ideal_ReferenceQkvDx0Ideal (hKernelQkvDx0Ideal := Cert.KernelQkvDx0Ideal.Gen.facts)
    (hReferenceQkvDx0Ideal := Cert.ReferenceQkvDx0Ideal.Gen.facts) := by
  pair_intro
  · run_from Cert.KernelQkvDx0Ideal.Value.run_blocks m g
  · run_from Cert.ReferenceQkvDx0Ideal.Value.run m' g'
    exact (Cert.KernelQkvDx0Ideal.Product.final m c).symm

/-- The reference for the input gradient of the projection into the mixer, at the first layer leaves its arguments as they were. -/
theorem frame_referenceInDx0 : Cert.quiescent_ReferenceInDx0Ideal (hReferenceInDx0Ideal := Cert.ReferenceInDx0Ideal.Gen.facts) :=
  fun m g _ => (θ_run _ _ _).mono (fun _ h => ⟨fun c => (h c).2, funext fun x => nomatch x⟩) (Cert.ReferenceInDx0Ideal.Value.run m g)

/-- Kernel and reference compute the same: the input gradient of the projection into the mixer, at the first layer. -/
theorem algebraicInDx0 : Cert.algebraic_KernelInDx0Ideal_ReferenceInDx0Ideal (hKernelInDx0Ideal := Cert.KernelInDx0Ideal.Gen.facts)
    (hReferenceInDx0Ideal := Cert.ReferenceInDx0Ideal.Gen.facts) := by
  pair_intro
  · run_from Cert.KernelInDx0Ideal.Value.run_blocks m g
  · run_from Cert.ReferenceInDx0Ideal.Value.run m' g'
    exact (Cert.KernelInDx0Ideal.Product.final m c).symm

/-- The reference for the input gradient of the projection out of a mixer, at the first layer leaves its arguments as they were. -/
theorem frame_referenceOutDx0 : Cert.quiescent_ReferenceOutDx0Ideal (hReferenceOutDx0Ideal := Cert.ReferenceOutDx0Ideal.Gen.facts) :=
  fun m g _ => (θ_run _ _ _).mono (fun _ h => ⟨fun c => (h c).2, funext fun x => nomatch x⟩) (Cert.ReferenceOutDx0Ideal.Value.run m g)

/-- Kernel and reference compute the same: the input gradient of the projection out of a mixer, at the first layer. -/
theorem algebraicOutDx0 : Cert.algebraic_KernelOutDx0Ideal_ReferenceOutDx0Ideal (hKernelOutDx0Ideal := Cert.KernelOutDx0Ideal.Gen.facts)
    (hReferenceOutDx0Ideal := Cert.ReferenceOutDx0Ideal.Gen.facts) := by
  pair_intro
  · run_from Cert.KernelOutDx0Ideal.Value.run_blocks m g
  · run_from Cert.ReferenceOutDx0Ideal.Value.run m' g'
    exact (Cert.KernelOutDx0Ideal.Product.final m c).symm

end Cert.Proof

end
-- ==== Proof.OptimiserClaims.lean ====
/- What is claimed of the optimiser: its three results for the weights of each shape. -/
module

public import proofs.«01_k».proof.Defs
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Gen.KernelAdamOut.Frame
public import proofs.«01_k».proof.Proof.Gen.KernelAdamOutIdeal.Value
public import proofs.«01_k».proof.Proof.Gen.ReferenceAdamOutIdeal.Run
public import proofs.«01_k».proof.Proof.Gen.KernelAdamGlu.Frame
public import proofs.«01_k».proof.Proof.Gen.KernelAdamGluIdeal.Value
public import proofs.«01_k».proof.Proof.Gen.ReferenceAdamGluIdeal.Run
public import proofs.«01_k».proof.Proof.Gen.KernelAdamQkv.Frame
public import proofs.«01_k».proof.Proof.Gen.KernelAdamQkvIdeal.Value
public import proofs.«01_k».proof.Proof.Gen.ReferenceAdamQkvIdeal.Run
public import proofs.«01_k».proof.Proof.Gen.KernelAdamMlp.Frame
public import proofs.«01_k».proof.Proof.Gen.KernelAdamMlpIdeal.Value
public import proofs.«01_k».proof.Proof.Gen.ReferenceAdamMlpIdeal.Run
public import proofs.«01_k».proof.Proof.Gen.KernelAdamSmall.Frame
public import proofs.«01_k».proof.Proof.Gen.KernelAdamSmallIdeal.Value
public import proofs.«01_k».proof.Proof.Gen.ReferenceAdamSmallIdeal.Run
public import Idealize.ShloMosaic.Lib.Claim

@[expose] public section

set_option maxRecDepth 16384

noncomputable section

namespace Cert.Proof

open Idealize.ShloMosaic Idealize.SL.Sem

/-- The reference for the step of the projection into the mixer leaves its arguments as they were. -/
theorem frame_referenceAdamIn : Cert.quiescent_ReferenceAdamInIdeal (hReferenceAdamInIdeal := Cert.ReferenceAdamInIdeal.Gen.facts) :=
  fun m g _ => (θ_run _ _ _).mono (fun _ h => ⟨fun c => (h c).2.2.2, funext fun x => nomatch x⟩) (Cert.ReferenceAdamInIdeal.Value.run m g)

/-- Kernel and reference compute the same step of the projection into the mixer: entry by entry they are one expression. -/
theorem algebraicAdamIn : Cert.algebraic_KernelAdamInIdeal_ReferenceAdamInIdeal (hKernelAdamInIdeal := Cert.KernelAdamInIdeal.Gen.facts)
    (hReferenceAdamInIdeal := Cert.ReferenceAdamInIdeal.Gen.facts) := by
  pair_intro
  · run_from Cert.KernelAdamInIdeal.Value.run_blocks m g
  · run_from Cert.ReferenceAdamInIdeal.Value.run m' g'
    · rw [Cert.KernelAdamInIdeal.Value.final4]; rfl
    · rw [Cert.KernelAdamInIdeal.Value.final5]; rfl
    · rw [Cert.KernelAdamInIdeal.Value.final6]; rfl

/-- The reference for the step of a projection out of a mixer leaves its arguments as they were. -/
theorem frame_referenceAdamOut : Cert.quiescent_ReferenceAdamOutIdeal (hReferenceAdamOutIdeal := Cert.ReferenceAdamOutIdeal.Gen.facts) :=
  fun m g _ => (θ_run _ _ _).mono (fun _ h => ⟨fun c => (h c).2.2.2, funext fun x => nomatch x⟩) (Cert.ReferenceAdamOutIdeal.Value.run m g)

/-- Kernel and reference compute the same step of a projection out of a mixer: entry by entry they are one expression. -/
theorem algebraicAdamOut : Cert.algebraic_KernelAdamOutIdeal_ReferenceAdamOutIdeal (hKernelAdamOutIdeal := Cert.KernelAdamOutIdeal.Gen.facts)
    (hReferenceAdamOutIdeal := Cert.ReferenceAdamOutIdeal.Gen.facts) := by
  pair_intro
  · run_from Cert.KernelAdamOutIdeal.Value.run_blocks m g
  · run_from Cert.ReferenceAdamOutIdeal.Value.run m' g'
    · rw [Cert.KernelAdamOutIdeal.Value.final4]; rfl
    · rw [Cert.KernelAdamOutIdeal.Value.final5]; rfl
    · rw [Cert.KernelAdamOutIdeal.Value.final6]; rfl

/-- The reference for the step of the gate's product leaves its arguments as they were. -/
theorem frame_referenceAdamGlu : Cert.quiescent_ReferenceAdamGluIdeal (hReferenceAdamGluIdeal := Cert.ReferenceAdamGluIdeal.Gen.facts) :=
  fun m g _ => (θ_run _ _ _).mono (fun _ h => ⟨fun c => (h c).2.2.2, funext fun x => nomatch x⟩) (Cert.ReferenceAdamGluIdeal.Value.run m g)

/-- Kernel and reference compute the same step of the gate's product: entry by entry they are one expression. -/
theorem algebraicAdamGlu : Cert.algebraic_KernelAdamGluIdeal_ReferenceAdamGluIdeal (hKernelAdamGluIdeal := Cert.KernelAdamGluIdeal.Gen.facts)
    (hReferenceAdamGluIdeal := Cert.ReferenceAdamGluIdeal.Gen.facts) := by
  pair_intro
  · run_from Cert.KernelAdamGluIdeal.Value.run_blocks m g
  · run_from Cert.ReferenceAdamGluIdeal.Value.run m' g'
    · rw [Cert.KernelAdamGluIdeal.Value.final4]; rfl
    · rw [Cert.KernelAdamGluIdeal.Value.final5]; rfl
    · rw [Cert.KernelAdamGluIdeal.Value.final6]; rfl

/-- The reference for the step of the projection to queries, keys and values leaves its arguments as they were. -/
theorem frame_referenceAdamQkv : Cert.quiescent_ReferenceAdamQkvIdeal (hReferenceAdamQkvIdeal := Cert.ReferenceAdamQkvIdeal.Gen.facts) :=
  fun m g _ => (θ_run _ _ _).mono (fun _ h => ⟨fun c => (h c).2.2.2, funext fun x => nomatch x⟩) (Cert.ReferenceAdamQkvIdeal.Value.run m g)

/-- Kernel and reference compute the same step of the projection to queries, keys and values: entry by entry they are one expression. -/
theorem algebraicAdamQkv : Cert.algebraic_KernelAdamQkvIdeal_ReferenceAdamQkvIdeal (hKernelAdamQkvIdeal := Cert.KernelAdamQkvIdeal.Gen.facts)
    (hReferenceAdamQkvIdeal := Cert.ReferenceAdamQkvIdeal.Gen.facts) := by
  pair_intro
  · run_from Cert.KernelAdamQkvIdeal.Value.run_blocks m g
  · run_from Cert.ReferenceAdamQkvIdeal.Value.run m' g'
    · rw [Cert.KernelAdamQkvIdeal.Value.final4]; rfl
    · rw [Cert.KernelAdamQkvIdeal.Value.final5]; rfl
    · rw [Cert.KernelAdamQkvIdeal.Value.final6]; rfl

/-- The reference for the step of a matrix of the MLP leaves its arguments as they were. -/
theorem frame_referenceAdamMlp : Cert.quiescent_ReferenceAdamMlpIdeal (hReferenceAdamMlpIdeal := Cert.ReferenceAdamMlpIdeal.Gen.facts) :=
  fun m g _ => (θ_run _ _ _).mono (fun _ h => ⟨fun c => (h c).2.2.2, funext fun x => nomatch x⟩) (Cert.ReferenceAdamMlpIdeal.Value.run m g)

/-- Kernel and reference compute the same step of a matrix of the MLP: entry by entry they are one expression. -/
theorem algebraicAdamMlp : Cert.algebraic_KernelAdamMlpIdeal_ReferenceAdamMlpIdeal (hKernelAdamMlpIdeal := Cert.KernelAdamMlpIdeal.Gen.facts)
    (hReferenceAdamMlpIdeal := Cert.ReferenceAdamMlpIdeal.Gen.facts) := by
  pair_intro
  · run_from Cert.KernelAdamMlpIdeal.Value.run_blocks m g
  · run_from Cert.ReferenceAdamMlpIdeal.Value.run m' g'
    · rw [Cert.KernelAdamMlpIdeal.Value.final4]; rfl
    · rw [Cert.KernelAdamMlpIdeal.Value.final5]; rfl
    · rw [Cert.KernelAdamMlpIdeal.Value.final6]; rfl

/-- The reference for the step of the small weights, packed leaves its arguments as they were. -/
theorem frame_referenceAdamSmall : Cert.quiescent_ReferenceAdamSmallIdeal (hReferenceAdamSmallIdeal := Cert.ReferenceAdamSmallIdeal.Gen.facts) :=
  fun m g _ => (θ_run _ _ _).mono (fun _ h => ⟨fun c => (h c).2.2.2, funext fun x => nomatch x⟩) (Cert.ReferenceAdamSmallIdeal.Value.run m g)

/-- Kernel and reference compute the same step of the small weights, packed: entry by entry they are one expression. -/
theorem algebraicAdamSmall : Cert.algebraic_KernelAdamSmallIdeal_ReferenceAdamSmallIdeal (hKernelAdamSmallIdeal := Cert.KernelAdamSmallIdeal.Gen.facts)
    (hReferenceAdamSmallIdeal := Cert.ReferenceAdamSmallIdeal.Gen.facts) := by
  pair_intro
  · run_from Cert.KernelAdamSmallIdeal.Value.run_blocks m g
  · run_from Cert.ReferenceAdamSmallIdeal.Value.run m' g'
    · rw [Cert.KernelAdamSmallIdeal.Value.final4]; rfl
    · rw [Cert.KernelAdamSmallIdeal.Value.final5]; rfl
    · rw [Cert.KernelAdamSmallIdeal.Value.final6]; rfl

end Cert.Proof

end
-- ==== Proof.NaFinite.lean ====
/- The precondition: every entry of the arguments is a real number. -/
module

public import proofs.«01_k».proof.Pre_finite
public import Idealize.ShloMosaic.PureOps.Ideal
public import Idealize.ShloMosaic.Lib.ReduceAll

@[expose] public section

noncomputable section

namespace Cert.Pre_finite

open Idealize.ShloMosaic

/-- What the predicate states of its shapes. -/
theorem facts : Facts where
  bitsLt_bf16_f32 := by decide
  bcast_S_S8192x6144 := by decide
  reducesTo_S8192x6144_S_d0_1 := by decide
  h_S_ := by decide
  bcast_S_S16x15x31 := by decide
  reducesTo_S16x15x31_S_d0_1_2 := by decide
  bcast_S_S8192x2048 := by decide
  reducesTo_S8192x2048_S_d0_1 := by decide

theorem inf : Ideal.ofBits .f32 0x7F800000#32 = ⊤ := by
  show Ideal.ieee 8 23 (0x7F800000#32 : BitVec 32) = ⊤
  unfold Ideal.ieee
  have e1 : ((0x7F800000#32 : BitVec 32).extractLsb' 23 8).toNat = 2 ^ 8 - 1 := by decide +kernel
  have e2 : ((0x7F800000#32 : BitVec 32).extractLsb' 0 23).toNat = 0 := by decide +kernel
  have e3 : ((0x7F800000#32 : BitVec 32).extractLsb' (8 + 23) 1 == 1#1) = false := by decide +kernel
  simp only [e1, e2, e3, if_true]
  rfl

/-- A number whose absolute value is below infinity is real. -/
theorem real_of (v : EReal) (h : FloatOps.cmpf (F := Ideal) (φ := .f32) .olt (FloatOps.absf (F := Ideal) (φ := .f32) v) (Ideal.ofBits .f32 0x7F800000#32) = 1#1) :
    ∃ r : ℝ, v = (r : EReal) := by
  rw [inf] at h
  induction v using EReal.rec with
  | bot =>
    have h' : Ideal.cmp .olt (max (⊥ : EReal) (-⊥)) ⊤ = 1#1 := h
    simp [Ideal.cmp] at h'
  | coe r => exact ⟨r, rfl⟩
  | top =>
    have h' : Ideal.cmp .olt (max (⊤ : EReal) (-⊤)) ⊤ = 1#1 := h
    simp [Ideal.cmp] at h'

variable [Facts]

theorem reals (X : FVec Ideal S8192x6144 .bf16) (P : FVec Ideal S16x15x31 .f32) (D : FVec Ideal S8192x2048 .f32)
    (h : fn (F := Ideal) X P D = fun _ => 1#1) :
    (∀ i, ∃ r : ℝ, X i = (r : EReal)) ∧ (∀ i, ∃ r : ℝ, P i = (r : EReal)) ∧ (∀ i, ∃ r : ℝ, D i = (r : EReal)) := by
  have h0 := congrFun h (fun a => a.elim0)
  unfold fn at h0
  have hs : Subsingleton S_.Idx := ⟨fun a b => funext fun x => x.elim0⟩
  obtain ⟨h1, h3⟩ := IntOp.andi_eq_one.1 h0
  obtain ⟨h1, h2⟩ := IntOp.andi_eq_one.1 h1
  exact ⟨fun i => real_of _ (Host.reduce_andi_all _ _ _ _ _ h1 i), fun i => real_of _ (Host.reduce_andi_all _ _ _ _ _ h2 i),
    fun i => real_of _ (Host.reduce_andi_all _ _ _ _ _ h3 i)⟩

end Cert.Pre_finite

end

end
-- ==== Proof.NaCase.lean ====
module

public import proofs.«01_k».proof.Proof.Gen.KernelIdeal.Skeleton
public import proofs.«01_k».proof.Proof.Gen.KernelIdeal.Frame

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, in closed form -/

/-- The condition under which the accumulators of `dk` and `dv` are zeroed. -/
abbrev startKV (i : grid0.Coords) : Prop := (Scalar.cmpi .ne (Scalar.extui (Scalar.cmpi .eq (BitVec.ofNat 32 (i 1).val) 0#32)) 0#32) = 1#1

/-- The condition under which the accumulator of the bias gradient is zeroed. -/
abbrev startB (i : grid0.Coords) : Prop := (Scalar.cmpi .ne (Scalar.extui (Scalar.andi (Scalar.cmpi .eq (BitVec.ofNat 32 (i 1).val) 0#32) (Scalar.cmpi .eq (Scalar.select (Scalar.andi (Scalar.xori (Scalar.cmpi .slt (Scalar.remsi (BitVec.ofNat 32 (i 0).val) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (BitVec.ofNat 32 (i 0).val) (Scalar.select (Scalar.cmpi .eq 1#32 0#32) 1#32 1#32)) 0#32)) (Scalar.addi (Scalar.remsi (BitVec.ofNat 32 (i 0).val) (Scalar.select (Scalar.cmpi .eq 1#32 0#32) 1#32 1#32)) (Scalar.select (Scalar.cmpi .eq 1#32 0#32) 1#32 1#32)) (Scalar.remsi (BitVec.ofNat 32 (i 0).val) (Scalar.select (Scalar.cmpi .eq 1#32 0#32) 1#32 1#32))) 0#32))) 0#32) = 1#1

/-- Both accumulations start at the first row block of a head. -/
theorem startKV_iff : ∀ t : Fin cfg0.N, startKV (grid0.coords t) ↔ t.val % 16 = 0 :=
  (by decide +kernel : ∀ t : Fin grid0.N, startKV (grid0.coords t) ↔ t.val % 16 = 0)

theorem startB_iff : ∀ t : Fin cfg0.N, startB (grid0.coords t) ↔ t.val % 16 = 0 :=
  (by decide +kernel : ∀ t : Fin grid0.N, startB (grid0.coords t) ↔ t.val % 16 = 0)

/-! ## The offsets the body computes, in closed form -/

/-- The first row of the 512 keys read for row block `r` of the point: eight rows of the picture around the block's
    own row `8 i₁ + r`, kept inside the picture. -/
theorem keyOff_eq : ∀ (i : grid0.Coords) (r : Fin 8),
    k0_off1 i (BitVec.ofNat 32 r.val) = ![64 * min (8 * (i 1).val + r.val - 4) 120, 0] := by decide +kernel

/-- The row of the bias table read for row block `r`: where the block's row lies among its eight. -/
theorem biasOff_eq : ∀ (i : grid0.Coords) (r : Fin 8),
    k0_off2 i (BitVec.ofNat 32 r.val) = ![0, 8 * (i 1).val + r.val - min (8 * (i 1).val + r.val - 4) 120, 0, 0] := by
  decide +kernel

instance keyOff0 (i : grid0.Coords) : ClosedOff (k0_off1 i 0#32) :=
  ⟨![64 * min (8 * (i 1).val + 0 - 4) 120, 0], keyOff_eq i ⟨0, by decide⟩⟩
instance biasOff0 (i : grid0.Coords) : ClosedOff (k0_off2 i 0#32) :=
  ⟨![0, 8 * (i 1).val + 0 - min (8 * (i 1).val + 0 - 4) 120, 0, 0], biasOff_eq i ⟨0, by decide⟩⟩

instance keyOff1 (i : grid0.Coords) : ClosedOff (k0_off1 i 1#32) :=
  ⟨![64 * min (8 * (i 1).val + 1 - 4) 120, 0], keyOff_eq i ⟨1, by decide⟩⟩
instance biasOff1 (i : grid0.Coords) : ClosedOff (k0_off2 i 1#32) :=
  ⟨![0, 8 * (i 1).val + 1 - min (8 * (i 1).val + 1 - 4) 120, 0, 0], biasOff_eq i ⟨1, by decide⟩⟩

instance keyOff2 (i : grid0.Coords) : ClosedOff (k0_off1 i 2#32) :=
  ⟨![64 * min (8 * (i 1).val + 2 - 4) 120, 0], keyOff_eq i ⟨2, by decide⟩⟩
instance biasOff2 (i : grid0.Coords) : ClosedOff (k0_off2 i 2#32) :=
  ⟨![0, 8 * (i 1).val + 2 - min (8 * (i 1).val + 2 - 4) 120, 0, 0], biasOff_eq i ⟨2, by decide⟩⟩

instance keyOff3 (i : grid0.Coords) : ClosedOff (k0_off1 i 3#32) :=
  ⟨![64 * min (8 * (i 1).val + 3 - 4) 120, 0], keyOff_eq i ⟨3, by decide⟩⟩
instance biasOff3 (i : grid0.Coords) : ClosedOff (k0_off2 i 3#32) :=
  ⟨![0, 8 * (i 1).val + 3 - min (8 * (i 1).val + 3 - 4) 120, 0, 0], biasOff_eq i ⟨3, by decide⟩⟩

instance keyOff4 (i : grid0.Coords) : ClosedOff (k0_off1 i 4#32) :=
  ⟨![64 * min (8 * (i 1).val + 4 - 4) 120, 0], keyOff_eq i ⟨4, by decide⟩⟩
instance biasOff4 (i : grid0.Coords) : ClosedOff (k0_off2 i 4#32) :=
  ⟨![0, 8 * (i 1).val + 4 - min (8 * (i 1).val + 4 - 4) 120, 0, 0], biasOff_eq i ⟨4, by decide⟩⟩

instance keyOff5 (i : grid0.Coords) : ClosedOff (k0_off1 i 5#32) :=
  ⟨![64 * min (8 * (i 1).val + 5 - 4) 120, 0], keyOff_eq i ⟨5, by decide⟩⟩
instance biasOff5 (i : grid0.Coords) : ClosedOff (k0_off2 i 5#32) :=
  ⟨![0, 8 * (i 1).val + 5 - min (8 * (i 1).val + 5 - 4) 120, 0, 0], biasOff_eq i ⟨5, by decide⟩⟩

instance keyOff6 (i : grid0.Coords) : ClosedOff (k0_off1 i 6#32) :=
  ⟨![64 * min (8 * (i 1).val + 6 - 4) 120, 0], keyOff_eq i ⟨6, by decide⟩⟩
instance biasOff6 (i : grid0.Coords) : ClosedOff (k0_off2 i 6#32) :=
  ⟨![0, 8 * (i 1).val + 6 - min (8 * (i 1).val + 6 - 4) 120, 0, 0], biasOff_eq i ⟨6, by decide⟩⟩

instance keyOff7 (i : grid0.Coords) : ClosedOff (k0_off1 i 7#32) :=
  ⟨![64 * min (8 * (i 1).val + 7 - 4) 120, 0], keyOff_eq i ⟨7, by decide⟩⟩
instance biasOff7 (i : grid0.Coords) : ClosedOff (k0_off2 i 7#32) :=
  ⟨![0, 8 * (i 1).val + 7 - min (8 * (i 1).val + 7 - 4) 120, 0, 0], biasOff_eq i ⟨7, by decide⟩⟩

end Cert.KernelIdeal.NaBwd

end
-- ==== Proof.NaRunStart.lean ====
module

public import proofs.«01_k».proof.Proof.NaCase

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first row block of a head: the accumulators are zeroed first, so nothing of what they held is read. -/
def runStart (c : Dev nD) (i : grid0.Coords) (a0 : Memref sig .tc .vmem S512x128 .bf16) (h0 : a0.IsWhole) (a1 : Memref sig .tc .vmem S512x128 .f32) (h1 : a1.IsWhole) (a2 : Memref sig .tc .vmem S512x128 .f32) (h2 : a2.IsWhole) (a3 : Memref sig .tc .vmem S512x128 .bf16) (h3 : a3.IsWhole) (a4 : Memref sig .tc .vmem S8192x128 .bf16) (h4 : a4.IsWhole) (a5 : Memref sig .tc .vmem S8192x128 .bf16) (h5 : a5.IsWhole) (a6 : Memref sig .tc .vmem S1x8x64x512 .f32) (h6 : a6.IsWhole) (a7 : Memref sig .tc .vmem S512x128 .bf16) (h7 : a7.IsWhole) (a8 : Memref sig .tc .vmem S8192x128 .f32) (h8 : a8.IsWhole) (a9 : Memref sig .tc .vmem S8192x128 .f32) (h9 : a9.IsWhole) (a10 : Memref sig .tc .vmem S1x8x64x512 .f32) (h10 : a10.IsWhole) (hc0 : startKV i) (hc1 : startB i)
    (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32)  :
    Σ' (L7 : List (View.Piece (Elt F) S512x128 .bf16)) (L8 : List (View.Piece (Elt F) S8192x128 .f32)) (L9 : List (View.Piece (Elt F) S8192x128 .f32)), { L10 : List (View.Piece (Elt F) S1x8x64x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, owns (c : Thread nD τ) a7 fullShare (a7.view.read (Elt F) (a7.view.writes (Elt F) f L7))) ∗ (∃ f, owns (c : Thread nD τ) a8 fullShare (a8.view.read (Elt F) (a8.view.writes (Elt F) f L8))) ∗ (∃ f, owns (c : Thread nD τ) a9 fullShare (a9.view.read (Elt F) (a9.view.writes (Elt F) f L9))) ∗ (∃ f, owns (c : Thread nD τ) a10 fullShare (a10.view.read (Elt F) (a10.view.writes (Elt F) f L10)))) -∗ K ⟨⟩))
          ⊢ wp frame (wpE (defs₀ (F := F)) Variants.none c none) E (cc0_na_bwd i a0 h0 a1 h1 a2 h2 a3 h3 a4 h4 a5 h5 a6 h6 a7 h7 a8 h8 a9 h9 a10 h10) K } := by
  refine ⟨?_, ?_, ?_, ?_, fun E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.KernelIdeal.NaBwd

end
-- ==== Proof.NaRunStep.lean ====
module

public import proofs.«01_k».proof.Proof.NaCase

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later row block of a head: over the accumulators `y8`, `y9`, `y10` found in the buffers, with the
    pieces each output ends written with. -/
def runStep (c : Dev nD) (i : grid0.Coords) (a0 : Memref sig .tc .vmem S512x128 .bf16) (h0 : a0.IsWhole) (a1 : Memref sig .tc .vmem S512x128 .f32) (h1 : a1.IsWhole) (a2 : Memref sig .tc .vmem S512x128 .f32) (h2 : a2.IsWhole) (a3 : Memref sig .tc .vmem S512x128 .bf16) (h3 : a3.IsWhole) (a4 : Memref sig .tc .vmem S8192x128 .bf16) (h4 : a4.IsWhole) (a5 : Memref sig .tc .vmem S8192x128 .bf16) (h5 : a5.IsWhole) (a6 : Memref sig .tc .vmem S1x8x64x512 .f32) (h6 : a6.IsWhole) (a7 : Memref sig .tc .vmem S512x128 .bf16) (h7 : a7.IsWhole) (a8 : Memref sig .tc .vmem S8192x128 .f32) (h8 : a8.IsWhole) (a9 : Memref sig .tc .vmem S8192x128 .f32) (h9 : a9.IsWhole) (a10 : Memref sig .tc .vmem S1x8x64x512 .f32) (h10 : a10.IsWhole) (hc0 : ¬startKV i) (hc1 : ¬startB i)
    (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y8 : Vec F S8192x128 .f32) (y9 : Vec F S8192x128 .f32) (y10 : Vec F S1x8x64x512 .f32) :
    Σ' (L7 : List (View.Piece (Elt F) S512x128 .bf16)) (L8 : List (View.Piece (Elt F) S8192x128 .f32)) (L9 : List (View.Piece (Elt F) S8192x128 .f32)), { L10 : List (View.Piece (Elt F) S1x8x64x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ owns (c : Thread nD τ) a8 fullShare y8 ∗ owns (c : Thread nD τ) a9 fullShare y9 ∗ owns (c : Thread nD τ) a10 fullShare y10
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, owns (c : Thread nD τ) a7 fullShare (a7.view.read (Elt F) (a7.view.writes (Elt F) f L7))) ∗ owns (c : Thread nD τ) a8 fullShare (a8.view.read (Elt F) (a8.view.writes (Elt F) (h8.unread y8) L8)) ∗ owns (c : Thread nD τ) a9 fullShare (a9.view.read (Elt F) (a9.view.writes (Elt F) (h9.unread y9) L9)) ∗ owns (c : Thread nD τ) a10 fullShare (a10.view.read (Elt F) (a10.view.writes (Elt F) (h10.unread y10) L10))) -∗ K ⟨⟩))
          ⊢ wp frame (wpE (defs₀ (F := F)) Variants.none c none) E (cc0_na_bwd i a0 h0 a1 h1 a2 h2 a3 h3 a4 h4 a5 h5 a6 h6 a7 h7 a8 h8 a9 h9 a10 h10) K } := by
  refine ⟨?_, ?_, ?_, ?_, fun E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h8.eq_unread e8; obtain rfl := h9.eq_unread e9; obtain rfl := h10.eq_unread e10
    sl_exec (disch := first | sl_exact hc0 | sl_exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _, _; isplitr; swap; · iexact H7
      ipureintro; rfl
    isplitl [H8]
    · iexists _; isplitr; swap; · iexact H8
      ipureintro; rfl
    isplitl [H9]
    · iexists _; isplitr; swap; · iexact H9
      ipureintro; rfl
    iexists _; isplitr; swap; · iexact H10
    ipureintro; rfl

end Cert.KernelIdeal.NaBwd

end
-- ==== Proof.NaOuts.lean ====
module

public import proofs.«01_k».proof.Proof.NaRunStart
public import proofs.«01_k».proof.Proof.NaRunStep

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the four outputs -/

variable (c : Dev nD) (i : grid0.Coords) (a0 : Memref sig .tc .vmem S512x128 .bf16) (h0 : a0.IsWhole) (a1 : Memref sig .tc .vmem S512x128 .f32) (h1 : a1.IsWhole) (a2 : Memref sig .tc .vmem S512x128 .f32) (h2 : a2.IsWhole) (a3 : Memref sig .tc .vmem S512x128 .bf16) (h3 : a3.IsWhole) (a4 : Memref sig .tc .vmem S8192x128 .bf16) (h4 : a4.IsWhole) (a5 : Memref sig .tc .vmem S8192x128 .bf16) (h5 : a5.IsWhole) (a6 : Memref sig .tc .vmem S1x8x64x512 .f32) (h6 : a6.IsWhole) (a7 : Memref sig .tc .vmem S512x128 .bf16) (h7 : a7.IsWhole) (a8 : Memref sig .tc .vmem S8192x128 .f32) (h8 : a8.IsWhole) (a9 : Memref sig .tc .vmem S8192x128 .f32) (h9 : a9.IsWhole) (a10 : Memref sig .tc .vmem S1x8x64x512 .f32) (h10 : a10.IsWhole)

/-- The eight stores of 64 rows cover the block of `dq`. -/
theorem coverStart7 (hc0 : startKV i) (hc1 : startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y : S512x128.Idx) :
    ∃ p ∈ (runStart c i a0 h0 a1 h1 a2 h2 a3 h3 a4 h4 a5 h5 a6 h6 a7 h7 a8 h8 a9 h9 a10 h10 hc0 hc1 x0 x1 x2 x3 x4 x5 x6).1, y ∈ p.1.set :=
  View.cover_of_tiledL (runStart c i a0 h0 a1 h1 a2 h2 a3 h3 a4 h4 a5 h5 a6 h6 a7 h7 a8 h8 a9 h9 a10 h10 hc0 hc1 x0 x1 x2 x3 x4 x5 x6).1 S64x128.size (by sl_kernel_rfl) y

theorem coverStep7 (hc0 : ¬startKV i) (hc1 : ¬startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y8 : Vec F S8192x128 .f32) (y9 : Vec F S8192x128 .f32) (y10 : Vec F S1x8x64x512 .f32) (y : S512x128.Idx) :
    ∃ p ∈ (runStep c i a0 h0 a1 h1 a2 h2 a3 h3 a4 h4 a5 h5 a6 h6 a7 h7 a8 h8 a9 h9 a10 h10 hc0 hc1 x0 x1 x2 x3 x4 x5 x6 y8 y9 y10).1, y ∈ p.1.set :=
  View.cover_of_tiledL (runStep c i a0 h0 a1 h1 a2 h2 a3 h3 a4 h4 a5 h5 a6 h6 a7 h7 a8 h8 a9 h9 a10 h10 hc0 hc1 x0 x1 x2 x3 x4 x5 x6 y8 y9 y10).1 S64x128.size (by sl_kernel_rfl) y

/-- At the first row block the zero fill alone covers accumulator 8. -/
theorem coverStart8 (hc0 : startKV i) (hc1 : startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y : S8192x128.Idx) :
    ∃ p ∈ (runStart c i a0 h0 a1 h1 a2 h2 a3 h3 a4 h4 a5 h5 a6 h6 a7 h7 a8 h8 a9 h9 a10 h10 hc0 hc1 x0 x1 x2 x3 x4 x5 x6).2.1, y ∈ p.1.set :=
  View.cover_of_wholeMem (runStart c i a0 h0 a1 h1 a2 h2 a3 h3 a4 h4 a5 h5 a6 h6 a7 h7 a8 h8 a9 h9 a10 h10 hc0 hc1 x0 x1 x2 x3 x4 x5 x6).2.1 (by sl_whole_mem) y

/-- At the first row block the zero fill alone covers accumulator 9. -/
theorem coverStart9 (hc0 : startKV i) (hc1 : startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y : S8192x128.Idx) :
    ∃ p ∈ (runStart c i a0 h0 a1 h1 a2 h2 a3 h3 a4 h4 a5 h5 a6 h6 a7 h7 a8 h8 a9 h9 a10 h10 hc0 hc1 x0 x1 x2 x3 x4 x5 x6).2.2.1, y ∈ p.1.set :=
  View.cover_of_wholeMem (runStart c i a0 h0 a1 h1 a2 h2 a3 h3 a4 h4 a5 h5 a6 h6 a7 h7 a8 h8 a9 h9 a10 h10 hc0 hc1 x0 x1 x2 x3 x4 x5 x6).2.2.1 (by sl_whole_mem) y

/-- At the first row block the zero fill alone covers accumulator 10. -/
theorem coverStart10 (hc0 : startKV i) (hc1 : startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y : S1x8x64x512.Idx) :
    ∃ p ∈ (runStart c i a0 h0 a1 h1 a2 h2 a3 h3 a4 h4 a5 h5 a6 h6 a7 h7 a8 h8 a9 h9 a10 h10 hc0 hc1 x0 x1 x2 x3 x4 x5 x6).2.2.2.1, y ∈ p.1.set :=
  View.cover_of_wholeMem (runStart c i a0 h0 a1 h1 a2 h2 a3 h3 a4 h4 a5 h5 a6 h6 a7 h7 a8 h8 a9 h9 a10 h10 hc0 hc1 x0 x1 x2 x3 x4 x5 x6).2.2.2.1 (by sl_whole_mem) y

/-- The four blocks the first row block of a head leaves. -/
def outStart (hc0 : startKV i) (hc1 : startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) : Vec F S512x128 .bf16 × Vec F S8192x128 .f32 × Vec F S8192x128 .f32 × Vec F S1x8x64x512 .f32 :=
  let R := runStart c i a0 h0 a1 h1 a2 h2 a3 h3 a4 h4 a5 h5 a6 h6 a7 h7 a8 h8 a9 h9 a10 h10 hc0 hc1 x0 x1 x2 x3 x4 x5 x6
  (a7.view.read (Elt F) (a7.view.writes (Elt F) (h7.unread (broadcast S512x128 (Scalar.ofBits .bf16 0#16))) R.1),
    a8.view.read (Elt F) (a8.view.writes (Elt F) (h8.unread (broadcast S8192x128 (Scalar.ofBits .f32 0#32))) R.2.1),
    a9.view.read (Elt F) (a9.view.writes (Elt F) (h9.unread (broadcast S8192x128 (Scalar.ofBits .f32 0#32))) R.2.2.1),
    a10.view.read (Elt F) (a10.view.writes (Elt F) (h10.unread (broadcast S1x8x64x512 (Scalar.ofBits .f32 0#32))) R.2.2.2.1))

/-- The four blocks a later row block leaves, over the accumulators it found. -/
def outStep (hc0 : ¬startKV i) (hc1 : ¬startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y8 : Vec F S8192x128 .f32) (y9 : Vec F S8192x128 .f32) (y10 : Vec F S1x8x64x512 .f32) : Vec F S512x128 .bf16 × Vec F S8192x128 .f32 × Vec F S8192x128 .f32 × Vec F S1x8x64x512 .f32 :=
  let R := runStep c i a0 h0 a1 h1 a2 h2 a3 h3 a4 h4 a5 h5 a6 h6 a7 h7 a8 h8 a9 h9 a10 h10 hc0 hc1 x0 x1 x2 x3 x4 x5 x6 y8 y9 y10
  (a7.view.read (Elt F) (a7.view.writes (Elt F) (h7.unread (broadcast S512x128 (Scalar.ofBits .bf16 0#16))) R.1),
    a8.view.read (Elt F) (a8.view.writes (Elt F) (h8.unread y8) R.2.1),
    a9.view.read (Elt F) (a9.view.writes (Elt F) (h9.unread y9) R.2.2.1),
    a10.view.read (Elt F) (a10.view.writes (Elt F) (h10.unread y10) R.2.2.2.1))

/-- The body's triple with its outputs named. -/
theorem bodyStart (hc0 : startKV i) (hc1 : startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (outStart c i a0 h0 a1 h1 a2 h2 a3 h3 a4 h4 a5 h5 a6 h6 a7 h7 a8 h8 a9 h9 a10 h10 hc0 hc1 x0 x1 x2 x3 x4 x5 x6).1 ∗ owns (c : Thread nD τ) a8 fullShare (outStart c i a0 h0 a1 h1 a2 h2 a3 h3 a4 h4 a5 h5 a6 h6 a7 h7 a8 h8 a9 h9 a10 h10 hc0 hc1 x0 x1 x2 x3 x4 x5 x6).2.1 ∗ owns (c : Thread nD τ) a9 fullShare (outStart c i a0 h0 a1 h1 a2 h2 a3 h3 a4 h4 a5 h5 a6 h6 a7 h7 a8 h8 a9 h9 a10 h10 hc0 hc1 x0 x1 x2 x3 x4 x5 x6).2.2.1 ∗ owns (c : Thread nD τ) a10 fullShare (outStart c i a0 h0 a1 h1 a2 h2 a3 h3 a4 h4 a5 h5 a6 h6 a7 h7 a8 h8 a9 h9 a10 h10 hc0 hc1 x0 x1 x2 x3 x4 x5 x6).2.2.2) -∗ K ⟨⟩))
      ⊢ wp frame (wpE (defs₀ (F := F)) Variants.none c none) E (cc0_na_bwd i a0 h0 a1 h1 a2 h2 a3 h3 a4 h4 a5 h5 a6 h6 a7 h7 a8 h8 a9 h9 a10 h10) K := by
  iintro ⟨H0, H1, H2, H3, H4, H5, H6, H7, H8, H9, H10, Hk⟩
  iapply ((runStart c i a0 h0 a1 h1 a2 h2 a3 h3 a4 h4 a5 h5 a6 h6 a7 h7 a8 h8 a9 h9 a10 h10 hc0 hc1 x0 x1 x2 x3 x4 x5 x6).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%f7, H7⟩, ⟨%f8, H8⟩, ⟨%f9, H9⟩, ⟨%f10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [show a7.view.read (Elt F) (a7.view.writes (Elt F) f7 (runStart c i a0 h0 a1 h1 a2 h2 a3 h3 a4 h4 a5 h5 a6 h6 a7 h7 a8 h8 a9 h9 a10 h10 hc0 hc1 x0 x1 x2 x3 x4 x5 x6).1) = (outStart c i a0 h0 a1 h1 a2 h2 a3 h3 a4 h4 a5 h5 a6 h6 a7 h7 a8 h8 a9 h9 a10 h10 hc0 hc1 x0 x1 x2 x3 x4 x5 x6).1 from
        funext fun y => View.read_writes_apply_eq _ _ _ _ y _ (coverStart7 c i a0 h0 a1 h1 a2 h2 a3 h3 a4 h4 a5 h5 a6 h6 a7 h7 a8 h8 a9 h9 a10 h10 hc0 hc1 x0 x1 x2 x3 x4 x5 x6 y)]
    iexact H7
  isplitl [H8]
  · rw [show a8.view.read (Elt F) (a8.view.writes (Elt F) f8 (runStart c i a0 h0 a1 h1 a2 h2 a3 h3 a4 h4 a5 h5 a6 h6 a7 h7 a8 h8 a9 h9 a10 h10 hc0 hc1 x0 x1 x2 x3 x4 x5 x6).2.1) = (outStart c i a0 h0 a1 h1 a2 h2 a3 h3 a4 h4 a5 h5 a6 h6 a7 h7 a8 h8 a9 h9 a10 h10 hc0 hc1 x0 x1 x2 x3 x4 x5 x6).2.1 from
        funext fun y => View.read_writes_apply_eq _ _ _ _ y _ (coverStart8 c i a0 h0 a1 h1 a2 h2 a3 h3 a4 h4 a5 h5 a6 h6 a7 h7 a8 h8 a9 h9 a10 h10 hc0 hc1 x0 x1 x2 x3 x4 x5 x6 y)]
    iexact H8
  isplitl [H9]
  · rw [show a9.view.read (Elt F) (a9.view.writes (Elt F) f9 (runStart c i a0 h0 a1 h1 a2 h2 a3 h3 a4 h4 a5 h5 a6 h6 a7 h7 a8 h8 a9 h9 a10 h10 hc0 hc1 x0 x1 x2 x3 x4 x5 x6).2.2.1) = (outStart c i a0 h0 a1 h1 a2 h2 a3 h3 a4 h4 a5 h5 a6 h6 a7 h7 a8 h8 a9 h9 a10 h10 hc0 hc1 x0 x1 x2 x3 x4 x5 x6).2.2.1 from
        funext fun y => View.read_writes_apply_eq _ _ _ _ y _ (coverStart9 c i a0 h0 a1 h1 a2 h2 a3 h3 a4 h4 a5 h5 a6 h6 a7 h7 a8 h8 a9 h9 a10 h10 hc0 hc1 x0 x1 x2 x3 x4 x5 x6 y)]
    iexact H9
  rw [show a10.view.read (Elt F) (a10.view.writes (Elt F) f10 (runStart c i a0 h0 a1 h1 a2 h2 a3 h3 a4 h4 a5 h5 a6 h6 a7 h7 a8 h8 a9 h9 a10 h10 hc0 hc1 x0 x1 x2 x3 x4 x5 x6).2.2.2.1) = (outStart c i a0 h0 a1 h1 a2 h2 a3 h3 a4 h4 a5 h5 a6 h6 a7 h7 a8 h8 a9 h9 a10 h10 hc0 hc1 x0 x1 x2 x3 x4 x5 x6).2.2.2 from
        funext fun y => View.read_writes_apply_eq _ _ _ _ y _ (coverStart10 c i a0 h0 a1 h1 a2 h2 a3 h3 a4 h4 a5 h5 a6 h6 a7 h7 a8 h8 a9 h9 a10 h10 hc0 hc1 x0 x1 x2 x3 x4 x5 x6 y)]
  iexact H10

/-- The body's triple with its outputs named. -/
theorem bodyStep (hc0 : ¬startKV i) (hc1 : ¬startB i) (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32) (y8 : Vec F S8192x128 .f32) (y9 : Vec F S8192x128 .f32) (y10 : Vec F S1x8x64x512 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ owns (c : Thread nD τ) a8 fullShare y8 ∗ owns (c : Thread nD τ) a9 fullShare y9 ∗ owns (c : Thread nD τ) a10 fullShare y10 ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (outStep c i a0 h0 a1 h1 a2 h2 a3 h3 a4 h4 a5 h5 a6 h6 a7 h7 a8 h8 a9 h9 a10 h10 hc0 hc1 x0 x1 x2 x3 x4 x5 x6 y8 y9 y10).1 ∗ owns (c : Thread nD τ) a8 fullShare (outStep c i a0 h0 a1 h1 a2 h2 a3 h3 a4 h4 a5 h5 a6 h6 a7 h7 a8 h8 a9 h9 a10 h10 hc0 hc1 x0 x1 x2 x3 x4 x5 x6 y8 y9 y10).2.1 ∗ owns (c : Thread nD τ) a9 fullShare (outStep c i a0 h0 a1 h1 a2 h2 a3 h3 a4 h4 a5 h5 a6 h6 a7 h7 a8 h8 a9 h9 a10 h10 hc0 hc1 x0 x1 x2 x3 x4 x5 x6 y8 y9 y10).2.2.1 ∗ owns (c : Thread nD τ) a10 fullShare (outStep c i a0 h0 a1 h1 a2 h2 a3 h3 a4 h4 a5 h5 a6 h6 a7 h7 a8 h8 a9 h9 a10 h10 hc0 hc1 x0 x1 x2 x3 x4 x5 x6 y8 y9 y10).2.2.2) -∗ K ⟨⟩))
      ⊢ wp frame (wpE (defs₀ (F := F)) Variants.none c none) E (cc0_na_bwd i a0 h0 a1 h1 a2 h2 a3 h3 a4 h4 a5 h5 a6 h6 a7 h7 a8 h8 a9 h9 a10 h10) K := by
  iintro ⟨H0, H1, H2, H3, H4, H5, H6, H7, H8, H9, H10, Hk⟩
  iapply ((runStep c i a0 h0 a1 h1 a2 h2 a3 h3 a4 h4 a5 h5 a6 h6 a7 h7 a8 h8 a9 h9 a10 h10 hc0 hc1 x0 x1 x2 x3 x4 x5 x6 y8 y9 y10).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%f7, H7⟩, H8, H9, H10⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [show a7.view.read (Elt F) (a7.view.writes (Elt F) f7 (runStep c i a0 h0 a1 h1 a2 h2 a3 h3 a4 h4 a5 h5 a6 h6 a7 h7 a8 h8 a9 h9 a10 h10 hc0 hc1 x0 x1 x2 x3 x4 x5 x6 y8 y9 y10).1) = (outStep c i a0 h0 a1 h1 a2 h2 a3 h3 a4 h4 a5 h5 a6 h6 a7 h7 a8 h8 a9 h9 a10 h10 hc0 hc1 x0 x1 x2 x3 x4 x5 x6 y8 y9 y10).1 from
        funext fun y => View.read_writes_apply_eq _ _ _ _ y _ (coverStep7 c i a0 h0 a1 h1 a2 h2 a3 h3 a4 h4 a5 h5 a6 h6 a7 h7 a8 h8 a9 h9 a10 h10 hc0 hc1 x0 x1 x2 x3 x4 x5 x6 y8 y9 y10 y)]
    iexact H7
  isplitl [H8]
  · iexact H8
  isplitl [H9]
  · iexact H9
  iexact H10

end Cert.KernelIdeal.NaBwd

end
-- ==== Proof.NaTiles.lean ====
/- The body of the gradient as eight tiles of one shape: what each stores, and that the stored pieces are these tiles. -/
module

public import proofs.«01_k».proof.Proof.NaOuts
public import Idealize.ShloMosaic.Lib.WindowSumWrites

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL.Sem

variable {F : FTy → Type} [FloatOps F]

/-! ## One tile -/

section Tile

variable (q : Vec F S64x128 .bf16) (d l : Vec F S64x128 .f32) (o : Vec F S64x128 .bf16) (K V : Vec F S512x128 .bf16) (B : Vec F S1x1x64x512 .f32)

/-- The weights of a tile's 64 queries on its 512 keys: the exponential of score minus log-sum. -/
def tileP : FVec F S64x512 .f32 := k0_pay31 (k0_pay5 q K B) l

/-- The gradient of the tile's scores. -/
def tileDs : FVec F S64x512 .f32 := k0_pay45 (k0_pay23 (k0_pay15 d) V) (tileP q l K B) (k0_pay39 d o)

/-- The tile's rows of the queries' gradient. -/
def tileDq : FVec F S64x128 .bf16 := k0_pay56 (tileDs q d l o K V B) K

/-- The tile's window of the keys' gradient, over what it held. -/
def tileDk (acc : Vec F S512x128 .f32) : FVec F S512x128 .f32 := k0_pay57 (tileDs q d l o K V B) q acc

/-- The tile's window of the values' gradient, over what it held. -/
def tileDv (acc : Vec F S512x128 .f32) : FVec F S512x128 .f32 := k0_pay58 (k0_pay15 d) (tileP q l K B) acc

end Tile

/-! ## The windows a tile reads -/

theorem inbRow (r : Fin 8) : ∀ a, (![64 * r.val, 0] : Fin 2 → ℕ) a + (![64, 128] : Fin 2 → ℕ) a ≤ S512x128.size a := by
  revert r; decide

/-- The 64 rows of row block `r`. -/
def rows {e : EltTy} (a : Memref sig .tc .vmem S512x128 e) (h : a.IsWhole) (x : Vec F S512x128 e) (r : Fin 8) : Vec F S64x128 e :=
  a.view.readAt (Elt F) (Rect.unit (s := S512x128) ![64 * r.val, 0] S64x128.size (inbRow r)).toLoadRect (h.unread x)

/-- The 512 keys that row block `r` of the point attends to. -/
def keys {e : EltTy} (a : Memref sig .tc .vmem S8192x128 e) (h : a.IsWhole) (x : Vec F S8192x128 e) (i : grid0.Coords) (r : Fin 8) : Vec F S512x128 e :=
  a.view.readAt (Elt F) (Rect.unit (s := S8192x128) (k0_off1 i (BitVec.ofNat 32 r.val)) S512x128.size (k0_off1_inb i r)).toLoadRect (h.unread x)

/-- The bias of row block `r` of the point. -/
def biasOf (a : Memref sig .tc .vmem S1x8x64x512 .f32) (h : a.IsWhole) (x : Vec F S1x8x64x512 .f32) (i : grid0.Coords) (r : Fin 8) : Vec F S1x1x64x512 .f32 :=
  a.view.readAt (Elt F) (Rect.unit (s := S1x8x64x512) (k0_off2 i (BitVec.ofNat 32 r.val)) S1x1x64x512.size (k0_off2_inb i r)).toLoadRect (h.unread x)

variable (c : Dev nD) (i : grid0.Coords) (a0 : Memref sig .tc .vmem S512x128 .bf16) (h0 : a0.IsWhole) (a1 : Memref sig .tc .vmem S512x128 .f32) (h1 : a1.IsWhole) (a2 : Memref sig .tc .vmem S512x128 .f32) (h2 : a2.IsWhole) (a3 : Memref sig .tc .vmem S512x128 .bf16) (h3 : a3.IsWhole) (a4 : Memref sig .tc .vmem S8192x128 .bf16) (h4 : a4.IsWhole) (a5 : Memref sig .tc .vmem S8192x128 .bf16) (h5 : a5.IsWhole) (a6 : Memref sig .tc .vmem S1x8x64x512 .f32) (h6 : a6.IsWhole) (a7 : Memref sig .tc .vmem S512x128 .bf16) (h7 : a7.IsWhole) (a8 : Memref sig .tc .vmem S8192x128 .f32) (h8 : a8.IsWhole) (a9 : Memref sig .tc .vmem S8192x128 .f32) (h9 : a9.IsWhole) (a10 : Memref sig .tc .vmem S1x8x64x512 .f32) (h10 : a10.IsWhole)

variable (x0 : Vec F S512x128 .bf16) (x1 : Vec F S512x128 .f32) (x2 : Vec F S512x128 .f32) (x3 : Vec F S512x128 .bf16) (x4 : Vec F S8192x128 .bf16) (x5 : Vec F S8192x128 .bf16) (x6 : Vec F S1x8x64x512 .f32)

/-- What row block `r` stores of the queries' gradient. -/
def putDq (r : Fin 8) : FVec F S64x128 .bf16 :=
  tileDq (rows a0 h0 x0 r) (rows a1 h1 x1 r) (rows a2 h2 x2 r) (rows a3 h3 x3 r) (keys a4 h4 x4 i r) (keys a5 h5 x5 i r) (biasOf a6 h6 x6 i r)

/-- What row block `r` stores of the keys' gradient over what its window held. -/
def putDk (r : Fin 8) (acc : Vec F S512x128 .f32) : FVec F S512x128 .f32 :=
  tileDk (rows a0 h0 x0 r) (rows a1 h1 x1 r) (rows a2 h2 x2 r) (rows a3 h3 x3 r) (keys a4 h4 x4 i r) (keys a5 h5 x5 i r) (biasOf a6 h6 x6 i r) acc

/-- What row block `r` stores of the values' gradient over what its window held. -/
def putDv (r : Fin 8) (acc : Vec F S512x128 .f32) : FVec F S512x128 .f32 :=
  tileDv (rows a0 h0 x0 r) (rows a1 h1 x1 r) (rows a2 h2 x2 r) (keys a4 h4 x4 i r) (biasOf a6 h6 x6 i r) acc

/-! ## The stored pieces -/

theorem dqPiecesStart (hc0 : startKV i) (hc1 : startB i) : (runStart c i a0 h0 a1 h1 a2 h2 a3 h3 a4 h4 a5 h5 a6 h6 a7 h7 a8 h8 a9 h9 a10 h10 hc0 hc1 x0 x1 x2 x3 x4 x5 x6).1
    = View.tilePieces (s := S512x128) S64x128.size (fun r : Fin 8 => (![64 * r.val, 0] : Fin 2 → ℕ)) inbRow (fun r => putDq i a0 h0 a1 h1 a2 h2 a3 h3 a4 h4 a5 h5 a6 h6 x0 x1 x2 x3 x4 x5 x6 r) 8 le_rfl := by
  unfold runStart; dsimp only
  sl_unfold_run_names
  rfl

theorem dkPiecesStart (hc0 : startKV i) (hc1 : startB i) : (runStart c i a0 h0 a1 h1 a2 h2 a3 h3 a4 h4 a5 h5 a6 h6 a7 h7 a8 h8 a9 h9 a10 h10 hc0 hc1 x0 x1 x2 x3 x4 x5 x6).2.1
    = View.accPieces (s := S8192x128) a8.view a8.view.junk [⟨Rect.unit (s := S8192x128) ![0, 0] S8192x128.size inb_S8192x128_S8192x128_0_0, k0_pay2⟩] S512x128.size
        (fun r : Fin 8 => k0_off1 i (BitVec.ofNat 32 r.val)) (k0_off1_inb i) (fun r acc => putDk i a0 h0 a1 h1 a2 h2 a3 h3 a4 h4 a5 h5 a6 h6 x0 x1 x2 x3 x4 x5 x6 r acc) 8 le_rfl := by
  unfold runStart; dsimp only
  sl_unfold_run_names
  rfl

theorem dvPiecesStart (hc0 : startKV i) (hc1 : startB i) : (runStart c i a0 h0 a1 h1 a2 h2 a3 h3 a4 h4 a5 h5 a6 h6 a7 h7 a8 h8 a9 h9 a10 h10 hc0 hc1 x0 x1 x2 x3 x4 x5 x6).2.2.1
    = View.accPieces (s := S8192x128) a9.view a9.view.junk [⟨Rect.unit (s := S8192x128) ![0, 0] S8192x128.size inb_S8192x128_S8192x128_0_0, k0_pay3⟩] S512x128.size
        (fun r : Fin 8 => k0_off1 i (BitVec.ofNat 32 r.val)) (k0_off1_inb i) (fun r acc => putDv i a0 h0 a1 h1 a2 h2 a4 h4 a6 h6 x0 x1 x2 x4 x6 r acc) 8 le_rfl := by
  unfold runStart; dsimp only
  sl_unfold_run_names
  rfl

theorem dqPiecesStep (hc0 : ¬startKV i) (hc1 : ¬startB i) (y8 : Vec F S8192x128 .f32) (y9 : Vec F S8192x128 .f32) (y10 : Vec F S1x8x64x512 .f32) : (runStep c i a0 h0 a1 h1 a2 h2 a3 h3 a4 h4 a5 h5 a6 h6 a7 h7 a8 h8 a9 h9 a10 h10 hc0 hc1 x0 x1 x2 x3 x4 x5 x6 y8 y9 y10).1
    = View.tilePieces (s := S512x128) S64x128.size (fun r : Fin 8 => (![64 * r.val, 0] : Fin 2 → ℕ)) inbRow (fun r => putDq i a0 h0 a1 h1 a2 h2 a3 h3 a4 h4 a5 h5 a6 h6 x0 x1 x2 x3 x4 x5 x6 r) 8 le_rfl := by
  unfold runStep; dsimp only
  sl_unfold_run_names
  rfl

theorem dkPiecesStep (hc0 : ¬startKV i) (hc1 : ¬startB i) (y8 : Vec F S8192x128 .f32) (y9 : Vec F S8192x128 .f32) (y10 : Vec F S1x8x64x512 .f32) : (runStep c i a0 h0 a1 h1 a2 h2 a3 h3 a4 h4 a5 h5 a6 h6 a7 h7 a8 h8 a9 h9 a10 h10 hc0 hc1 x0 x1 x2 x3 x4 x5 x6 y8 y9 y10).2.1
    = View.accPieces (s := S8192x128) a8.view (h8.unread y8) [] S512x128.size
        (fun r : Fin 8 => k0_off1 i (BitVec.ofNat 32 r.val)) (k0_off1_inb i) (fun r acc => putDk i a0 h0 a1 h1 a2 h2 a3 h3 a4 h4 a5 h5 a6 h6 x0 x1 x2 x3 x4 x5 x6 r acc) 8 le_rfl := by
  unfold runStep; dsimp only
  sl_unfold_run_names
  rfl

theorem dvPiecesStep (hc0 : ¬startKV i) (hc1 : ¬startB i) (y8 : Vec F S8192x128 .f32) (y9 : Vec F S8192x128 .f32) (y10 : Vec F S1x8x64x512 .f32) : (runStep c i a0 h0 a1 h1 a2 h2 a3 h3 a4 h4 a5 h5 a6 h6 a7 h7 a8 h8 a9 h9 a10 h10 hc0 hc1 x0 x1 x2 x3 x4 x5 x6 y8 y9 y10).2.2.1
    = View.accPieces (s := S8192x128) a9.view (h9.unread y9) [] S512x128.size
        (fun r : Fin 8 => k0_off1 i (BitVec.ofNat 32 r.val)) (k0_off1_inb i) (fun r acc => putDv i a0 h0 a1 h1 a2 h2 a4 h4 a6 h6 x0 x1 x2 x4 x6 r acc) 8 le_rfl := by
  unfold runStep; dsimp only
  sl_unfold_run_names
  rfl

end Cert.KernelIdeal.NaBwd

end
-- ==== Proof.NaTileValue.lean ====
/- What one tile computes, over the reals: its weights, the gradient of its scores, and its three products. -/
module

public import proofs.«01_k».proof.Proof.NaTiles
public import Idealize.ShloMosaic.Lib.Pointwise

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL.Sem

/-! ## The windows -/

section Windows

variable {F : FTy → Type} [FloatOps F]

theorem rows_apply {e : EltTy} (a : Memref sig .tc .vmem S512x128 e) (h : a.IsWhole) (x : Vec F S512x128 e) (r : Fin 8) (p : Fin 64) (k : Fin 128) :
    rows a h x r (ix2 p k) = x (ix2 (⟨64 * r.val + p.val, by omega⟩ : Fin 512) k) := by
  unfold rows
  rw [View.readAt_apply, h.read_unread]
  congr 1
  funext b
  match b with
  | ⟨0, _⟩ => exact Fin.ext (show 64 * r.val + 1 * p.val = _ by rw [one_mul]; rfl)
  | ⟨1, _⟩ => exact Fin.ext (show 0 + 1 * k.val = _ by rw [one_mul, zero_add]; rfl)

/-- The first key row of row block `r` of a point. -/
abbrev keyAt (i : grid0.Coords) (r : Fin 8) : ℕ := 64 * min (8 * (i 1).val + r.val - 4) 120

theorem keyAt_add_lt (i : grid0.Coords) (r : Fin 8) (y : Fin 512) : keyAt i r + y.val < 8192 := by
  unfold keyAt; omega

theorem keys_apply {e : EltTy} (a : Memref sig .tc .vmem S8192x128 e) (h : a.IsWhole) (x : Vec F S8192x128 e) (i : grid0.Coords) (r : Fin 8) (y : Fin 512) (k : Fin 128) :
    keys a h x i r (ix2 y k) = x (ix2 (⟨keyAt i r + y.val, keyAt_add_lt i r y⟩ : Fin 8192) k) := by
  unfold keys
  rw [View.readAt_apply, h.read_unread]
  congr 1
  funext b
  match b with
  | ⟨0, _⟩ =>
    refine Fin.ext ?_
    show k0_off1 i (BitVec.ofNat 32 r.val) 0 + 1 * y.val = _
    rw [keyOff_eq i r, one_mul]; rfl
  | ⟨1, _⟩ =>
    refine Fin.ext ?_
    show k0_off1 i (BitVec.ofNat 32 r.val) 1 + 1 * k.val = _
    rw [keyOff_eq i r, one_mul]; exact zero_add _

theorem biasOf_apply (a : Memref sig .tc .vmem S1x8x64x512 .f32) (h : a.IsWhole) (x : Vec F S1x8x64x512 .f32) (i : grid0.Coords) (r : Fin 8) (p : Fin 64) (y : Fin 512) :
    biasOf a h x i r (ix4 (0 : Fin 1) (0 : Fin 1) p y)
      = x (ix4 (0 : Fin 1) (⟨8 * (i 1).val + r.val - min (8 * (i 1).val + r.val - 4) 120, by have h : (i 1).val < 16 := (i 1).isLt; omega⟩ : Fin 8) p y) := by
  unfold biasOf
  rw [View.readAt_apply, h.read_unread]
  congr 1
  funext b
  match b with
  | ⟨0, _⟩ =>
    refine Fin.ext ?_
    show k0_off2 i (BitVec.ofNat 32 r.val) 0 + 1 * 0 = _
    rw [biasOff_eq i r]; rfl
  | ⟨1, _⟩ =>
    refine Fin.ext ?_
    show k0_off2 i (BitVec.ofNat 32 r.val) 1 + 1 * 0 = _
    rw [biasOff_eq i r]; rfl
  | ⟨2, _⟩ =>
    refine Fin.ext ?_
    show k0_off2 i (BitVec.ofNat 32 r.val) 2 + 1 * p.val = _
    rw [biasOff_eq i r, one_mul]; exact zero_add _
  | ⟨3, _⟩ =>
    refine Fin.ext ?_
    show k0_off2 i (BitVec.ofNat 32 r.val) 3 + 1 * y.val = _
    rw [biasOff_eq i r, one_mul]; exact zero_add _

end Windows

/-! ## The tile at an index -/

variable (q : Vec Ideal S64x128 .bf16) (d l : Vec Ideal S64x128 .f32) (o : Vec Ideal S64x128 .bf16) (K V : Vec Ideal S512x128 .bf16) (B : Vec Ideal S1x1x64x512 .f32)

/-- The factor on the products of queries and keys. -/
abbrev factor : EReal := Ideal.ofBits .f32 0x3DB504F3#32

theorem tileP_apply (p : Fin 64) (y : Fin 512) : tileP q l K B (ix2 p y)
    = Ideal.exp ((∑ k : Fin 128, q (ix2 p k) * K (ix2 y k)) * factor + B (ix4 (0 : Fin 1) (0 : Fin 1) p y) - l (ix2 p (0 : Fin 128))) := by
  pointwise [tileP, k0_pay5, k0_pay31]

theorem tileDs_apply (p : Fin 64) (y : Fin 512) : tileDs q d l o K V B (ix2 p y)
    = tileP q l K B (ix2 p y) * ((∑ k : Fin 128, d (ix2 p k) * V (ix2 y k)) - ∑ k : Fin 128, d (ix2 p k) * o (ix2 p k)) := by
  pointwise [tileDs, k0_pay45, k0_pay23, k0_pay15, k0_pay39]

theorem tileDq_apply (p : Fin 64) (k : Fin 128) : tileDq q d l o K V B (ix2 p k)
    = (∑ y : Fin 512, tileDs q d l o K V B (ix2 p y) * K (ix2 y k)) * factor := by
  pointwise [tileDq, k0_pay56, k0_pay55]

theorem tileDk_apply (acc : Vec Ideal S512x128 .f32) (y : Fin 512) (k : Fin 128) : tileDk q d l o K V B acc (ix2 y k)
    = acc (ix2 y k) + (∑ p : Fin 64, tileDs q d l o K V B (ix2 p y) * q (ix2 p k)) * factor := by
  pointwise [tileDk, k0_pay57, k0_pay55]

theorem tileDv_apply (acc : Vec Ideal S512x128 .f32) (y : Fin 512) (k : Fin 128) : tileDv q d l K B acc (ix2 y k)
    = acc (ix2 y k) + ∑ p : Fin 64, tileP q l K B (ix2 p y) * d (ix2 p k) := by
  pointwise [tileDv, k0_pay58, k0_pay15]

end Cert.KernelIdeal.NaBwd

end
-- ==== Proof.NaFrame.lean ====
module

public import proofs.«01_k».proof.Proof.NaOuts
public import Idealize.ShloMosaic.Lib.Claim

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev st0 (t : Fin cfg0.N) : Memref sig .tc .vmem S512x128 .bf16 := win0_0.stage (cfg0.slots t 0)
abbrev wh0 (t : Fin cfg0.N) : (st0 t).IsWhole := hstage0_0 ((cfg0.slots t 0).cast nbuf0_0)
abbrev st1 (t : Fin cfg0.N) : Memref sig .tc .vmem S512x128 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S512x128 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S512x128 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S8192x128 .bf16 := win0_4.stage (cfg0.slots t 4)
abbrev wh4 (t : Fin cfg0.N) : (st4 t).IsWhole := hstage0_4 ((cfg0.slots t 4).cast nbuf0_4)
abbrev st5 (t : Fin cfg0.N) : Memref sig .tc .vmem S8192x128 .bf16 := win0_5.stage (cfg0.slots t 5)
abbrev wh5 (t : Fin cfg0.N) : (st5 t).IsWhole := hstage0_5 ((cfg0.slots t 5).cast nbuf0_5)
abbrev st6 (t : Fin cfg0.N) : Memref sig .tc .vmem S1x8x64x512 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S512x128 .bf16 := win0_7.stage (cfg0.slots t 7)
abbrev wh7 (t : Fin cfg0.N) : (st7 t).IsWhole := hstage0_7 ((cfg0.slots t 7).cast nbuf0_7)
abbrev st8 (t : Fin cfg0.N) : Memref sig .tc .vmem S8192x128 .f32 := win0_8.stage (cfg0.slots t 8)
abbrev wh8 (t : Fin cfg0.N) : (st8 t).IsWhole := hstage0_8 ((cfg0.slots t 8).cast nbuf0_8)
abbrev st9 (t : Fin cfg0.N) : Memref sig .tc .vmem S8192x128 .f32 := win0_9.stage (cfg0.slots t 9)
abbrev wh9 (t : Fin cfg0.N) : (st9 t).IsWhole := hstage0_9 ((cfg0.slots t 9).cast nbuf0_9)
abbrev st10 (t : Fin cfg0.N) : Memref sig .tc .vmem S1x8x64x512 .f32 := win0_10.stage (cfg0.slots t 10)
abbrev wh10 (t : Fin cfg0.N) : (st10 t).IsWhole := hstage0_10 ((cfg0.slots t 10).cast nbuf0_10)

/-! ## What the buffers hold after each point -/

/-- The outputs after a point that opens a head, -/
def opened (c : Dev nD) (t : Fin cfg0.N) (h : t.val % 16 = 0) : Vec F S512x128 .bf16 × Vec F S8192x128 .f32 × Vec F S8192x128 .f32 × Vec F S1x8x64x512 .f32 :=
  outStart c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) ((startKV_iff t).mpr h) ((startB_iff t).mpr h) (iblk m c 0 t) (iblk m c 1 t) (iblk m c 2 t) (iblk m c 3 t) (iblk m c 4 t) (iblk m c 5 t) (iblk m c 6 t)

/-- and after one that goes on with it, over what the point before left. -/
def advanced (c : Dev nD) (t : Fin cfg0.N) (h : ¬t.val % 16 = 0) (p : Vec F S512x128 .bf16 × Vec F S8192x128 .f32 × Vec F S8192x128 .f32 × Vec F S1x8x64x512 .f32) : Vec F S512x128 .bf16 × Vec F S8192x128 .f32 × Vec F S8192x128 .f32 × Vec F S1x8x64x512 .f32 :=
  outStep c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (fun hc => h ((startKV_iff t).mp hc)) (fun hc => h ((startB_iff t).mp hc)) (iblk m c 0 t) (iblk m c 1 t) (iblk m c 2 t) (iblk m c 3 t) (iblk m c 4 t) (iblk m c 5 t) (iblk m c 6 t)
    p.2.1 p.2.2.1 p.2.2.2

/-- The outputs after point `n`. -/
def held (c : Dev nD) : (n : ℕ) → n < cfg0.N → Vec F S512x128 .bf16 × Vec F S8192x128 .f32 × Vec F S8192x128 .f32 × Vec F S1x8x64x512 .f32
  | 0, h => opened m c ⟨0, h⟩ rfl
  | n + 1, h =>
    if h0 : (n + 1) % 16 = 0 then opened m c ⟨n + 1, h⟩ h0
    else advanced m c ⟨n + 1, h⟩ h0 (held c n (Nat.lt_of_succ_lt h))

theorem held_opened (c : Dev nD) (t : Fin cfg0.N) (h : t.val % 16 = 0) : held m c t.val t.isLt = opened m c t h := by
  obtain ⟨n, hn⟩ := t
  cases n with
  | zero => rfl
  | succ n => exact dif_pos h

theorem held_advanced (c : Dev nD) (t : Fin cfg0.N) (h : ¬t.val % 16 = 0) :
    held m c t.val t.isLt = advanced m c t h (held m c (t.val - 1) (Nat.lt_of_le_of_lt (Nat.sub_le _ _) t.isLt)) := by
  obtain ⟨n, hn⟩ := t
  cases n with
  | zero => exact absurd rfl h
  | succ n => exact dif_neg h

/-! ## The pipeline's data -/

/-- The arrays as the region finds them; after a point each input's buffer at its block and the outputs' at `held`; the
    `q`, `k` and `v` windows share one array, each at its share of it. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (held m c t.val t.isLt).1
    | ⟨8, _⟩ => (held m c t.val t.isLt).2.1
    | ⟨9, _⟩ => (held m c t.val t.isLt).2.2.1
    | ⟨10, _⟩ => (held m c t.val t.isLt).2.2.2
  Φ _ := Pipeline.ΦA spec0 c
  q w := Pipeline.shareOf spec0 w
  owed _ := 0

theorem dat_A (c : Dev nD) (w : Fin cfg0.W) : (dat m 0 c).A w = V m c (Pipeline.arrRef spec0 w) := by
  dsimp only [dat]

theorem left0 (c : Dev nD) (t : Fin cfg0.N) : (dat m 0 c).after 0 t = iblk m c 0 t := by dsimp only [dat]
theorem left1 (c : Dev nD) (t : Fin cfg0.N) : (dat m 0 c).after 1 t = iblk m c 1 t := by dsimp only [dat]
theorem left2 (c : Dev nD) (t : Fin cfg0.N) : (dat m 0 c).after 2 t = iblk m c 2 t := by dsimp only [dat]
theorem left3 (c : Dev nD) (t : Fin cfg0.N) : (dat m 0 c).after 3 t = iblk m c 3 t := by dsimp only [dat]
theorem left4 (c : Dev nD) (t : Fin cfg0.N) : (dat m 0 c).after 4 t = iblk m c 4 t := by dsimp only [dat]
theorem left5 (c : Dev nD) (t : Fin cfg0.N) : (dat m 0 c).after 5 t = iblk m c 5 t := by dsimp only [dat]
theorem left6 (c : Dev nD) (t : Fin cfg0.N) : (dat m 0 c).after 6 t = iblk m c 6 t := by dsimp only [dat]
theorem left7 (c : Dev nD) (t : Fin cfg0.N) : (dat m 0 c).after 7 t = (held m c t.val t.isLt).1 := by dsimp only [dat]
theorem left8 (c : Dev nD) (t : Fin cfg0.N) : (dat m 0 c).after 8 t = (held m c t.val t.isLt).2.1 := by dsimp only [dat]
theorem left9 (c : Dev nD) (t : Fin cfg0.N) : (dat m 0 c).after 9 t = (held m c t.val t.isLt).2.2.1 := by dsimp only [dat]
theorem left10 (c : Dev nD) (t : Fin cfg0.N) : (dat m 0 c).after 10 t = (held m c t.val t.isLt).2.2.2 := by dsimp only [dat]

/-! An input's buffer holds its block when the body starts. -/

theorem found0 (c : Dev nD) (t : Fin cfg0.N) (d) : (dat m 0 c).before 0 t d = iblk m c 0 t :=
  before0_0_of m (dat m 0 c) (dat_A m c 0) (left0 m c) t d
theorem found1 (c : Dev nD) (t : Fin cfg0.N) (d) : (dat m 0 c).before 1 t d = iblk m c 1 t :=
  before0_1_of m (dat m 0 c) (dat_A m c 1) (left1 m c) t d
theorem found2 (c : Dev nD) (t : Fin cfg0.N) (d) : (dat m 0 c).before 2 t d = iblk m c 2 t :=
  before0_2_of m (dat m 0 c) (dat_A m c 2) (left2 m c) t d
theorem found3 (c : Dev nD) (t : Fin cfg0.N) (d) : (dat m 0 c).before 3 t d = iblk m c 3 t :=
  before0_3_of m (dat m 0 c) (dat_A m c 3) (left3 m c) t d
theorem found4 (c : Dev nD) (t : Fin cfg0.N) (d) : (dat m 0 c).before 4 t d = iblk m c 4 t :=
  before0_4_of m (dat m 0 c) (dat_A m c 4) (left4 m c) t d
theorem found5 (c : Dev nD) (t : Fin cfg0.N) (d) : (dat m 0 c).before 5 t d = iblk m c 5 t :=
  before0_5_of m (dat m 0 c) (dat_A m c 5) (left5 m c) t d
theorem found6 (c : Dev nD) (t : Fin cfg0.N) (d) : (dat m 0 c).before 6 t d = iblk m c 6 t :=
  before0_6_of m (dat m 0 c) (dat_A m c 6) (left6 m c) t d

/-! Inside a head an accumulator's buffer holds what the point before left. -/

theorem found8 (c : Dev nD) (t : Fin cfg0.N) (h : ¬t.val % 16 = 0) (d) :
    (dat m 0 c).before 8 t d = (held m c (t.val - 1) (Nat.lt_of_le_of_lt (Nat.sub_le _ _) t.isLt)).2.1 := by
  have hN : t.val < 256 := lt_of_lt_of_eq t.isLt N_0
  rw [Dat.before_out_kept _ 8 rfl t (by omega)
    (Bool.eq_false_iff.mpr fun hf => by have := (flush0_8 _).mp hf; dsimp only at this; omega)
    (fun _ => rfl) (fun _ _ => rfl)]
  dsimp only [dat]

theorem found9 (c : Dev nD) (t : Fin cfg0.N) (h : ¬t.val % 16 = 0) (d) :
    (dat m 0 c).before 9 t d = (held m c (t.val - 1) (Nat.lt_of_le_of_lt (Nat.sub_le _ _) t.isLt)).2.2.1 := by
  have hN : t.val < 256 := lt_of_lt_of_eq t.isLt N_0
  rw [Dat.before_out_kept _ 9 rfl t (by omega)
    (Bool.eq_false_iff.mpr fun hf => by have := (flush0_9 _).mp hf; dsimp only at this; omega)
    (fun _ => rfl) (fun _ _ => rfl)]
  dsimp only [dat]

theorem found10 (c : Dev nD) (t : Fin cfg0.N) (h : ¬t.val % 16 = 0) (d) :
    (dat m 0 c).before 10 t d = (held m c (t.val - 1) (Nat.lt_of_le_of_lt (Nat.sub_le _ _) t.isLt)).2.2.2 := by
  have hN : t.val < 256 := lt_of_lt_of_eq t.isLt N_0
  rw [Dat.before_out_kept _ 10 rfl t (by omega)
    (Bool.eq_false_iff.mpr fun hf => by have := (flush0_10 _).mp hf; dsimp only at this; omega)
    (fun _ => rfl) (fun _ _ => rfl)]
  dsimp only [dat]

/-! ## The body at a point -/

/-- What the body is given at point `t`, -/
def given (c : Dev nD) (t : Fin cfg0.N) : sProp 𝕄 :=
  iprop((dat m 0 c).Φ t.castSucc ∗ (dat m 0 c).owesAt () t.castSucc
    ∗ (∃ d, owns (c : Thread nD τ) (st0 t) fullShare ((dat m 0 c).before 0 t d))
    ∗ (∃ d, owns (c : Thread nD τ) (st1 t) fullShare ((dat m 0 c).before 1 t d))
    ∗ (∃ d, owns (c : Thread nD τ) (st2 t) fullShare ((dat m 0 c).before 2 t d))
    ∗ (∃ d, owns (c : Thread nD τ) (st3 t) fullShare ((dat m 0 c).before 3 t d))
    ∗ (∃ d, owns (c : Thread nD τ) (st4 t) fullShare ((dat m 0 c).before 4 t d))
    ∗ (∃ d, owns (c : Thread nD τ) (st5 t) fullShare ((dat m 0 c).before 5 t d))
    ∗ (∃ d, owns (c : Thread nD τ) (st6 t) fullShare ((dat m 0 c).before 6 t d))
    ∗ (∃ d, owns (c : Thread nD τ) (st7 t) fullShare ((dat m 0 c).before 7 t d))
    ∗ (∃ d, owns (c : Thread nD τ) (st8 t) fullShare ((dat m 0 c).before 8 t d))
    ∗ (∃ d, owns (c : Thread nD τ) (st9 t) fullShare ((dat m 0 c).before 9 t d))
    ∗ (∃ d, owns (c : Thread nD τ) (st10 t) fullShare ((dat m 0 c).before 10 t d)))

/-- and what it hands back. -/
def handed (c : Dev nD) (t : Fin cfg0.N) : sProp 𝕄 :=
  iprop((dat m 0 c).Φ t.succ ∗ (dat m 0 c).owesAt () t.succ
    ∗ owns (c : Thread nD τ) (st0 t) fullShare ((dat m 0 c).after 0 t)
    ∗ owns (c : Thread nD τ) (st1 t) fullShare ((dat m 0 c).after 1 t)
    ∗ owns (c : Thread nD τ) (st2 t) fullShare ((dat m 0 c).after 2 t)
    ∗ owns (c : Thread nD τ) (st3 t) fullShare ((dat m 0 c).after 3 t)
    ∗ owns (c : Thread nD τ) (st4 t) fullShare ((dat m 0 c).after 4 t)
    ∗ owns (c : Thread nD τ) (st5 t) fullShare ((dat m 0 c).after 5 t)
    ∗ owns (c : Thread nD τ) (st6 t) fullShare ((dat m 0 c).after 6 t)
    ∗ owns (c : Thread nD τ) (st7 t) fullShare ((dat m 0 c).after 7 t)
    ∗ owns (c : Thread nD τ) (st8 t) fullShare ((dat m 0 c).after 8 t)
    ∗ owns (c : Thread nD τ) (st9 t) fullShare ((dat m 0 c).after 9 t)
    ∗ owns (c : Thread nD τ) (st10 t) fullShare ((dat m 0 c).after 10 t))

set_option maxHeartbeats 1600000 in
/-- The body at any point, by whether the point opens a head. -/
theorem body_at (c : Dev nD) (t : Fin cfg0.N) :
    given m c t ⊢ wp frame (wpE (defs₀ (F := F)) Variants.none c none) Set.univ (bodyAt0 t) (fun _ => handed m c t) := by
  unfold given handed bodyAt0
  simp only [found0, found1, found2, found3, found4, found5, found6]
  rw [show (dat m 0 c).Φ t.succ = (dat m 0 c).Φ t.castSucc from rfl,
    show (dat m 0 c).owesAt () t.succ = (dat m 0 c).owesAt () t.castSucc from rfl,
    left0, left1, left2, left3, left4, left5, left6, left7, left8, left9, left10]
  by_cases h : t.val % 16 = 0
  · rw [held_opened m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyStart c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) ((startKV_iff t).mpr h) ((startB_iff t).mpr h) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [held_advanced m c t h]
    simp only [found8 m c t h, found9 m c t h, found10 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyStep c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (fun hc => h ((startKV_iff t).mp hc)) (fun hc => h ((startB_iff t).mp hc)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row_at (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row_at]
  exact triple_restated (body_at m c t) rfl .rfl fun _ => .rfl

/-! ## The whole program -/

set_option backward.isDefEq.respectTransparency.types false in
/-- Every run ends with each array the pipeline stages at its data's final contents, every other array as the host part
    left it, and every semaphore counter at zero. -/
theorem run_quiet : θ_run defs (onTc (τ := τ) (main (F := F))) (s₀ m ρ)
    (fun r => Pipeline.FramePost cfgs (dat m) 0 (V m) r ∧ r.2.sem = fun _ => 0) :=
  Pipeline.θ_run_frame_shared (Q' := _) cfgs (dat m) (0 : Fin 1) launch₀0 defs₀ Variants.none m ρ main
    (hbody := fun c => (obligation m c).loose) (hq := fun _ _ _ => rfl)
    (howed := fun _ _ => rfl) (V := V m) (hmain := hmain m Variants.none) (hA := dat_A m) (hΦ := fun _ _ => rfl)

theorem run : θ_run defs (onTc (τ := τ) (main (F := F))) (s₀ m ρ) (Pipeline.FramePost cfgs (dat m) 0 (V m)) :=
  (θ_run defs _ _).mono (fun _ h => h.1) (run_quiet m ρ)

/-- The frame: the argument arrays end as they were and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dat m) (dat_A m) (run m ρ)) ((θ_run defs _ _).mono (fun _ h => h.2) (run_quiet m ρ))

end Cert.KernelIdeal.NaBwd

end
-- ==== Proof.NaHeads.lean ====
/- What the points of a head compute, in terms of the arrays the call finds: head `h`, row `R` of the picture, column `p`,
   key `y` of the row's 512 keys, feature `k`. -/
module

public import proofs.«01_k».proof.Proof.NaTileValue
public import proofs.«01_k».proof.Proof.NaFrame
public import Idealize.ShloMosaic.Lib.Pipeline.ValueKit

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL.Sem
open Idealize.ShloMosaic.Pipeline (Dat)

/-! ## Places -/

/-- The token of column `p` of row `R`. -/
abbrev tok (R : Fin 128) (p : Fin 64) : Fin 8192 := ⟨64 * R.val + p.val, by omega⟩

/-- The first of the eight rows whose tokens row `R` attends to. -/
abbrev startRow (R : Fin 128) : ℕ := min (R.val - 4) 120

/-- The token that is key `y` of row `R`. -/
abbrev keyTok (R : Fin 128) (y : Fin 512) : Fin 8192 := ⟨64 * startRow R + y.val, by unfold startRow; omega⟩

/-- Where row `R` lies among its eight. -/
abbrev place (R : Fin 128) : Fin 8 := ⟨R.val - startRow R, by unfold startRow; omega⟩

/-- Feature `k` of head `h`, -/
abbrev feat (h : Fin 16) (k : Fin 128) : Fin 2048 := ⟨128 * h.val + k.val, by omega⟩
/-- in the queries' part, -/
abbrev qFeat (h : Fin 16) (k : Fin 128) : Fin 6144 := ⟨128 * h.val + k.val, by omega⟩
/-- in the keys' part -/
abbrev kFeat (h : Fin 16) (k : Fin 128) : Fin 6144 := ⟨2048 + (128 * h.val + k.val), by omega⟩
/-- and in the values' part of the packed array. -/
abbrev vFeat (h : Fin 16) (k : Fin 128) : Fin 6144 := ⟨4096 + (128 * h.val + k.val), by omega⟩

/-! ## A head's gradient over any arrays -/

section Head

variable (X : FVec Ideal S8192x6144 .bf16) (D L : FVec Ideal S8192x2048 .f32) (O : FVec Ideal S8192x2048 .bf16) (B : FVec Ideal S16x8x64x512 .f32)
variable (h : Fin 16) (R : Fin 128)

/-- The weight of key `y` for the query at column `p`. -/
def weight (p : Fin 64) (y : Fin 512) : EReal :=
  Ideal.exp ((∑ k : Fin 128, X (ix2 (tok R p) (qFeat h k)) * X (ix2 (keyTok R y) (kFeat h k))) * factor + B (ix4 h (place R) p y)
    - L (ix2 (tok R p) (feat h 0)))

/-- The gradient of that score. -/
def dScore (p : Fin 64) (y : Fin 512) : EReal :=
  weight X L B h R p y * ((∑ k : Fin 128, D (ix2 (tok R p) (feat h k)) * X (ix2 (keyTok R y) (vFeat h k)))
    - ∑ k : Fin 128, D (ix2 (tok R p) (feat h k)) * O (ix2 (tok R p) (feat h k)))

/-- The gradient of the query at column `p`. -/
def dQuery (p : Fin 64) (k : Fin 128) : EReal :=
  (∑ y : Fin 512, dScore X D L O B h R p y * X (ix2 (keyTok R y) (kFeat h k))) * factor

/-- What row `R` adds to the gradient of its key `y`, -/
def dKey (y : Fin 512) (k : Fin 128) : EReal :=
  (∑ p : Fin 64, dScore X D L O B h R p y * X (ix2 (tok R p) (qFeat h k))) * factor

/-- and to the gradient of its value `y`. -/
def dValue (y : Fin 512) (k : Fin 128) : EReal :=
  ∑ p : Fin 64, weight X L B h R p y * D (ix2 (tok R p) (feat h k))

end Head

/-! ## The points -/

/-- The head of point `t`, -/
abbrev headOf (t : Fin cfg0.N) : Fin 16 := ⟨t.val / 16, by have h : t.val < 256 := lt_of_lt_of_eq t.isLt N_0; omega⟩
/-- and row `r` of its eight rows. -/
abbrev rowOf (t : Fin cfg0.N) (r : Fin 8) : Fin 128 := ⟨8 * (t.val % 16) + r.val, by omega⟩

theorem coord (t : Fin cfg0.N) : (grid0.coords t 1).val = t.val % 16 :=
  (by decide +kernel : ∀ t : Fin grid0.N, (grid0.coords t 1).val = t.val % 16) t

theorem idx : ∀ t : Fin cfg0.N, win0_0.index t = ![t.val % 16, t.val / 16] ∧ win0_1.index t = ![t.val % 16, t.val / 16]
    ∧ win0_2.index t = ![t.val % 16, t.val / 16] ∧ win0_3.index t = ![t.val % 16, t.val / 16]
    ∧ win0_4.index t = ![0, 16 + t.val / 16] ∧ win0_5.index t = ![0, 32 + t.val / 16]
    ∧ win0_6.index t = ![t.val / 16, 0, 0, 0] ∧ win0_7.index t = ![t.val % 16, t.val / 16]
    ∧ win0_8.index t = ![0, t.val / 16] ∧ win0_9.index t = ![0, t.val / 16] :=
  (by decide +kernel : ∀ t : Fin grid0.N, _)

variable (m : (ℓ : Loc nD τ sig) → Buf (Elt Ideal) ℓ) (c : Dev nD) (t : Fin cfg0.N) (r : Fin 8)

theorem block0 (w : Fin 512) (k : Fin 128) : iblk m c 0 t (ix2 w k) = V m c main_arg0 (ix2 (⟨512 * (t.val % 16) + w.val, by omega⟩ : Fin 8192) (qFeat (headOf t) k)) := by
  blk_point [iblk, idx t]

theorem block1 (w : Fin 512) (k : Fin 128) : iblk m c 1 t (ix2 w k) = V m c main_arg2 (ix2 (⟨512 * (t.val % 16) + w.val, by omega⟩ : Fin 8192) (feat (headOf t) k)) := by
  blk_point [iblk, idx t]

theorem read2 (A : FVec Ideal S8192x2048 .f32) (w : Fin 512) (k : Fin 128) :
    ((cfg0.win 2).blk t).view.read (Elt Ideal) A (ix2 w k) = A (ix2 (⟨512 * (t.val % 16) + w.val, by omega⟩ : Fin 8192) (feat (headOf t) k)) := by
  blk_point [idx t]

theorem block2 (w : Fin 512) (k : Fin 128) : iblk m c 2 t (ix2 w k) = V m c main_v117 (ix2 (⟨512 * (t.val % 16) + w.val, by omega⟩ : Fin 8192) (feat (headOf t) k)) :=
  read2 t (V m c main_v117) w k

theorem read3 (A : FVec Ideal S8192x2048 .bf16) (w : Fin 512) (k : Fin 128) :
    ((cfg0.win 3).blk t).view.read (Elt Ideal) A (ix2 w k) = A (ix2 (⟨512 * (t.val % 16) + w.val, by omega⟩ : Fin 8192) (feat (headOf t) k)) := by
  blk_point [idx t]

theorem block3 (w : Fin 512) (k : Fin 128) : iblk m c 3 t (ix2 w k) = V m c main_v115 (ix2 (⟨512 * (t.val % 16) + w.val, by omega⟩ : Fin 8192) (feat (headOf t) k)) :=
  read3 t (V m c main_v115) w k

theorem block4 (w : Fin 8192) (k : Fin 128) : iblk m c 4 t (ix2 w k) = V m c main_arg0 (ix2 w (kFeat (headOf t) k)) := by
  blk_point [iblk, idx t]

theorem block5 (w : Fin 8192) (k : Fin 128) : iblk m c 5 t (ix2 w k) = V m c main_arg0 (ix2 w (vFeat (headOf t) k)) := by
  blk_point [iblk, idx t]

theorem read6 (A : FVec Ideal S16x8x64x512 .f32) (a : Fin 8) (p : Fin 64) (y : Fin 512) :
    ((cfg0.win 6).blk t).view.read (Elt Ideal) A (ix4 (0 : Fin 1) a p y) = A (ix4 (headOf t) a p y) := by
  blk_point [idx t]

theorem block6 (a : Fin 8) (p : Fin 64) (y : Fin 512) : iblk m c 6 t (ix4 (0 : Fin 1) a p y) = V m c main_v176 (ix4 (headOf t) a p y) :=
  read6 t (V m c main_v176) a p y

theorem tok_rowOf (p : Fin 64) (h : 512 * (t.val % 16) + (64 * r.val + p.val) < 8192) : (⟨512 * (t.val % 16) + (64 * r.val + p.val), h⟩ : Fin 8192) = tok (rowOf t r) p :=
  Fin.ext (by show 512 * (t.val % 16) + (64 * r.val + p.val) = 64 * (8 * (t.val % 16) + r.val) + p.val; omega)

theorem q_at (p : Fin 64) (k : Fin 128) : rows (st0 t) (wh0 t) (iblk m c 0 t) r (ix2 p k) = V m c main_arg0 (ix2 (tok (rowOf t r) p) (qFeat (headOf t) k)) := by
  rw [rows_apply, block0, tok_rowOf]

theorem do_at (p : Fin 64) (k : Fin 128) : rows (st1 t) (wh1 t) (iblk m c 1 t) r (ix2 p k) = V m c main_arg2 (ix2 (tok (rowOf t r) p) (feat (headOf t) k)) := by
  rw [rows_apply, block1, tok_rowOf]

theorem lse_at (p : Fin 64) (k : Fin 128) : rows (st2 t) (wh2 t) (iblk m c 2 t) r (ix2 p k) = V m c main_v117 (ix2 (tok (rowOf t r) p) (feat (headOf t) k)) := by
  rw [rows_apply, block2, tok_rowOf]

theorem o_at (p : Fin 64) (k : Fin 128) : rows (st3 t) (wh3 t) (iblk m c 3 t) r (ix2 p k) = V m c main_v115 (ix2 (tok (rowOf t r) p) (feat (headOf t) k)) := by
  rw [rows_apply, block3, tok_rowOf]

theorem keyAt_eq : keyAt (grid0.coords t) r = 64 * startRow (rowOf t r) := by rw [keyAt, coord]

theorem key_at (y : Fin 512) (k : Fin 128) : keys (st4 t) (wh4 t) (iblk m c 4 t) (grid0.coords t) r (ix2 y k) = V m c main_arg0 (ix2 (keyTok (rowOf t r) y) (kFeat (headOf t) k)) := by
  rw [keys_apply, block4]
  exact congrArg (fun z : Fin 8192 => V m c main_arg0 (ix2 z (kFeat (headOf t) k))) (Fin.ext (congrArg (· + y.val) (keyAt_eq t r)))

theorem val_at (y : Fin 512) (k : Fin 128) : keys (st5 t) (wh5 t) (iblk m c 5 t) (grid0.coords t) r (ix2 y k) = V m c main_arg0 (ix2 (keyTok (rowOf t r) y) (vFeat (headOf t) k)) := by
  rw [keys_apply, block5]
  exact congrArg (fun z : Fin 8192 => V m c main_arg0 (ix2 z (vFeat (headOf t) k))) (Fin.ext (congrArg (· + y.val) (keyAt_eq t r)))

theorem bias_at (p : Fin 64) (y : Fin 512) : biasOf (st6 t) (wh6 t) (iblk m c 6 t) (grid0.coords t) r (ix4 (0 : Fin 1) (0 : Fin 1) p y) = V m c main_v176 (ix4 (headOf t) (place (rowOf t r)) p y) := by
  rw [biasOf_apply, block6]
  exact congrArg (fun z : Fin 8 => V m c main_v176 (ix4 (headOf t) z p y)) (Fin.ext (by simp only [coord t]))

end Cert.KernelIdeal.NaBwd

end
-- ==== Proof.NaSums.lean ====
/- What a point of the gradient leaves in its blocks: the queries' rows outright, the keys' and values' windows added to what
   the head has gathered so far. -/
module

public import proofs.«01_k».proof.Proof.NaHeads
public import Idealize.ShloMosaic.Lib.WindowSumWrites

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL.Sem
open Idealize.ShloMosaic.WindowSum

variable (m : (ℓ : Loc nD τ sig) → Buf (Elt Ideal) ℓ) (c : Dev nD) (t : Fin cfg0.N)

/-! ## A tile of a point -/

theorem putDq_at (r : Fin 8) (p : Fin 64) (k : Fin 128) : putDq (grid0.coords t) (st0 t) (wh0 t) (st1 t) (wh1 t) (st2 t) (wh2 t) (st3 t) (wh3 t) (st4 t) (wh4 t) (st5 t) (wh5 t) (st6 t) (wh6 t) (iblk m c 0 t) (iblk m c 1 t) (iblk m c 2 t) (iblk m c 3 t) (iblk m c 4 t) (iblk m c 5 t) (iblk m c 6 t) r (ix2 p k)
    = dQuery (V m c main_arg0) (V m c main_arg2) (V m c main_v117) (V m c main_v115) (V m c main_v176) (headOf t) (rowOf t r) p k := by
  unfold putDq
  rw [tileDq_apply]
  simp only [tileDs_apply, tileP_apply, q_at, do_at, lse_at, o_at, key_at, val_at, bias_at]
  rfl

theorem putDk_at (r : Fin 8) (acc : FVec Ideal S512x128 .f32) (y : Fin 512) (k : Fin 128) : putDk (grid0.coords t) (st0 t) (wh0 t) (st1 t) (wh1 t) (st2 t) (wh2 t) (st3 t) (wh3 t) (st4 t) (wh4 t) (st5 t) (wh5 t) (st6 t) (wh6 t) (iblk m c 0 t) (iblk m c 1 t) (iblk m c 2 t) (iblk m c 3 t) (iblk m c 4 t) (iblk m c 5 t) (iblk m c 6 t) r acc (ix2 y k)
    = acc (ix2 y k) + dKey (V m c main_arg0) (V m c main_arg2) (V m c main_v117) (V m c main_v115) (V m c main_v176) (headOf t) (rowOf t r) y k := by
  unfold putDk
  rw [tileDk_apply]
  simp only [tileDs_apply, tileP_apply, q_at, do_at, lse_at, o_at, key_at, val_at, bias_at]
  rfl

theorem putDv_at (r : Fin 8) (acc : FVec Ideal S512x128 .f32) (y : Fin 512) (k : Fin 128) : putDv (grid0.coords t) (st0 t) (wh0 t) (st1 t) (wh1 t) (st2 t) (wh2 t) (st4 t) (wh4 t) (st6 t) (wh6 t) (iblk m c 0 t) (iblk m c 1 t) (iblk m c 2 t) (iblk m c 4 t) (iblk m c 6 t) r acc (ix2 y k)
    = acc (ix2 y k) + dValue (V m c main_arg0) (V m c main_arg2) (V m c main_v117) (V m c main_v176) (headOf t) (rowOf t r) y k := by
  unfold putDv
  rw [tileDv_apply]
  simp only [tileP_apply, q_at, do_at, lse_at, key_at, bias_at]
  rfl

/-! ## The blocks after a point -/

/-- Column `p` of row block `r` in the block of a point. -/
abbrev colAt (r : Fin 8) (p : Fin 64) : Fin 512 := ⟨64 * r.val + p.val, by omega⟩

theorem colAt_tiles (r : Fin 8) (p : Fin 64) (v : View sig .tc .vmem S512x128 .bf16) (f : v.ty.Contents (Elt Ideal)) (k : Fin 128) (P : Fin 8 → FVec Ideal S64x128 .bf16) :
    v.read (Elt Ideal) (v.writes (Elt Ideal) f (View.tilePieces (s := S512x128) S64x128.size (fun r : Fin 8 => (![64 * r.val, 0] : Fin 2 → ℕ)) inbRow P 8 le_rfl)) (ix2 (colAt r p) k)
      = P r (ix2 p k) := by
  refine View.read_tilePieces v f S64x128.size _ inbRow P 8 le_rfl _ r r.isLt (ix2 p k) (fun a => ?_) 0 fun r' hr' => ?_
  · match a with
    | ⟨0, _⟩ => rfl
    | ⟨1, _⟩ => exact (Nat.zero_add _).symm
  · have hne : r'.val ≠ r.val := fun e => hr' (Fin.ext e)
    show 64 * r.val + p.val < 64 * r'.val ∨ 64 * r'.val + 64 ≤ 64 * r.val + p.val
    omega

/-- The queries' gradient after any point. -/
theorem held_dq (r : Fin 8) (p : Fin 64) (k : Fin 128) : (held m c t.val t.isLt).1 (ix2 (colAt r p) k)
    = dQuery (V m c main_arg0) (V m c main_arg2) (V m c main_v117) (V m c main_v115) (V m c main_v176) (headOf t) (rowOf t r) p k := by
  by_cases h : t.val % 16 = 0
  · rw [held_opened m c t h]
    unfold opened outStart
    dsimp only
    rw [dqPiecesStart, colAt_tiles, putDq_at]
  · rw [held_advanced m c t h]
    unfold advanced outStep
    dsimp only
    rw [dqPiecesStep, colAt_tiles, putDq_at]

/-- What a point adds to the keys' gradient, -/
def addsDk (T : Fin 8192) (k : Fin 128) : EReal :=
  windowSum 512 (fun r : Fin 8 => 64 * startRow (rowOf t r)) Finset.univ (fun r y => dKey (V m c main_arg0) (V m c main_arg2) (V m c main_v117) (V m c main_v115) (V m c main_v176) (headOf t) (rowOf t r) y k) T.val

/-- and to the values'. -/
def addsDv (T : Fin 8192) (k : Fin 128) : EReal :=
  windowSum 512 (fun r : Fin 8 => 64 * startRow (rowOf t r)) Finset.univ (fun r y => dValue (V m c main_arg0) (V m c main_arg2) (V m c main_v117) (V m c main_v176) (headOf t) (rowOf t r) y k) T.val

theorem off_at (r : Fin 8) : k0_off1 (grid0.coords t) (BitVec.ofNat 32 r.val) = ![64 * startRow (rowOf t r), 0] := by
  rw [keyOff_eq, coord]

theorem zero_whole (v : View sig .tc .vmem S8192x128 .f32) (f : v.ty.Contents (Elt Ideal)) (z : FVec Ideal S8192x128 .f32) (hz : z = fun _ => (0 : EReal)) (R : Fin 8192) (k : Fin 128) :
    v.read (Elt Ideal) (v.writes (Elt Ideal) f [⟨Rect.unit (s := S8192x128) ![0, 0] S8192x128.size inb_S8192x128_S8192x128_0_0, z⟩]) (ix2 R k) = (0 : EReal) := by
  subst hz
  refine View.read_writes_cons_unit_of_mem v f inb_S8192x128_S8192x128_0_0 _ [] (ix2 R k) (ix2 R k) rfl fun a => ?_
  match a with
  | ⟨0, _⟩ => exact (Nat.zero_add _).symm
  | ⟨1, _⟩ => exact (Nat.zero_add _).symm

theorem pay2_zero : (k0_pay2 : FVec Ideal S8192x128 .f32) = fun _ => (0 : EReal) := funext fun _ => Ideal.ofBits_zero_f32
theorem pay3_zero : (k0_pay3 : FVec Ideal S8192x128 .f32) = fun _ => (0 : EReal) := funext fun _ => Ideal.ofBits_zero_f32

theorem zero_cover (z : FVec Ideal S8192x128 .f32) (y : S8192x128.Idx) :
    ∃ p ∈ ([⟨Rect.unit (s := S8192x128) ![0, 0] S8192x128.size inb_S8192x128_S8192x128_0_0, z⟩] : List (View.Piece (Elt Ideal) S8192x128 .f32)), y ∈ p.1.set :=
  View.cover_of_wholeMem _ (by sl_whole_mem) y

/-- The keys' gradient after a point that opens a head, -/
theorem opened_dk (h : t.val % 16 = 0) (T : Fin 8192) (k : Fin 128) : (held m c t.val t.isLt).2.1 (ix2 T k) = 0 + addsDk m c t T k := by
  rw [held_opened m c t h]
  unfold opened outStart
  dsimp only
  rw [dkPiecesStart]
  refine (View.read_accPieces_cov_ix2 (N := 8192) (K := 128) (W := 512) (NB := 8) _ _ _ _ _ _ (fun r => 64 * startRow (rowOf t r)) (off_at t)
    (fun r y k => dKey (V m c main_arg0) (V m c main_arg2) (V m c main_v117) (V m c main_v115) (V m c main_v176) (headOf t) (rowOf t r) y k) (putDk_at m c t) (fun _ _ => (0 : EReal)) (zero_whole _ _ _ pay2_zero) _ _ (zero_cover _) 8 le_rfl T k).trans ?_
  rw [windowAcc_all]; rfl

/-- and after one that goes on with it. -/
theorem advanced_dk (h : ¬t.val % 16 = 0) (T : Fin 8192) (k : Fin 128) : (held m c t.val t.isLt).2.1 (ix2 T k)
    = (held m c (t.val - 1) (Nat.lt_of_le_of_lt (Nat.sub_le _ _) t.isLt)).2.1 (ix2 T k) + addsDk m c t T k := by
  rw [held_advanced m c t h]
  generalize held m c (t.val - 1) (Nat.lt_of_le_of_lt (Nat.sub_le _ _) t.isLt) = before
  unfold advanced outStep
  dsimp only
  rw [dkPiecesStep]
  refine (View.read_accPieces_ix2 (N := 8192) (K := 128) (W := 512) (NB := 8) _ _ _ _ _ _ (fun r => 64 * startRow (rowOf t r)) (off_at t)
    (fun r y k => dKey (V m c main_arg0) (V m c main_arg2) (V m c main_v117) (V m c main_v115) (V m c main_v176) (headOf t) (rowOf t r) y k) (putDk_at m c t) (fun R k => if hR : R < 8192 then before.2.1 (ix2 (⟨R, hR⟩ : Fin 8192) k) else (0 : EReal))
    (fun R k => by rw [dif_pos R.isLt]; exact congrFun ((wh8 t).read_unread _) _) 8 le_rfl T k).trans ?_
  rw [windowAcc_all, dif_pos T.isLt]; rfl

/-- The values' gradient after a point that opens a head, -/
theorem opened_dv (h : t.val % 16 = 0) (T : Fin 8192) (k : Fin 128) : (held m c t.val t.isLt).2.2.1 (ix2 T k) = 0 + addsDv m c t T k := by
  rw [held_opened m c t h]
  unfold opened outStart
  dsimp only
  rw [dvPiecesStart]
  refine (View.read_accPieces_cov_ix2 (N := 8192) (K := 128) (W := 512) (NB := 8) _ _ _ _ _ _ (fun r => 64 * startRow (rowOf t r)) (off_at t)
    (fun r y k => dValue (V m c main_arg0) (V m c main_arg2) (V m c main_v117) (V m c main_v176) (headOf t) (rowOf t r) y k) (putDv_at m c t) (fun _ _ => (0 : EReal)) (zero_whole _ _ _ pay3_zero) _ _ (zero_cover _) 8 le_rfl T k).trans ?_
  rw [windowAcc_all]; rfl

/-- and after one that goes on with it. -/
theorem advanced_dv (h : ¬t.val % 16 = 0) (T : Fin 8192) (k : Fin 128) : (held m c t.val t.isLt).2.2.1 (ix2 T k)
    = (held m c (t.val - 1) (Nat.lt_of_le_of_lt (Nat.sub_le _ _) t.isLt)).2.2.1 (ix2 T k) + addsDv m c t T k := by
  rw [held_advanced m c t h]
  generalize held m c (t.val - 1) (Nat.lt_of_le_of_lt (Nat.sub_le _ _) t.isLt) = before
  unfold advanced outStep
  dsimp only
  rw [dvPiecesStep]
  refine (View.read_accPieces_ix2 (N := 8192) (K := 128) (W := 512) (NB := 8) _ _ _ _ _ _ (fun r => 64 * startRow (rowOf t r)) (off_at t)
    (fun r y k => dValue (V m c main_arg0) (V m c main_arg2) (V m c main_v117) (V m c main_v176) (headOf t) (rowOf t r) y k) (putDv_at m c t) (fun R k => if hR : R < 8192 then before.2.2.1 (ix2 (⟨R, hR⟩ : Fin 8192) k) else (0 : EReal))
    (fun R k => by rw [dif_pos R.isLt]; exact congrFun ((wh9 t).read_unread _) _) 8 le_rfl T k).trans ?_
  rw [windowAcc_all, dif_pos T.isLt]; rfl

end Cert.KernelIdeal.NaBwd

end
-- ==== Proof.NaFinal.lean ====
/- The gradient a head's points leave together, and the arrays the call leaves. -/
module

public import proofs.«01_k».proof.Proof.NaSums
public import Idealize.ShloMosaic.Lib.Pipeline.ValueKit

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL.Sem
open Idealize.ShloMosaic.WindowSum
open Idealize.ShloMosaic.Pipeline (Dat)

/-! ## The gradient as arrays -/

section Arrays

variable (X : FVec Ideal S8192x6144 .bf16) (D L : FVec Ideal S8192x2048 .f32) (O : FVec Ideal S8192x2048 .bf16) (B : FVec Ideal S16x8x64x512 .f32)

/-- The head of feature `f`, -/
abbrev headAt (f : Fin 2048) : Fin 16 := ⟨f.val / 128, by omega⟩
/-- its place in the head, -/
abbrev partAt (f : Fin 2048) : Fin 128 := ⟨f.val % 128, by omega⟩
/-- the row of token `T` -/
abbrev rowAt (T : Fin 8192) : Fin 128 := ⟨T.val / 64, by omega⟩
/-- and its column. -/
abbrev colOf (T : Fin 8192) : Fin 64 := ⟨T.val % 64, by omega⟩

/-- The queries' gradient, -/
def gradQ : FVec Ideal S8192x2048 .bf16 := fun j => dQuery X D L O B (headAt (j 1)) (rowAt (j 0)) (colOf (j 0)) (partAt (j 1))

/-- the keys' -/
def gradK : FVec Ideal S8192x2048 .f32 := fun j =>
  windowSum 512 (fun R : Fin 128 => 64 * startRow R) Finset.univ (fun R y => dKey X D L O B (headAt (j 1)) R y (partAt (j 1))) (j 0).val

/-- and the values'. -/
def gradV : FVec Ideal S8192x2048 .f32 := fun j =>
  windowSum 512 (fun R : Fin 128 => 64 * startRow R) Finset.univ (fun R y => dValue X D L B (headAt (j 1)) R y (partAt (j 1))) (j 0).val

end Arrays

variable (m : (ℓ : Loc nD τ sig) → Buf (Elt Ideal) ℓ) (c : Dev nD)

/-! ## The points of a head together -/

/-- Sixteen points of eight rows are the 128 rows. -/
theorem points_rows (W : ℕ) (o : Fin 128 → ℕ) (G : Fin 128 → Fin W → EReal) (T : ℕ) (o' : Fin 16 → Fin 8 → ℕ) (G' : Fin 16 → Fin 8 → Fin W → EReal)
    (ho : ∀ (s : Fin 16) (r : Fin 8) (hl : s.val * 8 + r.val < 128), o' s r = o ⟨s.val * 8 + r.val, hl⟩)
    (hG : ∀ (s : Fin 16) (r : Fin 8) (hl : s.val * 8 + r.val < 128), G' s r = G ⟨s.val * 8 + r.val, hl⟩) :
    ∑ s : Fin 16, windowSum W (o' s) Finset.univ (G' s) T = windowSum W o Finset.univ G T := by
  unfold windowSum
  refine Fin.sum_mul_add_congr fun s r hl => ?_
  simp only [ho s r hl, hG s r hl]

theorem rowOf_run (t : Fin cfg0.N) (hf : t.val % 16 = 15) (s : Fin 16) (r : Fin 8) (hl : s.val * 8 + r.val < 128) :
    rowOf ⟨16 * (t.val / 16) + s.val, Pipeline.run_point_lt_of_flush t hf s⟩ r = ⟨s.val * 8 + r.val, hl⟩ :=
  Fin.ext (by show 8 * ((16 * (t.val / 16) + s.val) % 16) + r.val = s.val * 8 + r.val; omega)

theorem headOf_run (t : Fin cfg0.N) (hf : t.val % 16 = 15) (s : Fin 16) :
    headOf ⟨16 * (t.val / 16) + s.val, Pipeline.run_point_lt_of_flush t hf s⟩ = headOf t :=
  Fin.ext (by show (16 * (t.val / 16) + s.val) / 16 = t.val / 16; omega)

/-- The keys' gradient of a head, once its last point is done. -/
theorem held_dk (t : Fin cfg0.N) (hf : t.val % 16 = 15) (T : Fin 8192) (k : Fin 128) : (held m c t.val t.isLt).2.1 (ix2 T k)
    = windowSum 512 (fun R : Fin 128 => 64 * startRow R) Finset.univ (fun R y => dKey (V m c main_arg0) (V m c main_arg2) (V m c main_v117) (V m c main_v115) (V m c main_v176) (headOf t) R y k) T.val := by
  have e := Pipeline.eq_sum_fin_of_reset_step_apply_of_flush (N := cfg0.N) (ι := Fin 8192 × Fin 128) (fun n h j => (held m c n h).2.1 (ix2 j.1 j.2)) 16 (fun _ => (0 : EReal))
    (fun t j => addsDk m c t j.1 j.2) (fun t h j => opened_dk m c t h j.1 j.2) (fun t h j => advanced_dk m c t h j.1 j.2) t hf (T, k)
  rw [zero_add] at e
  refine e.trans ?_
  unfold addsDk
  refine points_rows 512 _ _ _ _ _ (fun s r hl => ?_) fun s r hl => ?_
  · rw [rowOf_run t hf s r hl]
  · rw [rowOf_run t hf s r hl, headOf_run t hf s]

/-- The values' gradient of a head, once its last point is done. -/
theorem held_dv (t : Fin cfg0.N) (hf : t.val % 16 = 15) (T : Fin 8192) (k : Fin 128) : (held m c t.val t.isLt).2.2.1 (ix2 T k)
    = windowSum 512 (fun R : Fin 128 => 64 * startRow R) Finset.univ (fun R y => dValue (V m c main_arg0) (V m c main_arg2) (V m c main_v117) (V m c main_v176) (headOf t) R y k) T.val := by
  have e := Pipeline.eq_sum_fin_of_reset_step_apply_of_flush (N := cfg0.N) (ι := Fin 8192 × Fin 128) (fun n h j => (held m c n h).2.2.1 (ix2 j.1 j.2)) 16 (fun _ => (0 : EReal))
    (fun t j => addsDv m c t j.1 j.2) (fun t h j => opened_dv m c t h j.1 j.2) (fun t h j => advanced_dv m c t h j.1 j.2) t hf (T, k)
  rw [zero_add] at e
  refine e.trans ?_
  unfold addsDv
  refine points_rows 512 _ _ _ _ _ (fun s r hl => ?_) fun s r hl => ?_
  · rw [rowOf_run t hf s r hl]
  · rw [rowOf_run t hf s r hl, headOf_run t hf s]

/-! ## The arrays the call leaves -/

theorem emb7 (t : Fin cfg0.N) (w : Fin 512) (k : Fin 128) :
    ((cfg0.win 7).blk t).view.emb (ix2 w k) = ix2 (⟨512 * (t.val % 16) + w.val, by omega⟩ : Fin 8192) (feat (headOf t) k) := by
  funext a
  match a with
  | ⟨0, _⟩ =>
    refine Fin.ext ((Pipeline.Window.rect_emb_val win0_7 t (ix2 w k) 0 rfl).trans ?_)
    rw [(idx t).2.2.2.2.2.2.2.1]
    show t.val % 16 * 512 + w.val = 512 * (t.val % 16) + w.val
    omega
  | ⟨1, _⟩ =>
    refine Fin.ext ((Pipeline.Window.rect_emb_val win0_7 t (ix2 w k) 1 rfl).trans ?_)
    rw [(idx t).2.2.2.2.2.2.2.1]
    show t.val / 16 * 128 + k.val = 128 * (t.val / 16) + k.val
    omega

theorem emb8 (t : Fin cfg0.N) (T : Fin 8192) (k : Fin 128) : ((cfg0.win 8).blk t).view.emb (ix2 T k) = ix2 T (feat (headOf t) k) := by
  funext a
  match a with
  | ⟨0, _⟩ =>
    refine Fin.ext ((Pipeline.Window.rect_emb_val win0_8 t (ix2 T k) 0 rfl).trans ?_)
    rw [(idx t).2.2.2.2.2.2.2.2.1]
    exact (congrArg (· + T.val) (Nat.zero_mul _)).trans (Nat.zero_add _)
  | ⟨1, _⟩ =>
    refine Fin.ext ((Pipeline.Window.rect_emb_val win0_8 t (ix2 T k) 1 rfl).trans ?_)
    rw [(idx t).2.2.2.2.2.2.2.2.1]
    show t.val / 16 * 128 + k.val = 128 * (t.val / 16) + k.val
    omega

theorem emb9 (t : Fin cfg0.N) (T : Fin 8192) (k : Fin 128) : ((cfg0.win 9).blk t).view.emb (ix2 T k) = ix2 T (feat (headOf t) k) := by
  funext a
  match a with
  | ⟨0, _⟩ =>
    refine Fin.ext ((Pipeline.Window.rect_emb_val win0_9 t (ix2 T k) 0 rfl).trans ?_)
    rw [(idx t).2.2.2.2.2.2.2.2.2]
    exact (congrArg (· + T.val) (Nat.zero_mul _)).trans (Nat.zero_add _)
  | ⟨1, _⟩ =>
    refine Fin.ext ((Pipeline.Window.rect_emb_val win0_9 t (ix2 T k) 1 rfl).trans ?_)
    rw [(idx t).2.2.2.2.2.2.2.2.2]
    show t.val / 16 * 128 + k.val = 128 * (t.val / 16) + k.val
    omega

theorem headAt_feat (h : Fin 16) (k : Fin 128) : headAt (feat h k) = h := Fin.ext (by show (128 * h.val + k.val) / 128 = h.val; omega)
theorem partAt_feat (h : Fin 16) (k : Fin 128) : partAt (feat h k) = k := Fin.ext (by show (128 * h.val + k.val) % 128 = k.val; omega)

theorem rowAt_block (t : Fin cfg0.N) (w : Fin 512) (hw : 512 * (t.val % 16) + w.val < 8192) :
    rowAt ⟨512 * (t.val % 16) + w.val, hw⟩ = rowOf t ⟨w.val / 64, by omega⟩ :=
  Fin.ext (by show (512 * (t.val % 16) + w.val) / 64 = 8 * (t.val % 16) + w.val / 64; omega)
theorem colOf_block (t : Fin cfg0.N) (w : Fin 512) (hw : 512 * (t.val % 16) + w.val < 8192) :
    colOf ⟨512 * (t.val % 16) + w.val, hw⟩ = ⟨w.val % 64, by omega⟩ :=
  Fin.ext (by show (512 * (t.val % 16) + w.val) % 64 = w.val % 64; omega)

theorem gradQ_block (X : FVec Ideal S8192x6144 .bf16) (D L : FVec Ideal S8192x2048 .f32) (O : FVec Ideal S8192x2048 .bf16) (B : FVec Ideal S16x8x64x512 .f32) (t : Fin cfg0.N) (w : Fin 512) (k : Fin 128) :
    gradQ X D L O B (((cfg0.win 7).blk t).view.emb (ix2 w k)) = dQuery X D L O B (headOf t) (rowOf t ⟨w.val / 64, by omega⟩) ⟨w.val % 64, by omega⟩ k := by
  rw [emb7]
  show dQuery X D L O B (headAt (feat (headOf t) k)) (rowAt ⟨512 * (t.val % 16) + w.val, _⟩) (colOf ⟨512 * (t.val % 16) + w.val, _⟩) (partAt (feat (headOf t) k)) = _
  rw [headAt_feat, partAt_feat, rowAt_block, colOf_block]

theorem gradK_block (X : FVec Ideal S8192x6144 .bf16) (D L : FVec Ideal S8192x2048 .f32) (O : FVec Ideal S8192x2048 .bf16) (B : FVec Ideal S16x8x64x512 .f32) (t : Fin cfg0.N) (T : Fin 8192) (k : Fin 128) :
    gradK X D L O B (((cfg0.win 8).blk t).view.emb (ix2 T k)) = windowSum 512 (fun R : Fin 128 => 64 * startRow R) Finset.univ (fun R y => dKey X D L O B (headOf t) R y k) T.val := by
  rw [emb8]
  show windowSum 512 (fun R : Fin 128 => 64 * startRow R) Finset.univ (fun R y => dKey X D L O B (headAt (feat (headOf t) k)) R y (partAt (feat (headOf t) k))) T.val = _
  rw [headAt_feat, partAt_feat]

theorem gradV_block (X : FVec Ideal S8192x6144 .bf16) (D L : FVec Ideal S8192x2048 .f32) (B : FVec Ideal S16x8x64x512 .f32) (t : Fin cfg0.N) (T : Fin 8192) (k : Fin 128) :
    gradV X D L B (((cfg0.win 9).blk t).view.emb (ix2 T k)) = windowSum 512 (fun R : Fin 128 => 64 * startRow R) Finset.univ (fun R y => dValue X D L B (headOf t) R y k) T.val := by
  rw [emb9]
  show windowSum 512 (fun R : Fin 128 => 64 * startRow R) Finset.univ (fun R y => dValue X D L B (headAt (feat (headOf t) k)) R y (partAt (feat (headOf t) k))) T.val = _
  rw [headAt_feat, partAt_feat]

theorem held_dq_block (t : Fin cfg0.N) (w : Fin 512) (k : Fin 128) : (held m c t.val t.isLt).1 (ix2 w k)
    = dQuery (V m c main_arg0) (V m c main_arg2) (V m c main_v117) (V m c main_v115) (V m c main_v176) (headOf t) (rowOf t ⟨w.val / 64, by omega⟩) ⟨w.val % 64, by omega⟩ k := by
  rw [← held_dq m c t]
  exact congrArg (fun z : Fin 512 => (held m c t.val t.isLt).1 (ix2 z k)) (Fin.ext (by show w.val = 64 * (w.val / 64) + w.val % 64; omega))

theorem final_dq : (dat m 0 c).arrAt 7 cfg0.N = gradQ (V m c main_arg0) (V m c main_arg2) (V m c main_v117) (V m c main_v115) (V m c main_v176) := by
  refine (dat m 0 c).arrAt_eq_of_covers 7 _ (by decide +kernel) fun t hf y => ?_
  obtain ⟨w, k, rfl⟩ : ∃ (w : Fin 512) (k : Fin 128), y = ix2 w k := ⟨y 0, y 1, eq_ix2 y⟩
  rw [gradQ_block, ← held_dq_block m c t w k, left7]
  rfl

theorem final_dk : (dat m 0 c).arrAt 8 cfg0.N = gradK (V m c main_arg0) (V m c main_arg2) (V m c main_v117) (V m c main_v115) (V m c main_v176) := by
  refine (dat m 0 c).arrAt_eq_of_covers 8 _ (by decide +kernel) fun t hf y => ?_
  obtain ⟨T, k, rfl⟩ : ∃ (T : Fin 8192) (k : Fin 128), y = ix2 T k := ⟨y 0, y 1, eq_ix2 y⟩
  rw [gradK_block, ← held_dk m c t ((flush0_8 t).mp hf) T k, left8]
  rfl

theorem final_dv : (dat m 0 c).arrAt 9 cfg0.N = gradV (V m c main_arg0) (V m c main_arg2) (V m c main_v117) (V m c main_v176) := by
  refine (dat m 0 c).arrAt_eq_of_covers 9 _ (by decide +kernel) fun t hf y => ?_
  obtain ⟨T, k, rfl⟩ : ∃ (T : Fin 8192) (k : Fin 128), y = ix2 T k := ⟨y 0, y 1, eq_ix2 y⟩
  rw [gradV_block, ← held_dv m c t ((flush0_9 t).mp hf) T k, left9]
  rfl

end Cert.KernelIdeal.NaBwd

end
-- ==== Proof.NaScores.lean ====
/- The attention itself, over the packed array `X`, the bias table `P` and the gradient `D`: the score of a query and a key, the
   row's largest score, the weights and their sum. Shared by the two sides. -/
module

public import proofs.«01_k».proof.Proof.NaFinal

@[expose] public section

set_option maxRecDepth 16384

noncomputable section

namespace Cert.KernelIdeal.NaBwd

open Cert.KernelIdeal
open Idealize.ShloMosaic Idealize.ShloMosaic.TcCoe
open Idealize.ShloMosaic.WindowSum

variable (X : FVec Ideal S8192x6144 .bf16) (P : FVec Ideal S16x15x31 .f32) (D : FVec Ideal S8192x2048 .f32)
variable (h : Fin 16) (R : Fin 128)

/-- Whether the query at column `p` attends to column `b`: sixteen columns, kept inside the picture. -/
abbrev inCols (p b : ℕ) : Prop := min (p - 8) 48 ≤ b ∧ b < min (p - 8) 48 + 16

/-- The bias of key `y` for the query at column `p`. -/
def tabAt (p : Fin 64) (y : Fin 512) : EReal :=
  P (ix3 h (⟨startRow R + y.val / 64 + 7 - R.val, by unfold startRow; omega⟩ : Fin 15) (⟨min (y.val % 64 + 15 - p.val) 30, by omega⟩ : Fin 31))

/-- The score of key `y` for the query at column `p`. -/
def score (p : Fin 64) (y : Fin 512) : EReal :=
  if inCols p.val (y.val % 64) then (∑ k : Fin 128, X (ix2 (tok R p) (qFeat h k)) * X (ix2 (keyTok R y) (kFeat h k))) * factor + tabAt P h R p y else ⊥

/-- The largest score of the query, -/
def top (p : Fin 64) : EReal := Finset.univ.sup fun y : Fin 512 => score X P h R p y

/-- the weights before they are divided by their sum, -/
def ex (p : Fin 64) (y : Fin 512) : EReal := Ideal.exp (score X P h R p y - top X P h R p)

/-- and the sum. -/
def tot (p : Fin 64) : EReal := ∑ y : Fin 512, ex X P h R p y

/-- The gradient of the weight of key `y`. -/
def dWeight (p : Fin 64) (y : Fin 512) : EReal := ∑ k : Fin 128, D (ix2 (tok R p) (feat h k)) * X (ix2 (keyTok R y) (vFeat h k))

/-- The gradient of the score of key `y`, scaled, as the reference computes it. -/
def dScoreRef (p : Fin 64) (y : Fin 512) : EReal :=
  (if inCols p.val (y.val % 64) then
    (Ideal.div (dWeight X D h R p y) (tot X P h R p) + -∑ y' : Fin 512, dWeight X D h R p y' * Ideal.div 1 (tot X P h R p * tot X P h R p) * ex X P h R p y')
      * ex X P h R p y
  else 0) * factor

/-! ## The reference's gradients -/

/-- Of the queries, -/
def refGradQ : FVec Ideal S8192x2048 .bf16 := fun j =>
  ∑ y : Fin 512, dScoreRef X P D (headAt (j 1)) (rowAt (j 0)) (colOf (j 0)) y * X (ix2 (keyTok (rowAt (j 0)) y) (kFeat (headAt (j 1)) (partAt (j 1))))

/-- of the keys -/
def refGradK : FVec Ideal S8192x2048 .f32 := fun j =>
  windowSum 512 (fun R : Fin 128 => 64 * startRow R) Finset.univ
    (fun R y => ∑ p : Fin 64, dScoreRef X P D (headAt (j 1)) R p y * X (ix2 (tok R p) (qFeat (headAt (j 1)) (partAt (j 1))))) (j 0).val

/-- and of the values. -/
def refGradV : FVec Ideal S8192x2048 .f32 := fun j =>
  windowSum 512 (fun R : Fin 128 => 64 * startRow R) Finset.univ
    (fun R y => ∑ p : Fin 64, D (ix2 (tok R p) (feat (headAt (j 1)) (partAt (j 1)))) * Ideal.div (ex X P (headAt (j 1)) R p y) (tot X P (headAt (j 1)) R p)) (j 0).val

end Cert.KernelIdeal.NaBwd

end

end
-- ==== Proof.NaReduce.lean ====
/- Sums and largest values over two axes at once, and the bit pattern of the excluded scores. -/
module

public import proofs.«01_k».proof.Proof.NaScores
public import Idealize.ShloMosaic.Lib.Pipeline.ValueKit
public import Idealize.ShloMosaic.Lib.Pointwise.Tactic

@[expose] public section

set_option maxRecDepth 16384

noncomputable section

namespace Cert.KernelIdeal.NaBwd

open Idealize.ShloMosaic Idealize.ShloMosaic.TcCoe Idealize.ShloMosaic.Tactic

/-- The pattern of an excluded score. -/
theorem negInf : Ideal.ofBits .f32 0xFF800000#32 = ⊥ := by
  show Ideal.ieee 8 23 (0xFF800000#32 : BitVec 32) = ⊥
  unfold Ideal.ieee
  have e1 : ((0xFF800000#32 : BitVec 32).extractLsb' 23 8).toNat = 2 ^ 8 - 1 := by decide +kernel
  have e2 : ((0xFF800000#32 : BitVec 32).extractLsb' 0 23).toNat = 0 := by decide +kernel
  have e3 : ((0xFF800000#32 : BitVec 32).extractLsb' (8 + 23) 1 == 1#1) = true := by decide +kernel
  simp only [e1, e2, e3, if_true]

/-- Key `y` of a row: column `y % 64` of the row's row `y / 64`. -/
abbrev rowIn (y : Fin 512) : Fin 8 := ⟨y.val / 64, by omega⟩
abbrev colIn (y : Fin 512) : Fin 64 := ⟨y.val % 64, by omega⟩

theorem keyOf (j : Fin 8) (b : Fin 64) (hy : 64 * j.val + b.val < 512) : rowIn ⟨64 * j.val + b.val, hy⟩ = j ∧ colIn ⟨64 * j.val + b.val, hy⟩ = b :=
  ⟨Fin.ext (by show (64 * j.val + b.val) / 64 = j.val; omega), Fin.ext (by show (64 * j.val + b.val) % 64 = b.val; omega)⟩

/-- A sum over the rows and columns of a row's keys is one over its keys. -/
theorem sum_keys {M : Type} [AddCommMonoid M] (f : Fin 8 → Fin 64 → M) : ∑ j : Fin 8, ∑ b : Fin 64, f j b = ∑ y : Fin 512, f (rowIn y) (colIn y) := by
  rw [← Finset.sum_product']
  refine Finset.sum_bij' (fun q _ => (⟨64 * q.1.val + q.2.val, by omega⟩ : Fin 512)) (fun y _ => (rowIn y, colIn y)) (fun _ _ => Finset.mem_univ _) (fun _ _ => Finset.mem_univ _) ?_ ?_ ?_
  · rintro ⟨j, b⟩ _
    exact Prod.ext (keyOf j b (by omega)).1 (keyOf j b (by omega)).2
  · intro y _
    exact Fin.ext (by show 64 * (y.val / 64) + y.val % 64 = y.val; omega)
  · rintro ⟨j, b⟩ _
    have := keyOf j b (by omega)
    exact congrArg₂ f this.1.symm this.2.symm

section Pair

variable (d : (⟨6, ![1, 16, 128, 64, 8, 64]⟩ : Shape).ReducesTo [4, 5] ⟨4, ![1, 16, 128, 64]⟩)

theorem drop_pair (h : Fin 16) (R : Fin 128) (p : Fin 64) (i : (⟨6, ![1, 16, 128, 64, 8, 64]⟩ : Shape).Idx) :
    d.drop i = ix4 (0 : Fin 1) h R p ↔ i = ix6 (0 : Fin 1) h R p (i 4) (i 5) := by
  constructor
  · intro e
    funext a
    match a with
    | ⟨0, _⟩ => exact Subsingleton.elim (α := Fin 1) _ _
    | ⟨1, _⟩ => exact congrFun e 1
    | ⟨2, _⟩ => exact congrFun e 2
    | ⟨3, _⟩ => exact congrFun e 3
    | ⟨4, _⟩ => rfl
    | ⟨5, _⟩ => rfl
  · intro e
    rw [e]
    funext a
    match a with
    | ⟨0, _⟩ => rfl
    | ⟨1, _⟩ => rfl
    | ⟨2, _⟩ => rfl
    | ⟨3, _⟩ => rfl

theorem sum_pair (x : (⟨6, ![1, 16, 128, 64, 8, 64]⟩ : Shape).Idx → EReal) (v : EReal) (h : Fin 16) (R : Fin 128) (p : Fin 64) :
    Ideal.hostReduceAdd d x v (ix4 (0 : Fin 1) h R p) = v + ∑ y : Fin 512, x (ix6 (0 : Fin 1) h R p (rowIn y) (colIn y)) := by
  show v + _ = _
  congr 1
  rw [← sum_keys (fun j b => x (ix6 (0 : Fin 1) h R p j b)), ← Finset.sum_product']
  refine Finset.sum_bij' (fun i _ => ((i 4 : Fin 8), (i 5 : Fin 64))) (fun q _ => ix6 (0 : Fin 1) h R p q.1 q.2) (fun _ _ => Finset.mem_univ _) ?_ ?_ ?_ ?_
  · intro q _
    exact Finset.mem_filter.2 ⟨Finset.mem_univ _, (drop_pair d h R p _).2 rfl⟩
  · intro i hi
    exact ((drop_pair d h R p i).1 (Finset.mem_filter.1 hi).2).symm
  · intro q _; rfl
  · intro i hi
    exact congrArg x ((drop_pair d h R p i).1 (Finset.mem_filter.1 hi).2)

theorem max_pair (x : (⟨6, ![1, 16, 128, 64, 8, 64]⟩ : Shape).Idx → EReal) (h : Fin 16) (R : Fin 128) (p : Fin 64) :
    Finset.fold max ⊥ x (Finset.univ.filter fun i => d.drop i = ix4 (0 : Fin 1) h R p) = Finset.univ.sup fun y : Fin 512 => x (ix6 (0 : Fin 1) h R p (rowIn y) (colIn y)) := by
  show Finset.sup _ x = _
  apply le_antisymm
  · refine Finset.sup_le fun i hi => ?_
    have e := (drop_pair d h R p i).1 (Finset.mem_filter.1 hi).2
    have k := keyOf (i 4) (i 5) (by have h4 : (i 4).val < 8 := (i 4).isLt; have h5 : (i 5).val < 64 := (i 5).isLt; omega)
    have hle := Finset.le_sup (f := fun y : Fin 512 => x (ix6 (0 : Fin 1) h R p (rowIn y) (colIn y)))
      (Finset.mem_univ (⟨64 * (i 4).val + (i 5).val, by have h4 : (i 4).val < 8 := (i 4).isLt; have h5 : (i 5).val < 64 := (i 5).isLt; omega⟩ : Fin 512))
    refine le_trans (le_of_eq ?_) hle
    show x i = x (ix6 (0 : Fin 1) h R p (rowIn _) (colIn _))
    rw [k.1, k.2]
    exact congrArg x e
  · refine Finset.sup_le fun y _ => ?_
    exact Finset.le_sup (f := x) (Finset.mem_filter.2 ⟨Finset.mem_univ _, (drop_pair d h R p _).2 rfl⟩)

end Pair

section Units

variable (d : (⟨5, ![1, 16, 128, 64, 1]⟩ : Shape).ReducesTo [0, 4] ⟨3, ![16, 128, 64]⟩)

/-- A sum over two axes of one element. -/
theorem sum_units (x : (⟨5, ![1, 16, 128, 64, 1]⟩ : Shape).Idx → EReal) (v : EReal) (h : Fin 16) (R : Fin 128) (p : Fin 64) :
    Ideal.hostReduceAdd d x v (ix3 h R p) = v + x (ix5 (0 : Fin 1) h R p (0 : Fin 1)) := by
  show v + _ = _
  congr 1
  refine (Finset.sum_congr (?_ : _ = {ix5 (0 : Fin 1) h R p (0 : Fin 1)}) fun _ _ => rfl).trans (Finset.sum_singleton _ _)
  ext i
  rw [Finset.mem_filter, Finset.mem_singleton]
  constructor
  · rintro ⟨_, e⟩
    funext a
    match a with
    | ⟨0, _⟩ => exact Subsingleton.elim (α := Fin 1) _ _
    | ⟨1, _⟩ => exact congrFun e 0
    | ⟨2, _⟩ => exact congrFun e 1
    | ⟨3, _⟩ => exact congrFun e 2
    | ⟨4, _⟩ => exact Subsingleton.elim (α := Fin 1) _ _
  · intro e
    refine ⟨Finset.mem_univ _, ?_⟩
    rw [e]
    funext a
    match a with
    | ⟨0, _⟩ => rfl
    | ⟨1, _⟩ => rfl
    | ⟨2, _⟩ => rfl

end Units

end Cert.KernelIdeal.NaBwd

end

end
-- ==== Proof.NaHost.lean ====
/- What the host hands the kernel: the result of the attention, the logarithm of the sum of each query's weights and the biases, as terms of
   the packed array and the bias table. -/
module

public import proofs.«01_k».proof.Proof.NaReduce
public import Idealize.ShloMosaic.Lib.Pipeline.ValueKit
public import Idealize.ShloMosaic.Lib.Pointwise.Tactic

@[expose] public section

set_option maxRecDepth 16384

noncomputable section

namespace Cert.KernelIdeal.NaBwd

open Cert.KernelIdeal Cert.KernelIdeal.Gen
open Idealize.ShloMosaic Idealize.ShloMosaic.TcCoe Idealize.ShloMosaic.Tactic
open Idealize.SL.Sem

variable (X : FVec Ideal S8192x6144 .bf16) (P : FVec Ideal S16x15x31 .f32)

/-! ## Where to look -/

/-- The first of the eight rows of a row, -/
def hostFirst : IVec S128 32 :=
  minsi (broadcastInDim S128 ![] bcast_S_S128 (id (constantI S_ 32 120#32))) (maxsi (broadcastInDim S128 ![] bcast_S_S128 (id (constantI S_ 32 0#32))) (subi (iotaInDim S128 32 0) (broadcastInDim S128 ![] bcast_S_S128 (constantI S_ 32 4#32))))

/-- the first of the sixteen columns of a column, -/
def hostLeft : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))

/-- how far a column is from another, from the bias table's left end, -/
def hostApart : IVec S64x64 32 :=
  subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32))

/-- kept inside the table, -/
def hostColIn : IVec S64x64 32 :=
  minsi (broadcastInDim S64x64 ![] bcast_S_S64x64 (id (constantI S_ 32 30#32))) (maxsi (broadcastInDim S64x64 ![] bcast_S_S64x64 (id (constantI S_ 32 0#32))) hostApart)

/-- the eight rows of a row, -/
def hostRows : IVec S128x8 32 :=
  addi (broadcastInDim S128x8 ![0, 1] bcast_S128x1_S128x8_0_1 (broadcastInDim S128x1 ![0] bcast_S128_S128x1_0 hostFirst)) (broadcastInDim S128x8 ![0, 1] bcast_S1x8_S128x8_0_1 (broadcastInDim S1x8 ![1] bcast_S8_S1x8_1 (iotaInDim S8 32 0)))

/-- as the gathers take them, -/
def hostIdx : IVec S128x8x1 32 :=
  broadcastInDim S128x8x1 ![0, 1] bcast_S128x8_S128x8x1_0_1 (select (cmpi .slt hostRows (broadcastInDim S128x8 ![] bcast_S_S128x8 (constantI S_ 32 0#32))) (addi hostRows (broadcastInDim S128x8 ![] bcast_S_S128x8 (constantI S_ 32 128#32))) hostRows)

/-- the bias table's row -/
def hostTab : IVec S128x1x8x1 32 :=
  broadcastInDim S128x1x8x1 ![0, 2] bcast_S128x8_S128x1x8x1_0_2 (subi (addi (subi hostRows (broadcastInDim S128x8 ![0, 1] bcast_S128x1_S128x8_0_1 (broadcastInDim S128x1 ![0] bcast_S128_S128x1_0 (iotaInDim S128 32 0)))) (broadcastInDim S128x8 ![] bcast_S_S128x8 (constantI S_ 32 8#32))) (broadcastInDim S128x8 ![] bcast_S_S128x8 (constantI S_ 32 1#32)))

/-- and column, -/
def hostCol : IVec S1x64x1x64 32 :=
  broadcastInDim S1x64x1x64 ![1, 3] bcast_S64x64_S1x64x1x64_1_3 hostColIn

/-- and the columns attended to. -/
def hostMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 hostLeft))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 hostLeft) (broadcastInDim S64x1 ![] bcast_S_S64x1 (constantI S_ 32 16#32)))))

/-! ## The attention -/

/-- The heads of a part of the packed array. -/
def hostSplit (A : FVec Ideal S8192x2048 .bf16) : FVec Ideal S1x16x8192x128 .f32 :=
  transpose S1x16x8192x128 [0, 2, 1, 3] (shapeCast S1x8192x16x128 (extf .f32 A bitsLt_bf16_f32) shapeCasts_S8192x2048_S1x8192x16x128) transposes_S1x8192x16x128_S1x16x8192x128_0_2_1_3

/-- with the grid's rows and columns apart. -/
def hostHeads (A : FVec Ideal S8192x2048 .bf16) : FVec Ideal S1x16x128x64x128 .f32 :=
  shapeCast S1x16x128x64x128 (hostSplit A) shapeCasts_S1x16x8192x128_S1x16x128x64x128

def hostQ : FVec Ideal S1x16x128x64x128 .f32 := hostHeads (extractStridedSlice S8192x2048 ![0, 0] X slices_S8192x6144_S8192x2048_0_0)
def hostK : FVec Ideal S1x16x128x8x64x128 .f32 :=
  Host.gather gather_S1x16x128x64x128_S128x8x1_S1x16x128x8x64x128_0145_2_n_n_2_2_116164128 (hostHeads (extractStridedSlice S8192x2048 ![0, 2048] X slices_S8192x6144_S8192x2048_0_2048)) hostIdx
def hostV : FVec Ideal S1x16x128x8x64x128 .f32 :=
  Host.gather gather_S1x16x128x64x128_S128x8x1_S1x16x128x8x64x128_0145_2_n_n_2_2_116164128 (hostHeads (extractStridedSlice S8192x2048 ![0, 4096] X slices_S8192x6144_S8192x2048_0_4096)) hostIdx

/-- The scores before the mask -/
def hostSum : FVec Ideal S1x16x128x64x8x64 .f32 :=
  addf (mulf (Host.dotGeneral dot_S1x16x128x64x128_S1x16x128x8x64x128_S1x16x128x64x8x64_4_5_3_34_012_012 none (hostQ X) (hostK X)) (broadcastInDim S1x16x128x64x8x64 ![] bcast_S_S1x16x128x64x8x64 (constant S_ .f32 0x3DB504F3#32))) (broadcastInDim S1x16x128x64x8x64 ![1, 2, 3, 4, 5] bcast_S16x128x64x8x64_S1x16x128x64x8x64_1_2_3_4_5 (Host.gather gather_S16x15x31_S128x64x8x64x2_S16x128x64x8x64_0_12_n_n_12_4_1611 P (concatenate S128x64x8x64x2 4 [⟨S128x64x8x64x1, (broadcastInDim S128x64x8x64x1 ![0, 1, 2, 3] bcast_S128x64x8x64_S128x64x8x64x1_0_1_2_3 (broadcastInDim S128x64x8x64 ![0, 1, 2, 3] bcast_S128x1x8x1_S128x64x8x64_0_1_2_3 (select (cmpi .slt hostTab (broadcastInDim S128x1x8x1 ![] bcast_S_S128x1x8x1 (constantI S_ 32 0#32))) (addi hostTab (broadcastInDim S128x1x8x1 ![] bcast_S_S128x1x8x1 (constantI S_ 32 15#32))) hostTab)))⟩, ⟨S128x64x8x64x1, (broadcastInDim S128x64x8x64x1 ![0, 1, 2, 3] bcast_S128x64x8x64_S128x64x8x64x1_0_1_2_3 (broadcastInDim S128x64x8x64 ![0, 1, 2, 3] bcast_S1x64x1x64_S128x64x8x64_0_1_2_3 (select (cmpi .slt hostCol (broadcastInDim S1x64x1x64 ![] bcast_S_S1x64x1x64 (constantI S_ 32 0#32))) (addi hostCol (broadcastInDim S1x64x1x64 ![] bcast_S_S1x64x1x64 (constantI S_ 32 31#32))) hostCol)))⟩] concatenates_S128x64x8x64x1_S128x64x8x64x1_S128x64x8x64x2_d4)))

/-- and after it, -/
def hostScores : FVec Ideal S1x16x128x64x8x64 .f32 :=
  select (broadcastInDim S1x16x128x64x8x64 ![3, 4, 5] bcast_S64x1x64_S1x16x128x64x8x64_3_4_5 (broadcastInDim S64x1x64 ![0, 2] bcast_S64x64_S64x1x64_0_2 hostMask)) (hostSum X P) (broadcastInDim S1x16x128x64x8x64 ![] bcast_S_S1x16x128x64x8x64 (id (constant S_ .f32 0xFF800000#32)))

/-- the largest of each query, -/
def hostTop (S : FVec Ideal S1x16x128x64x8x64 .f32) : FVec Ideal S1x16x128x64x1x1 .f32 :=
  broadcastInDim S1x16x128x64x1x1 ![0, 1, 2, 3] bcast_S1x16x128x64_S1x16x128x64x1x1_0_1_2_3 (Host.reduce FloatOps.maximumf S (constant S_ .f32 0xFF800000#32) reducesTo_S1x16x128x64x8x64_S1x16x128x64_d4_5 h_S_)

/-- the weights -/
def hostExp (S : FVec Ideal S1x16x128x64x8x64 .f32) (T : FVec Ideal S1x16x128x64x1x1 .f32) : FVec Ideal S1x16x128x64x8x64 .f32 :=
  Host.exp (subf S (broadcastInDim S1x16x128x64x8x64 ![0, 1, 2, 3, 4, 5] bcast_S1x16x128x64x1x1_S1x16x128x64x8x64_0_1_2_3_4_5 T))

/-- and their sums. -/
def hostTot (E : FVec Ideal S1x16x128x64x8x64 .f32) : FVec Ideal S1x16x128x64x1x1 .f32 :=
  broadcastInDim S1x16x128x64x1x1 ![0, 1, 2, 3] bcast_S1x16x128x64_S1x16x128x64x1x1_0_1_2_3 (Host.reduceAdd E (constant S_ .f32 0x00000000#32) reducesTo_S1x16x128x64x8x64_S1x16x128x64_d4_5 h_S_)

/-- The logarithm of the sum, -/
def hostLse (T L : FVec Ideal S1x16x128x64x1x1 .f32) : FVec Ideal S8192x2048 .f32 :=
  shapeCast S8192x2048 (transpose S1x8192x16x128 [0, 2, 1, 3] (broadcastInDim S1x16x8192x128 ![0, 1, 2, 3] bcast_S1x16x8192x1_S1x16x8192x128_0_1_2_3 (shapeCast S1x16x8192x1 (addf T (Host.log L)) shapeCasts_S1x16x128x64x1x1_S1x16x8192x1)) transposes_S1x16x8192x128_S1x8192x16x128_0_2_1_3) shapeCasts_S1x8192x16x128_S8192x2048

/-- the result -/
def hostOut (E : FVec Ideal S1x16x128x64x8x64 .f32) (L : FVec Ideal S1x16x128x64x1x1 .f32) (W : FVec Ideal S1x16x128x8x64x128 .f32) : FVec Ideal S8192x2048 .bf16 :=
  truncf .bf16 (shapeCast S8192x2048 (transpose S1x8192x16x128 [0, 2, 1, 3] (shapeCast S1x16x8192x128 (Host.dotGeneral dot_S1x16x128x64x8x64_S1x16x128x8x64x128_S1x16x128x64x128_45_34_3_5_012_012 none (Host.divf E (broadcastInDim S1x16x128x64x8x64 ![0, 1, 2, 3, 4, 5] bcast_S1x16x128x64x1x1_S1x16x128x64x8x64_0_1_2_3_4_5 L)) W) shapeCasts_S1x16x128x64x128_S1x16x8192x128) transposes_S1x16x8192x128_S1x8192x16x128_0_2_1_3) shapeCasts_S1x8192x16x128_S8192x2048) bitsLt_bf16_f32

/-- The bias table's row for the place of a row among its eight, -/
def hostPat : IVec S8x1x8x1 32 :=
  broadcastInDim S8x1x8x1 ![0, 2] bcast_S8x8_S8x1x8x1_0_2 (subi (addi (subi (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0)))) (broadcastInDim S8x8 ![] bcast_S_S8x8 (constantI S_ 32 8#32))) (broadcastInDim S8x8 ![] bcast_S_S8x8 (constantI S_ 32 1#32)))

/-- the biases taken there -/
def hostTaken : FVec Ideal S16x8x64x8x64 .f32 :=
  Host.gather gather_S16x15x31_S8x64x8x64x2_S16x8x64x8x64_0_12_n_n_12_4_1611 P (concatenate S8x64x8x64x2 4 [⟨S8x64x8x64x1, (broadcastInDim S8x64x8x64x1 ![0, 1, 2, 3] bcast_S8x64x8x64_S8x64x8x64x1_0_1_2_3 (broadcastInDim S8x64x8x64 ![0, 1, 2, 3] bcast_S8x1x8x1_S8x64x8x64_0_1_2_3 (select (cmpi .slt hostPat (broadcastInDim S8x1x8x1 ![] bcast_S_S8x1x8x1 (constantI S_ 32 0#32))) (addi hostPat (broadcastInDim S8x1x8x1 ![] bcast_S_S8x1x8x1 (constantI S_ 32 15#32))) hostPat)))⟩, ⟨S8x64x8x64x1, (broadcastInDim S8x64x8x64x1 ![0, 1, 2, 3] bcast_S8x64x8x64_S8x64x8x64x1_0_1_2_3 (broadcastInDim S8x64x8x64 ![0, 1, 2, 3] bcast_S1x64x1x64_S8x64x8x64_0_1_2_3 (select (cmpi .slt hostCol (broadcastInDim S1x64x1x64 ![] bcast_S_S1x64x1x64 (constantI S_ 32 0#32))) (addi hostCol (broadcastInDim S1x64x1x64 ![] bcast_S_S1x64x1x64 (constantI S_ 32 31#32))) hostCol)))⟩] concatenates_S8x64x8x64x1_S8x64x8x64x1_S8x64x8x64x2_d4)

/-- where the column is attended to, -/
def hostFilled : FVec Ideal S16x8x64x8x64 .f32 :=
  select (broadcastInDim S16x8x64x8x64 ![0, 1, 2, 3, 4] bcast_S1x1x64x1x64_S16x8x64x8x64_0_1_2_3_4 (broadcastInDim S1x1x64x1x64 ![2, 4] bcast_S64x64_S1x1x64x1x64_2_4 hostMask)) (hostTaken P) (broadcastInDim S16x8x64x8x64 ![] bcast_S_S16x8x64x8x64 (id (constant S_ .f32 0xFF800000#32)))

/-- and the biases. -/
def hostBias : FVec Ideal S16x8x64x512 .f32 :=
  shapeCast S16x8x64x512 (hostFilled P) shapeCasts_S16x8x64x8x64_S16x8x64x512

end Cert.KernelIdeal.NaBwd

end

end
-- ==== Proof.NaStage.lean ====
/- The host operations before the kernel, part by part: what each buffer read later holds after a part. -/
module

public import proofs.«01_k».proof.Proof.NaHost
public import Idealize.ShloMosaic.Lib.StableHlo.Run

@[expose] public section

set_option maxRecDepth 16384

noncomputable section

namespace Cert.KernelIdeal.NaBwd

open Cert.KernelIdeal Cert.KernelIdeal.Gen
open Idealize.ShloMosaic Idealize.ShloMosaic.TcCoe Idealize.ShloMosaic.StableHlo
open Idealize.SL.Sem

/-- The packed array, -/
abbrev inX (V0 : Valuation τ sig (Elt Ideal)) : FVec Ideal S8192x6144 .bf16 := V0 (Proc.devRef .tc main_arg0)
/-- and the bias table. -/
abbrev inP (V0 : Valuation τ sig (Elt Ideal)) : FVec Ideal S16x15x31 .f32 := V0 (Proc.devRef .tc main_arg1)

/-- The buffers after the host operations of part 0, -/
def stage0 (V0 : Valuation τ sig (Elt Ideal)) : Valuation τ sig (Elt Ideal) := after hostOps0 V0

/-- what they write -/
abbrev wrote0 : List (Ref sig .tc) := [main_v0, main_v1, main_v2, main_v3, main_v4, main_v5, main_v6, main_v7, main_v8, main_v9, main_v10, main_v11, main_v12, main_v13, main_c, main_v14, main_v15, main_c_0, main_c_1]

theorem wrote0_all : (hostOps0 : List (HloOp τ sig (Elt Ideal))).Forall fun op => op.writes ⊆ (wrote0.map (Proc.devRef (τ := τ) .tc)).toFinset :=
  forall_writes_sub_of_map rfl

/-- and what they leave alone. -/
theorem kept0 (V0 : Valuation τ sig (Elt Ideal)) (r : Ref sig .tc) (h : r ∉ wrote0) : stage0 V0 (Proc.devRef .tc r) = V0 (Proc.devRef .tc r) :=
  after_of_writes_sub hostOps0 _ wrote0_all h

theorem at0_main_arg1 (V0 : Valuation τ sig (Elt Ideal)) : stage0 V0 (no_index (Proc.devRef .tc main_arg1)) = (inP V0) :=
  kept0 V0 main_arg1 (by decide)

set_option maxHeartbeats 2000000 in
theorem at0_main_v5 (V0 : Valuation τ sig (Elt Ideal)) : stage0 V0 (no_index (Proc.devRef .tc main_v5)) = hostSplit (extractStridedSlice S8192x2048 ![0, 0] (inX V0) slices_S8192x6144_S8192x2048_0_0) := by
  unfold stage0
  simp only [hostOps0, TRef.ternary, TRef.binary, TRef.unary, TRef.toBuf, TRef.ofBuf, cast_eq]
  after_results_simp <;> rfl

set_option maxHeartbeats 2000000 in
theorem at0_main_v8 (V0 : Valuation τ sig (Elt Ideal)) : stage0 V0 (no_index (Proc.devRef .tc main_v8)) = hostSplit (extractStridedSlice S8192x2048 ![0, 2048] (inX V0) slices_S8192x6144_S8192x2048_0_2048) := by
  unfold stage0
  simp only [hostOps0, TRef.ternary, TRef.binary, TRef.unary, TRef.toBuf, TRef.ofBuf, cast_eq]
  after_results_simp <;> rfl

set_option maxHeartbeats 2000000 in
theorem at0_main_v11 (V0 : Valuation τ sig (Elt Ideal)) : stage0 V0 (no_index (Proc.devRef .tc main_v11)) = hostSplit (extractStridedSlice S8192x2048 ![0, 4096] (inX V0) slices_S8192x6144_S8192x2048_0_4096) := by
  unfold stage0
  simp only [hostOps0, TRef.ternary, TRef.binary, TRef.unary, TRef.toBuf, TRef.ofBuf, cast_eq]
  after_results_simp <;> rfl

set_option maxHeartbeats 2000000 in
theorem at0_main_v12 (V0 : Valuation τ sig (Elt Ideal)) : stage0 V0 (no_index (Proc.devRef .tc main_v12)) = iotaInDim S128 32 0 := by
  unfold stage0
  simp only [hostOps0, TRef.ternary, TRef.binary, TRef.unary, TRef.toBuf, TRef.ofBuf, cast_eq]
  after_results_simp <;> rfl

set_option maxHeartbeats 2000000 in
theorem at0_main_v13 (V0 : Valuation τ sig (Elt Ideal)) : stage0 V0 (no_index (Proc.devRef .tc main_v13)) = iotaInDim S64 32 0 := by
  unfold stage0
  simp only [hostOps0, TRef.ternary, TRef.binary, TRef.unary, TRef.toBuf, TRef.ofBuf, cast_eq]
  after_results_simp <;> rfl

set_option maxHeartbeats 2000000 in
theorem at0_main_v15 (V0 : Valuation τ sig (Elt Ideal)) : stage0 V0 (no_index (Proc.devRef .tc main_v15)) = subi (iotaInDim S128 32 0) (broadcastInDim S128 ![] bcast_S_S128 (constantI S_ 32 4#32)) := by
  unfold stage0
  simp only [hostOps0, TRef.ternary, TRef.binary, TRef.unary, TRef.toBuf, TRef.ofBuf, cast_eq]
  after_results_simp <;> rfl

set_option maxHeartbeats 2000000 in
theorem at0_main_c_0 (V0 : Valuation τ sig (Elt Ideal)) : stage0 V0 (no_index (Proc.devRef .tc main_c_0)) = constantI S_ 32 0#32 := by
  unfold stage0
  simp only [hostOps0, TRef.ternary, TRef.binary, TRef.unary, TRef.toBuf, TRef.ofBuf, cast_eq]
  after_results_simp <;> rfl

set_option maxHeartbeats 2000000 in
theorem at0_main_c_1 (V0 : Valuation τ sig (Elt Ideal)) : stage0 V0 (no_index (Proc.devRef .tc main_c_1)) = constantI S_ 32 120#32 := by
  unfold stage0
  simp only [hostOps0, TRef.ternary, TRef.binary, TRef.unary, TRef.toBuf, TRef.ofBuf, cast_eq]
  after_results_simp <;> rfl

/-- The buffers after the host operations of part 1, -/
def stage1 (V0 : Valuation τ sig (Elt Ideal)) : Valuation τ sig (Elt Ideal) := after hostOps0_1 (stage0 V0)

/-- what they write -/
abbrev wrote1 : List (Ref sig .tc) := [main_call0_v0, main_call0_v1, main_call0_v2, main_call0_v3, main_call0_v4, main_v16]

theorem wrote1_all : (hostOps0_1 : List (HloOp τ sig (Elt Ideal))).Forall fun op => op.writes ⊆ (wrote1.map (Proc.devRef (τ := τ) .tc)).toFinset :=
  forall_writes_sub_of_map rfl

/-- and what they leave alone. -/
theorem kept1 (V0 : Valuation τ sig (Elt Ideal)) (r : Ref sig .tc) (h : r ∉ wrote1) : stage1 V0 (Proc.devRef .tc r) = (stage0 V0) (Proc.devRef .tc r) :=
  after_of_writes_sub hostOps0_1 _ wrote1_all h

theorem at1_main_arg1 (V0 : Valuation τ sig (Elt Ideal)) : stage1 V0 (no_index (Proc.devRef .tc main_arg1)) = (inP V0) :=
  (kept1 V0 main_arg1 (by decide)).trans (at0_main_arg1 V0)

theorem at1_main_v5 (V0 : Valuation τ sig (Elt Ideal)) : stage1 V0 (no_index (Proc.devRef .tc main_v5)) = hostSplit (extractStridedSlice S8192x2048 ![0, 0] (inX V0) slices_S8192x6144_S8192x2048_0_0) :=
  (kept1 V0 main_v5 (by decide)).trans (at0_main_v5 V0)

theorem at1_main_v8 (V0 : Valuation τ sig (Elt Ideal)) : stage1 V0 (no_index (Proc.devRef .tc main_v8)) = hostSplit (extractStridedSlice S8192x2048 ![0, 2048] (inX V0) slices_S8192x6144_S8192x2048_0_2048) :=
  (kept1 V0 main_v8 (by decide)).trans (at0_main_v8 V0)

theorem at1_main_v11 (V0 : Valuation τ sig (Elt Ideal)) : stage1 V0 (no_index (Proc.devRef .tc main_v11)) = hostSplit (extractStridedSlice S8192x2048 ![0, 4096] (inX V0) slices_S8192x6144_S8192x2048_0_4096) :=
  (kept1 V0 main_v11 (by decide)).trans (at0_main_v11 V0)

theorem at1_main_v12 (V0 : Valuation τ sig (Elt Ideal)) : stage1 V0 (no_index (Proc.devRef .tc main_v12)) = iotaInDim S128 32 0 :=
  (kept1 V0 main_v12 (by decide)).trans (at0_main_v12 V0)

theorem at1_main_v13 (V0 : Valuation τ sig (Elt Ideal)) : stage1 V0 (no_index (Proc.devRef .tc main_v13)) = iotaInDim S64 32 0 :=
  (kept1 V0 main_v13 (by decide)).trans (at0_main_v13 V0)

set_option maxHeartbeats 2000000 in
theorem at1_main_v16 (V0 : Valuation τ sig (Elt Ideal)) : stage1 V0 (no_index (Proc.devRef .tc main_v16)) = hostFirst := by
  unfold stage1
  simp only [hostOps0_1, TRef.ternary, TRef.binary, TRef.unary, TRef.toBuf, TRef.ofBuf, cast_eq]
  after_results_simp <;> simp only [at0_main_v15, at0_main_c_0, at0_main_c_1] <;> rfl

/-- The buffers after the host operations of part 2, -/
def stage2 (V0 : Valuation τ sig (Elt Ideal)) : Valuation τ sig (Elt Ideal) := after hostOps0_2 (stage1 V0)

/-- what they write -/
abbrev wrote2 : List (Ref sig .tc) := [main_v17, main_v18, main_v19, main_v20, main_v21, main_v22, main_c_2, main_v23, main_v24, main_c_3, main_c_4]

theorem wrote2_all : (hostOps0_2 : List (HloOp τ sig (Elt Ideal))).Forall fun op => op.writes ⊆ (wrote2.map (Proc.devRef (τ := τ) .tc)).toFinset :=
  forall_writes_sub_of_map rfl

/-- and what they leave alone. -/
theorem kept2 (V0 : Valuation τ sig (Elt Ideal)) (r : Ref sig .tc) (h : r ∉ wrote2) : stage2 V0 (Proc.devRef .tc r) = (stage1 V0) (Proc.devRef .tc r) :=
  after_of_writes_sub hostOps0_2 _ wrote2_all h

theorem at2_main_arg1 (V0 : Valuation τ sig (Elt Ideal)) : stage2 V0 (no_index (Proc.devRef .tc main_arg1)) = (inP V0) :=
  (kept2 V0 main_arg1 (by decide)).trans (at1_main_arg1 V0)

theorem at2_main_v5 (V0 : Valuation τ sig (Elt Ideal)) : stage2 V0 (no_index (Proc.devRef .tc main_v5)) = hostSplit (extractStridedSlice S8192x2048 ![0, 0] (inX V0) slices_S8192x6144_S8192x2048_0_0) :=
  (kept2 V0 main_v5 (by decide)).trans (at1_main_v5 V0)

theorem at2_main_v8 (V0 : Valuation τ sig (Elt Ideal)) : stage2 V0 (no_index (Proc.devRef .tc main_v8)) = hostSplit (extractStridedSlice S8192x2048 ![0, 2048] (inX V0) slices_S8192x6144_S8192x2048_0_2048) :=
  (kept2 V0 main_v8 (by decide)).trans (at1_main_v8 V0)

theorem at2_main_v11 (V0 : Valuation τ sig (Elt Ideal)) : stage2 V0 (no_index (Proc.devRef .tc main_v11)) = hostSplit (extractStridedSlice S8192x2048 ![0, 4096] (inX V0) slices_S8192x6144_S8192x2048_0_4096) :=
  (kept2 V0 main_v11 (by decide)).trans (at1_main_v11 V0)

theorem at2_main_v12 (V0 : Valuation τ sig (Elt Ideal)) : stage2 V0 (no_index (Proc.devRef .tc main_v12)) = iotaInDim S128 32 0 :=
  (kept2 V0 main_v12 (by decide)).trans (at1_main_v12 V0)

theorem at2_main_v13 (V0 : Valuation τ sig (Elt Ideal)) : stage2 V0 (no_index (Proc.devRef .tc main_v13)) = iotaInDim S64 32 0 :=
  (kept2 V0 main_v13 (by decide)).trans (at1_main_v13 V0)

set_option maxHeartbeats 2000000 in
theorem at2_main_v22 (V0 : Valuation τ sig (Elt Ideal)) : stage2 V0 (no_index (Proc.devRef .tc main_v22)) = hostRows := by
  unfold stage2
  simp only [hostOps0_2, TRef.ternary, TRef.binary, TRef.unary, TRef.toBuf, TRef.ofBuf, cast_eq]
  after_results_simp <;> simp only [at1_main_v13, at1_main_v16] <;> rfl

set_option maxHeartbeats 2000000 in
theorem at2_main_v24 (V0 : Valuation τ sig (Elt Ideal)) : stage2 V0 (no_index (Proc.devRef .tc main_v24)) = subi (iotaInDim S64 32 0) (broadcastInDim S64 ![] bcast_S_S64 (constantI S_ 32 8#32)) := by
  unfold stage2
  simp only [hostOps0_2, TRef.ternary, TRef.binary, TRef.unary, TRef.toBuf, TRef.ofBuf, cast_eq]
  after_results_simp <;> simp only [at1_main_v13, at1_main_v16] <;> rfl

set_option maxHeartbeats 2000000 in
theorem at2_main_c_3 (V0 : Valuation τ sig (Elt Ideal)) : stage2 V0 (no_index (Proc.devRef .tc main_c_3)) = constantI S_ 32 0#32 := by
  unfold stage2
  simp only [hostOps0_2, TRef.ternary, TRef.binary, TRef.unary, TRef.toBuf, TRef.ofBuf, cast_eq]
  after_results_simp <;> simp only [at1_main_v13, at1_main_v16] <;> rfl

set_option maxHeartbeats 2000000 in
theorem at2_main_c_4 (V0 : Valuation τ sig (Elt Ideal)) : stage2 V0 (no_index (Proc.devRef .tc main_c_4)) = constantI S_ 32 48#32 := by
  unfold stage2
  simp only [hostOps0_2, TRef.ternary, TRef.binary, TRef.unary, TRef.toBuf, TRef.ofBuf, cast_eq]
  after_results_simp <;> simp only [at1_main_v13, at1_main_v16] <;> rfl

/-- The buffers after the host operations of part 3, -/
def stage3 (V0 : Valuation τ sig (Elt Ideal)) : Valuation τ sig (Elt Ideal) := after hostOps0_3 (stage2 V0)

/-- what they write -/
abbrev wrote3 : List (Ref sig .tc) := [main_call1_v0, main_call1_v1, main_call1_v2, main_call1_v3, main_call1_v4, main_v25]

theorem wrote3_all : (hostOps0_3 : List (HloOp τ sig (Elt Ideal))).Forall fun op => op.writes ⊆ (wrote3.map (Proc.devRef (τ := τ) .tc)).toFinset :=
  forall_writes_sub_of_map rfl

/-- and what they leave alone. -/
theorem kept3 (V0 : Valuation τ sig (Elt Ideal)) (r : Ref sig .tc) (h : r ∉ wrote3) : stage3 V0 (Proc.devRef .tc r) = (stage2 V0) (Proc.devRef .tc r) :=
  after_of_writes_sub hostOps0_3 _ wrote3_all h

theorem at3_main_arg1 (V0 : Valuation τ sig (Elt Ideal)) : stage3 V0 (no_index (Proc.devRef .tc main_arg1)) = (inP V0) :=
  (kept3 V0 main_arg1 (by decide)).trans (at2_main_arg1 V0)

theorem at3_main_v5 (V0 : Valuation τ sig (Elt Ideal)) : stage3 V0 (no_index (Proc.devRef .tc main_v5)) = hostSplit (extractStridedSlice S8192x2048 ![0, 0] (inX V0) slices_S8192x6144_S8192x2048_0_0) :=
  (kept3 V0 main_v5 (by decide)).trans (at2_main_v5 V0)

theorem at3_main_v8 (V0 : Valuation τ sig (Elt Ideal)) : stage3 V0 (no_index (Proc.devRef .tc main_v8)) = hostSplit (extractStridedSlice S8192x2048 ![0, 2048] (inX V0) slices_S8192x6144_S8192x2048_0_2048) :=
  (kept3 V0 main_v8 (by decide)).trans (at2_main_v8 V0)

theorem at3_main_v11 (V0 : Valuation τ sig (Elt Ideal)) : stage3 V0 (no_index (Proc.devRef .tc main_v11)) = hostSplit (extractStridedSlice S8192x2048 ![0, 4096] (inX V0) slices_S8192x6144_S8192x2048_0_4096) :=
  (kept3 V0 main_v11 (by decide)).trans (at2_main_v11 V0)

theorem at3_main_v12 (V0 : Valuation τ sig (Elt Ideal)) : stage3 V0 (no_index (Proc.devRef .tc main_v12)) = iotaInDim S128 32 0 :=
  (kept3 V0 main_v12 (by decide)).trans (at2_main_v12 V0)

theorem at3_main_v13 (V0 : Valuation τ sig (Elt Ideal)) : stage3 V0 (no_index (Proc.devRef .tc main_v13)) = iotaInDim S64 32 0 :=
  (kept3 V0 main_v13 (by decide)).trans (at2_main_v13 V0)

theorem at3_main_v22 (V0 : Valuation τ sig (Elt Ideal)) : stage3 V0 (no_index (Proc.devRef .tc main_v22)) = hostRows :=
  (kept3 V0 main_v22 (by decide)).trans (at2_main_v22 V0)

set_option maxHeartbeats 2000000 in
theorem at3_main_v25 (V0 : Valuation τ sig (Elt Ideal)) : stage3 V0 (no_index (Proc.devRef .tc main_v25)) = hostLeft := by
  unfold stage3
  simp only [hostOps0_3, TRef.ternary, TRef.binary, TRef.unary, TRef.toBuf, TRef.ofBuf, cast_eq]
  after_results_simp <;> simp only [at2_main_v24, at2_main_c_3, at2_main_c_4] <;> rfl

/-- The buffers after the host operations of part 4, -/
def stage4 (V0 : Valuation τ sig (Elt Ideal)) : Valuation τ sig (Elt Ideal) := after hostOps0_4 (stage3 V0)

/-- what they write -/
abbrev wrote4 : List (Ref sig .tc) := [main_v26, main_v27, main_v28, main_v29, main_v30, main_v31, main_v32, main_c_5, main_v33, main_v34, main_v35, main_v36, main_v37, main_v38, main_v39, main_v40, main_v41, main_v42, main_v43, main_v44, main_v45, main_v46, main_v47, main_v48, main_c_6, main_v49, main_v50, main_c_7, main_v51, main_v52, main_v53, main_v54, main_v55, main_c_8, main_v56, main_v57, main_c_9, main_v58, main_v59, main_v60, main_c_10, main_v61, main_v62, main_c_11, main_v63, main_v64, main_c_12, main_c_13]

theorem wrote4_all : (hostOps0_4 : List (HloOp τ sig (Elt Ideal))).Forall fun op => op.writes ⊆ (wrote4.map (Proc.devRef (τ := τ) .tc)).toFinset :=
  forall_writes_sub_of_map rfl

/-- and what they leave alone. -/
theorem kept4 (V0 : Valuation τ sig (Elt Ideal)) (r : Ref sig .tc) (h : r ∉ wrote4) : stage4 V0 (Proc.devRef .tc r) = (stage3 V0) (Proc.devRef .tc r) :=
  after_of_writes_sub hostOps0_4 _ wrote4_all h

theorem at4_main_arg1 (V0 : Valuation τ sig (Elt Ideal)) : stage4 V0 (no_index (Proc.devRef .tc main_arg1)) = (inP V0) :=
  (kept4 V0 main_arg1 (by decide)).trans (at3_main_arg1 V0)

theorem at4_main_v11 (V0 : Valuation τ sig (Elt Ideal)) : stage4 V0 (no_index (Proc.devRef .tc main_v11)) = hostSplit (extractStridedSlice S8192x2048 ![0, 4096] (inX V0) slices_S8192x6144_S8192x2048_0_4096) :=
  (kept4 V0 main_v11 (by decide)).trans (at3_main_v11 V0)

theorem at4_main_v22 (V0 : Valuation τ sig (Elt Ideal)) : stage4 V0 (no_index (Proc.devRef .tc main_v22)) = hostRows :=
  (kept4 V0 main_v22 (by decide)).trans (at3_main_v22 V0)

set_option maxHeartbeats 2000000 in
theorem at4_main_v38 (V0 : Valuation τ sig (Elt Ideal)) : stage4 V0 (no_index (Proc.devRef .tc main_v38)) = hostMask := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

set_option maxHeartbeats 2000000 in
theorem at4_main_v47 (V0 : Valuation τ sig (Elt Ideal)) : stage4 V0 (no_index (Proc.devRef .tc main_v47)) = hostQ (inX V0) := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

set_option maxHeartbeats 2000000 in
theorem at4_main_v55 (V0 : Valuation τ sig (Elt Ideal)) : stage4 V0 (no_index (Proc.devRef .tc main_v55)) = hostK (inX V0) := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

set_option maxHeartbeats 2000000 in
theorem at4_main_v60 (V0 : Valuation τ sig (Elt Ideal)) : stage4 V0 (no_index (Proc.devRef .tc main_v60)) = hostTab := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

set_option maxHeartbeats 2000000 in
theorem at4_main_v64 (V0 : Valuation τ sig (Elt Ideal)) : stage4 V0 (no_index (Proc.devRef .tc main_v64)) = hostApart := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

set_option maxHeartbeats 2000000 in
theorem at4_main_c_12 (V0 : Valuation τ sig (Elt Ideal)) : stage4 V0 (no_index (Proc.devRef .tc main_c_12)) = constantI S_ 32 0#32 := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

set_option maxHeartbeats 2000000 in
theorem at4_main_c_13 (V0 : Valuation τ sig (Elt Ideal)) : stage4 V0 (no_index (Proc.devRef .tc main_c_13)) = constantI S_ 32 30#32 := by
  unfold stage4
  simp only [hostOps0_4, TRef.ternary, TRef.binary, TRef.unary, TRef.toBuf, TRef.ofBuf, cast_eq]
  after_results_simp <;> simp only [at3_main_v5, at3_main_v8, at3_main_v12, at3_main_v13, at3_main_v22, at3_main_v25] <;> rfl

/-- The buffers after the host operations of part 5, -/
def stage5 (V0 : Valuation τ sig (Elt Ideal)) : Valuation τ sig (Elt Ideal) := after hostOps0_5 (stage4 V0)

/-- what they write -/
abbrev wrote5 : List (Ref sig .tc) := [main_call2_v0, main_call2_v1, main_call2_v2, main_call2_v3, main_call2_v4, main_v65]

theorem wrote5_all : (hostOps0_5 : List (HloOp τ sig (Elt Ideal))).Forall fun op => op.writes ⊆ (wrote5.map (Proc.devRef (τ := τ) .tc)).toFinset :=
  forall_writes_sub_of_map rfl

/-- and what they leave alone. -/
theorem kept5 (V0 : Valuation τ sig (Elt Ideal)) (r : Ref sig .tc) (h : r ∉ wrote5) : stage5 V0 (Proc.devRef .tc r) = (stage4 V0) (Proc.devRef .tc r) :=
  after_of_writes_sub hostOps0_5 _ wrote5_all h

theorem at5_main_arg1 (V0 : Valuation τ sig (Elt Ideal)) : stage5 V0 (no_index (Proc.devRef .tc main_arg1)) = (inP V0) :=
  (kept5 V0 main_arg1 (by decide)).trans (at4_main_arg1 V0)

theorem at5_main_v11 (V0 : Valuation τ sig (Elt Ideal)) : stage5 V0 (no_index (Proc.devRef .tc main_v11)) = hostSplit (extractStridedSlice S8192x2048 ![0, 4096] (inX V0) slices_S8192x6144_S8192x2048_0_4096) :=
  (kept5 V0 main_v11 (by decide)).trans (at4_main_v11 V0)

theorem at5_main_v22 (V0 : Valuation τ sig (Elt Ideal)) : stage5 V0 (no_index (Proc.devRef .tc main_v22)) = hostRows :=
  (kept5 V0 main_v22 (by decide)).trans (at4_main_v22 V0)

theorem at5_main_v38 (V0 : Valuation τ sig (Elt Ideal)) : stage5 V0 (no_index (Proc.devRef .tc main_v38)) = hostMask :=
  (kept5 V0 main_v38 (by decide)).trans (at4_main_v38 V0)

theorem at5_main_v47 (V0 : Valuation τ sig (Elt Ideal)) : stage5 V0 (no_index (Proc.devRef .tc main_v47)) = hostQ (inX V0) :=
  (kept5 V0 main_v47 (by decide)).trans (at4_main_v47 V0)

theorem at5_main_v55 (V0 : Valuation τ sig (Elt Ideal)) : stage5 V0 (no_index (Proc.devRef .tc main_v55)) = hostK (inX V0) :=
  (kept5 V0 main_v55 (by decide)).trans (at4_main_v55 V0)

theorem at5_main_v60 (V0 : Valuation τ sig (Elt Ideal)) : stage5 V0 (no_index (Proc.devRef .tc main_v60)) = hostTab :=
  (kept5 V0 main_v60 (by decide)).trans (at4_main_v60 V0)

set_option maxHeartbeats 2000000 in
theorem at5_main_v65 (V0 : Valuation τ sig (Elt Ideal)) : stage5 V0 (no_index (Proc.devRef .tc main_v65)) = hostColIn := by
  unfold stage5
  simp only [hostOps0_5, TRef.ternary, TRef.binary, TRef.unary, TRef.toBuf, TRef.ofBuf, cast_eq]
  after_results_simp <;> simp only [at4_main_v64, at4_main_c_12, at4_main_c_13] <;> rfl

end Cert.KernelIdeal.NaBwd
-- ==== Proof.NaEntry.lean ====
/- The host operations before the kernel, part by part: what each buffer read later holds after a part. -/
module

public import proofs.«01_k».proof.Proof.NaHost
public import proofs.«01_k».proof.Proof.NaStage

@[expose] public section

set_option maxRecDepth 16384

noncomputable section

namespace Cert.KernelIdeal.NaBwd

open Cert.KernelIdeal Cert.KernelIdeal.Gen
open Idealize.ShloMosaic Idealize.ShloMosaic.TcCoe Idealize.ShloMosaic.StableHlo
open Idealize.SL.Sem

/-- The buffers after the host operations of part 6, -/
def stage6 (V0 : Valuation τ sig (Elt Ideal)) : Valuation τ sig (Elt Ideal) := after hostOps0_6 (stage5 V0)

/-- what they write -/
abbrev wrote6 : List (Ref sig .tc) := [main_v66, main_c_14, main_v67, main_v68, main_c_15, main_v69, main_v70, main_v71, main_c_16, main_v72, main_v73, main_c_17, main_v74, main_v75, main_v76, main_v77, main_v78, main_v79, main_v80, main_v81, main_v82, main_v83, main_cst, main_v84, main_v85, main_v86, main_v87, main_v88, main_cst_18]

theorem wrote6_all : (hostOps0_6 : List (HloOp τ sig (Elt Ideal))).Forall fun op => op.writes ⊆ (wrote6.map (Proc.devRef (τ := τ) .tc)).toFinset :=
  forall_writes_sub_of_map rfl

/-- and what they leave alone. -/
theorem kept6 (V0 : Valuation τ sig (Elt Ideal)) (r : Ref sig .tc) (h : r ∉ wrote6) : stage6 V0 (Proc.devRef .tc r) = (stage5 V0) (Proc.devRef .tc r) :=
  after_of_writes_sub hostOps0_6 _ wrote6_all h

theorem at6_main_arg1 (V0 : Valuation τ sig (Elt Ideal)) : stage6 V0 (no_index (Proc.devRef .tc main_arg1)) = (inP V0) :=
  (kept6 V0 main_arg1 (by decide)).trans (at5_main_arg1 V0)

theorem at6_main_v11 (V0 : Valuation τ sig (Elt Ideal)) : stage6 V0 (no_index (Proc.devRef .tc main_v11)) = hostSplit (extractStridedSlice S8192x2048 ![0, 4096] (inX V0) slices_S8192x6144_S8192x2048_0_4096) :=
  (kept6 V0 main_v11 (by decide)).trans (at5_main_v11 V0)

theorem at6_main_v22 (V0 : Valuation τ sig (Elt Ideal)) : stage6 V0 (no_index (Proc.devRef .tc main_v22)) = hostRows :=
  (kept6 V0 main_v22 (by decide)).trans (at5_main_v22 V0)

set_option maxHeartbeats 2000000 in
theorem at6_main_v87 (V0 : Valuation τ sig (Elt Ideal)) : stage6 V0 (no_index (Proc.devRef .tc main_v87)) = hostSum (inX V0) (inP V0) := by
  unfold stage6
  simp only [hostOps0_6, TRef.ternary, TRef.binary, TRef.unary, TRef.toBuf, TRef.ofBuf, cast_eq]
  after_results_simp
  after_results_loop
  rw [at5_main_arg1, at5_main_v47, at5_main_v55, at5_main_v60, at5_main_v65]
  rfl

set_option maxHeartbeats 2000000 in
theorem at6_main_v88 (V0 : Valuation τ sig (Elt Ideal)) : stage6 V0 (no_index (Proc.devRef .tc main_v88)) = broadcastInDim S64x1x64 ![0, 2] bcast_S64x64_S64x1x64_0_2 hostMask := by
  unfold stage6
  simp only [hostOps0_6, TRef.ternary, TRef.binary, TRef.unary, TRef.toBuf, TRef.ofBuf, cast_eq]
  after_results_simp <;> simp only [at5_main_arg1, at5_main_v38, at5_main_v47, at5_main_v55, at5_main_v60, at5_main_v65] <;> rfl

set_option maxHeartbeats 2000000 in
theorem at6_main_cst_18 (V0 : Valuation τ sig (Elt Ideal)) : stage6 V0 (no_index (Proc.devRef .tc main_cst_18)) = constant (F := Ideal) S_ .f32 0xFF800000#32 := by
  unfold stage6
  simp only [hostOps0_6, TRef.ternary, TRef.binary, TRef.unary, TRef.toBuf, TRef.ofBuf, cast_eq]
  after_results_simp <;> simp only [at5_main_arg1, at5_main_v38, at5_main_v47, at5_main_v55, at5_main_v60, at5_main_v65] <;> rfl

/-- The buffers after the host operations of part 7, -/
def stage7 (V0 : Valuation τ sig (Elt Ideal)) : Valuation τ sig (Elt Ideal) := after hostOps0_7 (stage6 V0)

/-- what they write -/
abbrev wrote7 : List (Ref sig .tc) := [main_call3_v0, main_call3_v1, main_call3_v2, main_v89]

theorem wrote7_all : (hostOps0_7 : List (HloOp τ sig (Elt Ideal))).Forall fun op => op.writes ⊆ (wrote7.map (Proc.devRef (τ := τ) .tc)).toFinset :=
  forall_writes_sub_of_map rfl

/-- and what they leave alone. -/
theorem kept7 (V0 : Valuation τ sig (Elt Ideal)) (r : Ref sig .tc) (h : r ∉ wrote7) : stage7 V0 (Proc.devRef .tc r) = (stage6 V0) (Proc.devRef .tc r) :=
  after_of_writes_sub hostOps0_7 _ wrote7_all h

theorem at7_main_arg1 (V0 : Valuation τ sig (Elt Ideal)) : stage7 V0 (no_index (Proc.devRef .tc main_arg1)) = (inP V0) :=
  (kept7 V0 main_arg1 (by decide)).trans (at6_main_arg1 V0)

theorem at7_main_v11 (V0 : Valuation τ sig (Elt Ideal)) : stage7 V0 (no_index (Proc.devRef .tc main_v11)) = hostSplit (extractStridedSlice S8192x2048 ![0, 4096] (inX V0) slices_S8192x6144_S8192x2048_0_4096) :=
  (kept7 V0 main_v11 (by decide)).trans (at6_main_v11 V0)

theorem at7_main_v22 (V0 : Valuation τ sig (Elt Ideal)) : stage7 V0 (no_index (Proc.devRef .tc main_v22)) = hostRows :=
  (kept7 V0 main_v22 (by decide)).trans (at6_main_v22 V0)

set_option maxHeartbeats 2000000 in
theorem at7_main_v89 (V0 : Valuation τ sig (Elt Ideal)) : stage7 V0 (no_index (Proc.devRef .tc main_v89)) = hostScores (inX V0) (inP V0) := by
  unfold stage7
  simp only [hostOps0_7, TRef.ternary, TRef.binary, TRef.unary, TRef.toBuf, TRef.ofBuf, cast_eq]
  after_results_simp <;> simp only [at6_main_v87, at6_main_v88, at6_main_cst_18] <;> rfl

/-- The buffers after the host operations of part 8, -/
def stage8 (V0 : Valuation τ sig (Elt Ideal)) : Valuation τ sig (Elt Ideal) := after hostOps0_8 (stage7 V0)

/-- what they write -/
abbrev wrote8 : List (Ref sig .tc) := [main_cst_19, main_v90, main_v91, main_v92, main_v93, main_v94, main_cst_20, main_v95, main_v96, main_v97, main_c_21, main_v98, main_v99, main_c_22, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_c_23, main_v125, main_v126, main_c_24, main_v127, main_v128, main_v129, main_c_25, main_v130, main_v131, main_c_26, main_c_27]

theorem wrote8_all : (hostOps0_8 : List (HloOp τ sig (Elt Ideal))).Forall fun op => op.writes ⊆ (wrote8.map (Proc.devRef (τ := τ) .tc)).toFinset :=
  forall_writes_sub_of_map rfl

/-- and what they leave alone. -/
theorem kept8 (V0 : Valuation τ sig (Elt Ideal)) (r : Ref sig .tc) (h : r ∉ wrote8) : stage8 V0 (Proc.devRef .tc r) = (stage7 V0) (Proc.devRef .tc r) :=
  after_of_writes_sub hostOps0_8 _ wrote8_all h

theorem at8_main_arg1 (V0 : Valuation τ sig (Elt Ideal)) : stage8 V0 (no_index (Proc.devRef .tc main_arg1)) = (inP V0) :=
  (kept8 V0 main_arg1 (by decide)).trans (at7_main_arg1 V0)

set_option maxHeartbeats 2000000 in
theorem at8_main_v115 (V0 : Valuation τ sig (Elt Ideal)) : stage8 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) := by
  unfold stage8
  simp only [hostOps0_8, TRef.ternary, TRef.binary, TRef.unary, TRef.toBuf, TRef.ofBuf, cast_eq]
  after_results_simp <;> simp only [at7_main_v11, at7_main_v22, at7_main_v89] <;> rfl

set_option maxHeartbeats 2000000 in
theorem at8_main_v117 (V0 : Valuation τ sig (Elt Ideal)) : stage8 V0 (no_index (Proc.devRef .tc main_v117)) = hostLse (hostTop (hostScores (inX V0) (inP V0))) (hostTot (hostExp (hostScores (inX V0) (inP V0)) (hostTop (hostScores (inX V0) (inP V0))))) := by
  unfold stage8
  simp only [hostOps0_8, TRef.ternary, TRef.binary, TRef.unary, TRef.toBuf, TRef.ofBuf, cast_eq]
  after_results_simp <;> simp only [at7_main_v11, at7_main_v22, at7_main_v89] <;> rfl

set_option maxHeartbeats 2000000 in
theorem at8_main_v128 (V0 : Valuation τ sig (Elt Ideal)) : stage8 V0 (no_index (Proc.devRef .tc main_v128)) = subi (addi (subi (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0)))) (broadcastInDim S8x8 ![] bcast_S_S8x8 (constantI S_ 32 8#32))) (broadcastInDim S8x8 ![] bcast_S_S8x8 (constantI S_ 32 1#32)) := by
  unfold stage8
  simp only [hostOps0_8, TRef.ternary, TRef.binary, TRef.unary, TRef.toBuf, TRef.ofBuf, cast_eq]
  after_results_simp <;> simp only [at7_main_v11, at7_main_v22, at7_main_v89] <;> rfl

set_option maxHeartbeats 2000000 in
theorem at8_main_v129 (V0 : Valuation τ sig (Elt Ideal)) : stage8 V0 (no_index (Proc.devRef .tc main_v129)) = iotaInDim S64 32 0 := by
  unfold stage8
  simp only [hostOps0_8, TRef.ternary, TRef.binary, TRef.unary, TRef.toBuf, TRef.ofBuf, cast_eq]
  after_results_simp <;> simp only [at7_main_v11, at7_main_v22, at7_main_v89] <;> rfl

set_option maxHeartbeats 2000000 in
theorem at8_main_v131 (V0 : Valuation τ sig (Elt Ideal)) : stage8 V0 (no_index (Proc.devRef .tc main_v131)) = subi (iotaInDim S64 32 0) (broadcastInDim S64 ![] bcast_S_S64 (constantI S_ 32 8#32)) := by
  unfold stage8
  simp only [hostOps0_8, TRef.ternary, TRef.binary, TRef.unary, TRef.toBuf, TRef.ofBuf, cast_eq]
  after_results_simp <;> simp only [at7_main_v11, at7_main_v22, at7_main_v89] <;> rfl

set_option maxHeartbeats 2000000 in
theorem at8_main_c_26 (V0 : Valuation τ sig (Elt Ideal)) : stage8 V0 (no_index (Proc.devRef .tc main_c_26)) = constantI S_ 32 0#32 := by
  unfold stage8
  simp only [hostOps0_8, TRef.ternary, TRef.binary, TRef.unary, TRef.toBuf, TRef.ofBuf, cast_eq]
  after_results_simp <;> simp only [at7_main_v11, at7_main_v22, at7_main_v89] <;> rfl

set_option maxHeartbeats 2000000 in
theorem at8_main_c_27 (V0 : Valuation τ sig (Elt Ideal)) : stage8 V0 (no_index (Proc.devRef .tc main_c_27)) = constantI S_ 32 48#32 := by
  unfold stage8
  simp only [hostOps0_8, TRef.ternary, TRef.binary, TRef.unary, TRef.toBuf, TRef.ofBuf, cast_eq]
  after_results_simp <;> simp only [at7_main_v11, at7_main_v22, at7_main_v89] <;> rfl

/-- The buffers after the host operations of part 9, -/
def stage9 (V0 : Valuation τ sig (Elt Ideal)) : Valuation τ sig (Elt Ideal) := after hostOps0_9 (stage8 V0)

/-- what they write -/
abbrev wrote9 : List (Ref sig .tc) := [main_call4_v0, main_call4_v1, main_call4_v2, main_call4_v3, main_call4_v4, main_v132]

theorem wrote9_all : (hostOps0_9 : List (HloOp τ sig (Elt Ideal))).Forall fun op => op.writes ⊆ (wrote9.map (Proc.devRef (τ := τ) .tc)).toFinset :=
  forall_writes_sub_of_map rfl

/-- and what they leave alone. -/
theorem kept9 (V0 : Valuation τ sig (Elt Ideal)) (r : Ref sig .tc) (h : r ∉ wrote9) : stage9 V0 (Proc.devRef .tc r) = (stage8 V0) (Proc.devRef .tc r) :=
  after_of_writes_sub hostOps0_9 _ wrote9_all h

theorem at9_main_arg1 (V0 : Valuation τ sig (Elt Ideal)) : stage9 V0 (no_index (Proc.devRef .tc main_arg1)) = (inP V0) :=
  (kept9 V0 main_arg1 (by decide)).trans (at8_main_arg1 V0)

theorem at9_main_v115 (V0 : Valuation τ sig (Elt Ideal)) : stage9 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) :=
  (kept9 V0 main_v115 (by decide)).trans (at8_main_v115 V0)

theorem at9_main_v117 (V0 : Valuation τ sig (Elt Ideal)) : stage9 V0 (no_index (Proc.devRef .tc main_v117)) = hostLse (hostTop (hostScores (inX V0) (inP V0))) (hostTot (hostExp (hostScores (inX V0) (inP V0)) (hostTop (hostScores (inX V0) (inP V0))))) :=
  (kept9 V0 main_v117 (by decide)).trans (at8_main_v117 V0)

theorem at9_main_v128 (V0 : Valuation τ sig (Elt Ideal)) : stage9 V0 (no_index (Proc.devRef .tc main_v128)) = subi (addi (subi (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0)))) (broadcastInDim S8x8 ![] bcast_S_S8x8 (constantI S_ 32 8#32))) (broadcastInDim S8x8 ![] bcast_S_S8x8 (constantI S_ 32 1#32)) :=
  (kept9 V0 main_v128 (by decide)).trans (at8_main_v128 V0)

theorem at9_main_v129 (V0 : Valuation τ sig (Elt Ideal)) : stage9 V0 (no_index (Proc.devRef .tc main_v129)) = iotaInDim S64 32 0 :=
  (kept9 V0 main_v129 (by decide)).trans (at8_main_v129 V0)

set_option maxHeartbeats 2000000 in
theorem at9_main_v132 (V0 : Valuation τ sig (Elt Ideal)) : stage9 V0 (no_index (Proc.devRef .tc main_v132)) = hostLeft := by
  unfold stage9
  simp only [hostOps0_9, TRef.ternary, TRef.binary, TRef.unary, TRef.toBuf, TRef.ofBuf, cast_eq]
  after_results_simp <;> simp only [at8_main_v131, at8_main_c_26, at8_main_c_27] <;> rfl

/-- The buffers after the host operations of part 10, -/
def stage10 (V0 : Valuation τ sig (Elt Ideal)) : Valuation τ sig (Elt Ideal) := after hostOps0_10 (stage9 V0)

/-- what they write -/
abbrev wrote10 : List (Ref sig .tc) := [main_v133, main_v134, main_v135, main_v136, main_v137, main_v138, main_v139, main_c_28, main_v140, main_v141, main_v142, main_v143, main_v144, main_v145, main_v146, main_v147, main_v148, main_v149, main_v150, main_c_29, main_v151, main_v152, main_c_30, main_v153, main_v154, main_c_31, main_c_32]

theorem wrote10_all : (hostOps0_10 : List (HloOp τ sig (Elt Ideal))).Forall fun op => op.writes ⊆ (wrote10.map (Proc.devRef (τ := τ) .tc)).toFinset :=
  forall_writes_sub_of_map rfl

/-- and what they leave alone. -/
theorem kept10 (V0 : Valuation τ sig (Elt Ideal)) (r : Ref sig .tc) (h : r ∉ wrote10) : stage10 V0 (Proc.devRef .tc r) = (stage9 V0) (Proc.devRef .tc r) :=
  after_of_writes_sub hostOps0_10 _ wrote10_all h

theorem at10_main_arg1 (V0 : Valuation τ sig (Elt Ideal)) : stage10 V0 (no_index (Proc.devRef .tc main_arg1)) = (inP V0) :=
  (kept10 V0 main_arg1 (by decide)).trans (at9_main_arg1 V0)

theorem at10_main_v115 (V0 : Valuation τ sig (Elt Ideal)) : stage10 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) :=
  (kept10 V0 main_v115 (by decide)).trans (at9_main_v115 V0)

theorem at10_main_v117 (V0 : Valuation τ sig (Elt Ideal)) : stage10 V0 (no_index (Proc.devRef .tc main_v117)) = hostLse (hostTop (hostScores (inX V0) (inP V0))) (hostTot (hostExp (hostScores (inX V0) (inP V0)) (hostTop (hostScores (inX V0) (inP V0))))) :=
  (kept10 V0 main_v117 (by decide)).trans (at9_main_v117 V0)

theorem at10_main_v128 (V0 : Valuation τ sig (Elt Ideal)) : stage10 V0 (no_index (Proc.devRef .tc main_v128)) = subi (addi (subi (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0)))) (broadcastInDim S8x8 ![] bcast_S_S8x8 (constantI S_ 32 8#32))) (broadcastInDim S8x8 ![] bcast_S_S8x8 (constantI S_ 32 1#32)) :=
  (kept10 V0 main_v128 (by decide)).trans (at9_main_v128 V0)

set_option maxHeartbeats 2000000 in
theorem at10_main_v145 (V0 : Valuation τ sig (Elt Ideal)) : stage10 V0 (no_index (Proc.devRef .tc main_v145)) = hostMask := by
  unfold stage10
  simp only [hostOps0_10, TRef.ternary, TRef.binary, TRef.unary, TRef.toBuf, TRef.ofBuf, cast_eq]
  after_results_simp <;> simp only [at9_main_v129, at9_main_v132] <;> rfl

set_option maxHeartbeats 2000000 in
theorem at10_main_v154 (V0 : Valuation τ sig (Elt Ideal)) : stage10 V0 (no_index (Proc.devRef .tc main_v154)) = hostApart := by
  unfold stage10
  simp only [hostOps0_10, TRef.ternary, TRef.binary, TRef.unary, TRef.toBuf, TRef.ofBuf, cast_eq]
  after_results_simp <;> simp only [at9_main_v129, at9_main_v132] <;> rfl

set_option maxHeartbeats 2000000 in
theorem at10_main_c_31 (V0 : Valuation τ sig (Elt Ideal)) : stage10 V0 (no_index (Proc.devRef .tc main_c_31)) = constantI S_ 32 0#32 := by
  unfold stage10
  simp only [hostOps0_10, TRef.ternary, TRef.binary, TRef.unary, TRef.toBuf, TRef.ofBuf, cast_eq]
  after_results_simp <;> simp only [at9_main_v129, at9_main_v132] <;> rfl

set_option maxHeartbeats 2000000 in
theorem at10_main_c_32 (V0 : Valuation τ sig (Elt Ideal)) : stage10 V0 (no_index (Proc.devRef .tc main_c_32)) = constantI S_ 32 30#32 := by
  unfold stage10
  simp only [hostOps0_10, TRef.ternary, TRef.binary, TRef.unary, TRef.toBuf, TRef.ofBuf, cast_eq]
  after_results_simp <;> simp only [at9_main_v129, at9_main_v132] <;> rfl

/-- The buffers after the host operations of part 11, -/
def stage11 (V0 : Valuation τ sig (Elt Ideal)) : Valuation τ sig (Elt Ideal) := after hostOps0_11 (stage10 V0)

/-- what they write -/
abbrev wrote11 : List (Ref sig .tc) := [main_call5_v0, main_call5_v1, main_call5_v2, main_call5_v3, main_call5_v4, main_v155]

theorem wrote11_all : (hostOps0_11 : List (HloOp τ sig (Elt Ideal))).Forall fun op => op.writes ⊆ (wrote11.map (Proc.devRef (τ := τ) .tc)).toFinset :=
  forall_writes_sub_of_map rfl

/-- and what they leave alone. -/
theorem kept11 (V0 : Valuation τ sig (Elt Ideal)) (r : Ref sig .tc) (h : r ∉ wrote11) : stage11 V0 (Proc.devRef .tc r) = (stage10 V0) (Proc.devRef .tc r) :=
  after_of_writes_sub hostOps0_11 _ wrote11_all h

theorem at11_main_arg1 (V0 : Valuation τ sig (Elt Ideal)) : stage11 V0 (no_index (Proc.devRef .tc main_arg1)) = (inP V0) :=
  (kept11 V0 main_arg1 (by decide)).trans (at10_main_arg1 V0)

theorem at11_main_v115 (V0 : Valuation τ sig (Elt Ideal)) : stage11 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) :=
  (kept11 V0 main_v115 (by decide)).trans (at10_main_v115 V0)

theorem at11_main_v117 (V0 : Valuation τ sig (Elt Ideal)) : stage11 V0 (no_index (Proc.devRef .tc main_v117)) = hostLse (hostTop (hostScores (inX V0) (inP V0))) (hostTot (hostExp (hostScores (inX V0) (inP V0)) (hostTop (hostScores (inX V0) (inP V0))))) :=
  (kept11 V0 main_v117 (by decide)).trans (at10_main_v117 V0)

theorem at11_main_v128 (V0 : Valuation τ sig (Elt Ideal)) : stage11 V0 (no_index (Proc.devRef .tc main_v128)) = subi (addi (subi (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0)))) (broadcastInDim S8x8 ![] bcast_S_S8x8 (constantI S_ 32 8#32))) (broadcastInDim S8x8 ![] bcast_S_S8x8 (constantI S_ 32 1#32)) :=
  (kept11 V0 main_v128 (by decide)).trans (at10_main_v128 V0)

theorem at11_main_v145 (V0 : Valuation τ sig (Elt Ideal)) : stage11 V0 (no_index (Proc.devRef .tc main_v145)) = hostMask :=
  (kept11 V0 main_v145 (by decide)).trans (at10_main_v145 V0)

set_option maxHeartbeats 2000000 in
theorem at11_main_v155 (V0 : Valuation τ sig (Elt Ideal)) : stage11 V0 (no_index (Proc.devRef .tc main_v155)) = hostColIn := by
  unfold stage11
  simp only [hostOps0_11, TRef.ternary, TRef.binary, TRef.unary, TRef.toBuf, TRef.ofBuf, cast_eq]
  after_results_simp <;> simp only [at10_main_v154, at10_main_c_31, at10_main_c_32] <;> rfl

/-- The buffers after the host operations of part 12, -/
def stage12 (V0 : Valuation τ sig (Elt Ideal)) : Valuation τ sig (Elt Ideal) := after hostOps0_12 (stage11 V0)

/-- what they write -/
abbrev wrote12 : List (Ref sig .tc) := [main_v156, main_v157, main_c_33, main_v158, main_v159, main_c_34, main_v160, main_v161, main_v162, main_c_35, main_v163, main_v164, main_c_36, main_v165, main_v166, main_v167, main_v168, main_v169, main_v170, main_v171, main_v172, main_v173, main_v174, main_cst_37]

theorem wrote12_all : (hostOps0_12 : List (HloOp τ sig (Elt Ideal))).Forall fun op => op.writes ⊆ (wrote12.map (Proc.devRef (τ := τ) .tc)).toFinset :=
  forall_writes_sub_of_map rfl

/-- and what they leave alone. -/
theorem kept12 (V0 : Valuation τ sig (Elt Ideal)) (r : Ref sig .tc) (h : r ∉ wrote12) : stage12 V0 (Proc.devRef .tc r) = (stage11 V0) (Proc.devRef .tc r) :=
  after_of_writes_sub hostOps0_12 _ wrote12_all h

theorem at12_main_v115 (V0 : Valuation τ sig (Elt Ideal)) : stage12 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) :=
  (kept12 V0 main_v115 (by decide)).trans (at11_main_v115 V0)

theorem at12_main_v117 (V0 : Valuation τ sig (Elt Ideal)) : stage12 V0 (no_index (Proc.devRef .tc main_v117)) = hostLse (hostTop (hostScores (inX V0) (inP V0))) (hostTot (hostExp (hostScores (inX V0) (inP V0)) (hostTop (hostScores (inX V0) (inP V0))))) :=
  (kept12 V0 main_v117 (by decide)).trans (at11_main_v117 V0)

set_option maxHeartbeats 2000000 in
theorem at12_main_v173 (V0 : Valuation τ sig (Elt Ideal)) : stage12 V0 (no_index (Proc.devRef .tc main_v173)) = hostTaken (inP V0) := by
  unfold stage12
  simp only [hostOps0_12, TRef.ternary, TRef.binary, TRef.unary, TRef.toBuf, TRef.ofBuf, cast_eq]
  after_results_simp
  after_results_loop
  rw [at11_main_arg1, at11_main_v128, at11_main_v155]
  rfl

set_option maxHeartbeats 2000000 in
theorem at12_main_v174 (V0 : Valuation τ sig (Elt Ideal)) : stage12 V0 (no_index (Proc.devRef .tc main_v174)) = broadcastInDim S1x1x64x1x64 ![2, 4] bcast_S64x64_S1x1x64x1x64_2_4 hostMask := by
  unfold stage12
  simp only [hostOps0_12, TRef.ternary, TRef.binary, TRef.unary, TRef.toBuf, TRef.ofBuf, cast_eq]
  after_results_simp <;> simp only [at11_main_arg1, at11_main_v128, at11_main_v145, at11_main_v155] <;> rfl

set_option maxHeartbeats 2000000 in
theorem at12_main_cst_37 (V0 : Valuation τ sig (Elt Ideal)) : stage12 V0 (no_index (Proc.devRef .tc main_cst_37)) = constant (F := Ideal) S_ .f32 0xFF800000#32 := by
  unfold stage12
  simp only [hostOps0_12, TRef.ternary, TRef.binary, TRef.unary, TRef.toBuf, TRef.ofBuf, cast_eq]
  after_results_simp <;> simp only [at11_main_arg1, at11_main_v128, at11_main_v145, at11_main_v155] <;> rfl

/-- The buffers after the host operations of part 13, -/
def stage13 (V0 : Valuation τ sig (Elt Ideal)) : Valuation τ sig (Elt Ideal) := after hostOps0_13 (stage12 V0)

/-- what they write -/
abbrev wrote13 : List (Ref sig .tc) := [main_call6_v0, main_call6_v1, main_call6_v2, main_v175]

theorem wrote13_all : (hostOps0_13 : List (HloOp τ sig (Elt Ideal))).Forall fun op => op.writes ⊆ (wrote13.map (Proc.devRef (τ := τ) .tc)).toFinset :=
  forall_writes_sub_of_map rfl

/-- and what they leave alone. -/
theorem kept13 (V0 : Valuation τ sig (Elt Ideal)) (r : Ref sig .tc) (h : r ∉ wrote13) : stage13 V0 (Proc.devRef .tc r) = (stage12 V0) (Proc.devRef .tc r) :=
  after_of_writes_sub hostOps0_13 _ wrote13_all h

theorem at13_main_v115 (V0 : Valuation τ sig (Elt Ideal)) : stage13 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) :=
  (kept13 V0 main_v115 (by decide)).trans (at12_main_v115 V0)

theorem at13_main_v117 (V0 : Valuation τ sig (Elt Ideal)) : stage13 V0 (no_index (Proc.devRef .tc main_v117)) = hostLse (hostTop (hostScores (inX V0) (inP V0))) (hostTot (hostExp (hostScores (inX V0) (inP V0)) (hostTop (hostScores (inX V0) (inP V0))))) :=
  (kept13 V0 main_v117 (by decide)).trans (at12_main_v117 V0)

set_option maxHeartbeats 2000000 in
theorem at13_main_v175 (V0 : Valuation τ sig (Elt Ideal)) : stage13 V0 (no_index (Proc.devRef .tc main_v175)) = hostFilled (inP V0) := by
  unfold stage13
  simp only [hostOps0_13, TRef.ternary, TRef.binary, TRef.unary, TRef.toBuf, TRef.ofBuf, cast_eq]
  after_results_simp <;> simp only [at12_main_v173, at12_main_v174, at12_main_cst_37] <;> rfl

/-- The buffers after the host operations of part 14, -/
def stage14 (V0 : Valuation τ sig (Elt Ideal)) : Valuation τ sig (Elt Ideal) := after hostOps0_14 (stage13 V0)

/-- what they write -/
abbrev wrote14 : List (Ref sig .tc) := [main_v176]

theorem wrote14_all : (hostOps0_14 : List (HloOp τ sig (Elt Ideal))).Forall fun op => op.writes ⊆ (wrote14.map (Proc.devRef (τ := τ) .tc)).toFinset :=
  forall_writes_sub_of_map rfl

/-- and what they leave alone. -/
theorem kept14 (V0 : Valuation τ sig (Elt Ideal)) (r : Ref sig .tc) (h : r ∉ wrote14) : stage14 V0 (Proc.devRef .tc r) = (stage13 V0) (Proc.devRef .tc r) :=
  after_of_writes_sub hostOps0_14 _ wrote14_all h

theorem at14_main_v115 (V0 : Valuation τ sig (Elt Ideal)) : stage14 V0 (no_index (Proc.devRef .tc main_v115)) = hostOut (hostExp (hostScores (inX V0) (inP V0)) (hostTop (hostScores (inX V0) (inP V0)))) (hostTot (hostExp (hostScores (inX V0) (inP V0)) (hostTop (hostScores (inX V0) (inP V0))))) (hostV (inX V0)) :=
  (kept14 V0 main_v115 (by decide)).trans (at13_main_v115 V0)

theorem at14_main_v117 (V0 : Valuation τ sig (Elt Ideal)) : stage14 V0 (no_index (Proc.devRef .tc main_v117)) = hostLse (hostTop (hostScores (inX V0) (inP V0))) (hostTot (hostExp (hostScores (inX V0) (inP V0)) (hostTop (hostScores (inX V0) (inP V0))))) :=
  (kept14 V0 main_v117 (by decide)).trans (at13_main_v117 V0)

set_option maxHeartbeats 2000000 in
theorem at14_main_v176 (V0 : Valuation τ sig (Elt Ideal)) : stage14 V0 (no_index (Proc.devRef .tc main_v176)) = hostBias (inP V0) := by
  unfold stage14
  simp only [hostOps0_14, TRef.ternary, TRef.binary, TRef.unary, TRef.toBuf, TRef.ofBuf, cast_eq]
  after_results_simp <;> simp only [at13_main_v175] <;> rfl

/-! ## What the kernel is handed -/

variable (m : (ℓ : Loc nD τ sig) → Buf (Elt Ideal) ℓ) (c : Dev nD)

theorem entry_stage (r : Ref sig .tc) : V m c r = stage14 (fun b => m (c, b)) (Proc.devRef .tc r) := by
  show StableHlo.after (List.flatten _) _ _ = _
  simp only [List.flatten_cons, List.flatten_nil, List.append_nil, StableHlo.after_append]
  rfl

theorem entry_out (X : FVec Ideal S8192x6144 .bf16) (P : FVec Ideal S16x15x31 .f32) (hX : m ((c.tc : Thread nD τ).loc main_arg0) = X)
    (hP : m ((c.tc : Thread nD τ).loc main_arg1) = P) :
    V m c main_v115 = hostOut (hostExp (hostScores X P) (hostTop (hostScores X P))) (hostTot (hostExp (hostScores X P) (hostTop (hostScores X P)))) (hostV X) := by
  subst hX hP
  rw [entry_stage]
  exact at14_main_v115 _

theorem entry_lse (X : FVec Ideal S8192x6144 .bf16) (P : FVec Ideal S16x15x31 .f32) (hX : m ((c.tc : Thread nD τ).loc main_arg0) = X)
    (hP : m ((c.tc : Thread nD τ).loc main_arg1) = P) :
    V m c main_v117 = hostLse (hostTop (hostScores X P)) (hostTot (hostExp (hostScores X P) (hostTop (hostScores X P)))) := by
  subst hX hP
  rw [entry_stage]
  exact at14_main_v117 _

theorem entry_bias (P : FVec Ideal S16x15x31 .f32) (hP : m ((c.tc : Thread nD τ).loc main_arg1) = P) : V m c main_v176 = hostBias P := by
  subst hP
  rw [entry_stage]
  exact at14_main_v176 _

end Cert.KernelIdeal.NaBwd
-- ==== Proof.NaIndex.lean ====
/- Where the reference looks: the rows, columns and biases it indexes, and what its gathers and its scatters do with them. -/
module

public import proofs.«01_k».proof.Proof.NaHeads
public import proofs.«01_k».proof.Proof.Gen.ReferenceIdeal.Run
public import Idealize.ShloMosaic.Lib.Pipeline.ValueKit
public import Idealize.ShloMosaic.Lib.Pointwise.Tactic

@[expose] public section

set_option maxRecDepth 16384

noncomputable section

namespace Cert.ReferenceIdeal.NaBwd

open Cert.ReferenceIdeal Cert.ReferenceIdeal.Gen Cert.ReferenceIdeal.Value
open Cert.KernelIdeal.NaBwd (tok startRow keyTok place feat qFeat kFeat vFeat factor)
open Idealize.ShloMosaic Idealize.ShloMosaic.TcCoe Idealize.ShloMosaic.Tactic
open Idealize.SL.Sem

variable (V0 : Valuation τ sig (Elt Ideal))
/-- The gather of whole rows. -/
theorem gather_rows {α : Type} (A : Shape.Idx S1x16x128x64x128 → α) (I : IVec S128x8x1 32) (h : Fin 16) (R : Fin 128) (j : Fin 8) (b : Fin 64) (k : Fin 128) :
    Host.gather gather_S1x16x128x64x128_S128x8x1_S1x16x128x8x64x128_0145_2_n_n_2_2_116164128 A I (ix6 (0 : Fin 1) h R j b k)
      = A (ix5 (0 : Fin 1) h (⟨min (I (ix3 R j (0 : Fin 1))).toInt.toNat 127, by omega⟩ : Fin 128) b k) := by
  have e : ∀ c, gather_S1x16x128x64x128_S128x8x1_S1x16x128x8x64x128_0145_2_n_n_2_2_116164128.siIdx (ix6 (0 : Fin 1) h R j b k) c = ix3 R j (0 : Fin 1) := by
    intro c
    funext x
    match x with
    | ⟨0, _⟩ => rfl
    | ⟨1, _⟩ => rfl
    | ⟨2, _⟩ => exact Subsingleton.elim (α := Fin 1) _ _
  unfold Host.gather
  congr 1
  funext a
  apply Fin.ext
  match a with
  | ⟨0, _⟩ => rfl
  | ⟨1, _⟩ => exact Nat.zero_add _
  | ⟨2, _⟩ =>
    show min (I (gather_S1x16x128x64x128_S128x8x1_S1x16x128x8x64x128_0145_2_n_n_2_2_116164128.siIdx _ _)).toInt.toNat 127 = _
    rw [e]; rfl
  | ⟨3, _⟩ => exact Nat.zero_add _
  | ⟨4, _⟩ => exact Nat.zero_add _

/-- The same where the indices are the eight rows from `s R` on. -/
theorem gather_rows_at {α : Type} (A : Shape.Idx S1x16x128x64x128 → α) (I : IVec S128x8x1 32) (s : Fin 128 → ℕ)
    (hI : ∀ R j, (I (ix3 R j (0 : Fin 1))).toInt = (s R : ℤ) + (j.val : ℤ)) (hs : ∀ R, s R ≤ 120) (h : Fin 16) (R : Fin 128) (j : Fin 8) (b : Fin 64) (k : Fin 128) :
    Host.gather gather_S1x16x128x64x128_S128x8x1_S1x16x128x8x64x128_0145_2_n_n_2_2_116164128 A I (ix6 (0 : Fin 1) h R j b k)
      = A (ix5 (0 : Fin 1) h (⟨s R + j.val, by have := hs R; omega⟩ : Fin 128) b k) := by
  rw [gather_rows]
  exact congrArg (fun z : Fin 128 => A (ix5 (0 : Fin 1) h z b k)) (Fin.ext (by
    show min (I (ix3 R j (0 : Fin 1))).toInt.toNat 127 = s R + j.val
    have := hs R
    rw [hI]; omega))

/-- The gather of the bias table's entries. -/
theorem gather_bias {α : Type} (A : Shape.Idx S16x15x31 → α) (I : IVec S128x64x8x64x2 32) (h : Fin 16) (R : Fin 128) (p : Fin 64) (j : Fin 8) (b : Fin 64) :
    Host.gather gather_S16x15x31_S128x64x8x64x2_S16x128x64x8x64_0_12_n_n_12_4_1611 A I (ix5 h R p j b)
      = A (ix3 h (⟨min (I (ix5 R p j b (0 : Fin 2))).toInt.toNat 14, by omega⟩ : Fin 15) (⟨min (I (ix5 R p j b (1 : Fin 2))).toInt.toNat 30, by omega⟩ : Fin 31)) := by
  have e : ∀ c, gather_S16x15x31_S128x64x8x64x2_S16x128x64x8x64_0_12_n_n_12_4_1611.siIdx (ix5 h R p j b) c = ix5 R p j b (⟨c.val, c.isLt⟩ : Fin 2) := by
    intro c
    funext x
    match x with
    | ⟨0, _⟩ => rfl
    | ⟨1, _⟩ => rfl
    | ⟨2, _⟩ => rfl
    | ⟨3, _⟩ => rfl
    | ⟨4, _⟩ => rfl
  unfold Host.gather
  congr 1
  funext a
  apply Fin.ext
  match a with
  | ⟨0, _⟩ => exact Nat.zero_add _
  | ⟨1, _⟩ =>
    show min (I (gather_S16x15x31_S128x64x8x64x2_S16x128x64x8x64_0_12_n_n_12_4_1611.siIdx _ _)).toInt.toNat 14 = _
    rw [e]; rfl
  | ⟨2, _⟩ =>
    show min (I (gather_S16x15x31_S128x64x8x64x2_S16x128x64x8x64_0_12_n_n_12_4_1611.siIdx _ _)).toInt.toNat 30 = _
    rw [e]; rfl

/-- Where the scatter of whole rows puts an update. -/
theorem scatter_idx (I : IVec S128x8x1 32) (s : Fin 128 → ℕ) (hI : ∀ R j, (I (ix3 R j (0 : Fin 1))).toInt = (s R : ℤ) + (j.val : ℤ)) (hs : ∀ R, s R ≤ 120)
    (h : Fin 16) (R : Fin 128) (j : Fin 8) (b : Fin 64) (k : Fin 128) :
    scatter_S1x16x128x64x128_S128x8x1_S1x16x128x8x64x128_0145_2_2_2.resultIdx? (ix6 (0 : Fin 1) h R j b k) I
      = some (ix5 (0 : Fin 1) h (⟨s R + j.val, by have := hs R; omega⟩ : Fin 128) b k) := by
  have e : ∀ c, scatter_S1x16x128x64x128_S128x8x1_S1x16x128x8x64x128_0145_2_2_2.siIdx (ix6 (0 : Fin 1) h R j b k) c = ix3 R j (0 : Fin 1) := by
    intro c
    funext x
    match x with
    | ⟨0, _⟩ => rfl
    | ⟨1, _⟩ => rfl
    | ⟨2, _⟩ => exact Subsingleton.elim (α := Fin 1) _ _
  have v : ∀ a, scatter_S1x16x128x64x128_S128x8x1_S1x16x128x8x64x128_0145_2_2_2.start (ix6 (0 : Fin 1) h R j b k) I a
      + scatter_S1x16x128x64x128_S128x8x1_S1x16x128x8x64x128_0145_2_2_2.window (ix6 (0 : Fin 1) h R j b k) a
      = ((ix5 (0 : Fin 1) h (⟨s R + j.val, by have := hs R; omega⟩ : Fin 128) b k a).val : ℤ) := by
    intro a
    match a with
    | ⟨0, _⟩ => rfl
    | ⟨1, _⟩ => exact Int.zero_add _
    | ⟨2, _⟩ =>
      show (I (scatter_S1x16x128x64x128_S128x8x1_S1x16x128x8x64x128_0145_2_2_2.siIdx _ _)).toInt + 0 = _
      rw [e, hI]; rfl
    | ⟨3, _⟩ => exact Int.zero_add _
    | ⟨4, _⟩ => exact Int.zero_add _
  unfold ScatterDims.resultIdx?
  rw [dif_pos (fun a => ⟨by rw [v]; exact Int.natCast_nonneg _, by rw [v]; exact Int.ofNat_lt.2 (Fin.isLt _)⟩)]
  congr 1
  funext a
  apply Fin.ext
  show (_ + _ : ℤ).toNat = _
  rw [v]; rfl

/-- Row `j` of the eight rows that row `R` attends to. -/
theorem v20_apply (R : Fin 128) (j : Fin 8) : res_main_v20 V0 (ix2 R j) = BitVec.ofNat 32 (startRow R + j.val) := by
  unfold res_main_v20 res_main_v10
  pointwise
  exact (by decide +kernel : ∀ (R : Fin 128) (j : Fin 8), IntOp.addi
      (IntOp.minsi (120#32) (IntOp.maxsi (0#32) (IntOp.subi (BitVec.ofNat 32 R.val) 4#32)))
      (BitVec.ofNat 32 j.val) = BitVec.ofNat 32 (min (R.val - 4) 120 + j.val)) R j

theorem wrapRow : ∀ (R : Fin 128) (j : Fin 8), Scalar.select (IntOp.cmpi CmpIPredicate.slt (BitVec.ofNat 32 (startRow R + j.val)) 0#32)
      (IntOp.addi (BitVec.ofNat 32 (startRow R + j.val)) 128#32) (BitVec.ofNat 32 (startRow R + j.val)) =
    BitVec.ofNat 32 (startRow R + j.val) := by decide +kernel

theorem v52_apply (R : Fin 128) (j : Fin 8) : res_main_v52 V0 (ix3 R j (0 : Fin 1)) = BitVec.ofNat 32 (startRow R + j.val) := by
  unfold res_main_v52
  pointwise
  rw [v20_apply]
  exact wrapRow R j

theorem v94_apply (R : Fin 128) (j : Fin 8) : res_main_v94 V0 (ix3 R j (0 : Fin 1)) = BitVec.ofNat 32 (startRow R + j.val) := by
  unfold res_main_v94
  pointwise
  rw [v20_apply]
  exact wrapRow R j

theorem startRow_le (R : Fin 128) : startRow R ≤ 120 := Nat.min_le_right _ _

theorem toInt_row (R : Fin 128) (j : Fin 8) : (BitVec.ofNat 32 (startRow R + j.val)).toInt = (startRow R : ℤ) + (j.val : ℤ) :=
  (by decide +kernel : ∀ (R : Fin 128) (j : Fin 8), (BitVec.ofNat 32 (min (R.val - 4) 120 + j.val)).toInt = ((min (R.val - 4) 120 : ℕ) : ℤ) + (j.val : ℤ)) R j

theorem toInt_v52 (R : Fin 128) (j : Fin 8) : (res_main_v52 V0 (ix3 R j (0 : Fin 1))).toInt = (startRow R : ℤ) + (j.val : ℤ) :=
  (congrArg BitVec.toInt (v52_apply V0 R j)).trans (toInt_row R j)

theorem toInt_v94 (R : Fin 128) (j : Fin 8) : (res_main_v94 V0 (ix3 R j (0 : Fin 1))).toInt = (startRow R : ℤ) + (j.val : ℤ) :=
  (congrArg BitVec.toInt (v94_apply V0 R j)).trans (toInt_row R j)

/-- The row of the bias table, -/
theorem v58_apply (R : Fin 128) (j : Fin 8) : res_main_v58 V0 (ix4 R (0 : Fin 1) j (0 : Fin 1)) = BitVec.ofNat 32 (startRow R + j.val + 7 - R.val) := by
  unfold res_main_v58 res_main_v20 res_main_v10
  pointwise
  exact (by decide +kernel : ∀ (R : Fin 128) (j : Fin 8), IntOp.subi (IntOp.addi (IntOp.subi (IntOp.addi
      (IntOp.minsi (120#32)
        (IntOp.maxsi (0#32) (IntOp.subi (BitVec.ofNat 32 R.val) 4#32)))
      (BitVec.ofNat 32 j.val)) (BitVec.ofNat 32 R.val)) 8#32) 1#32 =
    BitVec.ofNat 32 (min (R.val - 4) 120 + j.val + 7 - R.val)) R j

/-- its column, -/
theorem v64_apply (p b : Fin 64) : res_main_v64 V0 (ix4 (0 : Fin 1) p (0 : Fin 1) b) = BitVec.ofNat 32 (min (b.val + 15 - p.val) 30) := by
  unfold res_main_v64 res_main_v11
  pointwise
  exact (by decide +kernel : ∀ (p b : Fin 64), IntOp.minsi (30#32)
      (IntOp.maxsi (0#32)
        (IntOp.subi (IntOp.addi (IntOp.subi (BitVec.ofNat 32 b.val) (BitVec.ofNat 32 p.val)) 16#32) 1#32)) =
    BitVec.ofNat 32 (min (b.val + 15 - p.val) 30)) p b

theorem wrapTab : ∀ (R : Fin 128) (j : Fin 8), Scalar.select (IntOp.cmpi CmpIPredicate.slt (BitVec.ofNat 32 (startRow R + j.val + 7 - R.val)) 0#32)
      (IntOp.addi (BitVec.ofNat 32 (startRow R + j.val + 7 - R.val)) 15#32) (BitVec.ofNat 32 (startRow R + j.val + 7 - R.val)) =
    BitVec.ofNat 32 (startRow R + j.val + 7 - R.val) := by decide +kernel

theorem wrapCol : ∀ (p b : Fin 64), Scalar.select (IntOp.cmpi CmpIPredicate.slt (BitVec.ofNat 32 (min (b.val + 15 - p.val) 30)) 0#32)
      (IntOp.addi (BitVec.ofNat 32 (min (b.val + 15 - p.val) 30)) 31#32) (BitVec.ofNat 32 (min (b.val + 15 - p.val) 30)) =
    BitVec.ofNat 32 (min (b.val + 15 - p.val) 30) := by decide +kernel

theorem toInt_tab : ∀ (R : Fin 128) (j : Fin 8), (BitVec.ofNat 32 (startRow R + j.val + 7 - R.val)).toInt.toNat = startRow R + j.val + 7 - R.val := by decide +kernel
theorem toInt_col : ∀ (p b : Fin 64), (BitVec.ofNat 32 (min (b.val + 15 - p.val) 30)).toInt.toNat = min (b.val + 15 - p.val) 30 := by decide +kernel

/-- and the columns attended to: sixteen of them. -/
theorem mask_apply (h : Fin 16) (R : Fin 128) (p : Fin 64) (j : Fin 8) (b : Fin 64) : res_main_v87_1 V0 (ix6 (0 : Fin 1) h R p j b) = if min (p.val - 8) 48 ≤ b.val ∧ b.val < min (p.val - 8) 48 + 16 then 1#1 else 0#1 := by
  unfold res_main_v87_1 res_main_v23 res_main_v11
  pointwise
  exact (by decide +kernel : ∀ p b : Fin 64, IntOp.andi
      (IntOp.cmpi CmpIPredicate.sge (BitVec.ofNat 32 b.val)
        (IntOp.minsi (48#32)
          (IntOp.maxsi (0#32) (IntOp.subi (BitVec.ofNat 32 p.val) 8#32))))
      (IntOp.cmpi CmpIPredicate.slt (BitVec.ofNat 32 b.val)
        (IntOp.addi
          (IntOp.minsi (48#32)
            (IntOp.maxsi (0#32) (IntOp.subi (BitVec.ofNat 32 p.val) 8#32)))
          16#32)) = if min (p.val - 8) 48 ≤ b.val ∧ b.val < min (p.val - 8) 48 + 16 then 1#1 else 0#1) p b

end Cert.ReferenceIdeal.NaBwd

end

end
-- ==== Proof.NaOps.lean ====
/- What the operations of the reference leave at an index, over any arrays. -/
module

public import proofs.«01_k».proof.Proof.NaReduce
public import proofs.«01_k».proof.Proof.NaIndex
public import Idealize.ShloMosaic.Lib.Pipeline.ValueKit
public import Idealize.ShloMosaic.Lib.Pointwise.Tactic

@[expose] public section

set_option maxRecDepth 16384

noncomputable section

namespace Cert.ReferenceIdeal.NaBwd

open Cert.ReferenceIdeal Cert.ReferenceIdeal.Gen Cert.ReferenceIdeal.Value
open Cert.KernelIdeal.NaBwd (tok startRow keyTok place feat qFeat kFeat vFeat factor inCols tabAt score top ex tot dWeight negInf rowIn colIn sum_pair max_pair sum_units)
open Idealize.ShloMosaic Idealize.ShloMosaic.TcCoe Idealize.ShloMosaic.Tactic
open Idealize.SL.Sem

variable (V0 : Valuation τ sig (Elt Ideal))

/-! ## The scores -/

section Inner

variable (Q : FVec Ideal S1x16x128x64x128 .f32) (K : FVec Ideal S1x16x128x8x64x128 .f32) (P : FVec Ideal S16x15x31 .f32)
variable (r : IVec S128x1x8x1 32) (c : IVec S1x64x1x64 32) (C : IVec S1x16x128x64x8x64 1)
variable (h : Fin 16) (R : Fin 128) (p : Fin 64) (y : Fin 512)

/-- The scores, from the queries, the gathered keys, the bias table and where to look in it. -/
abbrev scoresOf : FVec Ideal S1x16x128x64x8x64 .f32 :=
  select C (addf (mulf (Host.dotGeneral dot_S1x16x128x64x128_S1x16x128x8x64x128_S1x16x128x64x8x64_4_5_3_34_012_012 none Q K) (broadcastInDim S1x16x128x64x8x64 ![] bcast_S_S1x16x128x64x8x64 (constant S_ .f32 0x3DB504F3#32))) (broadcastInDim S1x16x128x64x8x64 ![1, 2, 3, 4, 5] bcast_S16x128x64x8x64_S1x16x128x64x8x64_1_2_3_4_5 (Host.gather gather_S16x15x31_S128x64x8x64x2_S16x128x64x8x64_0_12_n_n_12_4_1611 P (concatenate S128x64x8x64x2 4 [⟨S128x64x8x64x1, (broadcastInDim S128x64x8x64x1 ![0, 1, 2, 3] bcast_S128x64x8x64_S128x64x8x64x1_0_1_2_3 (broadcastInDim S128x64x8x64 ![0, 1, 2, 3] bcast_S128x1x8x1_S128x64x8x64_0_1_2_3 (select (cmpi .slt r (broadcastInDim S128x1x8x1 ![] bcast_S_S128x1x8x1 (constantI S_ 32 0#32))) (addi r (broadcastInDim S128x1x8x1 ![] bcast_S_S128x1x8x1 (constantI S_ 32 15#32))) r)))⟩, ⟨S128x64x8x64x1, (broadcastInDim S128x64x8x64x1 ![0, 1, 2, 3] bcast_S128x64x8x64_S128x64x8x64x1_0_1_2_3 (broadcastInDim S128x64x8x64 ![0, 1, 2, 3] bcast_S1x64x1x64_S128x64x8x64_0_1_2_3 (select (cmpi .slt c (broadcastInDim S1x64x1x64 ![] bcast_S_S1x64x1x64 (constantI S_ 32 0#32))) (addi c (broadcastInDim S1x64x1x64 ![] bcast_S_S1x64x1x64 (constantI S_ 32 31#32))) c)))⟩] concatenates_S128x64x8x64x1_S128x64x8x64x1_S128x64x8x64x2_d4)))) (broadcastInDim S1x16x128x64x8x64 ![] bcast_S_S1x16x128x64x8x64 (id (constant S_ .f32 0xFF800000#32)))

theorem scoresOf_at (j : Fin 8) (b : Fin 64) (hr : r (ix4 R (0 : Fin 1) j (0 : Fin 1)) = BitVec.ofNat 32 (startRow R + j.val + 7 - R.val))
    (hc : c (ix4 (0 : Fin 1) p (0 : Fin 1) b) = BitVec.ofNat 32 (min (b.val + 15 - p.val) 30)) :
    scoresOf Q K P r c C (ix6 (0 : Fin 1) h R p j b)
      = Scalar.select (C (ix6 (0 : Fin 1) h R p j b)) ((∑ k : Fin 128, Q (ix5 (0 : Fin 1) h R p k) * K (ix6 (0 : Fin 1) h R j b k)) * factor
          + P (ix3 h (⟨startRow R + j.val + 7 - R.val, by unfold startRow; omega⟩ : Fin 15) (⟨min (b.val + 15 - p.val) 30, by omega⟩ : Fin 31))) ⊥ := by
  unfold scoresOf
  pointwise
  rw [gather_bias]
  have e1 : ∀ w : BitVec 32, w = BitVec.ofNat 32 (startRow R + j.val + 7 - R.val) → min (Scalar.select (IntOp.cmpi CmpIPredicate.slt w 0#32) (IntOp.addi w 15#32) w).toInt.toNat 14 = startRow R + j.val + 7 - R.val := by
    intro w hw
    subst hw
    rw [wrapTab R j, toInt_tab R j]
    unfold startRow; omega
  have e2 : ∀ w : BitVec 32, w = BitVec.ofNat 32 (min (b.val + 15 - p.val) 30) → min (Scalar.select (IntOp.cmpi CmpIPredicate.slt w 0#32) (IntOp.addi w 31#32) w).toInt.toNat 30 = min (b.val + 15 - p.val) 30 := by
    intro w hw
    subst hw
    rw [wrapCol p b, toInt_col p b]
    omega
  pointwise
  refine congrArg₂ (Scalar.select (C (ix6 (0 : Fin 1) h R p j b))) (congrArg₂ (· + ·) rfl ?_) negInf
  exact congrArg₂ (fun (u : Fin 15) (v : Fin 31) => P (ix3 h u v)) (Fin.ext (e1 _ hr)) (Fin.ext (e2 _ hc))

end Inner

/-! ## The reference's operations over any arrays -/

section Ops

variable (S E G : FVec Ideal S1x16x128x64x512 .f32) (M : FVec Ideal S1x16x128x64 .f32) (L : FVec Ideal S1x16x128x64x1 .f32)
variable (Q : FVec Ideal S1x16x128x64x128 .f32) (K : FVec Ideal S1x16x128x8x64x128 .f32) (C : IVec S1x16x128x64x8x64 1)
variable (h : Fin 16) (R : Fin 128) (p : Fin 64) (y : Fin 512)

theorem max_row : Host.reduce FloatOps.maximumf S (constant S_ .f32 0xFF800000#32) reducesTo_S1x16x128x64x512_S1x16x128x64_d4 h_S_ (ix4 (0 : Fin 1) h R p)
    = Finset.univ.sup fun y : Fin 512 => S (ix5 (0 : Fin 1) h R p y) := by
  pointwise
  rw [negInf]
  rfl

theorem exp_at : Host.exp (subf S (broadcastInDim S1x16x128x64x512 ![0, 1, 2, 3, 4] bcast_S1x16x128x64x1_S1x16x128x64x512_0_1_2_3_4 (broadcastInDim S1x16x128x64x1 ![0, 1, 2, 3] bcast_S1x16x128x64_S1x16x128x64x1_0_1_2_3 (maximumf (broadcastInDim S1x16x128x64 ![] bcast_S_S1x16x128x64 (constant S_ .f32 0xFF800000#32)) M)))) (ix5 (0 : Fin 1) h R p y)
    = Ideal.exp (S (ix5 (0 : Fin 1) h R p y) - M (ix4 (0 : Fin 1) h R p)) := by
  pointwise
  rw [negInf, max_eq_right bot_le]

theorem sum_row : (broadcastInDim S1x16x128x64x1 ![0, 1, 2, 3] bcast_S1x16x128x64_S1x16x128x64x1_0_1_2_3 (Host.reduceAdd E (constant S_ .f32 0x00000000#32) reducesTo_S1x16x128x64x512_S1x16x128x64_d4 h_S_)) (ix5 (0 : Fin 1) h R p (0 : Fin 1))
    = ∑ y : Fin 512, E (ix5 (0 : Fin 1) h R p y) := by
  pointwise

theorem ratio_at : (shapeCast S1x16x128x64x8x64 (Host.divf E (broadcastInDim S1x16x128x64x512 ![0, 1, 2, 3, 4] bcast_S1x16x128x64x1_S1x16x128x64x512_0_1_2_3_4 L)) shapeCasts_S1x16x128x64x512_S1x16x128x64x8x64) (ix6 (0 : Fin 1) h R p (rowIn y) (colIn y))
    = Ideal.div (E (ix5 (0 : Fin 1) h R p y)) (L (ix5 (0 : Fin 1) h R p (0 : Fin 1))) := by
  pointwise
  rw [show (⟨y.val / 64 * 64 + y.val % 64, by omega⟩ : Fin 512) = y from Fin.ext (by simp only []; omega)]

theorem dots_at : (shapeCast S1x16x128x64x512 (Host.dotGeneral dot_S1x16x128x64x128_S1x16x128x8x64x128_S1x16x128x64x8x64_4_5_3_34_012_012 none Q K) shapeCasts_S1x16x128x64x8x64_S1x16x128x64x512 : FVec Ideal S1x16x128x64x512 .f32) (ix5 (0 : Fin 1) h R p y)
    = ∑ k : Fin 128, Q (ix5 (0 : Fin 1) h R p k) * K (ix6 (0 : Fin 1) h R (rowIn y) (colIn y) k) := by
  pointwise

/-- What each query's weights take off their gradients. -/
abbrev rest : FVec Ideal S16x128x64 .f32 :=
  Host.reduceAdd (Host.negf (shapeCast S1x16x128x64x1 (Host.reduceAdd (mulf (mulf G (broadcastInDim S1x16x128x64x512 ![0, 1, 2, 3, 4] bcast_S1x16x128x64x1_S1x16x128x64x512_0_1_2_3_4 (Host.divf (broadcastInDim S1x16x128x64x1 ![] bcast_S_S1x16x128x64x1 (constant S_ .f32 0x3F800000#32)) (mulf L L)))) E) (constant S_ .f32 0x00000000#32) reducesTo_S1x16x128x64x512_S1x16x128x64_d4 h_S_) shapeCasts_S1x16x128x64_S1x16x128x64x1)) (constant S_ .f32 0x00000000#32) reducesTo_S1x16x128x64x1_S16x128x64_d0_4 h_S_

theorem rest_at : rest E G L (ix3 h R p)
    = -∑ y : Fin 512, G (ix5 (0 : Fin 1) h R p y) * Ideal.div 1 (L (ix5 (0 : Fin 1) h R p (0 : Fin 1)) * L (ix5 (0 : Fin 1) h R p (0 : Fin 1))) * E (ix5 (0 : Fin 1) h R p y) := by
  unfold rest
  pointwise
  rw [sum_units]
  pointwise

theorem dScore_at : (mulf (select C (shapeCast S1x16x128x64x8x64 (mulf (addf (Host.divf G (broadcastInDim S1x16x128x64x512 ![0, 1, 2, 3, 4] bcast_S1x16x128x64x1_S1x16x128x64x512_0_1_2_3_4 L)) (broadcastInDim S1x16x128x64x512 ![0, 1, 2, 3] bcast_S1x16x128x64_S1x16x128x64x512_0_1_2_3 (broadcastInDim S1x16x128x64 ![1, 2, 3] bcast_S16x128x64_S1x16x128x64_1_2_3 (rest E G L)))) E) shapeCasts_S1x16x128x64x512_S1x16x128x64x8x64) (broadcastInDim S1x16x128x64x8x64 ![] bcast_S_S1x16x128x64x8x64 (constant S_ .f32 0x00000000#32))) (broadcastInDim S1x16x128x64x8x64 ![] bcast_S_S1x16x128x64x8x64 (constant S_ .f32 0x3DB504F3#32))) (ix6 (0 : Fin 1) h R p (rowIn y) (colIn y))
    = Scalar.select (C (ix6 (0 : Fin 1) h R p (rowIn y) (colIn y))) ((Ideal.div (G (ix5 (0 : Fin 1) h R p y)) (L (ix5 (0 : Fin 1) h R p (0 : Fin 1))) + rest E G L (ix3 h R p)) * E (ix5 (0 : Fin 1) h R p y)) 0 * factor := by
  generalize rest E G L = N
  pointwise
  rw [show (⟨y.val / 64 * 64 + y.val % 64, by omega⟩ : Fin 512) = y from Fin.ext (by simp only []; omega)]

end Ops

end Cert.ReferenceIdeal.NaBwd

end

end
-- ==== Proof.NaHostValue.lean ====
/- What the host hands the kernel, at an index. -/
module

public import proofs.«01_k».proof.Proof.NaHost
public import proofs.«01_k».proof.Proof.NaOps
public import Idealize.ShloMosaic.Lib.Pipeline.ValueKit
public import Idealize.ShloMosaic.Lib.Pointwise.Tactic

@[expose] public section

set_option maxRecDepth 16384

noncomputable section

namespace Cert.KernelIdeal.NaBwd

open Cert.KernelIdeal Cert.KernelIdeal.Gen
open Cert.ReferenceIdeal.NaBwd (scoresOf scoresOf_at gather_rows_at startRow_le toInt_row wrapRow wrapCol toInt_col)
open Idealize.ShloMosaic Idealize.ShloMosaic.TcCoe Idealize.ShloMosaic.Tactic
open Idealize.SL.Sem

variable (X : FVec Ideal S8192x6144 .bf16) (P : FVec Ideal S16x15x31 .f32)
variable (h : Fin 16) (R : Fin 128) (p : Fin 64) (y : Fin 512) (k : Fin 128)

/-! ## Where to look -/

theorem hostRows_at (j : Fin 8) : hostRows (ix2 R j) = BitVec.ofNat 32 (startRow R + j.val) := by
  unfold hostRows hostFirst
  pointwise
  exact (by decide +kernel : ∀ (R : Fin 128) (j : Fin 8), IntOp.addi
      (IntOp.minsi (120#32) (IntOp.maxsi (0#32) (IntOp.subi (BitVec.ofNat 32 R.val) 4#32)))
      (BitVec.ofNat 32 j.val) = BitVec.ofNat 32 (min (R.val - 4) 120 + j.val)) R j

theorem hostIdx_at (j : Fin 8) : hostIdx (ix3 R j (0 : Fin 1)) = BitVec.ofNat 32 (startRow R + j.val) := by
  unfold hostIdx
  pointwise
  rw [hostRows_at]
  exact wrapRow R j

theorem hostIdx_int (R : Fin 128) (j : Fin 8) : (hostIdx (ix3 R j (0 : Fin 1))).toInt = (startRow R : ℤ) + (j.val : ℤ) :=
  (congrArg BitVec.toInt (hostIdx_at R j)).trans (toInt_row R j)

theorem hostTab_at (j : Fin 8) : hostTab (ix4 R (0 : Fin 1) j (0 : Fin 1)) = BitVec.ofNat 32 (startRow R + j.val + 7 - R.val) := by
  unfold hostTab
  pointwise
  rw [hostRows_at]
  exact (by decide +kernel : ∀ (R : Fin 128) (j : Fin 8), IntOp.subi (IntOp.addi (IntOp.subi (BitVec.ofNat 32 (min (R.val - 4) 120 + j.val)) (BitVec.ofNat 32 R.val)) 8#32) 1#32 =
    BitVec.ofNat 32 (min (R.val - 4) 120 + j.val + 7 - R.val)) R j

theorem hostCol_at (b : Fin 64) : hostCol (ix4 (0 : Fin 1) p (0 : Fin 1) b) = BitVec.ofNat 32 (min (b.val + 15 - p.val) 30) := by
  unfold hostCol hostColIn hostApart
  pointwise
  exact (by decide +kernel : ∀ (p b : Fin 64), IntOp.minsi (30#32)
      (IntOp.maxsi (0#32)
        (IntOp.subi (IntOp.addi (IntOp.subi (BitVec.ofNat 32 b.val) (BitVec.ofNat 32 p.val)) 16#32) 1#32)) =
    BitVec.ofNat 32 (min (b.val + 15 - p.val) 30)) p b

theorem hostMask_at (b : Fin 64) : hostMask (ix2 p b) = if inCols p.val b.val then 1#1 else 0#1 := by
  unfold hostMask hostLeft
  pointwise
  exact (by decide +kernel : ∀ p b : Fin 64, IntOp.andi
      (IntOp.cmpi CmpIPredicate.sge (BitVec.ofNat 32 b.val)
        (IntOp.minsi (48#32)
          (IntOp.maxsi (0#32) (IntOp.subi (BitVec.ofNat 32 p.val) 8#32))))
      (IntOp.cmpi CmpIPredicate.slt (BitVec.ofNat 32 b.val)
        (IntOp.addi (IntOp.minsi (48#32)
          (IntOp.maxsi (0#32) (IntOp.subi (BitVec.ofNat 32 p.val) 8#32))) 16#32)) = if min (p.val - 8) 48 ≤ b.val ∧ b.val < min (p.val - 8) 48 + 16 then 1#1 else 0#1) p b

/-! ## The attention -/

theorem hostHeads_at (A : FVec Ideal S8192x2048 .bf16) : hostHeads A (ix5 (0 : Fin 1) h R p k) = A (ix2 (tok R p) (feat h k)) := by
  unfold hostHeads hostSplit
  pointwise
  congr 2 <;> apply Fin.ext <;> simp only [] <;> omega

theorem hostQ_at : hostQ X (ix5 (0 : Fin 1) h R p k) = X (ix2 (tok R p) (qFeat h k)) := by
  unfold hostQ
  rw [hostHeads_at]
  pointwise

theorem hostK_at : hostK X (ix6 (0 : Fin 1) h R (rowIn y) (colIn y) k) = X (ix2 (keyTok R y) (kFeat h k)) := by
  unfold hostK
  refine (gather_rows_at _ hostIdx _ hostIdx_int startRow_le h R (rowIn y) (colIn y) k).trans ?_
  rw [hostHeads_at]
  pointwise
  congr 2 <;> apply Fin.ext <;> simp only [startRow] <;> omega

theorem hostV_at : hostV X (ix6 (0 : Fin 1) h R (rowIn y) (colIn y) k) = X (ix2 (keyTok R y) (vFeat h k)) := by
  unfold hostV
  refine (gather_rows_at _ hostIdx _ hostIdx_int startRow_le h R (rowIn y) (colIn y) k).trans ?_
  rw [hostHeads_at]
  pointwise
  congr 2 <;> apply Fin.ext <;> simp only [startRow] <;> omega

/-- The mask over all queries and keys. -/
def hostMasks : IVec S1x16x128x64x8x64 1 :=
  broadcastInDim S1x16x128x64x8x64 ![3, 4, 5] bcast_S64x1x64_S1x16x128x64x8x64_3_4_5 (broadcastInDim S64x1x64 ![0, 2] bcast_S64x64_S64x1x64_0_2 hostMask)

theorem hostMasks_at (j : Fin 8) (b : Fin 64) : hostMasks (ix6 (0 : Fin 1) h R p j b) = if inCols p.val b.val then 1#1 else 0#1 := by
  unfold hostMasks
  pointwise
  exact hostMask_at p b

theorem hostScores_eq : hostScores X P = scoresOf (hostQ X) (hostK X) P hostTab hostCol hostMasks := rfl

theorem hostScores_at : hostScores X P (ix6 (0 : Fin 1) h R p (rowIn y) (colIn y)) = score X P h R p y := by
  rw [hostScores_eq]
  refine (scoresOf_at (hostQ X) (hostK X) P hostTab hostCol hostMasks h R p (rowIn y) (colIn y) (hostTab_at R (rowIn y)) (hostCol_at p (colIn y))).trans ?_
  rw [hostMasks_at, Finset.sum_congr rfl fun k _ => congrArg₂ (· * ·) (hostQ_at X h R p k) (hostK_at X h R y k)]
  unfold score
  by_cases hc : inCols p.val (y.val % 64)
  · rw [if_pos hc, if_pos (show inCols p.val (colIn y).val from hc)]; rfl
  · rw [if_neg hc, if_neg (show ¬ inCols p.val (colIn y).val from hc)]; rfl

/-! ## Any scores -/

section Any

variable (S E : FVec Ideal S1x16x128x64x8x64 .f32) (T L : FVec Ideal S1x16x128x64x1x1 .f32) (W : FVec Ideal S1x16x128x8x64x128 .f32)

theorem hostTop_at : hostTop S (ix6 (0 : Fin 1) h R p (0 : Fin 1) (0 : Fin 1)) = Finset.univ.sup fun y : Fin 512 => S (ix6 (0 : Fin 1) h R p (rowIn y) (colIn y)) := by
  unfold hostTop
  pointwise
  rw [negInf]
  exact max_pair _ S h R p

theorem hostExp_at : hostExp S T (ix6 (0 : Fin 1) h R p (rowIn y) (colIn y)) = Ideal.exp (S (ix6 (0 : Fin 1) h R p (rowIn y) (colIn y)) - T (ix6 (0 : Fin 1) h R p (0 : Fin 1) (0 : Fin 1))) := by
  unfold hostExp
  pointwise

theorem hostTot_at : hostTot E (ix6 (0 : Fin 1) h R p (0 : Fin 1) (0 : Fin 1)) = ∑ y : Fin 512, E (ix6 (0 : Fin 1) h R p (rowIn y) (colIn y)) := by
  unfold hostTot
  pointwise
  refine (sum_pair _ E _ h R p).trans ?_
  rw [zero_add]

theorem hostLse_at : hostLse T L (ix2 (tok R p) (feat h k)) = T (ix6 (0 : Fin 1) h R p (0 : Fin 1) (0 : Fin 1)) + Ideal.log (L (ix6 (0 : Fin 1) h R p (0 : Fin 1) (0 : Fin 1))) := by
  unfold hostLse
  pointwise
  rw [show (⟨(128 * h.val + k.val) / 128, by omega⟩ : Fin 16) = h from Fin.ext (by simp only []; omega)]

theorem hostOut_at : hostOut E L W (ix2 (tok R p) (feat h k)) = ∑ y : Fin 512, Ideal.div (E (ix6 (0 : Fin 1) h R p (rowIn y) (colIn y))) (L (ix6 (0 : Fin 1) h R p (0 : Fin 1) (0 : Fin 1))) * W (ix6 (0 : Fin 1) h R (rowIn y) (colIn y) k) := by
  unfold hostOut
  pointwise
  have key : ∀ (h' : Fin 16) (k' : Fin 128), h' = h → k' = k →
      ∑ j : Fin 8, ∑ b : Fin 64, Ideal.div (E (ix6 (0 : Fin 1) h' R p j b)) (L (ix6 (0 : Fin 1) h' R p (0 : Fin 1) (0 : Fin 1))) * W (ix6 (0 : Fin 1) h' R j b k')
        = ∑ y : Fin 512, Ideal.div (E (ix6 (0 : Fin 1) h R p (rowIn y) (colIn y))) (L (ix6 (0 : Fin 1) h R p (0 : Fin 1) (0 : Fin 1))) * W (ix6 (0 : Fin 1) h R (rowIn y) (colIn y) k) := by
    rintro h' k' rfl rfl
    exact sum_keys fun j b => Ideal.div (E (ix6 (0 : Fin 1) h' R p j b)) (L (ix6 (0 : Fin 1) h' R p (0 : Fin 1) (0 : Fin 1))) * W (ix6 (0 : Fin 1) h' R j b k')
  exact key _ _ (Fin.ext (by simp only []; omega)) (Fin.ext (by simp only []; omega))

end Any

/-! ## The biases -/

theorem gather_places {α : Type} (A : Shape.Idx S16x15x31 → α) (I : IVec S8x64x8x64x2 32) (h : Fin 16) (q : Fin 8) (p : Fin 64) (j : Fin 8) (b : Fin 64) :
    Host.gather gather_S16x15x31_S8x64x8x64x2_S16x8x64x8x64_0_12_n_n_12_4_1611 A I (ix5 h q p j b)
      = A (ix3 h (⟨min (I (ix5 q p j b (0 : Fin 2))).toInt.toNat 14, by omega⟩ : Fin 15) (⟨min (I (ix5 q p j b (1 : Fin 2))).toInt.toNat 30, by omega⟩ : Fin 31)) := by
  have e : ∀ c, gather_S16x15x31_S8x64x8x64x2_S16x8x64x8x64_0_12_n_n_12_4_1611.siIdx (ix5 h q p j b) c = ix5 q p j b (⟨c.val, c.isLt⟩ : Fin 2) := by
    intro c
    funext x
    match x with
    | ⟨0, _⟩ => rfl
    | ⟨1, _⟩ => rfl
    | ⟨2, _⟩ => rfl
    | ⟨3, _⟩ => rfl
    | ⟨4, _⟩ => rfl
  unfold Host.gather
  congr 1
  funext a
  apply Fin.ext
  match a with
  | ⟨0, _⟩ => exact Nat.zero_add _
  | ⟨1, _⟩ =>
    show min (I (gather_S16x15x31_S8x64x8x64x2_S16x8x64x8x64_0_12_n_n_12_4_1611.siIdx _ _)).toInt.toNat 14 = _
    rw [e]; rfl
  | ⟨2, _⟩ =>
    show min (I (gather_S16x15x31_S8x64x8x64x2_S16x8x64x8x64_0_12_n_n_12_4_1611.siIdx _ _)).toInt.toNat 30 = _
    rw [e]; rfl

theorem hostPat_at (q j : Fin 8) : hostPat (ix4 q (0 : Fin 1) j (0 : Fin 1)) = BitVec.ofNat 32 (j.val + 7 - q.val) := by
  unfold hostPat
  pointwise
  exact (by decide +kernel : ∀ q j : Fin 8, IntOp.subi (IntOp.addi (IntOp.subi (BitVec.ofNat 32 j.val) (BitVec.ofNat 32 q.val)) 8#32) 1#32 =
    BitVec.ofNat 32 (j.val + 7 - q.val)) q j

theorem wrapPat : ∀ q j : Fin 8, min (Scalar.select (IntOp.cmpi CmpIPredicate.slt (BitVec.ofNat 32 (j.val + 7 - q.val)) 0#32)
      (IntOp.addi (BitVec.ofNat 32 (j.val + 7 - q.val)) 15#32) (BitVec.ofNat 32 (j.val + 7 - q.val))).toInt.toNat 14 =
    j.val + 7 - q.val := by decide +kernel

theorem hostTaken_at (q j : Fin 8) (b : Fin 64) : hostTaken P (ix5 h q p j b) = P (ix3 h (⟨j.val + 7 - q.val, by omega⟩ : Fin 15) (⟨min (b.val + 15 - p.val) 30, by omega⟩ : Fin 31)) := by
  unfold hostTaken
  rw [gather_places]
  have e1 : ∀ w : BitVec 32, w = BitVec.ofNat 32 (j.val + 7 - q.val) → min (Scalar.select (IntOp.cmpi CmpIPredicate.slt w 0#32) (IntOp.addi w 15#32) w).toInt.toNat 14 = j.val + 7 - q.val := by
    intro w hw
    subst hw
    exact wrapPat q j
  have e2 : ∀ w : BitVec 32, w = BitVec.ofNat 32 (min (b.val + 15 - p.val) 30) → min (Scalar.select (IntOp.cmpi CmpIPredicate.slt w 0#32) (IntOp.addi w 31#32) w).toInt.toNat 30 = min (b.val + 15 - p.val) 30 := by
    intro w hw
    subst hw
    rw [wrapCol p b, toInt_col p b]
    omega
  pointwise
  exact congrArg₂ (fun (u : Fin 15) (v : Fin 31) => P (ix3 h u v)) (Fin.ext (e1 _ (hostPat_at q j))) (Fin.ext (e2 _ (hostCol_at p b)))

theorem hostBias_at : hostBias P (ix4 h (place R) p y) = if inCols p.val (y.val % 64) then tabAt P h R p y else ⊥ := by
  unfold hostBias hostFilled
  pointwise
  refine (congrArg₂ (fun c v => Scalar.select c v _) (hostMask_at p (colIn y)) (hostTaken_at P h p (place R) (rowIn y) (colIn y))).trans ?_
  unfold tabAt
  by_cases hc : inCols p.val (y.val % 64)
  · rw [if_pos hc, if_pos (show inCols p.val (colIn y).val from hc)]
    exact congrArg (fun u : Fin 15 => P (ix3 h u _)) (Fin.ext (by simp only [startRow]; omega))
  · rw [if_neg hc, if_neg (show ¬ inCols p.val (colIn y).val from hc)]; exact negInf

/-! ## From the packed array and the table -/

theorem hostLse_of : hostLse (hostTop (hostScores X P)) (hostTot (hostExp (hostScores X P) (hostTop (hostScores X P)))) (ix2 (tok R p) (feat h k))
    = top X P h R p + Ideal.log (tot X P h R p) := by
  have ht : hostTop (hostScores X P) (ix6 (0 : Fin 1) h R p (0 : Fin 1) (0 : Fin 1)) = top X P h R p :=
    (hostTop_at h R p _).trans (Finset.sup_congr rfl fun y _ => hostScores_at X P h R p y)
  rw [hostLse_at, ht, hostTot_at, Finset.sum_congr rfl fun y _ => (hostExp_at h R p y (hostScores X P) (hostTop (hostScores X P))).trans (by rw [hostScores_at, ht])]
  rfl

theorem hostOut_of : hostOut (hostExp (hostScores X P) (hostTop (hostScores X P))) (hostTot (hostExp (hostScores X P) (hostTop (hostScores X P)))) (hostV X) (ix2 (tok R p) (feat h k))
    = ∑ y : Fin 512, Ideal.div (ex X P h R p y) (tot X P h R p) * X (ix2 (keyTok R y) (vFeat h k)) := by
  have ht : hostTop (hostScores X P) (ix6 (0 : Fin 1) h R p (0 : Fin 1) (0 : Fin 1)) = top X P h R p :=
    (hostTop_at h R p _).trans (Finset.sup_congr rfl fun y _ => hostScores_at X P h R p y)
  have he : ∀ y, hostExp (hostScores X P) (hostTop (hostScores X P)) (ix6 (0 : Fin 1) h R p (rowIn y) (colIn y)) = ex X P h R p y := fun y =>
    (hostExp_at h R p y (hostScores X P) (hostTop (hostScores X P))).trans (by rw [hostScores_at, ht]; rfl)
  have hl : hostTot (hostExp (hostScores X P) (hostTop (hostScores X P))) (ix6 (0 : Fin 1) h R p (0 : Fin 1) (0 : Fin 1)) = tot X P h R p :=
    (hostTot_at h R p _).trans (Finset.sum_congr rfl fun y _ => he y)
  rw [hostOut_at, hl]
  exact Finset.sum_congr rfl fun y _ => by rw [he, hostV_at]

end Cert.KernelIdeal.NaBwd

end

end
-- ==== Proof.NaReal.lean ====
/- The two gradients are one where every entry is a real number. -/
module

public import proofs.«01_k».proof.Proof.NaScores

@[expose] public section

set_option maxRecDepth 16384

noncomputable section

namespace Cert.KernelIdeal.NaBwd

open Cert.KernelIdeal Cert.KernelIdeal.Gen
open Idealize.ShloMosaic Idealize.ShloMosaic.TcCoe
open Idealize.ShloMosaic.WindowSum

/-! ## Sums of real numbers -/

theorem coe_sums {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} [Fintype ι] (f g : ι → ℝ) : ∑ i, (f i : EReal) * (g i : EReal) = ((∑ i, f i * g i : ℝ) : EReal) := by
  rw [coe_sums]
  exact Finset.sum_congr rfl fun i _ => (EReal.coe_mul _ _).symm

theorem factor_real : ∃ f : ℝ, factor = (f : EReal) := by
  show ∃ f : ℝ, Ideal.ieee 8 23 (0x3DB504F3#32 : BitVec 32) = (f : EReal)
  unfold Ideal.ieee
  have e1 : ¬ ((0x3DB504F3#32 : BitVec 32).extractLsb' 23 8).toNat = 2 ^ 8 - 1 := by decide +kernel
  have e2 : ¬ ((0x3DB504F3#32 : BitVec 32).extractLsb' 23 8).toNat = 0 := by decide +kernel
  simp only [e1, e2, if_false]
  exact ⟨_, rfl⟩

/-! ## A row of weights -/

section Row

variable (c : Fin 512 → Prop) [DecidablePred c] (s : Fin 512 → ℝ)

/-- The weights of a row before they are divided by their sum, as real numbers. -/
def rowE (m : ℝ) (y : Fin 512) : ℝ := if c y then Real.exp (s y - m) else 0

theorem row_top (y0 : Fin 512) (h0 : c y0) :
    ∃ (m : ℝ) (y1 : Fin 512), c y1 ∧ (Finset.univ.sup fun y : Fin 512 => if c y then (s y : EReal) else ⊥) = (m : EReal) := by
  obtain ⟨y1, -, e⟩ := Finset.exists_mem_eq_sup (Finset.univ : Finset (Fin 512)) ⟨y0, Finset.mem_univ _⟩ (fun y : Fin 512 => if c y then (s y : EReal) else ⊥)
  have hle := Finset.le_sup (f := fun y : Fin 512 => if c y then (s y : EReal) else ⊥) (Finset.mem_univ y0)
  rw [e] at hle
  have hc : c y1 := by
    by_contra hn
    simp only [if_pos h0, if_neg hn] at hle
    exact EReal.coe_ne_bot _ (le_bot_iff.1 hle)
  exact ⟨s y1, y1, hc, e.trans (if_pos hc)⟩

theorem row_exp (m : ℝ) (y : Fin 512) : Ideal.exp ((if c y then (s y : EReal) else ⊥) - (m : EReal)) = (rowE c s m y : EReal) := by
  unfold rowE
  by_cases hc : c y
  · rw [if_pos hc, if_pos hc, ← EReal.coe_sub, Ideal.exp_coe]
  · rw [if_neg hc, if_neg hc, EReal.bot_sub, Ideal.exp_bot, EReal.coe_zero]

theorem row_pos (m : ℝ) (y1 : Fin 512) (h1 : c y1) : 0 < ∑ y, rowE c s m y :=
  Finset.sum_pos' (fun y _ => by unfold rowE; split; exacts [(Real.exp_pos _).le, le_rfl])
    ⟨y1, Finset.mem_univ _, by unfold rowE; rw [if_pos h1]; exact Real.exp_pos _⟩

/-- The weight from the logarithm of the sum. -/
theorem row_weight (m l : ℝ) (hl : 0 < l) (y : Fin 512) (a t : ℝ) (hs : s y = a + t) :
    Ideal.exp ((a : EReal) + (if c y then (t : EReal) else ⊥) - ((m : EReal) + Ideal.log (l : EReal))) = ((rowE c s m y / l : ℝ) : EReal) := by
  unfold rowE
  rw [Ideal.log_coe, if_neg (not_le.2 hl), ← EReal.coe_add]
  by_cases hc : c y
  · rw [if_pos hc, if_pos hc, ← EReal.coe_add, ← EReal.coe_sub, Ideal.exp_coe, hs,
      show a + t - (m + Real.log l) = (a + t - m) - Real.log l by ring, Real.exp_sub _ (Real.log l), Real.exp_log hl]
  · rw [if_neg hc, if_neg hc, EReal.add_bot, EReal.bot_sub, Ideal.exp_bot, zero_div, EReal.coe_zero]

/-- The gradient of a score, both ways. -/
theorem row_grad (m l : ℝ) (hl : 0 < l) (g : Fin 512 → ℝ) (y : Fin 512) :
    (if c y then (g y / l + -∑ y', g y' * (1 / (l * l)) * rowE c s m y') * rowE c s m y else 0)
      = rowE c s m y / l * (g y - ∑ y', rowE c s m y' / l * g y') := by
  by_cases hc : c y
  · have e : ∑ y', g y' * (1 / (l * l)) * rowE c s m y' = (∑ y', rowE c s m y' / l * g y') / l := by
      rw [Finset.sum_div]
      exact Finset.sum_congr rfl fun y' _ => by field_simp
    rw [if_pos hc, e]
    field_simp
    ring
  · have e : rowE c s m y = 0 := if_neg hc
    rw [if_neg hc, e, zero_div, zero_mul]

end Row

/-! ## The arrays -/

/-- What the host hands the kernel, for a packed array and a bias table. -/
structure Handed (X : FVec Ideal S8192x6144 .bf16) (P : FVec Ideal S16x15x31 .f32) (L : FVec Ideal S8192x2048 .f32) (O : FVec Ideal S8192x2048 .bf16)
    (B : FVec Ideal S16x8x64x512 .f32) : Prop where
  lse : ∀ h R p k, L (ix2 (tok R p) (feat h k)) = top X P h R p + Ideal.log (tot X P h R p)
  out : ∀ h R p k, O (ix2 (tok R p) (feat h k)) = ∑ y : Fin 512, Ideal.div (ex X P h R p y) (tot X P h R p) * X (ix2 (keyTok R y) (vFeat h k))
  bias : ∀ h R p y, B (ix4 h (place R) p y) = if inCols p.val (y.val % 64) then tabAt P h R p y else ⊥

section Arrays

variable {X : FVec Ideal S8192x6144 .bf16} {P : FVec Ideal S16x15x31 .f32} {D : FVec Ideal S8192x2048 .f32}
variable {L : FVec Ideal S8192x2048 .f32} {O : FVec Ideal S8192x2048 .bf16} {B : FVec Ideal S16x8x64x512 .f32}
variable {x : S8192x6144.Idx → ℝ} {t : S16x15x31.Idx → ℝ} {d : S8192x2048.Idx → ℝ}

/-- A query's weights and the gradients of its scores are real numbers, the same both ways. -/
theorem row_same (hX : ∀ i, X i = (x i : EReal)) (hP : ∀ i, P i = (t i : EReal)) (hD : ∀ i, D i = (d i : EReal)) (H : Handed X P L O B)
    (f : ℝ) (hf : factor = (f : EReal)) (h : Fin 16) (R : Fin 128) (p : Fin 64) :
    ∃ w s : Fin 512 → ℝ, ∀ y, weight X L B h R p y = (w y : EReal) ∧ Ideal.div (ex X P h R p y) (tot X P h R p) = (w y : EReal)
      ∧ dScore X D L O B h R p y = (s y : EReal) ∧ dScoreRef X P D h R p y = ((s y * f : ℝ) : EReal) := by
  let a : Fin 512 → ℝ := fun y => (∑ k : Fin 128, x (ix2 (tok R p) (qFeat h k)) * x (ix2 (keyTok R y) (kFeat h k))) * f
  let b : Fin 512 → ℝ := fun y => t (ix3 h (⟨startRow R + y.val / 64 + 7 - R.val, by unfold startRow; omega⟩ : Fin 15) (⟨min (y.val % 64 + 15 - p.val) 30, by omega⟩ : Fin 31))
  let g : Fin 512 → ℝ := fun y => ∑ k : Fin 128, d (ix2 (tok R p) (feat h k)) * x (ix2 (keyTok R y) (vFeat h k))
  let c : Fin 512 → Prop := fun y => inCols p.val (y.val % 64)
  have hdec : DecidablePred c := fun y => inferInstanceAs (Decidable (inCols p.val (y.val % 64)))
  have hdot : ∀ y, (∑ k : Fin 128, X (ix2 (tok R p) (qFeat h k)) * X (ix2 (keyTok R y) (kFeat h k))) * factor = (a y : EReal) := fun y => by
    rw [Finset.sum_congr rfl fun k _ => congrArg₂ (· * ·) (hX _) (hX _), sum_mul_coe, hf, ← EReal.coe_mul]
  have htab : ∀ y, tabAt P h R p y = (b y : EReal) := fun y => hP _
  have hscore : ∀ y, score X P h R p y = if c y then ((a y + b y : ℝ) : EReal) else ⊥ := fun y => by
    unfold score
    rw [hdot, htab, ← EReal.coe_add]
    by_cases hc : c y
    · rw [if_pos hc, if_pos (show inCols p.val (y.val % 64) from hc)]
    · rw [if_neg hc, if_neg (show ¬ inCols p.val (y.val % 64) from hc)]
  have hy0 : ∃ y0, c y0 := ⟨⟨min (p.val - 8) 48, by omega⟩, by show inCols p.val (min (p.val - 8) 48 % 64); constructor <;> omega⟩
  obtain ⟨y0, h0⟩ := hy0
  obtain ⟨m, y1, h1, hm⟩ := row_top c (fun y => a y + b y) y0 h0
  let e : Fin 512 → ℝ := rowE c (fun y => a y + b y) m
  have htop : top X P h R p = (m : EReal) := by
    unfold top
    rw [← hm]
    exact Finset.sup_congr rfl fun y _ => hscore y
  have hex : ∀ y, ex X P h R p y = (e y : EReal) := fun y => by
    unfold ex
    rw [hscore, htop]
    exact row_exp c (fun y => a y + b y) m y
  have hl : 0 < ∑ y, e y := row_pos c (fun y => a y + b y) m y1 h1
  generalize hlv : ∑ y, e y = l at hl
  have htot : tot X P h R p = (l : EReal) := by
    unfold tot
    rw [Finset.sum_congr rfl fun y _ => hex y, ← coe_sums, hlv]
  have hdw : ∀ y, dWeight X D h R p y = (g y : EReal) := fun y => by
    unfold dWeight
    rw [Finset.sum_congr rfl fun k _ => congrArg₂ (· * ·) (hD _) (hX _), sum_mul_coe]
  have hdiv : ∀ y, Ideal.div (ex X P h R p y) (tot X P h R p) = ((e y / l : ℝ) : EReal) := fun y => by
    rw [hex, htot, Ideal.div_coe hl.ne', ← EReal.coe_mul]
    congr 1
    ring
  have hw : ∀ y, weight X L B h R p y = ((e y / l : ℝ) : EReal) := fun y => by
    unfold weight
    have hb : B (ix4 h (place R) p y) = if c y then (b y : EReal) else ⊥ := by
      rw [H.bias, htab]
      by_cases hc : c y
      · rw [if_pos hc, if_pos (show inCols p.val (y.val % 64) from hc)]
      · rw [if_neg hc, if_neg (show ¬ inCols p.val (y.val % 64) from hc)]
    rw [hdot, hb, H.lse, htop, htot]
    exact row_weight c (fun y => a y + b y) m l hl y (a y) (b y) rfl
  have hout : ∑ k : Fin 128, D (ix2 (tok R p) (feat h k)) * O (ix2 (tok R p) (feat h k)) = ((∑ y, e y / l * g y : ℝ) : EReal) := by
    have ho : ∀ k, O (ix2 (tok R p) (feat h k)) = ((∑ y, e y / l * x (ix2 (keyTok R y) (vFeat h k)) : ℝ) : EReal) := fun k => by
      rw [H.out, Finset.sum_congr rfl fun y _ => congrArg₂ (· * ·) (hdiv y) (hX _), sum_mul_coe]
    rw [Finset.sum_congr rfl fun k _ => congrArg₂ (· * ·) (hD _) (ho k), sum_mul_coe]
    congr 1
    simp only [g, Finset.mul_sum]
    rw [Finset.sum_comm]
    exact Finset.sum_congr rfl fun y _ => Finset.sum_congr rfl fun k _ => by ring
  have hds : ∀ y, dScore X D L O B h R p y = ((e y / l * (g y - ∑ y', e y' / l * g y') : ℝ) : EReal) := fun y => by
    unfold dScore
    rw [hw, hout, show (∑ k : Fin 128, D (ix2 (tok R p) (feat h k)) * X (ix2 (keyTok R y) (vFeat h k))) = (g y : EReal) from hdw y, ← EReal.coe_sub, ← EReal.coe_mul]
  have hdr : ∀ y, dScoreRef X P D h R p y = ((e y / l * (g y - ∑ y', e y' / l * g y') * f : ℝ) : EReal) := fun y => by
    have hs : ∑ y' : Fin 512, dWeight X D h R p y' * Ideal.div 1 (tot X P h R p * tot X P h R p) * ex X P h R p y'
        = ((∑ y', g y' * (1 / (l * l)) * e y' : ℝ) : EReal) := by
      rw [coe_sums]
      refine Finset.sum_congr rfl fun y' _ => ?_
      rw [hdw, hex, htot, ← EReal.coe_mul, Ideal.div_coe (mul_pos hl hl).ne', one_mul, ← EReal.coe_mul, ← EReal.coe_mul]
    unfold dScoreRef
    rw [hs, hdw, hex, htot, hf, Ideal.div_coe hl.ne', ← EReal.coe_mul, ← EReal.coe_neg, ← EReal.coe_add, ← EReal.coe_mul, ← EReal.coe_zero]
    rw [← row_grad c (fun y => a y + b y) m l hl g y]
    by_cases hc : c y
    · rw [if_pos hc, if_pos (show inCols p.val (y.val % 64) from hc), ← EReal.coe_mul, mul_one_div]
    · rw [if_neg hc, if_neg (show ¬ inCols p.val (y.val % 64) from hc), ← EReal.coe_mul]
  exact ⟨fun y => e y / l, fun y => e y / l * (g y - ∑ y', e y' / l * g y'), fun y => ⟨hw y, hdiv y, hds y, hdr y⟩⟩

/-- Both ways the queries' gradient is one, -/
theorem gradQ_same (hX : ∀ i, X i = (x i : EReal)) (hP : ∀ i, P i = (t i : EReal)) (hD : ∀ i, D i = (d i : EReal)) (H : Handed X P L O B) :
    gradQ X D L O B = refGradQ X P D := by
  obtain ⟨f, hf⟩ := factor_real
  funext j
  obtain ⟨w, s, hs⟩ := row_same hX hP hD H f hf (headAt (j 1)) (rowAt (j 0)) (colOf (j 0))
  unfold gradQ refGradQ dQuery
  rw [Finset.sum_congr rfl fun y _ => congrArg₂ (· * ·) (hs y).2.2.1 (hX _), sum_mul_coe, hf, ← EReal.coe_mul,
    Finset.sum_congr rfl fun y _ => congrArg₂ (· * ·) (hs y).2.2.2 (hX _), sum_mul_coe, Finset.sum_mul]
  congr 1
  exact Finset.sum_congr rfl fun y _ => by ring

/-- the keys' -/
theorem gradK_same (hX : ∀ i, X i = (x i : EReal)) (hP : ∀ i, P i = (t i : EReal)) (hD : ∀ i, D i = (d i : EReal)) (H : Handed X P L O B) :
    gradK X D L O B = refGradK X P D := by
  obtain ⟨f, hf⟩ := factor_real
  funext j
  unfold gradK refGradK
  refine congrArg (fun G => windowSum 512 (fun R : Fin 128 => 64 * startRow R) Finset.univ G (j 0).val) ?_
  funext R y
  choose w s hs using row_same hX hP hD H f hf (headAt (j 1)) R
  unfold dKey
  rw [Finset.sum_congr rfl fun p _ => congrArg₂ (· * ·) (hs p y).2.2.1 (hX _), sum_mul_coe, hf, ← EReal.coe_mul,
    Finset.sum_congr rfl fun p _ => congrArg₂ (· * ·) (hs p y).2.2.2 (hX _), sum_mul_coe, Finset.sum_mul]
  congr 1
  exact Finset.sum_congr rfl fun p _ => by ring

/-- and the values'. -/
theorem gradV_same (hX : ∀ i, X i = (x i : EReal)) (hP : ∀ i, P i = (t i : EReal)) (hD : ∀ i, D i = (d i : EReal)) (H : Handed X P L O B) :
    gradV X D L B = refGradV X P D := by
  obtain ⟨f, hf⟩ := factor_real
  funext j
  unfold gradV refGradV
  refine congrArg (fun G => windowSum 512 (fun R : Fin 128 => 64 * startRow R) Finset.univ G (j 0).val) ?_
  funext R y
  choose w s hs using row_same hX hP hD H f hf (headAt (j 1)) R
  unfold dValue
  exact Finset.sum_congr rfl fun p _ => by rw [(hs p y).1, (hs p y).2.1, mul_comm]

end Arrays

end Cert.KernelIdeal.NaBwd

end

end
-- ==== Proof.NaResults.lean ====
/- The results of the reference at an index: the contraction of the queries and the scatters of the keys and the values, over any arrays. -/
module

public import proofs.«01_k».proof.Proof.NaReduce
public import proofs.«01_k».proof.Proof.NaIndex
public import Idealize.ShloMosaic.Lib.Pipeline.ValueKit
public import Idealize.ShloMosaic.Lib.Pointwise.Tactic

@[expose] public section

set_option maxRecDepth 16384

noncomputable section

namespace Cert.ReferenceIdeal.NaBwd

open Cert.ReferenceIdeal Cert.ReferenceIdeal.Gen Cert.ReferenceIdeal.Value
open Cert.KernelIdeal.NaBwd (tok startRow keyTok place feat qFeat kFeat vFeat factor inCols tabAt score top ex tot dWeight negInf rowIn colIn sum_pair max_pair sum_units)
open Idealize.ShloMosaic Idealize.ShloMosaic.TcCoe Idealize.ShloMosaic.Tactic
open Idealize.SL.Sem

variable (V0 : Valuation τ sig (Elt Ideal))

section Results

variable (A : FVec Ideal S1x16x128x64x8x64 .f32) (Q : FVec Ideal S1x16x128x64x128 .f32) (K : FVec Ideal S1x16x128x8x64x128 .f32)
variable (I : IVec S128x8x1 32) (s : Fin 128 → ℕ) (T : Fin 8192) (f : Fin 2048)

theorem query_at : (truncf .bf16 (shapeCast S8192x2048 (transpose S1x8192x16x128 [0, 2, 1, 3] (shapeCast S1x16x8192x128 (Host.dotGeneral (φ₁ := .f32) (φ₂ := .f32) dot_S1x16x128x64x8x64_S1x16x128x8x64x128_S1x16x128x64x128_45_34_3_5_012_012 none A K) shapeCasts_S1x16x128x64x128_S1x16x8192x128) transposes_S1x16x8192x128_S1x8192x16x128_0_2_1_3) shapeCasts_S1x8192x16x128_S8192x2048) bitsLt_bf16_f32 : FVec Ideal S8192x2048 .bf16) (ix2 T f)
    = ∑ j : Fin 8, ∑ b : Fin 64, A (ix6 (0 : Fin 1) (⟨f.val / 128, by omega⟩ : Fin 16) (⟨T.val / 64, by omega⟩ : Fin 128) (⟨T.val % 64, by omega⟩ : Fin 64) j b) * K (ix6 (0 : Fin 1) (⟨f.val / 128, by omega⟩ : Fin 16) (⟨T.val / 64, by omega⟩ : Fin 128) j b (⟨f.val % 128, by omega⟩ : Fin 128)) := by
  pointwise

theorem scattered_at : (shapeCast S8192x2048 (transpose S1x8192x16x128 [0, 2, 1, 3] (shapeCast S1x16x8192x128 (Host.scatterAdd scatter_S1x16x128x64x128_S128x8x1_S1x16x128x8x64x128_0145_2_2_2 (broadcastInDim S1x16x128x64x128 ![] bcast_S_S1x16x128x64x128 (constant (F := Ideal) S_ .f32 0x00000000#32)) I K) shapeCasts_S1x16x128x64x128_S1x16x8192x128) transposes_S1x16x8192x128_S1x8192x16x128_0_2_1_3) shapeCasts_S1x8192x16x128_S8192x2048 : FVec Ideal S8192x2048 .f32) (ix2 T f)
    = Ideal.hostScatterAdd scatter_S1x16x128x64x128_S128x8x1_S1x16x128x8x64x128_0145_2_2_2 (fun _ => 0) I K (ix5 (0 : Fin 1) (⟨f.val / 128, by omega⟩ : Fin 16) (⟨T.val / 64, by omega⟩ : Fin 128) (⟨T.val % 64, by omega⟩ : Fin 64) (⟨f.val % 128, by omega⟩ : Fin 128)) := by
  pointwise
  show Ideal.hostScatterAdd _ (broadcastInDim S1x16x128x64x128 ![] bcast_S_S1x16x128x64x128 (constant (F := Ideal) S_ .f32 0x00000000#32)) I K _ = _
  rw [show (broadcastInDim S1x16x128x64x128 ![] bcast_S_S1x16x128x64x128 (constant (F := Ideal) S_ .f32 0x00000000#32) : FVec Ideal S1x16x128x64x128 .f32) = fun _ => 0 from by
    funext i
    show Ideal.ofBits .f32 0x00000000#32 = 0
    exact Ideal.ofBits_zero_f32]

theorem scatter_mem (hI : ∀ R j, (I (ix3 R j (0 : Fin 1))).toInt = (s R : ℤ) + (j.val : ℤ)) (hs : ∀ R, s R ≤ 120) (h : Fin 16) (r : Fin 128) (b : Fin 64) (k : Fin 128)
    (i : S1x16x128x8x64x128.Idx) :
    scatter_S1x16x128x64x128_S128x8x1_S1x16x128x8x64x128_0145_2_2_2.resultIdx? i I = some (ix5 (0 : Fin 1) h r b k)
      ↔ i = ix6 (0 : Fin 1) h (i 2) (i 3) b k ∧ s (i 2) + (i 3).val = r.val := by
  obtain ⟨i0, i1, i2, i3, i4, i5, rfl⟩ : ∃ (i0 : Fin 1) (i1 : Fin 16) (i2 : Fin 128) (i3 : Fin 8) (i4 : Fin 64) (i5 : Fin 128), i = ix6 i0 i1 i2 i3 i4 i5 :=
    ⟨i 0, i 1, i 2, i 3, i 4, i 5, eq_ix6 i⟩
  obtain rfl : i0 = 0 := Subsingleton.elim _ _
  rw [scatter_idx I s hI hs]
  constructor
  · intro e
    have e' := Option.some.inj e
    have e1 : i1 = h := congrFun e' 1
    have e2 : s i2 + i3.val = r.val := congrArg Fin.val (congrFun e' 2 : (⟨s i2 + i3.val, by have := hs i2; omega⟩ : Fin 128) = r)
    have e3 : i4 = b := congrFun e' 3
    have e4 : i5 = k := congrFun e' 4
    subst e1 e3 e4
    exact ⟨rfl, e2⟩
  · rintro ⟨e, e2⟩
    have e1 : i1 = h := congrFun e 1
    have e3 : i4 = b := congrFun e 4
    have e4 : i5 = k := congrFun e 5
    subst e1 e3 e4
    exact congrArg (fun z : Fin 128 => some (ix5 (0 : Fin 1) i1 z i4 i5)) (Fin.ext e2)

theorem scatter_at (hI : ∀ R j, (I (ix3 R j (0 : Fin 1))).toInt = (s R : ℤ) + (j.val : ℤ)) (hs : ∀ R, s R ≤ 120) (h : Fin 16) (r : Fin 128) (b : Fin 64) (k : Fin 128) :
    Ideal.hostScatterAdd scatter_S1x16x128x64x128_S128x8x1_S1x16x128x8x64x128_0145_2_2_2 (fun _ => 0) I K (ix5 (0 : Fin 1) h r b k)
      = ∑ R : Fin 128, if hR : s R ≤ r.val ∧ r.val < s R + 8 then K (ix6 (0 : Fin 1) h R (⟨r.val - s R, by omega⟩ : Fin 8) b k) else 0 := by
  unfold Ideal.hostScatterAdd
  rw [zero_add, ← Finset.sum_filter_add_sum_filter_not Finset.univ (fun R : Fin 128 => s R ≤ r.val ∧ r.val < s R + 8)]
  rw [Finset.sum_congr (s₂ := Finset.univ.filter fun R : Fin 128 => ¬ (s R ≤ r.val ∧ r.val < s R + 8)) rfl (fun R hR => dif_neg (Finset.mem_filter.1 hR).2), Finset.sum_const_zero, add_zero]
  have mem := scatter_mem I s hI hs h r b k
  refine Finset.sum_bij' (fun i _ => (i 2 : Fin 128)) (fun R hR => ix6 (0 : Fin 1) h R (⟨r.val - s R, by have := (Finset.mem_filter.1 hR).2; omega⟩ : Fin 8) b k) ?_ ?_ ?_ ?_ ?_
  · intro i hi
    have e := (mem i).1 (Finset.mem_filter.1 hi).2
    have h3 : (i 3).val < 8 := (i 3).isLt
    refine Finset.mem_filter.2 ⟨Finset.mem_univ _, ?_⟩
    have e2 := e.2
    constructor <;> omega
  · intro R hR
    have hr := (Finset.mem_filter.1 hR).2
    refine Finset.mem_filter.2 ⟨Finset.mem_univ _, (mem _).2 ⟨rfl, ?_⟩⟩
    show s R + (r.val - s R) = r.val
    omega
  · intro i hi
    have e := (mem i).1 (Finset.mem_filter.1 hi).2
    have e2 := e.2
    refine Eq.trans ?_ e.1.symm
    exact congrArg (fun z : Fin 8 => ix6 (0 : Fin 1) h (i 2) z b k) (Fin.ext (by show r.val - s (i 2) = (i 3).val; omega))
  · intro R hR
    rfl
  · intro i hi
    have e := (mem i).1 (Finset.mem_filter.1 hi).2
    have e2 := e.2
    have h3 : (i 3).val < 8 := (i 3).isLt
    rw [dif_pos (⟨by omega, by omega⟩ : s (i 2) ≤ r.val ∧ r.val < s (i 2) + 8)]
    refine (congrArg K e.1).trans ?_
    exact congrArg (fun z : Fin 8 => K (ix6 (0 : Fin 1) h (i 2) z b k)) (Fin.ext (by show (i 3).val = r.val - s (i 2); omega))

theorem dKey_at (h : Fin 16) (R : Fin 128) (j : Fin 8) (b : Fin 64) (k : Fin 128) :
    (Host.dotGeneral (φ₁ := .f32) (φ₂ := .f32) dot_S1x16x128x64x8x64_S1x16x128x64x128_S1x16x128x8x64x128_3_3_45_4_012_012 none A Q : FVec Ideal S1x16x128x8x64x128 .f32) (ix6 (0 : Fin 1) h R j b k)
      = ∑ p : Fin 64, A (ix6 (0 : Fin 1) h R p j b) * Q (ix5 (0 : Fin 1) h R p k) := by
  pointwise

theorem dValue_at (h : Fin 16) (R : Fin 128) (j : Fin 8) (b : Fin 64) (k : Fin 128) :
    (transpose S1x16x128x8x64x128 [0, 1, 2, 4, 5, 3] (Host.dotGeneral (φ₁ := .f32) (φ₂ := .f32) dot_S1x16x128x64x128_S1x16x128x64x8x64_S1x16x128x128x8x64_3_3_4_45_012_012 none Q A) transposes_S1x16x128x128x8x64_S1x16x128x8x64x128_0_1_2_4_5_3 : FVec Ideal S1x16x128x8x64x128 .f32) (ix6 (0 : Fin 1) h R j b k)
      = ∑ p : Fin 64, Q (ix5 (0 : Fin 1) h R p k) * A (ix6 (0 : Fin 1) h R p j b) := by
  pointwise

end Results

end Cert.ReferenceIdeal.NaBwd

end

end
-- ==== Proof.NaRef.lean ====
/- The reference's gradients: its named values at an index, and its three results. -/
module

public import proofs.«01_k».proof.Proof.NaOps
public import proofs.«01_k».proof.Proof.NaResults
public import proofs.«01_k».proof.Proof.NaIndex
public import Idealize.ShloMosaic.Lib.Pipeline.ValueKit
public import Idealize.ShloMosaic.Lib.Pointwise.Tactic

@[expose] public section

set_option maxRecDepth 16384

noncomputable section

namespace Cert.ReferenceIdeal.NaBwd

open Cert.ReferenceIdeal Cert.ReferenceIdeal.Gen Cert.ReferenceIdeal.Value
open Cert.KernelIdeal.NaBwd (tok startRow keyTok place feat qFeat kFeat vFeat factor inCols tabAt score top ex tot dWeight negInf rowIn colIn sum_pair max_pair sum_keys headAt rowAt colOf partAt dScoreRef refGradQ refGradK refGradV sum_units)
open Idealize.ShloMosaic Idealize.ShloMosaic.TcCoe Idealize.ShloMosaic.Tactic
open Idealize.SL.Sem
open Idealize.ShloMosaic.WindowSum

variable (V0 : Valuation τ sig (Elt Ideal))

/-- The packed array, -/
abbrev xs : FVec Ideal S8192x6144 .bf16 := V0 (Proc.devRef .tc main_arg0)
/-- the bias table -/
abbrev ps : FVec Ideal S16x15x31 .f32 := V0 (Proc.devRef .tc main_arg1)
/-- and the gradient of the result. -/
abbrev gs : FVec Ideal S8192x2048 .f32 := V0 (Proc.devRef .tc main_arg2)

/-! The reference's named values as arrays. -/
abbrev a45 : FVec Ideal S1x16x128x64x128 .f32 := res_main_v45 V0
abbrev a132 : FVec Ideal S1x16x128x64x128 .f32 := res_main_v132 V0
abbrev a53 : FVec Ideal S1x16x128x8x64x128 .f32 := res_main_v53 V0
abbrev a95 : FVec Ideal S1x16x128x8x64x128 .f32 := res_main_v95 V0
abbrev a96 : FVec Ideal S1x16x128x64x512 .f32 := res_main_v96 V0
abbrev a97 : FVec Ideal S1x16x128x64 .f32 := res_main_v97 V0
abbrev a117 : FVec Ideal S1x16x128x64x512 .f32 := res_main_v117 V0
abbrev a119 : FVec Ideal S1x16x128x64x1 .f32 := res_main_v119 V0
abbrev a125 : FVec Ideal S1x16x128x64x8x64 .f32 := res_main_v125 V0
abbrev a136 : FVec Ideal S1x16x128x64x512 .f32 := res_main_v136 V0
abbrev a156 : FVec Ideal S1x16x128x64x8x64 .f32 := res_main_v156 V0
abbrev a87 : IVec S1x16x128x64x8x64 1 := res_main_v87_1 V0

variable (h : Fin 16) (R : Fin 128) (p : Fin 64) (y : Fin 512) (k : Fin 128)

theorem v45_apply : a45 V0 (ix5 (0 : Fin 1) h R p k) = xs V0 (ix2 (tok R p) (qFeat h k)) := by
  unfold a45 res_main_v45 res_main_v0
  pointwise
  congr 2 <;> apply Fin.ext <;> simp only [] <;> omega

theorem v132_apply : a132 V0 (ix5 (0 : Fin 1) h R p k) = gs V0 (ix2 (tok R p) (feat h k)) := by
  unfold a132 res_main_v132
  pointwise
  congr 2 <;> apply Fin.ext <;> simp only [] <;> omega

theorem v53_apply : a53 V0 (ix6 (0 : Fin 1) h R (rowIn y) (colIn y) k) = xs V0 (ix2 (keyTok R y) (kFeat h k)) := by
  unfold a53 res_main_v53 res_main_v0
  rw [gather_rows_at _ _ _ (toInt_v52 V0) startRow_le]
  pointwise
  congr 2 <;> apply Fin.ext <;> simp only [startRow] <;> omega

theorem v95_apply : a95 V0 (ix6 (0 : Fin 1) h R (rowIn y) (colIn y) k) = xs V0 (ix2 (keyTok R y) (vFeat h k)) := by
  unfold a95 res_main_v95 res_main_v0
  rw [gather_rows_at _ _ _ (toInt_v94 V0) startRow_le]
  pointwise
  congr 2 <;> apply Fin.ext <;> simp only [startRow] <;> omega

theorem v136_apply : a136 V0 (ix5 (0 : Fin 1) h R p y) = dWeight (xs V0) (gs V0) h R p y :=
  (dots_at (a132 V0) (a95 V0) h R p y).trans (Finset.sum_congr rfl fun k _ => congrArg₂ (· * ·) (v132_apply V0 h R p k) (v95_apply V0 h R y k))

theorem mask_at : a87 V0 (ix6 (0 : Fin 1) h R p (rowIn y) (colIn y)) = if inCols p.val (y.val % 64) then 1#1 else 0#1 :=
  mask_apply V0 h R p (rowIn y) (colIn y)

theorem score_at (s : EReal) (hs : s = Scalar.select (a87 V0 (ix6 (0 : Fin 1) h R p (rowIn y) (colIn y)))
    ((∑ k : Fin 128, a45 V0 (ix5 (0 : Fin 1) h R p k) * a53 V0 (ix6 (0 : Fin 1) h R (rowIn y) (colIn y) k)) * factor + tabAt (ps V0) h R p y) ⊥) :
    s = score (xs V0) (ps V0) h R p y := by
  rw [hs, mask_at, Finset.sum_congr rfl fun k _ => congrArg₂ (· * ·) (v45_apply V0 h R p k) (v53_apply V0 h R y k)]
  unfold score
  by_cases hc : inCols p.val (y.val % 64)
  · rw [if_pos hc, if_pos hc]; rfl
  · rw [if_neg hc, if_neg hc]; rfl

theorem v96_apply : a96 V0 (ix5 (0 : Fin 1) h R p y) = score (xs V0) (ps V0) h R p y := by
  refine score_at V0 h R p y _ (Eq.trans ?_ (scoresOf_at (a45 V0) (a53 V0) (ps V0) (res_main_v58 V0) (res_main_v64 V0) (a87 V0) h R p (rowIn y) (colIn y)
    (v58_apply V0 R (rowIn y)) (v64_apply V0 p (colIn y))))
  show (shapeCast S1x16x128x64x512 (scoresOf (a45 V0) (a53 V0) (ps V0) (res_main_v58 V0) (res_main_v64 V0) (a87 V0)) shapeCasts_S1x16x128x64x8x64_S1x16x128x64x512) (ix5 (0 : Fin 1) h R p y) = _
  generalize scoresOf (a45 V0) (a53 V0) (ps V0) (res_main_v58 V0) (res_main_v64 V0) (a87 V0) = A
  pointwise

theorem v97_apply : a97 V0 (ix4 (0 : Fin 1) h R p) = top (xs V0) (ps V0) h R p :=
  (max_row (a96 V0) h R p).trans (Finset.sup_congr rfl fun y _ => v96_apply V0 h R p y)

theorem v117_apply : a117 V0 (ix5 (0 : Fin 1) h R p y) = ex (xs V0) (ps V0) h R p y :=
  (exp_at (a96 V0) (a97 V0) h R p y).trans (by rw [v96_apply, v97_apply]; rfl)

theorem v119_apply : a119 V0 (ix5 (0 : Fin 1) h R p (0 : Fin 1)) = tot (xs V0) (ps V0) h R p :=
  (sum_row (a117 V0) h R p).trans (Finset.sum_congr rfl fun y _ => v117_apply V0 h R p y)

theorem v125_apply : a125 V0 (ix6 (0 : Fin 1) h R p (rowIn y) (colIn y)) = Ideal.div (ex (xs V0) (ps V0) h R p y) (tot (xs V0) (ps V0) h R p) :=
  (ratio_at (a117 V0) (a119 V0) h R p y).trans (by rw [v117_apply, v119_apply])

theorem v156_apply : a156 V0 (ix6 (0 : Fin 1) h R p (rowIn y) (colIn y)) = dScoreRef (xs V0) (ps V0) (gs V0) h R p y := by
  refine (dScore_at (a117 V0) (a136 V0) (a119 V0) (a87 V0) h R p y).trans ?_
  rw [rest_at, mask_at, v136_apply, v119_apply, v117_apply,
    Finset.sum_congr rfl fun y' _ => congrArg₂ (· * ·) (congrArg₂ (· * ·) (v136_apply V0 h R p y') rfl) (v117_apply V0 h R p y')]
  unfold dScoreRef
  by_cases hc : inCols p.val (y.val % 64)
  · rw [if_pos hc, if_pos hc]; rfl
  · rw [if_neg hc, if_neg hc]; rfl

/-! ## The three results -/

/-- The gradient of the queries, -/
theorem refQ : (truncf .bf16 (shapeCast S8192x2048 (transpose S1x8192x16x128 [0, 2, 1, 3] (shapeCast S1x16x8192x128 (Host.dotGeneral (φ₁ := .f32) (φ₂ := .f32) dot_S1x16x128x64x8x64_S1x16x128x8x64x128_S1x16x128x64x128_45_34_3_5_012_012 none (a156 V0) (a53 V0)) shapeCasts_S1x16x128x64x128_S1x16x8192x128) transposes_S1x16x8192x128_S1x8192x16x128_0_2_1_3) shapeCasts_S1x8192x16x128_S8192x2048) bitsLt_bf16_f32 : FVec Ideal S8192x2048 .bf16)
    = refGradQ (xs V0) (ps V0) (gs V0) := by
  funext i
  obtain ⟨T, f, rfl⟩ : ∃ (T : Fin 8192) (f : Fin 2048), i = ix2 T f := ⟨i 0, i 1, eq_ix2 i⟩
  refine (query_at (a156 V0) (a53 V0) T f).trans ((sum_keys _).trans ?_)
  exact Finset.sum_congr rfl fun y _ => congrArg₂ (· * ·) (v156_apply V0 (headAt f) (rowAt T) (colOf T) y) (v53_apply V0 (headAt f) (rowAt T) y (partAt f))

/-- A sum over the rows whose eight rows hold a token's row is one over the rows whose keys hold the token. -/
theorem rows_window (G : Fin 128 → Fin 8 → Fin 64 → EReal) (T : Fin 8192) :
    (∑ R : Fin 128, if hR : startRow R ≤ (rowAt T).val ∧ (rowAt T).val < startRow R + 8 then G R (⟨(rowAt T).val - startRow R, by omega⟩ : Fin 8) (colOf T) else 0)
      = windowSum 512 (fun R : Fin 128 => 64 * startRow R) Finset.univ (fun R y => G R (rowIn y) (colIn y)) T.val := by
  unfold windowSum
  refine Finset.sum_congr rfl fun R _ => ?_
  by_cases hR : startRow R ≤ (rowAt T).val ∧ (rowAt T).val < startRow R + 8
  · have h1 : startRow R ≤ T.val / 64 := hR.1
    have h2 : T.val / 64 < startRow R + 8 := hR.2
    have hR' : 64 * startRow R ≤ T.val ∧ T.val < 64 * startRow R + 512 := by constructor <;> omega
    rw [dif_pos hR, dif_pos hR']
    exact congrArg₂ (G R) (Fin.ext (by show T.val / 64 - startRow R = (T.val - 64 * startRow R) / 64; omega)) (Fin.ext (by show T.val % 64 = (T.val - 64 * startRow R) % 64; omega))
  · have hR' : ¬ (64 * startRow R ≤ T.val ∧ T.val < 64 * startRow R + 512) := by
      intro hn
      exact hR ⟨by show startRow R ≤ T.val / 64; omega, by show T.val / 64 < startRow R + 8; omega⟩
    rw [dif_neg hR, dif_neg hR']

/-- of the keys -/
theorem refK : (shapeCast S8192x2048 (transpose S1x8192x16x128 [0, 2, 1, 3] (shapeCast S1x16x8192x128 (Host.scatterAdd scatter_S1x16x128x64x128_S128x8x1_S1x16x128x8x64x128_0145_2_2_2 (broadcastInDim S1x16x128x64x128 ![] bcast_S_S1x16x128x64x128 (constant (F := Ideal) S_ .f32 0x00000000#32)) (res_main_v52 V0) (Host.dotGeneral (φ₁ := .f32) (φ₂ := .f32) dot_S1x16x128x64x8x64_S1x16x128x64x128_S1x16x128x8x64x128_3_3_45_4_012_012 none (a156 V0) (a45 V0))) shapeCasts_S1x16x128x64x128_S1x16x8192x128) transposes_S1x16x8192x128_S1x8192x16x128_0_2_1_3) shapeCasts_S1x8192x16x128_S8192x2048 : FVec Ideal S8192x2048 .f32)
    = refGradK (xs V0) (ps V0) (gs V0) := by
  funext i
  obtain ⟨T, f, rfl⟩ : ∃ (T : Fin 8192) (f : Fin 2048), i = ix2 T f := ⟨i 0, i 1, eq_ix2 i⟩
  refine (scattered_at _ _ T f).trans ((scatter_at _ _ _ (toInt_v52 V0) startRow_le (headAt f) (rowAt T) (colOf T) (partAt f)).trans ?_)
  refine (rows_window (fun R j b => (Host.dotGeneral (φ₁ := .f32) (φ₂ := .f32) dot_S1x16x128x64x8x64_S1x16x128x64x128_S1x16x128x8x64x128_3_3_45_4_012_012 none (a156 V0) (a45 V0) : FVec Ideal S1x16x128x8x64x128 .f32) (ix6 (0 : Fin 1) (headAt f) R j b (partAt f))) T).trans ?_
  unfold refGradK
  congr 1
  funext R y
  refine (dKey_at (a156 V0) (a45 V0) (headAt f) R (rowIn y) (colIn y) (partAt f)).trans ?_
  exact Finset.sum_congr rfl fun p _ => congrArg₂ (· * ·) (v156_apply V0 (headAt f) R p y) (v45_apply V0 (headAt f) R p (partAt f))

/-- and of the values. -/
theorem refV : (shapeCast S8192x2048 (transpose S1x8192x16x128 [0, 2, 1, 3] (shapeCast S1x16x8192x128 (Host.scatterAdd scatter_S1x16x128x64x128_S128x8x1_S1x16x128x8x64x128_0145_2_2_2 (broadcastInDim S1x16x128x64x128 ![] bcast_S_S1x16x128x64x128 (constant (F := Ideal) S_ .f32 0x00000000#32)) (res_main_v94 V0) (transpose S1x16x128x8x64x128 [0, 1, 2, 4, 5, 3] (Host.dotGeneral (φ₁ := .f32) (φ₂ := .f32) dot_S1x16x128x64x128_S1x16x128x64x8x64_S1x16x128x128x8x64_3_3_4_45_012_012 none (a132 V0) (a125 V0)) transposes_S1x16x128x128x8x64_S1x16x128x8x64x128_0_1_2_4_5_3)) shapeCasts_S1x16x128x64x128_S1x16x8192x128) transposes_S1x16x8192x128_S1x8192x16x128_0_2_1_3) shapeCasts_S1x8192x16x128_S8192x2048 : FVec Ideal S8192x2048 .f32)
    = refGradV (xs V0) (ps V0) (gs V0) := by
  funext i
  obtain ⟨T, f, rfl⟩ : ∃ (T : Fin 8192) (f : Fin 2048), i = ix2 T f := ⟨i 0, i 1, eq_ix2 i⟩
  refine (scattered_at _ _ T f).trans ((scatter_at _ _ _ (toInt_v94 V0) startRow_le (headAt f) (rowAt T) (colOf T) (partAt f)).trans ?_)
  refine (rows_window (fun R j b => (transpose S1x16x128x8x64x128 [0, 1, 2, 4, 5, 3] (Host.dotGeneral (φ₁ := .f32) (φ₂ := .f32) dot_S1x16x128x64x128_S1x16x128x64x8x64_S1x16x128x128x8x64_3_3_4_45_012_012 none (a132 V0) (a125 V0)) transposes_S1x16x128x128x8x64_S1x16x128x8x64x128_0_1_2_4_5_3 : FVec Ideal S1x16x128x8x64x128 .f32) (ix6 (0 : Fin 1) (headAt f) R j b (partAt f))) T).trans ?_
  unfold refGradV
  congr 1
  funext R y
  refine (dValue_at (a125 V0) (a132 V0) (headAt f) R (rowIn y) (colIn y) (partAt f)).trans ?_
  exact Finset.sum_congr rfl fun p _ => congrArg₂ (· * ·) (v132_apply V0 (headAt f) R p (partAt f)) (v125_apply V0 (headAt f) R p y)

end Cert.ReferenceIdeal.NaBwd

end

end
-- ==== Proof.NaRefRun.lean ====
/- The run of the reference: its three results are the gradients. -/
module

public import proofs.«01_k».proof.Proof.NaRef

@[expose] public section

set_option maxRecDepth 16384

noncomputable section

namespace Cert.ReferenceIdeal.NaBwd

open Cert.ReferenceIdeal Cert.ReferenceIdeal.Gen
open Idealize.ShloMosaic Idealize.ShloMosaic.TcCoe Idealize.ShloMosaic.StableHlo Idealize.SL.Sem
open Cert.KernelIdeal.NaBwd (refGradQ refGradK refGradV)

/-- Every run of the reference ends with the three gradients. -/
theorem gradients (m : (ℓ : Loc nD τ sig) → Buf (Elt Ideal) ℓ) (ρ : Dev nD → PrngReg) (X : Dev nD → FVec Ideal S8192x6144 .bf16)
    (P : Dev nD → FVec Ideal S16x15x31 .f32) (D : Dev nD → FVec Ideal S8192x2048 .f32)
    (hX : ∀ c : Dev nD, m ((c.tc : Thread nD τ).loc main_arg0) = X c) (hP : ∀ c : Dev nD, m ((c.tc : Thread nD τ).loc main_arg1) = P c)
    (hD : ∀ c : Dev nD, m ((c.tc : Thread nD τ).loc main_arg2) = D c) :
    θ_run defs (onTc (τ := τ) (main (F := Ideal))) ⟨m, fun _ => 0, ρ⟩ (fun r => ∀ c : Dev nD,
      r.2.mem ((c.tc : Thread nD τ).loc main_v169) = refGradQ (X c) (P c) (D c)
      ∧ r.2.mem ((c.tc : Thread nD τ).loc main_v166) = refGradK (X c) (P c) (D c)
      ∧ r.2.mem ((c.tc : Thread nD τ).loc main_v164) = refGradV (X c) (P c) (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  obtain rfl : (fun c : Dev nD => m ((c.tc : Thread nD τ).loc main_arg0)) = X := funext hX
  obtain rfl : (fun c : Dev nD => m ((c.tc : Thread nD τ).loc main_arg1)) = P := funext hP
  obtain rfl : (fun c : Dev nD => m ((c.tc : Thread nD τ).loc main_arg2)) = D := funext hD
  exact (θ_run defs _ _).mono (fun _ h c =>
    ⟨(h c).1.trans (refQ (launchContents m c)), (h c).2.1.trans (refK (launchContents m c)), (h c).2.2.1.trans (refV (launchContents m c)),
      (h c).2.2.2⟩) (Cert.ReferenceIdeal.Value.run m ρ)

end Cert.ReferenceIdeal.NaBwd

end

end
-- ==== Proof.NaClaim.lean ====
/- What is claimed of the backward pass of the neighbourhood attention, from the runs and the value modules. -/
module

public import proofs.«01_k».proof.Defs
public import proofs.«01_k».proof.Proof.NaFinite
public import proofs.«01_k».proof.Proof.NaEntry
public import proofs.«01_k».proof.Proof.NaHostValue
public import proofs.«01_k».proof.Proof.NaReal
public import proofs.«01_k».proof.Proof.NaFinal
public import proofs.«01_k».proof.Proof.NaRefRun
public import Idealize.ShloMosaic.Lib.Claim

@[expose] public section

set_option maxRecDepth 16384

noncomputable section

namespace Cert.KernelIdeal.NaBwd

open Cert.KernelIdeal Cert.KernelIdeal.Gen
open Idealize.ShloMosaic Idealize.ShloMosaic.TcCoe Idealize.SL.Sem

variable (m : (ℓ : Loc nD τ sig) → Buf (Elt Ideal) ℓ) (c : Dev nD)

/-- What the host part hands the kernel: the logarithm of each row's total, the weighted values and the bias. -/
theorem handed_on (X : FVec Ideal S8192x6144 .bf16) (P : FVec Ideal S16x15x31 .f32)
    (hX : m ((c.tc : Thread nD τ).loc main_arg0) = X) (hP : m ((c.tc : Thread nD τ).loc main_arg1) = P) :
    Handed X P (V m c main_v117) (V m c main_v115) (V m c main_v176) where
  lse h R p k := by rw [entry_lse m c X P hX hP]; exact hostLse_of X P h R p k
  out h R p k := by rw [entry_out m c X P hX hP]; exact hostOut_of X P h R p k
  bias h R p y := by rw [entry_bias m c P hP]; exact hostBias_at P h R p y

section Results

variable (X : FVec Ideal S8192x6144 .bf16) (P : FVec Ideal S16x15x31 .f32) (D : FVec Ideal S8192x2048 .f32)
    (hX : m ((c.tc : Thread nD τ).loc main_arg0) = X) (hP : m ((c.tc : Thread nD τ).loc main_arg1) = P)
    (hD : m ((c.tc : Thread nD τ).loc main_arg2) = D)
    (hx : ∀ i, ∃ r : ℝ, X i = (r : EReal)) (hp : ∀ i, ∃ r : ℝ, P i = (r : EReal)) (hd : ∀ i, ∃ r : ℝ, D i = (r : EReal))
include hX hP hD hx hp hd

/-- The kernel leaves the gradient of the queries, -/
theorem leaves_dq : (dat m 0 c).arrAt 7 cfg0.N = refGradQ X P D := by
  choose x hx using hx
  choose t hp using hp
  choose d hd using hd
  rw [final_dq m c, (V_main_arg0 m c).trans hX, (V_main_arg2 m c).trans hD]
  exact gradQ_same hx hp hd (handed_on m c X P hX hP)

/-- of the keys -/
theorem leaves_dk : (dat m 0 c).arrAt 8 cfg0.N = refGradK X P D := by
  choose x hx using hx
  choose t hp using hp
  choose d hd using hd
  rw [final_dk m c, (V_main_arg0 m c).trans hX, (V_main_arg2 m c).trans hD]
  exact gradK_same hx hp hd (handed_on m c X P hX hP)

/-- and of the values. -/
theorem leaves_dv : (dat m 0 c).arrAt 9 cfg0.N = refGradV X P D := by
  choose x hx using hx
  choose t hp using hp
  choose d hd using hd
  rw [final_dv m c, (V_main_arg0 m c).trans hX, (V_main_arg2 m c).trans hD]
  exact gradV_same hx hp hd (handed_on m c X P hX hP)

end Results

/-- Every run of the kernel ends with the three gradients. -/
theorem gradients (ρ : Dev nD → PrngReg) (X : Dev nD → FVec Ideal S8192x6144 .bf16) (P : Dev nD → FVec Ideal S16x15x31 .f32)
    (D : Dev nD → FVec Ideal S8192x2048 .f32)
    (hX : ∀ c : Dev nD, m ((c.tc : Thread nD τ).loc main_arg0) = X c) (hP : ∀ c : Dev nD, m ((c.tc : Thread nD τ).loc main_arg1) = P c)
    (hD : ∀ c : Dev nD, m ((c.tc : Thread nD τ).loc main_arg2) = D c)
    (hr : ∀ c, (∀ i, ∃ r : ℝ, X c i = (r : EReal)) ∧ (∀ i, ∃ r : ℝ, P c i = (r : EReal)) ∧ (∀ i, ∃ r : ℝ, D c i = (r : EReal))) :
    θ_run defs (onTc (τ := τ) (main (F := Ideal))) ⟨m, fun _ => 0, ρ⟩ (fun r => ∀ c : Dev nD,
      r.2.mem ((c.tc : Thread nD τ).loc main_v177_0) = refGradQ (X c) (P c) (D c)
      ∧ r.2.mem ((c.tc : Thread nD τ).loc main_v177_1) = refGradK (X c) (P c) (D c)
      ∧ r.2.mem ((c.tc : Thread nD τ).loc main_v177_2) = refGradV (X c) (P c) (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1.out_eq c 7).trans (leaves_dq m c (X c) (P c) (D c) (hX c) (hP c) (hD c) (hr c).1 (hr c).2.1 (hr c).2.2),
      (h.1.out_eq c 8).trans (leaves_dk m c (X c) (P c) (D c) (hX c) (hP c) (hD c) (hr c).1 (hr c).2.1 (hr c).2.2),
      (h.1.out_eq c 9).trans (leaves_dv m c (X c) (P c) (D c) (hX c) (hP c) (hD c) (hr c).1 (hr c).2.1 (hr c).2.2),
      h.2.1 c⟩)
    (θ_run_and (run m ρ) (frame m ρ))

end Cert.KernelIdeal.NaBwd

namespace Cert.Proof

open Idealize.ShloMosaic Idealize.SL.Sem

/-- The reference terminates with its arguments unchanged and every counter at zero. -/
theorem frame_reference : Cert.quiescent_ReferenceIdeal (hReferenceIdeal := Cert.ReferenceIdeal.Gen.facts) :=
  fun m g _ => (θ_run _ _ _).mono (fun _ h => ⟨fun c => (h c).2.2.2, funext fun x => nomatch x⟩) (Cert.ReferenceIdeal.Value.run m g)

/-- Kernel and reference compute the same three arrays where every entry of the arguments is a real number. -/
theorem algebraicNa : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  haveI := Cert.Pre_finite.facts
  exact ⟨_, _, _,
    Cert.KernelIdeal.NaBwd.gradients m g _ _ _ (fun _ => rfl) (fun _ => rfl) (fun _ => rfl) (fun c => Cert.Pre_finite.reals _ _ _ (hpre c)),
    Cert.ReferenceIdeal.NaBwd.gradients m' g' _ _ _ (fun c => (hagree c).1) (fun c => (hagree c).2.1) (fun c => (hagree c).2.2)⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelAct.Frame
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.KernelQkv.Frame
public import proofs.«01_k».proof.Proof.Gen.KernelQkvIdeal.Value
public import proofs.«01_k».proof.Proof.Gen.ReferenceQkvIdeal.Run
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.KernelQkvDx.Frame
public import proofs.«01_k».proof.Proof.Gen.KernelQkvDxIdeal.Value
public import proofs.«01_k».proof.Proof.Gen.ReferenceQkvDxIdeal.Run
public import proofs.«01_k».proof.Proof.Gen.KernelInDx.Frame
public import proofs.«01_k».proof.Proof.Gen.KernelInDxIdeal.Value
public import proofs.«01_k».proof.Proof.Gen.ReferenceInDxIdeal.Run
public import proofs.«01_k».proof.Proof.Gen.KernelOutDx.Frame
public import proofs.«01_k».proof.Proof.Gen.KernelOutDxIdeal.Value
public import proofs.«01_k».proof.Proof.Gen.ReferenceOutDxIdeal.Run
public import proofs.«01_k».proof.Proof.Gen.KernelQkvDw.Frame
public import proofs.«01_k».proof.Proof.Gen.KernelQkvDwIdeal.Value
public import proofs.«01_k».proof.Proof.Gen.ReferenceQkvDwIdeal.Run
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.Gen.KernelGate.Frame
public import proofs.«01_k».proof.Proof.Gen.KernelGateIdeal.Value
public import proofs.«01_k».proof.Proof.Gen.ReferenceGateIdeal.Run
public import proofs.«01_k».proof.Proof.Gen.KernelGlu.Frame
public import proofs.«01_k».proof.Proof.Gen.KernelGluIdeal.Value
public import proofs.«01_k».proof.Proof.Gen.ReferenceGluIdeal.Run
public import proofs.«01_k».proof.Proof.Gen.KernelGluDx.Frame
public import proofs.«01_k».proof.Proof.Gen.KernelGluDxIdeal.Value
public import proofs.«01_k».proof.Proof.Gen.ReferenceGluDxIdeal.Run
public import proofs.«01_k».proof.Proof.Gen.KernelGluDw.Frame
public import proofs.«01_k».proof.Proof.Gen.KernelGluDwIdeal.Value
public import proofs.«01_k».proof.Proof.Gen.ReferenceGluDwIdeal.Run
public import proofs.«01_k».proof.Proof.Gen.KernelAct0.Frame
public import proofs.«01_k».proof.Proof.Gen.KernelAct0Ideal.Value
public import proofs.«01_k».proof.Proof.Gen.ReferenceAct0Ideal.Run
public import proofs.«01_k».proof.Proof.Gen.KernelAct1.Frame
public import proofs.«01_k».proof.Proof.Gen.KernelAct1Ideal.Value
public import proofs.«01_k».proof.Proof.Gen.ReferenceAct1Ideal.Run
public import proofs.«01_k».proof.Proof.Gen.KernelAct2.Frame
public import proofs.«01_k».proof.Proof.Gen.KernelAct2Ideal.Value
public import proofs.«01_k».proof.Proof.Gen.ReferenceAct2Ideal.Run
public import proofs.«01_k».proof.Proof.Gen.KernelDxn0.Frame
public import proofs.«01_k».proof.Proof.Gen.KernelDxn0Ideal.Value
public import proofs.«01_k».proof.Proof.Gen.ReferenceDxn0Ideal.Run
public import proofs.«01_k».proof.Proof.Gen.KernelDxn1.Frame
public import proofs.«01_k».proof.Proof.Gen.KernelDxn1Ideal.Value
public import proofs.«01_k».proof.Proof.Gen.ReferenceDxn1Ideal.Run
public import proofs.«01_k».proof.Proof.Gen.KernelDxn2.Frame
public import proofs.«01_k».proof.Proof.Gen.KernelDxn2Ideal.Value
public import proofs.«01_k».proof.Proof.Gen.ReferenceDxn2Ideal.Run
public import proofs.«01_k».proof.Proof.Gen.KernelQkv0.Frame
public import proofs.«01_k».proof.Proof.Gen.KernelQkv0Ideal.Value
public import proofs.«01_k».proof.Proof.Gen.ReferenceQkv0Ideal.Run
public import proofs.«01_k».proof.Proof.Gen.KernelOut0.Frame
public import proofs.«01_k».proof.Proof.Gen.KernelOut0Ideal.Value
public import proofs.«01_k».proof.Proof.Gen.ReferenceOut0Ideal.Run
public import proofs.«01_k».proof.Proof.Gen.KernelQkvDx0.Frame
public import proofs.«01_k».proof.Proof.Gen.KernelQkvDx0Ideal.Value
public import proofs.«01_k».proof.Proof.Gen.ReferenceQkvDx0Ideal.Run
public import proofs.«01_k».proof.Proof.Gen.KernelInDx0.Frame
public import proofs.«01_k».proof.Proof.Gen.KernelInDx0Ideal.Value
public import proofs.«01_k».proof.Proof.Gen.ReferenceInDx0Ideal.Run
public import proofs.«01_k».proof.Proof.Gen.KernelOutDx0.Frame
public import proofs.«01_k».proof.Proof.Gen.KernelOutDx0Ideal.Value
public import proofs.«01_k».proof.Proof.Gen.ReferenceOutDx0Ideal.Run
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Gen.KernelAdamOut.Frame
public import proofs.«01_k».proof.Proof.Gen.KernelAdamOutIdeal.Value
public import proofs.«01_k».proof.Proof.Gen.ReferenceAdamOutIdeal.Run
public import proofs.«01_k».proof.Proof.Gen.KernelAdamGlu.Frame
public import proofs.«01_k».proof.Proof.Gen.KernelAdamGluIdeal.Value
public import proofs.«01_k».proof.Proof.Gen.ReferenceAdamGluIdeal.Run
public import proofs.«01_k».proof.Proof.Gen.KernelAdamQkv.Frame
public import proofs.«01_k».proof.Proof.Gen.KernelAdamQkvIdeal.Value
public import proofs.«01_k».proof.Proof.Gen.ReferenceAdamQkvIdeal.Run
public import proofs.«01_k».proof.Proof.Gen.KernelAdamMlp.Frame
public import proofs.«01_k».proof.Proof.Gen.KernelAdamMlpIdeal.Value
public import proofs.«01_k».proof.Proof.Gen.ReferenceAdamMlpIdeal.Run
public import proofs.«01_k».proof.Proof.Gen.KernelAdamSmall.Frame
public import proofs.«01_k».proof.Proof.Gen.KernelAdamSmallIdeal.Value
public import proofs.«01_k».proof.Proof.Gen.ReferenceAdamSmallIdeal.Run
public import proofs.«01_k».proof.Proof.ActValue
public import proofs.«01_k».proof.Proof.UpValue
public import proofs.«01_k».proof.Proof.DownValue
public import proofs.«01_k».proof.Proof.QkvValue
public import proofs.«01_k».proof.Proof.InValue
public import proofs.«01_k».proof.Proof.OutValue
public import proofs.«01_k».proof.Proof.QkvDxValue
public import proofs.«01_k».proof.Proof.InDxValue
public import proofs.«01_k».proof.Proof.OutDxValue
public import proofs.«01_k».proof.Proof.QkvDwValue
public import proofs.«01_k».proof.Proof.InDwValue
public import proofs.«01_k».proof.Proof.OutDwValue
public import proofs.«01_k».proof.Proof.GateValue
public import proofs.«01_k».proof.Proof.GluValue
public import proofs.«01_k».proof.Proof.GluDxValue
public import proofs.«01_k».proof.Proof.GluDwValue
public import proofs.«01_k».proof.Proof.Act0Value
public import proofs.«01_k».proof.Proof.Act1Value
public import proofs.«01_k».proof.Proof.Act2Value
public import proofs.«01_k».proof.Proof.Dxn0Value
public import proofs.«01_k».proof.Proof.Dxn1Value
public import proofs.«01_k».proof.Proof.Dxn2Value
public import proofs.«01_k».proof.Proof.Qkv0Value
public import proofs.«01_k».proof.Proof.Out0Value
public import proofs.«01_k».proof.Proof.QkvDx0Value
public import proofs.«01_k».proof.Proof.InDx0Value
public import proofs.«01_k».proof.Proof.OutDx0Value
public import proofs.«01_k».proof.Proof.Gen.KernelActIdeal.Value
public import proofs.«01_k».proof.Proof.Gen.KernelDw2.Frame
public import proofs.«01_k».proof.Proof.Dw2Value
public import proofs.«01_k».proof.Proof.Gen.KernelDw2Ideal.Value
public import proofs.«01_k».proof.Proof.Gen.KernelDw1.Frame
public import proofs.«01_k».proof.Proof.Dw1Value
public import proofs.«01_k».proof.Proof.Gen.KernelDw1Ideal.Value
public import proofs.«01_k».proof.Proof.Gen.KernelDxn.Frame
public import proofs.«01_k».proof.Proof.DxnValue
public import proofs.«01_k».proof.Proof.Gen.KernelDxnIdeal.Value
public import proofs.«01_k».proof.Proof.Gen.ReferenceActIdeal.Run
public import proofs.«01_k».proof.Proof.Gen.ReferenceDw2Ideal.Run
public import proofs.«01_k».proof.Proof.Gen.ReferenceDw1Ideal.Run
public import proofs.«01_k».proof.Proof.Gen.ReferenceDxnIdeal.Run
public import proofs.«01_k».proof.Proof.MlpClaims
public import proofs.«01_k».proof.Proof.ProductClaims
public import proofs.«01_k».proof.Proof.GateClaims
public import proofs.«01_k».proof.Proof.LayerClaims
public import proofs.«01_k».proof.Proof.OptimiserClaims
public import proofs.«01_k».proof.Proof.NaClaim
public import proofs.«01_k».proof.Proof.KFrame
public import proofs.«01_k».proof.Proof.NaFrame
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every claim, in the order of `Cert.Claim`. -/
theorem claim : Cert.Claim :=
  ⟨Cert.Kernel.Gen.facts, Cert.KernelIdeal.Gen.facts, Cert.ReferenceIdeal.Gen.facts,
  Cert.KernelAct.Gen.facts, Cert.KernelActIdeal.Gen.facts, Cert.ReferenceActIdeal.Gen.facts,
  Cert.KernelDw2.Gen.facts, Cert.KernelDw2Ideal.Gen.facts, Cert.ReferenceDw2Ideal.Gen.facts,
  Cert.KernelDw1.Gen.facts, Cert.KernelDw1Ideal.Gen.facts, Cert.ReferenceDw1Ideal.Gen.facts,
  Cert.KernelDxn.Gen.facts, Cert.KernelDxnIdeal.Gen.facts, Cert.ReferenceDxnIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelQkv.Gen.facts, Cert.KernelQkvIdeal.Gen.facts, Cert.ReferenceQkvIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelQkvDx.Gen.facts, Cert.KernelQkvDxIdeal.Gen.facts, Cert.ReferenceQkvDxIdeal.Gen.facts,
  Cert.KernelInDx.Gen.facts, Cert.KernelInDxIdeal.Gen.facts, Cert.ReferenceInDxIdeal.Gen.facts,
  Cert.KernelOutDx.Gen.facts, Cert.KernelOutDxIdeal.Gen.facts, Cert.ReferenceOutDxIdeal.Gen.facts,
  Cert.KernelQkvDw.Gen.facts, Cert.KernelQkvDwIdeal.Gen.facts, Cert.ReferenceQkvDwIdeal.Gen.facts,
  Cert.KernelInDw.Gen.facts, Cert.KernelInDwIdeal.Gen.facts, Cert.ReferenceInDwIdeal.Gen.facts,
  Cert.KernelOutDw.Gen.facts, Cert.KernelOutDwIdeal.Gen.facts, Cert.ReferenceOutDwIdeal.Gen.facts,
  Cert.KernelGate.Gen.facts, Cert.KernelGateIdeal.Gen.facts, Cert.ReferenceGateIdeal.Gen.facts,
  Cert.KernelGlu.Gen.facts, Cert.KernelGluIdeal.Gen.facts, Cert.ReferenceGluIdeal.Gen.facts,
  Cert.KernelGluDx.Gen.facts, Cert.KernelGluDxIdeal.Gen.facts, Cert.ReferenceGluDxIdeal.Gen.facts,
  Cert.KernelGluDw.Gen.facts, Cert.KernelGluDwIdeal.Gen.facts, Cert.ReferenceGluDwIdeal.Gen.facts,
  Cert.KernelAct0.Gen.facts, Cert.KernelAct0Ideal.Gen.facts, Cert.ReferenceAct0Ideal.Gen.facts,
  Cert.KernelAct1.Gen.facts, Cert.KernelAct1Ideal.Gen.facts, Cert.ReferenceAct1Ideal.Gen.facts,
  Cert.KernelAct2.Gen.facts, Cert.KernelAct2Ideal.Gen.facts, Cert.ReferenceAct2Ideal.Gen.facts,
  Cert.KernelDxn0.Gen.facts, Cert.KernelDxn0Ideal.Gen.facts, Cert.ReferenceDxn0Ideal.Gen.facts,
  Cert.KernelDxn1.Gen.facts, Cert.KernelDxn1Ideal.Gen.facts, Cert.ReferenceDxn1Ideal.Gen.facts,
  Cert.KernelDxn2.Gen.facts, Cert.KernelDxn2Ideal.Gen.facts, Cert.ReferenceDxn2Ideal.Gen.facts,
  Cert.KernelQkv0.Gen.facts, Cert.KernelQkv0Ideal.Gen.facts, Cert.ReferenceQkv0Ideal.Gen.facts,
  Cert.KernelOut0.Gen.facts, Cert.KernelOut0Ideal.Gen.facts, Cert.ReferenceOut0Ideal.Gen.facts,
  Cert.KernelQkvDx0.Gen.facts, Cert.KernelQkvDx0Ideal.Gen.facts, Cert.ReferenceQkvDx0Ideal.Gen.facts,
  Cert.KernelInDx0.Gen.facts, Cert.KernelInDx0Ideal.Gen.facts, Cert.ReferenceInDx0Ideal.Gen.facts,
  Cert.KernelOutDx0.Gen.facts, Cert.KernelOutDx0Ideal.Gen.facts, Cert.ReferenceOutDx0Ideal.Gen.facts,
  Cert.KernelAdamIn.Gen.facts, Cert.KernelAdamInIdeal.Gen.facts, Cert.ReferenceAdamInIdeal.Gen.facts,
  Cert.KernelAdamOut.Gen.facts, Cert.KernelAdamOutIdeal.Gen.facts, Cert.ReferenceAdamOutIdeal.Gen.facts,
  Cert.KernelAdamGlu.Gen.facts, Cert.KernelAdamGluIdeal.Gen.facts, Cert.ReferenceAdamGluIdeal.Gen.facts,
  Cert.KernelAdamQkv.Gen.facts, Cert.KernelAdamQkvIdeal.Gen.facts, Cert.ReferenceAdamQkvIdeal.Gen.facts,
  Cert.KernelAdamMlp.Gen.facts, Cert.KernelAdamMlpIdeal.Gen.facts, Cert.ReferenceAdamMlpIdeal.Gen.facts,
  Cert.KernelAdamSmall.Gen.facts, Cert.KernelAdamSmallIdeal.Gen.facts, Cert.ReferenceAdamSmallIdeal.Gen.facts,
  Cert.Pre_finite.facts,
  fun m ρ _ => Cert.Kernel.NaBwd.frame m ρ, fun m ρ _ => Cert.KernelIdeal.NaBwd.frame m ρ, fun m ρ _ => Cert.KernelIdeal.NaBwd.frame m ρ,
  frame_reference, fun m ρ _ => frame_reference m ρ trivial,
  fun m ρ _ => Cert.KernelAct.Gen.frame m ρ, fun m ρ _ => Cert.KernelActIdeal.Gen.frame m ρ, frame_referenceAct,
  fun m ρ _ => Cert.KernelDw2.Gen.frame m ρ, fun m ρ _ => Cert.KernelDw2Ideal.Gen.frame m ρ, frame_referenceDw2,
  fun m ρ _ => Cert.KernelDw1.Gen.frame m ρ, fun m ρ _ => Cert.KernelDw1Ideal.Gen.frame m ρ, frame_referenceDw1,
  fun m ρ _ => Cert.KernelDxn.Gen.frame m ρ, fun m ρ _ => Cert.KernelDxnIdeal.Gen.frame m ρ, frame_referenceDxn,
  fun m ρ _ => Cert.KernelUp.Gen.frame m ρ, fun m ρ _ => Cert.KernelUpIdeal.Gen.frame m ρ, frame_referenceUp,
  fun m ρ _ => Cert.KernelDown.Gen.frame m ρ, fun m ρ _ => Cert.KernelDownIdeal.Gen.frame m ρ, frame_referenceDown,
  fun m ρ _ => Cert.KernelQkv.Gen.frame m ρ, fun m ρ _ => Cert.KernelQkvIdeal.Gen.frame m ρ, frame_referenceQkv,
  fun m ρ _ => Cert.KernelIn.Gen.frame m ρ, fun m ρ _ => Cert.KernelInIdeal.Gen.frame m ρ, frame_referenceIn,
  fun m ρ _ => Cert.KernelOut.Gen.frame m ρ, fun m ρ _ => Cert.KernelOutIdeal.Gen.frame m ρ, frame_referenceOut,
  fun m ρ _ => Cert.KernelQkvDx.Gen.frame m ρ, fun m ρ _ => Cert.KernelQkvDxIdeal.Gen.frame m ρ, frame_referenceQkvDx,
  fun m ρ _ => Cert.KernelInDx.Gen.frame m ρ, fun m ρ _ => Cert.KernelInDxIdeal.Gen.frame m ρ, frame_referenceInDx,
  fun m ρ _ => Cert.KernelOutDx.Gen.frame m ρ, fun m ρ _ => Cert.KernelOutDxIdeal.Gen.frame m ρ, frame_referenceOutDx,
  fun m ρ _ => Cert.KernelQkvDw.Gen.frame m ρ, fun m ρ _ => Cert.KernelQkvDwIdeal.Gen.frame m ρ, frame_referenceQkvDw,
  fun m ρ _ => Cert.KernelInDw.Gen.frame m ρ, fun m ρ _ => Cert.KernelInDwIdeal.Gen.frame m ρ, frame_referenceInDw,
  fun m ρ _ => Cert.KernelOutDw.Gen.frame m ρ, fun m ρ _ => Cert.KernelOutDwIdeal.Gen.frame m ρ, frame_referenceOutDw,
  fun m ρ _ => Cert.KernelGate.Gen.frame m ρ, fun m ρ _ => Cert.KernelGateIdeal.Gen.frame m ρ, frame_referenceGate,
  fun m ρ _ => Cert.KernelGlu.Gen.frame m ρ, fun m ρ _ => Cert.KernelGluIdeal.Gen.frame m ρ, frame_referenceGlu,
  fun m ρ _ => Cert.KernelGluDx.Gen.frame m ρ, fun m ρ _ => Cert.KernelGluDxIdeal.Gen.frame m ρ, frame_referenceGluDx,
  fun m ρ _ => Cert.KernelGluDw.Gen.frame m ρ, fun m ρ _ => Cert.KernelGluDwIdeal.Gen.frame m ρ, frame_referenceGluDw,
  fun m ρ _ => Cert.KernelAct0.Gen.frame m ρ, fun m ρ _ => Cert.KernelAct0Ideal.Gen.frame m ρ, frame_referenceAct0,
  fun m ρ _ => Cert.KernelAct1.Gen.frame m ρ, fun m ρ _ => Cert.KernelAct1Ideal.Gen.frame m ρ, frame_referenceAct1,
  fun m ρ _ => Cert.KernelAct2.Gen.frame m ρ, fun m ρ _ => Cert.KernelAct2Ideal.Gen.frame m ρ, frame_referenceAct2,
  fun m ρ _ => Cert.KernelDxn0.Gen.frame m ρ, fun m ρ _ => Cert.KernelDxn0Ideal.Gen.frame m ρ, frame_referenceDxn0,
  fun m ρ _ => Cert.KernelDxn1.Gen.frame m ρ, fun m ρ _ => Cert.KernelDxn1Ideal.Gen.frame m ρ, frame_referenceDxn1,
  fun m ρ _ => Cert.KernelDxn2.Gen.frame m ρ, fun m ρ _ => Cert.KernelDxn2Ideal.Gen.frame m ρ, frame_referenceDxn2,
  fun m ρ _ => Cert.KernelQkv0.Gen.frame m ρ, fun m ρ _ => Cert.KernelQkv0Ideal.Gen.frame m ρ, frame_referenceQkv0,
  fun m ρ _ => Cert.KernelOut0.Gen.frame m ρ, fun m ρ _ => Cert.KernelOut0Ideal.Gen.frame m ρ, frame_referenceOut0,
  fun m ρ _ => Cert.KernelQkvDx0.Gen.frame m ρ, fun m ρ _ => Cert.KernelQkvDx0Ideal.Gen.frame m ρ, frame_referenceQkvDx0,
  fun m ρ _ => Cert.KernelInDx0.Gen.frame m ρ, fun m ρ _ => Cert.KernelInDx0Ideal.Gen.frame m ρ, frame_referenceInDx0,
  fun m ρ _ => Cert.KernelOutDx0.Gen.frame m ρ, fun m ρ _ => Cert.KernelOutDx0Ideal.Gen.frame m ρ, frame_referenceOutDx0,
  fun m ρ _ => Cert.KernelAdamIn.Gen.frame m ρ, fun m ρ _ => Cert.KernelAdamInIdeal.Gen.frame m ρ, frame_referenceAdamIn,
  fun m ρ _ => Cert.KernelAdamOut.Gen.frame m ρ, fun m ρ _ => Cert.KernelAdamOutIdeal.Gen.frame m ρ, frame_referenceAdamOut,
  fun m ρ _ => Cert.KernelAdamGlu.Gen.frame m ρ, fun m ρ _ => Cert.KernelAdamGluIdeal.Gen.frame m ρ, frame_referenceAdamGlu,
  fun m ρ _ => Cert.KernelAdamQkv.Gen.frame m ρ, fun m ρ _ => Cert.KernelAdamQkvIdeal.Gen.frame m ρ, frame_referenceAdamQkv,
  fun m ρ _ => Cert.KernelAdamMlp.Gen.frame m ρ, fun m ρ _ => Cert.KernelAdamMlpIdeal.Gen.frame m ρ, frame_referenceAdamMlp,
  fun m ρ _ => Cert.KernelAdamSmall.Gen.frame m ρ, fun m ρ _ => Cert.KernelAdamSmallIdeal.Gen.frame m ρ, frame_referenceAdamSmall,
  trivial, algebraicNa,
  trivial, algebraicAct,
  trivial, algebraicDw2,
  trivial, algebraicDw1,
  trivial, algebraicDxn,
  trivial, algebraicUp,
  trivial, algebraicDown,
  trivial, algebraicQkv,
  trivial, algebraicIn,
  trivial, algebraicOut,
  trivial, algebraicQkvDx,
  trivial, algebraicInDx,
  trivial, algebraicOutDx,
  trivial, algebraicQkvDw,
  trivial, algebraicInDw,
  trivial, algebraicOutDw,
  trivial, algebraicGate,
  trivial, algebraicGlu,
  trivial, algebraicGluDx,
  trivial, algebraicGluDw,
  trivial, algebraicAct0,
  trivial, algebraicAct1,
  trivial, algebraicAct2,
  trivial, algebraicDxn0,
  trivial, algebraicDxn1,
  trivial, algebraicDxn2,
  trivial, algebraicQkv0,
  trivial, algebraicOut0,
  trivial, algebraicQkvDx0,
  trivial, algebraicInDx0,
  trivial, algebraicOutDx0,
  trivial, algebraicAdamIn,
  trivial, algebraicAdamOut,
  trivial, algebraicAdamGlu,
  trivial, algebraicAdamQkv,
  trivial, algebraicAdamMlp,
  trivial, algebraicAdamSmall⟩

end Cert.Proof

end
